-- ==== Defs.lean ====
def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Fgate (m : (ℓ : Loc Cert.Fgate.nD Cert.Fgate.τ Cert.Fgate.sig) → Buf (Elt Bits) ℓ) : Prop :=
  True

def Pre_FgateIdeal (m : (ℓ : Loc Cert.FgateIdeal.nD Cert.FgateIdeal.τ Cert.FgateIdeal.sig) → Buf (Elt Ideal) ℓ) : Prop :=
  True

def Pre_FgateRefIdeal (m : (ℓ : Loc Cert.FgateRefIdeal.nD Cert.FgateRefIdeal.τ Cert.FgateRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).2.2 = (fun _ => 1#1)

def Pre_Relu2 (m : (ℓ : Loc Cert.Relu2.nD Cert.Relu2.τ Cert.Relu2.sig) → Buf (Elt Bits) ℓ) : Prop :=
  True

def Pre_Relu2Ideal (m : (ℓ : Loc Cert.Relu2Ideal.nD Cert.Relu2Ideal.τ Cert.Relu2Ideal.sig) → Buf (Elt Ideal) ℓ) : Prop :=
  True

def Pre_Relu2RefIdeal (m : (ℓ : Loc Cert.Relu2RefIdeal.nD Cert.Relu2RefIdeal.τ Cert.Relu2RefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Norm0 (m : (ℓ : Loc Cert.Norm0.nD Cert.Norm0.τ Cert.Norm0.sig) → Buf (Elt Bits) ℓ) : Prop :=
  True

def Pre_Norm0Ideal (m : (ℓ : Loc Cert.Norm0Ideal.nD Cert.Norm0Ideal.τ Cert.Norm0Ideal.sig) → Buf (Elt Ideal) ℓ) : Prop :=
  True

def Pre_Norm0RefIdeal (m : (ℓ : Loc Cert.Norm0RefIdeal.nD Cert.Norm0RefIdeal.τ Cert.Norm0RefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_GateFwd (m : (ℓ : Loc Cert.GateFwd.nD Cert.GateFwd.τ Cert.GateFwd.sig) → Buf (Elt Bits) ℓ) : Prop :=
  True

def Pre_GateFwdIdeal (m : (ℓ : Loc Cert.GateFwdIdeal.nD Cert.GateFwdIdeal.τ Cert.GateFwdIdeal.sig) → Buf (Elt Ideal) ℓ) : Prop :=
  True

def Pre_GateFwdRefIdeal (m : (ℓ : Loc Cert.GateFwdRefIdeal.nD Cert.GateFwdRefIdeal.τ Cert.GateFwdRefIdeal.sig) → Buf (Elt Ideal) ℓ) : Prop :=
  True

def Pre_ConvIn (m : (ℓ : Loc Cert.ConvIn.nD Cert.ConvIn.τ Cert.ConvIn.sig) → Buf (Elt Bits) ℓ) : Prop :=
  True

def Pre_ConvInIdeal (m : (ℓ : Loc Cert.ConvInIdeal.nD Cert.ConvInIdeal.τ Cert.ConvInIdeal.sig) → Buf (Elt Ideal) ℓ) : Prop :=
  True

def Pre_ConvInRefIdeal (m : (ℓ : Loc Cert.ConvInRefIdeal.nD Cert.ConvInRefIdeal.τ Cert.ConvInRefIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_FoxDx (m : (ℓ : Loc Cert.FoxDx.nD Cert.FoxDx.τ Cert.FoxDx.sig) → Buf (Elt Bits) ℓ) : Prop :=
  True

def Pre_FoxDxIdeal (m : (ℓ : Loc Cert.FoxDxIdeal.nD Cert.FoxDxIdeal.τ Cert.FoxDxIdeal.sig) → Buf (Elt Ideal) ℓ) : Prop :=
  True

def Pre_FoxDxRefIdeal (m : (ℓ : Loc Cert.FoxDxRefIdeal.nD Cert.FoxDxRefIdeal.τ Cert.FoxDxRefIdeal.sig) → Buf (Elt Ideal) ℓ) : Prop :=
  True

def Pre_LossSum (m : (ℓ : Loc Cert.LossSum.nD Cert.LossSum.τ Cert.LossSum.sig) → Buf (Elt Bits) ℓ) : Prop :=
  True

def Pre_LossSumIdeal (m : (ℓ : Loc Cert.LossSumIdeal.nD Cert.LossSumIdeal.τ Cert.LossSumIdeal.sig) → Buf (Elt Ideal) ℓ) : Prop :=
  True

def Pre_LossSumRefIdeal (m : (ℓ : Loc Cert.LossSumRefIdeal.nD Cert.LossSumRefIdeal.τ Cert.LossSumRefIdeal.sig) → Buf (Elt Ideal) ℓ) : Prop :=
  True

def Pre_PutRows (m : (ℓ : Loc Cert.PutRows.nD Cert.PutRows.τ Cert.PutRows.sig) → Buf (Elt Bits) ℓ) : Prop :=
  True

def Pre_PutRowsIdeal (m : (ℓ : Loc Cert.PutRowsIdeal.nD Cert.PutRowsIdeal.τ Cert.PutRowsIdeal.sig) → Buf (Elt Ideal) ℓ) : Prop :=
  True

def Pre_PutRowsRefIdeal (m : (ℓ : Loc Cert.PutRowsRefIdeal.nD Cert.PutRowsRefIdeal.τ Cert.PutRowsRefIdeal.sig) → Buf (Elt Ideal) ℓ) : Prop :=
  True

def Pre_Small (m : (ℓ : Loc Cert.Small.nD Cert.Small.τ Cert.Small.sig) → Buf (Elt Bits) ℓ) : Prop :=
  True

def Pre_SmallIdeal (m : (ℓ : Loc Cert.SmallIdeal.nD Cert.SmallIdeal.τ Cert.SmallIdeal.sig) → Buf (Elt Ideal) ℓ) : Prop :=
  True

def Pre_SmallRefIdeal (m : (ℓ : Loc Cert.SmallRefIdeal.nD Cert.SmallRefIdeal.τ Cert.SmallRefIdeal.sig) → Buf (Elt Ideal) ℓ) : Prop :=
  True

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_Fgate [hFgate : Cert.Fgate.Facts] : Prop :=
  ∀ (m : (ℓ : Loc Cert.Fgate.nD Cert.Fgate.τ Cert.Fgate.sig) → Buf (Elt Bits) ℓ) (g : Dev Cert.Fgate.nD → PrngReg), Pre_Fgate m →
    θ_run (Cert.Fgate.defs (F := Bits)) (onTc (τ := Cert.Fgate.τ) (Cert.Fgate.main (F := Bits))) ⟨m, fun _ => 0, g⟩ (fun r => (∀ c : Dev Cert.Fgate.nD,
      r.2.mem ((c.tc : Thread Cert.Fgate.nD Cert.Fgate.τ).loc Cert.Fgate.main_arg0) = m ((c.tc : Thread Cert.Fgate.nD Cert.Fgate.τ).loc Cert.Fgate.main_arg0)
      ∧ r.2.mem ((c.tc : Thread Cert.Fgate.nD Cert.Fgate.τ).loc Cert.Fgate.main_arg1) = m ((c.tc : Thread Cert.Fgate.nD Cert.Fgate.τ).loc Cert.Fgate.main_arg1)
      ∧ r.2.mem ((c.tc : Thread Cert.Fgate.nD Cert.Fgate.τ).loc Cert.Fgate.main_arg2) = m ((c.tc : Thread Cert.Fgate.nD Cert.Fgate.τ).loc Cert.Fgate.main_arg2)
      ∧ r.2.mem ((c.tc : Thread Cert.Fgate.nD Cert.Fgate.τ).loc Cert.Fgate.main_arg3) = m ((c.tc : Thread Cert.Fgate.nD Cert.Fgate.τ).loc Cert.Fgate.main_arg3)
      ∧ r.2.mem ((c.tc : Thread Cert.Fgate.nD Cert.Fgate.τ).loc Cert.Fgate.main_arg4) = m ((c.tc : Thread Cert.Fgate.nD Cert.Fgate.τ).loc Cert.Fgate.main_arg4))
      ∧ r.2.sem = fun _ => 0)

def quiescent_FgateIdeal [hFgateIdeal : Cert.FgateIdeal.Facts] : Prop :=
  ∀ (m : (ℓ : Loc Cert.FgateIdeal.nD Cert.FgateIdeal.τ Cert.FgateIdeal.sig) → Buf (Elt Ideal) ℓ) (g : Dev Cert.FgateIdeal.nD → PrngReg), Pre_FgateIdeal m →
    θ_run (Cert.FgateIdeal.defs (F := Ideal)) (onTc (τ := Cert.FgateIdeal.τ) (Cert.FgateIdeal.main (F := Ideal))) ⟨m, fun _ => 0, g⟩ (fun r => (∀ c : Dev Cert.FgateIdeal.nD,
      r.2.mem ((c.tc : Thread Cert.FgateIdeal.nD Cert.FgateIdeal.τ).loc Cert.FgateIdeal.main_arg0) = m ((c.tc : Thread Cert.FgateIdeal.nD Cert.FgateIdeal.τ).loc Cert.FgateIdeal.main_arg0)
      ∧ r.2.mem ((c.tc : Thread Cert.FgateIdeal.nD Cert.FgateIdeal.τ).loc Cert.FgateIdeal.main_arg1) = m ((c.tc : Thread Cert.FgateIdeal.nD Cert.FgateIdeal.τ).loc Cert.FgateIdeal.main_arg1)
      ∧ r.2.mem ((c.tc : Thread Cert.FgateIdeal.nD Cert.FgateIdeal.τ).loc Cert.FgateIdeal.main_arg2) = m ((c.tc : Thread Cert.FgateIdeal.nD Cert.FgateIdeal.τ).loc Cert.FgateIdeal.main_arg2)
      ∧ r.2.mem ((c.tc : Thread Cert.FgateIdeal.nD Cert.FgateIdeal.τ).loc Cert.FgateIdeal.main_arg3) = m ((c.tc : Thread Cert.FgateIdeal.nD Cert.FgateIdeal.τ).loc Cert.FgateIdeal.main_arg3)
      ∧ r.2.mem ((c.tc : Thread Cert.FgateIdeal.nD Cert.FgateIdeal.τ).loc Cert.FgateIdeal.main_arg4) = m ((c.tc : Thread Cert.FgateIdeal.nD Cert.FgateIdeal.τ).loc Cert.FgateIdeal.main_arg4))
      ∧ r.2.sem = fun _ => 0)

def quiescent_FgateRefIdeal [hFgateRefIdeal : Cert.FgateRefIdeal.Facts] : Prop :=
  ∀ (m : (ℓ : Loc Cert.FgateRefIdeal.nD Cert.FgateRefIdeal.τ Cert.FgateRefIdeal.sig) → Buf (Elt Ideal) ℓ) (g : Dev Cert.FgateRefIdeal.nD → PrngReg), Pre_FgateRefIdeal m →
    θ_run (Cert.FgateRefIdeal.defs (F := Ideal)) (onTc (τ := Cert.FgateRefIdeal.τ) (Cert.FgateRefIdeal.main (F := Ideal))) ⟨m, fun _ => 0, g⟩ (fun r => (∀ c : Dev Cert.FgateRefIdeal.nD,
      r.2.mem ((c.tc : Thread Cert.FgateRefIdeal.nD Cert.FgateRefIdeal.τ).loc Cert.FgateRefIdeal.main_arg0) = m ((c.tc : Thread Cert.FgateRefIdeal.nD Cert.FgateRefIdeal.τ).loc Cert.FgateRefIdeal.main_arg0)
      ∧ r.2.mem ((c.tc : Thread Cert.FgateRefIdeal.nD Cert.FgateRefIdeal.τ).loc Cert.FgateRefIdeal.main_arg1) = m ((c.tc : Thread Cert.FgateRefIdeal.nD Cert.FgateRefIdeal.τ).loc Cert.FgateRefIdeal.main_arg1)
      ∧ r.2.mem ((c.tc : Thread Cert.FgateRefIdeal.nD Cert.FgateRefIdeal.τ).loc Cert.FgateRefIdeal.main_arg2) = m ((c.tc : Thread Cert.FgateRefIdeal.nD Cert.FgateRefIdeal.τ).loc Cert.FgateRefIdeal.main_arg2)
      ∧ r.2.mem ((c.tc : Thread Cert.FgateRefIdeal.nD Cert.FgateRefIdeal.τ).loc Cert.FgateRefIdeal.main_arg3) = m ((c.tc : Thread Cert.FgateRefIdeal.nD Cert.FgateRefIdeal.τ).loc Cert.FgateRefIdeal.main_arg3)
      ∧ r.2.mem ((c.tc : Thread Cert.FgateRefIdeal.nD Cert.FgateRefIdeal.τ).loc Cert.FgateRefIdeal.main_arg4) = m ((c.tc : Thread Cert.FgateRefIdeal.nD Cert.FgateRefIdeal.τ).loc Cert.FgateRefIdeal.main_arg4))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_Relu2 [hRelu2 : Cert.Relu2.Facts] : Prop :=
  ∀ (m : (ℓ : Loc Cert.Relu2.nD Cert.Relu2.τ Cert.Relu2.sig) → Buf (Elt Bits) ℓ) (g : Dev Cert.Relu2.nD → PrngReg), Pre_Relu2 m →
    θ_run (Cert.Relu2.defs (F := Bits)) (onTc (τ := Cert.Relu2.τ) (Cert.Relu2.main (F := Bits))) ⟨m, fun _ => 0, g⟩ (fun r => (∀ c : Dev Cert.Relu2.nD,
      r.2.mem ((c.tc : Thread Cert.Relu2.nD Cert.Relu2.τ).loc Cert.Relu2.main_arg0) = m ((c.tc : Thread Cert.Relu2.nD Cert.Relu2.τ).loc Cert.Relu2.main_arg0)
      ∧ r.2.mem ((c.tc : Thread Cert.Relu2.nD Cert.Relu2.τ).loc Cert.Relu2.main_arg1) = m ((c.tc : Thread Cert.Relu2.nD Cert.Relu2.τ).loc Cert.Relu2.main_arg1)
      ∧ r.2.mem ((c.tc : Thread Cert.Relu2.nD Cert.Relu2.τ).loc Cert.Relu2.main_arg2) = m ((c.tc : Thread Cert.Relu2.nD Cert.Relu2.τ).loc Cert.Relu2.main_arg2))
      ∧ r.2.sem = fun _ => 0)

def quiescent_Relu2Ideal [hRelu2Ideal : Cert.Relu2Ideal.Facts] : Prop :=
  ∀ (m : (ℓ : Loc Cert.Relu2Ideal.nD Cert.Relu2Ideal.τ Cert.Relu2Ideal.sig) → Buf (Elt Ideal) ℓ) (g : Dev Cert.Relu2Ideal.nD → PrngReg), Pre_Relu2Ideal m →
    θ_run (Cert.Relu2Ideal.defs (F := Ideal)) (onTc (τ := Cert.Relu2Ideal.τ) (Cert.Relu2Ideal.main (F := Ideal))) ⟨m, fun _ => 0, g⟩ (fun r => (∀ c : Dev Cert.Relu2Ideal.nD,
      r.2.mem ((c.tc : Thread Cert.Relu2Ideal.nD Cert.Relu2Ideal.τ).loc Cert.Relu2Ideal.main_arg0) = m ((c.tc : Thread Cert.Relu2Ideal.nD Cert.Relu2Ideal.τ).loc Cert.Relu2Ideal.main_arg0)
      ∧ r.2.mem ((c.tc : Thread Cert.Relu2Ideal.nD Cert.Relu2Ideal.τ).loc Cert.Relu2Ideal.main_arg1) = m ((c.tc : Thread Cert.Relu2Ideal.nD Cert.Relu2Ideal.τ).loc Cert.Relu2Ideal.main_arg1)
      ∧ r.2.mem ((c.tc : Thread Cert.Relu2Ideal.nD Cert.Relu2Ideal.τ).loc Cert.Relu2Ideal.main_arg2) = m ((c.tc : Thread Cert.Relu2Ideal.nD Cert.Relu2Ideal.τ).loc Cert.Relu2Ideal.main_arg2))
      ∧ r.2.sem = fun _ => 0)

def quiescent_Relu2RefIdeal [hRelu2RefIdeal : Cert.Relu2RefIdeal.Facts] : Prop :=
  ∀ (m : (ℓ : Loc Cert.Relu2RefIdeal.nD Cert.Relu2RefIdeal.τ Cert.Relu2RefIdeal.sig) → Buf (Elt Ideal) ℓ) (g : Dev Cert.Relu2RefIdeal.nD → PrngReg), Pre_Relu2RefIdeal m →
    θ_run (Cert.Relu2RefIdeal.defs (F := Ideal)) (onTc (τ := Cert.Relu2RefIdeal.τ) (Cert.Relu2RefIdeal.main (F := Ideal))) ⟨m, fun _ => 0, g⟩ (fun r => (∀ c : Dev Cert.Relu2RefIdeal.nD,
      r.2.mem ((c.tc : Thread Cert.Relu2RefIdeal.nD Cert.Relu2RefIdeal.τ).loc Cert.Relu2RefIdeal.main_arg0) = m ((c.tc : Thread Cert.Relu2RefIdeal.nD Cert.Relu2RefIdeal.τ).loc Cert.Relu2RefIdeal.main_arg0)
      ∧ r.2.mem ((c.tc : Thread Cert.Relu2RefIdeal.nD Cert.Relu2RefIdeal.τ).loc Cert.Relu2RefIdeal.main_arg1) = m ((c.tc : Thread Cert.Relu2RefIdeal.nD Cert.Relu2RefIdeal.τ).loc Cert.Relu2RefIdeal.main_arg1)
      ∧ r.2.mem ((c.tc : Thread Cert.Relu2RefIdeal.nD Cert.Relu2RefIdeal.τ).loc Cert.Relu2RefIdeal.main_arg2) = m ((c.tc : Thread Cert.Relu2RefIdeal.nD Cert.Relu2RefIdeal.τ).loc Cert.Relu2RefIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4)
      ∧ r.2.mem ((c.tc : Thread Cert.Norm.nD Cert.Norm.τ).loc Cert.Norm.main_arg5) = m ((c.tc : Thread Cert.Norm.nD Cert.Norm.τ).loc Cert.Norm.main_arg5)
      ∧ r.2.mem ((c.tc : Thread Cert.Norm.nD Cert.Norm.τ).loc Cert.Norm.main_arg6) = m ((c.tc : Thread Cert.Norm.nD Cert.Norm.τ).loc Cert.Norm.main_arg6)
      ∧ r.2.mem ((c.tc : Thread Cert.Norm.nD Cert.Norm.τ).loc Cert.Norm.main_arg7) = m ((c.tc : Thread Cert.Norm.nD Cert.Norm.τ).loc Cert.Norm.main_arg7)
      ∧ r.2.mem ((c.tc : Thread Cert.Norm.nD Cert.Norm.τ).loc Cert.Norm.main_arg8) = m ((c.tc : Thread Cert.Norm.nD Cert.Norm.τ).loc Cert.Norm.main_arg8)
      ∧ r.2.mem ((c.tc : Thread Cert.Norm.nD Cert.Norm.τ).loc Cert.Norm.main_arg9) = m ((c.tc : Thread Cert.Norm.nD Cert.Norm.τ).loc Cert.Norm.main_arg9))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
      ∧ r.2.mem ((c.tc : Thread Cert.NormIdeal.nD Cert.NormIdeal.τ).loc Cert.NormIdeal.main_arg6) = m ((c.tc : Thread Cert.NormIdeal.nD Cert.NormIdeal.τ).loc Cert.NormIdeal.main_arg6)
      ∧ r.2.mem ((c.tc : Thread Cert.NormIdeal.nD Cert.NormIdeal.τ).loc Cert.NormIdeal.main_arg7) = m ((c.tc : Thread Cert.NormIdeal.nD Cert.NormIdeal.τ).loc Cert.NormIdeal.main_arg7)
      ∧ r.2.mem ((c.tc : Thread Cert.NormIdeal.nD Cert.NormIdeal.τ).loc Cert.NormIdeal.main_arg8) = m ((c.tc : Thread Cert.NormIdeal.nD Cert.NormIdeal.τ).loc Cert.NormIdeal.main_arg8)
      ∧ r.2.mem ((c.tc : Thread Cert.NormIdeal.nD Cert.NormIdeal.τ).loc Cert.NormIdeal.main_arg9) = m ((c.tc : Thread Cert.NormIdeal.nD Cert.NormIdeal.τ).loc Cert.NormIdeal.main_arg9))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4)
      ∧ r.2.mem ((c.tc : Thread Cert.NormRefIdeal.nD Cert.NormRefIdeal.τ).loc Cert.NormRefIdeal.main_arg5) = m ((c.tc : Thread Cert.NormRefIdeal.nD Cert.NormRefIdeal.τ).loc Cert.NormRefIdeal.main_arg5)
      ∧ r.2.mem ((c.tc : Thread Cert.NormRefIdeal.nD Cert.NormRefIdeal.τ).loc Cert.NormRefIdeal.main_arg6) = m ((c.tc : Thread Cert.NormRefIdeal.nD Cert.NormRefIdeal.τ).loc Cert.NormRefIdeal.main_arg6)
      ∧ r.2.mem ((c.tc : Thread Cert.NormRefIdeal.nD Cert.NormRefIdeal.τ).loc Cert.NormRefIdeal.main_arg7) = m ((c.tc : Thread Cert.NormRefIdeal.nD Cert.NormRefIdeal.τ).loc Cert.NormRefIdeal.main_arg7)
      ∧ r.2.mem ((c.tc : Thread Cert.NormRefIdeal.nD Cert.NormRefIdeal.τ).loc Cert.NormRefIdeal.main_arg8) = m ((c.tc : Thread Cert.NormRefIdeal.nD Cert.NormRefIdeal.τ).loc Cert.NormRefIdeal.main_arg8)
      ∧ r.2.mem ((c.tc : Thread Cert.NormRefIdeal.nD Cert.NormRefIdeal.τ).loc Cert.NormRefIdeal.main_arg9) = m ((c.tc : Thread Cert.NormRefIdeal.nD Cert.NormRefIdeal.τ).loc Cert.NormRefIdeal.main_arg9))
      ∧ r.2.sem = fun _ => 0)

def quiescent_Norm0 [hNorm0 : Cert.Norm0.Facts] : Prop :=
  ∀ (m : (ℓ : Loc Cert.Norm0.nD Cert.Norm0.τ Cert.Norm0.sig) → Buf (Elt Bits) ℓ) (g : Dev Cert.Norm0.nD → PrngReg), Pre_Norm0 m →
    θ_run (Cert.Norm0.defs (F := Bits)) (onTc (τ := Cert.Norm0.τ) (Cert.Norm0.main (F := Bits))) ⟨m, fun _ => 0, g⟩ (fun r => (∀ c : Dev Cert.Norm0.nD,
      r.2.mem ((c.tc : Thread Cert.Norm0.nD Cert.Norm0.τ).loc Cert.Norm0.main_arg0) = m ((c.tc : Thread Cert.Norm0.nD Cert.Norm0.τ).loc Cert.Norm0.main_arg0)
      ∧ r.2.mem ((c.tc : Thread Cert.Norm0.nD Cert.Norm0.τ).loc Cert.Norm0.main_arg1) = m ((c.tc : Thread Cert.Norm0.nD Cert.Norm0.τ).loc Cert.Norm0.main_arg1)
      ∧ r.2.mem ((c.tc : Thread Cert.Norm0.nD Cert.Norm0.τ).loc Cert.Norm0.main_arg2) = m ((c.tc : Thread Cert.Norm0.nD Cert.Norm0.τ).loc Cert.Norm0.main_arg2)
      ∧ r.2.mem ((c.tc : Thread Cert.Norm0.nD Cert.Norm0.τ).loc Cert.Norm0.main_arg3) = m ((c.tc : Thread Cert.Norm0.nD Cert.Norm0.τ).loc Cert.Norm0.main_arg3)
      ∧ r.2.mem ((c.tc : Thread Cert.Norm0.nD Cert.Norm0.τ).loc Cert.Norm0.main_arg4) = m ((c.tc : Thread Cert.Norm0.nD Cert.Norm0.τ).loc Cert.Norm0.main_arg4)
      ∧ r.2.mem ((c.tc : Thread Cert.Norm0.nD Cert.Norm0.τ).loc Cert.Norm0.main_arg5) = m ((c.tc : Thread Cert.Norm0.nD Cert.Norm0.τ).loc Cert.Norm0.main_arg5)
      ∧ r.2.mem ((c.tc : Thread Cert.Norm0.nD Cert.Norm0.τ).loc Cert.Norm0.main_arg6) = m ((c.tc : Thread Cert.Norm0.nD Cert.Norm0.τ).loc Cert.Norm0.main_arg6)
      ∧ r.2.mem ((c.tc : Thread Cert.Norm0.nD Cert.Norm0.τ).loc Cert.Norm0.main_arg7) = m ((c.tc : Thread Cert.Norm0.nD Cert.Norm0.τ).loc Cert.Norm0.main_arg7))
      ∧ r.2.sem = fun _ => 0)

def quiescent_Norm0Ideal [hNorm0Ideal : Cert.Norm0Ideal.Facts] : Prop :=
  ∀ (m : (ℓ : Loc Cert.Norm0Ideal.nD Cert.Norm0Ideal.τ Cert.Norm0Ideal.sig) → Buf (Elt Ideal) ℓ) (g : Dev Cert.Norm0Ideal.nD → PrngReg), Pre_Norm0Ideal m →
    θ_run (Cert.Norm0Ideal.defs (F := Ideal)) (onTc (τ := Cert.Norm0Ideal.τ) (Cert.Norm0Ideal.main (F := Ideal))) ⟨m, fun _ => 0, g⟩ (fun r => (∀ c : Dev Cert.Norm0Ideal.nD,
      r.2.mem ((c.tc : Thread Cert.Norm0Ideal.nD Cert.Norm0Ideal.τ).loc Cert.Norm0Ideal.main_arg0) = m ((c.tc : Thread Cert.Norm0Ideal.nD Cert.Norm0Ideal.τ).loc Cert.Norm0Ideal.main_arg0)
      ∧ r.2.mem ((c.tc : Thread Cert.Norm0Ideal.nD Cert.Norm0Ideal.τ).loc Cert.Norm0Ideal.main_arg1) = m ((c.tc : Thread Cert.Norm0Ideal.nD Cert.Norm0Ideal.τ).loc Cert.Norm0Ideal.main_arg1)
      ∧ r.2.mem ((c.tc : Thread Cert.Norm0Ideal.nD Cert.Norm0Ideal.τ).loc Cert.Norm0Ideal.main_arg2) = m ((c.tc : Thread Cert.Norm0Ideal.nD Cert.Norm0Ideal.τ).loc Cert.Norm0Ideal.main_arg2)
      ∧ r.2.mem ((c.tc : Thread Cert.Norm0Ideal.nD Cert.Norm0Ideal.τ).loc Cert.Norm0Ideal.main_arg3) = m ((c.tc : Thread Cert.Norm0Ideal.nD Cert.Norm0Ideal.τ).loc Cert.Norm0Ideal.main_arg3)
      ∧ r.2.mem ((c.tc : Thread Cert.Norm0Ideal.nD Cert.Norm0Ideal.τ).loc Cert.Norm0Ideal.main_arg4) = m ((c.tc : Thread Cert.Norm0Ideal.nD Cert.Norm0Ideal.τ).loc Cert.Norm0Ideal.main_arg4)
      ∧ r.2.mem ((c.tc : Thread Cert.Norm0Ideal.nD Cert.Norm0Ideal.τ).loc Cert.Norm0Ideal.main_arg5) = m ((c.tc : Thread Cert.Norm0Ideal.nD Cert.Norm0Ideal.τ).loc Cert.Norm0Ideal.main_arg5)
      ∧ r.2.mem ((c.tc : Thread Cert.Norm0Ideal.nD Cert.Norm0Ideal.τ).loc Cert.Norm0Ideal.main_arg6) = m ((c.tc : Thread Cert.Norm0Ideal.nD Cert.Norm0Ideal.τ).loc Cert.Norm0Ideal.main_arg6)
      ∧ r.2.mem ((c.tc : Thread Cert.Norm0Ideal.nD Cert.Norm0Ideal.τ).loc Cert.Norm0Ideal.main_arg7) = m ((c.tc : Thread Cert.Norm0Ideal.nD Cert.Norm0Ideal.τ).loc Cert.Norm0Ideal.main_arg7))
      ∧ r.2.sem = fun _ => 0)

def quiescent_Norm0RefIdeal [hNorm0RefIdeal : Cert.Norm0RefIdeal.Facts] : Prop :=
  ∀ (m : (ℓ : Loc Cert.Norm0RefIdeal.nD Cert.Norm0RefIdeal.τ Cert.Norm0RefIdeal.sig) → Buf (Elt Ideal) ℓ) (g : Dev Cert.Norm0RefIdeal.nD → PrngReg), Pre_Norm0RefIdeal m →
    θ_run (Cert.Norm0RefIdeal.defs (F := Ideal)) (onTc (τ := Cert.Norm0RefIdeal.τ) (Cert.Norm0RefIdeal.main (F := Ideal))) ⟨m, fun _ => 0, g⟩ (fun r => (∀ c : Dev Cert.Norm0RefIdeal.nD,
      r.2.mem ((c.tc : Thread Cert.Norm0RefIdeal.nD Cert.Norm0RefIdeal.τ).loc Cert.Norm0RefIdeal.main_arg0) = m ((c.tc : Thread Cert.Norm0RefIdeal.nD Cert.Norm0RefIdeal.τ).loc Cert.Norm0RefIdeal.main_arg0)
      ∧ r.2.mem ((c.tc : Thread Cert.Norm0RefIdeal.nD Cert.Norm0RefIdeal.τ).loc Cert.Norm0RefIdeal.main_arg1) = m ((c.tc : Thread Cert.Norm0RefIdeal.nD Cert.Norm0RefIdeal.τ).loc Cert.Norm0RefIdeal.main_arg1)
      ∧ r.2.mem ((c.tc : Thread Cert.Norm0RefIdeal.nD Cert.Norm0RefIdeal.τ).loc Cert.Norm0RefIdeal.main_arg2) = m ((c.tc : Thread Cert.Norm0RefIdeal.nD Cert.Norm0RefIdeal.τ).loc Cert.Norm0RefIdeal.main_arg2)
      ∧ r.2.mem ((c.tc : Thread Cert.Norm0RefIdeal.nD Cert.Norm0RefIdeal.τ).loc Cert.Norm0RefIdeal.main_arg3) = m ((c.tc : Thread Cert.Norm0RefIdeal.nD Cert.Norm0RefIdeal.τ).loc Cert.Norm0RefIdeal.main_arg3)
      ∧ r.2.mem ((c.tc : Thread Cert.Norm0RefIdeal.nD Cert.Norm0RefIdeal.τ).loc Cert.Norm0RefIdeal.main_arg4) = m ((c.tc : Thread Cert.Norm0RefIdeal.nD Cert.Norm0RefIdeal.τ).loc Cert.Norm0RefIdeal.main_arg4)
      ∧ r.2.mem ((c.tc : Thread Cert.Norm0RefIdeal.nD Cert.Norm0RefIdeal.τ).loc Cert.Norm0RefIdeal.main_arg5) = m ((c.tc : Thread Cert.Norm0RefIdeal.nD Cert.Norm0RefIdeal.τ).loc Cert.Norm0RefIdeal.main_arg5)
      ∧ r.2.mem ((c.tc : Thread Cert.Norm0RefIdeal.nD Cert.Norm0RefIdeal.τ).loc Cert.Norm0RefIdeal.main_arg6) = m ((c.tc : Thread Cert.Norm0RefIdeal.nD Cert.Norm0RefIdeal.τ).loc Cert.Norm0RefIdeal.main_arg6)
      ∧ r.2.mem ((c.tc : Thread Cert.Norm0RefIdeal.nD Cert.Norm0RefIdeal.τ).loc Cert.Norm0RefIdeal.main_arg7) = m ((c.tc : Thread Cert.Norm0RefIdeal.nD Cert.Norm0RefIdeal.τ).loc Cert.Norm0RefIdeal.main_arg7))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1)
      ∧ r.2.mem ((c.tc : Thread Cert.NormFwd.nD Cert.NormFwd.τ).loc Cert.NormFwd.main_arg2) = m ((c.tc : Thread Cert.NormFwd.nD Cert.NormFwd.τ).loc Cert.NormFwd.main_arg2)
      ∧ r.2.mem ((c.tc : Thread Cert.NormFwd.nD Cert.NormFwd.τ).loc Cert.NormFwd.main_arg3) = m ((c.tc : Thread Cert.NormFwd.nD Cert.NormFwd.τ).loc Cert.NormFwd.main_arg3))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1)
      ∧ r.2.mem ((c.tc : Thread Cert.NormFwdIdeal.nD Cert.NormFwdIdeal.τ).loc Cert.NormFwdIdeal.main_arg2) = m ((c.tc : Thread Cert.NormFwdIdeal.nD Cert.NormFwdIdeal.τ).loc Cert.NormFwdIdeal.main_arg2)
      ∧ r.2.mem ((c.tc : Thread Cert.NormFwdIdeal.nD Cert.NormFwdIdeal.τ).loc Cert.NormFwdIdeal.main_arg3) = m ((c.tc : Thread Cert.NormFwdIdeal.nD Cert.NormFwdIdeal.τ).loc Cert.NormFwdIdeal.main_arg3))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1)
      ∧ r.2.mem ((c.tc : Thread Cert.NormFwdRefIdeal.nD Cert.NormFwdRefIdeal.τ).loc Cert.NormFwdRefIdeal.main_arg2) = m ((c.tc : Thread Cert.NormFwdRefIdeal.nD Cert.NormFwdRefIdeal.τ).loc Cert.NormFwdRefIdeal.main_arg2)
      ∧ r.2.mem ((c.tc : Thread Cert.NormFwdRefIdeal.nD Cert.NormFwdRefIdeal.τ).loc Cert.NormFwdRefIdeal.main_arg3) = m ((c.tc : Thread Cert.NormFwdRefIdeal.nD Cert.NormFwdRefIdeal.τ).loc Cert.NormFwdRefIdeal.main_arg3))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1))
      ∧ r.2.sem = fun _ => 0)

def quiescent_GateFwd [hGateFwd : Cert.GateFwd.Facts] : Prop :=
  ∀ (m : (ℓ : Loc Cert.GateFwd.nD Cert.GateFwd.τ Cert.GateFwd.sig) → Buf (Elt Bits) ℓ) (g : Dev Cert.GateFwd.nD → PrngReg), Pre_GateFwd m →
    θ_run (Cert.GateFwd.defs (F := Bits)) (onTc (τ := Cert.GateFwd.τ) (Cert.GateFwd.main (F := Bits))) ⟨m, fun _ => 0, g⟩ (fun r => (∀ c : Dev Cert.GateFwd.nD,
      r.2.mem ((c.tc : Thread Cert.GateFwd.nD Cert.GateFwd.τ).loc Cert.GateFwd.main_arg0) = m ((c.tc : Thread Cert.GateFwd.nD Cert.GateFwd.τ).loc Cert.GateFwd.main_arg0)
      ∧ r.2.mem ((c.tc : Thread Cert.GateFwd.nD Cert.GateFwd.τ).loc Cert.GateFwd.main_arg1) = m ((c.tc : Thread Cert.GateFwd.nD Cert.GateFwd.τ).loc Cert.GateFwd.main_arg1)
      ∧ r.2.mem ((c.tc : Thread Cert.GateFwd.nD Cert.GateFwd.τ).loc Cert.GateFwd.main_arg2) = m ((c.tc : Thread Cert.GateFwd.nD Cert.GateFwd.τ).loc Cert.GateFwd.main_arg2))
      ∧ r.2.sem = fun _ => 0)

def quiescent_GateFwdIdeal [hGateFwdIdeal : Cert.GateFwdIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg), Pre_GateFwdIdeal m →
    θ_run (Cert.GateFwdIdeal.defs (F := Ideal)) (onTc (τ := Cert.GateFwdIdeal.τ) (Cert.GateFwdIdeal.main (F := Ideal))) ⟨m, fun _ => 0, g⟩ (fun r => (∀ c : Dev Cert.GateFwdIdeal.nD,
      r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
      ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1)
      ∧ r.2.mem ((c.tc : Thread Cert.GateFwdIdeal.nD Cert.GateFwdIdeal.τ).loc Cert.GateFwdIdeal.main_arg2) = m ((c.tc : Thread Cert.GateFwdIdeal.nD Cert.GateFwdIdeal.τ).loc Cert.GateFwdIdeal.main_arg2))
      ∧ r.2.sem = fun _ => 0)

def quiescent_GateFwdRefIdeal [hGateFwdRefIdeal : Cert.GateFwdRefIdeal.Facts] : Prop :=
  ∀ (m : (ℓ : Loc Cert.GateFwdRefIdeal.nD Cert.GateFwdRefIdeal.τ Cert.GateFwdRefIdeal.sig) → Buf (Elt Ideal) ℓ) (g : Dev Cert.GateFwdRefIdeal.nD → PrngReg), Pre_GateFwdRefIdeal m →
    θ_run (Cert.GateFwdRefIdeal.defs (F := Ideal)) (onTc (τ := Cert.GateFwdRefIdeal.τ) (Cert.GateFwdRefIdeal.main (F := Ideal))) ⟨m, fun _ => 0, g⟩ (fun r => (∀ c : Dev Cert.GateFwdRefIdeal.nD,
      r.2.mem ((c.tc : Thread Cert.GateFwdRefIdeal.nD Cert.GateFwdRefIdeal.τ).loc Cert.GateFwdRefIdeal.main_arg0) = m ((c.tc : Thread Cert.GateFwdRefIdeal.nD Cert.GateFwdRefIdeal.τ).loc Cert.GateFwdRefIdeal.main_arg0)
      ∧ r.2.mem ((c.tc : Thread Cert.GateFwdRefIdeal.nD Cert.GateFwdRefIdeal.τ).loc Cert.GateFwdRefIdeal.main_arg1) = m ((c.tc : Thread Cert.GateFwdRefIdeal.nD Cert.GateFwdRefIdeal.τ).loc Cert.GateFwdRefIdeal.main_arg1)
      ∧ r.2.mem ((c.tc : Thread Cert.GateFwdRefIdeal.nD Cert.GateFwdRefIdeal.τ).loc Cert.GateFwdRefIdeal.main_arg2) = m ((c.tc : Thread Cert.GateFwdRefIdeal.nD Cert.GateFwdRefIdeal.τ).loc Cert.GateFwdRefIdeal.main_arg2))
      ∧ r.2.sem = fun _ => 0)

def quiescent_ConvIn [hConvIn : Cert.ConvIn.Facts] : Prop :=
  ∀ (m : (ℓ : Loc Cert.ConvIn.nD Cert.ConvIn.τ Cert.ConvIn.sig) → Buf (Elt Bits) ℓ) (g : Dev Cert.ConvIn.nD → PrngReg), Pre_ConvIn m →
    θ_run (Cert.ConvIn.defs (F := Bits)) (onTc (τ := Cert.ConvIn.τ) (Cert.ConvIn.main (F := Bits))) ⟨m, fun _ => 0, g⟩ (fun r => (∀ c : Dev Cert.ConvIn.nD,
      r.2.mem ((c.tc : Thread Cert.ConvIn.nD Cert.ConvIn.τ).loc Cert.ConvIn.main_arg0) = m ((c.tc : Thread Cert.ConvIn.nD Cert.ConvIn.τ).loc Cert.ConvIn.main_arg0)
      ∧ r.2.mem ((c.tc : Thread Cert.ConvIn.nD Cert.ConvIn.τ).loc Cert.ConvIn.main_arg1) = m ((c.tc : Thread Cert.ConvIn.nD Cert.ConvIn.τ).loc Cert.ConvIn.main_arg1))
      ∧ r.2.sem = fun _ => 0)

def quiescent_ConvInIdeal [hConvInIdeal : Cert.ConvInIdeal.Facts] : Prop :=
  ∀ (m : (ℓ : Loc Cert.ConvInIdeal.nD Cert.ConvInIdeal.τ Cert.ConvInIdeal.sig) → Buf (Elt Ideal) ℓ) (g : Dev Cert.ConvInIdeal.nD → PrngReg), Pre_ConvInIdeal m →
    θ_run (Cert.ConvInIdeal.defs (F := Ideal)) (onTc (τ := Cert.ConvInIdeal.τ) (Cert.ConvInIdeal.main (F := Ideal))) ⟨m, fun _ => 0, g⟩ (fun r => (∀ c : Dev Cert.ConvInIdeal.nD,
      r.2.mem ((c.tc : Thread Cert.ConvInIdeal.nD Cert.ConvInIdeal.τ).loc Cert.ConvInIdeal.main_arg0) = m ((c.tc : Thread Cert.ConvInIdeal.nD Cert.ConvInIdeal.τ).loc Cert.ConvInIdeal.main_arg0)
      ∧ r.2.mem ((c.tc : Thread Cert.ConvInIdeal.nD Cert.ConvInIdeal.τ).loc Cert.ConvInIdeal.main_arg1) = m ((c.tc : Thread Cert.ConvInIdeal.nD Cert.ConvInIdeal.τ).loc Cert.ConvInIdeal.main_arg1))
      ∧ r.2.sem = fun _ => 0)

def quiescent_ConvInRefIdeal [hConvInRefIdeal : Cert.ConvInRefIdeal.Facts] : Prop :=
  ∀ (m : (ℓ : Loc Cert.ConvInRefIdeal.nD Cert.ConvInRefIdeal.τ Cert.ConvInRefIdeal.sig) → Buf (Elt Ideal) ℓ) (g : Dev Cert.ConvInRefIdeal.nD → PrngReg), Pre_ConvInRefIdeal m →
    θ_run (Cert.ConvInRefIdeal.defs (F := Ideal)) (onTc (τ := Cert.ConvInRefIdeal.τ) (Cert.ConvInRefIdeal.main (F := Ideal))) ⟨m, fun _ => 0, g⟩ (fun r => (∀ c : Dev Cert.ConvInRefIdeal.nD,
      r.2.mem ((c.tc : Thread Cert.ConvInRefIdeal.nD Cert.ConvInRefIdeal.τ).loc Cert.ConvInRefIdeal.main_arg0) = m ((c.tc : Thread Cert.ConvInRefIdeal.nD Cert.ConvInRefIdeal.τ).loc Cert.ConvInRefIdeal.main_arg0)
      ∧ r.2.mem ((c.tc : Thread Cert.ConvInRefIdeal.nD Cert.ConvInRefIdeal.τ).loc Cert.ConvInRefIdeal.main_arg1) = m ((c.tc : Thread Cert.ConvInRefIdeal.nD Cert.ConvInRefIdeal.τ).loc Cert.ConvInRefIdeal.main_arg1))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_FoxDx [hFoxDx : Cert.FoxDx.Facts] : Prop :=
  ∀ (m : (ℓ : Loc Cert.FoxDx.nD Cert.FoxDx.τ Cert.FoxDx.sig) → Buf (Elt Bits) ℓ) (g : Dev Cert.FoxDx.nD → PrngReg), Pre_FoxDx m →
    θ_run (Cert.FoxDx.defs (F := Bits)) (onTc (τ := Cert.FoxDx.τ) (Cert.FoxDx.main (F := Bits))) ⟨m, fun _ => 0, g⟩ (fun r => (∀ c : Dev Cert.FoxDx.nD,
      r.2.mem ((c.tc : Thread Cert.FoxDx.nD Cert.FoxDx.τ).loc Cert.FoxDx.main_arg0) = m ((c.tc : Thread Cert.FoxDx.nD Cert.FoxDx.τ).loc Cert.FoxDx.main_arg0)
      ∧ r.2.mem ((c.tc : Thread Cert.FoxDx.nD Cert.FoxDx.τ).loc Cert.FoxDx.main_arg1) = m ((c.tc : Thread Cert.FoxDx.nD Cert.FoxDx.τ).loc Cert.FoxDx.main_arg1)
      ∧ r.2.mem ((c.tc : Thread Cert.FoxDx.nD Cert.FoxDx.τ).loc Cert.FoxDx.main_arg2) = m ((c.tc : Thread Cert.FoxDx.nD Cert.FoxDx.τ).loc Cert.FoxDx.main_arg2))
      ∧ r.2.sem = fun _ => 0)

def quiescent_FoxDxIdeal [hFoxDxIdeal : Cert.FoxDxIdeal.Facts] : Prop :=
  ∀ (m : (ℓ : Loc Cert.FoxDxIdeal.nD Cert.FoxDxIdeal.τ Cert.FoxDxIdeal.sig) → Buf (Elt Ideal) ℓ) (g : Dev Cert.FoxDxIdeal.nD → PrngReg), Pre_FoxDxIdeal m →
    θ_run (Cert.FoxDxIdeal.defs (F := Ideal)) (onTc (τ := Cert.FoxDxIdeal.τ) (Cert.FoxDxIdeal.main (F := Ideal))) ⟨m, fun _ => 0, g⟩ (fun r => (∀ c : Dev Cert.FoxDxIdeal.nD,
      r.2.mem ((c.tc : Thread Cert.FoxDxIdeal.nD Cert.FoxDxIdeal.τ).loc Cert.FoxDxIdeal.main_arg0) = m ((c.tc : Thread Cert.FoxDxIdeal.nD Cert.FoxDxIdeal.τ).loc Cert.FoxDxIdeal.main_arg0)
      ∧ r.2.mem ((c.tc : Thread Cert.FoxDxIdeal.nD Cert.FoxDxIdeal.τ).loc Cert.FoxDxIdeal.main_arg1) = m ((c.tc : Thread Cert.FoxDxIdeal.nD Cert.FoxDxIdeal.τ).loc Cert.FoxDxIdeal.main_arg1)
      ∧ r.2.mem ((c.tc : Thread Cert.FoxDxIdeal.nD Cert.FoxDxIdeal.τ).loc Cert.FoxDxIdeal.main_arg2) = m ((c.tc : Thread Cert.FoxDxIdeal.nD Cert.FoxDxIdeal.τ).loc Cert.FoxDxIdeal.main_arg2))
      ∧ r.2.sem = fun _ => 0)

def quiescent_FoxDxRefIdeal [hFoxDxRefIdeal : Cert.FoxDxRefIdeal.Facts] : Prop :=
  ∀ (m : (ℓ : Loc Cert.FoxDxRefIdeal.nD Cert.FoxDxRefIdeal.τ Cert.FoxDxRefIdeal.sig) → Buf (Elt Ideal) ℓ) (g : Dev Cert.FoxDxRefIdeal.nD → PrngReg), Pre_FoxDxRefIdeal m →
    θ_run (Cert.FoxDxRefIdeal.defs (F := Ideal)) (onTc (τ := Cert.FoxDxRefIdeal.τ) (Cert.FoxDxRefIdeal.main (F := Ideal))) ⟨m, fun _ => 0, g⟩ (fun r => (∀ c : Dev Cert.FoxDxRefIdeal.nD,
      r.2.mem ((c.tc : Thread Cert.FoxDxRefIdeal.nD Cert.FoxDxRefIdeal.τ).loc Cert.FoxDxRefIdeal.main_arg0) = m ((c.tc : Thread Cert.FoxDxRefIdeal.nD Cert.FoxDxRefIdeal.τ).loc Cert.FoxDxRefIdeal.main_arg0)
      ∧ r.2.mem ((c.tc : Thread Cert.FoxDxRefIdeal.nD Cert.FoxDxRefIdeal.τ).loc Cert.FoxDxRefIdeal.main_arg1) = m ((c.tc : Thread Cert.FoxDxRefIdeal.nD Cert.FoxDxRefIdeal.τ).loc Cert.FoxDxRefIdeal.main_arg1)
      ∧ r.2.mem ((c.tc : Thread Cert.FoxDxRefIdeal.nD Cert.FoxDxRefIdeal.τ).loc Cert.FoxDxRefIdeal.main_arg2) = m ((c.tc : Thread Cert.FoxDxRefIdeal.nD Cert.FoxDxRefIdeal.τ).loc Cert.FoxDxRefIdeal.main_arg2))
      ∧ r.2.sem = fun _ => 0)

def quiescent_LossSum [hLossSum : Cert.LossSum.Facts] : Prop :=
  ∀ (m : (ℓ : Loc Cert.LossSum.nD Cert.LossSum.τ Cert.LossSum.sig) → Buf (Elt Bits) ℓ) (g : Dev Cert.LossSum.nD → PrngReg), Pre_LossSum m →
    θ_run (Cert.LossSum.defs (F := Bits)) (onTc (τ := Cert.LossSum.τ) (Cert.LossSum.main (F := Bits))) ⟨m, fun _ => 0, g⟩ (fun r => (∀ c : Dev Cert.LossSum.nD,
      r.2.mem ((c.tc : Thread Cert.LossSum.nD Cert.LossSum.τ).loc Cert.LossSum.main_arg0) = m ((c.tc : Thread Cert.LossSum.nD Cert.LossSum.τ).loc Cert.LossSum.main_arg0))
      ∧ r.2.sem = fun _ => 0)

def quiescent_LossSumIdeal [hLossSumIdeal : Cert.LossSumIdeal.Facts] : Prop :=
  ∀ (m : (ℓ : Loc Cert.LossSumIdeal.nD Cert.LossSumIdeal.τ Cert.LossSumIdeal.sig) → Buf (Elt Ideal) ℓ) (g : Dev Cert.LossSumIdeal.nD → PrngReg), Pre_LossSumIdeal m →
    θ_run (Cert.LossSumIdeal.defs (F := Ideal)) (onTc (τ := Cert.LossSumIdeal.τ) (Cert.LossSumIdeal.main (F := Ideal))) ⟨m, fun _ => 0, g⟩ (fun r => (∀ c : Dev Cert.LossSumIdeal.nD,
      r.2.mem ((c.tc : Thread Cert.LossSumIdeal.nD Cert.LossSumIdeal.τ).loc Cert.LossSumIdeal.main_arg0) = m ((c.tc : Thread Cert.LossSumIdeal.nD Cert.LossSumIdeal.τ).loc Cert.LossSumIdeal.main_arg0))
      ∧ r.2.sem = fun _ => 0)

def quiescent_LossSumRefIdeal [hLossSumRefIdeal : Cert.LossSumRefIdeal.Facts] : Prop :=
  ∀ (m : (ℓ : Loc Cert.LossSumRefIdeal.nD Cert.LossSumRefIdeal.τ Cert.LossSumRefIdeal.sig) → Buf (Elt Ideal) ℓ) (g : Dev Cert.LossSumRefIdeal.nD → PrngReg), Pre_LossSumRefIdeal m →
    θ_run (Cert.LossSumRefIdeal.defs (F := Ideal)) (onTc (τ := Cert.LossSumRefIdeal.τ) (Cert.LossSumRefIdeal.main (F := Ideal))) ⟨m, fun _ => 0, g⟩ (fun r => (∀ c : Dev Cert.LossSumRefIdeal.nD,
      r.2.mem ((c.tc : Thread Cert.LossSumRefIdeal.nD Cert.LossSumRefIdeal.τ).loc Cert.LossSumRefIdeal.main_arg0) = m ((c.tc : Thread Cert.LossSumRefIdeal.nD Cert.LossSumRefIdeal.τ).loc Cert.LossSumRefIdeal.main_arg0))
      ∧ r.2.sem = fun _ => 0)

def quiescent_PutRows [hPutRows : Cert.PutRows.Facts] : Prop :=
  ∀ (m : (ℓ : Loc Cert.PutRows.nD Cert.PutRows.τ Cert.PutRows.sig) → Buf (Elt Bits) ℓ) (g : Dev Cert.PutRows.nD → PrngReg), Pre_PutRows m →
    θ_run (Cert.PutRows.defs (F := Bits)) (onTc (τ := Cert.PutRows.τ) (Cert.PutRows.main (F := Bits))) ⟨m, fun _ => 0, g⟩ (fun r => (∀ c : Dev Cert.PutRows.nD,
      r.2.mem ((c.tc : Thread Cert.PutRows.nD Cert.PutRows.τ).loc Cert.PutRows.main_arg0) = m ((c.tc : Thread Cert.PutRows.nD Cert.PutRows.τ).loc Cert.PutRows.main_arg0)
      ∧ r.2.mem ((c.tc : Thread Cert.PutRows.nD Cert.PutRows.τ).loc Cert.PutRows.main_arg1) = m ((c.tc : Thread Cert.PutRows.nD Cert.PutRows.τ).loc Cert.PutRows.main_arg1))
      ∧ r.2.sem = fun _ => 0)

def quiescent_PutRowsIdeal [hPutRowsIdeal : Cert.PutRowsIdeal.Facts] : Prop :=
  ∀ (m : (ℓ : Loc Cert.PutRowsIdeal.nD Cert.PutRowsIdeal.τ Cert.PutRowsIdeal.sig) → Buf (Elt Ideal) ℓ) (g : Dev Cert.PutRowsIdeal.nD → PrngReg), Pre_PutRowsIdeal m →
    θ_run (Cert.PutRowsIdeal.defs (F := Ideal)) (onTc (τ := Cert.PutRowsIdeal.τ) (Cert.PutRowsIdeal.main (F := Ideal))) ⟨m, fun _ => 0, g⟩ (fun r => (∀ c : Dev Cert.PutRowsIdeal.nD,
      r.2.mem ((c.tc : Thread Cert.PutRowsIdeal.nD Cert.PutRowsIdeal.τ).loc Cert.PutRowsIdeal.main_arg0) = m ((c.tc : Thread Cert.PutRowsIdeal.nD Cert.PutRowsIdeal.τ).loc Cert.PutRowsIdeal.main_arg0)
      ∧ r.2.mem ((c.tc : Thread Cert.PutRowsIdeal.nD Cert.PutRowsIdeal.τ).loc Cert.PutRowsIdeal.main_arg1) = m ((c.tc : Thread Cert.PutRowsIdeal.nD Cert.PutRowsIdeal.τ).loc Cert.PutRowsIdeal.main_arg1))
      ∧ r.2.sem = fun _ => 0)

def quiescent_PutRowsRefIdeal [hPutRowsRefIdeal : Cert.PutRowsRefIdeal.Facts] : Prop :=
  ∀ (m : (ℓ : Loc Cert.PutRowsRefIdeal.nD Cert.PutRowsRefIdeal.τ Cert.PutRowsRefIdeal.sig) → Buf (Elt Ideal) ℓ) (g : Dev Cert.PutRowsRefIdeal.nD → PrngReg), Pre_PutRowsRefIdeal m →
    θ_run (Cert.PutRowsRefIdeal.defs (F := Ideal)) (onTc (τ := Cert.PutRowsRefIdeal.τ) (Cert.PutRowsRefIdeal.main (F := Ideal))) ⟨m, fun _ => 0, g⟩ (fun r => (∀ c : Dev Cert.PutRowsRefIdeal.nD,
      r.2.mem ((c.tc : Thread Cert.PutRowsRefIdeal.nD Cert.PutRowsRefIdeal.τ).loc Cert.PutRowsRefIdeal.main_arg0) = m ((c.tc : Thread Cert.PutRowsRefIdeal.nD Cert.PutRowsRefIdeal.τ).loc Cert.PutRowsRefIdeal.main_arg0)
      ∧ r.2.mem ((c.tc : Thread Cert.PutRowsRefIdeal.nD Cert.PutRowsRefIdeal.τ).loc Cert.PutRowsRefIdeal.main_arg1) = m ((c.tc : Thread Cert.PutRowsRefIdeal.nD Cert.PutRowsRefIdeal.τ).loc Cert.PutRowsRefIdeal.main_arg1))
      ∧ r.2.sem = fun _ => 0)

def quiescent_Small [hSmall : Cert.Small.Facts] : Prop :=
  ∀ (m : (ℓ : Loc Cert.Small.nD Cert.Small.τ Cert.Small.sig) → Buf (Elt Bits) ℓ) (g : Dev Cert.Small.nD → PrngReg), Pre_Small m →
    θ_run (Cert.Small.defs (F := Bits)) (onTc (τ := Cert.Small.τ) (Cert.Small.main (F := Bits))) ⟨m, fun _ => 0, g⟩ (fun r => (∀ c : Dev Cert.Small.nD,
      r.2.mem ((c.tc : Thread Cert.Small.nD Cert.Small.τ).loc Cert.Small.main_arg0) = m ((c.tc : Thread Cert.Small.nD Cert.Small.τ).loc Cert.Small.main_arg0)
      ∧ r.2.mem ((c.tc : Thread Cert.Small.nD Cert.Small.τ).loc Cert.Small.main_arg1) = m ((c.tc : Thread Cert.Small.nD Cert.Small.τ).loc Cert.Small.main_arg1)
      ∧ r.2.mem ((c.tc : Thread Cert.Small.nD Cert.Small.τ).loc Cert.Small.main_arg2) = m ((c.tc : Thread Cert.Small.nD Cert.Small.τ).loc Cert.Small.main_arg2)
      ∧ r.2.mem ((c.tc : Thread Cert.Small.nD Cert.Small.τ).loc Cert.Small.main_arg3) = m ((c.tc : Thread Cert.Small.nD Cert.Small.τ).loc Cert.Small.main_arg3))
      ∧ r.2.sem = fun _ => 0)

def quiescent_SmallIdeal [hSmallIdeal : Cert.SmallIdeal.Facts] : Prop :=
  ∀ (m : (ℓ : Loc Cert.SmallIdeal.nD Cert.SmallIdeal.τ Cert.SmallIdeal.sig) → Buf (Elt Ideal) ℓ) (g : Dev Cert.SmallIdeal.nD → PrngReg), Pre_SmallIdeal m →
    θ_run (Cert.SmallIdeal.defs (F := Ideal)) (onTc (τ := Cert.SmallIdeal.τ) (Cert.SmallIdeal.main (F := Ideal))) ⟨m, fun _ => 0, g⟩ (fun r => (∀ c : Dev Cert.SmallIdeal.nD,
      r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
      ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
      ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
      ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3))
      ∧ r.2.sem = fun _ => 0)

def quiescent_SmallRefIdeal [hSmallRefIdeal : Cert.SmallRefIdeal.Facts] : Prop :=
  ∀ (m : (ℓ : Loc Cert.SmallRefIdeal.nD Cert.SmallRefIdeal.τ Cert.SmallRefIdeal.sig) → Buf (Elt Ideal) ℓ) (g : Dev Cert.SmallRefIdeal.nD → PrngReg), Pre_SmallRefIdeal m →
    θ_run (Cert.SmallRefIdeal.defs (F := Ideal)) (onTc (τ := Cert.SmallRefIdeal.τ) (Cert.SmallRefIdeal.main (F := Ideal))) ⟨m, fun _ => 0, g⟩ (fun r => (∀ c : Dev Cert.SmallRefIdeal.nD,
      r.2.mem ((c.tc : Thread Cert.SmallRefIdeal.nD Cert.SmallRefIdeal.τ).loc Cert.SmallRefIdeal.main_arg0) = m ((c.tc : Thread Cert.SmallRefIdeal.nD Cert.SmallRefIdeal.τ).loc Cert.SmallRefIdeal.main_arg0)
      ∧ r.2.mem ((c.tc : Thread Cert.SmallRefIdeal.nD Cert.SmallRefIdeal.τ).loc Cert.SmallRefIdeal.main_arg1) = m ((c.tc : Thread Cert.SmallRefIdeal.nD Cert.SmallRefIdeal.τ).loc Cert.SmallRefIdeal.main_arg1)
      ∧ r.2.mem ((c.tc : Thread Cert.SmallRefIdeal.nD Cert.SmallRefIdeal.τ).loc Cert.SmallRefIdeal.main_arg2) = m ((c.tc : Thread Cert.SmallRefIdeal.nD Cert.SmallRefIdeal.τ).loc Cert.SmallRefIdeal.main_arg2)
      ∧ r.2.mem ((c.tc : Thread Cert.SmallRefIdeal.nD Cert.SmallRefIdeal.τ).loc Cert.SmallRefIdeal.main_arg3) = m ((c.tc : Thread Cert.SmallRefIdeal.nD Cert.SmallRefIdeal.τ).loc Cert.SmallRefIdeal.main_arg3))
      ∧ r.2.sem = fun _ => 0)

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v0_0)) (v1 : (c : Dev Cert.ConvIdeal.nD) → Buf (Elt Ideal) ((c.tc : Thread Cert.ConvIdeal.nD Cert.ConvIdeal.τ).loc Cert.ConvIdeal.main_v0_1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0_0) = v0 c
          ∧ r.2.mem ((c.tc : Thread Cert.ConvIdeal.nD Cert.ConvIdeal.τ).loc Cert.ConvIdeal.main_v0_1) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v72) = v0 c
          ∧ r.2.mem ((c.tc : Thread Cert.ConvRefIdeal.nD Cert.ConvRefIdeal.τ).loc Cert.ConvRefIdeal.main_v73) = v1 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_Fgate_FgateIdeal : Prop :=
  True

def algebraic_FgateIdeal_FgateRefIdeal [hFgateIdeal : Cert.FgateIdeal.Facts] [hFgateRefIdeal : Cert.FgateRefIdeal.Facts] : Prop :=
  ∀ (m : (ℓ : Loc Cert.FgateIdeal.nD Cert.FgateIdeal.τ Cert.FgateIdeal.sig) → Buf (Elt Ideal) ℓ) (g : Dev Cert.FgateIdeal.nD → PrngReg)
    (m' : (ℓ : Loc Cert.FgateRefIdeal.nD Cert.FgateRefIdeal.τ Cert.FgateRefIdeal.sig) → Buf (Elt Ideal) ℓ) (g' : Dev Cert.FgateRefIdeal.nD → PrngReg), Pre_FgateIdeal m →
    (∀ c : Dev Cert.FgateIdeal.nD,
      m' ((c.tc : Thread Cert.FgateRefIdeal.nD Cert.FgateRefIdeal.τ).loc Cert.FgateRefIdeal.main_arg0) = m ((c.tc : Thread Cert.FgateIdeal.nD Cert.FgateIdeal.τ).loc Cert.FgateIdeal.main_arg0)
      ∧ m' ((c.tc : Thread Cert.FgateRefIdeal.nD Cert.FgateRefIdeal.τ).loc Cert.FgateRefIdeal.main_arg1) = m ((c.tc : Thread Cert.FgateIdeal.nD Cert.FgateIdeal.τ).loc Cert.FgateIdeal.main_arg1)
      ∧ m' ((c.tc : Thread Cert.FgateRefIdeal.nD Cert.FgateRefIdeal.τ).loc Cert.FgateRefIdeal.main_arg2) = m ((c.tc : Thread Cert.FgateIdeal.nD Cert.FgateIdeal.τ).loc Cert.FgateIdeal.main_arg2)
      ∧ m' ((c.tc : Thread Cert.FgateRefIdeal.nD Cert.FgateRefIdeal.τ).loc Cert.FgateRefIdeal.main_arg3) = m ((c.tc : Thread Cert.FgateIdeal.nD Cert.FgateIdeal.τ).loc Cert.FgateIdeal.main_arg3)
      ∧ m' ((c.tc : Thread Cert.FgateRefIdeal.nD Cert.FgateRefIdeal.τ).loc Cert.FgateRefIdeal.main_arg4) = m ((c.tc : Thread Cert.FgateIdeal.nD Cert.FgateIdeal.τ).loc Cert.FgateIdeal.main_arg4)) →
    ∃ (v0 : (c : Dev Cert.FgateIdeal.nD) → Buf (Elt Ideal) ((c.tc : Thread Cert.FgateIdeal.nD Cert.FgateIdeal.τ).loc Cert.FgateIdeal.main_v8_0)) (v1 : (c : Dev Cert.FgateIdeal.nD) → Buf (Elt Ideal) ((c.tc : Thread Cert.FgateIdeal.nD Cert.FgateIdeal.τ).loc Cert.FgateIdeal.main_v8_1)),
      θ_run (Cert.FgateIdeal.defs (F := Ideal)) (onTc (τ := Cert.FgateIdeal.τ) (Cert.FgateIdeal.main (F := Ideal))) ⟨m, fun _ => 0, g⟩ (fun r => ∀ c : Dev Cert.FgateIdeal.nD,
          r.2.mem ((c.tc : Thread Cert.FgateIdeal.nD Cert.FgateIdeal.τ).loc Cert.FgateIdeal.main_v8_0) = v0 c
          ∧ r.2.mem ((c.tc : Thread Cert.FgateIdeal.nD Cert.FgateIdeal.τ).loc Cert.FgateIdeal.main_v8_1) = v1 c
          ∧ r.2.mem ((c.tc : Thread Cert.FgateIdeal.nD Cert.FgateIdeal.τ).loc Cert.FgateIdeal.main_arg0) = m ((c.tc : Thread Cert.FgateIdeal.nD Cert.FgateIdeal.τ).loc Cert.FgateIdeal.main_arg0)
          ∧ r.2.mem ((c.tc : Thread Cert.FgateIdeal.nD Cert.FgateIdeal.τ).loc Cert.FgateIdeal.main_arg1) = m ((c.tc : Thread Cert.FgateIdeal.nD Cert.FgateIdeal.τ).loc Cert.FgateIdeal.main_arg1)
          ∧ r.2.mem ((c.tc : Thread Cert.FgateIdeal.nD Cert.FgateIdeal.τ).loc Cert.FgateIdeal.main_arg2) = m ((c.tc : Thread Cert.FgateIdeal.nD Cert.FgateIdeal.τ).loc Cert.FgateIdeal.main_arg2)
          ∧ r.2.mem ((c.tc : Thread Cert.FgateIdeal.nD Cert.FgateIdeal.τ).loc Cert.FgateIdeal.main_arg3) = m ((c.tc : Thread Cert.FgateIdeal.nD Cert.FgateIdeal.τ).loc Cert.FgateIdeal.main_arg3)
          ∧ r.2.mem ((c.tc : Thread Cert.FgateIdeal.nD Cert.FgateIdeal.τ).loc Cert.FgateIdeal.main_arg4) = m ((c.tc : Thread Cert.FgateIdeal.nD Cert.FgateIdeal.τ).loc Cert.FgateIdeal.main_arg4))
      ∧ θ_run (Cert.FgateRefIdeal.defs (F := Ideal)) (onTc (τ := Cert.FgateRefIdeal.τ) (Cert.FgateRefIdeal.main (F := Ideal))) ⟨m', fun _ => 0, g'⟩ (fun r => ∀ c : Dev Cert.FgateRefIdeal.nD,
          r.2.mem ((c.tc : Thread Cert.FgateRefIdeal.nD Cert.FgateRefIdeal.τ).loc Cert.FgateRefIdeal.main_v16) = v0 c
          ∧ r.2.mem ((c.tc : Thread Cert.FgateRefIdeal.nD Cert.FgateRefIdeal.τ).loc Cert.FgateRefIdeal.main_v19) = v1 c
          ∧ r.2.mem ((c.tc : Thread Cert.FgateRefIdeal.nD Cert.FgateRefIdeal.τ).loc Cert.FgateRefIdeal.main_arg0) = m' ((c.tc : Thread Cert.FgateRefIdeal.nD Cert.FgateRefIdeal.τ).loc Cert.FgateRefIdeal.main_arg0)
          ∧ r.2.mem ((c.tc : Thread Cert.FgateRefIdeal.nD Cert.FgateRefIdeal.τ).loc Cert.FgateRefIdeal.main_arg1) = m' ((c.tc : Thread Cert.FgateRefIdeal.nD Cert.FgateRefIdeal.τ).loc Cert.FgateRefIdeal.main_arg1)
          ∧ r.2.mem ((c.tc : Thread Cert.FgateRefIdeal.nD Cert.FgateRefIdeal.τ).loc Cert.FgateRefIdeal.main_arg2) = m' ((c.tc : Thread Cert.FgateRefIdeal.nD Cert.FgateRefIdeal.τ).loc Cert.FgateRefIdeal.main_arg2)
          ∧ r.2.mem ((c.tc : Thread Cert.FgateRefIdeal.nD Cert.FgateRefIdeal.τ).loc Cert.FgateRefIdeal.main_arg3) = m' ((c.tc : Thread Cert.FgateRefIdeal.nD Cert.FgateRefIdeal.τ).loc Cert.FgateRefIdeal.main_arg3)
          ∧ r.2.mem ((c.tc : Thread Cert.FgateRefIdeal.nD Cert.FgateRefIdeal.τ).loc Cert.FgateRefIdeal.main_arg4) = m' ((c.tc : Thread Cert.FgateRefIdeal.nD Cert.FgateRefIdeal.τ).loc Cert.FgateRefIdeal.main_arg4))

def preserves_Attn_AttnIdeal : Prop :=
  IdealRules.named_const.Statement Cert.AttnIdeal.κ "mask" .f32 0xF149F2CA#32 ⊥

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v5_0)) (v1 : (c : Dev Cert.AttnIdeal.nD) → Buf (Elt Ideal) ((c.tc : Thread Cert.AttnIdeal.nD Cert.AttnIdeal.τ).loc Cert.AttnIdeal.main_v5_1)) (v2 : (c : Dev Cert.AttnIdeal.nD) → Buf (Elt Ideal) ((c.tc : Thread Cert.AttnIdeal.nD Cert.AttnIdeal.τ).loc Cert.AttnIdeal.main_v5_2)) (v3 : (c : Dev Cert.AttnIdeal.nD) → Buf (Elt Ideal) ((c.tc : Thread Cert.AttnIdeal.nD Cert.AttnIdeal.τ).loc Cert.AttnIdeal.main_v4_0)) (v4 : (c : Dev Cert.AttnIdeal.nD) → Buf (Elt Ideal) ((c.tc : Thread Cert.AttnIdeal.nD Cert.AttnIdeal.τ).loc Cert.AttnIdeal.main_v4_1)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v5_0) = v0 c
          ∧ r.2.mem ((c.tc : Thread Cert.AttnIdeal.nD Cert.AttnIdeal.τ).loc Cert.AttnIdeal.main_v5_1) = v1 c
          ∧ r.2.mem ((c.tc : Thread Cert.AttnIdeal.nD Cert.AttnIdeal.τ).loc Cert.AttnIdeal.main_v5_2) = v2 c
          ∧ r.2.mem ((c.tc : Thread Cert.AttnIdeal.nD Cert.AttnIdeal.τ).loc Cert.AttnIdeal.main_v4_0) = v3 c
          ∧ r.2.mem ((c.tc : Thread Cert.AttnIdeal.nD Cert.AttnIdeal.τ).loc Cert.AttnIdeal.main_v4_1) = v4 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v104) = v0 c
          ∧ r.2.mem ((c.tc : Thread Cert.AttnRefIdeal.nD Cert.AttnRefIdeal.τ).loc Cert.AttnRefIdeal.main_v106) = v1 c
          ∧ r.2.mem ((c.tc : Thread Cert.AttnRefIdeal.nD Cert.AttnRefIdeal.τ).loc Cert.AttnRefIdeal.main_v103) = v2 c
          ∧ r.2.mem ((c.tc : Thread Cert.AttnRefIdeal.nD Cert.AttnRefIdeal.τ).loc Cert.AttnRefIdeal.main_v107) = v3 c
          ∧ r.2.mem ((c.tc : Thread Cert.AttnRefIdeal.nD Cert.AttnRefIdeal.τ).loc Cert.AttnRefIdeal.main_v145) = v4 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_Relu2_Relu2Ideal : Prop :=
  True

def algebraic_Relu2Ideal_Relu2RefIdeal [hRelu2Ideal : Cert.Relu2Ideal.Facts] [hRelu2RefIdeal : Cert.Relu2RefIdeal.Facts] : Prop :=
  ∀ (m : (ℓ : Loc Cert.Relu2Ideal.nD Cert.Relu2Ideal.τ Cert.Relu2Ideal.sig) → Buf (Elt Ideal) ℓ) (g : Dev Cert.Relu2Ideal.nD → PrngReg)
    (m' : (ℓ : Loc Cert.Relu2RefIdeal.nD Cert.Relu2RefIdeal.τ Cert.Relu2RefIdeal.sig) → Buf (Elt Ideal) ℓ) (g' : Dev Cert.Relu2RefIdeal.nD → PrngReg), Pre_Relu2Ideal m →
    (∀ c : Dev Cert.Relu2Ideal.nD,
      m' ((c.tc : Thread Cert.Relu2RefIdeal.nD Cert.Relu2RefIdeal.τ).loc Cert.Relu2RefIdeal.main_arg0) = m ((c.tc : Thread Cert.Relu2Ideal.nD Cert.Relu2Ideal.τ).loc Cert.Relu2Ideal.main_arg0)
      ∧ m' ((c.tc : Thread Cert.Relu2RefIdeal.nD Cert.Relu2RefIdeal.τ).loc Cert.Relu2RefIdeal.main_arg1) = m ((c.tc : Thread Cert.Relu2Ideal.nD Cert.Relu2Ideal.τ).loc Cert.Relu2Ideal.main_arg1)
      ∧ m' ((c.tc : Thread Cert.Relu2RefIdeal.nD Cert.Relu2RefIdeal.τ).loc Cert.Relu2RefIdeal.main_arg2) = m ((c.tc : Thread Cert.Relu2Ideal.nD Cert.Relu2Ideal.τ).loc Cert.Relu2Ideal.main_arg2)) →
    ∃ (v0 : (c : Dev Cert.Relu2Ideal.nD) → Buf (Elt Ideal) ((c.tc : Thread Cert.Relu2Ideal.nD Cert.Relu2Ideal.τ).loc Cert.Relu2Ideal.main_v1)),
      θ_run (Cert.Relu2Ideal.defs (F := Ideal)) (onTc (τ := Cert.Relu2Ideal.τ) (Cert.Relu2Ideal.main (F := Ideal))) ⟨m, fun _ => 0, g⟩ (fun r => ∀ c : Dev Cert.Relu2Ideal.nD,
          r.2.mem ((c.tc : Thread Cert.Relu2Ideal.nD Cert.Relu2Ideal.τ).loc Cert.Relu2Ideal.main_v1) = v0 c
          ∧ r.2.mem ((c.tc : Thread Cert.Relu2Ideal.nD Cert.Relu2Ideal.τ).loc Cert.Relu2Ideal.main_arg0) = m ((c.tc : Thread Cert.Relu2Ideal.nD Cert.Relu2Ideal.τ).loc Cert.Relu2Ideal.main_arg0)
          ∧ r.2.mem ((c.tc : Thread Cert.Relu2Ideal.nD Cert.Relu2Ideal.τ).loc Cert.Relu2Ideal.main_arg1) = m ((c.tc : Thread Cert.Relu2Ideal.nD Cert.Relu2Ideal.τ).loc Cert.Relu2Ideal.main_arg1)
          ∧ r.2.mem ((c.tc : Thread Cert.Relu2Ideal.nD Cert.Relu2Ideal.τ).loc Cert.Relu2Ideal.main_arg2) = m ((c.tc : Thread Cert.Relu2Ideal.nD Cert.Relu2Ideal.τ).loc Cert.Relu2Ideal.main_arg2))
      ∧ θ_run (Cert.Relu2RefIdeal.defs (F := Ideal)) (onTc (τ := Cert.Relu2RefIdeal.τ) (Cert.Relu2RefIdeal.main (F := Ideal))) ⟨m', fun _ => 0, g'⟩ (fun r => ∀ c : Dev Cert.Relu2RefIdeal.nD,
          r.2.mem ((c.tc : Thread Cert.Relu2RefIdeal.nD Cert.Relu2RefIdeal.τ).loc Cert.Relu2RefIdeal.main_v14) = v0 c
          ∧ r.2.mem ((c.tc : Thread Cert.Relu2RefIdeal.nD Cert.Relu2RefIdeal.τ).loc Cert.Relu2RefIdeal.main_arg0) = m' ((c.tc : Thread Cert.Relu2RefIdeal.nD Cert.Relu2RefIdeal.τ).loc Cert.Relu2RefIdeal.main_arg0)
          ∧ r.2.mem ((c.tc : Thread Cert.Relu2RefIdeal.nD Cert.Relu2RefIdeal.τ).loc Cert.Relu2RefIdeal.main_arg1) = m' ((c.tc : Thread Cert.Relu2RefIdeal.nD Cert.Relu2RefIdeal.τ).loc Cert.Relu2RefIdeal.main_arg1)
          ∧ r.2.mem ((c.tc : Thread Cert.Relu2RefIdeal.nD Cert.Relu2RefIdeal.τ).loc Cert.Relu2RefIdeal.main_arg2) = m' ((c.tc : Thread Cert.Relu2RefIdeal.nD Cert.Relu2RefIdeal.τ).loc Cert.Relu2RefIdeal.main_arg2))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)
      ∧ m' ((c.tc : Thread Cert.NormRefIdeal.nD Cert.NormRefIdeal.τ).loc Cert.NormRefIdeal.main_arg4) = m ((c.tc : Thread Cert.NormIdeal.nD Cert.NormIdeal.τ).loc Cert.NormIdeal.main_arg4)
      ∧ m' ((c.tc : Thread Cert.NormRefIdeal.nD Cert.NormRefIdeal.τ).loc Cert.NormRefIdeal.main_arg5) = m ((c.tc : Thread Cert.NormIdeal.nD Cert.NormIdeal.τ).loc Cert.NormIdeal.main_arg5)
      ∧ m' ((c.tc : Thread Cert.NormRefIdeal.nD Cert.NormRefIdeal.τ).loc Cert.NormRefIdeal.main_arg6) = m ((c.tc : Thread Cert.NormIdeal.nD Cert.NormIdeal.τ).loc Cert.NormIdeal.main_arg6)
      ∧ m' ((c.tc : Thread Cert.NormRefIdeal.nD Cert.NormRefIdeal.τ).loc Cert.NormRefIdeal.main_arg7) = m ((c.tc : Thread Cert.NormIdeal.nD Cert.NormIdeal.τ).loc Cert.NormIdeal.main_arg7)
      ∧ m' ((c.tc : Thread Cert.NormRefIdeal.nD Cert.NormRefIdeal.τ).loc Cert.NormRefIdeal.main_arg8) = m ((c.tc : Thread Cert.NormIdeal.nD Cert.NormIdeal.τ).loc Cert.NormIdeal.main_arg8)
      ∧ m' ((c.tc : Thread Cert.NormRefIdeal.nD Cert.NormRefIdeal.τ).loc Cert.NormRefIdeal.main_arg9) = m ((c.tc : Thread Cert.NormIdeal.nD Cert.NormIdeal.τ).loc Cert.NormIdeal.main_arg9)) →
    ∃ (v0 : (c : Dev Cert.NormIdeal.nD) → Buf (Elt Ideal) ((c.tc : Thread Cert.NormIdeal.nD Cert.NormIdeal.τ).loc Cert.NormIdeal.main_v8_0)) (v1 : (c : Dev Cert.NormIdeal.nD) → Buf (Elt Ideal) ((c.tc : Thread Cert.NormIdeal.nD Cert.NormIdeal.τ).loc Cert.NormIdeal.main_v8_1)) (v2 : (c : Dev Cert.NormIdeal.nD) → Buf (Elt Ideal) ((c.tc : Thread Cert.NormIdeal.nD Cert.NormIdeal.τ).loc Cert.NormIdeal.main_v8_2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v8_0) = v0 c
          ∧ r.2.mem ((c.tc : Thread Cert.NormIdeal.nD Cert.NormIdeal.τ).loc Cert.NormIdeal.main_v8_1) = v1 c
          ∧ r.2.mem ((c.tc : Thread Cert.NormIdeal.nD Cert.NormIdeal.τ).loc Cert.NormIdeal.main_v8_2) = v2 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
          ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
          ∧ r.2.mem ((c.tc : Thread Cert.NormIdeal.nD Cert.NormIdeal.τ).loc Cert.NormIdeal.main_arg6) = m ((c.tc : Thread Cert.NormIdeal.nD Cert.NormIdeal.τ).loc Cert.NormIdeal.main_arg6)
          ∧ r.2.mem ((c.tc : Thread Cert.NormIdeal.nD Cert.NormIdeal.τ).loc Cert.NormIdeal.main_arg7) = m ((c.tc : Thread Cert.NormIdeal.nD Cert.NormIdeal.τ).loc Cert.NormIdeal.main_arg7)
          ∧ r.2.mem ((c.tc : Thread Cert.NormIdeal.nD Cert.NormIdeal.τ).loc Cert.NormIdeal.main_arg8) = m ((c.tc : Thread Cert.NormIdeal.nD Cert.NormIdeal.τ).loc Cert.NormIdeal.main_arg8)
          ∧ r.2.mem ((c.tc : Thread Cert.NormIdeal.nD Cert.NormIdeal.τ).loc Cert.NormIdeal.main_arg9) = m ((c.tc : Thread Cert.NormIdeal.nD Cert.NormIdeal.τ).loc Cert.NormIdeal.main_arg9))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v70) = v0 c
          ∧ r.2.mem ((c.tc : Thread Cert.NormRefIdeal.nD Cert.NormRefIdeal.τ).loc Cert.NormRefIdeal.main_v79) = v1 c
          ∧ r.2.mem ((c.tc : Thread Cert.NormRefIdeal.nD Cert.NormRefIdeal.τ).loc Cert.NormRefIdeal.main_v78) = v2 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3)
          ∧ r.2.mem ((c.tc : Thread Cert.NormRefIdeal.nD Cert.NormRefIdeal.τ).loc Cert.NormRefIdeal.main_arg4) = m' ((c.tc : Thread Cert.NormRefIdeal.nD Cert.NormRefIdeal.τ).loc Cert.NormRefIdeal.main_arg4)
          ∧ r.2.mem ((c.tc : Thread Cert.NormRefIdeal.nD Cert.NormRefIdeal.τ).loc Cert.NormRefIdeal.main_arg5) = m' ((c.tc : Thread Cert.NormRefIdeal.nD Cert.NormRefIdeal.τ).loc Cert.NormRefIdeal.main_arg5)
          ∧ r.2.mem ((c.tc : Thread Cert.NormRefIdeal.nD Cert.NormRefIdeal.τ).loc Cert.NormRefIdeal.main_arg6) = m' ((c.tc : Thread Cert.NormRefIdeal.nD Cert.NormRefIdeal.τ).loc Cert.NormRefIdeal.main_arg6)
          ∧ r.2.mem ((c.tc : Thread Cert.NormRefIdeal.nD Cert.NormRefIdeal.τ).loc Cert.NormRefIdeal.main_arg7) = m' ((c.tc : Thread Cert.NormRefIdeal.nD Cert.NormRefIdeal.τ).loc Cert.NormRefIdeal.main_arg7)
          ∧ r.2.mem ((c.tc : Thread Cert.NormRefIdeal.nD Cert.NormRefIdeal.τ).loc Cert.NormRefIdeal.main_arg8) = m' ((c.tc : Thread Cert.NormRefIdeal.nD Cert.NormRefIdeal.τ).loc Cert.NormRefIdeal.main_arg8)
          ∧ r.2.mem ((c.tc : Thread Cert.NormRefIdeal.nD Cert.NormRefIdeal.τ).loc Cert.NormRefIdeal.main_arg9) = m' ((c.tc : Thread Cert.NormRefIdeal.nD Cert.NormRefIdeal.τ).loc Cert.NormRefIdeal.main_arg9))

def preserves_Norm0_Norm0Ideal : Prop :=
  True

def algebraic_Norm0Ideal_Norm0RefIdeal [hNorm0Ideal : Cert.Norm0Ideal.Facts] [hNorm0RefIdeal : Cert.Norm0RefIdeal.Facts] : Prop :=
  ∀ (m : (ℓ : Loc Cert.Norm0Ideal.nD Cert.Norm0Ideal.τ Cert.Norm0Ideal.sig) → Buf (Elt Ideal) ℓ) (g : Dev Cert.Norm0Ideal.nD → PrngReg)
    (m' : (ℓ : Loc Cert.Norm0RefIdeal.nD Cert.Norm0RefIdeal.τ Cert.Norm0RefIdeal.sig) → Buf (Elt Ideal) ℓ) (g' : Dev Cert.Norm0RefIdeal.nD → PrngReg), Pre_Norm0Ideal m →
    (∀ c : Dev Cert.Norm0Ideal.nD,
      m' ((c.tc : Thread Cert.Norm0RefIdeal.nD Cert.Norm0RefIdeal.τ).loc Cert.Norm0RefIdeal.main_arg0) = m ((c.tc : Thread Cert.Norm0Ideal.nD Cert.Norm0Ideal.τ).loc Cert.Norm0Ideal.main_arg0)
      ∧ m' ((c.tc : Thread Cert.Norm0RefIdeal.nD Cert.Norm0RefIdeal.τ).loc Cert.Norm0RefIdeal.main_arg1) = m ((c.tc : Thread Cert.Norm0Ideal.nD Cert.Norm0Ideal.τ).loc Cert.Norm0Ideal.main_arg1)
      ∧ m' ((c.tc : Thread Cert.Norm0RefIdeal.nD Cert.Norm0RefIdeal.τ).loc Cert.Norm0RefIdeal.main_arg2) = m ((c.tc : Thread Cert.Norm0Ideal.nD Cert.Norm0Ideal.τ).loc Cert.Norm0Ideal.main_arg2)
      ∧ m' ((c.tc : Thread Cert.Norm0RefIdeal.nD Cert.Norm0RefIdeal.τ).loc Cert.Norm0RefIdeal.main_arg3) = m ((c.tc : Thread Cert.Norm0Ideal.nD Cert.Norm0Ideal.τ).loc Cert.Norm0Ideal.main_arg3)
      ∧ m' ((c.tc : Thread Cert.Norm0RefIdeal.nD Cert.Norm0RefIdeal.τ).loc Cert.Norm0RefIdeal.main_arg4) = m ((c.tc : Thread Cert.Norm0Ideal.nD Cert.Norm0Ideal.τ).loc Cert.Norm0Ideal.main_arg4)
      ∧ m' ((c.tc : Thread Cert.Norm0RefIdeal.nD Cert.Norm0RefIdeal.τ).loc Cert.Norm0RefIdeal.main_arg5) = m ((c.tc : Thread Cert.Norm0Ideal.nD Cert.Norm0Ideal.τ).loc Cert.Norm0Ideal.main_arg5)
      ∧ m' ((c.tc : Thread Cert.Norm0RefIdeal.nD Cert.Norm0RefIdeal.τ).loc Cert.Norm0RefIdeal.main_arg6) = m ((c.tc : Thread Cert.Norm0Ideal.nD Cert.Norm0Ideal.τ).loc Cert.Norm0Ideal.main_arg6)
      ∧ m' ((c.tc : Thread Cert.Norm0RefIdeal.nD Cert.Norm0RefIdeal.τ).loc Cert.Norm0RefIdeal.main_arg7) = m ((c.tc : Thread Cert.Norm0Ideal.nD Cert.Norm0Ideal.τ).loc Cert.Norm0Ideal.main_arg7)) →
    ∃ (v0 : (c : Dev Cert.Norm0Ideal.nD) → Buf (Elt Ideal) ((c.tc : Thread Cert.Norm0Ideal.nD Cert.Norm0Ideal.τ).loc Cert.Norm0Ideal.main_v2_0)) (v1 : (c : Dev Cert.Norm0Ideal.nD) → Buf (Elt Ideal) ((c.tc : Thread Cert.Norm0Ideal.nD Cert.Norm0Ideal.τ).loc Cert.Norm0Ideal.main_v2_1)),
      θ_run (Cert.Norm0Ideal.defs (F := Ideal)) (onTc (τ := Cert.Norm0Ideal.τ) (Cert.Norm0Ideal.main (F := Ideal))) ⟨m, fun _ => 0, g⟩ (fun r => ∀ c : Dev Cert.Norm0Ideal.nD,
          r.2.mem ((c.tc : Thread Cert.Norm0Ideal.nD Cert.Norm0Ideal.τ).loc Cert.Norm0Ideal.main_v2_0) = v0 c
          ∧ r.2.mem ((c.tc : Thread Cert.Norm0Ideal.nD Cert.Norm0Ideal.τ).loc Cert.Norm0Ideal.main_v2_1) = v1 c
          ∧ r.2.mem ((c.tc : Thread Cert.Norm0Ideal.nD Cert.Norm0Ideal.τ).loc Cert.Norm0Ideal.main_arg0) = m ((c.tc : Thread Cert.Norm0Ideal.nD Cert.Norm0Ideal.τ).loc Cert.Norm0Ideal.main_arg0)
          ∧ r.2.mem ((c.tc : Thread Cert.Norm0Ideal.nD Cert.Norm0Ideal.τ).loc Cert.Norm0Ideal.main_arg1) = m ((c.tc : Thread Cert.Norm0Ideal.nD Cert.Norm0Ideal.τ).loc Cert.Norm0Ideal.main_arg1)
          ∧ r.2.mem ((c.tc : Thread Cert.Norm0Ideal.nD Cert.Norm0Ideal.τ).loc Cert.Norm0Ideal.main_arg2) = m ((c.tc : Thread Cert.Norm0Ideal.nD Cert.Norm0Ideal.τ).loc Cert.Norm0Ideal.main_arg2)
          ∧ r.2.mem ((c.tc : Thread Cert.Norm0Ideal.nD Cert.Norm0Ideal.τ).loc Cert.Norm0Ideal.main_arg3) = m ((c.tc : Thread Cert.Norm0Ideal.nD Cert.Norm0Ideal.τ).loc Cert.Norm0Ideal.main_arg3)
          ∧ r.2.mem ((c.tc : Thread Cert.Norm0Ideal.nD Cert.Norm0Ideal.τ).loc Cert.Norm0Ideal.main_arg4) = m ((c.tc : Thread Cert.Norm0Ideal.nD Cert.Norm0Ideal.τ).loc Cert.Norm0Ideal.main_arg4)
          ∧ r.2.mem ((c.tc : Thread Cert.Norm0Ideal.nD Cert.Norm0Ideal.τ).loc Cert.Norm0Ideal.main_arg5) = m ((c.tc : Thread Cert.Norm0Ideal.nD Cert.Norm0Ideal.τ).loc Cert.Norm0Ideal.main_arg5)
          ∧ r.2.mem ((c.tc : Thread Cert.Norm0Ideal.nD Cert.Norm0Ideal.τ).loc Cert.Norm0Ideal.main_arg6) = m ((c.tc : Thread Cert.Norm0Ideal.nD Cert.Norm0Ideal.τ).loc Cert.Norm0Ideal.main_arg6)
          ∧ r.2.mem ((c.tc : Thread Cert.Norm0Ideal.nD Cert.Norm0Ideal.τ).loc Cert.Norm0Ideal.main_arg7) = m ((c.tc : Thread Cert.Norm0Ideal.nD Cert.Norm0Ideal.τ).loc Cert.Norm0Ideal.main_arg7))
      ∧ θ_run (Cert.Norm0RefIdeal.defs (F := Ideal)) (onTc (τ := Cert.Norm0RefIdeal.τ) (Cert.Norm0RefIdeal.main (F := Ideal))) ⟨m', fun _ => 0, g'⟩ (fun r => ∀ c : Dev Cert.Norm0RefIdeal.nD,
          r.2.mem ((c.tc : Thread Cert.Norm0RefIdeal.nD Cert.Norm0RefIdeal.τ).loc Cert.Norm0RefIdeal.main_v64) = v0 c
          ∧ r.2.mem ((c.tc : Thread Cert.Norm0RefIdeal.nD Cert.Norm0RefIdeal.τ).loc Cert.Norm0RefIdeal.main_v70) = v1 c
          ∧ r.2.mem ((c.tc : Thread Cert.Norm0RefIdeal.nD Cert.Norm0RefIdeal.τ).loc Cert.Norm0RefIdeal.main_arg0) = m' ((c.tc : Thread Cert.Norm0RefIdeal.nD Cert.Norm0RefIdeal.τ).loc Cert.Norm0RefIdeal.main_arg0)
          ∧ r.2.mem ((c.tc : Thread Cert.Norm0RefIdeal.nD Cert.Norm0RefIdeal.τ).loc Cert.Norm0RefIdeal.main_arg1) = m' ((c.tc : Thread Cert.Norm0RefIdeal.nD Cert.Norm0RefIdeal.τ).loc Cert.Norm0RefIdeal.main_arg1)
          ∧ r.2.mem ((c.tc : Thread Cert.Norm0RefIdeal.nD Cert.Norm0RefIdeal.τ).loc Cert.Norm0RefIdeal.main_arg2) = m' ((c.tc : Thread Cert.Norm0RefIdeal.nD Cert.Norm0RefIdeal.τ).loc Cert.Norm0RefIdeal.main_arg2)
          ∧ r.2.mem ((c.tc : Thread Cert.Norm0RefIdeal.nD Cert.Norm0RefIdeal.τ).loc Cert.Norm0RefIdeal.main_arg3) = m' ((c.tc : Thread Cert.Norm0RefIdeal.nD Cert.Norm0RefIdeal.τ).loc Cert.Norm0RefIdeal.main_arg3)
          ∧ r.2.mem ((c.tc : Thread Cert.Norm0RefIdeal.nD Cert.Norm0RefIdeal.τ).loc Cert.Norm0RefIdeal.main_arg4) = m' ((c.tc : Thread Cert.Norm0RefIdeal.nD Cert.Norm0RefIdeal.τ).loc Cert.Norm0RefIdeal.main_arg4)
          ∧ r.2.mem ((c.tc : Thread Cert.Norm0RefIdeal.nD Cert.Norm0RefIdeal.τ).loc Cert.Norm0RefIdeal.main_arg5) = m' ((c.tc : Thread Cert.Norm0RefIdeal.nD Cert.Norm0RefIdeal.τ).loc Cert.Norm0RefIdeal.main_arg5)
          ∧ r.2.mem ((c.tc : Thread Cert.Norm0RefIdeal.nD Cert.Norm0RefIdeal.τ).loc Cert.Norm0RefIdeal.main_arg6) = m' ((c.tc : Thread Cert.Norm0RefIdeal.nD Cert.Norm0RefIdeal.τ).loc Cert.Norm0RefIdeal.main_arg6)
          ∧ r.2.mem ((c.tc : Thread Cert.Norm0RefIdeal.nD Cert.Norm0RefIdeal.τ).loc Cert.Norm0RefIdeal.main_arg7) = m' ((c.tc : Thread Cert.Norm0RefIdeal.nD Cert.Norm0RefIdeal.τ).loc Cert.Norm0RefIdeal.main_arg7))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)) →
    ∃ (v0 : (c : Dev Cert.LossIdeal.nD) → Buf (Elt Ideal) ((c.tc : Thread Cert.LossIdeal.nD Cert.LossIdeal.τ).loc Cert.LossIdeal.main_v7_0)) (v1 : (c : Dev Cert.LossIdeal.nD) → Buf (Elt Ideal) ((c.tc : Thread Cert.LossIdeal.nD Cert.LossIdeal.τ).loc Cert.LossIdeal.main_v7_1)) (v2 : (c : Dev Cert.LossIdeal.nD) → Buf (Elt Ideal) ((c.tc : Thread Cert.LossIdeal.nD Cert.LossIdeal.τ).loc Cert.LossIdeal.main_v7_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v7_0) = v0 c
          ∧ r.2.mem ((c.tc : Thread Cert.LossIdeal.nD Cert.LossIdeal.τ).loc Cert.LossIdeal.main_v7_1) = v1 c
          ∧ r.2.mem ((c.tc : Thread Cert.LossIdeal.nD Cert.LossIdeal.τ).loc Cert.LossIdeal.main_v7_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v55) = v0 c
          ∧ r.2.mem ((c.tc : Thread Cert.LossRefIdeal.nD Cert.LossRefIdeal.τ).loc Cert.LossRefIdeal.main_v62) = v1 c
          ∧ r.2.mem ((c.tc : Thread Cert.LossRefIdeal.nD Cert.LossRefIdeal.τ).loc Cert.LossRefIdeal.main_v61) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)) →
    ∃ (v0 : (c : Dev Cert.ConvFwdIdeal.nD) → Buf (Elt Ideal) ((c.tc : Thread Cert.ConvFwdIdeal.nD Cert.ConvFwdIdeal.τ).loc Cert.ConvFwdIdeal.main_v0)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v0) = v0 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v30) = v0 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1))

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)
      ∧ m' ((c.tc : Thread Cert.NormFwdRefIdeal.nD Cert.NormFwdRefIdeal.τ).loc Cert.NormFwdRefIdeal.main_arg2) = m ((c.tc : Thread Cert.NormFwdIdeal.nD Cert.NormFwdIdeal.τ).loc Cert.NormFwdIdeal.main_arg2)
      ∧ m' ((c.tc : Thread Cert.NormFwdRefIdeal.nD Cert.NormFwdRefIdeal.τ).loc Cert.NormFwdRefIdeal.main_arg3) = m ((c.tc : Thread Cert.NormFwdIdeal.nD Cert.NormFwdIdeal.τ).loc Cert.NormFwdIdeal.main_arg3)) →
    ∃ (v0 : (c : Dev Cert.NormFwdIdeal.nD) → Buf (Elt Ideal) ((c.tc : Thread Cert.NormFwdIdeal.nD Cert.NormFwdIdeal.τ).loc Cert.NormFwdIdeal.main_v3)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v3) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1)
          ∧ r.2.mem ((c.tc : Thread Cert.NormFwdIdeal.nD Cert.NormFwdIdeal.τ).loc Cert.NormFwdIdeal.main_arg2) = m ((c.tc : Thread Cert.NormFwdIdeal.nD Cert.NormFwdIdeal.τ).loc Cert.NormFwdIdeal.main_arg2)
          ∧ r.2.mem ((c.tc : Thread Cert.NormFwdIdeal.nD Cert.NormFwdIdeal.τ).loc Cert.NormFwdIdeal.main_arg3) = m ((c.tc : Thread Cert.NormFwdIdeal.nD Cert.NormFwdIdeal.τ).loc Cert.NormFwdIdeal.main_arg3))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v21) = v0 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1)
          ∧ r.2.mem ((c.tc : Thread Cert.NormFwdRefIdeal.nD Cert.NormFwdRefIdeal.τ).loc Cert.NormFwdRefIdeal.main_arg2) = m' ((c.tc : Thread Cert.NormFwdRefIdeal.nD Cert.NormFwdRefIdeal.τ).loc Cert.NormFwdRefIdeal.main_arg2)
          ∧ r.2.mem ((c.tc : Thread Cert.NormFwdRefIdeal.nD Cert.NormFwdRefIdeal.τ).loc Cert.NormFwdRefIdeal.main_arg3) = m' ((c.tc : Thread Cert.NormFwdRefIdeal.nD Cert.NormFwdRefIdeal.τ).loc Cert.NormFwdRefIdeal.main_arg3))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)) →
    ∃ (v0 : (c : Dev Cert.OutIdeal.nD) → Buf (Elt Ideal) ((c.tc : Thread Cert.OutIdeal.nD Cert.OutIdeal.τ).loc Cert.OutIdeal.main_v5_0)) (v1 : (c : Dev Cert.OutIdeal.nD) → Buf (Elt Ideal) ((c.tc : Thread Cert.OutIdeal.nD Cert.OutIdeal.τ).loc Cert.OutIdeal.main_v5_1)) (v2 : (c : Dev Cert.OutIdeal.nD) → Buf (Elt Ideal) ((c.tc : Thread Cert.OutIdeal.nD Cert.OutIdeal.τ).loc Cert.OutIdeal.main_v5_2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v5_0) = v0 c
          ∧ r.2.mem ((c.tc : Thread Cert.OutIdeal.nD Cert.OutIdeal.τ).loc Cert.OutIdeal.main_v5_1) = v1 c
          ∧ r.2.mem ((c.tc : Thread Cert.OutIdeal.nD Cert.OutIdeal.τ).loc Cert.OutIdeal.main_v5_2) = v2 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v5) = v0 c
          ∧ r.2.mem ((c.tc : Thread Cert.OutRefIdeal.nD Cert.OutRefIdeal.τ).loc Cert.OutRefIdeal.main_v27) = v1 c
          ∧ r.2.mem ((c.tc : Thread Cert.OutRefIdeal.nD Cert.OutRefIdeal.τ).loc Cert.OutRefIdeal.main_v28) = v2 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v3_0)) (v1 : (c : Dev Cert.UpIdeal.nD) → Buf (Elt Ideal) ((c.tc : Thread Cert.UpIdeal.nD Cert.UpIdeal.τ).loc Cert.UpIdeal.main_v3_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v3_0) = v0 c
          ∧ r.2.mem ((c.tc : Thread Cert.UpIdeal.nD Cert.UpIdeal.τ).loc Cert.UpIdeal.main_v3_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v2) = v0 c
          ∧ r.2.mem ((c.tc : Thread Cert.UpRefIdeal.nD Cert.UpRefIdeal.τ).loc Cert.UpRefIdeal.main_v5) = v1 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v2_0)) (v1 : (c : Dev Cert.DownIdeal.nD) → Buf (Elt Ideal) ((c.tc : Thread Cert.DownIdeal.nD Cert.DownIdeal.τ).loc Cert.DownIdeal.main_v2_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2_0) = v0 c
          ∧ r.2.mem ((c.tc : Thread Cert.DownIdeal.nD Cert.DownIdeal.τ).loc Cert.DownIdeal.main_v2_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v5) = v0 c
          ∧ r.2.mem ((c.tc : Thread Cert.DownRefIdeal.nD Cert.DownRefIdeal.τ).loc Cert.DownRefIdeal.main_v6) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)) →
    ∃ (v0 : (c : Dev Cert.AdaIdeal.nD) → Buf (Elt Ideal) ((c.tc : Thread Cert.AdaIdeal.nD Cert.AdaIdeal.τ).loc Cert.AdaIdeal.main_v0_0)) (v1 : (c : Dev Cert.AdaIdeal.nD) → Buf (Elt Ideal) ((c.tc : Thread Cert.AdaIdeal.nD Cert.AdaIdeal.τ).loc Cert.AdaIdeal.main_v0_1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v0_0) = v0 c
          ∧ r.2.mem ((c.tc : Thread Cert.AdaIdeal.nD Cert.AdaIdeal.τ).loc Cert.AdaIdeal.main_v0_1) = v1 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v9) = v0 c
          ∧ r.2.mem ((c.tc : Thread Cert.AdaRefIdeal.nD Cert.AdaRefIdeal.τ).loc Cert.AdaRefIdeal.main_v0) = v1 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1))

def preserves_GateFwd_GateFwdIdeal : Prop :=
  True

def algebraic_GateFwdIdeal_GateFwdRefIdeal [hGateFwdIdeal : Cert.GateFwdIdeal.Facts] [hGateFwdRefIdeal : Cert.GateFwdRefIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg)
    (m' : (ℓ : Loc Cert.GateFwdRefIdeal.nD Cert.GateFwdRefIdeal.τ Cert.GateFwdRefIdeal.sig) → Buf (Elt Ideal) ℓ) (g' : Dev Cert.GateFwdRefIdeal.nD → PrngReg), Pre_GateFwdIdeal m →
    (∀ c : Dev Cert.GateFwdIdeal.nD,
      m' ((c.tc : Thread Cert.GateFwdRefIdeal.nD Cert.GateFwdRefIdeal.τ).loc Cert.GateFwdRefIdeal.main_arg0) = m ((c.tc : Thread Cert.GateFwdIdeal.nD Cert.GateFwdIdeal.τ).loc Cert.GateFwdIdeal.main_arg0)
      ∧ m' ((c.tc : Thread Cert.GateFwdRefIdeal.nD Cert.GateFwdRefIdeal.τ).loc Cert.GateFwdRefIdeal.main_arg1) = m ((c.tc : Thread Cert.GateFwdIdeal.nD Cert.GateFwdIdeal.τ).loc Cert.GateFwdIdeal.main_arg1)
      ∧ m' ((c.tc : Thread Cert.GateFwdRefIdeal.nD Cert.GateFwdRefIdeal.τ).loc Cert.GateFwdRefIdeal.main_arg2) = m ((c.tc : Thread Cert.GateFwdIdeal.nD Cert.GateFwdIdeal.τ).loc Cert.GateFwdIdeal.main_arg2)) →
    ∃ (v0 : (c : Dev Cert.GateFwdIdeal.nD) → Buf (Elt Ideal) ((c.tc : Thread Cert.GateFwdIdeal.nD Cert.GateFwdIdeal.τ).loc Cert.GateFwdIdeal.main_v5_0)) (v1 : (c : Dev Cert.GateFwdIdeal.nD) → Buf (Elt Ideal) ((c.tc : Thread Cert.GateFwdIdeal.nD Cert.GateFwdIdeal.τ).loc Cert.GateFwdIdeal.main_v5_1)),
      θ_run (Cert.GateFwdIdeal.defs (F := Ideal)) (onTc (τ := Cert.GateFwdIdeal.τ) (Cert.GateFwdIdeal.main (F := Ideal))) ⟨m, fun _ => 0, g⟩ (fun r => ∀ c : Dev Cert.GateFwdIdeal.nD,
          r.2.mem ((c.tc : Thread Cert.GateFwdIdeal.nD Cert.GateFwdIdeal.τ).loc Cert.GateFwdIdeal.main_v5_0) = v0 c
          ∧ r.2.mem ((c.tc : Thread Cert.GateFwdIdeal.nD Cert.GateFwdIdeal.τ).loc Cert.GateFwdIdeal.main_v5_1) = v1 c
          ∧ r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
          ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1)
          ∧ r.2.mem ((c.tc : Thread Cert.GateFwdIdeal.nD Cert.GateFwdIdeal.τ).loc Cert.GateFwdIdeal.main_arg2) = m ((c.tc : Thread Cert.GateFwdIdeal.nD Cert.GateFwdIdeal.τ).loc Cert.GateFwdIdeal.main_arg2))
      ∧ θ_run (Cert.GateFwdRefIdeal.defs (F := Ideal)) (onTc (τ := Cert.GateFwdRefIdeal.τ) (Cert.GateFwdRefIdeal.main (F := Ideal))) ⟨m', fun _ => 0, g'⟩ (fun r => ∀ c : Dev Cert.GateFwdRefIdeal.nD,
          r.2.mem ((c.tc : Thread Cert.GateFwdRefIdeal.nD Cert.GateFwdRefIdeal.τ).loc Cert.GateFwdRefIdeal.main_v5) = v0 c
          ∧ r.2.mem ((c.tc : Thread Cert.GateFwdRefIdeal.nD Cert.GateFwdRefIdeal.τ).loc Cert.GateFwdRefIdeal.main_v7) = v1 c
          ∧ r.2.mem ((c.tc : Thread Cert.GateFwdRefIdeal.nD Cert.GateFwdRefIdeal.τ).loc Cert.GateFwdRefIdeal.main_arg0) = m' ((c.tc : Thread Cert.GateFwdRefIdeal.nD Cert.GateFwdRefIdeal.τ).loc Cert.GateFwdRefIdeal.main_arg0)
          ∧ r.2.mem ((c.tc : Thread Cert.GateFwdRefIdeal.nD Cert.GateFwdRefIdeal.τ).loc Cert.GateFwdRefIdeal.main_arg1) = m' ((c.tc : Thread Cert.GateFwdRefIdeal.nD Cert.GateFwdRefIdeal.τ).loc Cert.GateFwdRefIdeal.main_arg1)
          ∧ r.2.mem ((c.tc : Thread Cert.GateFwdRefIdeal.nD Cert.GateFwdRefIdeal.τ).loc Cert.GateFwdRefIdeal.main_arg2) = m' ((c.tc : Thread Cert.GateFwdRefIdeal.nD Cert.GateFwdRefIdeal.τ).loc Cert.GateFwdRefIdeal.main_arg2))

def preserves_ConvIn_ConvInIdeal : Prop :=
  True

def algebraic_ConvInIdeal_ConvInRefIdeal [hConvInIdeal : Cert.ConvInIdeal.Facts] [hConvInRefIdeal : Cert.ConvInRefIdeal.Facts] : Prop :=
  ∀ (m : (ℓ : Loc Cert.ConvInIdeal.nD Cert.ConvInIdeal.τ Cert.ConvInIdeal.sig) → Buf (Elt Ideal) ℓ) (g : Dev Cert.ConvInIdeal.nD → PrngReg)
    (m' : (ℓ : Loc Cert.ConvInRefIdeal.nD Cert.ConvInRefIdeal.τ Cert.ConvInRefIdeal.sig) → Buf (Elt Ideal) ℓ) (g' : Dev Cert.ConvInRefIdeal.nD → PrngReg), Pre_ConvInIdeal m →
    (∀ c : Dev Cert.ConvInIdeal.nD,
      m' ((c.tc : Thread Cert.ConvInRefIdeal.nD Cert.ConvInRefIdeal.τ).loc Cert.ConvInRefIdeal.main_arg0) = m ((c.tc : Thread Cert.ConvInIdeal.nD Cert.ConvInIdeal.τ).loc Cert.ConvInIdeal.main_arg0)
      ∧ m' ((c.tc : Thread Cert.ConvInRefIdeal.nD Cert.ConvInRefIdeal.τ).loc Cert.ConvInRefIdeal.main_arg1) = m ((c.tc : Thread Cert.ConvInIdeal.nD Cert.ConvInIdeal.τ).loc Cert.ConvInIdeal.main_arg1)) →
    ∃ (v0 : (c : Dev Cert.ConvInIdeal.nD) → Buf (Elt Ideal) ((c.tc : Thread Cert.ConvInIdeal.nD Cert.ConvInIdeal.τ).loc Cert.ConvInIdeal.main_v3)),
      θ_run (Cert.ConvInIdeal.defs (F := Ideal)) (onTc (τ := Cert.ConvInIdeal.τ) (Cert.ConvInIdeal.main (F := Ideal))) ⟨m, fun _ => 0, g⟩ (fun r => ∀ c : Dev Cert.ConvInIdeal.nD,
          r.2.mem ((c.tc : Thread Cert.ConvInIdeal.nD Cert.ConvInIdeal.τ).loc Cert.ConvInIdeal.main_v3) = v0 c
          ∧ r.2.mem ((c.tc : Thread Cert.ConvInIdeal.nD Cert.ConvInIdeal.τ).loc Cert.ConvInIdeal.main_arg0) = m ((c.tc : Thread Cert.ConvInIdeal.nD Cert.ConvInIdeal.τ).loc Cert.ConvInIdeal.main_arg0)
          ∧ r.2.mem ((c.tc : Thread Cert.ConvInIdeal.nD Cert.ConvInIdeal.τ).loc Cert.ConvInIdeal.main_arg1) = m ((c.tc : Thread Cert.ConvInIdeal.nD Cert.ConvInIdeal.τ).loc Cert.ConvInIdeal.main_arg1))
      ∧ θ_run (Cert.ConvInRefIdeal.defs (F := Ideal)) (onTc (τ := Cert.ConvInRefIdeal.τ) (Cert.ConvInRefIdeal.main (F := Ideal))) ⟨m', fun _ => 0, g'⟩ (fun r => ∀ c : Dev Cert.ConvInRefIdeal.nD,
          r.2.mem ((c.tc : Thread Cert.ConvInRefIdeal.nD Cert.ConvInRefIdeal.τ).loc Cert.ConvInRefIdeal.main_v2) = v0 c
          ∧ r.2.mem ((c.tc : Thread Cert.ConvInRefIdeal.nD Cert.ConvInRefIdeal.τ).loc Cert.ConvInRefIdeal.main_arg0) = m' ((c.tc : Thread Cert.ConvInRefIdeal.nD Cert.ConvInRefIdeal.τ).loc Cert.ConvInRefIdeal.main_arg0)
          ∧ r.2.mem ((c.tc : Thread Cert.ConvInRefIdeal.nD Cert.ConvInRefIdeal.τ).loc Cert.ConvInRefIdeal.main_arg1) = m' ((c.tc : Thread Cert.ConvInRefIdeal.nD Cert.ConvInRefIdeal.τ).loc Cert.ConvInRefIdeal.main_arg1))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)) →
    ∃ (v0 : (c : Dev Cert.UpDxIdeal.nD) → Buf (Elt Ideal) ((c.tc : Thread Cert.UpDxIdeal.nD Cert.UpDxIdeal.τ).loc Cert.UpDxIdeal.main_v1)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v1) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v5) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v6) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_FoxDx_FoxDxIdeal : Prop :=
  True

def algebraic_FoxDxIdeal_FoxDxRefIdeal [hFoxDxIdeal : Cert.FoxDxIdeal.Facts] [hFoxDxRefIdeal : Cert.FoxDxRefIdeal.Facts] : Prop :=
  ∀ (m : (ℓ : Loc Cert.FoxDxIdeal.nD Cert.FoxDxIdeal.τ Cert.FoxDxIdeal.sig) → Buf (Elt Ideal) ℓ) (g : Dev Cert.FoxDxIdeal.nD → PrngReg)
    (m' : (ℓ : Loc Cert.FoxDxRefIdeal.nD Cert.FoxDxRefIdeal.τ Cert.FoxDxRefIdeal.sig) → Buf (Elt Ideal) ℓ) (g' : Dev Cert.FoxDxRefIdeal.nD → PrngReg), Pre_FoxDxIdeal m →
    (∀ c : Dev Cert.FoxDxIdeal.nD,
      m' ((c.tc : Thread Cert.FoxDxRefIdeal.nD Cert.FoxDxRefIdeal.τ).loc Cert.FoxDxRefIdeal.main_arg0) = m ((c.tc : Thread Cert.FoxDxIdeal.nD Cert.FoxDxIdeal.τ).loc Cert.FoxDxIdeal.main_arg0)
      ∧ m' ((c.tc : Thread Cert.FoxDxRefIdeal.nD Cert.FoxDxRefIdeal.τ).loc Cert.FoxDxRefIdeal.main_arg1) = m ((c.tc : Thread Cert.FoxDxIdeal.nD Cert.FoxDxIdeal.τ).loc Cert.FoxDxIdeal.main_arg1)
      ∧ m' ((c.tc : Thread Cert.FoxDxRefIdeal.nD Cert.FoxDxRefIdeal.τ).loc Cert.FoxDxRefIdeal.main_arg2) = m ((c.tc : Thread Cert.FoxDxIdeal.nD Cert.FoxDxIdeal.τ).loc Cert.FoxDxIdeal.main_arg2)) →
    ∃ (v0 : (c : Dev Cert.FoxDxIdeal.nD) → Buf (Elt Ideal) ((c.tc : Thread Cert.FoxDxIdeal.nD Cert.FoxDxIdeal.τ).loc Cert.FoxDxIdeal.main_v2)),
      θ_run (Cert.FoxDxIdeal.defs (F := Ideal)) (onTc (τ := Cert.FoxDxIdeal.τ) (Cert.FoxDxIdeal.main (F := Ideal))) ⟨m, fun _ => 0, g⟩ (fun r => ∀ c : Dev Cert.FoxDxIdeal.nD,
          r.2.mem ((c.tc : Thread Cert.FoxDxIdeal.nD Cert.FoxDxIdeal.τ).loc Cert.FoxDxIdeal.main_v2) = v0 c
          ∧ r.2.mem ((c.tc : Thread Cert.FoxDxIdeal.nD Cert.FoxDxIdeal.τ).loc Cert.FoxDxIdeal.main_arg0) = m ((c.tc : Thread Cert.FoxDxIdeal.nD Cert.FoxDxIdeal.τ).loc Cert.FoxDxIdeal.main_arg0)
          ∧ r.2.mem ((c.tc : Thread Cert.FoxDxIdeal.nD Cert.FoxDxIdeal.τ).loc Cert.FoxDxIdeal.main_arg1) = m ((c.tc : Thread Cert.FoxDxIdeal.nD Cert.FoxDxIdeal.τ).loc Cert.FoxDxIdeal.main_arg1)
          ∧ r.2.mem ((c.tc : Thread Cert.FoxDxIdeal.nD Cert.FoxDxIdeal.τ).loc Cert.FoxDxIdeal.main_arg2) = m ((c.tc : Thread Cert.FoxDxIdeal.nD Cert.FoxDxIdeal.τ).loc Cert.FoxDxIdeal.main_arg2))
      ∧ θ_run (Cert.FoxDxRefIdeal.defs (F := Ideal)) (onTc (τ := Cert.FoxDxRefIdeal.τ) (Cert.FoxDxRefIdeal.main (F := Ideal))) ⟨m', fun _ => 0, g'⟩ (fun r => ∀ c : Dev Cert.FoxDxRefIdeal.nD,
          r.2.mem ((c.tc : Thread Cert.FoxDxRefIdeal.nD Cert.FoxDxRefIdeal.τ).loc Cert.FoxDxRefIdeal.main_v17) = v0 c
          ∧ r.2.mem ((c.tc : Thread Cert.FoxDxRefIdeal.nD Cert.FoxDxRefIdeal.τ).loc Cert.FoxDxRefIdeal.main_arg0) = m' ((c.tc : Thread Cert.FoxDxRefIdeal.nD Cert.FoxDxRefIdeal.τ).loc Cert.FoxDxRefIdeal.main_arg0)
          ∧ r.2.mem ((c.tc : Thread Cert.FoxDxRefIdeal.nD Cert.FoxDxRefIdeal.τ).loc Cert.FoxDxRefIdeal.main_arg1) = m' ((c.tc : Thread Cert.FoxDxRefIdeal.nD Cert.FoxDxRefIdeal.τ).loc Cert.FoxDxRefIdeal.main_arg1)
          ∧ r.2.mem ((c.tc : Thread Cert.FoxDxRefIdeal.nD Cert.FoxDxRefIdeal.τ).loc Cert.FoxDxRefIdeal.main_arg2) = m' ((c.tc : Thread Cert.FoxDxRefIdeal.nD Cert.FoxDxRefIdeal.τ).loc Cert.FoxDxRefIdeal.main_arg2))

def preserves_LossSum_LossSumIdeal : Prop :=
  True

def algebraic_LossSumIdeal_LossSumRefIdeal [hLossSumIdeal : Cert.LossSumIdeal.Facts] [hLossSumRefIdeal : Cert.LossSumRefIdeal.Facts] : Prop :=
  ∀ (m : (ℓ : Loc Cert.LossSumIdeal.nD Cert.LossSumIdeal.τ Cert.LossSumIdeal.sig) → Buf (Elt Ideal) ℓ) (g : Dev Cert.LossSumIdeal.nD → PrngReg)
    (m' : (ℓ : Loc Cert.LossSumRefIdeal.nD Cert.LossSumRefIdeal.τ Cert.LossSumRefIdeal.sig) → Buf (Elt Ideal) ℓ) (g' : Dev Cert.LossSumRefIdeal.nD → PrngReg), Pre_LossSumIdeal m →
    (∀ c : Dev Cert.LossSumIdeal.nD,
      m' ((c.tc : Thread Cert.LossSumRefIdeal.nD Cert.LossSumRefIdeal.τ).loc Cert.LossSumRefIdeal.main_arg0) = m ((c.tc : Thread Cert.LossSumIdeal.nD Cert.LossSumIdeal.τ).loc Cert.LossSumIdeal.main_arg0)) →
    ∃ (v0 : (c : Dev Cert.LossSumIdeal.nD) → Buf (Elt Ideal) ((c.tc : Thread Cert.LossSumIdeal.nD Cert.LossSumIdeal.τ).loc Cert.LossSumIdeal.main_v0)),
      θ_run (Cert.LossSumIdeal.defs (F := Ideal)) (onTc (τ := Cert.LossSumIdeal.τ) (Cert.LossSumIdeal.main (F := Ideal))) ⟨m, fun _ => 0, g⟩ (fun r => ∀ c : Dev Cert.LossSumIdeal.nD,
          r.2.mem ((c.tc : Thread Cert.LossSumIdeal.nD Cert.LossSumIdeal.τ).loc Cert.LossSumIdeal.main_v0) = v0 c
          ∧ r.2.mem ((c.tc : Thread Cert.LossSumIdeal.nD Cert.LossSumIdeal.τ).loc Cert.LossSumIdeal.main_arg0) = m ((c.tc : Thread Cert.LossSumIdeal.nD Cert.LossSumIdeal.τ).loc Cert.LossSumIdeal.main_arg0))
      ∧ θ_run (Cert.LossSumRefIdeal.defs (F := Ideal)) (onTc (τ := Cert.LossSumRefIdeal.τ) (Cert.LossSumRefIdeal.main (F := Ideal))) ⟨m', fun _ => 0, g'⟩ (fun r => ∀ c : Dev Cert.LossSumRefIdeal.nD,
          r.2.mem ((c.tc : Thread Cert.LossSumRefIdeal.nD Cert.LossSumRefIdeal.τ).loc Cert.LossSumRefIdeal.main_v3) = v0 c
          ∧ r.2.mem ((c.tc : Thread Cert.LossSumRefIdeal.nD Cert.LossSumRefIdeal.τ).loc Cert.LossSumRefIdeal.main_arg0) = m' ((c.tc : Thread Cert.LossSumRefIdeal.nD Cert.LossSumRefIdeal.τ).loc Cert.LossSumRefIdeal.main_arg0))

def preserves_PutRows_PutRowsIdeal : Prop :=
  True

def algebraic_PutRowsIdeal_PutRowsRefIdeal [hPutRowsIdeal : Cert.PutRowsIdeal.Facts] [hPutRowsRefIdeal : Cert.PutRowsRefIdeal.Facts] : Prop :=
  ∀ (m : (ℓ : Loc Cert.PutRowsIdeal.nD Cert.PutRowsIdeal.τ Cert.PutRowsIdeal.sig) → Buf (Elt Ideal) ℓ) (g : Dev Cert.PutRowsIdeal.nD → PrngReg)
    (m' : (ℓ : Loc Cert.PutRowsRefIdeal.nD Cert.PutRowsRefIdeal.τ Cert.PutRowsRefIdeal.sig) → Buf (Elt Ideal) ℓ) (g' : Dev Cert.PutRowsRefIdeal.nD → PrngReg), Pre_PutRowsIdeal m →
    (∀ c : Dev Cert.PutRowsIdeal.nD,
      m' ((c.tc : Thread Cert.PutRowsRefIdeal.nD Cert.PutRowsRefIdeal.τ).loc Cert.PutRowsRefIdeal.main_arg0) = m ((c.tc : Thread Cert.PutRowsIdeal.nD Cert.PutRowsIdeal.τ).loc Cert.PutRowsIdeal.main_arg0)
      ∧ m' ((c.tc : Thread Cert.PutRowsRefIdeal.nD Cert.PutRowsRefIdeal.τ).loc Cert.PutRowsRefIdeal.main_arg1) = m ((c.tc : Thread Cert.PutRowsIdeal.nD Cert.PutRowsIdeal.τ).loc Cert.PutRowsIdeal.main_arg1)) →
    ∃ (v0 : (c : Dev Cert.PutRowsIdeal.nD) → Buf (Elt Ideal) ((c.tc : Thread Cert.PutRowsIdeal.nD Cert.PutRowsIdeal.τ).loc Cert.PutRowsIdeal.main_v0)),
      θ_run (Cert.PutRowsIdeal.defs (F := Ideal)) (onTc (τ := Cert.PutRowsIdeal.τ) (Cert.PutRowsIdeal.main (F := Ideal))) ⟨m, fun _ => 0, g⟩ (fun r => ∀ c : Dev Cert.PutRowsIdeal.nD,
          r.2.mem ((c.tc : Thread Cert.PutRowsIdeal.nD Cert.PutRowsIdeal.τ).loc Cert.PutRowsIdeal.main_v0) = v0 c
          ∧ r.2.mem ((c.tc : Thread Cert.PutRowsIdeal.nD Cert.PutRowsIdeal.τ).loc Cert.PutRowsIdeal.main_arg0) = m ((c.tc : Thread Cert.PutRowsIdeal.nD Cert.PutRowsIdeal.τ).loc Cert.PutRowsIdeal.main_arg0)
          ∧ r.2.mem ((c.tc : Thread Cert.PutRowsIdeal.nD Cert.PutRowsIdeal.τ).loc Cert.PutRowsIdeal.main_arg1) = m ((c.tc : Thread Cert.PutRowsIdeal.nD Cert.PutRowsIdeal.τ).loc Cert.PutRowsIdeal.main_arg1))
      ∧ θ_run (Cert.PutRowsRefIdeal.defs (F := Ideal)) (onTc (τ := Cert.PutRowsRefIdeal.τ) (Cert.PutRowsRefIdeal.main (F := Ideal))) ⟨m', fun _ => 0, g'⟩ (fun r => ∀ c : Dev Cert.PutRowsRefIdeal.nD,
          r.2.mem ((c.tc : Thread Cert.PutRowsRefIdeal.nD Cert.PutRowsRefIdeal.τ).loc Cert.PutRowsRefIdeal.main_v2) = v0 c
          ∧ r.2.mem ((c.tc : Thread Cert.PutRowsRefIdeal.nD Cert.PutRowsRefIdeal.τ).loc Cert.PutRowsRefIdeal.main_arg0) = m' ((c.tc : Thread Cert.PutRowsRefIdeal.nD Cert.PutRowsRefIdeal.τ).loc Cert.PutRowsRefIdeal.main_arg0)
          ∧ r.2.mem ((c.tc : Thread Cert.PutRowsRefIdeal.nD Cert.PutRowsRefIdeal.τ).loc Cert.PutRowsRefIdeal.main_arg1) = m' ((c.tc : Thread Cert.PutRowsRefIdeal.nD Cert.PutRowsRefIdeal.τ).loc Cert.PutRowsRefIdeal.main_arg1))

def preserves_Small_SmallIdeal : Prop :=
  True

def algebraic_SmallIdeal_SmallRefIdeal [hSmallIdeal : Cert.SmallIdeal.Facts] [hSmallRefIdeal : Cert.SmallRefIdeal.Facts] : Prop :=
  ∀ (m : (ℓ : Loc Cert.SmallIdeal.nD Cert.SmallIdeal.τ Cert.SmallIdeal.sig) → Buf (Elt Ideal) ℓ) (g : Dev Cert.SmallIdeal.nD → PrngReg)
    (m' : (ℓ : Loc Cert.SmallRefIdeal.nD Cert.SmallRefIdeal.τ Cert.SmallRefIdeal.sig) → Buf (Elt Ideal) ℓ) (g' : Dev Cert.SmallRefIdeal.nD → PrngReg), Pre_SmallIdeal m →
    (∀ c : Dev Cert.SmallIdeal.nD,
      m' ((c.tc : Thread Cert.SmallRefIdeal.nD Cert.SmallRefIdeal.τ).loc Cert.SmallRefIdeal.main_arg0) = m ((c.tc : Thread Cert.SmallIdeal.nD Cert.SmallIdeal.τ).loc Cert.SmallIdeal.main_arg0)
      ∧ m' ((c.tc : Thread Cert.SmallRefIdeal.nD Cert.SmallRefIdeal.τ).loc Cert.SmallRefIdeal.main_arg1) = m ((c.tc : Thread Cert.SmallIdeal.nD Cert.SmallIdeal.τ).loc Cert.SmallIdeal.main_arg1)
      ∧ m' ((c.tc : Thread Cert.SmallRefIdeal.nD Cert.SmallRefIdeal.τ).loc Cert.SmallRefIdeal.main_arg2) = m ((c.tc : Thread Cert.SmallIdeal.nD Cert.SmallIdeal.τ).loc Cert.SmallIdeal.main_arg2)
      ∧ m' ((c.tc : Thread Cert.SmallRefIdeal.nD Cert.SmallRefIdeal.τ).loc Cert.SmallRefIdeal.main_arg3) = m ((c.tc : Thread Cert.SmallIdeal.nD Cert.SmallIdeal.τ).loc Cert.SmallIdeal.main_arg3)) →
    ∃ (v0 : (c : Dev Cert.SmallIdeal.nD) → Buf (Elt Ideal) ((c.tc : Thread Cert.SmallIdeal.nD Cert.SmallIdeal.τ).loc Cert.SmallIdeal.main_v0_0)) (v1 : (c : Dev Cert.SmallIdeal.nD) → Buf (Elt Ideal) ((c.tc : Thread Cert.SmallIdeal.nD Cert.SmallIdeal.τ).loc Cert.SmallIdeal.main_v0_1)) (v2 : (c : Dev Cert.SmallIdeal.nD) → Buf (Elt Ideal) ((c.tc : Thread Cert.SmallIdeal.nD Cert.SmallIdeal.τ).loc Cert.SmallIdeal.main_v0_2)) (v3 : (c : Dev Cert.SmallIdeal.nD) → Buf (Elt Ideal) ((c.tc : Thread Cert.SmallIdeal.nD Cert.SmallIdeal.τ).loc Cert.SmallIdeal.main_v0_3)),
      θ_run (Cert.SmallIdeal.defs (F := Ideal)) (onTc (τ := Cert.SmallIdeal.τ) (Cert.SmallIdeal.main (F := Ideal))) ⟨m, fun _ => 0, g⟩ (fun r => ∀ c : Dev Cert.SmallIdeal.nD,
          r.2.mem ((c.tc : Thread Cert.SmallIdeal.nD Cert.SmallIdeal.τ).loc Cert.SmallIdeal.main_v0_0) = v0 c
          ∧ r.2.mem ((c.tc : Thread Cert.SmallIdeal.nD Cert.SmallIdeal.τ).loc Cert.SmallIdeal.main_v0_1) = v1 c
          ∧ r.2.mem ((c.tc : Thread Cert.SmallIdeal.nD Cert.SmallIdeal.τ).loc Cert.SmallIdeal.main_v0_2) = v2 c
          ∧ r.2.mem ((c.tc : Thread Cert.SmallIdeal.nD Cert.SmallIdeal.τ).loc Cert.SmallIdeal.main_v0_3) = v3 c
          ∧ r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
          ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
          ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
          ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3))
      ∧ θ_run (Cert.SmallRefIdeal.defs (F := Ideal)) (onTc (τ := Cert.SmallRefIdeal.τ) (Cert.SmallRefIdeal.main (F := Ideal))) ⟨m', fun _ => 0, g'⟩ (fun r => ∀ c : Dev Cert.SmallRefIdeal.nD,
          r.2.mem ((c.tc : Thread Cert.SmallRefIdeal.nD Cert.SmallRefIdeal.τ).loc Cert.SmallRefIdeal.main_v5) = v0 c
          ∧ r.2.mem ((c.tc : Thread Cert.SmallRefIdeal.nD Cert.SmallRefIdeal.τ).loc Cert.SmallRefIdeal.main_v29) = v1 c
          ∧ r.2.mem ((c.tc : Thread Cert.SmallRefIdeal.nD Cert.SmallRefIdeal.τ).loc Cert.SmallRefIdeal.main_v10) = v2 c
          ∧ r.2.mem ((c.tc : Thread Cert.SmallRefIdeal.nD Cert.SmallRefIdeal.τ).loc Cert.SmallRefIdeal.main_v16) = v3 c
          ∧ r.2.mem ((c.tc : Thread Cert.SmallRefIdeal.nD Cert.SmallRefIdeal.τ).loc Cert.SmallRefIdeal.main_arg0) = m' ((c.tc : Thread Cert.SmallRefIdeal.nD Cert.SmallRefIdeal.τ).loc Cert.SmallRefIdeal.main_arg0)
          ∧ r.2.mem ((c.tc : Thread Cert.SmallRefIdeal.nD Cert.SmallRefIdeal.τ).loc Cert.SmallRefIdeal.main_arg1) = m' ((c.tc : Thread Cert.SmallRefIdeal.nD Cert.SmallRefIdeal.τ).loc Cert.SmallRefIdeal.main_arg1)
          ∧ r.2.mem ((c.tc : Thread Cert.SmallRefIdeal.nD Cert.SmallRefIdeal.τ).loc Cert.SmallRefIdeal.main_arg2) = m' ((c.tc : Thread Cert.SmallRefIdeal.nD Cert.SmallRefIdeal.τ).loc Cert.SmallRefIdeal.main_arg2)
          ∧ r.2.mem ((c.tc : Thread Cert.SmallRefIdeal.nD Cert.SmallRefIdeal.τ).loc Cert.SmallRefIdeal.main_arg3) = m' ((c.tc : Thread Cert.SmallRefIdeal.nD Cert.SmallRefIdeal.τ).loc Cert.SmallRefIdeal.main_arg3))

def Claim : Prop :=
  ∃ (hConv : Cert.Conv.Facts) (hConvIdeal : Cert.ConvIdeal.Facts) (hConvRefIdeal : Cert.ConvRefIdeal.Facts) (hFgate : Cert.Fgate.Facts) (hFgateIdeal : Cert.FgateIdeal.Facts) (hFgateRefIdeal : Cert.FgateRefIdeal.Facts) (hAttn : Cert.Attn.Facts) (hAttnIdeal : Cert.AttnIdeal.Facts) (hAttnRefIdeal : Cert.AttnRefIdeal.Facts) (hRelu2 : Cert.Relu2.Facts) (hRelu2Ideal : Cert.Relu2Ideal.Facts) (hRelu2RefIdeal : Cert.Relu2RefIdeal.Facts) (hNorm : Cert.Norm.Facts) (hNormIdeal : Cert.NormIdeal.Facts) (hNormRefIdeal : Cert.NormRefIdeal.Facts) (hNorm0 : Cert.Norm0.Facts) (hNorm0Ideal : Cert.Norm0Ideal.Facts) (hNorm0RefIdeal : Cert.Norm0RefIdeal.Facts) (hLoss : Cert.Loss.Facts) (hLossIdeal : Cert.LossIdeal.Facts) (hLossRefIdeal : Cert.LossRefIdeal.Facts) (hConvFwd : Cert.ConvFwd.Facts) (hConvFwdIdeal : Cert.ConvFwdIdeal.Facts) (hConvFwdRefIdeal : Cert.ConvFwdRefIdeal.Facts) (hNormFwd : Cert.NormFwd.Facts) (hNormFwdIdeal : Cert.NormFwdIdeal.Facts) (hNormFwdRefIdeal : Cert.NormFwdRefIdeal.Facts) (hOut : Cert.Out.Facts) (hOutIdeal : Cert.OutIdeal.Facts) (hOutRefIdeal : Cert.OutRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hAda : Cert.Ada.Facts) (hAdaIdeal : Cert.AdaIdeal.Facts) (hAdaRefIdeal : Cert.AdaRefIdeal.Facts) (hGateFwd : Cert.GateFwd.Facts) (hGateFwdIdeal : Cert.GateFwdIdeal.Facts) (hGateFwdRefIdeal : Cert.GateFwdRefIdeal.Facts) (hConvIn : Cert.ConvIn.Facts) (hConvInIdeal : Cert.ConvInIdeal.Facts) (hConvInRefIdeal : Cert.ConvInRefIdeal.Facts) (hUpDx : Cert.UpDx.Facts) (hUpDxIdeal : Cert.UpDxIdeal.Facts) (hUpDxRefIdeal : Cert.UpDxRefIdeal.Facts) (hDownDw : Cert.DownDw.Facts) (hDownDwIdeal : Cert.DownDwIdeal.Facts) (hDownDwRefIdeal : Cert.DownDwRefIdeal.Facts) (hFoxDx : Cert.FoxDx.Facts) (hFoxDxIdeal : Cert.FoxDxIdeal.Facts) (hFoxDxRefIdeal : Cert.FoxDxRefIdeal.Facts) (hLossSum : Cert.LossSum.Facts) (hLossSumIdeal : Cert.LossSumIdeal.Facts) (hLossSumRefIdeal : Cert.LossSumRefIdeal.Facts) (hPutRows : Cert.PutRows.Facts) (hPutRowsIdeal : Cert.PutRowsIdeal.Facts) (hPutRowsRefIdeal : Cert.PutRowsRefIdeal.Facts) (hSmall : Cert.Small.Facts) (hSmallIdeal : Cert.SmallIdeal.Facts) (hSmallRefIdeal : Cert.SmallRefIdeal.Facts) (hPre_attn_finite : Cert.Pre_attn_finite.Facts),
    quiescent_Conv (hConv := hConv)
    ∧ quiescent_ConvIdeal (hConvIdeal := hConvIdeal)
    ∧ quiescent_ConvRefIdeal (hConvRefIdeal := hConvRefIdeal)
    ∧ quiescent_Fgate (hFgate := hFgate)
    ∧ quiescent_FgateIdeal (hFgateIdeal := hFgateIdeal)
    ∧ quiescent_FgateRefIdeal (hFgateRefIdeal := hFgateRefIdeal)
    ∧ quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_Relu2 (hRelu2 := hRelu2)
    ∧ quiescent_Relu2Ideal (hRelu2Ideal := hRelu2Ideal)
    ∧ quiescent_Relu2RefIdeal (hRelu2RefIdeal := hRelu2RefIdeal)
    ∧ quiescent_Norm (hNorm := hNorm)
    ∧ quiescent_NormIdeal (hNormIdeal := hNormIdeal)
    ∧ quiescent_NormRefIdeal (hNormRefIdeal := hNormRefIdeal)
    ∧ quiescent_Norm0 (hNorm0 := hNorm0)
    ∧ quiescent_Norm0Ideal (hNorm0Ideal := hNorm0Ideal)
    ∧ quiescent_Norm0RefIdeal (hNorm0RefIdeal := hNorm0RefIdeal)
    ∧ quiescent_Loss (hLoss := hLoss)
    ∧ quiescent_LossIdeal (hLossIdeal := hLossIdeal)
    ∧ quiescent_LossRefIdeal (hLossRefIdeal := hLossRefIdeal)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ quiescent_Out (hOut := hOut)
    ∧ quiescent_OutIdeal (hOutIdeal := hOutIdeal)
    ∧ quiescent_OutRefIdeal (hOutRefIdeal := hOutRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Ada (hAda := hAda)
    ∧ quiescent_AdaIdeal (hAdaIdeal := hAdaIdeal)
    ∧ quiescent_AdaRefIdeal (hAdaRefIdeal := hAdaRefIdeal)
    ∧ quiescent_GateFwd (hGateFwd := hGateFwd)
    ∧ quiescent_GateFwdIdeal (hGateFwdIdeal := hGateFwdIdeal)
    ∧ quiescent_GateFwdRefIdeal (hGateFwdRefIdeal := hGateFwdRefIdeal)
    ∧ quiescent_ConvIn (hConvIn := hConvIn)
    ∧ quiescent_ConvInIdeal (hConvInIdeal := hConvInIdeal)
    ∧ quiescent_ConvInRefIdeal (hConvInRefIdeal := hConvInRefIdeal)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_FoxDx (hFoxDx := hFoxDx)
    ∧ quiescent_FoxDxIdeal (hFoxDxIdeal := hFoxDxIdeal)
    ∧ quiescent_FoxDxRefIdeal (hFoxDxRefIdeal := hFoxDxRefIdeal)
    ∧ quiescent_LossSum (hLossSum := hLossSum)
    ∧ quiescent_LossSumIdeal (hLossSumIdeal := hLossSumIdeal)
    ∧ quiescent_LossSumRefIdeal (hLossSumRefIdeal := hLossSumRefIdeal)
    ∧ quiescent_PutRows (hPutRows := hPutRows)
    ∧ quiescent_PutRowsIdeal (hPutRowsIdeal := hPutRowsIdeal)
    ∧ quiescent_PutRowsRefIdeal (hPutRowsRefIdeal := hPutRowsRefIdeal)
    ∧ quiescent_Small (hSmall := hSmall)
    ∧ quiescent_SmallIdeal (hSmallIdeal := hSmallIdeal)
    ∧ quiescent_SmallRefIdeal (hSmallRefIdeal := hSmallRefIdeal)
    ∧ preserves_Conv_ConvIdeal
    ∧ algebraic_ConvIdeal_ConvRefIdeal (hConvIdeal := hConvIdeal) (hConvRefIdeal := hConvRefIdeal)
    ∧ preserves_Fgate_FgateIdeal
    ∧ algebraic_FgateIdeal_FgateRefIdeal (hFgateIdeal := hFgateIdeal) (hFgateRefIdeal := hFgateRefIdeal)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_Relu2_Relu2Ideal
    ∧ algebraic_Relu2Ideal_Relu2RefIdeal (hRelu2Ideal := hRelu2Ideal) (hRelu2RefIdeal := hRelu2RefIdeal)
    ∧ preserves_Norm_NormIdeal
    ∧ algebraic_NormIdeal_NormRefIdeal (hNormIdeal := hNormIdeal) (hNormRefIdeal := hNormRefIdeal)
    ∧ preserves_Norm0_Norm0Ideal
    ∧ algebraic_Norm0Ideal_Norm0RefIdeal (hNorm0Ideal := hNorm0Ideal) (hNorm0RefIdeal := hNorm0RefIdeal)
    ∧ preserves_Loss_LossIdeal
    ∧ algebraic_LossIdeal_LossRefIdeal (hLossIdeal := hLossIdeal) (hLossRefIdeal := hLossRefIdeal)
    ∧ preserves_ConvFwd_ConvFwdIdeal
    ∧ algebraic_ConvFwdIdeal_ConvFwdRefIdeal (hConvFwdIdeal := hConvFwdIdeal) (hConvFwdRefIdeal := hConvFwdRefIdeal)
    ∧ preserves_NormFwd_NormFwdIdeal
    ∧ algebraic_NormFwdIdeal_NormFwdRefIdeal (hNormFwdIdeal := hNormFwdIdeal) (hNormFwdRefIdeal := hNormFwdRefIdeal)
    ∧ preserves_Out_OutIdeal
    ∧ algebraic_OutIdeal_OutRefIdeal (hOutIdeal := hOutIdeal) (hOutRefIdeal := hOutRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Ada_AdaIdeal
    ∧ algebraic_AdaIdeal_AdaRefIdeal (hAdaIdeal := hAdaIdeal) (hAdaRefIdeal := hAdaRefIdeal)
    ∧ preserves_GateFwd_GateFwdIdeal
    ∧ algebraic_GateFwdIdeal_GateFwdRefIdeal (hGateFwdIdeal := hGateFwdIdeal) (hGateFwdRefIdeal := hGateFwdRefIdeal)
    ∧ preserves_ConvIn_ConvInIdeal
    ∧ algebraic_ConvInIdeal_ConvInRefIdeal (hConvInIdeal := hConvInIdeal) (hConvInRefIdeal := hConvInRefIdeal)
    ∧ preserves_UpDx_UpDxIdeal
    ∧ algebraic_UpDxIdeal_UpDxRefIdeal (hUpDxIdeal := hUpDxIdeal) (hUpDxRefIdeal := hUpDxRefIdeal)
    ∧ preserves_DownDw_DownDwIdeal
    ∧ algebraic_DownDwIdeal_DownDwRefIdeal (hDownDwIdeal := hDownDwIdeal) (hDownDwRefIdeal := hDownDwRefIdeal)
    ∧ preserves_FoxDx_FoxDxIdeal
    ∧ algebraic_FoxDxIdeal_FoxDxRefIdeal (hFoxDxIdeal := hFoxDxIdeal) (hFoxDxRefIdeal := hFoxDxRefIdeal)
    ∧ preserves_LossSum_LossSumIdeal
    ∧ algebraic_LossSumIdeal_LossSumRefIdeal (hLossSumIdeal := hLossSumIdeal) (hLossSumRefIdeal := hLossSumRefIdeal)
    ∧ preserves_PutRows_PutRowsIdeal
    ∧ algebraic_PutRowsIdeal_PutRowsRefIdeal (hPutRowsIdeal := hPutRowsIdeal) (hPutRowsRefIdeal := hPutRowsRefIdeal)
    ∧ preserves_Small_SmallIdeal
    ∧ algebraic_SmallIdeal_SmallRefIdeal (hSmallIdeal := hSmallIdeal) (hSmallRefIdeal := hSmallRefIdeal)
-- ==== Pre_attn_finite.lean ====
abbrev S4096x6144 : Shape := ⟨2, ![4096, 6144]⟩
abbrev S4096x16 : Shape := ⟨2, ![4096, 16]⟩
abbrev S4096x2048 : Shape := ⟨2, ![4096, 2048]⟩
abbrev S_ : Shape := ⟨0, ![]⟩

class Facts : Prop where
  bcast_S_S4096x6144 : S_.BroadcastsInDim S4096x6144 (![] : Fin 0 → Fin S4096x6144.rank)
  bcast_S_S4096x16 : S_.BroadcastsInDim S4096x16 (![] : Fin 0 → Fin S4096x16.rank)
  bcast_S_S4096x2048 : S_.BroadcastsInDim S4096x2048 (![] : Fin 0 → Fin S4096x2048.rank)

variable [Facts]

def fn {F : FTy → Type} [FloatOps F] (main_arg0 : FVec F S4096x6144 .bf16) (main_arg1 : FVec F S4096x16 .f32) (main_arg2 : FVec F S4096x2048 .bf16) : IVec S4096x6144 1 × IVec S4096x16 1 × IVec S4096x2048 1 :=
  let main_v0 : FVec F S4096x6144 .bf16 := Host.absf main_arg0
  let main_cst : FVec F S_ .bf16 := constant S_ .bf16 0x7F80#16
  let main_v1 : FVec F S4096x6144 .bf16 := broadcastInDim S4096x6144 ![] bcast_S_S4096x6144 main_cst
  let main_v2 : IVec S4096x6144 1 := cmpf .olt main_v0 main_v1
  let main_v3 : FVec F S4096x16 .f32 := Host.absf main_arg1
  let main_cst_0 : FVec F S_ .f32 := constant S_ .f32 0x7F800000#32
  let main_v4 : FVec F S4096x16 .f32 := broadcastInDim S4096x16 ![] bcast_S_S4096x16 main_cst_0
  let main_v5 : IVec S4096x16 1 := cmpf .olt main_v3 main_v4
  let main_v6 : FVec F S4096x2048 .bf16 := Host.absf main_arg2
  let main_cst_1 : FVec F S_ .bf16 := constant S_ .bf16 0x7F80#16
  let main_v7 : FVec F S4096x2048 .bf16 := broadcastInDim S4096x2048 ![] bcast_S_S4096x2048 main_cst_1
  let main_v8 : IVec S4096x2048 1 := cmpf .olt main_v6 main_v7
  (main_v2, main_v5, main_v8)
-- ==== Conv.lean ====
abbrev S4096x6144 : Shape := ⟨2, ![4096, 6144]⟩
abbrev S3x2048 : Shape := ⟨2, ![3, 2048]⟩
abbrev S4096x2048 : Shape := ⟨2, ![4096, 2048]⟩
abbrev S3x4096x2048 : Shape := ⟨3, ![3, 4096, 2048]⟩
abbrev S8x2048 : Shape := ⟨2, ![8, 2048]⟩
abbrev S4096x128 : Shape := ⟨2, ![4096, 128]⟩
abbrev S3x128 : Shape := ⟨2, ![3, 128]⟩
abbrev S3x4096x128 : Shape := ⟨3, ![3, 4096, 128]⟩
abbrev S8x128 : Shape := ⟨2, ![8, 128]⟩
abbrev S1x128 : Shape := ⟨2, ![1, 128]⟩
abbrev S1x4096x128 : Shape := ⟨3, ![1, 4096, 128]⟩
abbrev S128 : Shape := ⟨1, ![128]⟩

abbrev nBuf : Space → Nat
  | .hbm => 5
  | .vmem => 14
  | .smem => 0
  | _ => 0

abbrev bufTy : (tb : Table) → Fin (tcTables nBuf tb) → BufTy
  | .hbm, ⟨0, _⟩ => ⟨S4096x6144, .bf16⟩
  | .hbm, ⟨1, _⟩ => ⟨S3x2048, .f32⟩
  | .hbm, ⟨2, _⟩ => ⟨S4096x2048, .bf16⟩
  | .hbm, ⟨3, _⟩ => ⟨S3x4096x2048, .bf16⟩
  | .hbm, ⟨4, _⟩ => ⟨S8x2048, .f32⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S3x128, .f32⟩
  | .local _ .vmem, ⟨7, _⟩ => ⟨S3x128, .f32⟩
  | .local _ .vmem, ⟨8, _⟩ => ⟨S4096x128, .bf16⟩
  | .local _ .vmem, ⟨9, _⟩ => ⟨S4096x128, .bf16⟩
  | .local _ .vmem, ⟨10, _⟩ => ⟨S3x4096x128, .bf16⟩
  | .local _ .vmem, ⟨11, _⟩ => ⟨S3x4096x128, .bf16⟩
  | .local _ .vmem, ⟨12, _⟩ => ⟨S8x128, .f32⟩
  | .local _ .vmem, ⟨13, _⟩ => ⟨S8x128, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ConvRefIdeal.lean ====
abbrev S4096x6144 : Shape := ⟨2, ![4096, 6144]⟩
abbrev S3x2048 : Shape := ⟨2, ![3, 2048]⟩
abbrev S4096x2048 : Shape := ⟨2, ![4096, 2048]⟩
abbrev S_ : Shape := ⟨0, ![]⟩
abbrev S2x2048 : Shape := ⟨2, ![2, 2048]⟩
abbrev S4098x2048 : Shape := ⟨2, ![4098, 2048]⟩
abbrev S1x2048 : Shape := ⟨2, ![1, 2048]⟩
abbrev S2048 : Shape := ⟨1, ![2048]⟩
abbrev S4096x3x2048 : Shape := ⟨3, ![4096, 3, 2048]⟩
abbrev S3x4096x2048 : Shape := ⟨3, ![3, 4096, 2048]⟩
abbrev S8x2048 : Shape := ⟨2, ![8, 2048]⟩

abbrev nBuf : Space → Nat
  | .hbm => 94
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S3x2048, .f32⟩
  | .hbm, ⟨2, _⟩ => ⟨S4096x2048, .bf16⟩
  | .hbm, ⟨3, _⟩ => ⟨S4096x6144, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S2x2048, .f32⟩
  | .hbm, ⟨10, _⟩ => ⟨S4098x2048, .f32⟩
  | .hbm, ⟨11, _⟩ => ⟨S_, .f32⟩
  | .hbm, ⟨12, _⟩ => ⟨S2x2048, .f32⟩
  | .hbm, ⟨13, _⟩ => ⟨S1x2048, .f32⟩
  | .hbm, ⟨14, _⟩ => ⟨S2048, .f32⟩
  | .hbm, ⟨15, _⟩ => ⟨S4096x2048, .f32⟩
  | .hbm, ⟨16, _⟩ => ⟨S1x2048, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S1x2048, .f32⟩
  | .hbm, ⟨23, _⟩ => ⟨S2048, .f32⟩
  | .hbm, ⟨24, _⟩ => ⟨S4096x2048, .f32⟩
  | .hbm, ⟨25, _⟩ => ⟨S1x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S1x2048, .f32⟩
  | .hbm, ⟨30, _⟩ => ⟨S2048, .f32⟩
  | .hbm, ⟨31, _⟩ => ⟨S4096x2048, .f32⟩
  | .hbm, ⟨32, _⟩ => ⟨S1x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S_, .f32⟩
  | .hbm, ⟨44, _⟩ => ⟨S2048, .f32⟩
  | .hbm, ⟨45, _⟩ => ⟨S1x2048, .f32⟩
  | .hbm, ⟨46, _⟩ => ⟨S_, .f32⟩
  | .hbm, ⟨47, _⟩ => ⟨S2048, .f32⟩
  | .hbm, ⟨48, _⟩ => ⟨S_, .f32⟩
  | .hbm, ⟨49, _⟩ => ⟨S4098x2048, .f32⟩
  | .hbm, ⟨50, _⟩ => ⟨S1x2048, .f32⟩
  | .hbm, ⟨51, _⟩ => ⟨S_, .f32⟩
  | .hbm, ⟨52, _⟩ => ⟨S3x2048, .f32⟩
  | .hbm, ⟨53, _⟩ => ⟨S4096x2048, .f32⟩
  | .hbm, ⟨54, _⟩ => ⟨S4096x2048, .f32⟩
  | .hbm, ⟨55, _⟩ => ⟨S4096x2048, .f32⟩
  | .hbm, ⟨56, _⟩ => ⟨S_, .f32⟩
  | .hbm, ⟨57, _⟩ => ⟨S2048, .f32⟩
  | .hbm, ⟨58, _⟩ => ⟨S1x2048, .f32⟩
  | .hbm, ⟨59, _⟩ => ⟨S_, .f32⟩
  | .hbm, ⟨60, _⟩ => ⟨S2048, .f32⟩
  | .hbm, ⟨61, _⟩ => ⟨S_, .f32⟩
  | .hbm, ⟨62, _⟩ => ⟨S4098x2048, .f32⟩
  | .hbm, ⟨63, _⟩ => ⟨S4098x2048, .f32⟩
  | .hbm, ⟨64, _⟩ => ⟨S1x2048, .f32⟩
  | .hbm, ⟨65, _⟩ => ⟨S_, .f32⟩
  | .hbm, ⟨66, _⟩ => ⟨S3x2048, .f32⟩
  | .hbm, ⟨67, _⟩ => ⟨S3x2048, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S_, .f32⟩
  | .hbm, ⟨72, _⟩ => ⟨S2048, .f32⟩
  | .hbm, ⟨73, _⟩ => ⟨S1x2048, .f32⟩
  | .hbm, ⟨74, _⟩ => ⟨S_, .f32⟩
  | .hbm, ⟨75, _⟩ => ⟨S2048, .f32⟩
  | .hbm, ⟨76, _⟩ => ⟨S_, .f32⟩
  | .hbm, ⟨77, _⟩ => ⟨S4098x2048, .f32⟩
  | .hbm, ⟨78, _⟩ => ⟨S4098x2048, .f32⟩
  | .hbm, ⟨79, _⟩ => ⟨S1x2048, .f32⟩
  | .hbm, ⟨80, _⟩ => ⟨S_, .f32⟩
  | .hbm, ⟨81, _⟩ => ⟨S3x2048, .f32⟩
  | .hbm, ⟨82, _⟩ => ⟨S3x2048, .f32⟩
  | .hbm, ⟨83, _⟩ => ⟨S2x2048, .f32⟩
  | .hbm, ⟨84, _⟩ => ⟨S4096x2048, .f32⟩
  | .hbm, ⟨85, _⟩ => ⟨S4096x2048, .f32⟩
  | .hbm, ⟨86, _⟩ => ⟨S4096x2048, .f32⟩
  | .hbm, ⟨87, _⟩ => ⟨S4096x6144, .f32⟩
  | .hbm, ⟨88, _⟩ => ⟨S4096x3x2048, .f32⟩
  | .hbm, ⟨89, _⟩ => ⟨S3x4096x2048, .f32⟩
  | .hbm, ⟨90, _⟩ => ⟨S3x4096x2048, .bf16⟩
  | .hbm, ⟨91, _⟩ => ⟨S_, .i32⟩
  | .hbm, ⟨92, _⟩ => ⟨S_, .f32⟩
  | .hbm, ⟨93, _⟩ => ⟨S8x2048, .f32⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_cst_2 : Ref sig .tc := ⟨.hbm, 43, rfl⟩
abbrev main_v37 : Ref sig .tc := ⟨.hbm, 44, rfl⟩
abbrev main_v38 : Ref sig .tc := ⟨.hbm, 45, rfl⟩
abbrev main_cst_3 : Ref sig .tc := ⟨.hbm, 46, rfl⟩
abbrev main_v39 : Ref sig .tc := ⟨.hbm, 47, rfl⟩
abbrev main_cst_4 : Ref sig .tc := ⟨.hbm, 48, rfl⟩
abbrev main_v40 : Ref sig .tc := ⟨.hbm, 49, rfl⟩
abbrev main_v41 : Ref sig .tc := ⟨.hbm, 50, rfl⟩
abbrev main_cst_5 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst_6 : Ref sig .tc := ⟨.hbm, 56, rfl⟩
abbrev main_v46 : Ref sig .tc := ⟨.hbm, 57, rfl⟩
abbrev main_v47 : Ref sig .tc := ⟨.hbm, 58, rfl⟩
abbrev main_cst_7 : Ref sig .tc := ⟨.hbm, 59, rfl⟩
abbrev main_v48 : Ref sig .tc := ⟨.hbm, 60, rfl⟩
abbrev main_cst_8 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_9 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_10 : Ref sig .tc := ⟨.hbm, 71, rfl⟩
abbrev main_v57 : Ref sig .tc := ⟨.hbm, 72, rfl⟩
abbrev main_v58 : Ref sig .tc := ⟨.hbm, 73, rfl⟩
abbrev main_cst_11 : Ref sig .tc := ⟨.hbm, 74, rfl⟩
abbrev main_v59 : Ref sig .tc := ⟨.hbm, 75, rfl⟩
abbrev main_cst_12 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_13 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_c : Ref sig .tc := ⟨.hbm, 91, rfl⟩
abbrev main_call0_v0 : Ref sig .tc := ⟨.hbm, 92, rfl⟩
abbrev main_v73 : Ref sig .tc := ⟨.hbm, 93, rfl⟩

abbrev nD : Nat := 1
abbrev τ : Topo := Topo.v7x

variable {F : FTy → Type} [FloatOps F]
-- ==== Fgate.lean ====
abbrev S4096x2048 : Shape := ⟨2, ![4096, 2048]⟩
abbrev S2048x16 : Shape := ⟨2, ![2048, 16]⟩
abbrev S16 : Shape := ⟨1, ![16]⟩
abbrev S4096x16 : Shape := ⟨2, ![4096, 16]⟩
abbrev S16x2048 : Shape := ⟨2, ![16, 2048]⟩
abbrev S_ : Shape := ⟨0, ![]⟩
abbrev S128x2048 : Shape := ⟨2, ![128, 2048]⟩
abbrev S1x16 : Shape := ⟨2, ![1, 16]⟩
abbrev S1x128 : Shape := ⟨2, ![1, 128]⟩
abbrev S4096x128 : Shape := ⟨2, ![4096, 128]⟩
abbrev S256x2048 : Shape := ⟨2, ![256, 2048]⟩
abbrev S256x128 : Shape := ⟨2, ![256, 128]⟩
abbrev S8x128 : Shape := ⟨2, ![8, 128]⟩
abbrev S256x256 : Shape := ⟨2, ![256, 256]⟩
abbrev S128 : Shape := ⟨1, ![128]⟩

abbrev nBuf : Space → Nat
  | .hbm => 24
  | .vmem => 19
  | .smem => 0
  | _ => 0

abbrev bufTy : (tb : Table) → Fin (tcTables nBuf tb) → BufTy
  | .hbm, ⟨0, _⟩ => ⟨S4096x2048, .bf16⟩
  | .hbm, ⟨1, _⟩ => ⟨S2048x16, .f32⟩
  | .hbm, ⟨2, _⟩ => ⟨S16, .f32⟩
  | .hbm, ⟨3, _⟩ => ⟨S4096x16, .f32⟩
  | .hbm, ⟨4, _⟩ => ⟨S4096x16, .f32⟩
  | .hbm, ⟨5, _⟩ => ⟨S2048x16, .bf16⟩
  | .hbm, ⟨6, _⟩ => ⟨S16x2048, .bf16⟩
  | .hbm, ⟨7, _⟩ => ⟨S_, .i32⟩
  | .hbm, ⟨8, _⟩ => ⟨S_, .bf16⟩
  | .hbm, ⟨9, _⟩ => ⟨S128x2048, .bf16⟩
  | .hbm, ⟨10, _⟩ => ⟨S1x16, .f32⟩
  | .hbm, ⟨11, _⟩ => ⟨S_, .i32⟩
  | .hbm, ⟨12, _⟩ => ⟨S_, .f32⟩
  | .hbm, ⟨13, _⟩ => ⟨S1x128, .f32⟩
  | .hbm, ⟨14, _⟩ => ⟨S4096x128, .f32⟩
  | .hbm, ⟨15, _⟩ => ⟨S4096x128, .f32⟩
  | .hbm, ⟨16, _⟩ => ⟨S_, .i32⟩
  | .hbm, ⟨17, _⟩ => ⟨S_, .f32⟩
  | .hbm, ⟨18, _⟩ => ⟨S4096x128, .f32⟩
  | .hbm, ⟨19, _⟩ => ⟨S_, .i32⟩
  | .hbm, ⟨20, _⟩ => ⟨S_, .f32⟩
  | .hbm, ⟨21, _⟩ => ⟨S4096x128, .f32⟩
  | .hbm, ⟨22, _⟩ => ⟨S4096x128, .bf16⟩
  | .hbm, ⟨23, _⟩ => ⟨S8x128, .f32⟩
  | .local _ .vmem, ⟨0, _⟩ => ⟨S256x2048, .bf16⟩
  | .local _ .vmem, ⟨1, _⟩ => ⟨S256x2048, .bf16⟩
  | .local _ .vmem, ⟨2, _⟩ => ⟨S128x2048, .bf16⟩
  | .local _ .vmem, ⟨3, _⟩ => ⟨S1x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S8x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .bf16⟩
  | .local _ .vmem, ⟨16, _⟩ => ⟨S256x128, .bf16⟩
  | .local _ .vmem, ⟨17, _⟩ => ⟨S8x128, .f32⟩
  | .local _ .vmem, ⟨18, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_call1_v0 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_c_1 : Ref sig .tc := ⟨.hbm, 16, rfl⟩
abbrev main_call2_v0 : Ref sig .tc := ⟨.hbm, 17, rfl⟩
abbrev main_v6 : Ref sig .tc := ⟨.hbm, 18, rfl⟩
abbrev main_c_2 : Ref sig .tc := ⟨.hbm, 19, rfl⟩
abbrev main_call3_v0 : Ref sig .tc := ⟨.hbm, 20, rfl⟩
abbrev main_v7 : Ref sig .tc := ⟨.hbm, 21, rfl⟩
abbrev main_v8_0 : Ref sig .tc := ⟨.hbm, 22, rfl⟩
abbrev main_v8_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc1_transform_3 (i : grid1.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S8x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]
-- ==== FgateRefIdeal.lean ====
abbrev S4096x2048 : Shape := ⟨2, ![4096, 2048]⟩
abbrev S2048x16 : Shape := ⟨2, ![2048, 16]⟩
abbrev S16 : Shape := ⟨1, ![16]⟩
abbrev S4096x16 : Shape := ⟨2, ![4096, 16]⟩
abbrev S1x16 : Shape := ⟨2, ![1, 16]⟩
abbrev S_ : Shape := ⟨0, ![]⟩
abbrev S4096x128 : Shape := ⟨2, ![4096, 128]⟩
abbrev S1x128 : Shape := ⟨2, ![1, 128]⟩
abbrev S8x128 : Shape := ⟨2, ![8, 128]⟩

abbrev nBuf : Space → Nat
  | .hbm => 86
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x16, .f32⟩
  | .hbm, ⟨2, _⟩ => ⟨S16, .f32⟩
  | .hbm, ⟨3, _⟩ => ⟨S4096x16, .f32⟩
  | .hbm, ⟨4, _⟩ => ⟨S4096x16, .f32⟩
  | .hbm, ⟨5, _⟩ => ⟨S4096x2048, .f32⟩
  | .hbm, ⟨6, _⟩ => ⟨S4096x16, .f32⟩
  | .hbm, ⟨7, _⟩ => ⟨S1x16, .f32⟩
  | .hbm, ⟨8, _⟩ => ⟨S4096x16, .f32⟩
  | .hbm, ⟨9, _⟩ => ⟨S4096x16, .f32⟩
  | .hbm, ⟨10, _⟩ => ⟨S4096x16, .f32⟩
  | .hbm, ⟨11, _⟩ => ⟨S_, .f32⟩
  | .hbm, ⟨12, _⟩ => ⟨S4096x16, .f32⟩
  | .hbm, ⟨13, _⟩ => ⟨S4096x16, .f32⟩
  | .hbm, ⟨14, _⟩ => ⟨S4096x16, .f32⟩
  | .hbm, ⟨15, _⟩ => ⟨S4096x16, .f32⟩
  | .hbm, ⟨16, _⟩ => ⟨S4096x16, .i1⟩
  | .hbm, ⟨17, _⟩ => ⟨S4096x16, .f32⟩
  | .hbm, ⟨18, _⟩ => ⟨S4096x16, .f32⟩
  | .hbm, ⟨19, _⟩ => ⟨S4096x16, .f32⟩
  | .hbm, ⟨20, _⟩ => ⟨S4096x16, .f32⟩
  | .hbm, ⟨21, _⟩ => ⟨S4096x16, .f32⟩
  | .hbm, ⟨22, _⟩ => ⟨S4096x16, .f32⟩
  | .hbm, ⟨23, _⟩ => ⟨S4096x16, .f32⟩
  | .hbm, ⟨24, _⟩ => ⟨S4096x16, .f32⟩
  | .hbm, ⟨25, _⟩ => ⟨S_, .f32⟩
  | .hbm, ⟨26, _⟩ => ⟨S4096x16, .f32⟩
  | .hbm, ⟨27, _⟩ => ⟨S4096x16, .i1⟩
  | .hbm, ⟨28, _⟩ => ⟨S_, .f32⟩
  | .hbm, ⟨29, _⟩ => ⟨S4096x16, .f32⟩
  | .hbm, ⟨30, _⟩ => ⟨S4096x16, .f32⟩
  | .hbm, ⟨31, _⟩ => ⟨S_, .f32⟩
  | .hbm, ⟨32, _⟩ => ⟨S4096x16, .f32⟩
  | .hbm, ⟨33, _⟩ => ⟨S4096x16, .i1⟩
  | .hbm, ⟨34, _⟩ => ⟨S_, .f32⟩
  | .hbm, ⟨35, _⟩ => ⟨S4096x16, .f32⟩
  | .hbm, ⟨36, _⟩ => ⟨S4096x16, .f32⟩
  | .hbm, ⟨37, _⟩ => ⟨S4096x16, .f32⟩
  | .hbm, ⟨38, _⟩ => ⟨S4096x16, .f32⟩
  | .hbm, ⟨39, _⟩ => ⟨S_, .f32⟩
  | .hbm, ⟨40, _⟩ => ⟨S_, .f32⟩
  | .hbm, ⟨41, _⟩ => ⟨S_, .i1⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S4096x16, .f32⟩
  | .hbm, ⟨47, _⟩ => ⟨S4096x16, .i1⟩
  | .hbm, ⟨48, _⟩ => ⟨S_, .f32⟩
  | .hbm, ⟨49, _⟩ => ⟨S4096x16, .f32⟩
  | .hbm, ⟨50, _⟩ => ⟨S4096x16, .f32⟩
  | .hbm, ⟨51, _⟩ => ⟨S4096x16, .f32⟩
  | .hbm, ⟨52, _⟩ => ⟨S4096x16, .f32⟩
  | .hbm, ⟨53, _⟩ => ⟨S4096x16, .f32⟩
  | .hbm, ⟨54, _⟩ => ⟨S_, .f32⟩
  | .hbm, ⟨55, _⟩ => ⟨S4096x16, .f32⟩
  | .hbm, ⟨56, _⟩ => ⟨S4096x16, .f32⟩
  | .hbm, ⟨57, _⟩ => ⟨S4096x16, .f32⟩
  | .hbm, ⟨58, _⟩ => ⟨S_, .f32⟩
  | .hbm, ⟨59, _⟩ => ⟨S_, .f32⟩
  | .hbm, ⟨60, _⟩ => ⟨S4096x16, .f32⟩
  | .hbm, ⟨61, _⟩ => ⟨S4096x16, .f32⟩
  | .hbm, ⟨62, _⟩ => ⟨S4096x16, .f32⟩
  | .hbm, ⟨63, _⟩ => ⟨S4096x16, .f32⟩
  | .hbm, ⟨64, _⟩ => ⟨S_, .f32⟩
  | .hbm, ⟨65, _⟩ => ⟨S_, .f32⟩
  | .hbm, ⟨66, _⟩ => ⟨S4096x16, .f32⟩
  | .hbm, ⟨67, _⟩ => ⟨S4096x16, .f32⟩
  | .hbm, ⟨68, _⟩ => ⟨S4096x16, .f32⟩
  | .hbm, ⟨69, _⟩ => ⟨S4096x16, .f32⟩
  | .hbm, ⟨70, _⟩ => ⟨S_, .f32⟩
  | .hbm, ⟨71, _⟩ => ⟨S16, .f32⟩
  | .hbm, ⟨72, _⟩ => ⟨S1x16, .f32⟩
  | .hbm, ⟨73, _⟩ => ⟨S_, .f32⟩
  | .hbm, ⟨74, _⟩ => ⟨S16, .f32⟩
  | .hbm, ⟨75, _⟩ => ⟨S4096x16, .bf16⟩
  | .hbm, ⟨76, _⟩ => ⟨S_, .i32⟩
  | .hbm, ⟨77, _⟩ => ⟨S_, .bf16⟩
  | .hbm, ⟨78, _⟩ => ⟨S4096x128, .bf16⟩
  | .hbm, ⟨79, _⟩ => ⟨S1x16, .f32⟩
  | .hbm, ⟨80, _⟩ => ⟨S_, .i32⟩
  | .hbm, ⟨81, _⟩ => ⟨S_, .f32⟩
  | .hbm, ⟨82, _⟩ => ⟨S1x128, .f32⟩
  | .hbm, ⟨83, _⟩ => ⟨S_, .i32⟩
  | .hbm, ⟨84, _⟩ => ⟨S_, .f32⟩
  | .hbm, ⟨85, _⟩ => ⟨S8x128, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_call0_call0_cst : Ref sig .tc := ⟨.hbm, 11, rfl⟩
abbrev main_call0_call0_v0 : Ref sig .tc := ⟨.hbm, 12, rfl⟩
abbrev main_call0_call0_v1 : Ref sig .tc := ⟨.hbm, 13, rfl⟩
abbrev main_call0_call0_v2 : Ref sig .tc := ⟨.hbm, 14, rfl⟩
abbrev main_call0_call0_v3 : Ref sig .tc := ⟨.hbm, 15, rfl⟩
abbrev main_call0_call0_v4 : Ref sig .tc := ⟨.hbm, 16, rfl⟩
abbrev main_call0_call0_v5 : Ref sig .tc := ⟨.hbm, 17, rfl⟩
abbrev main_call0_call0_v6 : Ref sig .tc := ⟨.hbm, 18, rfl⟩
abbrev main_call0_call0_v7 : Ref sig .tc := ⟨.hbm, 19, rfl⟩
abbrev main_call0_call0_v8 : Ref sig .tc := ⟨.hbm, 20, rfl⟩
abbrev main_call0_call0_v9 : Ref sig .tc := ⟨.hbm, 21, rfl⟩
abbrev main_call0_call0_v10 : Ref sig .tc := ⟨.hbm, 22, rfl⟩
abbrev main_call0_call0_v11 : Ref sig .tc := ⟨.hbm, 23, rfl⟩
abbrev main_call0_v1_0 : Ref sig .tc := ⟨.hbm, 24, rfl⟩
abbrev main_call0_call0_cst_0 : Ref sig .tc := ⟨.hbm, 25, rfl⟩
abbrev main_call0_call0_v13 : Ref sig .tc := ⟨.hbm, 26, rfl⟩
abbrev main_call0_call0_v14 : Ref sig .tc := ⟨.hbm, 27, rfl⟩
abbrev main_call0_call0_cst_1 : Ref sig .tc := ⟨.hbm, 28, rfl⟩
abbrev main_call0_call0_v15 : Ref sig .tc := ⟨.hbm, 29, rfl⟩
abbrev main_call0_call0_v16 : Ref sig .tc := ⟨.hbm, 30, rfl⟩
abbrev main_call0_call0_cst_2 : Ref sig .tc := ⟨.hbm, 31, rfl⟩
abbrev main_call0_call0_v17 : Ref sig .tc := ⟨.hbm, 32, rfl⟩
abbrev main_call0_call0_v18 : Ref sig .tc := ⟨.hbm, 33, rfl⟩
abbrev main_call0_call0_cst_3 : Ref sig .tc := ⟨.hbm, 34, rfl⟩
abbrev main_call0_call0_v19 : Ref sig .tc := ⟨.hbm, 35, rfl⟩
abbrev main_call0_call0_v20 : Ref sig .tc := ⟨.hbm, 36, rfl⟩
abbrev main_call0_call0_v21 : Ref sig .tc := ⟨.hbm, 37, rfl⟩
abbrev main_v5_1 : Ref sig .tc := ⟨.hbm, 38, rfl⟩
abbrev main_call0_call0_cst_4 : Ref sig .tc := ⟨.hbm, 39, rfl⟩
abbrev main_call0_call0_cst_5 : Ref sig .tc := ⟨.hbm, 40, rfl⟩
abbrev main_call0_call0_v23 : Ref sig .tc := ⟨.hbm, 41, rfl⟩
abbrev main_call0_call0_cst_6 : Ref sig .tc := ⟨.hbm, 42, rfl⟩
abbrev main_call0_call0_cst_7 : Ref sig .tc := ⟨.hbm, 43, rfl⟩
abbrev main_call0_call0_v24 : Ref sig .tc := ⟨.hbm, 44, rfl⟩
abbrev main_call0_call0_cst_8 : Ref sig .tc := ⟨.hbm, 45, rfl⟩
abbrev main_call0_call0_v25 : Ref sig .tc := ⟨.hbm, 46, rfl⟩
abbrev main_call0_call0_v26 : Ref sig .tc := ⟨.hbm, 47, rfl⟩
abbrev main_call0_call0_cst_9 : Ref sig .tc := ⟨.hbm, 48, rfl⟩
abbrev main_call0_call0_v27 : Ref sig .tc := ⟨.hbm, 49, rfl⟩
abbrev main_call0_call0_v28 : Ref sig .tc := ⟨.hbm, 50, rfl⟩
abbrev main_call0_call0_v29 : Ref sig .tc := ⟨.hbm, 51, rfl⟩
abbrev main_call0_call0_v30 : Ref sig .tc := ⟨.hbm, 52, rfl⟩
abbrev main_call0_call0_v31 : Ref sig .tc := ⟨.hbm, 53, rfl⟩
abbrev main_call0_call0_cst_10 : Ref sig .tc := ⟨.hbm, 54, rfl⟩
abbrev main_call0_call0_v32 : Ref sig .tc := ⟨.hbm, 55, rfl⟩
abbrev main_v5_2 : Ref sig .tc := ⟨.hbm, 56, rfl⟩
abbrev main_v5_0 : Ref sig .tc := ⟨.hbm, 57, rfl⟩
abbrev main_call1_call0_cst : Ref sig .tc := ⟨.hbm, 58, rfl⟩
abbrev main_call1_call0_v0 : Ref sig .tc := ⟨.hbm, 59, rfl⟩
abbrev main_v6 : Ref sig .tc := ⟨.hbm, 60, rfl⟩
abbrev main_v7 : Ref sig .tc := ⟨.hbm, 61, rfl⟩
abbrev main_v8 : Ref sig .tc := ⟨.hbm, 62, rfl⟩
abbrev main_v9 : Ref sig .tc := ⟨.hbm, 63, rfl⟩
abbrev main_call2_call0_cst : Ref sig .tc := ⟨.hbm, 64, rfl⟩
abbrev main_call2_call0_v0 : Ref sig .tc := ⟨.hbm, 65, rfl⟩
abbrev main_v10 : Ref sig .tc := ⟨.hbm, 66, rfl⟩
abbrev main_call3_v0 : Ref sig .tc := ⟨.hbm, 67, rfl⟩
abbrev main_call3_v1 : Ref sig .tc := ⟨.hbm, 68, rfl⟩
abbrev main_v11 : Ref sig .tc := ⟨.hbm, 69, rfl⟩
abbrev main_cst : Ref sig .tc := ⟨.hbm, 70, rfl⟩
abbrev main_v12 : Ref sig .tc := ⟨.hbm, 71, rfl⟩
abbrev main_v13 : Ref sig .tc := ⟨.hbm, 72, rfl⟩
abbrev main_cst_0 : Ref sig .tc := ⟨.hbm, 73, rfl⟩
abbrev main_v14 : Ref sig .tc := ⟨.hbm, 74, rfl⟩
abbrev main_v15 : Ref sig .tc := ⟨.hbm, 75, rfl⟩
abbrev main_c : Ref sig .tc := ⟨.hbm, 76, rfl⟩
abbrev main_call4_v0 : Ref sig .tc := ⟨.hbm, 77, rfl⟩
abbrev main_v16 : Ref sig .tc := ⟨.hbm, 78, rfl⟩
abbrev main_v17 : Ref sig .tc := ⟨.hbm, 79, rfl⟩
abbrev main_c_1 : Ref sig .tc := ⟨.hbm, 80, rfl⟩
abbrev main_call5_v0 : Ref sig .tc := ⟨.hbm, 81, rfl⟩
abbrev main_v18 : Ref sig .tc := ⟨.hbm, 82, rfl⟩
abbrev main_c_2 : Ref sig .tc := ⟨.hbm, 83, rfl⟩
abbrev main_call6_v0 : Ref sig .tc := ⟨.hbm, 84, rfl⟩
abbrev main_v19 : Ref sig .tc := ⟨.hbm, 85, rfl⟩

abbrev nD : Nat := 1
abbrev τ : Topo := Topo.v7x

variable {F : FTy → Type} [FloatOps F]
-- ==== Attn.lean ====
abbrev S4096x6144 : Shape := ⟨2, ![4096, 6144]⟩
abbrev S4096x16 : Shape := ⟨2, ![4096, 16]⟩
abbrev S4096x2048 : Shape := ⟨2, ![4096, 2048]⟩
abbrev S16x4096 : Shape := ⟨2, ![16, 4096]⟩
abbrev S_ : Shape := ⟨0, ![]⟩
abbrev S16x4x1024 : Shape := ⟨3, ![16, 4, 1024]⟩
abbrev S4x16x1024 : Shape := ⟨3, ![4, 16, 1024]⟩
abbrev S4096x128 : Shape := ⟨2, ![4096, 128]⟩
abbrev S1x128 : Shape := ⟨2, ![1, 128]⟩
abbrev S1024x1024 : Shape := ⟨2, ![1024, 1024]⟩
abbrev S1024x128 : Shape := ⟨2, ![1024, 128]⟩
abbrev S1024x1 : Shape := ⟨2, ![1024, 1]⟩
abbrev S1x1x1024 : Shape := ⟨3, ![1, 1, 1024]⟩
abbrev S1x1024 : Shape := ⟨2, ![1, 1024]⟩
abbrev S1024 : Shape := ⟨1, ![1024]⟩
abbrev S3x4096x2048 : Shape := ⟨3, ![3, 4096, 2048]⟩
abbrev S3x4096x128 : Shape := ⟨3, ![3, 4096, 128]⟩
abbrev S4096x1 : Shape := ⟨2, ![4096, 1]⟩
abbrev S512x128 : Shape := ⟨2, ![512, 128]⟩
abbrev S1x512 : Shape := ⟨2, ![1, 512]⟩
abbrev S1024x512 : Shape := ⟨2, ![1024, 512]⟩
abbrev S512 : Shape := ⟨1, ![512]⟩
abbrev S512x512 : Shape := ⟨2, ![512, 512]⟩
abbrev S512x1 : Shape := ⟨2, ![512, 1]⟩
abbrev S1x1024x128 : Shape := ⟨3, ![1, 1024, 128]⟩

abbrev nBuf : Space → Nat
  | .hbm => 14
  | .vmem => 30
  | .smem => 0
  | _ => 0

abbrev bufTy : (tb : Table) → Fin (tcTables nBuf tb) → BufTy
  | .hbm, ⟨0, _⟩ => ⟨S4096x6144, .bf16⟩
  | .hbm, ⟨1, _⟩ => ⟨S4096x16, .f32⟩
  | .hbm, ⟨2, _⟩ => ⟨S4096x2048, .bf16⟩
  | .hbm, ⟨3, _⟩ => ⟨S16x4096, .f32⟩
  | .hbm, ⟨4, _⟩ => ⟨S_, .i32⟩
  | .hbm, ⟨5, _⟩ => ⟨S_, .f32⟩
  | .hbm, ⟨6, _⟩ => ⟨S16x4096, .f32⟩
  | .hbm, ⟨7, _⟩ => ⟨S16x4x1024, .f32⟩
  | .hbm, ⟨8, _⟩ => ⟨S4x16x1024, .f32⟩
  | .hbm, ⟨9, _⟩ => ⟨S4096x2048, .bf16⟩
  | .hbm, ⟨10, _⟩ => ⟨S4096x128, .f32⟩
  | .hbm, ⟨11, _⟩ => ⟨S3x4096x2048, .bf16⟩
  | .hbm, ⟨12, _⟩ => ⟨S4096x128, .f32⟩
  | .hbm, ⟨13, _⟩ => ⟨S4x16x1024, .f32⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S4x16x1024, .f32⟩
  | .local _ .vmem, ⟨7, _⟩ => ⟨S4096x128, .bf16⟩
  | .local _ .vmem, ⟨8, _⟩ => ⟨S4096x128, .bf16⟩
  | .local _ .vmem, ⟨9, _⟩ => ⟨S4096x128, .f32⟩
  | .local _ .vmem, ⟨10, _⟩ => ⟨S4096x128, .bf16⟩
  | .local _ .vmem, ⟨11, _⟩ => ⟨S4096x128, .bf16⟩
  | .local _ .vmem, ⟨12, _⟩ => ⟨S4096x128, .bf16⟩
  | .local _ .vmem, ⟨13, _⟩ => ⟨S4096x128, .bf16⟩
  | .local _ .vmem, ⟨14, _⟩ => ⟨S4096x128, .bf16⟩
  | .local _ .vmem, ⟨15, _⟩ => ⟨S4096x128, .bf16⟩
  | .local _ .vmem, ⟨16, _⟩ => ⟨S4096x128, .bf16⟩
  | .local _ .vmem, ⟨17, _⟩ => ⟨S4096x128, .bf16⟩
  | .local _ .vmem, ⟨18, _⟩ => ⟨S4096x128, .bf16⟩
  | .local _ .vmem, ⟨19, _⟩ => ⟨S4096x128, .bf16⟩
  | .local _ .vmem, ⟨20, _⟩ => ⟨S4x16x1024, .f32⟩
  | .local _ .vmem, ⟨21, _⟩ => ⟨S4096x128, .f32⟩
  | .local _ .vmem, ⟨22, _⟩ => ⟨S3x4096x128, .bf16⟩
  | .local _ .vmem, ⟨23, _⟩ => ⟨S3x4096x128, .bf16⟩
  | .local _ .vmem, ⟨24, _⟩ => ⟨S4096x128, .f32⟩
  | .local _ .vmem, ⟨25, _⟩ => ⟨S4x16x1024, .f32⟩
  | .local _ .vmem, ⟨26, _⟩ => ⟨S4096x128, .f32⟩
  | .local _ .vmem, ⟨27, _⟩ => ⟨S4096x1, .f32⟩
  | .local _ .vmem, ⟨28, _⟩ => ⟨S4096x1, .f32⟩
  | .local _ .vmem, ⟨29, _⟩ => ⟨S4096x1, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc1_stg8_0 : Ref sig .tc := ⟨.vmem, 24, rfl⟩
abbrev cc1_stg9_0 : Ref sig .tc := ⟨.vmem, 25, rfl⟩
abbrev cc1_scratch0 : Ref sig .tc := ⟨.vmem, 26, rfl⟩
abbrev cc1_scratch1 : Ref sig .tc := ⟨.vmem, 27, rfl⟩
abbrev cc1_scratch2 : Ref sig .tc := ⟨.vmem, 28, rfl⟩
abbrev cc1_scratch3 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem6_0 : DmaSem sig := 21
abbrev cc1_sem7_0 : DmaSem sig := 22
abbrev cc1_sem7_1 : DmaSem sig := 23
abbrev cc1_sem8_0 : DmaSem sig := 24
abbrev cc1_sem9_0 : DmaSem sig := 25

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_1 : BitVec 32 := 0#32
  let c4_i32 : BitVec 32 := 4#32
  let v8 : BitVec 32 := Scalar.addi c0_i32_1 c4_i32
  let c1_i32 : BitVec 32 := 1#32
  ⟨c0_i32_1, v8, c1_i32⟩
def k0_mult1 (k0_t1 : Fin k0_t1_loop.trips) : BitVec 32 :=
  let c0_i32_1 : BitVec 32 := 0#32
  let c1_i32 : BitVec 32 := 1#32
  let arg7 : BitVec 32 := Scf.iv c0_i32_1 c1_i32 k0_t1
  let c1024_i32 : BitVec 32 := 1024#32
  let v9 : BitVec 32 := Scalar.muli arg7 c1024_i32
  v9
def k0_off1 (k0_t1 : Fin k0_t1_loop.trips) : Fin 2 → Nat :=
  let c0_i32_1 : BitVec 32 := 0#32
  let c1_i32 : BitVec 32 := 1#32
  let arg7 : BitVec 32 := Scf.iv c0_i32_1 c1_i32 k0_t1
  let c1024_i32 : BitVec 32 := 1024#32
  let v9 : BitVec 32 := Scalar.muli arg7 c1024_i32
  let v10 : BitVec 32 := v9
  let v11 : Index := Scalar.indexCast v10
  let c0 : Index := 0#32
  ![v11.toNat, 0]
@[reducible] def k0_t2_loop (k0_t1 : Fin k0_t1_loop.trips) : Scf.Loop 32 :=
  let c0_i32_5 : BitVec 32 := 0#32
  let c0_i32_1 : BitVec 32 := 0#32
  let c1_i32 : BitVec 32 := 1#32
  let arg7 : BitVec 32 := Scf.iv c0_i32_1 c1_i32 k0_t1
  let v16 : BitVec 32 := Scalar.subi arg7 c0_i32_5
  let c1_i32_6 : BitVec 32 := 1#32
  let v18 : BitVec 32 := Scalar.divsi v16 c1_i32_6
  let v19 : BitVec 32 := Scalar.muli v18 c1_i32_6
  let v20 : BitVec 32 := Scalar.addi c0_i32_5 v19
  let c1_i32_7 : BitVec 32 := 1#32
  ⟨c0_i32_5, v20, c1_i32_7⟩
def k0_mult2 (k0_t1 : Fin k0_t1_loop.trips) (k0_t2 : Fin (k0_t2_loop k0_t1).trips) : BitVec 32 :=
  let c0_i32_5 : BitVec 32 := 0#32
  let c1_i32_7 : BitVec 32 := 1#32
  let arg8 : BitVec 32 := Scf.iv c0_i32_5 c1_i32_7 k0_t2
  let c1024_i32_22 : BitVec 32 := 1024#32
  let v75 : BitVec 32 := Scalar.muli arg8 c1024_i32_22
  v75
def k0_off2 (k0_t1 : Fin k0_t1_loop.trips) (k0_t2 : Fin (k0_t2_loop k0_t1).trips) : Fin 2 → Nat :=
  let c0_i32_5 : BitVec 32 := 0#32
  let c1_i32_7 : BitVec 32 := 1#32
  let arg8 : BitVec 32 := Scf.iv c0_i32_5 c1_i32_7 k0_t2
  let c1024_i32_22 : BitVec 32 := 1024#32
  let v75 : BitVec 32 := Scalar.muli arg8 c1024_i32_22
  let v76 : BitVec 32 := v75
  let v77 : Index := Scalar.indexCast v76
  let c0_23 : Index := 0#32
  ![v77.toNat, 0]
def k0_off3 (i : grid0.Coords) (k0_t1 : Fin k0_t1_loop.trips) (k0_t2 : Fin (k0_t2_loop k0_t1).trips) : Fin 3 → Nat :=
  let c0_i32_5 : BitVec 32 := 0#32
  let c1_i32_7 : BitVec 32 := 1#32
  let arg8 : BitVec 32 := Scf.iv c0_i32_5 c1_i32_7 k0_t2
  let v82 : Index := Scalar.indexCast arg8
  let arg0 : BitVec 32 := BitVec.ofNat 32 (i 0).val
  let v83 : Index := Scalar.indexCast arg0
  let c0_26 : Index := 0#32
  ![v82.toNat, v83.toNat, 0]
@[reducible] def k0_t3_loop (k0_t1 : Fin k0_t1_loop.trips) : Scf.Loop 32 :=
  let c0_i32_5 : BitVec 32 := 0#32
  let c0_i32_1 : BitVec 32 := 0#32
  let c1_i32 : BitVec 32 := 1#32
  let arg7 : BitVec 32 := Scf.iv c0_i32_1 c1_i32 k0_t1
  let v16 : BitVec 32 := Scalar.subi arg7 c0_i32_5
  let c1_i32_6 : BitVec 32 := 1#32
  let v18 : BitVec 32 := Scalar.divsi v16 c1_i32_6
  let v19 : BitVec 32 := Scalar.muli v18 c1_i32_6
  let v20 : BitVec 32 := Scalar.addi c0_i32_5 v19
  let v17 : BitVec 32 := Scalar.addi c0_i32_5 v16
  let c1_i32_8 : BitVec 32 := 1#32
  ⟨v20, v17, c1_i32_8⟩
def k0_mult3 (k0_t1 : Fin k0_t1_loop.trips) (k0_t3 : Fin (k0_t3_loop k0_t1).trips) : BitVec 32 :=
  let c0_i32_5 : BitVec 32 := 0#32
  let c0_i32_1 : BitVec 32 := 0#32
  let c1_i32 : BitVec 32 := 1#32
  let arg7 : BitVec 32 := Scf.iv c0_i32_1 c1_i32 k0_t1
  let v16 : BitVec 32 := Scalar.subi arg7 c0_i32_5
  let c1_i32_6 : BitVec 32 := 1#32
  let v18 : BitVec 32 := Scalar.divsi v16 c1_i32_6
  let v19 : BitVec 32 := Scalar.muli v18 c1_i32_6
  let v20 : BitVec 32 := Scalar.addi c0_i32_5 v19
  let c1_i32_8 : BitVec 32 := 1#32
  let arg8 : BitVec 32 := Scf.iv v20 c1_i32_8 k0_t3
  let c1024_i32_22 : BitVec 32 := 1024#32
  let v75 : BitVec 32 := Scalar.muli arg8 c1024_i32_22
  v75
def k0_off4 (k0_t1 : Fin k0_t1_loop.trips) (k0_t3 : Fin (k0_t3_loop k0_t1).trips) : Fin 2 → Nat :=
  let c0_i32_5 : BitVec 32 := 0#32
  let c0_i32_1 : BitVec 32 := 0#32
  let c1_i32 : BitVec 32 := 1#32
  let arg7 : BitVec 32 := Scf.iv c0_i32_1 c1_i32 k0_t1
  let v16 : BitVec 32 := Scalar.subi arg7 c0_i32_5
  let c1_i32_6 : BitVec 32 := 1#32
  let v18 : BitVec 32 := Scalar.divsi v16 c1_i32_6
  let v19 : BitVec 32 := Scalar.muli v18 c1_i32_6
  let v20 : BitVec 32 := Scalar.addi c0_i32_5 v19
  let c1_i32_8 : BitVec 32 := 1#32
  let arg8 : BitVec 32 := Scf.iv v20 c1_i32_8 k0_t3
  let c1024_i32_22 : BitVec 32 := 1024#32
  let v75 : BitVec 32 := Scalar.muli arg8 c1024_i32_22
  let v76 : BitVec 32 := v75
  let v77 : Index := Scalar.indexCast v76
  let c0_23 : Index := 0#32
  ![v77.toNat, 0]
def k0_off5 (i : grid0.Coords) (k0_t1 : Fin k0_t1_loop.trips) (k0_t3 : Fin (k0_t3_loop k0_t1).trips) : Fin 3 → Nat :=
  let c0_i32_5 : BitVec 32 := 0#32
  let c0_i32_1 : BitVec 32 := 0#32
  let c1_i32 : BitVec 32 := 1#32
  let arg7 : BitVec 32 := Scf.iv c0_i32_1 c1_i32 k0_t1
  let v16 : BitVec 32 := Scalar.subi arg7 c0_i32_5
  let c1_i32_6 : BitVec 32 := 1#32
  let v18 : BitVec 32 := Scalar.divsi v16 c1_i32_6
  let v19 : BitVec 32 := Scalar.muli v18 c1_i32_6
  let v20 : BitVec 32 := Scalar.addi c0_i32_5 v19
  let c1_i32_8 : BitVec 32 := 1#32
  let arg8 : BitVec 32 := Scf.iv v20 c1_i32_8 k0_t3
  let v82 : Index := Scalar.indexCast arg8
  let arg0 : BitVec 32 := BitVec.ofNat 32 (i 0).val
  let v83 : Index := Scalar.indexCast arg0
  let c0_26 : Index := 0#32
  ![v82.toNat, v83.toNat, 0]
def k0_mult4 (k0_t1 : Fin k0_t1_loop.trips) : BitVec 32 :=
  let c0_i32_1 : BitVec 32 := 0#32
  let c1_i32 : BitVec 32 := 1#32
  let arg7 : BitVec 32 := Scf.iv c0_i32_1 c1_i32 k0_t1
  let c1024_i32_9 : BitVec 32 := 1024#32
  let v23 : BitVec 32 := Scalar.muli arg7 c1024_i32_9
  v23
def k0_off6 (i : grid0.Coords) (k0_t1 : Fin k0_t1_loop.trips) : Fin 3 → Nat :=
  let c0_i32_1 : BitVec 32 := 0#32
  let c1_i32 : BitVec 32 := 1#32
  let arg7 : BitVec 32 := Scf.iv c0_i32_1 c1_i32 k0_t1
  let v30 : Index := Scalar.indexCast arg7
  let arg0 : BitVec 32 := BitVec.ofNat 32 (i 0).val
  let v31 : Index := Scalar.indexCast arg0
  let c0_13 : Index := 0#32
  ![v30.toNat, v31.toNat, 0]
def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4096x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![16], ![false]⟩

@[reducible] def k1_t1_loop : Scf.Loop 32 :=
  let c0_i32_5 : BitVec 32 := 0#32
  let c4_i32 : BitVec 32 := 4#32
  let v14 : BitVec 32 := Scalar.addi c0_i32_5 c4_i32
  let c1_i32 : BitVec 32 := 1#32
  ⟨c0_i32_5, v14, c1_i32⟩
def k1_mult1 (k1_t1 : Fin k1_t1_loop.trips) : BitVec 32 :=
  let c0_i32_5 : BitVec 32 := 0#32
  let c1_i32 : BitVec 32 := 1#32
  let arg15 : BitVec 32 := Scf.iv c0_i32_5 c1_i32 k1_t1
  let c1024_i32 : BitVec 32 := 1024#32
  let v17 : BitVec 32 := Scalar.muli arg15 c1024_i32
  v17
def k1_off1 (k1_t1 : Fin k1_t1_loop.trips) : Fin 2 → Nat :=
  let c0_i32_5 : BitVec 32 := 0#32
  let c1_i32 : BitVec 32 := 1#32
  let arg15 : BitVec 32 := Scf.iv c0_i32_5 c1_i32 k1_t1
  let c1024_i32 : BitVec 32 := 1024#32
  let v17 : BitVec 32 := Scalar.muli arg15 c1024_i32
  let v18 : BitVec 32 := v17
  let v19 : Index := Scalar.indexCast v18
  let c0_15 : Index := 0#32
  ![v19.toNat, 0]
def k1_off2 (k1_t1 : Fin k1_t1_loop.trips) : Fin 2 → Nat :=
  let c0_i32_5 : BitVec 32 := 0#32
  let c1_i32 : BitVec 32 := 1#32
  let arg15 : BitVec 32 := Scf.iv c0_i32_5 c1_i32 k1_t1
  let c1024_i32 : BitVec 32 := 1024#32
  let v17 : BitVec 32 := Scalar.muli arg15 c1024_i32
  let v18 : BitVec 32 := v17
  let v28 : Index := Scalar.indexCast v18
  let c0_18 : Index := 0#32
  ![v28.toNat, 0]
@[reducible] def k1_t2_loop : Scf.Loop 32 :=
  let c0_i32_7 : BitVec 32 := 0#32
  let c4_i32_8 : BitVec 32 := 4#32
  let v15 : BitVec 32 := Scalar.addi c0_i32_7 c4_i32_8
  let c1_i32_9 : BitVec 32 := 1#32
  ⟨c0_i32_7, v15, c1_i32_9⟩
def k1_mult2 (k1_t2 : Fin k1_t2_loop.trips) : BitVec 32 :=
  let c0_i32_7 : BitVec 32 := 0#32
  let c1_i32_9 : BitVec 32 := 1#32
  let arg15 : BitVec 32 := Scf.iv c0_i32_7 c1_i32_9 k1_t2
  let c1024_i32 : BitVec 32 := 1024#32
  let v17 : BitVec 32 := Scalar.muli arg15 c1024_i32
  v17
def k1_off3 (k1_t2 : Fin k1_t2_loop.trips) : Fin 2 → Nat :=
  let c0_i32_7 : BitVec 32 := 0#32
  let c1_i32_9 : BitVec 32 := 1#32
  let arg15 : BitVec 32 := Scf.iv c0_i32_7 c1_i32_9 k1_t2
  let c1024_i32 : BitVec 32 := 1024#32
  let v17 : BitVec 32 := Scalar.muli arg15 c1024_i32
  let v18 : BitVec 32 := v17
  let v19 : Index := Scalar.indexCast v18
  let c0_15 : Index := 0#32
  ![v19.toNat, 0]
def k1_off4 (i : grid1.Coords) (k1_t2 : Fin k1_t2_loop.trips) : Fin 3 → Nat :=
  let c0_i32_7 : BitVec 32 := 0#32
  let c1_i32_9 : BitVec 32 := 1#32
  let arg15 : BitVec 32 := Scf.iv c0_i32_7 c1_i32_9 k1_t2
  let v23 : Index := Scalar.indexCast arg15
  let arg0 : BitVec 32 := BitVec.ofNat 32 (i 0).val
  let v24 : Index := Scalar.indexCast arg0
  let c0_17 : Index := 0#32
  ![v23.toNat, v24.toNat, 0]
def k1_mult3 (k1_t2 : Fin k1_t2_loop.trips) : BitVec 32 :=
  let c0_i32_7 : BitVec 32 := 0#32
  let c1_i32_9 : BitVec 32 := 1#32
  let arg15 : BitVec 32 := Scf.iv c0_i32_7 c1_i32_9 k1_t2
  let c1024_i32_18 : BitVec 32 := 1024#32
  let v27 : BitVec 32 := Scalar.muli arg15 c1024_i32_18
  let c0_i32_19 : BitVec 32 := 0#32
  let v28 : BitVec 32 := Scalar.addi v27 c0_i32_19
  v28
def k1_off5 (k1_t2 : Fin k1_t2_loop.trips) : Fin 2 → Nat :=
  let c0_i32_7 : BitVec 32 := 0#32
  let c1_i32_9 : BitVec 32 := 1#32
  let arg15 : BitVec 32 := Scf.iv c0_i32_7 c1_i32_9 k1_t2
  let c1024_i32_18 : BitVec 32 := 1024#32
  let v27 : BitVec 32 := Scalar.muli arg15 c1024_i32_18
  let c0_i32_19 : BitVec 32 := 0#32
  let v28 : BitVec 32 := Scalar.addi v27 c0_i32_19
  let v29 : BitVec 32 := v28
  let v33 : Index := Scalar.indexCast v29
  let c0_20 : Index := 0#32
  ![v33.toNat, 0]
def k1_off6 (k1_t2 : Fin k1_t2_loop.trips) : Fin 2 → Nat :=
  let c0_i32_7 : BitVec 32 := 0#32
  let c1_i32_9 : BitVec 32 := 1#32
  let arg15 : BitVec 32 := Scf.iv c0_i32_7 c1_i32_9 k1_t2
  let c1024_i32_18 : BitVec 32 := 1024#32
  let v27 : BitVec 32 := Scalar.muli arg15 c1024_i32_18
  let c0_i32_19 : BitVec 32 := 0#32
  let v28 : BitVec 32 := Scalar.addi v27 c0_i32_19
  let v29 : BitVec 32 := v28
  let v42 : Index := Scalar.indexCast v29
  let c0_24 : Index := 0#32
  ![v42.toNat, 0]
def k1_mult4 (k1_t2 : Fin k1_t2_loop.trips) : BitVec 32 :=
  let c0_i32_7 : BitVec 32 := 0#32
  let c1_i32_9 : BitVec 32 := 1#32
  let arg15 : BitVec 32 := Scf.iv c0_i32_7 c1_i32_9 k1_t2
  let c1024_i32_37 : BitVec 32 := 1024#32
  let v81 : BitVec 32 := Scalar.muli arg15 c1024_i32_37
  let c512_i32 : BitVec 32 := 512#32
  let v82 : BitVec 32 := Scalar.addi v81 c512_i32
  v82
def k1_off7 (k1_t2 : Fin k1_t2_loop.trips) : Fin 2 → Nat :=
  let c0_i32_7 : BitVec 32 := 0#32
  let c1_i32_9 : BitVec 32 := 1#32
  let arg15 : BitVec 32 := Scf.iv c0_i32_7 c1_i32_9 k1_t2
  let c1024_i32_37 : BitVec 32 := 1024#32
  let v81 : BitVec 32 := Scalar.muli arg15 c1024_i32_37
  let c512_i32 : BitVec 32 := 512#32
  let v82 : BitVec 32 := Scalar.addi v81 c512_i32
  let v83 : BitVec 32 := v82
  let v87 : Index := Scalar.indexCast v83
  let c0_38 : Index := 0#32
  ![v87.toNat, 0]
def k1_off8 (k1_t2 : Fin k1_t2_loop.trips) : Fin 2 → Nat :=
  let c0_i32_7 : BitVec 32 := 0#32
  let c1_i32_9 : BitVec 32 := 1#32
  let arg15 : BitVec 32 := Scf.iv c0_i32_7 c1_i32_9 k1_t2
  let c1024_i32_37 : BitVec 32 := 1024#32
  let v81 : BitVec 32 := Scalar.muli arg15 c1024_i32_37
  let c512_i32 : BitVec 32 := 512#32
  let v82 : BitVec 32 := Scalar.addi v81 c512_i32
  let v83 : BitVec 32 := v82
  let v96 : Index := Scalar.indexCast v83
  let c0_42 : Index := 0#32
  ![v96.toNat, 0]
@[reducible] def k1_t3_loop (k1_t2 : Fin k1_t2_loop.trips) : Scf.Loop 32 :=
  let c0_i32_7 : BitVec 32 := 0#32
  let c1_i32_9 : BitVec 32 := 1#32
  let arg15 : BitVec 32 := Scf.iv c0_i32_7 c1_i32_9 k1_t2
  let c1_i32_55 : BitVec 32 := 1#32
  let v138 : BitVec 32 := Scalar.addi arg15 c1_i32_55
  let c4_i32_56 : BitVec 32 := 4#32
  let v139 : BitVec 32 := Scalar.subi c4_i32_56 v138
  let c1_i32_57 : BitVec 32 := 1#32
  let v141 : BitVec 32 := Scalar.divsi v139 c1_i32_57
  let v142 : BitVec 32 := Scalar.muli v141 c1_i32_57
  let v143 : BitVec 32 := Scalar.addi v138 v142
  let c1_i32_58 : BitVec 32 := 1#32
  ⟨v138, v143, c1_i32_58⟩
def k1_mult5 (k1_t2 : Fin k1_t2_loop.trips) (k1_t3 : Fin (k1_t3_loop k1_t2).trips) : BitVec 32 :=
  let c0_i32_7 : BitVec 32 := 0#32
  let c1_i32_9 : BitVec 32 := 1#32
  let arg15 : BitVec 32 := Scf.iv c0_i32_7 c1_i32_9 k1_t2
  let c1_i32_55 : BitVec 32 := 1#32
  let v138 : BitVec 32 := Scalar.addi arg15 c1_i32_55
  let c1_i32_58 : BitVec 32 := 1#32
  let arg16 : BitVec 32 := Scf.iv v138 c1_i32_58 k1_t3
  let c1024_i32_64 : BitVec 32 := 1024#32
  let v163 : BitVec 32 := Scalar.muli arg16 c1024_i32_64
  v163
def k1_off9 (k1_t2 : Fin k1_t2_loop.trips) (k1_t3 : Fin (k1_t3_loop k1_t2).trips) : Fin 2 → Nat :=
  let c0_i32_7 : BitVec 32 := 0#32
  let c1_i32_9 : BitVec 32 := 1#32
  let arg15 : BitVec 32 := Scf.iv c0_i32_7 c1_i32_9 k1_t2
  let c1_i32_55 : BitVec 32 := 1#32
  let v138 : BitVec 32 := Scalar.addi arg15 c1_i32_55
  let c1_i32_58 : BitVec 32 := 1#32
  let arg16 : BitVec 32 := Scf.iv v138 c1_i32_58 k1_t3
  let c1024_i32_64 : BitVec 32 := 1024#32
  let v163 : BitVec 32 := Scalar.muli arg16 c1024_i32_64
  let v164 : BitVec 32 := v163
  let v165 : Index := Scalar.indexCast v164
  let c0_65 : Index := 0#32
  ![v165.toNat, 0]
def k1_off10 (k1_t2 : Fin k1_t2_loop.trips) (k1_t3 : Fin (k1_t3_loop k1_t2).trips) : Fin 2 → Nat :=
  let c0_i32_7 : BitVec 32 := 0#32
  let c1_i32_9 : BitVec 32 := 1#32
  let arg15 : BitVec 32 := Scf.iv c0_i32_7 c1_i32_9 k1_t2
  let c1_i32_55 : BitVec 32 := 1#32
  let v138 : BitVec 32 := Scalar.addi arg15 c1_i32_55
  let c1_i32_58 : BitVec 32 := 1#32
  let arg16 : BitVec 32 := Scf.iv v138 c1_i32_58 k1_t3
  let c1024_i32_64 : BitVec 32 := 1024#32
  let v163 : BitVec 32 := Scalar.muli arg16 c1024_i32_64
  let v164 : BitVec 32 := v163
  let v174 : Index := Scalar.indexCast v164
  let c0_69 : Index := 0#32
  ![v174.toNat, 0]
@[reducible] def k1_t4_loop (k1_t2 : Fin k1_t2_loop.trips) : Scf.Loop 32 :=
  let c0_i32_7 : BitVec 32 := 0#32
  let c1_i32_9 : BitVec 32 := 1#32
  let arg15 : BitVec 32 := Scf.iv c0_i32_7 c1_i32_9 k1_t2
  let c1_i32_55 : BitVec 32 := 1#32
  let v138 : BitVec 32 := Scalar.addi arg15 c1_i32_55
  let c4_i32_56 : BitVec 32 := 4#32
  let v139 : BitVec 32 := Scalar.subi c4_i32_56 v138
  let c1_i32_57 : BitVec 32 := 1#32
  let v141 : BitVec 32 := Scalar.divsi v139 c1_i32_57
  let v142 : BitVec 32 := Scalar.muli v141 c1_i32_57
  let v143 : BitVec 32 := Scalar.addi v138 v142
  let v140 : BitVec 32 := Scalar.addi v138 v139
  let c1_i32_59 : BitVec 32 := 1#32
  ⟨v143, v140, c1_i32_59⟩
def k1_mult6 (k1_t2 : Fin k1_t2_loop.trips) (k1_t4 : Fin (k1_t4_loop k1_t2).trips) : BitVec 32 :=
  let c0_i32_7 : BitVec 32 := 0#32
  let c1_i32_9 : BitVec 32 := 1#32
  let arg15 : BitVec 32 := Scf.iv c0_i32_7 c1_i32_9 k1_t2
  let c1_i32_55 : BitVec 32 := 1#32
  let v138 : BitVec 32 := Scalar.addi arg15 c1_i32_55
  let c4_i32_56 : BitVec 32 := 4#32
  let v139 : BitVec 32 := Scalar.subi c4_i32_56 v138
  let c1_i32_57 : BitVec 32 := 1#32
  let v141 : BitVec 32 := Scalar.divsi v139 c1_i32_57
  let v142 : BitVec 32 := Scalar.muli v141 c1_i32_57
  let v143 : BitVec 32 := Scalar.addi v138 v142
  let c1_i32_59 : BitVec 32 := 1#32
  let arg16 : BitVec 32 := Scf.iv v143 c1_i32_59 k1_t4
  let c1024_i32_64 : BitVec 32 := 1024#32
  let v163 : BitVec 32 := Scalar.muli arg16 c1024_i32_64
  v163
def k1_off11 (k1_t2 : Fin k1_t2_loop.trips) (k1_t4 : Fin (k1_t4_loop k1_t2).trips) : Fin 2 → Nat :=
  let c0_i32_7 : BitVec 32 := 0#32
  let c1_i32_9 : BitVec 32 := 1#32
  let arg15 : BitVec 32 := Scf.iv c0_i32_7 c1_i32_9 k1_t2
  let c1_i32_55 : BitVec 32 := 1#32
  let v138 : BitVec 32 := Scalar.addi arg15 c1_i32_55
  let c4_i32_56 : BitVec 32 := 4#32
  let v139 : BitVec 32 := Scalar.subi c4_i32_56 v138
  let c1_i32_57 : BitVec 32 := 1#32
  let v141 : BitVec 32 := Scalar.divsi v139 c1_i32_57
  let v142 : BitVec 32 := Scalar.muli v141 c1_i32_57
  let v143 : BitVec 32 := Scalar.addi v138 v142
  let c1_i32_59 : BitVec 32 := 1#32
  let arg16 : BitVec 32 := Scf.iv v143 c1_i32_59 k1_t4
  let c1024_i32_64 : BitVec 32 := 1024#32
  let v163 : BitVec 32 := Scalar.muli arg16 c1024_i32_64
  let v164 : BitVec 32 := v163
  let v165 : Index := Scalar.indexCast v164
  let c0_65 : Index := 0#32
  ![v165.toNat, 0]
def k1_off12 (k1_t2 : Fin k1_t2_loop.trips) (k1_t4 : Fin (k1_t4_loop k1_t2).trips) : Fin 2 → Nat :=
  let c0_i32_7 : BitVec 32 := 0#32
  let c1_i32_9 : BitVec 32 := 1#32
  let arg15 : BitVec 32 := Scf.iv c0_i32_7 c1_i32_9 k1_t2
  let c1_i32_55 : BitVec 32 := 1#32
  let v138 : BitVec 32 := Scalar.addi arg15 c1_i32_55
  let c4_i32_56 : BitVec 32 := 4#32
  let v139 : BitVec 32 := Scalar.subi c4_i32_56 v138
  let c1_i32_57 : BitVec 32 := 1#32
  let v141 : BitVec 32 := Scalar.divsi v139 c1_i32_57
  let v142 : BitVec 32 := Scalar.muli v141 c1_i32_57
  let v143 : BitVec 32 := Scalar.addi v138 v142
  let c1_i32_59 : BitVec 32 := 1#32
  let arg16 : BitVec 32 := Scf.iv v143 c1_i32_59 k1_t4
  let c1024_i32_64 : BitVec 32 := 1024#32
  let v163 : BitVec 32 := Scalar.muli arg16 c1024_i32_64
  let v164 : BitVec 32 := v163
  let v174 : Index := Scalar.indexCast v164
  let c0_69 : Index := 0#32
  ![v174.toNat, 0]
def k1_off13 (k1_t2 : Fin k1_t2_loop.trips) : Fin 3 → Nat :=
  let c1 : Index := 1#32
  let c0_i32_7 : BitVec 32 := 0#32
  let c1_i32_9 : BitVec 32 := 1#32
  let arg15 : BitVec 32 := Scf.iv c0_i32_7 c1_i32_9 k1_t2
  let c1024_i32 : BitVec 32 := 1024#32
  let v17 : BitVec 32 := Scalar.muli arg15 c1024_i32
  let v18 : BitVec 32 := v17
  let v149 : Index := Scalar.indexCast v18
  let c0_61 : Index := 0#32
  ![1, v149.toNat, 0]
def k1_off14 (k1_t2 : Fin k1_t2_loop.trips) : Fin 3 → Nat :=
  let c2 : Index := 2#32
  let c0_i32_7 : BitVec 32 := 0#32
  let c1_i32_9 : BitVec 32 := 1#32
  let arg15 : BitVec 32 := Scf.iv c0_i32_7 c1_i32_9 k1_t2
  let c1024_i32 : BitVec 32 := 1024#32
  let v17 : BitVec 32 := Scalar.muli arg15 c1024_i32
  let v18 : BitVec 32 := v17
  let v154 : Index := Scalar.indexCast v18
  let c0_62 : Index := 0#32
  ![2, v154.toNat, 0]
@[reducible] def k1_t5_loop : Scf.Loop 32 :=
  let c0_i32_11 : BitVec 32 := 0#32
  let c4_i32_12 : BitVec 32 := 4#32
  let v16 : BitVec 32 := Scalar.addi c0_i32_11 c4_i32_12
  let c1_i32_13 : BitVec 32 := 1#32
  ⟨c0_i32_11, v16, c1_i32_13⟩
def k1_mult7 (k1_t5 : Fin k1_t5_loop.trips) : BitVec 32 :=
  let c0_i32_11 : BitVec 32 := 0#32
  let c1_i32_13 : BitVec 32 := 1#32
  let arg15 : BitVec 32 := Scf.iv c0_i32_11 c1_i32_13 k1_t5
  let c1024_i32 : BitVec 32 := 1024#32
  let v17 : BitVec 32 := Scalar.muli arg15 c1024_i32
  v17
def k1_off15 (k1_t5 : Fin k1_t5_loop.trips) : Fin 2 → Nat :=
  let c0_i32_11 : BitVec 32 := 0#32
  let c1_i32_13 : BitVec 32 := 1#32
  let arg15 : BitVec 32 := Scf.iv c0_i32_11 c1_i32_13 k1_t5
  let c1024_i32 : BitVec 32 := 1024#32
  let v17 : BitVec 32 := Scalar.muli arg15 c1024_i32
  let v18 : BitVec 32 := v17
  let v19 : Index := Scalar.indexCast v18
  let c0_15 : Index := 0#32
  ![v19.toNat, 0]
def k1_off16 (k1_t5 : Fin k1_t5_loop.trips) : Fin 3 → Nat :=
  let c0_17 : Index := 0#32
  let c0_i32_11 : BitVec 32 := 0#32
  let c1_i32_13 : BitVec 32 := 1#32
  let arg15 : BitVec 32 := Scf.iv c0_i32_11 c1_i32_13 k1_t5
  let c1024_i32 : BitVec 32 := 1024#32
  let v17 : BitVec 32 := Scalar.muli arg15 c1024_i32
  let v18 : BitVec 32 := v17
  let v24 : Index := Scalar.indexCast v18
  let c0_18 : Index := 0#32
  ![0, v24.toNat, 0]
def k1_off17 (k1_t5 : Fin k1_t5_loop.trips) : Fin 2 → Nat :=
  let c0_i32_11 : BitVec 32 := 0#32
  let c1_i32_13 : BitVec 32 := 1#32
  let arg15 : BitVec 32 := Scf.iv c0_i32_11 c1_i32_13 k1_t5
  let c1024_i32 : BitVec 32 := 1024#32
  let v17 : BitVec 32 := Scalar.muli arg15 c1024_i32
  let v18 : BitVec 32 := v17
  let v28 : Index := Scalar.indexCast v18
  let c0_19 : Index := 0#32
  ![v28.toNat, 0]
def cc1_transform_0 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc1_transform_1 (i : grid1.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc1_transform_2 (i : grid1.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage1_0 : Fin 2 → Memref sig .tc .vmem S4096x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4096x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4096x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S4x16x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S4096x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S3x4096x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S4096x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S4x16x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]
-- ==== AttnIdeal.lean ====
variable {F : FTy → Type} [FloatOps F] [Named F]
def κ : String → Option EReal := fun
  | "mask" => some ⊥
  | _ => none
-- ==== AttnRefIdeal.lean ====
abbrev S4096x6144 : Shape := ⟨2, ![4096, 6144]⟩
abbrev S4096x16 : Shape := ⟨2, ![4096, 16]⟩
abbrev S4096x2048 : Shape := ⟨2, ![4096, 2048]⟩
abbrev S4096x16x128 : Shape := ⟨3, ![4096, 16, 128]⟩
abbrev S16x4096x128 : Shape := ⟨3, ![16, 4096, 128]⟩
abbrev S16x4096x4096 : Shape := ⟨3, ![16, 4096, 4096]⟩
abbrev S_ : Shape := ⟨0, ![]⟩
abbrev S16x4096 : Shape := ⟨2, ![16, 4096]⟩
abbrev S16x4096x1 : Shape := ⟨3, ![16, 4096, 1]⟩
abbrev S16x1x4096 : Shape := ⟨3, ![16, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x128x4096 : Shape := ⟨3, ![16, 128, 4096]⟩
abbrev S4096x3x2048 : Shape := ⟨3, ![4096, 3, 2048]⟩
abbrev S3x4096x2048 : Shape := ⟨3, ![3, 4096, 2048]⟩
abbrev S16x4x1024 : Shape := ⟨3, ![16, 4, 1024]⟩
abbrev S4x16x1024 : Shape := ⟨3, ![4, 16, 1024]⟩
abbrev S4096x112 : Shape := ⟨2, ![4096, 112]⟩
abbrev S4096x128 : Shape := ⟨2, ![4096, 128]⟩

abbrev nBuf : Space → Nat
  | .hbm => 184
  | .vmem => 0
  | .smem => 0
  | _ => 0

abbrev hbmTy0_0 (i : Nat) : BufTy := match i % 128 with
  | 0 => ⟨S4096x6144, .bf16⟩
  | 1 => ⟨S4096x16, .f32⟩
  | 2 => ⟨S4096x2048, .bf16⟩
  | 3 => ⟨S4096x6144, .f32⟩
  | 4 => ⟨S4096x2048, .f32⟩
  | 5 => ⟨S4096x2048, .f32⟩
  | 6 => ⟨S4096x2048, .f32⟩
  | 7 => ⟨S4096x16x128, .f32⟩
  | 8 => ⟨S16x4096x128, .f32⟩
  | 9 => ⟨S4096x16x128, .f32⟩
  | 10 => ⟨S16x4096x128, .f32⟩
  | 11 => ⟨S16x4096x4096, .f32⟩
  | 12 => ⟨S_, .f32⟩
  | 13 => ⟨S16x4096x4096, .f32⟩
  | 14 => ⟨S16x4096x4096, .f32⟩
  | 15 => ⟨S16x4096, .f32⟩
  | 16 => ⟨S16x4096x1, .f32⟩
  | 17 => ⟨S16x4096x4096, .f32⟩
  | 18 => ⟨S16x4096x4096, .f32⟩
  | 19 => ⟨S16x4096, .f32⟩
  | 20 => ⟨S16x1x4096, .f32⟩
  | 21 => ⟨S16x4096x4096, .f32⟩
  | 22 => ⟨S16x4096x4096, .f32⟩
  | 23 => ⟨S4096, .i32⟩
  | 24 => ⟨S1x4096, .i32⟩
  | 25 => ⟨S4096x1, .i32⟩
  | 26 => ⟨S4096x4096, .i32⟩
  | 27 => ⟨S4096x4096, .i32⟩
  | 28 => ⟨S4096x4096, .i1⟩
  | 29 => ⟨S_, .f32⟩
  | 30 => ⟨S_, .f32⟩
  | 31 => ⟨S16x4096x4096, .i1⟩
  | 32 => ⟨S16x4096x4096, .f32⟩
  | 33 => ⟨S16x4096x4096, .f32⟩
  | 34 => ⟨S_, .f32⟩
  | 35 => ⟨S16x4096x4096, .f32⟩
  | 36 => ⟨S_, .f32⟩
  | 37 => ⟨S16x4096, .f32⟩
  | 38 => ⟨S16x4096x1, .f32⟩
  | 39 => ⟨S16x4096x4096, .f32⟩
  | 40 => ⟨S16x4096x4096, .i1⟩
  | 41 => ⟨S16x4096x4096, .f32⟩
  | 42 => ⟨S_, .f32⟩
  | 43 => ⟨S16x4096, .f32⟩
  | 44 => ⟨S_, .f32⟩
  | 45 => ⟨S16x4096, .f32⟩
  | 46 => ⟨S16x4096, .f32⟩
  | 47 => ⟨S_, .f32⟩
  | 48 => ⟨S16x4096, .f32⟩
  | 49 => ⟨S16x4096, .i1⟩
  | 50 => ⟨S_, .f32⟩
  | 51 => ⟨S16x4096, .f32⟩
  | 52 => ⟨S16x4096, .i1⟩
  | 53 => ⟨S_, .f32⟩
  | 54 => ⟨S16x4096, .f32⟩
  | 55 => ⟨S_, .f32⟩
  | 56 => ⟨S16x4096, .f32⟩
  | 57 => ⟨S_, .f32⟩
  | 58 => ⟨S16x4096, .f32⟩
  | 59 => ⟨S16x4096, .f32⟩
  | 60 => ⟨S16x4096, .f32⟩
  | 61 => ⟨S16x4096x1, .f32⟩
  | 62 => ⟨S16x4096x4096, .f32⟩
  | 63 => ⟨S16x4096x4096, .f32⟩
  | 64 => ⟨S16x4096x4096, .f32⟩
  | 65 => ⟨S_, .f32⟩
  | 66 => ⟨S16x4096, .f32⟩
  | 67 => ⟨S16x4096x1, .f32⟩
  | 68 => ⟨S16x4096x4096, .f32⟩
  | 69 => ⟨S16x4096x4096, .f32⟩
  | 70 => ⟨S16x4096x1, .f32⟩
  | 71 => ⟨S_, .f32⟩
  | 72 => ⟨S16x4096x1, .f32⟩
  | 73 => ⟨S16x4096x1, .f32⟩
  | 74 => ⟨S4096x16x128, .f32⟩
  | 75 => ⟨S16x4096x128, .f32⟩
  | 76 => ⟨S16x4096x128, .f32⟩
  | 77 => ⟨S4096x16x128, .f32⟩
  | 78 => ⟨S4096x2048, .f32⟩
  | 79 => ⟨S4096x2048, .f32⟩
  | 80 => ⟨S4096x16x128, .f32⟩
  | 81 => ⟨S16x4096x128, .f32⟩
  | 82 => ⟨S16x128x4096, .f32⟩
  | 83 => ⟨S16x4096x128, .f32⟩
  | 84 => ⟨S16x4096x4096, .f32⟩
  | 85 => ⟨S4096x16x128, .f32⟩
  | 86 => ⟨S4096x2048, .f32⟩
  | 87 => ⟨S16x4096x4096, .f32⟩
  | 88 => ⟨S16x4096x4096, .f32⟩
  | 89 => ⟨S16x4096x4096, .f32⟩
  | 90 => ⟨S_, .f32⟩
  | 91 => ⟨S16x4096, .f32⟩
  | 92 => ⟨S16x4096x1, .f32⟩
  | 93 => ⟨S16x4096x1, .f32⟩
  | 94 => ⟨S16x4096x4096, .f32⟩
  | 95 => ⟨S16x4096x4096, .f32⟩
  | 96 => ⟨S_, .f32⟩
  | 97 => ⟨S16x4096, .f32⟩
  | 98 => ⟨S16x4096x4096, .f32⟩
  | 99 => ⟨S16x4096x4096, .f32⟩
  | 100 => ⟨S16x4096x4096, .f32⟩
  | 101 => ⟨S_, .f32⟩
  | 102 => ⟨S16x4096x4096, .f32⟩
  | 103 => ⟨S16x4096x4096, .f32⟩
  | 104 => ⟨S16x4096x4096, .f32⟩
  | 105 => ⟨S_, .f32⟩
  | 106 => ⟨S16x4096, .f32⟩
  | 107 => ⟨S16x1x4096, .f32⟩
  | 108 => ⟨S_, .f32⟩
  | 109 => ⟨S16x4096, .f32⟩
  | 110 => ⟨S4096x16, .f32⟩
  | 111 => ⟨S_, .f32⟩
  | 112 => ⟨S16x4096, .f32⟩
  | 113 => ⟨S16x4096x1, .f32⟩
  | 114 => ⟨S_, .f32⟩
  | 115 => ⟨S16x4096, .f32⟩
  | 116 => ⟨S4096x16, .f32⟩
  | 117 => ⟨S_, .f32⟩
  | 118 => ⟨S16x4096x4096, .f32⟩
  | 119 => ⟨S16x4096x4096, .f32⟩
  | 120 => ⟨S16x4096x128, .f32⟩
  | 121 => ⟨S16x4096x128, .f32⟩
  | 122 => ⟨S4096x16x128, .f32⟩
  | 123 => ⟨S4096x2048, .f32⟩
  | 124 => ⟨S4096x16x128, .f32⟩
  | 125 => ⟨S4096x2048, .f32⟩
  | 126 => ⟨S4096x6144, .f32⟩
  | 127 => ⟨S4096x3x2048, .f32⟩
  | _ => ⟨S4096x6144, .bf16⟩

abbrev hbmTy0_1 (i : Nat) : BufTy := match i % 128 with
  | 0 => ⟨S3x4096x2048, .f32⟩
  | 1 => ⟨S4096x16, .f32⟩
  | 2 => ⟨S16x4096, .f32⟩
  | 3 => ⟨S16x4x1024, .f32⟩
  | 4 => ⟨S4x16x1024, .f32⟩
  | 5 => ⟨S3x4096x2048, .bf16⟩
  | 6 => ⟨S_, .f32⟩
  | 7 => ⟨S4096x112, .f32⟩
  | 8 => ⟨S4096x128, .f32⟩
  | 9 => ⟨S4096x2048, .bf16⟩
  | 10 => ⟨S4096x6144, .f32⟩
  | 11 => ⟨S4096x2048, .f32⟩
  | 12 => ⟨S4096x2048, .f32⟩
  | 13 => ⟨S4096x2048, .f32⟩
  | 14 => ⟨S4096x16x128, .f32⟩
  | 15 => ⟨S16x4096x128, .f32⟩
  | 16 => ⟨S4096x16x128, .f32⟩
  | 17 => ⟨S16x4096x128, .f32⟩
  | 18 => ⟨S16x4096x4096, .f32⟩
  | 19 => ⟨S_, .f32⟩
  | 20 => ⟨S16x4096x4096, .f32⟩
  | 21 => ⟨S16x4096x4096, .f32⟩
  | 22 => ⟨S16x4096, .f32⟩
  | 23 => ⟨S16x4096x1, .f32⟩
  | 24 => ⟨S16x4096x4096, .f32⟩
  | 25 => ⟨S16x4096x4096, .f32⟩
  | 26 => ⟨S16x4096, .f32⟩
  | 27 => ⟨S16x1x4096, .f32⟩
  | 28 => ⟨S16x4096x4096, .f32⟩
  | 29 => ⟨S16x4096x4096, .f32⟩
  | 30 => ⟨S4096, .i32⟩
  | 31 => ⟨S1x4096, .i32⟩
  | 32 => ⟨S4096x1, .i32⟩
  | 33 => ⟨S4096x4096, .i32⟩
  | 34 => ⟨S4096x4096, .i32⟩
  | 35 => ⟨S4096x4096, .i1⟩
  | 36 => ⟨S_, .f32⟩
  | 37 => ⟨S_, .f32⟩
  | 38 => ⟨S16x4096x4096, .i1⟩
  | 39 => ⟨S16x4096x4096, .f32⟩
  | 40 => ⟨S16x4096x4096, .f32⟩
  | 41 => ⟨S_, .f32⟩
  | 42 => ⟨S16x4096, .f32⟩
  | 43 => ⟨S16x4096x1, .f32⟩
  | 44 => ⟨S16x4096x4096, .f32⟩
  | 45 => ⟨S16x4096x4096, .f32⟩
  | 46 => ⟨S16x4096x4096, .f32⟩
  | 47 => ⟨S_, .f32⟩
  | 48 => ⟨S16x4096, .f32⟩
  | 49 => ⟨S16x4096, .f32⟩
  | 50 => ⟨S16x4096, .f32⟩
  | 51 => ⟨S4096x16, .f32⟩
  | 52 => ⟨S4096x16, .f32⟩
  | 53 => ⟨S_, .f32⟩
  | 54 => ⟨S4096x112, .f32⟩
  | 55 => ⟨S4096x128, .f32⟩
  | _ => ⟨S4096x6144, .bf16⟩

abbrev hbmTy (i : Nat) : BufTy := match i / 128 with
  | 0 => hbmTy0_0 i
  | 1 => hbmTy0_1 i
  | _ => ⟨S4096x6144, .bf16⟩

abbrev bufTy : (tb : Table) → Fin (tcTables nBuf tb) → BufTy
  | .hbm, ⟨i, _⟩ => hbmTy i
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst_0 : Ref sig .tc := ⟨.hbm, 29, rfl⟩
abbrev main_call0_v0 : Ref sig .tc := ⟨.hbm, 30, rfl⟩
abbrev main_v25_1 : Ref sig .tc := ⟨.hbm, 31, rfl⟩
abbrev main_call0_v2 : Ref sig .tc := ⟨.hbm, 32, rfl⟩
abbrev main_v25_0 : Ref sig .tc := ⟨.hbm, 33, rfl⟩
abbrev main_call0_cst : Ref sig .tc := ⟨.hbm, 34, rfl⟩
abbrev main_v25_2 : Ref sig .tc := ⟨.hbm, 35, rfl⟩
abbrev main_cst_1 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_2 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_cst_8 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_9 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_10 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_11 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_12 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_call1_cst : Ref sig .tc := ⟨.hbm, 101, rfl⟩
abbrev main_call1_v0 : Ref sig .tc := ⟨.hbm, 102, rfl⟩
abbrev main_v79 : Ref sig .tc := ⟨.hbm, 103, rfl⟩
abbrev main_v80 : Ref sig .tc := ⟨.hbm, 104, rfl⟩
abbrev main_cst_13 : Ref sig .tc := ⟨.hbm, 105, rfl⟩
abbrev main_v81 : Ref sig .tc := ⟨.hbm, 106, rfl⟩
abbrev main_v82 : Ref sig .tc := ⟨.hbm, 107, rfl⟩
abbrev main_cst_14 : Ref sig .tc := ⟨.hbm, 108, rfl⟩
abbrev main_v83 : Ref sig .tc := ⟨.hbm, 109, rfl⟩
abbrev main_v84 : Ref sig .tc := ⟨.hbm, 110, rfl⟩
abbrev main_cst_15 : Ref sig .tc := ⟨.hbm, 111, rfl⟩
abbrev main_v85 : Ref sig .tc := ⟨.hbm, 112, rfl⟩
abbrev main_v86 : Ref sig .tc := ⟨.hbm, 113, rfl⟩
abbrev main_cst_16 : Ref sig .tc := ⟨.hbm, 114, rfl⟩
abbrev main_v87 : Ref sig .tc := ⟨.hbm, 115, rfl⟩
abbrev main_v88 : Ref sig .tc := ⟨.hbm, 116, rfl⟩
abbrev main_cst_17 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_cst_18 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_cst_19 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_cst_20 : Ref sig .tc := ⟨.hbm, 164, rfl⟩
abbrev main_call2_v0 : Ref sig .tc := ⟨.hbm, 165, rfl⟩
abbrev main_call2_v1 : Ref sig .tc := ⟨.hbm, 166, rfl⟩
abbrev main_call2_v2 : Ref sig .tc := ⟨.hbm, 167, rfl⟩
abbrev main_v133 : Ref sig .tc := ⟨.hbm, 168, rfl⟩
abbrev main_cst_21 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_cst_22 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_cst_23 : Ref sig .tc := ⟨.hbm, 181, rfl⟩
abbrev main_v144 : Ref sig .tc := ⟨.hbm, 182, rfl⟩
abbrev main_v145 : Ref sig .tc := ⟨.hbm, 183, rfl⟩

abbrev nD : Nat := 1
abbrev τ : Topo := Topo.v7x

variable {F : FTy → Type} [FloatOps F]
-- ==== Relu2.lean ====
abbrev S4096x8192 : Shape := ⟨2, ![4096, 8192]⟩
abbrev S8192x2048 : Shape := ⟨2, ![8192, 2048]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .f32⟩
  | .hbm, ⟨2, _⟩ => ⟨S4096x2048, .bf16⟩
  | .hbm, ⟨3, _⟩ => ⟨S8192x2048, .bf16⟩
  | .hbm, ⟨4, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Relu2RefIdeal.lean ====
abbrev S4096x8192 : Shape := ⟨2, ![4096, 8192]⟩
abbrev S8192x2048 : Shape := ⟨2, ![8192, 2048]⟩
abbrev S4096x2048 : Shape := ⟨2, ![4096, 2048]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .f32⟩
  | .hbm, ⟨2, _⟩ => ⟨S4096x2048, .bf16⟩
  | .hbm, ⟨3, _⟩ => ⟨S4096x8192, .f32⟩
  | .hbm, ⟨4, _⟩ => ⟨S_, .f32⟩
  | .hbm, ⟨5, _⟩ => ⟨S4096x8192, .f32⟩
  | .hbm, ⟨6, _⟩ => ⟨S4096x8192, .f32⟩
  | .hbm, ⟨7, _⟩ => ⟨S_, .f32⟩
  | .hbm, ⟨8, _⟩ => ⟨S4096x8192, .f32⟩
  | .hbm, ⟨9, _⟩ => ⟨S4096x8192, .i1⟩
  | .hbm, ⟨10, _⟩ => ⟨S_, .f32⟩
  | .hbm, ⟨11, _⟩ => ⟨S4096x8192, .f32⟩
  | .hbm, ⟨12, _⟩ => ⟨S4096x8192, .f32⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S4096x2048, .f32⟩
  | .hbm, ⟨17, _⟩ => ⟨S4096x2048, .f32⟩
  | .hbm, ⟨18, _⟩ => ⟨S4096x8192, .f32⟩
  | .hbm, ⟨19, _⟩ => ⟨S4096x8192, .f32⟩
  | .hbm, ⟨20, _⟩ => ⟨S_, .f32⟩
  | .hbm, ⟨21, _⟩ => ⟨S4096x8192, .f32⟩
  | .hbm, ⟨22, _⟩ => ⟨S4096x8192, .f32⟩
  | .hbm, ⟨23, _⟩ => ⟨S4096x8192, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Norm.lean ====
abbrev S4096x2048 : Shape := ⟨2, ![4096, 2048]⟩
abbrev S2048 : Shape := ⟨1, ![2048]⟩
abbrev S1x2048 : Shape := ⟨2, ![1, 2048]⟩
abbrev S8x2048 : Shape := ⟨2, ![8, 2048]⟩
abbrev S256x2048 : Shape := ⟨2, ![256, 2048]⟩
abbrev S256 : Shape := ⟨1, ![256]⟩
abbrev S256x1 : Shape := ⟨2, ![256, 1]⟩

abbrev nBuf : Space → Nat
  | .hbm => 21
  | .vmem => 16
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S2048, .f32⟩
  | .hbm, ⟨3, _⟩ => ⟨S2048, .f32⟩
  | .hbm, ⟨4, _⟩ => ⟨S2048, .f32⟩
  | .hbm, ⟨5, _⟩ => ⟨S2048, .f32⟩
  | .hbm, ⟨6, _⟩ => ⟨S4096x2048, .bf16⟩
  | .hbm, ⟨7, _⟩ => ⟨S2048, .f32⟩
  | .hbm, ⟨8, _⟩ => ⟨S4096x2048, .bf16⟩
  | .hbm, ⟨9, _⟩ => ⟨S4096x2048, .f32⟩
  | .hbm, ⟨10, _⟩ => ⟨S4096x2048, .f32⟩
  | .hbm, ⟨11, _⟩ => ⟨S1x2048, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S1x2048, .f32⟩
  | .hbm, ⟨16, _⟩ => ⟨S1x2048, .f32⟩
  | .hbm, ⟨17, _⟩ => ⟨S1x2048, .f32⟩
  | .hbm, ⟨18, _⟩ => ⟨S4096x2048, .f32⟩
  | .hbm, ⟨19, _⟩ => ⟨S4096x2048, .bf16⟩
  | .hbm, ⟨20, _⟩ => ⟨S8x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S256x2048, .f32⟩
  | .local _ .vmem, ⟨5, _⟩ => ⟨S256x2048, .f32⟩
  | .local _ .vmem, ⟨6, _⟩ => ⟨S256x2048, .bf16⟩
  | .local _ .vmem, ⟨7, _⟩ => ⟨S256x2048, .bf16⟩
  | .local _ .vmem, ⟨8, _⟩ => ⟨S1x2048, .f32⟩
  | .local _ .vmem, ⟨9, _⟩ => ⟨S1x2048, .f32⟩
  | .local _ .vmem, ⟨10, _⟩ => ⟨S1x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .bf16⟩
  | .local _ .vmem, ⟨14, _⟩ => ⟨S256x2048, .bf16⟩
  | .local _ .vmem, ⟨15, _⟩ => ⟨S8x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v8_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== NormRefIdeal.lean ====
abbrev S4096x2048 : Shape := ⟨2, ![4096, 2048]⟩
abbrev S2048 : Shape := ⟨1, ![2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S4x2048 : Shape := ⟨2, ![4, 2048]⟩
abbrev S8x2048 : Shape := ⟨2, ![8, 2048]⟩

abbrev nBuf : Space → Nat
  | .hbm => 107
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S2048, .f32⟩
  | .hbm, ⟨3, _⟩ => ⟨S2048, .f32⟩
  | .hbm, ⟨4, _⟩ => ⟨S2048, .f32⟩
  | .hbm, ⟨5, _⟩ => ⟨S2048, .f32⟩
  | .hbm, ⟨6, _⟩ => ⟨S4096x2048, .bf16⟩
  | .hbm, ⟨7, _⟩ => ⟨S2048, .f32⟩
  | .hbm, ⟨8, _⟩ => ⟨S4096x2048, .bf16⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S1x2048, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x2048, .f32⟩
  | .hbm, ⟨32, _⟩ => ⟨S4096x2048, .f32⟩
  | .hbm, ⟨33, _⟩ => ⟨S1x2048, .f32⟩
  | .hbm, ⟨34, _⟩ => ⟨S4096x2048, .f32⟩
  | .hbm, ⟨35, _⟩ => ⟨S4096x2048, .f32⟩
  | .hbm, ⟨36, _⟩ => ⟨S1x2048, .f32⟩
  | .hbm, ⟨37, _⟩ => ⟨S_, .f32⟩
  | .hbm, ⟨38, _⟩ => ⟨S1x2048, .f32⟩
  | .hbm, ⟨39, _⟩ => ⟨S1x2048, .f32⟩
  | .hbm, ⟨40, _⟩ => ⟨S4096x2048, .f32⟩
  | .hbm, ⟨41, _⟩ => ⟨S4096x2048, .f32⟩
  | .hbm, ⟨42, _⟩ => ⟨S1x2048, .f32⟩
  | .hbm, ⟨43, _⟩ => ⟨S4096x2048, .f32⟩
  | .hbm, ⟨44, _⟩ => ⟨S4096x2048, .f32⟩
  | .hbm, ⟨45, _⟩ => ⟨S1x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S_, .f32⟩
  | .hbm, ⟨54, _⟩ => ⟨S2048, .f32⟩
  | .hbm, ⟨55, _⟩ => ⟨S1x2048, .f32⟩
  | .hbm, ⟨56, _⟩ => ⟨S_, .f32⟩
  | .hbm, ⟨57, _⟩ => ⟨S2048, .f32⟩
  | .hbm, ⟨58, _⟩ => ⟨S_, .f32⟩
  | .hbm, ⟨59, _⟩ => ⟨S2048, .f32⟩
  | .hbm, ⟨60, _⟩ => ⟨S1x2048, .f32⟩
  | .hbm, ⟨61, _⟩ => ⟨S_, .f32⟩
  | .hbm, ⟨62, _⟩ => ⟨S2048, .f32⟩
  | .hbm, ⟨63, _⟩ => ⟨S4096x2048, .f32⟩
  | .hbm, ⟨64, _⟩ => ⟨S_, .f32⟩
  | .hbm, ⟨65, _⟩ => ⟨S2048, .f32⟩
  | .hbm, ⟨66, _⟩ => ⟨S1x2048, .f32⟩
  | .hbm, ⟨67, _⟩ => ⟨S4096x2048, .f32⟩
  | .hbm, ⟨68, _⟩ => ⟨S4096x2048, .f32⟩
  | .hbm, ⟨69, _⟩ => ⟨S_, .f32⟩
  | .hbm, ⟨70, _⟩ => ⟨S2048, .f32⟩
  | .hbm, ⟨71, _⟩ => ⟨S4096x2048, .f32⟩
  | .hbm, ⟨72, _⟩ => ⟨S_, .f32⟩
  | .hbm, ⟨73, _⟩ => ⟨S2048, .f32⟩
  | .hbm, ⟨74, _⟩ => ⟨S1x2048, .f32⟩
  | .hbm, ⟨75, _⟩ => ⟨S4096x2048, .f32⟩
  | .hbm, ⟨76, _⟩ => ⟨S4096x2048, .f32⟩
  | .hbm, ⟨77, _⟩ => ⟨S_, .f32⟩
  | .hbm, ⟨78, _⟩ => ⟨S2048, .f32⟩
  | .hbm, ⟨79, _⟩ => ⟨S4096x2048, .f32⟩
  | .hbm, ⟨80, _⟩ => ⟨S_, .f32⟩
  | .hbm, ⟨81, _⟩ => ⟨S4096, .f32⟩
  | .hbm, ⟨82, _⟩ => ⟨S4096x1, .f32⟩
  | .hbm, ⟨83, _⟩ => ⟨S4096x2048, .f32⟩
  | .hbm, ⟨84, _⟩ => ⟨S4096x2048, .f32⟩
  | .hbm, ⟨85, _⟩ => ⟨S4096x2048, .f32⟩
  | .hbm, ⟨86, _⟩ => ⟨S4096x1, .f32⟩
  | .hbm, ⟨87, _⟩ => ⟨S_, .f32⟩
  | .hbm, ⟨88, _⟩ => ⟨S4096x1, .f32⟩
  | .hbm, ⟨89, _⟩ => ⟨S4096x1, .f32⟩
  | .hbm, ⟨90, _⟩ => ⟨S_, .f32⟩
  | .hbm, ⟨91, _⟩ => ⟨S4096, .f32⟩
  | .hbm, ⟨92, _⟩ => ⟨S4096x2048, .f32⟩
  | .hbm, ⟨93, _⟩ => ⟨S4096x2048, .f32⟩
  | .hbm, ⟨94, _⟩ => ⟨S4096x2048, .f32⟩
  | .hbm, ⟨95, _⟩ => ⟨S4096x2048, .f32⟩
  | .hbm, ⟨96, _⟩ => ⟨S4096x2048, .f32⟩
  | .hbm, ⟨97, _⟩ => ⟨S4096x2048, .f32⟩
  | .hbm, ⟨98, _⟩ => ⟨S4096x2048, .f32⟩
  | .hbm, ⟨99, _⟩ => ⟨S1x2048, .f32⟩
  | .hbm, ⟨100, _⟩ => ⟨S1x2048, .f32⟩
  | .hbm, ⟨101, _⟩ => ⟨S1x2048, .f32⟩
  | .hbm, ⟨102, _⟩ => ⟨S1x2048, .f32⟩
  | .hbm, ⟨103, _⟩ => ⟨S_, .f32⟩
  | .hbm, ⟨104, _⟩ => ⟨S4x2048, .f32⟩
  | .hbm, ⟨105, _⟩ => ⟨S8x2048, .f32⟩
  | .hbm, ⟨106, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_4 : Ref sig .tc := ⟨.hbm, 53, rfl⟩
abbrev main_v38 : Ref sig .tc := ⟨.hbm, 54, rfl⟩
abbrev main_v39 : Ref sig .tc := ⟨.hbm, 55, rfl⟩
abbrev main_cst_5 : Ref sig .tc := ⟨.hbm, 56, rfl⟩
abbrev main_v40 : Ref sig .tc := ⟨.hbm, 57, rfl⟩
abbrev main_cst_6 : Ref sig .tc := ⟨.hbm, 58, rfl⟩
abbrev main_v41 : Ref sig .tc := ⟨.hbm, 59, rfl⟩
abbrev main_v42 : Ref sig .tc := ⟨.hbm, 60, rfl⟩
abbrev main_cst_7 : Ref sig .tc := ⟨.hbm, 61, rfl⟩
abbrev main_v43 : Ref sig .tc := ⟨.hbm, 62, rfl⟩
abbrev main_v44 : Ref sig .tc := ⟨.hbm, 63, rfl⟩
abbrev main_cst_8 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_9 : Ref sig .tc := ⟨.hbm, 69, rfl⟩
abbrev main_v49 : Ref sig .tc := ⟨.hbm, 70, rfl⟩
abbrev main_v50 : Ref sig .tc := ⟨.hbm, 71, rfl⟩
abbrev main_cst_10 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_11 : Ref sig .tc := ⟨.hbm, 77, rfl⟩
abbrev main_v55 : Ref sig .tc := ⟨.hbm, 78, rfl⟩
abbrev main_v56 : Ref sig .tc := ⟨.hbm, 79, rfl⟩
abbrev main_cst_12 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_13 : Ref sig .tc := ⟨.hbm, 87, rfl⟩
abbrev main_v63 : Ref sig .tc := ⟨.hbm, 88, rfl⟩
abbrev main_v64 : Ref sig .tc := ⟨.hbm, 89, rfl⟩
abbrev main_cst_14 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_15 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩

abbrev nD : Nat := 1
abbrev τ : Topo := Topo.v7x

variable {F : FTy → Type} [FloatOps F]
-- ==== Norm0.lean ====
abbrev S4096x2048 : Shape := ⟨2, ![4096, 2048]⟩
abbrev S2048 : Shape := ⟨1, ![2048]⟩
abbrev S1x2048 : Shape := ⟨2, ![1, 2048]⟩
abbrev S8x2048 : Shape := ⟨2, ![8, 2048]⟩
abbrev S256x2048 : Shape := ⟨2, ![256, 2048]⟩
abbrev S256 : Shape := ⟨1, ![256]⟩
abbrev S256x1 : Shape := ⟨2, ![256, 1]⟩

abbrev nBuf : Space → Nat
  | .hbm => 12
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S2048, .f32⟩
  | .hbm, ⟨3, _⟩ => ⟨S2048, .f32⟩
  | .hbm, ⟨4, _⟩ => ⟨S4096x2048, .bf16⟩
  | .hbm, ⟨5, _⟩ => ⟨S2048, .f32⟩
  | .hbm, ⟨6, _⟩ => ⟨S4096x2048, .bf16⟩
  | .hbm, ⟨7, _⟩ => ⟨S4096x2048, .f32⟩
  | .hbm, ⟨8, _⟩ => ⟨S1x2048, .f32⟩
  | .hbm, ⟨9, _⟩ => ⟨S1x2048, .f32⟩
  | .hbm, ⟨10, _⟩ => ⟨S4096x2048, .f32⟩
  | .hbm, ⟨11, _⟩ => ⟨S8x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S256x2048, .f32⟩
  | .local _ .vmem, ⟨5, _⟩ => ⟨S256x2048, .f32⟩
  | .local _ .vmem, ⟨6, _⟩ => ⟨S256x2048, .bf16⟩
  | .local _ .vmem, ⟨7, _⟩ => ⟨S256x2048, .bf16⟩
  | .local _ .vmem, ⟨8, _⟩ => ⟨S1x2048, .f32⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | .local _ .vmem, ⟨12, _⟩ => ⟨S8x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Norm0RefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S4x2048 : Shape := ⟨2, ![4, 2048]⟩
abbrev S8x2048 : Shape := ⟨2, ![8, 2048]⟩

abbrev nBuf : Space → Nat
  | .hbm => 96
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S2048, .f32⟩
  | .hbm, ⟨3, _⟩ => ⟨S2048, .f32⟩
  | .hbm, ⟨4, _⟩ => ⟨S4096x2048, .bf16⟩
  | .hbm, ⟨5, _⟩ => ⟨S2048, .f32⟩
  | .hbm, ⟨6, _⟩ => ⟨S4096x2048, .bf16⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x2048, .f32⟩
  | .hbm, ⟨25, _⟩ => ⟨S4096x2048, .f32⟩
  | .hbm, ⟨26, _⟩ => ⟨S1x2048, .f32⟩
  | .hbm, ⟨27, _⟩ => ⟨S4096x2048, .f32⟩
  | .hbm, ⟨28, _⟩ => ⟨S4096x2048, .f32⟩
  | .hbm, ⟨29, _⟩ => ⟨S1x2048, .f32⟩
  | .hbm, ⟨30, _⟩ => ⟨S_, .f32⟩
  | .hbm, ⟨31, _⟩ => ⟨S1x2048, .f32⟩
  | .hbm, ⟨32, _⟩ => ⟨S1x2048, .f32⟩
  | .hbm, ⟨33, _⟩ => ⟨S4096x2048, .f32⟩
  | .hbm, ⟨34, _⟩ => ⟨S4096x2048, .f32⟩
  | .hbm, ⟨35, _⟩ => ⟨S1x2048, .f32⟩
  | .hbm, ⟨36, _⟩ => ⟨S4096x2048, .f32⟩
  | .hbm, ⟨37, _⟩ => ⟨S4096x2048, .f32⟩
  | .hbm, ⟨38, _⟩ => ⟨S1x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S_, .f32⟩
  | .hbm, ⟨46, _⟩ => ⟨S2048, .f32⟩
  | .hbm, ⟨47, _⟩ => ⟨S1x2048, .f32⟩
  | .hbm, ⟨48, _⟩ => ⟨S_, .f32⟩
  | .hbm, ⟨49, _⟩ => ⟨S2048, .f32⟩
  | .hbm, ⟨50, _⟩ => ⟨S_, .f32⟩
  | .hbm, ⟨51, _⟩ => ⟨S2048, .f32⟩
  | .hbm, ⟨52, _⟩ => ⟨S1x2048, .f32⟩
  | .hbm, ⟨53, _⟩ => ⟨S_, .f32⟩
  | .hbm, ⟨54, _⟩ => ⟨S2048, .f32⟩
  | .hbm, ⟨55, _⟩ => ⟨S4096x2048, .f32⟩
  | .hbm, ⟨56, _⟩ => ⟨S_, .f32⟩
  | .hbm, ⟨57, _⟩ => ⟨S2048, .f32⟩
  | .hbm, ⟨58, _⟩ => ⟨S1x2048, .f32⟩
  | .hbm, ⟨59, _⟩ => ⟨S4096x2048, .f32⟩
  | .hbm, ⟨60, _⟩ => ⟨S4096x2048, .f32⟩
  | .hbm, ⟨61, _⟩ => ⟨S_, .f32⟩
  | .hbm, ⟨62, _⟩ => ⟨S2048, .f32⟩
  | .hbm, ⟨63, _⟩ => ⟨S4096x2048, .f32⟩
  | .hbm, ⟨64, _⟩ => ⟨S_, .f32⟩
  | .hbm, ⟨65, _⟩ => ⟨S2048, .f32⟩
  | .hbm, ⟨66, _⟩ => ⟨S1x2048, .f32⟩
  | .hbm, ⟨67, _⟩ => ⟨S4096x2048, .f32⟩
  | .hbm, ⟨68, _⟩ => ⟨S4096x2048, .f32⟩
  | .hbm, ⟨69, _⟩ => ⟨S_, .f32⟩
  | .hbm, ⟨70, _⟩ => ⟨S2048, .f32⟩
  | .hbm, ⟨71, _⟩ => ⟨S4096x2048, .f32⟩
  | .hbm, ⟨72, _⟩ => ⟨S_, .f32⟩
  | .hbm, ⟨73, _⟩ => ⟨S4096, .f32⟩
  | .hbm, ⟨74, _⟩ => ⟨S4096x1, .f32⟩
  | .hbm, ⟨75, _⟩ => ⟨S4096x2048, .f32⟩
  | .hbm, ⟨76, _⟩ => ⟨S4096x2048, .f32⟩
  | .hbm, ⟨77, _⟩ => ⟨S4096x2048, .f32⟩
  | .hbm, ⟨78, _⟩ => ⟨S4096x1, .f32⟩
  | .hbm, ⟨79, _⟩ => ⟨S_, .f32⟩
  | .hbm, ⟨80, _⟩ => ⟨S4096x1, .f32⟩
  | .hbm, ⟨81, _⟩ => ⟨S4096x1, .f32⟩
  | .hbm, ⟨82, _⟩ => ⟨S_, .f32⟩
  | .hbm, ⟨83, _⟩ => ⟨S4096, .f32⟩
  | .hbm, ⟨84, _⟩ => ⟨S4096x2048, .f32⟩
  | .hbm, ⟨85, _⟩ => ⟨S4096x2048, .f32⟩
  | .hbm, ⟨86, _⟩ => ⟨S4096x2048, .f32⟩
  | .hbm, ⟨87, _⟩ => ⟨S4096x2048, .f32⟩
  | .hbm, ⟨88, _⟩ => ⟨S4096x2048, .f32⟩
  | .hbm, ⟨89, _⟩ => ⟨S1x2048, .f32⟩
  | .hbm, ⟨90, _⟩ => ⟨S1x2048, .f32⟩
  | .hbm, ⟨91, _⟩ => ⟨S1x2048, .f32⟩
  | .hbm, ⟨92, _⟩ => ⟨S1x2048, .f32⟩
  | .hbm, ⟨93, _⟩ => ⟨S_, .f32⟩
  | .hbm, ⟨94, _⟩ => ⟨S4x2048, .f32⟩
  | .hbm, ⟨95, _⟩ => ⟨S8x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_cst_6 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_cst_8 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_9 : Ref sig .tc := ⟨.hbm, 61, rfl⟩
abbrev main_v43 : Ref sig .tc := ⟨.hbm, 62, rfl⟩
abbrev main_v44 : Ref sig .tc := ⟨.hbm, 63, rfl⟩
abbrev main_cst_10 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_11 : Ref sig .tc := ⟨.hbm, 69, rfl⟩
abbrev main_v49 : Ref sig .tc := ⟨.hbm, 70, rfl⟩
abbrev main_v50 : Ref sig .tc := ⟨.hbm, 71, rfl⟩
abbrev main_cst_12 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_13 : Ref sig .tc := ⟨.hbm, 79, rfl⟩
abbrev main_v57 : Ref sig .tc := ⟨.hbm, 80, rfl⟩
abbrev main_v58 : Ref sig .tc := ⟨.hbm, 81, rfl⟩
abbrev main_cst_14 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_15 : Ref sig .tc := ⟨.hbm, 93, rfl⟩
abbrev main_v69 : Ref sig .tc := ⟨.hbm, 94, rfl⟩
abbrev main_v70 : Ref sig .tc := ⟨.hbm, 95, rfl⟩

abbrev nD : Nat := 1
abbrev τ : Topo := Topo.v7x

variable {F : FTy → Type} [FloatOps F]
-- ==== Loss.lean ====
abbrev S4096x2048 : Shape := ⟨2, ![4096, 2048]⟩
abbrev S2048 : Shape := ⟨1, ![2048]⟩
abbrev S1x2048 : Shape := ⟨2, ![1, 2048]⟩
abbrev S8x2048 : Shape := ⟨2, ![8, 2048]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 15
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S2048, .f32⟩
  | .hbm, ⟨3, _⟩ => ⟨S4096x2048, .f32⟩
  | .hbm, ⟨4, _⟩ => ⟨S2048, .f32⟩
  | .hbm, ⟨5, _⟩ => ⟨S4096x2048, .f32⟩
  | .hbm, ⟨6, _⟩ => ⟨S1x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S1x2048, .f32⟩
  | .hbm, ⟨11, _⟩ => ⟨S1x2048, .f32⟩
  | .hbm, ⟨12, _⟩ => ⟨S4096x2048, .f32⟩
  | .hbm, ⟨13, _⟩ => ⟨S4096x2048, .bf16⟩
  | .hbm, ⟨14, _⟩ => ⟨S8x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | .local _ .vmem, ⟨10, _⟩ => ⟨S8x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossRefIdeal.lean ====
abbrev S4096x2048 : Shape := ⟨2, ![4096, 2048]⟩
abbrev S2048 : Shape := ⟨1, ![2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S6x2048 : Shape := ⟨2, ![6, 2048]⟩
abbrev S8x2048 : Shape := ⟨2, ![8, 2048]⟩

abbrev nBuf : Space → Nat
  | .hbm => 86
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S2048, .f32⟩
  | .hbm, ⟨3, _⟩ => ⟨S4096x2048, .f32⟩
  | .hbm, ⟨4, _⟩ => ⟨S2048, .f32⟩
  | .hbm, ⟨5, _⟩ => ⟨S4096x2048, .f32⟩
  | .hbm, ⟨6, _⟩ => ⟨S1x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x2048, .f32⟩
  | .hbm, ⟨26, _⟩ => ⟨S4096x2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S_, .f32⟩
  | .hbm, ⟨33, _⟩ => ⟨S4096x2048, .f32⟩
  | .hbm, ⟨34, _⟩ => ⟨S4096x2048, .f32⟩
  | .hbm, ⟨35, _⟩ => ⟨S_, .f32⟩
  | .hbm, ⟨36, _⟩ => ⟨S4096, .f32⟩
  | .hbm, ⟨37, _⟩ => ⟨S_, .f32⟩
  | .hbm, ⟨38, _⟩ => ⟨S4096, .f32⟩
  | .hbm, ⟨39, _⟩ => ⟨S4096, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S4096, .f32⟩
  | .hbm, ⟨48, _⟩ => ⟨S_, .f32⟩
  | .hbm, ⟨49, _⟩ => ⟨S4096, .f32⟩
  | .hbm, ⟨50, _⟩ => ⟨S4096, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S_, .f32⟩
  | .hbm, ⟨55, _⟩ => ⟨S2048, .f32⟩
  | .hbm, ⟨56, _⟩ => ⟨S1x2048, .f32⟩
  | .hbm, ⟨57, _⟩ => ⟨S4096x2048, .f32⟩
  | .hbm, ⟨58, _⟩ => ⟨S4096x2048, .f32⟩
  | .hbm, ⟨59, _⟩ => ⟨S_, .f32⟩
  | .hbm, ⟨60, _⟩ => ⟨S2048, .f32⟩
  | .hbm, ⟨61, _⟩ => ⟨S4096x2048, .f32⟩
  | .hbm, ⟨62, _⟩ => ⟨S_, .f32⟩
  | .hbm, ⟨63, _⟩ => ⟨S4096, .f32⟩
  | .hbm, ⟨64, _⟩ => ⟨S4096x1, .f32⟩
  | .hbm, ⟨65, _⟩ => ⟨S4096x2048, .f32⟩
  | .hbm, ⟨66, _⟩ => ⟨S4096x2048, .f32⟩
  | .hbm, ⟨67, _⟩ => ⟨S4096x1, .f32⟩
  | .hbm, ⟨68, _⟩ => ⟨S_, .f32⟩
  | .hbm, ⟨69, _⟩ => ⟨S4096x1, .f32⟩
  | .hbm, ⟨70, _⟩ => ⟨S4096x1, .f32⟩
  | .hbm, ⟨71, _⟩ => ⟨S_, .f32⟩
  | .hbm, ⟨72, _⟩ => ⟨S4096, .f32⟩
  | .hbm, ⟨73, _⟩ => ⟨S4096x2048, .f32⟩
  | .hbm, ⟨74, _⟩ => ⟨S4096x2048, .f32⟩
  | .hbm, ⟨75, _⟩ => ⟨S4096x2048, .f32⟩
  | .hbm, ⟨76, _⟩ => ⟨S4096x2048, .f32⟩
  | .hbm, ⟨77, _⟩ => ⟨S4096x2048, .f32⟩
  | .hbm, ⟨78, _⟩ => ⟨S4096x2048, .f32⟩
  | .hbm, ⟨79, _⟩ => ⟨S4096x2048, .f32⟩
  | .hbm, ⟨80, _⟩ => ⟨S1x2048, .f32⟩
  | .hbm, ⟨81, _⟩ => ⟨S1x2048, .f32⟩
  | .hbm, ⟨82, _⟩ => ⟨S_, .f32⟩
  | .hbm, ⟨83, _⟩ => ⟨S6x2048, .f32⟩
  | .hbm, ⟨84, _⟩ => ⟨S8x2048, .f32⟩
  | .hbm, ⟨85, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_cst_8 : Ref sig .tc := ⟨.hbm, 44, rfl⟩
abbrev main_cst_9 : Ref sig .tc := ⟨.hbm, 45, rfl⟩
abbrev main_v30 : Ref sig .tc := ⟨.hbm, 46, rfl⟩
abbrev main_v31 : Ref sig .tc := ⟨.hbm, 47, rfl⟩
abbrev main_cst_10 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_11 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_12 : Ref sig .tc := ⟨.hbm, 59, rfl⟩
abbrev main_v41 : Ref sig .tc := ⟨.hbm, 60, rfl⟩
abbrev main_v42 : Ref sig .tc := ⟨.hbm, 61, rfl⟩
abbrev main_cst_13 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_14 : Ref sig .tc := ⟨.hbm, 68, rfl⟩
abbrev main_v48 : Ref sig .tc := ⟨.hbm, 69, rfl⟩
abbrev main_v49 : Ref sig .tc := ⟨.hbm, 70, rfl⟩
abbrev main_cst_15 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_16 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩

abbrev nD : Nat := 1
abbrev τ : Topo := Topo.v7x

variable {F : FTy → Type} [FloatOps F]
-- ==== ConvFwd.lean ====
abbrev S4096x6144 : Shape := ⟨2, ![4096, 6144]⟩
abbrev S3x2048 : Shape := ⟨2, ![3, 2048]⟩
abbrev S4096x2048 : Shape := ⟨2, ![4096, 2048]⟩
abbrev S4096x128 : Shape := ⟨2, ![4096, 128]⟩
abbrev S3x128 : Shape := ⟨2, ![3, 128]⟩
abbrev S1x128 : Shape := ⟨2, ![1, 128]⟩

abbrev nBuf : Space → Nat
  | .hbm => 3
  | .vmem => 10
  | .smem => 0
  | _ => 0

abbrev bufTy : (tb : Table) → Fin (tcTables nBuf tb) → BufTy
  | .hbm, ⟨0, _⟩ => ⟨S4096x6144, .bf16⟩
  | .hbm, ⟨1, _⟩ => ⟨S3x2048, .f32⟩
  | .hbm, ⟨2, _⟩ => ⟨S4096x2048, .bf16⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S3x128, .f32⟩
  | .local _ .vmem, ⟨7, _⟩ => ⟨S3x128, .f32⟩
  | .local _ .vmem, ⟨8, _⟩ => ⟨S4096x128, .bf16⟩
  | .local _ .vmem, ⟨9, _⟩ => ⟨S4096x128, .bf16⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ConvFwdRefIdeal.lean ====
abbrev S4096x6144 : Shape := ⟨2, ![4096, 6144]⟩
abbrev S3x2048 : Shape := ⟨2, ![3, 2048]⟩
abbrev S4096x2048 : Shape := ⟨2, ![4096, 2048]⟩
abbrev S_ : Shape := ⟨0, ![]⟩
abbrev S2x2048 : Shape := ⟨2, ![2, 2048]⟩
abbrev S4098x2048 : Shape := ⟨2, ![4098, 2048]⟩
abbrev S1x2048 : Shape := ⟨2, ![1, 2048]⟩
abbrev S2048 : Shape := ⟨1, ![2048]⟩

abbrev nBuf : Space → Nat
  | .hbm => 35
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S3x2048, .f32⟩
  | .hbm, ⟨2, _⟩ => ⟨S4096x6144, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S2x2048, .f32⟩
  | .hbm, ⟨9, _⟩ => ⟨S4098x2048, .f32⟩
  | .hbm, ⟨10, _⟩ => ⟨S1x2048, .f32⟩
  | .hbm, ⟨11, _⟩ => ⟨S2048, .f32⟩
  | .hbm, ⟨12, _⟩ => ⟨S4096x2048, .f32⟩
  | .hbm, ⟨13, _⟩ => ⟨S1x2048, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S1x2048, .f32⟩
  | .hbm, ⟨20, _⟩ => ⟨S2048, .f32⟩
  | .hbm, ⟨21, _⟩ => ⟨S4096x2048, .f32⟩
  | .hbm, ⟨22, _⟩ => ⟨S1x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S1x2048, .f32⟩
  | .hbm, ⟨27, _⟩ => ⟨S2048, .f32⟩
  | .hbm, ⟨28, _⟩ => ⟨S4096x2048, .f32⟩
  | .hbm, ⟨29, _⟩ => ⟨S1x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .bf16⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩

abbrev nD : Nat := 1
abbrev τ : Topo := Topo.v7x

variable {F : FTy → Type} [FloatOps F]
-- ==== NormFwd.lean ====
abbrev S4096x2048 : Shape := ⟨2, ![4096, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S2048, .f32⟩
  | .hbm, ⟨3, _⟩ => ⟨S2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormFwdRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 30
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S2048, .f32⟩
  | .hbm, ⟨3, _⟩ => ⟨S2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .f32⟩
  | .hbm, ⟨17, _⟩ => ⟨S1x2048, .f32⟩
  | .hbm, ⟨18, _⟩ => ⟨S4096x2048, .f32⟩
  | .hbm, ⟨19, _⟩ => ⟨S4096x2048, .f32⟩
  | .hbm, ⟨20, _⟩ => ⟨S1x2048, .f32⟩
  | .hbm, ⟨21, _⟩ => ⟨S_, .f32⟩
  | .hbm, ⟨22, _⟩ => ⟨S1x2048, .f32⟩
  | .hbm, ⟨23, _⟩ => ⟨S1x2048, .f32⟩
  | .hbm, ⟨24, _⟩ => ⟨S4096x2048, .f32⟩
  | .hbm, ⟨25, _⟩ => ⟨S4096x2048, .f32⟩
  | .hbm, ⟨26, _⟩ => ⟨S1x2048, .f32⟩
  | .hbm, ⟨27, _⟩ => ⟨S4096x2048, .f32⟩
  | .hbm, ⟨28, _⟩ => ⟨S4096x2048, .f32⟩
  | .hbm, ⟨29, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Out.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 15
  | .vmem => 15
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S4096x2048, .f32⟩
  | .hbm, ⟨3, _⟩ => ⟨S2048, .f32⟩
  | .hbm, ⟨4, _⟩ => ⟨S2048, .f32⟩
  | .hbm, ⟨5, _⟩ => ⟨S2048, .f32⟩
  | .hbm, ⟨6, _⟩ => ⟨S2048, .f32⟩
  | .hbm, ⟨7, _⟩ => ⟨S2048x2048, .bf16⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S1x2048, .f32⟩
  | .hbm, ⟨12, _⟩ => ⟨S4096x2048, .f32⟩
  | .hbm, ⟨13, _⟩ => ⟨S4096x2048, .bf16⟩
  | .hbm, ⟨14, _⟩ => ⟨S4096x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | .local _ .vmem, ⟨13, _⟩ => ⟨S512x2048, .bf16⟩
  | .local _ .vmem, ⟨14, _⟩ => ⟨S512x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== OutRefIdeal.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 40
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S4096x2048, .f32⟩
  | .hbm, ⟨3, _⟩ => ⟨S2048, .f32⟩
  | .hbm, ⟨4, _⟩ => ⟨S2048, .f32⟩
  | .hbm, ⟨5, _⟩ => ⟨S2048, .f32⟩
  | .hbm, ⟨6, _⟩ => ⟨S2048, .f32⟩
  | .hbm, ⟨7, _⟩ => ⟨S4096x2048, .f32⟩
  | .hbm, ⟨8, _⟩ => ⟨S4096x2048, .f32⟩
  | .hbm, ⟨9, _⟩ => ⟨S1x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x2048, .f32⟩
  | .hbm, ⟨25, _⟩ => ⟨S4096x2048, .f32⟩
  | .hbm, ⟨26, _⟩ => ⟨S1x2048, .f32⟩
  | .hbm, ⟨27, _⟩ => ⟨S4096x2048, .f32⟩
  | .hbm, ⟨28, _⟩ => ⟨S4096x2048, .f32⟩
  | .hbm, ⟨29, _⟩ => ⟨S1x2048, .f32⟩
  | .hbm, ⟨30, _⟩ => ⟨S_, .f32⟩
  | .hbm, ⟨31, _⟩ => ⟨S1x2048, .f32⟩
  | .hbm, ⟨32, _⟩ => ⟨S1x2048, .f32⟩
  | .hbm, ⟨33, _⟩ => ⟨S4096x2048, .f32⟩
  | .hbm, ⟨34, _⟩ => ⟨S4096x2048, .f32⟩
  | .hbm, ⟨35, _⟩ => ⟨S1x2048, .f32⟩
  | .hbm, ⟨36, _⟩ => ⟨S4096x2048, .f32⟩
  | .hbm, ⟨37, _⟩ => ⟨S4096x2048, .f32⟩
  | .hbm, ⟨38, _⟩ => ⟨S4096x2048, .bf16⟩
  | .hbm, ⟨39, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Up.lean ====
abbrev S4096x2048 : Shape := ⟨2, ![4096, 2048]⟩
abbrev S2048x8192 : Shape := ⟨2, ![2048, 8192]⟩
abbrev S2048x8x1024 : Shape := ⟨3, ![2048, 8, 1024]⟩
abbrev S8x2048x1024 : Shape := ⟨3, ![8, 2048, 1024]⟩
abbrev S4096x8192 : Shape := ⟨2, ![4096, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 7
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .f32⟩
  | .hbm, ⟨2, _⟩ => ⟨S2048x8192, .bf16⟩
  | .hbm, ⟨3, _⟩ => ⟨S2048x8x1024, .bf16⟩
  | .hbm, ⟨4, _⟩ => ⟨S8x2048x1024, .bf16⟩
  | .hbm, ⟨5, _⟩ => ⟨S4096x8192, .bf16⟩
  | .hbm, ⟨6, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpRefIdeal.lean ====
abbrev S4096x2048 : Shape := ⟨2, ![4096, 2048]⟩
abbrev S2048x8192 : Shape := ⟨2, ![2048, 8192]⟩
abbrev S4096x8192 : Shape := ⟨2, ![4096, 8192]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .f32⟩
  | .hbm, ⟨2, _⟩ => ⟨S4096x2048, .f32⟩
  | .hbm, ⟨3, _⟩ => ⟨S4096x8192, .f32⟩
  | .hbm, ⟨4, _⟩ => ⟨S4096x8192, .bf16⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S4096x8192, .f32⟩
  | .hbm, ⟨9, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Down.lean ====
abbrev S4096x8192 : Shape := ⟨2, ![4096, 8192]⟩
abbrev S8192x2048 : Shape := ⟨2, ![8192, 2048]⟩
abbrev S4096x2048 : Shape := ⟨2, ![4096, 2048]⟩
abbrev S2048 : Shape := ⟨1, ![2048]⟩
abbrev S1x2048 : Shape := ⟨2, ![1, 2048]⟩
abbrev S1024x2048 : Shape := ⟨2, ![1024, 2048]⟩
abbrev S2048x1024 : Shape := ⟨2, ![2048, 1024]⟩
abbrev S1024x1024 : Shape := ⟨2, ![1024, 1024]⟩
abbrev S1x1024 : Shape := ⟨2, ![1, 1024]⟩

abbrev nBuf : Space → Nat
  | .hbm => 8
  | .vmem => 13
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .f32⟩
  | .hbm, ⟨2, _⟩ => ⟨S4096x2048, .f32⟩
  | .hbm, ⟨3, _⟩ => ⟨S2048, .f32⟩
  | .hbm, ⟨4, _⟩ => ⟨S8192x2048, .bf16⟩
  | .hbm, ⟨5, _⟩ => ⟨S1x2048, .f32⟩
  | .hbm, ⟨6, _⟩ => ⟨S4096x2048, .f32⟩
  | .hbm, ⟨7, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== DownRefIdeal.lean ====
abbrev S4096x8192 : Shape := ⟨2, ![4096, 8192]⟩
abbrev S8192x2048 : Shape := ⟨2, ![8192, 2048]⟩
abbrev S4096x2048 : Shape := ⟨2, ![4096, 2048]⟩
abbrev S2048 : Shape := ⟨1, ![2048]⟩
abbrev S1x2048 : Shape := ⟨2, ![1, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .f32⟩
  | .hbm, ⟨2, _⟩ => ⟨S4096x2048, .f32⟩
  | .hbm, ⟨3, _⟩ => ⟨S2048, .f32⟩
  | .hbm, ⟨4, _⟩ => ⟨S4096x8192, .f32⟩
  | .hbm, ⟨5, _⟩ => ⟨S4096x2048, .f32⟩
  | .hbm, ⟨6, _⟩ => ⟨S1x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Ada.lean ====
abbrev S8x2048 : Shape := ⟨2, ![8, 2048]⟩
abbrev S2x2048x3072 : Shape := ⟨3, ![2, 2048, 3072]⟩
abbrev S2x8x3072 : Shape := ⟨3, ![2, 8, 3072]⟩
abbrev S1x2048x512 : Shape := ⟨3, ![1, 2048, 512]⟩
abbrev S1x8x512 : Shape := ⟨3, ![1, 8, 512]⟩
abbrev S2048x512 : Shape := ⟨2, ![2048, 512]⟩
abbrev S8x512 : Shape := ⟨2, ![8, 512]⟩

abbrev nBuf : Space → Nat
  | .hbm => 4
  | .vmem => 6
  | .smem => 0
  | _ => 0

abbrev bufTy : (tb : Table) → Fin (tcTables nBuf tb) → BufTy
  | .hbm, ⟨0, _⟩ => ⟨S8x2048, .f32⟩
  | .hbm, ⟨1, _⟩ => ⟨S2x2048x3072, .f32⟩
  | .hbm, ⟨2, _⟩ => ⟨S2x8x3072, .f32⟩
  | .hbm, ⟨3, _⟩ => ⟨S8x2048, .f32⟩
  | .local _ .vmem, ⟨0, _⟩ => ⟨S8x2048, .f32⟩
  | .local _ .vmem, ⟨1, _⟩ => ⟨S1x2048x512, .f32⟩
  | .local _ .vmem, ⟨2, _⟩ => ⟨S1x2048x512, .f32⟩
  | .local _ .vmem, ⟨3, _⟩ => ⟨S1x8x512, .f32⟩
  | .local _ .vmem, ⟨4, _⟩ => ⟨S1x8x512, .f32⟩
  | .local _ .vmem, ⟨5, _⟩ => ⟨S8x2048, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]
-- ==== AdaRefIdeal.lean ====
abbrev S8x2048 : Shape := ⟨2, ![8, 2048]⟩
abbrev S2x2048x3072 : Shape := ⟨3, ![2, 2048, 3072]⟩
abbrev S_ : Shape := ⟨0, ![]⟩
abbrev S1x2048x3072 : Shape := ⟨3, ![1, 2048, 3072]⟩
abbrev S2048x3072 : Shape := ⟨2, ![2048, 3072]⟩
abbrev S8x3072 : Shape := ⟨2, ![8, 3072]⟩
abbrev S1x8x3072 : Shape := ⟨3, ![1, 8, 3072]⟩
abbrev S2x8x3072 : Shape := ⟨3, ![2, 8, 3072]⟩

abbrev nBuf : Space → Nat
  | .hbm => 20
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2x2048x3072, .f32⟩
  | .hbm, ⟨2, _⟩ => ⟨S8x2048, .f32⟩
  | .hbm, ⟨3, _⟩ => ⟨S8x2048, .f32⟩
  | .hbm, ⟨4, _⟩ => ⟨S_, .f32⟩
  | .hbm, ⟨5, _⟩ => ⟨S8x2048, .f32⟩
  | .hbm, ⟨6, _⟩ => ⟨S8x2048, .f32⟩
  | .hbm, ⟨7, _⟩ => ⟨S_, .f32⟩
  | .hbm, ⟨8, _⟩ => ⟨S8x2048, .f32⟩
  | .hbm, ⟨9, _⟩ => ⟨S8x2048, .f32⟩
  | .hbm, ⟨10, _⟩ => ⟨S8x2048, .f32⟩
  | .hbm, ⟨11, _⟩ => ⟨S1x2048x3072, .f32⟩
  | .hbm, ⟨12, _⟩ => ⟨S2048x3072, .f32⟩
  | .hbm, ⟨13, _⟩ => ⟨S8x3072, .f32⟩
  | .hbm, ⟨14, _⟩ => ⟨S1x2048x3072, .f32⟩
  | .hbm, ⟨15, _⟩ => ⟨S2048x3072, .f32⟩
  | .hbm, ⟨16, _⟩ => ⟨S8x3072, .f32⟩
  | .hbm, ⟨17, _⟩ => ⟨S1x8x3072, .f32⟩
  | .hbm, ⟨18, _⟩ => ⟨S1x8x3072, .f32⟩
  | .hbm, ⟨19, _⟩ => ⟨S2x8x3072, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩

abbrev nD : Nat := 1
abbrev τ : Topo := Topo.v7x

variable {F : FTy → Type} [FloatOps F]
-- ==== GateFwd.lean ====
abbrev S4096x2048 : Shape := ⟨2, ![4096, 2048]⟩
abbrev S2048x16 : Shape := ⟨2, ![2048, 16]⟩
abbrev S16 : Shape := ⟨1, ![16]⟩
abbrev S16x2048 : Shape := ⟨2, ![16, 2048]⟩
abbrev S_ : Shape := ⟨0, ![]⟩
abbrev S128x2048 : Shape := ⟨2, ![128, 2048]⟩
abbrev S1x16 : Shape := ⟨2, ![1, 16]⟩
abbrev S1x128 : Shape := ⟨2, ![1, 128]⟩
abbrev S4096x128 : Shape := ⟨2, ![4096, 128]⟩
abbrev S256x2048 : Shape := ⟨2, ![256, 2048]⟩
abbrev S256x128 : Shape := ⟨2, ![256, 128]⟩
abbrev S8x128 : Shape := ⟨2, ![8, 128]⟩
abbrev S256x256 : Shape := ⟨2, ![256, 256]⟩

abbrev nBuf : Space → Nat
  | .hbm => 14
  | .vmem => 9
  | .smem => 0
  | _ => 0

abbrev bufTy : (tb : Table) → Fin (tcTables nBuf tb) → BufTy
  | .hbm, ⟨0, _⟩ => ⟨S4096x2048, .bf16⟩
  | .hbm, ⟨1, _⟩ => ⟨S2048x16, .f32⟩
  | .hbm, ⟨2, _⟩ => ⟨S16, .f32⟩
  | .hbm, ⟨3, _⟩ => ⟨S2048x16, .bf16⟩
  | .hbm, ⟨4, _⟩ => ⟨S16x2048, .bf16⟩
  | .hbm, ⟨5, _⟩ => ⟨S_, .i32⟩
  | .hbm, ⟨6, _⟩ => ⟨S_, .bf16⟩
  | .hbm, ⟨7, _⟩ => ⟨S128x2048, .bf16⟩
  | .hbm, ⟨8, _⟩ => ⟨S1x16, .f32⟩
  | .hbm, ⟨9, _⟩ => ⟨S_, .i32⟩
  | .hbm, ⟨10, _⟩ => ⟨S_, .f32⟩
  | .hbm, ⟨11, _⟩ => ⟨S1x128, .f32⟩
  | .hbm, ⟨12, _⟩ => ⟨S4096x128, .f32⟩
  | .hbm, ⟨13, _⟩ => ⟨S4096x128, .f32⟩
  | .local _ .vmem, ⟨0, _⟩ => ⟨S256x2048, .bf16⟩
  | .local _ .vmem, ⟨1, _⟩ => ⟨S256x2048, .bf16⟩
  | .local _ .vmem, ⟨2, _⟩ => ⟨S128x2048, .bf16⟩
  | .local _ .vmem, ⟨3, _⟩ => ⟨S1x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_call1_v0 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GateFwdRefIdeal.lean ====
abbrev S4096x2048 : Shape := ⟨2, ![4096, 2048]⟩
abbrev S2048x16 : Shape := ⟨2, ![2048, 16]⟩
abbrev S16 : Shape := ⟨1, ![16]⟩
abbrev S4096x16 : Shape := ⟨2, ![4096, 16]⟩
abbrev S1x16 : Shape := ⟨2, ![1, 16]⟩
abbrev S_ : Shape := ⟨0, ![]⟩
abbrev S4096x128 : Shape := ⟨2, ![4096, 128]⟩

abbrev nBuf : Space → Nat
  | .hbm => 30
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x16, .f32⟩
  | .hbm, ⟨2, _⟩ => ⟨S16, .f32⟩
  | .hbm, ⟨3, _⟩ => ⟨S4096x2048, .f32⟩
  | .hbm, ⟨4, _⟩ => ⟨S4096x16, .f32⟩
  | .hbm, ⟨5, _⟩ => ⟨S1x16, .f32⟩
  | .hbm, ⟨6, _⟩ => ⟨S4096x16, .f32⟩
  | .hbm, ⟨7, _⟩ => ⟨S4096x16, .f32⟩
  | .hbm, ⟨8, _⟩ => ⟨S_, .i32⟩
  | .hbm, ⟨9, _⟩ => ⟨S_, .f32⟩
  | .hbm, ⟨10, _⟩ => ⟨S4096x128, .f32⟩
  | .hbm, ⟨11, _⟩ => ⟨S4096x128, .f32⟩
  | .hbm, ⟨12, _⟩ => ⟨S_, .f32⟩
  | .hbm, ⟨13, _⟩ => ⟨S4096x128, .f32⟩
  | .hbm, ⟨14, _⟩ => ⟨S4096x128, .f32⟩
  | .hbm, ⟨15, _⟩ => ⟨S4096x128, .f32⟩
  | .hbm, ⟨16, _⟩ => ⟨S4096x128, .f32⟩
  | .hbm, ⟨17, _⟩ => ⟨S4096x128, .i1⟩
  | .hbm, ⟨18, _⟩ => ⟨S4096x128, .f32⟩
  | .hbm, ⟨19, _⟩ => ⟨S4096x128, .f32⟩
  | .hbm, ⟨20, _⟩ => ⟨S4096x128, .f32⟩
  | .hbm, ⟨21, _⟩ => ⟨S4096x128, .f32⟩
  | .hbm, ⟨22, _⟩ => ⟨S4096x128, .f32⟩
  | .hbm, ⟨23, _⟩ => ⟨S4096x128, .f32⟩
  | .hbm, ⟨24, _⟩ => ⟨S4096x128, .f32⟩
  | .hbm, ⟨25, _⟩ => ⟨S4096x128, .f32⟩
  | .hbm, ⟨26, _⟩ => ⟨S4096x128, .f32⟩
  | .hbm, ⟨27, _⟩ => ⟨S_, .f32⟩
  | .hbm, ⟨28, _⟩ => ⟨S_, .f32⟩
  | .hbm, ⟨29, _⟩ => ⟨S4096x128, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_call1_v0 : Ref sig .tc := ⟨.hbm, 11, rfl⟩
abbrev main_call1_call0_cst : Ref sig .tc := ⟨.hbm, 12, rfl⟩
abbrev main_call1_call0_v0 : Ref sig .tc := ⟨.hbm, 13, rfl⟩
abbrev main_call1_call0_v1 : Ref sig .tc := ⟨.hbm, 14, rfl⟩
abbrev main_call1_call0_v2 : Ref sig .tc := ⟨.hbm, 15, rfl⟩
abbrev main_call1_call0_v3 : Ref sig .tc := ⟨.hbm, 16, rfl⟩
abbrev main_call1_call0_v4 : Ref sig .tc := ⟨.hbm, 17, rfl⟩
abbrev main_call1_call0_v5 : Ref sig .tc := ⟨.hbm, 18, rfl⟩
abbrev main_call1_call0_v6 : Ref sig .tc := ⟨.hbm, 19, rfl⟩
abbrev main_call1_call0_v7 : Ref sig .tc := ⟨.hbm, 20, rfl⟩
abbrev main_call1_call0_v8 : Ref sig .tc := ⟨.hbm, 21, rfl⟩
abbrev main_call1_call0_v9 : Ref sig .tc := ⟨.hbm, 22, rfl⟩
abbrev main_call1_call0_v10 : Ref sig .tc := ⟨.hbm, 23, rfl⟩
abbrev main_call1_call0_v11 : Ref sig .tc := ⟨.hbm, 24, rfl⟩
abbrev main_call1_v1 : Ref sig .tc := ⟨.hbm, 25, rfl⟩
abbrev main_v6 : Ref sig .tc := ⟨.hbm, 26, rfl⟩
abbrev main_call2_call0_cst : Ref sig .tc := ⟨.hbm, 27, rfl⟩
abbrev main_call2_call0_v0 : Ref sig .tc := ⟨.hbm, 28, rfl⟩
abbrev main_v7 : Ref sig .tc := ⟨.hbm, 29, rfl⟩

abbrev nD : Nat := 1
abbrev τ : Topo := Topo.v7x

variable {F : FTy → Type} [FloatOps F]
-- ==== ConvIn.lean ====
abbrev S4096x2048 : Shape := ⟨2, ![4096, 2048]⟩
abbrev S2048x6144 : Shape := ⟨2, ![2048, 6144]⟩
abbrev S2048x8x768 : Shape := ⟨3, ![2048, 8, 768]⟩
abbrev S8x2048x768 : Shape := ⟨3, ![8, 2048, 768]⟩
abbrev S4096x6144 : Shape := ⟨2, ![4096, 6144]⟩
abbrev S1024x2048 : Shape := ⟨2, ![1024, 2048]⟩
abbrev S1x2048x768 : Shape := ⟨3, ![1, 2048, 768]⟩
abbrev S1024x768 : Shape := ⟨2, ![1024, 768]⟩
abbrev S2048x768 : Shape := ⟨2, ![2048, 768]⟩

abbrev nBuf : Space → Nat
  | .hbm => 6
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x6144, .f32⟩
  | .hbm, ⟨2, _⟩ => ⟨S2048x6144, .bf16⟩
  | .hbm, ⟨3, _⟩ => ⟨S2048x8x768, .bf16⟩
  | .hbm, ⟨4, _⟩ => ⟨S8x2048x768, .bf16⟩
  | .hbm, ⟨5, _⟩ => ⟨S4096x6144, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x768, .bf16⟩
  | .local _ .vmem, ⟨3, _⟩ => ⟨S1x2048x768, .bf16⟩
  | .local _ .vmem, ⟨4, _⟩ => ⟨S1024x768, .bf16⟩
  | .local _ .vmem, ⟨5, _⟩ => ⟨S1024x768, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ConvInRefIdeal.lean ====
abbrev S4096x2048 : Shape := ⟨2, ![4096, 2048]⟩
abbrev S2048x6144 : Shape := ⟨2, ![2048, 6144]⟩
abbrev S4096x6144 : Shape := ⟨2, ![4096, 6144]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x6144, .f32⟩
  | .hbm, ⟨2, _⟩ => ⟨S4096x2048, .f32⟩
  | .hbm, ⟨3, _⟩ => ⟨S4096x6144, .f32⟩
  | .hbm, ⟨4, _⟩ => ⟨S4096x6144, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== UpDx.lean ====
abbrev S4096x8192 : Shape := ⟨2, ![4096, 8192]⟩
abbrev S2048x8192 : Shape := ⟨2, ![2048, 8192]⟩
abbrev S4096x2048 : Shape := ⟨2, ![4096, 2048]⟩
abbrev S1024x4096 : Shape := ⟨2, ![1024, 4096]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S2048x8192, .f32⟩
  | .hbm, ⟨2, _⟩ => ⟨S2048x8192, .bf16⟩
  | .hbm, ⟨3, _⟩ => ⟨S4096x2048, .bf16⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDxRefIdeal.lean ====
abbrev S4096x8192 : Shape := ⟨2, ![4096, 8192]⟩
abbrev S2048x8192 : Shape := ⟨2, ![2048, 8192]⟩
abbrev S_ : Shape := ⟨0, ![]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S2048x8192, .f32⟩
  | .hbm, ⟨2, _⟩ => ⟨S_, .bf16⟩
  | .hbm, ⟨3, _⟩ => ⟨S4096x2048, .bf16⟩
  | .hbm, ⟨4, _⟩ => ⟨S4096x2048, .f32⟩
  | .hbm, ⟨5, _⟩ => ⟨S4096x8192, .f32⟩
  | .hbm, ⟨6, _⟩ => ⟨S4096x8192, .f32⟩
  | .hbm, ⟨7, _⟩ => ⟨S4096x2048, .f32⟩
  | .hbm, ⟨8, _⟩ => ⟨S4096x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DownDw.lean ====
abbrev S4096x8192 : Shape := ⟨2, ![4096, 8192]⟩
abbrev S4096x2048 : Shape := ⟨2, ![4096, 2048]⟩
abbrev S8192x2048 : Shape := ⟨2, ![8192, 2048]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S8192x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S4096x8192 : Shape := ⟨2, ![4096, 8192]⟩
abbrev S4096x2048 : Shape := ⟨2, ![4096, 2048]⟩
abbrev S_ : Shape := ⟨0, ![]⟩
abbrev S8192x2048 : Shape := ⟨2, ![8192, 2048]⟩
abbrev S2048x8192 : Shape := ⟨2, ![2048, 8192]⟩

abbrev nBuf : Space → Nat
  | .hbm => 10
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S_, .f32⟩
  | .hbm, ⟨3, _⟩ => ⟨S8192x2048, .f32⟩
  | .hbm, ⟨4, _⟩ => ⟨S4096x8192, .f32⟩
  | .hbm, ⟨5, _⟩ => ⟨S4096x2048, .f32⟩
  | .hbm, ⟨6, _⟩ => ⟨S4096x2048, .f32⟩
  | .hbm, ⟨7, _⟩ => ⟨S2048x8192, .f32⟩
  | .hbm, ⟨8, _⟩ => ⟨S8192x2048, .f32⟩
  | .hbm, ⟨9, _⟩ => ⟨S8192x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== FoxDx.lean ====
abbrev S3x4096x2048 : Shape := ⟨3, ![3, 4096, 2048]⟩
abbrev S2048x6160 : Shape := ⟨2, ![2048, 6160]⟩
abbrev S4096x2048 : Shape := ⟨2, ![4096, 2048]⟩
abbrev S6160x2048 : Shape := ⟨2, ![6160, 2048]⟩
abbrev S1x1024x2048 : Shape := ⟨3, ![1, 1024, 2048]⟩
abbrev S2048x1024 : Shape := ⟨2, ![2048, 1024]⟩
abbrev S1024x1024 : Shape := ⟨2, ![1024, 1024]⟩
abbrev S1024x2048 : Shape := ⟨2, ![1024, 2048]⟩

abbrev nBuf : Space → Nat
  | .hbm => 6
  | .vmem => 9
  | .smem => 0
  | _ => 0

abbrev bufTy : (tb : Table) → Fin (tcTables nBuf tb) → BufTy
  | .hbm, ⟨0, _⟩ => ⟨S3x4096x2048, .bf16⟩
  | .hbm, ⟨1, _⟩ => ⟨S2048x6160, .f32⟩
  | .hbm, ⟨2, _⟩ => ⟨S4096x2048, .f32⟩
  | .hbm, ⟨3, _⟩ => ⟨S2048x6160, .bf16⟩
  | .hbm, ⟨4, _⟩ => ⟨S6160x2048, .bf16⟩
  | .hbm, ⟨5, _⟩ => ⟨S4096x2048, .bf16⟩
  | .local _ .vmem, ⟨0, _⟩ => ⟨S1x1024x2048, .bf16⟩
  | .local _ .vmem, ⟨1, _⟩ => ⟨S1x1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S3x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 3], ![false, false, false]⟩

def k0_cond3 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_7 : BitVec 32 := 0#32
  let v13 : BitVec 1 := Scalar.cmpi .ne v12 c0_i32_7
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FoxDxRefIdeal.lean ====
abbrev S3x4096x2048 : Shape := ⟨3, ![3, 4096, 2048]⟩
abbrev S2048x6160 : Shape := ⟨2, ![2048, 6160]⟩
abbrev S4096x2048 : Shape := ⟨2, ![4096, 2048]⟩
abbrev S1x4096x2048 : Shape := ⟨3, ![1, 4096, 2048]⟩
abbrev S_ : Shape := ⟨0, ![]⟩
abbrev S4096x6160 : Shape := ⟨2, ![4096, 6160]⟩
abbrev S4096x16 : Shape := ⟨2, ![4096, 16]⟩

abbrev nBuf : Space → Nat
  | .hbm => 23
  | .vmem => 0
  | .smem => 0
  | _ => 0

abbrev bufTy : (tb : Table) → Fin (tcTables nBuf tb) → BufTy
  | .hbm, ⟨0, _⟩ => ⟨S3x4096x2048, .bf16⟩
  | .hbm, ⟨1, _⟩ => ⟨S2048x6160, .f32⟩
  | .hbm, ⟨2, _⟩ => ⟨S4096x2048, .f32⟩
  | .hbm, ⟨3, _⟩ => ⟨S3x4096x2048, .f32⟩
  | .hbm, ⟨4, _⟩ => ⟨S1x4096x2048, .f32⟩
  | .hbm, ⟨5, _⟩ => ⟨S4096x2048, .f32⟩
  | .hbm, ⟨6, _⟩ => ⟨S1x4096x2048, .f32⟩
  | .hbm, ⟨7, _⟩ => ⟨S4096x2048, .f32⟩
  | .hbm, ⟨8, _⟩ => ⟨S1x4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x6160, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x16, .f32⟩
  | .hbm, ⟨17, _⟩ => ⟨S_, .f32⟩
  | .hbm, ⟨18, _⟩ => ⟨S4096x16, .f32⟩
  | .hbm, ⟨19, _⟩ => ⟨S4096x6160, .f32⟩
  | .hbm, ⟨20, _⟩ => ⟨S4096x2048, .f32⟩
  | .hbm, ⟨21, _⟩ => ⟨S4096x2048, .f32⟩
  | .hbm, ⟨22, _⟩ => ⟨S4096x2048, .bf16⟩
  | _, _ => ⟨S3x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩

abbrev nD : Nat := 1
abbrev τ : Topo := Topo.v7x

variable {F : FTy → Type} [FloatOps F]
-- ==== LossSum.lean ====
abbrev S8x24x2048 : Shape := ⟨3, ![8, 24, 2048]⟩
abbrev S8x2048 : Shape := ⟨2, ![8, 2048]⟩
abbrev S1x1x2048 : Shape := ⟨3, ![1, 1, 2048]⟩
abbrev S1x2048 : Shape := ⟨2, ![1, 2048]⟩

abbrev nBuf : Space → Nat
  | .hbm => 2
  | .vmem => 2
  | .smem => 0
  | _ => 0

abbrev bufTy : (tb : Table) → Fin (tcTables nBuf tb) → BufTy
  | .hbm, ⟨0, _⟩ => ⟨S8x24x2048, .f32⟩
  | .hbm, ⟨1, _⟩ => ⟨S8x2048, .f32⟩
  | .local _ .vmem, ⟨0, _⟩ => ⟨S8x24x2048, .f32⟩
  | .local _ .vmem, ⟨1, _⟩ => ⟨S8x2048, .f32⟩
  | _, _ => ⟨S8x24x2048, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x24x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== LossSumRefIdeal.lean ====
abbrev S8x24x2048 : Shape := ⟨3, ![8, 24, 2048]⟩
abbrev S8x1x2048 : Shape := ⟨3, ![8, 1, 2048]⟩
abbrev S8x2048 : Shape := ⟨2, ![8, 2048]⟩
abbrev S_ : Shape := ⟨0, ![]⟩
abbrev S2048 : Shape := ⟨1, ![2048]⟩

abbrev nBuf : Space → Nat
  | .hbm => 6
  | .vmem => 0
  | .smem => 0
  | _ => 0

abbrev bufTy : (tb : Table) → Fin (tcTables nBuf tb) → BufTy
  | .hbm, ⟨0, _⟩ => ⟨S8x24x2048, .f32⟩
  | .hbm, ⟨1, _⟩ => ⟨S8x1x2048, .f32⟩
  | .hbm, ⟨2, _⟩ => ⟨S8x2048, .f32⟩
  | .hbm, ⟨3, _⟩ => ⟨S_, .f32⟩
  | .hbm, ⟨4, _⟩ => ⟨S2048, .f32⟩
  | .hbm, ⟨5, _⟩ => ⟨S8x2048, .f32⟩
  | _, _ => ⟨S8x24x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== PutRows.lean ====
abbrev S6160x2048 : Shape := ⟨2, ![6160, 2048]⟩
abbrev S128x2048 : Shape := ⟨2, ![128, 2048]⟩
abbrev S16x2048 : Shape := ⟨2, ![16, 2048]⟩

abbrev nBuf : Space → Nat
  | .hbm => 3
  | .vmem => 2
  | .smem => 0
  | _ => 0

abbrev bufTy : (tb : Table) → Fin (tcTables nBuf tb) → BufTy
  | .hbm, ⟨0, _⟩ => ⟨S6160x2048, .bf16⟩
  | .hbm, ⟨1, _⟩ => ⟨S128x2048, .bf16⟩
  | .hbm, ⟨2, _⟩ => ⟨S6160x2048, .bf16⟩
  | .local _ .vmem, ⟨0, _⟩ => ⟨S128x2048, .bf16⟩
  | .local _ .vmem, ⟨1, _⟩ => ⟨S16x2048, .bf16⟩
  | _, _ => ⟨S6160x2048, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c384_i32 : BitVec 32 := 384#32
  let c0_i32 : BitVec 32 := 0#32
  let c0_i32_0 : BitVec 32 := 0#32
  ![c384_i32.toNat, c0_i32.toNat]

abbrev stage0_0 : Fin 1 → Memref sig .tc .vmem S128x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== PutRowsRefIdeal.lean ====
abbrev S6160x2048 : Shape := ⟨2, ![6160, 2048]⟩
abbrev S128x2048 : Shape := ⟨2, ![128, 2048]⟩
abbrev S6144x2048 : Shape := ⟨2, ![6144, 2048]⟩
abbrev S16x2048 : Shape := ⟨2, ![16, 2048]⟩

abbrev nBuf : Space → Nat
  | .hbm => 5
  | .vmem => 0
  | .smem => 0
  | _ => 0

abbrev bufTy : (tb : Table) → Fin (tcTables nBuf tb) → BufTy
  | .hbm, ⟨0, _⟩ => ⟨S6160x2048, .bf16⟩
  | .hbm, ⟨1, _⟩ => ⟨S128x2048, .bf16⟩
  | .hbm, ⟨2, _⟩ => ⟨S6144x2048, .bf16⟩
  | .hbm, ⟨3, _⟩ => ⟨S16x2048, .bf16⟩
  | .hbm, ⟨4, _⟩ => ⟨S6160x2048, .bf16⟩
  | _, _ => ⟨S6160x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Small.lean ====
abbrev S24x2048 : Shape := ⟨2, ![24, 2048]⟩
abbrev S8x24x2048 : Shape := ⟨3, ![8, 24, 2048]⟩
abbrev S1x1x2048 : Shape := ⟨3, ![1, 1, 2048]⟩
abbrev S1x2048 : Shape := ⟨2, ![1, 2048]⟩

abbrev nBuf : Space → Nat
  | .hbm => 8
  | .vmem => 8
  | .smem => 0
  | _ => 0

abbrev bufTy : (tb : Table) → Fin (tcTables nBuf tb) → BufTy
  | .hbm, ⟨0, _⟩ => ⟨S24x2048, .f32⟩
  | .hbm, ⟨1, _⟩ => ⟨S24x2048, .f32⟩
  | .hbm, ⟨2, _⟩ => ⟨S24x2048, .f32⟩
  | .hbm, ⟨3, _⟩ => ⟨S8x24x2048, .f32⟩
  | .hbm, ⟨4, _⟩ => ⟨S24x2048, .f32⟩
  | .hbm, ⟨5, _⟩ => ⟨S24x2048, .f32⟩
  | .hbm, ⟨6, _⟩ => ⟨S24x2048, .f32⟩
  | .hbm, ⟨7, _⟩ => ⟨S24x2048, .f32⟩
  | .local _ .vmem, ⟨0, _⟩ => ⟨S24x2048, .f32⟩
  | .local _ .vmem, ⟨1, _⟩ => ⟨S24x2048, .f32⟩
  | .local _ .vmem, ⟨2, _⟩ => ⟨S24x2048, .f32⟩
  | .local _ .vmem, ⟨3, _⟩ => ⟨S8x24x2048, .f32⟩
  | .local _ .vmem, ⟨4, _⟩ => ⟨S24x2048, .f32⟩
  | .local _ .vmem, ⟨5, _⟩ => ⟨S24x2048, .f32⟩
  | .local _ .vmem, ⟨6, _⟩ => ⟨S24x2048, .f32⟩
  | .local _ .vmem, ⟨7, _⟩ => ⟨S24x2048, .f32⟩
  | _, _ => ⟨S24x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S24x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x24x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S24x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== SmallRefIdeal.lean ====
abbrev S24x2048 : Shape := ⟨2, ![24, 2048]⟩
abbrev S8x24x2048 : Shape := ⟨3, ![8, 24, 2048]⟩
abbrev S_ : Shape := ⟨0, ![]⟩
abbrev S5x2048 : Shape := ⟨2, ![5, 2048]⟩
abbrev S1x2048 : Shape := ⟨2, ![1, 2048]⟩
abbrev S12x2048 : Shape := ⟨2, ![12, 2048]⟩

abbrev nBuf : Space → Nat
  | .hbm => 44
  | .vmem => 0
  | .smem => 0
  | _ => 0

abbrev bufTy : (tb : Table) → Fin (tcTables nBuf tb) → BufTy
  | .hbm, ⟨0, _⟩ => ⟨S24x2048, .f32⟩
  | .hbm, ⟨1, _⟩ => ⟨S24x2048, .f32⟩
  | .hbm, ⟨2, _⟩ => ⟨S24x2048, .f32⟩
  | .hbm, ⟨3, _⟩ => ⟨S8x24x2048, .f32⟩
  | .hbm, ⟨4, _⟩ => ⟨S_, .f32⟩
  | .hbm, ⟨5, _⟩ => ⟨S24x2048, .f32⟩
  | .hbm, ⟨6, _⟩ => ⟨S5x2048, .f32⟩
  | .hbm, ⟨7, _⟩ => ⟨S1x2048, .f32⟩
  | .hbm, ⟨8, _⟩ => ⟨S12x2048, .f32⟩
  | .hbm, ⟨9, _⟩ => ⟨S1x2048, .f32⟩
  | .hbm, ⟨10, _⟩ => ⟨S24x2048, .f32⟩
  | .hbm, ⟨11, _⟩ => ⟨S_, .f32⟩
  | .hbm, ⟨12, _⟩ => ⟨S24x2048, .f32⟩
  | .hbm, ⟨13, _⟩ => ⟨S24x2048, .f32⟩
  | .hbm, ⟨14, _⟩ => ⟨S_, .f32⟩
  | .hbm, ⟨15, _⟩ => ⟨S24x2048, .f32⟩
  | .hbm, ⟨16, _⟩ => ⟨S24x2048, .f32⟩
  | .hbm, ⟨17, _⟩ => ⟨S24x2048, .f32⟩
  | .hbm, ⟨18, _⟩ => ⟨S_, .f32⟩
  | .hbm, ⟨19, _⟩ => ⟨S24x2048, .f32⟩
  | .hbm, ⟨20, _⟩ => ⟨S24x2048, .f32⟩
  | .hbm, ⟨21, _⟩ => ⟨S24x2048, .f32⟩
  | .hbm, ⟨22, _⟩ => ⟨S_, .f32⟩
  | .hbm, ⟨23, _⟩ => ⟨S24x2048, .f32⟩
  | .hbm, ⟨24, _⟩ => ⟨S24x2048, .f32⟩
  | .hbm, ⟨25, _⟩ => ⟨S24x2048, .f32⟩
  | .hbm, ⟨26, _⟩ => ⟨S_, .f32⟩
  | .hbm, ⟨27, _⟩ => ⟨S24x2048, .f32⟩
  | .hbm, ⟨28, _⟩ => ⟨S24x2048, .f32⟩
  | .hbm, ⟨29, _⟩ => ⟨S_, .f32⟩
  | .hbm, ⟨30, _⟩ => ⟨S24x2048, .f32⟩
  | .hbm, ⟨31, _⟩ => ⟨S24x2048, .f32⟩
  | .hbm, ⟨32, _⟩ => ⟨S24x2048, .f32⟩
  | .hbm, ⟨33, _⟩ => ⟨S_, .f32⟩
  | .hbm, ⟨34, _⟩ => ⟨S24x2048, .f32⟩
  | .hbm, ⟨35, _⟩ => ⟨S24x2048, .f32⟩
  | .hbm, ⟨36, _⟩ => ⟨S24x2048, .f32⟩
  | .hbm, ⟨37, _⟩ => ⟨S_, .f32⟩
  | .hbm, ⟨38, _⟩ => ⟨S24x2048, .f32⟩
  | .hbm, ⟨39, _⟩ => ⟨S24x2048, .f32⟩
  | .hbm, ⟨40, _⟩ => ⟨S24x2048, .f32⟩
  | .hbm, ⟨41, _⟩ => ⟨S_, .f32⟩
  | .hbm, ⟨42, _⟩ => ⟨S24x2048, .f32⟩
  | .hbm, ⟨43, _⟩ => ⟨S24x2048, .f32⟩
  | _, _ => ⟨S24x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_8 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== Proof.ConvSpec.lean ====
/- What the gated short convolution's gradient is, entry by entry, on the extended reals.

   The forward pass splits the 6144 columns of the projection `x` into three blocks of 2048 (gate `b`, gate `c` and the
   value `u`), forms `g = c · u`, filters `g` along the sequence with three taps (`conv`) and multiplies by `b`.
   With `z` the cotangent of that product, this file names the cotangents of the three blocks (`dproj`) and of
   the taps (`dtaps`). Nothing here mentions a program. -/
module

public import Idealize.ShloMosaic.Lib.Pointwise

@[expose] public section

noncomputable section

namespace Cert.ConvSpec

open Idealize.ShloMosaic

/-- An array of 4096 rows and 6144 columns. -/
abbrev Proj := (⟨2, ![4096, 6144]⟩ : Shape).Idx → EReal
/-- An array of 4096 rows and 2048 columns. -/
abbrev Rows := (⟨2, ![4096, 2048]⟩ : Shape).Idx → EReal
/-- The three taps, one per column. -/
abbrev Taps := (⟨2, ![3, 2048]⟩ : Shape).Idx → EReal

/-- Block `k` of the projection at row `s` and column `d`. -/
def part (x : Proj) (k : Fin 3) (s : Fin 4096) (d : Fin 2048) : EReal :=
  x (ix2 s ⟨k.val * 2048 + d.val, by omega⟩)

/-- The gated value `g = c · u`. -/
def gated (x : Proj) (s : Fin 4096) (d : Fin 2048) : EReal := part x 1 s d * part x 2 s d

/-- `g` as it was `k` rows earlier, zero before the first row. -/
def past (x : Proj) (k : Nat) (s : Fin 4096) (d : Fin 2048) : EReal :=
  if k ≤ s.val then gated x ⟨s.val - k, by omega⟩ d else 0

/-- The convolution: the last tap on the row itself, the others on the two rows before. -/
def conv (x : Proj) (w : Taps) (s : Fin 4096) (d : Fin 2048) : EReal :=
  w (ix2 2 d) * gated x s d + w (ix2 1 d) * past x 1 s d + w (ix2 0 d) * past x 2 s d

/-- The mixer's output: the convolution behind its gate. -/
def out (x : Proj) (w : Taps) (s : Fin 4096) (d : Fin 2048) : EReal := part x 0 s d * conv x w s d

/-- The cotangent of the convolution's value. -/
def dconv (x : Proj) (z : Rows) (s : Fin 4096) (d : Fin 2048) : EReal := z (ix2 s d) * part x 0 s d

/-- Tap `w` of the cotangent `k` rows later, zero past the last row. -/
def ahead (x : Proj) (z : Rows) (w : EReal) (k : Nat) (s : Fin 4096) (d : Fin 2048) : EReal :=
  if h : s.val + k < 4096 then w * dconv x z ⟨s.val + k, h⟩ d else 0

/-- The cotangent of `g`: the convolution run backwards. -/
def dgated (x : Proj) (w : Taps) (z : Rows) (s : Fin 4096) (d : Fin 2048) : EReal :=
  w (ix2 2 d) * dconv x z s d + ahead x z (w (ix2 1 d)) 1 s d + ahead x z (w (ix2 0 d)) 2 s d

/-- The cotangents of the three blocks of the projection, block by block. -/
def dproj (x : Proj) (w : Taps) (z : Rows) (k : Fin 3) (s : Fin 4096) (d : Fin 2048) : EReal :=
  if k.val = 0 then z (ix2 s d) * conv x w s d
  else if k.val = 1 then dgated x w z s d * part x 2 s d
  else dgated x w z s d * part x 1 s d

/-- The cotangents of the taps in rows 0, 1 and 2; zero in the other five rows. -/
def dtaps (x : Proj) (z : Rows) (r : Fin 8) (d : Fin 2048) : EReal :=
  if r.val = 0 then ∑ s : Fin 4096, dconv x z s d * past x 2 s d
  else if r.val = 1 then ∑ s : Fin 4096, dconv x z s d * past x 1 s d
  else if r.val = 2 then ∑ s : Fin 4096, dconv x z s d * gated x s d
  else 0

end Cert.ConvSpec

end
-- ==== Proof.Rows.lean ====
/- Buffers of rows that a body fills one row at a time: what the buffer holds at an index after the stores. -/
module

public import Idealize.ShloMosaic.Lib.Pipeline.ValueKit
public import Idealize.ShloMosaic.Lib.Pointwise

@[expose] public section

set_option maxRecDepth 16384

noncomputable section

namespace Cert.Rows

open Idealize.ShloMosaic

variable {Val : EltTy → Type} [∀ e, Nonempty (Val e)] {e : EltTy}

/-- The place of a row's entry in the buffer. -/
theorem emb_row {R n : Nat} (r : Nat) (inb : ∀ a, (![r, 0] : Fin 2 → Nat) a + (![1, n] : Fin 2 → Nat) a ≤ (⟨2, ![R, n]⟩ : Shape).size a)
    (k : Fin R) (h : k.val = r) (l : Fin n) :
    (Rect.unit (s := ⟨2, ![R, n]⟩) ![r, 0] ![1, n] inb).emb (ix2 (0 : Fin 1) l : (⟨2, ![1, n]⟩ : Shape).Idx) = (ix2 k l : (⟨2, ![R, n]⟩ : Shape).Idx) := by
  funext a
  refine Fin.ext ?_
  rw [Rect.emb_apply]
  match a with
  | ⟨0, _⟩ => show r + 1 * 0 = k.val; omega
  | ⟨1, _⟩ => show 0 + 1 * l.val = l.val; omega

/-- A row as read from a buffer's contents. -/
theorem ld_row {R n : Nat} (r : Nat) (inb : ∀ a, (![r, 0] : Fin 2 → Nat) a + (![1, n] : Fin 2 → Nat) a ≤ (⟨2, ![R, n]⟩ : Shape).size a)
    (X : (⟨2, ![R, n]⟩ : Shape).Idx → Val e) (k : Fin R) (h : k.val = r) (l : Fin n) :
    View.ld X (Rect.unit (s := ⟨2, ![R, n]⟩) ![r, 0] ![1, n] inb) (ix2 (0 : Fin 1) l : (⟨2, ![1, n]⟩ : Shape).Idx) = X (ix2 k l) := by
  rw [← emb_row r inb k h l]
  rfl

/-- A row as read from a buffer after stores. -/
theorem cov_row {sig : RefSig} {κ : Kind} {sp : Space} {R n : Nat} (v : View sig κ sp ⟨2, ![R, n]⟩ e) (r : Nat)
    (inb : ∀ a, (![r, 0] : Fin 2 → Nat) a + (![1, n] : Fin 2 → Nat) a ≤ (⟨2, ![R, n]⟩ : Shape).size a)
    (L : List (View.Piece Val ⟨2, ![R, n]⟩ e)) (k : Fin R) (h : k.val = r) (l : Fin n) :
    v.readCov L (Rect.unit (s := ⟨2, ![R, n]⟩) ![r, 0] ![1, n] inb).toLoadRect (ix2 (0 : Fin 1) l : (⟨2, ![1, n]⟩ : Shape).Idx)
      = View.canon L (ix2 k l) := by
  rw [View.readCov_eq_canon', ← emb_row r inb k h l]
  rfl

/-- After a store of row `r` on top of whatever the buffer held. -/
theorem read_row {sig : RefSig} {κ : Kind} {sp : Space} {R n : Nat} (v : View sig κ sp ⟨2, ![R, n]⟩ e) (f : v.ty.Contents Val) (r : Nat)
    (inb : ∀ a, (![r, 0] : Fin 2 → Nat) a + (![1, n] : Fin 2 → Nat) a ≤ (⟨2, ![R, n]⟩ : Shape).size a)
    (w : (⟨2, ![1, n]⟩ : Shape).Idx → Val e) (L : List (View.Piece Val ⟨2, ![R, n]⟩ e)) (k : Fin R) (l : Fin n) :
    v.read Val (v.writes Val f ((⟨Rect.unit ![r, 0] ![1, n] inb, w⟩ : View.Piece Val ⟨2, ![R, n]⟩ e) :: L)) (ix2 k l)
      = if k.val = r then w (ix2 0 l) else v.read Val (v.writes Val f L) (ix2 k l) := by
  by_cases h : k.val = r
  · rw [if_pos h, ← emb_row r inb k h l]
    exact View.read_writes_cons_emb v f (Rect.unit (s := ⟨2, ![R, n]⟩) ![r, 0] ![1, n] inb) w L _
  · rw [if_neg h]
    refine View.read_writes_cons_miss v f _ L _ fun hm => h ?_
    have hm' : ix2 k l ∈ (Rect.unit (s := ⟨2, ![R, n]⟩) ![r, 0] ![1, n] inb).set := hm
    rw [Rect.mem_set_unit] at hm'
    have h0 := hm' 0
    have h1 : r ≤ k.val := h0.1
    have h2 : k.val < r + 1 := h0.2
    omega

/-- After a store of row `r` on top of earlier stores `L`, row `r` holds the stored row and every other row what it
    held before. -/
theorem canon_row {R n : Nat} (r : Nat) (inb : ∀ a, (![r, 0] : Fin 2 → Nat) a + (![1, n] : Fin 2 → Nat) a ≤ (⟨2, ![R, n]⟩ : Shape).size a)
    (w : (⟨2, ![1, n]⟩ : Shape).Idx → Val e) (L : List (View.Piece Val ⟨2, ![R, n]⟩ e)) (k : Fin R) (l : Fin n) :
    View.canon ((⟨Rect.unit ![r, 0] ![1, n] inb, w⟩ : View.Piece Val ⟨2, ![R, n]⟩ e) :: L) (ix2 k l)
      = if k.val = r then w (ix2 0 l) else View.canon L (ix2 k l) := by
  by_cases h : k.val = r
  · rw [if_pos h, ← emb_row r inb k h l]
    exact View.canon_cons_emb (Rect.unit (s := ⟨2, ![R, n]⟩) ![r, 0] ![1, n] inb) w L _
  · rw [if_neg h]
    refine View.canon_cons_of_not_mem _ L fun hm => h ?_
    have hm' : ix2 k l ∈ (Rect.unit (s := ⟨2, ![R, n]⟩) ![r, 0] ![1, n] inb).set := hm
    rw [Rect.mem_set_unit] at hm'
    have h0 := hm' 0
    have h1 : r ≤ k.val := h0.1
    have h2 : k.val < r + 1 := h0.2
    omega

/-- The same for slab `r` of a buffer of three axes. -/
theorem canon_slab {K R n : Nat} (r : Nat)
    (inb : ∀ a, (![r, 0, 0] : Fin 3 → Nat) a + (![1, R, n] : Fin 3 → Nat) a ≤ (⟨3, ![K, R, n]⟩ : Shape).size a)
    (w : (⟨3, ![1, R, n]⟩ : Shape).Idx → Val e) (L : List (View.Piece Val ⟨3, ![K, R, n]⟩ e)) (k : Fin K) (s : Fin R) (l : Fin n) :
    View.canon ((⟨Rect.unit ![r, 0, 0] ![1, R, n] inb, w⟩ : View.Piece Val ⟨3, ![K, R, n]⟩ e) :: L) (ix3 k s l)
      = if k.val = r then w (ix3 0 s l) else View.canon L (ix3 k s l) := by
  by_cases h : k.val = r
  · rw [if_pos h]
    have hk : (ix3 k s l : (⟨3, ![K, R, n]⟩ : Shape).Idx)
        = (Rect.unit (s := ⟨3, ![K, R, n]⟩) ![r, 0, 0] ![1, R, n] inb).emb (ix3 (0 : Fin 1) s l : (⟨3, ![1, R, n]⟩ : Shape).Idx) := by
      funext a
      refine Fin.ext ?_
      rw [Rect.emb_apply]
      match a with
      | ⟨0, _⟩ => show k.val = r + 1 * 0; omega
      | ⟨1, _⟩ => show s.val = 0 + 1 * s.val; omega
      | ⟨2, _⟩ => show l.val = 0 + 1 * l.val; omega
    rw [hk]
    exact View.canon_cons_emb (Rect.unit (s := ⟨3, ![K, R, n]⟩) ![r, 0, 0] ![1, R, n] inb) w L _
  · rw [if_neg h]
    refine View.canon_cons_of_not_mem _ L fun hm => h ?_
    have hm' : ix3 k s l ∈ (Rect.unit (s := ⟨3, ![K, R, n]⟩) ![r, 0, 0] ![1, R, n] inb).set := hm
    rw [Rect.mem_set_unit] at hm'
    have h0 := hm' 0
    have h1 : r ≤ k.val := h0.1
    have h2 : k.val < r + 1 := h0.2
    omega

/-- After a store of the whole buffer it holds the stored array. -/
theorem canon_whole {R n : Nat} (inb : ∀ a, (![0, 0] : Fin 2 → Nat) a + (![R, n] : Fin 2 → Nat) a ≤ (⟨2, ![R, n]⟩ : Shape).size a)
    (w : (⟨2, ![R, n]⟩ : Shape).Idx → Val e) (L : List (View.Piece Val ⟨2, ![R, n]⟩ e)) :
    View.canon ((⟨Rect.unit ![0, 0] ![R, n] inb, w⟩ : View.Piece Val ⟨2, ![R, n]⟩ e) :: L) = w :=
  View.canon_cons_unit_zero (funext fun a => by match a with | ⟨0, _⟩ => rfl | ⟨1, _⟩ => rfl) inb w L

end Cert.Rows

end
-- ==== Proof.ConvKernel.lean ====
/- The convolution kernel's two result arrays after its run, entry by entry: they hold `ConvSpec.dproj` and
   `ConvSpec.dtaps` of the three argument arrays. Grid point `t` works on columns `128 t … 128 t + 127`. -/
module

public import proofs.«01_k».proof.Proof.ConvSpec
public import proofs.«01_k».proof.Proof.Rows
public import proofs.«01_k».proof.Proof.Gen.ConvIdeal.Value
public import Idealize.ShloMosaic.Lib.Pipeline.ValueKit
public import Idealize.ShloMosaic.Lib.Pointwise
public import Idealize.ShloMosaic.Lib.WordCmp

@[expose] public section

set_option maxRecDepth 131072

noncomputable section

namespace Cert.ConvIdeal.RefValue

open Cert.ConvIdeal Cert.ConvIdeal.Gen Cert.ConvSpec Idealize.ShloMosaic Idealize.ShloMosaic.TcCoe Idealize.SL.Sem
open Idealize.ShloMosaic.Pipeline (Dat)

variable (m : (ℓ : Loc nD τ sig) → Buf (Elt Ideal) ℓ) (c : Dev nD)

/-- The projection, the taps and the cotangent as launched. -/
abbrev X : Proj := m ((c : Thread nD τ).loc main_arg0)
abbrev W : Taps := m ((c : Thread nD τ).loc main_arg1)
abbrev Z : Rows := m ((c : Thread nD τ).loc main_arg2)

/-- Column `l` of grid point `t`'s block. -/
abbrev colOf (t : Fin cfg0.N) (l : Fin 128) : Fin 2048 :=
  ⟨t.val * 128 + l.val, by have := t.isLt; have h : cfg0.N = 16 := N_0; omega⟩

/-- The index maps of all windows: the point's number, moved by 16 or 32 blocks for the second and third part. -/
theorem idx : ∀ t : Fin cfg0.N,
    win0_0.index t = ![0, t.val] ∧ win0_1.index t = ![0, 16 + t.val] ∧ win0_2.index t = ![0, 32 + t.val]
    ∧ win0_3.index t = ![0, t.val] ∧ win0_4.index t = ![0, t.val] ∧ win0_5.index t = ![0, 0, t.val]
    ∧ win0_6.index t = ![0, t.val] :=
  (by decide +kernel : ∀ t : Fin grid0.N, _)

/-- The input blocks at an index are the arguments at the block's columns. -/
theorem blk_b (t : Fin cfg0.N) (s : Fin 4096) (l : Fin 128) :
    iblk m c 0 t (ix2 s l) = part (X m c) 0 s (colOf t l) := by
  unfold part
  blk_ext [iblk, V, idx t]
theorem blk_c (t : Fin cfg0.N) (s : Fin 4096) (l : Fin 128) :
    iblk m c 1 t (ix2 s l) = part (X m c) 1 s (colOf t l) := by
  unfold part
  blk_ext [iblk, V, idx t]
theorem blk_u (t : Fin cfg0.N) (s : Fin 4096) (l : Fin 128) :
    iblk m c 2 t (ix2 s l) = part (X m c) 2 s (colOf t l) := by
  unfold part
  blk_ext [iblk, V, idx t]
theorem blk_w (t : Fin cfg0.N) (k : Fin 3) (l : Fin 128) :
    iblk m c 3 t (ix2 k l) = W m c (ix2 k (colOf t l)) := by
  blk_ext [iblk, V, idx t]
theorem blk_z (t : Fin cfg0.N) (s : Fin 4096) (l : Fin 128) :
    iblk m c 4 t (ix2 s l) = Z m c (ix2 s (colOf t l)) := by
  blk_ext [iblk, V, idx t]

/-- The gated value of point `t`'s columns. -/
theorem gated_apply (t : Fin cfg0.N) (s : Fin 4096) (l : Fin 128) :
    k0_pay5 (F := Ideal) (iblk m c 1 t) (iblk m c 2 t) (ix2 s l) = gated (X m c) s (colOf t l) := by
  pointwise [k0_pay5, k0_pay4, k0_pay3]
  rw [blk_c, blk_u]; rfl

/-- The gated value moved down by one row. -/
theorem past1_apply (t : Fin cfg0.N) (s : Fin 4096) (l : Fin 128) :
    k0_pay6 (F := Ideal) (iblk m c 1 t) (iblk m c 2 t) (ix2 s l) = past (X m c) 1 s (colOf t l) := by
  pointwise [k0_pay6, k0_pay5, k0_pay4, k0_pay3]
  rw [blk_c, blk_u]
  unfold past Scalar.select
  have e : (IntOp.cmpi .sge (BitVec.ofNat 32 s.val) 1#32 = 1) ↔ 1 ≤ s.val :=
    WordCmp.cmpi_sge_ofNat_eq_one_iff (by have := s.isLt; omega) (by decide)
  simp only [e]
  by_cases h : 1 ≤ s.val
  · rw [if_pos h, if_pos h]
    have : (⟨(s.val + 4096 - 1) % 4096, Nat.mod_lt _ (by decide)⟩ : Fin 4096) = ⟨s.val - 1, by omega⟩ :=
      Fin.ext (by show (s.val + 4096 - 1) % 4096 = s.val - 1; have := s.isLt; omega)
    rw [this]; rfl
  · rw [if_neg h, if_neg h]

/-- The gated value moved down by two rows. -/
theorem past2_apply (t : Fin cfg0.N) (s : Fin 4096) (l : Fin 128) :
    k0_pay7 (F := Ideal) (iblk m c 1 t) (iblk m c 2 t) (ix2 s l) = past (X m c) 2 s (colOf t l) := by
  pointwise [k0_pay7, k0_pay5, k0_pay4, k0_pay3]
  rw [blk_c, blk_u]
  unfold past Scalar.select
  have e : (IntOp.cmpi .sge (BitVec.ofNat 32 s.val) 2#32 = 1) ↔ 2 ≤ s.val :=
    WordCmp.cmpi_sge_ofNat_eq_one_iff (by have := s.isLt; omega) (by decide)
  simp only [e]
  by_cases h : 2 ≤ s.val
  · rw [if_pos h, if_pos h]
    have : (⟨(s.val + 4096 - 2) % 4096, Nat.mod_lt _ (by decide)⟩ : Fin 4096) = ⟨s.val - 2, by omega⟩ :=
      Fin.ext (by show (s.val + 4096 - 2) % 4096 = s.val - 2; have := s.isLt; omega)
    rw [this]; rfl
  · rw [if_neg h, if_neg h]

/-- The convolution's cotangent. -/
theorem dconv_apply (t : Fin cfg0.N) (s : Fin 4096) (l : Fin 128) :
    k0_pay10 (F := Ideal) (iblk m c 4 t) (iblk m c 0 t) (ix2 s l) = dconv (X m c) (Z m c) s (colOf t l) := by
  pointwise [k0_pay10, k0_pay8]
  rw [blk_z, blk_b]; rfl

/-- The convolution run backwards. -/
theorem dgated_apply (t : Fin cfg0.N) (s : Fin 4096) (l : Fin 128) :
    k0_pay11 (F := Ideal) (iblk m c 3 t) (k0_pay10 (iblk m c 4 t) (iblk m c 0 t)) (ix2 s l)
      = dgated (X m c) (W m c) (Z m c) s (colOf t l) := by
  have hq := dconv_apply m c t
  generalize k0_pay10 (F := Ideal) (iblk m c 4 t) (iblk m c 0 t) = q at hq ⊢
  pointwise [k0_pay11]
  simp only [blk_w, hq]
  unfold dgated ahead Scalar.select
  have e1 : (IntOp.cmpi .slt (BitVec.ofNat 32 s.val) 4095#32 = 1) ↔ s.val < 4095 :=
    WordCmp.cmpi_slt_ofNat_eq_one_iff (by have := s.isLt; omega) (by decide)
  have e2 : (IntOp.cmpi .slt (BitVec.ofNat 32 s.val) 4094#32 = 1) ↔ s.val < 4094 :=
    WordCmp.cmpi_slt_ofNat_eq_one_iff (by have := s.isLt; omega) (by decide)
  simp only [e1, e2]
  congr 1
  · congr 1
    by_cases h : s.val + 1 < 4096
    · rw [if_pos (by omega), dif_pos h]
      congr 2
      exact Fin.ext (by show (s.val + 4096 - 4095) % 4096 = s.val + 1; omega)
    · rw [if_neg (by omega), dif_neg h]
  · by_cases h : s.val + 2 < 4096
    · rw [if_pos (by omega), dif_pos h]
      congr 2
      exact Fin.ext (by show (s.val + 4096 - 4094) % 4096 = s.val + 2; omega)
    · rw [if_neg (by omega), dif_neg h]

/-- Point `t`'s block of the first result: all rows of its columns. -/
theorem emb5 (t : Fin cfg0.N) (k : Fin 3) (s : Fin 4096) (l : Fin 128) :
    (((cfg0.win 5).blk t).view.emb (ix3 k s l : S3x4096x128.Idx) : S3x4096x2048.Idx) = ix3 k s (colOf t l) := by
  blk_ext [idx t]

/-- What the body stores in its three slabs. -/
theorem slab0 (t : Fin cfg0.N) (s : Fin 4096) (l : Fin 128) :
    k0_pay9 (F := Ideal) (iblk m c 1 t) (iblk m c 2 t) (iblk m c 3 t) (iblk m c 4 t) (ix3 0 s l)
      = dproj (X m c) (W m c) (Z m c) 0 s (colOf t l) := by
  have h0 := gated_apply m c t
  have h1 := past1_apply m c t
  have h2 := past2_apply m c t
  unfold k0_pay9
  generalize k0_pay5 (F := Ideal) (iblk m c 1 t) (iblk m c 2 t) = g0 at *
  generalize k0_pay6 (F := Ideal) (iblk m c 1 t) (iblk m c 2 t) = g1 at *
  generalize k0_pay7 (F := Ideal) (iblk m c 1 t) (iblk m c 2 t) = g2 at *
  pointwise [k0_pay8]
  simp only [h0, h1, h2, blk_w, blk_z]
  rfl
theorem slab1 (t : Fin cfg0.N) (s : Fin 4096) (l : Fin 128) :
    k0_pay12 (F := Ideal) (k0_pay4 (iblk m c 2 t)) (iblk m c 3 t) (k0_pay10 (iblk m c 4 t) (iblk m c 0 t)) (ix3 0 s l)
      = dproj (X m c) (W m c) (Z m c) 1 s (colOf t l) := by
  have h := dgated_apply m c t
  unfold k0_pay12
  generalize k0_pay11 (F := Ideal) (iblk m c 3 t) (k0_pay10 (iblk m c 4 t) (iblk m c 0 t)) = g at *
  pointwise [k0_pay4]
  rw [h, blk_u]
  rfl
theorem slab2 (t : Fin cfg0.N) (s : Fin 4096) (l : Fin 128) :
    k0_pay13 (F := Ideal) (k0_pay3 (iblk m c 1 t)) (iblk m c 3 t) (k0_pay10 (iblk m c 4 t) (iblk m c 0 t)) (ix3 0 s l)
      = dproj (X m c) (W m c) (Z m c) 2 s (colOf t l) := by
  have h := dgated_apply m c t
  unfold k0_pay13
  generalize k0_pay11 (F := Ideal) (iblk m c 3 t) (k0_pay10 (iblk m c 4 t) (iblk m c 0 t)) = g at *
  pointwise [k0_pay3]
  rw [h, blk_c]
  rfl

/-- What the body adds up in the rows of the taps. -/
theorem row0 (t : Fin cfg0.N) (l : Fin 128) :
    k0_pay15 (F := Ideal) (k0_pay7 (iblk m c 1 t) (iblk m c 2 t)) (k0_pay10 (iblk m c 4 t) (iblk m c 0 t)) (ix2 0 l)
      = dtaps (X m c) (Z m c) 0 (colOf t l) := by
  pointwise [k0_pay15]
  simp only [past2_apply, dconv_apply]
  rfl
theorem row1 (t : Fin cfg0.N) (l : Fin 128) :
    k0_pay1 (F := Ideal) (k0_pay6 (iblk m c 1 t) (iblk m c 2 t)) (k0_pay10 (iblk m c 4 t) (iblk m c 0 t)) (ix2 0 l)
      = dtaps (X m c) (Z m c) 1 (colOf t l) := by
  pointwise [k0_pay1]
  simp only [past1_apply, dconv_apply]
  rfl
theorem row2 (t : Fin cfg0.N) (l : Fin 128) :
    k0_pay2 (F := Ideal) (k0_pay5 (iblk m c 1 t) (iblk m c 2 t)) (k0_pay10 (iblk m c 4 t) (iblk m c 0 t)) (ix2 0 l)
      = dtaps (X m c) (Z m c) 2 (colOf t l) := by
  pointwise [k0_pay2]
  simp only [gated_apply, dconv_apply]
  rfl

/-- What the body leaves in the first result's block at point `t`. -/
theorem left5 (t : Fin cfg0.N) (k : Fin 3) (s : Fin 4096) (l : Fin 128) :
    (outsAt0 m c t).1 (ix3 k s l) = dproj (X m c) (W m c) (Z m c) k s (colOf t l) := by
  unfold outsAt0
  dsimp only
  frame_out
  rw [Rows.canon_slab, Rows.canon_slab, Rows.canon_slab, slab0, slab1, slab2]
  by_cases h2 : k.val = 2
  · rw [if_pos h2, show k = 2 from Fin.ext h2]
  by_cases h1 : k.val = 1
  · rw [if_neg h2, if_pos h1, show k = 1 from Fin.ext h1]
  · have h0 : k.val = 0 := by omega
    rw [if_neg h2, if_neg h1, if_pos h0, show k = 0 from Fin.ext h0]

/-- What the body leaves in the second result's block at point `t`. -/
theorem left6 (t : Fin cfg0.N) (k : Fin 8) (l : Fin 128) :
    (outsAt0 m c t).2 (ix2 k l) = dtaps (X m c) (Z m c) k (colOf t l) := by
  unfold outsAt0
  dsimp only
  frame_out
  rw [Rows.canon_row, Rows.canon_row, Rows.canon_row, Rows.canon_whole, row0, row1, row2]
  unfold dtaps
  by_cases h2 : k.val = 2
  · simp [h2]
  by_cases h1 : k.val = 1
  · simp [h1]
  by_cases h0 : k.val = 0
  · simp [h0]
  simp only [h2, h1, h0, if_false]
  pointwise [k0_pay14]

/-- The first result array: the cotangents of the projection's three blocks. -/
theorem final5 : (dats m 0 c).arrAt 5 cfg0.N = fun i : S3x4096x2048.Idx =>
    dproj (X m c) (W m c) (Z m c) (i 0) (i 1) (i 2) := by
  refine (dats m 0 c).arrAt_eq_of_covers 5 _ (by decide +kernel) fun t hf y => ?_
  revert y
  intro (y : S3x4096x128.Idx)
  obtain ⟨k, s, l, rfl⟩ : ∃ (k : Fin 3) (s : Fin 4096) (l : Fin 128), y = ix3 k s l := ⟨y 0, y 1, y 2, eq_ix3 y⟩
  rw [emb5, after0_5]
  exact left5 m c t k s l

/-- Point `t`'s block of the second result. -/
theorem emb6 (t : Fin cfg0.N) (k : Fin 8) (l : Fin 128) :
    (((cfg0.win 6).blk t).view.emb (ix2 k l : S8x128.Idx) : S8x2048.Idx) = ix2 k (colOf t l) := by
  blk_ext [idx t]

/-- The second result array: the cotangents of the taps. -/
theorem final6 : (dats m 0 c).arrAt 6 cfg0.N = fun i : S8x2048.Idx =>
    dtaps (X m c) (Z m c) (i 0) (i 1) := by
  refine (dats m 0 c).arrAt_eq_of_covers 6 _ (by decide +kernel) fun t hf y => ?_
  revert y
  intro (y : S8x128.Idx)
  obtain ⟨k, l, rfl⟩ : ∃ (k : Fin 8) (l : Fin 128), y = ix2 k l := ⟨y 0, y 1, eq_ix2 y⟩
  rw [emb6, after0_6]
  exact left6 m c t k l

end Cert.ConvIdeal.RefValue

end
-- ==== Proof.ConvRef.lean ====
/- The convolution reference's two results, entry by entry: they are `ConvSpec.dproj` and `ConvSpec.dtaps` of the
   three arguments. -/
module

public import proofs.«01_k».proof.Proof.ConvSpec
public import proofs.«01_k».proof.Proof.Gen.ConvRefIdeal.Read
public import Idealize.ShloMosaic.Lib.KernelVsHost
public import Idealize.ShloMosaic.Lib.Pointwise

@[expose] public section

set_option maxRecDepth 16384

noncomputable section

namespace Cert.ConvRefIdeal.RefValue

open Cert.ConvRefIdeal Cert.ConvRefIdeal.Gen Cert.ConvRefIdeal.Read Cert.ConvSpec Idealize.ShloMosaic Idealize.ShloMosaic.TcCoe

variable (x : Proj) (w : Taps) (z : Rows)

/-- The three blocks of the projection. -/
theorem part0 (s : Fin 4096) (d : Fin 2048) : val_main_v1 (F := Ideal) x (ix2 s d) = part x 0 s d := by
  rw [val_main_v1_apply, val_main_v0_apply]
  exact congrArg x (funext fun a => Fin.ext (by
    match a with
    | ⟨0, _⟩ => rfl
    | ⟨1, _⟩ => show d.val = 0 * 2048 + d.val; omega))
theorem part1 (s : Fin 4096) (d : Fin 2048) : val_main_v2 (F := Ideal) x (ix2 s d) = part x 1 s d := by
  rw [val_main_v2_apply, val_main_v0_apply]
  exact congrArg x (funext fun a => Fin.ext (by
    match a with
    | ⟨0, _⟩ => rfl
    | ⟨1, _⟩ => show 2048 + d.val = 1 * 2048 + d.val; omega))
theorem part2 (s : Fin 4096) (d : Fin 2048) : val_main_v3 (F := Ideal) x (ix2 s d) = part x 2 s d := by
  rw [val_main_v3_apply, val_main_v0_apply]
  exact congrArg x (funext fun a => Fin.ext (by
    match a with
    | ⟨0, _⟩ => rfl
    | ⟨1, _⟩ => show 4096 + d.val = 2 * 2048 + d.val; omega))

theorem gated_apply (s : Fin 4096) (d : Fin 2048) : val_main_v4 (F := Ideal) x (ix2 s d) = gated x s d := by
  rw [val_main_v4_apply, part1, part2]; rfl

/-- The gated value with two rows of zeros in front: row `r` is the value two rows earlier. -/
theorem padded_apply (r : Fin 4098) (d : Fin 2048) :
    val_main_v6 (F := Ideal) x (ix2 r d) = if h : 2 ≤ r.val then gated x ⟨r.val - 2, by omega⟩ d else 0 := by
  have hg := gated_apply x
  unfold val_main_v6
  generalize val_main_v4 (F := Ideal) x = g at hg ⊢
  pointwise [val_main_v5, val_main_cst]
  by_cases h : r.val < 2
  · rw [dif_pos h, dif_neg (by omega)]
  · rw [dif_neg h, dif_pos (by omega), hg]

/-- The three slices of that array: two rows earlier, one row earlier, the row itself. -/
theorem past2_apply (s : Fin 4096) (d : Fin 2048) : val_main_v10 (F := Ideal) x (ix2 s d) = past x 2 s d := by
  have h := padded_apply x
  unfold val_main_v10
  generalize val_main_v6 (F := Ideal) x = g at *
  pointwise
  rw [h]
  rfl
set_option backward.isDefEq.respectTransparency false in
theorem past1_apply (s : Fin 4096) (d : Fin 2048) : val_main_v18 (F := Ideal) x (ix2 s d) = past x 1 s d := by
  have h := padded_apply x
  unfold val_main_v18
  generalize val_main_v6 (F := Ideal) x = g at *
  pointwise
  rw [h]
  unfold past
  by_cases h : 1 ≤ s.val
  · rw [if_pos h, dif_pos (by show 2 ≤ 1 + s.val; omega)]
    congr 1
    exact Fin.ext (by show 1 + s.val - 2 = s.val - 1; omega)
  · rw [if_neg h, dif_neg (by show ¬ 2 ≤ 1 + s.val; omega)]
theorem past0_apply (s : Fin 4096) (d : Fin 2048) : val_main_v25 (F := Ideal) x (ix2 s d) = gated x s d := by
  have h := padded_apply x
  unfold val_main_v25
  generalize val_main_v6 (F := Ideal) x = g at *
  pointwise
  rw [h]
  rw [dif_pos (by show 2 ≤ 2 + s.val; omega)]
  congr 1
  exact Fin.ext (by show 2 + s.val - 2 = s.val; omega)

/-- The taps spread over the rows. -/
theorem tap0 (s : Fin 4096) (d : Fin 2048) : val_main_v12 (F := Ideal) w (ix2 s d) = w (ix2 0 d) := by
  pointwise [val_main_v12, val_main_v11, val_main_v9, val_main_v8]
theorem tap1 (s : Fin 4096) (d : Fin 2048) : val_main_v20 (F := Ideal) w (ix2 s d) = w (ix2 1 d) := by
  pointwise [val_main_v20, val_main_v19, val_main_v17, val_main_v16]
theorem tap2 (s : Fin 4096) (d : Fin 2048) : val_main_v27 (F := Ideal) w (ix2 s d) = w (ix2 2 d) := by
  pointwise [val_main_v27, val_main_v26, val_main_v24, val_main_v23]
theorem tap2' (s : Fin 4096) (d : Fin 2048) : val_main_v34 (F := Ideal) w (ix2 s d) = w (ix2 2 d) := tap2 w s d
theorem tap1' (s : Fin 4096) (d : Fin 2048) : val_main_v43 (F := Ideal) w (ix2 s d) = w (ix2 1 d) := tap1 w s d
theorem tap0' (s : Fin 4096) (d : Fin 2048) : val_main_v54 (F := Ideal) w (ix2 s d) = w (ix2 0 d) := tap0 w s d

/-- The convolution. -/
theorem conv_apply (s : Fin 4096) (d : Fin 2048) : val_main_v29 (F := Ideal) x w (ix2 s d) = conv x w s d := by
  rw [val_main_v29_apply, val_main_v22_apply, val_main_v15_apply, val_main_v28_apply, val_main_v21_apply,
    val_main_v13_apply, tap0, tap1, tap2, past0_apply, past1_apply, past2_apply]
  have h0 : val_main_v14 (F := Ideal) (ix2 s d) = 0 := by pointwise [val_main_v14, val_main_cst_1]
  rw [h0]
  simp only [Ideal.addf_def, Ideal.mulf_def]
  unfold conv
  rw [zero_add, add_comm (w (ix2 0 d) * _), add_comm, ← add_assoc]

/-- Its cotangent. -/
theorem dconv_apply (s : Fin 4096) (d : Fin 2048) : val_main_v32 (F := Ideal) x z (ix2 s d) = dconv x z s d := by
  rw [val_main_v32_apply, part0]
  exact mul_comm _ _

/-- The sums over the rows that give the three taps' cotangents. -/
theorem sum2 (i : S2048.Idx) (d : Fin 2048) (hd : i = ix1 d) :
    val_main_v39 (F := Ideal) x z i = ∑ s : Fin 4096, dconv x z s d * gated x s d := by
  subst hd
  pointwise [val_main_v39, val_main_v38, val_main_v37, val_main_v36, val_main_cst_2, val_main_cst_3]
  simp only [dconv_apply, past0_apply]
  exact Fintype.sum_unique _
theorem sum1 (i : S2048.Idx) (d : Fin 2048) (hd : i = ix1 d) :
    val_main_v48 (F := Ideal) x z i = ∑ s : Fin 4096, dconv x z s d * past x 1 s d := by
  subst hd
  pointwise [val_main_v48, val_main_v47, val_main_v46, val_main_v45, val_main_cst_6, val_main_cst_7]
  simp only [dconv_apply, past1_apply]
  exact Fintype.sum_unique _
theorem sum0 (i : S2048.Idx) (d : Fin 2048) (hd : i = ix1 d) :
    val_main_v59 (F := Ideal) x z i = ∑ s : Fin 4096, dconv x z s d * past x 2 s d := by
  subst hd
  pointwise [val_main_v59, val_main_v58, val_main_v57, val_main_v56, val_main_cst_10, val_main_cst_11]
  simp only [dconv_apply, past2_apply]
  exact Fintype.sum_unique _

/-- The second result. -/
theorem dtaps_apply (r : Fin 8) (d : Fin 2048) : val_main_v73 (F := Ideal) x z (ix2 r d) = dtaps x z r d := by
  have h0 := fun i h => sum0 x z i d h
  have h1 := fun i h => sum1 x z i d h
  have h2 := fun i h => sum2 x z i d h
  unfold val_main_v73 val_main_v64 val_main_v53 val_main_v63 val_main_v62 val_main_v52 val_main_v51 val_main_v42 val_main_v41
  generalize val_main_v39 (F := Ideal) x z = g2 at *
  generalize val_main_v48 (F := Ideal) x z = g1 at *
  generalize val_main_v59 (F := Ideal) x z = g0 at *
  pointwise [val_main_call0_v0, val_main_c, val_main_cst_5, val_main_cst_9, val_main_cst_13]
  have hs : (FloatOps.sitofp (F := Ideal) FTy.f32 0#32 : EReal) = 0 := by simp [FloatOps.sitofp]
  rw [h0 _ rfl, h1 _ rfl, h2 _ rfl, hs]
  unfold dtaps
  fin_cases r <;> simp

/-- The cotangent of the gated value, before the two rows in front are cut off. -/
theorem dgated_apply (s : Fin 4096) (d : Fin 2048) :
    val_main_v66 (F := Ideal) x w z (ix2 s d) = dgated x w z s d := by
  have hq := dconv_apply x z
  have h0 : ∀ s d, val_main_v35 (F := Ideal) x w z (ix2 s d) = w (ix2 2 d) * dconv x z s d := fun s d => by
    rw [val_main_v35_apply, tap2', hq]; rfl
  have h1 : ∀ s d, val_main_v44 (F := Ideal) x w z (ix2 s d) = w (ix2 1 d) * dconv x z s d := fun s d => by
    rw [val_main_v44_apply, tap1', hq]; rfl
  have h2 : ∀ s d, val_main_v55 (F := Ideal) x w z (ix2 s d) = w (ix2 0 d) * dconv x z s d := fun s d => by
    rw [val_main_v55_apply, tap0', hq]; rfl
  unfold val_main_v66 val_main_v61 val_main_v60 val_main_v50 val_main_v49 val_main_v40
  generalize val_main_v35 (F := Ideal) x w z = g2 at *
  generalize val_main_v44 (F := Ideal) x w z = g1 at *
  generalize val_main_v55 (F := Ideal) x w z = g0 at *
  pointwise [val_main_cst_4, val_main_cst_8, val_main_cst_12]
  unfold dgated ahead
  rw [h0]
  refine congrArg₂ (· + ·) (congrArg₂ (· + ·) rfl ?_) ?_
  · by_cases h : s.val + 1 < 4096
    · rw [dif_pos h, dif_pos (by show 1 ≤ 2 + s.val ∧ 2 + s.val - 1 < 4096; omega), h1]
      have e : (⟨2 + s.val - 1, by omega⟩ : Fin 4096) = ⟨s.val + 1, h⟩ := Fin.ext (by show 2 + s.val - 1 = s.val + 1; omega)
      rw [e]
    · rw [dif_neg h, dif_neg (by show ¬ (1 ≤ 2 + s.val ∧ 2 + s.val - 1 < 4096); omega)]
  · by_cases h : s.val + 2 < 4096
    · rw [dif_pos h, dif_pos (by show 2 + s.val < 4096; omega), h2]
      have e : (⟨2 + s.val, by omega⟩ : Fin 4096) = ⟨s.val + 2, h⟩ := Fin.ext (by show 2 + s.val = s.val + 2; omega)
      rw [e]
    · rw [dif_neg h, dif_neg (by show ¬ 2 + s.val < 4096; omega)]

/-- The first result. -/
theorem dproj_apply (k : Fin 3) (s : Fin 4096) (d : Fin 2048) :
    val_main_v72 (F := Ideal) x w z (ix3 k s d) = dproj x w z k s d := by
  have h0 : val_main_v33 (F := Ideal) x w z (ix2 s d) = z (ix2 s d) * conv x w s d := by
    rw [val_main_v33_apply, conv_apply]; rfl
  have h1 : val_main_v68 (F := Ideal) x w z (ix2 s d) = dgated x w z s d * part x 2 s d := by
    rw [val_main_v68_apply, dgated_apply, part2]; rfl
  have h2 : val_main_v67 (F := Ideal) x w z (ix2 s d) = dgated x w z s d * part x 1 s d := by
    rw [val_main_v67_apply, dgated_apply, part1]; exact mul_comm _ _
  unfold val_main_v72 val_main_v71 val_main_v70 val_main_v69
  generalize val_main_v33 (F := Ideal) x w z = g2 at *
  generalize val_main_v68 (F := Ideal) x w z = g1 at *
  generalize val_main_v67 (F := Ideal) x w z = g0 at *
  pointwise
  match k with
  | 0 =>
    rw [dif_pos (by show 0 * 2048 + d.val < 2048; omega)]
    refine Eq.trans (congrArg g2 (congrArg (ix2 s) (Fin.ext ?_))) h0
    show 0 * 2048 + d.val = d.val
    omega
  | 1 =>
    rw [dif_neg (by show ¬ 1 * 2048 + d.val < 2048; omega), dif_pos (by show 1 * 2048 + d.val - 2048 < 2048; omega)]
    refine Eq.trans (congrArg g1 (congrArg (ix2 s) (Fin.ext ?_))) h1
    show 1 * 2048 + d.val - 2048 = d.val
    omega
  | 2 =>
    rw [dif_neg (by show ¬ 2 * 2048 + d.val < 2048; omega), dif_neg (by show ¬ 2 * 2048 + d.val - 2048 < 2048; omega)]
    refine Eq.trans (congrArg g0 (congrArg (ix2 s) (Fin.ext ?_))) h2
    show 2 * 2048 + d.val - 2048 - 2048 = d.val
    omega

end Cert.ConvRefIdeal.RefValue

end
-- ==== Proof.ConvClaim.lean ====
/- The claim about the gated convolution's gradient: the kernel's two results and the reference's are the same functions
   of the three arguments. -/
module

public import proofs.«01_k».proof.Defs
public import proofs.«01_k».proof.Proof.Gen.Conv.Frame
public import proofs.«01_k».proof.Proof.Gen.Conv
public import proofs.«01_k».proof.Proof.Gen.ConvIdeal
public import proofs.«01_k».proof.Proof.Gen.ConvRefIdeal
public import proofs.«01_k».proof.Proof.ConvKernel
public import proofs.«01_k».proof.Proof.ConvRef

@[expose] public section

noncomputable section

namespace Cert.ConvClaim

open Idealize.ShloMosaic Idealize.SL.Sem Cert.ConvSpec

/-- What the kernel's call leaves in its first result. -/
def out0 (x : Proj) (w : Taps) (z : Rows) : (⟨⟨3, ![3, 4096, 2048]⟩, .bf16⟩ : BufTy).Contents (Elt Ideal) :=
  fun i => dproj x w z (i 0) (i 1) (i 2)

/-- What it leaves in its second. -/
def out1 (x : Proj) (z : Rows) : (⟨⟨2, ![8, 2048]⟩, .f32⟩ : BufTy).Contents (Elt Ideal) :=
  fun i => dtaps x z (i 0) (i 1)

/-- The reference's two results are those functions too. -/
theorem ref0 (x : Proj) (w : Taps) (z : Rows) : Cert.ConvRefIdeal.Read.val_main_v72 (F := Ideal) x w z = out0 x w z := by
  funext i
  obtain ⟨k, s, d, rfl⟩ : ∃ k s d, i = ix3 k s d := ⟨i 0, i 1, i 2, eq_ix3 i⟩
  exact Cert.ConvRefIdeal.RefValue.dproj_apply x w z k s d
theorem ref1 (x : Proj) (z : Rows) : Cert.ConvRefIdeal.Read.val_main_v73 (F := Ideal) x z = out1 x z := by
  funext i
  obtain ⟨r, d, rfl⟩ : ∃ r d, i = ix2 r d := ⟨i 0, i 1, eq_ix2 i⟩
  exact Cert.ConvRefIdeal.RefValue.dtaps_apply x z r d

/-- The reference's frame: its run keeps the arguments, and it declares no semaphore. -/
theorem frame_r : Cert.quiescent_ConvRefIdeal := fun m ρ _ =>
  (θ_run Cert.ConvRefIdeal.defs _ _).mono (fun r h => ⟨fun c => (h c).2.2, sem_eq_zero_of_no_sems (by decide) r.2⟩)
    (Cert.ConvRefIdeal.Value.run (F := Ideal) m ρ)

/-- From memories agreeing on the arguments both programs run and end with those two arrays. -/
theorem algebraic : Cert.algebraic_ConvIdeal_ConvRefIdeal := by
  intro m g m' g' _ h
  refine ⟨fun c => out0 (m ((c.tc : Thread _ _).loc Cert.ConvIdeal.main_arg0)) (m ((c.tc : Thread _ _).loc Cert.ConvIdeal.main_arg1)) (m ((c.tc : Thread _ _).loc Cert.ConvIdeal.main_arg2)),
    fun c => out1 (m ((c.tc : Thread _ _).loc Cert.ConvIdeal.main_arg0)) (m ((c.tc : Thread _ _).loc Cert.ConvIdeal.main_arg2)),
    (θ_run _ _ _).mono (fun r hr c => ?_) (Cert.ConvIdeal.Value.run_blocks m g),
    (θ_run _ _ _).mono (fun r hr c => ?_) (Cert.ConvRefIdeal.Value.run m' g')⟩
  · obtain ⟨h0, h1, hk⟩ := hr c
    exact ⟨h0.trans (Cert.ConvIdeal.RefValue.final5 m c), h1.trans (Cert.ConvIdeal.RefValue.final6 m c), hk⟩
  · obtain ⟨h0, h1, hk⟩ := hr c
    obtain ⟨a0, a1, a2⟩ := h c
    refine ⟨h0.trans ?_, h1.trans ?_, hk⟩
    · rw [Cert.ConvRefIdeal.Read.val_main_v72_eq, a0, a1, a2, ref0]
    · rw [Cert.ConvRefIdeal.Read.val_main_v73_eq, a0, a2, ref1]

end Cert.ConvClaim

end
-- ==== Proof.Suffix.lean ====
/- Sums over the rows from one on: the host's running sum taken from the last row, as a sum over an interval of rows, the
   same from the first row, and both intervals cut into blocks. -/
module

public import Idealize.ShloMosaic.PureOps.Ideal.Laws
public import Idealize.ShloMosaic.Lib.Pointwise
public import Idealize.ShloMosaic.Lib.ShapeFacts

@[expose] public section

noncomputable section

namespace Cert.Suffix

open Idealize.ShloMosaic

/-- A function of the rows, continued by zero. -/
def ext {R : ℕ} (x : Fin R → EReal) (n : ℕ) : EReal := if h : n < R then x ⟨n, h⟩ else 0

/-- The sum of the rows from `a` on. -/
def from' {R : ℕ} (x : Fin R → EReal) (a : ℕ) : EReal := ∑ n ∈ Finset.Ico a R, ext x n

theorem foldl_add {ι : Type} (l : List ι) (g : ι → EReal) (v : EReal) : l.foldl (fun r n => r + g n) v = v + (l.map g).sum := by
  induction l generalizing v with
  | nil => simp
  | cons a l ih => rw [List.foldl_cons, ih, List.map_cons, List.sum_cons, add_assoc]

/-- The sum of the rows before `a`. -/
def upto {R : ℕ} (x : Fin R → EReal) (a : ℕ) : EReal := ∑ n ∈ Finset.range a, ext x n

/-- The host's sum over a window of all rows, `lo` of them before the entry's own, at an entry. -/
theorem window_sum {R C lo hi : ℕ} (x : (⟨2, ![R, C]⟩ : Shape).Idx → EReal)
    (h : (⟨2, ![R, C]⟩ : Shape).ReduceWindows (![R, 1] : Fin 2 → ℕ) ![1, 1] ![lo, 0] ![hi, 0] ⟨2, ![R, C]⟩) (j : Fin R) (c : Fin C) :
    Ideal.hostReduceWindowAdd (s := ⟨2, ![R, C]⟩) (t := ⟨2, ![R, C]⟩) ![R, 1] ![1, 1] ![lo, 0] ![hi, 0] h x 0 (ix2 j c)
      = ∑ n ∈ Finset.range R, if lo ≤ j.val + n then ext (fun s => x (ix2 s c)) (j.val + n - lo) else 0 := by
  have hj := j.isLt
  have hc := c.isLt
  have hnum : (⟨2, ![R, 1]⟩ : Shape).numel = R := (Shape.numel_rank2 _).trans (Nat.mul_one R)
  have pos : ∀ n : Fin (⟨2, ![R, 1]⟩ : Shape).numel,
      ((⟨2, ![R, 1]⟩ : Shape).rowMajor.symm n 0).val = n.val ∧ ((⟨2, ![R, 1]⟩ : Shape).rowMajor.symm n 1).val = 0 := fun n => by
    have e := Shape.rowMajor_val_two ((⟨2, ![R, 1]⟩ : Shape).rowMajor.symm n)
    rw [Equiv.apply_symm_apply] at e
    have h1 : ((⟨2, ![R, 1]⟩ : Shape).rowMajor.symm n 1).val < 1 := ((⟨2, ![R, 1]⟩ : Shape).rowMajor.symm n 1).isLt
    have e' : n.val = ((⟨2, ![R, 1]⟩ : Shape).rowMajor.symm n 0).val * 1 + ((⟨2, ![R, 1]⟩ : Shape).rowMajor.symm n 1).val := e
    omega
  have step : Ideal.hostReduceWindowAdd (s := ⟨2, ![R, C]⟩) (t := ⟨2, ![R, C]⟩) ![R, 1] ![1, 1] ![lo, 0] ![hi, 0] h x 0 (ix2 j c)
      = (List.finRange (⟨2, ![R, 1]⟩ : Shape).numel).foldl
        (fun r n => r + if lo ≤ j.val + n.val then ext (fun s => x (ix2 s c)) (j.val + n.val - lo) else 0) 0 := by
    unfold Ideal.hostReduceWindowAdd Host.reduceWindow
    refine congrArg (fun f => List.foldl f (0 : EReal) (List.finRange (⟨2, ![R, 1]⟩ : Shape).numel)) ?_
    funext r n
    refine congrArg (r + ·) ?_
    obtain ⟨p0, p1⟩ := pos n
    dsimp only
    unfold ext
    split
    · next hin =>
      have h0 := hin 0
      change lo ≤ j.val * 1 + ((⟨2, ![R, 1]⟩ : Shape).rowMajor.symm n 0).val
        ∧ j.val * 1 + ((⟨2, ![R, 1]⟩ : Shape).rowMajor.symm n 0).val - lo < R at h0
      rw [p0] at h0
      rw [if_pos (by omega), dif_pos (by omega)]
      refine congrArg x (funext fun a => Fin.ext ?_)
      match a with
      | ⟨0, _⟩ =>
        show j.val * 1 + ((⟨2, ![R, 1]⟩ : Shape).rowMajor.symm n 0).val - lo = j.val + n.val - lo
        rw [p0]; omega
      | ⟨1, _⟩ =>
        show c.val * 1 + ((⟨2, ![R, 1]⟩ : Shape).rowMajor.symm n 1).val - 0 = c.val
        rw [p1]; omega
    · next hin =>
      by_cases hlo : lo ≤ j.val + n.val
      · rw [if_pos hlo, dif_neg fun hlt => hin fun a => by
          match a with
          | ⟨0, _⟩ =>
            show lo ≤ j.val * 1 + ((⟨2, ![R, 1]⟩ : Shape).rowMajor.symm n 0).val
              ∧ j.val * 1 + ((⟨2, ![R, 1]⟩ : Shape).rowMajor.symm n 0).val - lo < R
            rw [p0]; omega
          | ⟨1, _⟩ =>
            show 0 ≤ c.val * 1 + ((⟨2, ![R, 1]⟩ : Shape).rowMajor.symm n 1).val
              ∧ c.val * 1 + ((⟨2, ![R, 1]⟩ : Shape).rowMajor.symm n 1).val - 0 < C
            rw [p1]; omega]
      · rw [if_neg hlo]
  rw [step, foldl_add, zero_add, Finset.sum_range, ← List.ofFn_eq_map, List.sum_ofFn]
  exact Fintype.sum_equiv (finCongr hnum) _ _ fun n => rfl

/-- The host's running sum over rows taken from the last one, at an entry. -/
theorem window_rows {R Rm1 C : ℕ} (_hR : Rm1 + 1 = R) (x : (⟨2, ![R, C]⟩ : Shape).Idx → EReal)
    (h : (⟨2, ![R, C]⟩ : Shape).ReduceWindows (![R, 1] : Fin 2 → ℕ) ![1, 1] ![0, 0] ![Rm1, 0] ⟨2, ![R, C]⟩) (j : Fin R) (c : Fin C) :
    Ideal.hostReduceWindowAdd (s := ⟨2, ![R, C]⟩) (t := ⟨2, ![R, C]⟩) ![R, 1] ![1, 1] ![0, 0] ![Rm1, 0] h x 0 (ix2 j c)
      = from' (fun s => x (ix2 s c)) j.val := by
  have hj := j.isLt
  rw [window_sum]
  simp only [Nat.zero_le, if_true, Nat.sub_zero]
  unfold from'
  rw [show Finset.range R = Finset.range (j.val + R - j.val) by rw [Nat.add_sub_cancel_left], ← Finset.sum_Ico_eq_sum_range,
    ← Finset.sum_Ico_consecutive _ hj.le (Nat.le_add_left R j.val)]
  rw [Finset.sum_eq_zero (s := Finset.Ico R (j.val + R)) fun n hn => by
    unfold ext; exact dif_neg (by have := (Finset.mem_Ico.mp hn).1; omega), add_zero]

/-- And the running sum taken from the first row. -/
theorem window_rows_up {R Rm1 C : ℕ} (hR : Rm1 + 1 = R) (x : (⟨2, ![R, C]⟩ : Shape).Idx → EReal)
    (h : (⟨2, ![R, C]⟩ : Shape).ReduceWindows (![R, 1] : Fin 2 → ℕ) ![1, 1] ![Rm1, 0] ![0, 0] ⟨2, ![R, C]⟩) (j : Fin R) (c : Fin C) :
    Ideal.hostReduceWindowAdd (s := ⟨2, ![R, C]⟩) (t := ⟨2, ![R, C]⟩) ![R, 1] ![1, 1] ![Rm1, 0] ![0, 0] h x 0 (ix2 j c)
      = upto (fun s => x (ix2 s c)) (j.val + 1) := by
  have hj := j.isLt
  rw [window_sum]
  unfold upto
  rw [show Finset.range R = Finset.range ((Rm1 - j.val) + (j.val + 1)) from congrArg _ (by omega), Finset.sum_range_add,
    Finset.sum_eq_zero (s := Finset.range (Rm1 - j.val)) fun n hn => if_neg (by have := Finset.mem_range.mp hn; omega), zero_add]
  refine Finset.sum_congr rfl fun n _ => ?_
  rw [if_pos (by omega), show j.val + (Rm1 - j.val + n) - Rm1 = n by omega]

/-- The rows up to row `r` of block `b`: those of the block, after the blocks before it. -/
theorem upto_block {R B : ℕ} (x : Fin R → EReal) (b r : ℕ) (hr : r < B) :
    upto x (b * B + r + 1) = (∑ k : Fin B, if k.val ≤ r then ext x (b * B + k.val) else 0) + upto x (b * B) := by
  unfold upto
  rw [Nat.add_assoc, Finset.sum_range_add, add_comm]
  refine congrArg (· + _) ?_
  rw [Fin.sum_univ_eq_sum_range (fun k => if k ≤ r then ext x (b * B + k) else 0) B, ← Finset.sum_filter]
  rw [show (Finset.range B).filter (fun k => k ≤ r) = Finset.range (r + 1) by
    ext k; simp only [Finset.mem_filter, Finset.mem_range]; omega]

/-- The rows from row `r` of block `b` on: the rest of the block, then the blocks after it. -/
theorem from_block {R B : ℕ} (x : Fin R → EReal) (b r : ℕ) (hr : r ≤ B) (hb : (b + 1) * B ≤ R) :
    from' x (b * B + r) = (∑ k : Fin B, if r ≤ k.val then ext x (b * B + k.val) else 0) + from' x ((b + 1) * B) := by
  unfold from'
  have e : (b + 1) * B = b * B + B := Nat.succ_mul b B
  rw [← Finset.sum_Ico_consecutive _ (show b * B + r ≤ (b + 1) * B by omega) hb]
  refine congrArg (· + _) ?_
  rw [Fin.sum_univ_eq_sum_range (fun k => if r ≤ k then ext x (b * B + k) else 0) B, ← Finset.sum_filter]
  rw [show (Finset.range B).filter (fun k => r ≤ k) = Finset.Ico r B by ext k; simp only [Finset.mem_filter, Finset.mem_range, Finset.mem_Ico]; omega,
    e, Nat.add_comm (b * B) r, Nat.add_comm (b * B) B, ← Finset.sum_Ico_add]

/-- All rows, block by block. -/
theorem sum_blocks {R B : ℕ} (x : Fin R → EReal) (n : ℕ) (hn : n * B = R) :
    ∑ s, x s = ∑ t ∈ Finset.range n, ∑ k : Fin B, ext x (t * B + k.val) := by
  have h : ∀ n, n * B ≤ R → ∑ s ∈ Finset.range (n * B), ext x s = ∑ t ∈ Finset.range n, ∑ k : Fin B, ext x (t * B + k.val) := by
    intro n
    induction n with
    | zero => intro _; simp
    | succ n ih =>
      intro h
      have e : (n + 1) * B = n * B + B := Nat.succ_mul n B
      rw [Finset.sum_range_succ, ← ih (by omega), e, Finset.sum_range_add]
      exact congrArg _ (Fin.sum_univ_eq_sum_range (fun k => ext x (n * B + k)) B).symm
  rw [← h n hn.le, hn, Finset.sum_range]
  exact Finset.sum_congr rfl fun s _ => by unfold ext; rw [dif_pos s.isLt]

end Cert.Suffix

end
-- ==== Proof.FgateSpec.lean ====
/- The gradient of the forget gate, as sums over the extended reals. -/
module

public import proofs.«01_k».proof.Proof.Suffix

@[expose] public section

noncomputable section

namespace Cert.FgateSpec

open Idealize.ShloMosaic

/-- The rows the gate reads, its weights, its bias, and the cotangents of the two running sums. -/
abbrev Rows := (⟨2, ![4096, 2048]⟩ : Shape).Idx → EReal
abbrev Weights := (⟨2, ![2048, 16]⟩ : Shape).Idx → EReal
abbrev Bias := (⟨1, ![16]⟩ : Shape).Idx → EReal
abbrev Cot := (⟨2, ![4096, 16]⟩ : Shape).Idx → EReal

/-- The gate's logit. -/
def logit (h : Rows) (w : Weights) (b : Bias) (s : Fin 4096) (l : Fin 16) : EReal :=
  (∑ k : Fin 2048, h (ix2 s k) * w (ix2 k l)) + b (ix1 l)

/-- What the running sum's cotangent leaves at a row: the cotangents' difference summed from that row on. -/
def back (q k : Cot) (l : Fin 16) (a : ℕ) : EReal := Suffix.from' (fun s : Fin 4096 => q (ix2 s l) - k (ix2 s l)) a

/-- The logit's cotangent. -/
def dlogit (h : Rows) (w : Weights) (b : Bias) (q k : Cot) (s : Fin 4096) (l : Fin 16) : EReal :=
  back q k l s.val * Ideal.div 1 (1 + Ideal.exp (logit h w b s l))

/-- The bias's cotangent. -/
def dbias (h : Rows) (w : Weights) (b : Bias) (q k : Cot) (l : Fin 16) : EReal := ∑ s : Fin 4096, dlogit h w b q k s l

end Cert.FgateSpec

end
-- ==== Proof.Calls.lean ====
/- A program of several kernel calls with host operations between them: the record of one call over every unscoped buffer,
   and the run of the whole list, read off the last contents. -/
module

public import Idealize.ShloMosaic.Lib.Pipeline.Frame
public import Idealize.ShloMosaic.Lib.Pipeline.RegionArrays
public import Idealize.ShloMosaic.Lib.Pipeline.RegionsLoop

@[expose] public section

noncomputable section

namespace Cert.Calls

open Idealize.ShloMosaic Idealize.ShloMosaic.TcCoe
open Idealize.SL Idealize.SL.RA
open Idealize.SL.BI (sProp bigSep bigSep_sep' bigSep_mono)
open scoped Idealize.SL.BI
open Idealize.SL.BI.BIBase Idealize.SL.BI.Laws Idealize.SL.ProofMode Idealize.SL.Sem
open Idealize.ShloMosaic.Rounds Idealize.ShloMosaic.Pipeline

variable {nD : Nat} {τ : Topo} {sig : RefSig} {Val : EltTy → Type}
variable {Λ₀ : Labels} {P : Type} [Fintype P] [DecidableEq P]

local notation "𝕄" => MT nD τ sig Unit Val ℕ (UR sig nD τ) ℕ

/-- No core owes another anything: no cell carries a level. -/
abbrev lev : GSem nD τ sig → Finset Unit := fun _ => ∅
/-- The levels, all the same. -/
abbrev lvl : GSem nD τ sig → Unit → ℕ := fun _ _ => 0

/-- A whole memref owned at contents `X`: its buffer held at some contents that read `X`. -/
theorem owns_of_whole (c : Dev nD) {sp : Space} {sh : Shape} {e : EltTy} {m : Memref sig .tc sp sh e} (hw : m.IsWhole)
    (q : PosShare TreeShare) (X : sh.Idx → Val e) :
    (owns (c.tc : Thread nD τ) m q X : sProp 𝕄)
      = iprop(∃ f, ⌜m.view.read Val f = X⌝ ∗ (m.view.loc (c.tc : Thread nD τ) ↦{q} f)) := by
  unfold owns
  rw [hw.set_eq_univ]

/-- What rides beside the buffers between two items: core `c` owes nothing. -/
abbrev due (c : Dev nD) : sProp 𝕄 := iprop(∃ W, owes (c : Thread nD τ) (0 : CellTallies nD τ sig Unit) W)

variable (pcs : P → PCfg sig Λ₀ Val) (a : (p : P) → (pcs p).Adm)
  (pdats : (p : P) → (c : Dev nD) → Dat τ Val Unit ℕ (UR sig nD τ) ℕ (pin pcs a p) c)
  (defs₀ : Defs nD τ sig Val Λ₀)

/-- The record of one kernel call, over every unscoped buffer: entered with them at `W`, left with them at `W'`, which holds
    what the call computes in its windows' arrays and agrees with `W` elsewhere. -/
def region (p : P) (kit : PLaunchFacts₀ (nD := nD) (τ := τ) pcs p) (hK : (pcs p).pre.K = 0)
    (hbody : ∀ c, BodyObligationLoose (pdats p c) defs₀ Variants.none () Set.univ)
    (howed : ∀ c t, (pdats p c).owed t = 0) (hrec : ∀ c, (pdats p c).recorded 0 = Set.univ)
    (hq : ∀ c w, ((pin pcs a p).spec w).isOut = false → (pdats p c).q w = shareOf (pin pcs a p).spec w)
    (hin : ∀ c, scopedRest (pin pcs a p).spec c ⊢ (pdats p c).Φ 0)
    (hout : ∀ c, (pdats p c).Φ (Fin.last (pin pcs a p).N) ⊢ scopedRest (pin pcs a p).spec c)
    (W W' : Dev nD → Valuation τ sig Val)
    (hA : ∀ c w, (pdats p c).A w = W c (Proc.devRef .tc (arrRef (pin pcs a p).spec w)))
    (hF : ∀ c w, (pdats p c).arrAt w (pin pcs a p).N = W' c (Proc.devRef .tc (arrRef (pin pcs a p).spec w)))
    (hrest : ∀ c (b : Ref sig .tc), b ∉ Finset.univ.image (arrRef (pin pcs a p).spec) →
      W' c (Proc.devRef .tc b) = W c (Proc.devRef .tc b)) :
    RegionSeg pcs a pdats () defs₀ Variants.none lev lvl p where
  win := kit.win
  block_pos := kit.block_pos
  stage_whole := kit.stage_whole
  K := PEmpty
  osem k := k.elim
  ho := OwnSemFacts.none _
  hbody := hbody
  hwaits := hwaits_of_owed_zero pcs a pdats () lev lvl p howed
  pre c := iprop(StableHlo.held (c.tc : Thread nD τ) (ucRefs τ sig) (W c) ∗ due c)
  post c := iprop(StableHlo.held (c.tc : Thread nD τ) (ucRefs τ sig) (W' c) ∗ due c)
  X _ := BI.emp
  Y _ := BI.emp
  Z c := unscopedRest (Ix := Unit) (Name := ℕ) (U := UR sig nD τ) (Lvl := ℕ) (pin pcs a p).spec c (fun b => W c b)
  hentry c := by
    rw [ownSems0_none, prefHeld_of_none _ hK, ← unscopedBufs_held c (W c)]
    have hsplit := arrays_of_unscopedBufs_shared pcs a pdats kit.win kit.sharedIn kit.arr_whole c (hq c) (fun b => W c b) (hA c)
    iintro ⟨⟨Hub, HO⟩, -, -⟩
    ihave H := hsplit $$ Hub
    icases H with ⟨Ha, Hrest⟩
    imodintro
    isplitl [Ha]; · iexact Ha
    isplitr; · iempintro
    isplitl [HO]
    · unfold Dat.owesAt owesWithin Dat.bound
      rw [howed c 0, hrec c]
      icases HO with ⟨%Wd, HO⟩; iexists Wd; isplitr; · ipureintro; exact fun _ _ => Or.inl trivial
      iexact HO
    isplitr; · iempintro
    iexact Hrest
  hin c := by
    iintro ⟨-, -, Hr⟩
    iapply (hin c)
    iexact Hr
  hout c := by
    rw [ownSems0_none]
    iintro H
    ihave Hr := (hout c) $$ H
    isplitr; · iempintro
    isplitr; · iempintro
    iexact Hr
  hexit c := by
    have hjoin := unscopedBufs_of_arrays_shared pcs a kit.win kit.sharedIn kit.arr_whole c pdats (hq c) (fun b => W c b)
      (fun b => W' c b) ((pdats p c).arrAt · (pin pcs a p).N) (hF c) (hrest c)
    rw [← unscopedBufs_held c (W' c)]
    iintro ⟨Ha, HO, -, Hrest⟩
    imodintro
    isplitl [Ha Hrest]
    · iapply hjoin; isplitl [Ha] <;> iassumption
    unfold Dat.owesAt owesWithin
    rw [howed c (Fin.last _)]
    icases HO with ⟨%Wd, -, HO⟩
    iexists Wd
    iexact HO

/-- The run of a list of host stretches and calls that leads from the launch contents to `Vn`: it ends with every unscoped
    buffer at `Vn` and every counter at zero. -/
theorem run [∀ e, Nonempty (Val e)] (phinj : Function.Injective (cellOf (nD := nD) (τ := τ) (pin pcs a)))
    (m : (ℓ : Loc nD τ sig) → Buf Val ℓ) (ρ : Dev nD → PrngReg)
    (main : Dev nD → Prog (TpuEff nD τ sig Val (Sig Λ₀ P fun p => (pcs p).Adm) .tc) PUnit)
    (segs : Dev nD → List (Seg pcs a pdats () defs₀ Variants.none lev lvl))
    (hmain : ∀ c, main c = Seg.run (segs c)) (hnd : ∀ c, (Seg.pipes (segs c)).Nodup)
    (Vn : Dev nD → Valuation τ sig Val)
    (hch : ∀ c, Seg.ChainsAt c (fun c => iprop(StableHlo.held (c.tc : Thread nD τ) (ucRefs τ sig) (fun b => m (c, b)) ∗ due c))
      (segs c) (fun c => iprop(StableHlo.held (c.tc : Thread nD τ) (ucRefs τ sig) (Vn c) ∗ due c)))
    (hsc : ∀ sm : SemLoc sig, sm.isScoped .tc = true) :
    θ_run (Pipeline.defs pcs defs₀) (onTc main) ⟨m, fun _ => 0, ρ⟩ (fun r =>
      (∀ c : Dev nD, ∀ b ∈ ucRefs τ sig, r.2.mem (c, b) = Vn c b) ∧ r.2.sem = fun _ => 0) := by
  refine θ_run_regions_kit_dev_sems pcs a pdats () phinj (emb₁ (nD := nD) (τ := τ) (sig := sig) (Ix := Unit) (Val := Val) (Name := ℕ) (Lvl := ℕ)) defs₀ Variants.none lev lvl m ρ main segs
    (fun c Q => by rw [hmain c]) hnd (fun _ => 0) (fun _ _ => rfl) (fun _ => BI.emp)
    (initOf (cells (pin pcs a) phinj) (launchToks (pin pcs a) phinj)) ?_
    (fun c => iprop(StableHlo.held (c.tc : Thread nD τ) (ucRefs τ sig) (fun b => m (c, b)) ∗ due c))
    (fun c => StableHlo.held (c.tc : Thread nD τ) (ucRefs τ sig) (Vn c)) hch ?_
    (fun c s => ∀ b ∈ ucRefs τ sig, s.mem (c, b) = Vn c b) (fun c s' => ?_)
    (fun s h hz => ⟨h, funext fun g => hz g (.inr (hsc g.2))⟩)
  · rw [ownU_emb₁]
    iintro H
    imodintro
    isplitl [H]; · iexact H
    iapply (show (BI.emp : sProp 𝕄) ⊢ bigSep Finset.univ (fun _ : Dev nD => (BI.emp : sProp 𝕄)) from by rw [BI.bigSep_emp_const])
    iempintro
  · refine initEach lev lvl fun c => ?_
    rw [show unscopedBufs c (fun b => m ((c.tc : Thread nD τ).loc b)) = (StableHlo.held (c.tc : Thread nD τ) (ucRefs τ sig) (fun b => m (c, b)) : sProp 𝕄)
      from unscopedBufs_held c (fun b => m (c, b))]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (ucRefs τ sig) (fun b => ((c.tc : Thread nD τ).1, b)) (Vn c) s') $$ [Hh HSI]
    · isplitl [Hh] <;> iassumption
    icases Hr with ⟨%h, HSI⟩
    imodintro
    isplitr; · ipureintro; exact h
    iexact HSI

end Cert.Calls

end
-- ==== Proof.Stores.lean ====
/- Reads of a buffer after stores into part of it. -/
module

public import Idealize.ShloMosaic.Lib.Pipeline.FrameBody
public import Idealize.ShloMosaic.Lib.Writes
public import Idealize.ShloMosaic.Lib.VecWindow

@[expose] public section

noncomputable section

namespace Cert.Stores

open Idealize.ShloMosaic

variable {sig : RefSig} {κ : Kind} {sp : Space} {s : Shape} {e : EltTy} {Val : EltTy → Type}

/-- A load of the rectangle that was stored last reads what was stored. -/
theorem readAt_last (v : View sig κ sp s e) (f : v.ty.Contents Val) (r : Rect s) (w : r.shape.Idx → Val e)
    (L : List (View.Piece Val s e)) : v.readAt Val r.toLoadRect (v.writes Val f (⟨r, w⟩ :: L)) = w :=
  funext fun x => View.read_writes_cons_emb v f r w L x

/-- After a store the buffer reads as before it with the stored rectangle laid over it. -/
theorem read_cons (v : View sig κ sp s e) (f : v.ty.Contents Val) (r : Rect s) (w : r.shape.Idx → Val e) (L : List (View.Piece Val s e)) :
    v.read Val (v.writes Val f (⟨r, w⟩ :: L)) = r.overlay (v.read Val (v.writes Val f L)) w := by
  funext y
  by_cases hy : y ∈ r.set
  · obtain ⟨x, rfl⟩ := r.exists_idx_of_mem hy
    exact (View.read_writes_cons_emb v f r w L x).trans (r.overlay_emb _ _ x).symm
  · exact (View.read_writes_cons_miss v f ⟨r, w⟩ L y hy).trans (r.overlay_of_not_mem _ _ hy).symm

/-- After one store the buffer reads as before with the stored rectangle laid over it. -/
theorem read_one (v : View sig κ sp s e) (f : v.ty.Contents Val) (r : Rect s) (w : r.shape.Idx → Val e) :
    v.read Val (v.writes Val f [⟨r, w⟩]) = r.overlay (v.read Val f) w := read_cons v f r w []

/-- A buffer filled whole where a condition holds, and otherwise left as it was. -/
theorem read_start (v : View sig κ sp s e) (f : v.ty.Contents Val) (w S : s.Idx → Val e) (p : Prop) [Decidable p]
    (L : List (View.Piece Val s e)) (hL : v.read Val (v.writes Val f L) = w) (hs : p → w = S) (hs' : ¬ p → v.read Val f = S) :
    v.read Val (if _hc : p then v.writes Val f L else f) = S := by
  by_cases hc : p
  · rw [dif_pos hc, hL]
    exact hs hc
  · rw [dif_neg hc]
    exact hs' hc

end Cert.Stores

end
-- ==== Proof.FgateBody.lean ====
/- The two kernels of the forget gate's call, one grid point each: what the body leaves in its windows' buffers and in the
   row it carries from point to point. -/
module

public import proofs.«01_k».proof.Proof.Calls
public import proofs.«01_k».proof.Proof.Stores
public import proofs.«01_k».proof.Proof.Gen.FgateIdeal.Skeleton
public import proofs.«01_k».proof.Proof.Gen.FgateIdeal.Launch
public import proofs.«01_k».proof.Proof.Gen.FgateIdeal.Points
public import Idealize.ShloMosaic.Lib.Pipeline.Value
public import Idealize.ShloMosaic.Lib.Tactic
public import Idealize.ShloMosaic.Lib.Tactic.Stretches
public import Idealize.ShloMosaic.Lib.VecWindow
public import Idealize.ShloMosaic.Lib.Pipeline.FrameBody

@[expose] public section

noncomputable section

namespace Cert.FgateIdeal.Body

open Cert.FgateIdeal Cert.FgateIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The first kernel's branch is taken where the grid coordinate is zero. -/
abbrev first0 (i : grid0.Coords) : Prop := Scalar.cmpi .ne (Scalar.extui (Scalar.cmpi .eq (BitVec.ofNat 32 (i 0).val) 0#32) : BitVec 32) 0#32 = 1#1

/-- The window of row 0. -/
abbrev row0 : LoadRect S8x128 := (Rect.unit (s := S8x128) ![0, 0] S1x128.size inb_S8x128_S1x128_0_0).toLoadRect

theorem pay1_eq (v : FVec F S1x128 .f32) : k0_pay1 v = v := by
  unfold k0_pay1
  exact shapeCast_self _ _

/-- What the first kernel leaves at a point, from its three blocks and the running row it finds (the zero row at the first
    point): the logits' block, the running sum's block, and the running sum's last row. -/
theorem fwd_body (c : Dev nD) (i : grid0.Coords) (M1 : Memref sig .tc .vmem S256x2048 .bf16) (h1 : M1.IsWhole)
    (M2 : Memref sig .tc .vmem S128x2048 .bf16) (h2 : M2.IsWhole) (M3 : Memref sig .tc .vmem S1x128 .f32) (h3 : M3.IsWhole)
    (M4 : Memref sig .tc .vmem S256x128 .f32) (h4 : M4.IsWhole) (M5 : Memref sig .tc .vmem S256x128 .f32) (h5 : M5.IsWhole)
    (M6 : Memref sig .tc .vmem S8x128 .f32) (h6 : M6.IsWhole)
    (f1 : Bf (F := F) c M1) (f2 : Bf (F := F) c M2) (f3 : Bf (F := F) c M3) (f4 : Bf (F := F) c M4) (f5 : Bf (F := F) c M5)
    (f6 : Bf (F := F) c M6) (r : Vec F S1x128 .f32) (hr : first0 i → View.ld (k0_pay2 (F := F)) (Rect.unit (s := S8x128) ![0, 0] S1x128.size inb_S8x128_S1x128_0_0) = r)
    (hr' : ¬ first0 i → M6.view.readAt (Elt F) row0 f6 = r) (E : Set ℕ) (Q : PUnit → sProp 𝕄) :
    iprop(pt c M1 f1 ∗ pt c M2 f2 ∗ pt c M3 f3 ∗ pt c M4 f4 ∗ pt c M5 f5 ∗ pt c M6 f6 ∗
      (iprop(pt c M1 f1 ∗ pt c M2 f2 ∗ pt c M3 f3 ∗
        (∃ g4 : Bf (F := F) c M4, ⌜M4.view.read (Elt F) g4 = k0_pay3 (M1.view.read (Elt F) f1) (M2.view.read (Elt F) f2) (M3.view.read (Elt F) f3)⌝ ∗ pt c M4 g4) ∗
        (∃ g5 : Bf (F := F) c M5, ⌜M5.view.read (Elt F) g5 = k0_pay4 (M1.view.read (Elt F) f1) (M2.view.read (Elt F) f2) (M3.view.read (Elt F) f3) r⌝ ∗ pt c M5 g5) ∗
        (∃ g6 : Bf (F := F) c M6, ⌜M6.view.readAt (Elt F) row0 g6 = k0_pay5 (M1.view.read (Elt F) f1) (M2.view.read (Elt F) f2) (M3.view.read (Elt F) f3) r⌝ ∗ pt c M6 g6)) -∗ Q ⟨⟩))
      ⊢ wp frame (wpE (defs₀ (F := F)) Variants.none c none) E (cc0_fgate_fwd i M1 h1 M2 h2 M3 h3 M4 h4 M5 h5 M6 h6) Q := by
  simp only [cc0_fgate_fwd_eq_skeleton]
  unfold cc0_fgate_fwd_skel
  simp only [k0_part1_eq_skeleton]
  unfold k0_part1_skel
  iintro ⟨H1, H2, H3, H4, H5, H6, Hk⟩
  sl_exec
  sl_step
  iapply Hk
  isplitl [H1]; · iexact H1
  isplitl [H2]; · iexact H2
  isplitl [H3]; · iexact H3
  have hrow : View.readAt (Elt F) M6.view row0 (if hc : first0 i then
      M6.view.writes (Elt F) f6 [⟨Rect.unit ![0, 0] S8x128.size inb_S8x128_S8x128_0_0, k0_pay2⟩] else f6) = r := by
    by_cases hc : first0 i
    · rw [dif_pos hc, View.readAt_eq_ld, View.read_writes_full]
      exact hr hc
    · rw [dif_neg hc]
      exact hr' hc
  isplitl [H4]
  · iexists _; isplitr; swap; (· iexact H4); ipureintro
    rw [View.read_writes_full, View.readAt_full, View.readAt_full, View.readAt_full]
  isplitl [H5]
  · iexists _; isplitr; swap; (· iexact H5); ipureintro
    sl_open_run
    rw [View.read_writes_full, View.readAt_full, View.readAt_full, View.readAt_full]
    exact congrArg _ hrow
  iexists _; isplitr; swap; (· iexact H6); ipureintro
  sl_open_run
  rw [View.readAt_full, View.readAt_full, View.readAt_full]
  refine (Stores.readAt_last _ _ _ _ _).trans ?_
  exact (pay1_eq _).trans (congrArg _ hrow)

theorem pay1_eq' (v : FVec F S1x128 .f32) : k1_pay1 v = v := by
  unfold k1_pay1
  exact shapeCast_self _ _

/-- The second kernel's branch is taken where the grid coordinate is zero. -/
abbrev first1 (i : grid1.Coords) : Prop := Scalar.cmpi .ne (Scalar.extui (Scalar.cmpi .eq (BitVec.ofNat 32 (i 0).val) 0#32) : BitVec 32) 0#32 = 1#1

/-- Row 0 of a block of eight rows replaced. -/
abbrev setRow0 (X : S8x128.Idx → Elt F .f32) (w : S1x128.Idx → Elt F .f32) : S8x128.Idx → Elt F .f32 :=
  (Rect.unit (s := S8x128) ![0, 0] S1x128.size inb_S8x128_S1x128_0_0).overlay X w

/-- What the second kernel leaves at a point, from its three blocks, the running row `r` it finds (the zero row at the first
    point) and the sums `s` it finds (zeros at the first point): the logits' gradient, the sums with the bias's row grown,
    and the running sum's first row. -/
theorem bwd_body (c : Dev nD) (i : grid1.Coords) (M1 : Memref sig .tc .vmem S256x128 .f32) (h1 : M1.IsWhole)
    (M2 : Memref sig .tc .vmem S256x128 .f32) (h2 : M2.IsWhole) (M3 : Memref sig .tc .vmem S256x128 .f32) (h3 : M3.IsWhole)
    (M4 : Memref sig .tc .vmem S256x128 .bf16) (h4 : M4.IsWhole) (M5 : Memref sig .tc .vmem S8x128 .f32) (h5 : M5.IsWhole)
    (M6 : Memref sig .tc .vmem S8x128 .f32) (h6 : M6.IsWhole)
    (f1 : Bf (F := F) c M1) (f2 : Bf (F := F) c M2) (f3 : Bf (F := F) c M3) (f4 : Bf (F := F) c M4) (f5 : Bf (F := F) c M5)
    (f6 : Bf (F := F) c M6) (r : Vec F S1x128 .f32) (s : Vec F S8x128 .f32)
    (hr : first1 i → View.ld (k1_pay2 (F := F)) (Rect.unit (s := S8x128) ![0, 0] S1x128.size inb_S8x128_S1x128_0_0) = r)
    (hr' : ¬ first1 i → M6.view.readAt (Elt F) row0 f6 = r)
    (hs : first1 i → k1_pay3 (F := F) = s) (hs' : ¬ first1 i → M5.view.read (Elt F) f5 = s) (E : Set ℕ) (Q : PUnit → sProp 𝕄) :
    iprop(pt c M1 f1 ∗ pt c M2 f2 ∗ pt c M3 f3 ∗ pt c M4 f4 ∗ pt c M5 f5 ∗ pt c M6 f6 ∗
      (iprop(pt c M1 f1 ∗ pt c M2 f2 ∗ pt c M3 f3 ∗
        (∃ g4 : Bf (F := F) c M4, ⌜M4.view.read (Elt F) g4 = k1_pay6 (M1.view.read (Elt F) f1) (M2.view.read (Elt F) f2) r (M3.view.read (Elt F) f3)⌝ ∗ pt c M4 g4) ∗
        (∃ g5 : Bf (F := F) c M5, ⌜M5.view.read (Elt F) g5 = setRow0 s (k1_pay7 (M1.view.read (Elt F) f1) (M2.view.read (Elt F) f2) r (M3.view.read (Elt F) f3)
            (View.ld s (Rect.unit (s := S8x128) ![0, 0] S1x128.size inb_S8x128_S1x128_0_0)))⌝ ∗ pt c M5 g5) ∗
        (∃ g6 : Bf (F := F) c M6, ⌜M6.view.readAt (Elt F) row0 g6 = k1_pay8 (M1.view.read (Elt F) f1) (M2.view.read (Elt F) f2) r⌝ ∗ pt c M6 g6)) -∗ Q ⟨⟩))
      ⊢ wp frame (wpE (defs₀ (F := F)) Variants.none c none) E (cc1_fgate_bwd i M1 h1 M2 h2 M3 h3 M4 h4 M5 h5 M6 h6) Q := by
  simp only [cc1_fgate_bwd_eq_skeleton]
  unfold cc1_fgate_bwd_skel
  simp only [k1_part1_eq_skeleton]
  unfold k1_part1_skel
  iintro ⟨H1, H2, H3, H4, H5, H6, Hk⟩
  sl_exec
  sl_step
  iapply Hk
  isplitl [H1]; · iexact H1
  isplitl [H2]; · iexact H2
  isplitl [H3]; · iexact H3
  have hrow : View.readAt (Elt F) M6.view row0 (if hc : first1 i then
      M6.view.writes (Elt F) f6 [⟨Rect.unit ![0, 0] S8x128.size inb_S8x128_S8x128_0_0, k1_pay2⟩] else f6) = r := by
    by_cases hc : first1 i
    · rw [dif_pos hc, View.readAt_eq_ld, View.read_writes_full]
      exact hr hc
    · rw [dif_neg hc]
      exact hr' hc
  have hsum : View.read (Elt F) M5.view (if hc : first1 i then
      M5.view.writes (Elt F) f5 [⟨Rect.unit ![0, 0] S8x128.size inb_S8x128_S8x128_0_0, k1_pay3⟩] else f5) = s := by
    by_cases hc : first1 i
    · rw [dif_pos hc, View.read_writes_full]
      exact hs hc
    · rw [dif_neg hc]
      exact hs' hc
  isplitl [H4]
  · iexists _; isplitr; swap; (· iexact H4); ipureintro
    sl_open_run
    rw [View.read_writes_full, View.readAt_full, View.readAt_full, View.readAt_full]
    exact congrArg (k1_pay6 _ _ · _) hrow
  isplitl [H5]
  · iexists _; isplitr; swap; (· iexact H5); ipureintro
    sl_open_run
    rw [View.readAt_full, View.readAt_full, View.readAt_full]
    refine (Stores.read_one _ _ _ _).trans ?_
    refine congrArg₂ setRow0 hsum ?_
    rw [View.readAt_eq_ld M5.view]
    exact congrArg₂ (fun (a : Vec F S1x128 .f32) (b : Vec F S8x128 .f32) => k1_pay7 (M1.view.read (Elt F) f1) (M2.view.read (Elt F) f2) a (M3.view.read (Elt F) f3) (View.ld b (Rect.unit (s := S8x128) ![0, 0] S1x128.size inb_S8x128_S1x128_0_0))) hrow hsum
  iexists _; isplitr; swap; (· iexact H6); ipureintro
  sl_open_run
  rw [View.readAt_full, View.readAt_full]
  refine (Stores.readAt_last _ _ _ _ _).trans ?_
  exact (pay1_eq' _).trans (congrArg _ hrow)

end Cert.FgateIdeal.Body

end
-- ==== Proof.FgateRun.lean ====
/- The forget gate's two calls, point by point: what each point finds in its windows and in the carried row, and what it
   leaves there. -/
module

public import proofs.«01_k».proof.Proof.FgateBody
public import proofs.«01_k».proof.Proof.Gen.FgateIdeal.Regions

@[expose] public section

set_option maxRecDepth 16384

noncomputable section

namespace Cert.FgateIdeal.Body

open Cert.FgateIdeal Cert.FgateIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Dev nD → Valuation τ sig (Elt F))

/-- Window `w`'s block at point `t` of the first call, at the valuation the call is entered with. -/
def blk0 (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

/-- The running sum's last row before point `n` of the first call. -/
def run0 (c : Dev nD) : ℕ → Vec F S1x128 .f32
  | 0 => View.ld (k0_pay2 (F := F)) (Rect.unit (s := S8x128) ![0, 0] S1x128.size inb_S8x128_S1x128_0_0)
  | n + 1 => if h : n < cfg0.N then k0_pay5 (blk0 V c 0 ⟨n, h⟩) (blk0 V c 1 ⟨n, h⟩) (blk0 V c 2 ⟨n, h⟩) (run0 c n) else run0 c n

theorem run0_succ (c : Dev nD) (t : Fin cfg0.N) :
    run0 V c (t.val + 1) = k0_pay5 (blk0 V c 0 t) (blk0 V c 1 t) (blk0 V c 2 t) (run0 V c t.val) := dif_pos t.isLt

/-- Between points of the first call: the carried row at the running sum's last row (anything before the first point), and
    the other scoped buffers at something. -/
def inv0 (c : Dev nD) (n : ℕ) : sProp 𝕄 :=
  iprop((∃ g : Buf (Elt F) ((c : Thread nD τ).loc cc0_scratch0), ⌜n ≠ 0 → (Memref.whole cc0_scratch0).view.readAt (Elt F) row0 g = run0 V c n⌝ ∗
      ((c : Thread nD τ).loc cc0_scratch0) ↦{fullShare} g) ∗ Pipeline.scopedRestBut spec0 c [cc0_scratch0])

/-- The first call's proof data. -/
def dat0 (c : Dev nD) : Dat τ (Elt F) Unit ℕ (UR sig nD τ) ℕ cfg0 c where
  A w := V c (Proc.devRef .tc (Pipeline.arrRef spec0 w))
  after w t := match w with
    | ⟨0, _⟩ => blk0 V c 0 t
    | ⟨1, _⟩ => blk0 V c 1 t
    | ⟨2, _⟩ => blk0 V c 2 t
    | ⟨3, _⟩ => k0_pay3 (blk0 V c 0 t) (blk0 V c 1 t) (blk0 V c 2 t)
    | ⟨4, _⟩ => k0_pay4 (blk0 V c 0 t) (blk0 V c 1 t) (blk0 V c 2 t) (run0 V c t.val)
  Φ n := inv0 V c n.val
  q _ := fullShare
  owed _ := 0

theorem first0_iff : ∀ t : Fin cfg0.N, first0 (grid0.coords t) ↔ t.val = 0 :=
  (by decide +kernel : ∀ t : Fin grid0.N, first0 (grid0.coords t) ↔ t.val = 0)

theorem before0_0 (c : Dev nD) (t : Fin cfg0.N) (d) : (dat0 V c).before 0 t d = blk0 V c 0 t :=
  (dat0 V c).before_in_eq_fetched 0 rfl (fun _ => rfl) (fun _ _ _ => rfl) (fun _ => rfl) t d
theorem before0_1 (c : Dev nD) (t : Fin cfg0.N) (d) : (dat0 V c).before 1 t d = blk0 V c 1 t :=
  (dat0 V c).before_in_eq_fetched 1 rfl (fun _ => rfl) (fun _ _ _ => rfl) (fun _ => rfl) t d
theorem before0_2 (c : Dev nD) (t : Fin cfg0.N) (d) : (dat0 V c).before 2 t d = blk0 V c 2 t :=
  (dat0 V c).before_in_eq_fetched 2 rfl (fun _ => rfl) (fun _ _ _ => rfl) (fun _ => rfl) t d

theorem body0 (c : Dev nD) : BodyObligation (dat0 V c) (defs₀ (F := F)) Variants.none () Set.univ := fun t => by
  rw [bigSep_W0, bigSep_W0]
  have hw := fun w => stage_whole0 w (cfg0.slots t w)
  simp only [Calls.owns_of_whole c (hw 0), Calls.owns_of_whole c (hw 1), Calls.owns_of_whole c (hw 2), Calls.owns_of_whole c (hw 3), Calls.owns_of_whole c (hw 4)]
  rw [show (dat0 V c).Φ t.castSucc = inv0 V c t.val from rfl, show (dat0 V c).Φ t.succ = inv0 V c (t.val + 1) from rfl,
    show (dat0 V c).owesAt () t.succ = (dat0 V c).owesAt () t.castSucc from rfl]
  unfold inv0
  iintro ⟨⟨⟨%g, %hg, Hg⟩, HΦ⟩, Howes, ⟨%d0, %f0, %hf0, H0⟩, ⟨%d1, %f1, %hf1, H1⟩, ⟨%d2, %f2, %hf2, H2⟩, ⟨%d3, %f3, -, H3⟩, ⟨%d4, %f4, -, H4⟩⟩
  rw [before0_0] at hf0
  rw [before0_1] at hf1
  rw [before0_2] at hf2
  iapply (fwd_body c (grid0.coords t) (st0_0 t) _ (st0_1 t) _ (st0_2 t) _ (st0_3 t) _ (st0_4 t) _ (Memref.whole cc0_scratch0) _ f0 f1 f2 f3 f4 g
    (run0 V c t.val) (fun h => by rw [(first0_iff t).mp h]; rfl) (fun h => hg fun h0 => h ((first0_iff t).mpr h0)) Set.univ _)
  isplitl [H0]; · iexact H0
  isplitl [H1]; · iexact H1
  isplitl [H2]; · iexact H2
  isplitl [H3]; · iexact H3
  isplitl [H4]; · iexact H4
  isplitl [Hg]; · iexact Hg
  iintro ⟨H0, H1, H2, ⟨%g3, %h3, H3⟩, ⟨%g4, %h4, H4⟩, ⟨%g5, %h5, Hg⟩⟩
  rw [hf0, hf1, hf2] at h3 h4 h5
  isplitl [HΦ Hg]
  · isplitl [Hg]
    · iexists g5; isplitr; swap; (· iexact Hg); ipureintro; exact fun _ => h5.trans (run0_succ V c t).symm
    iexact HΦ
  isplitl [Howes]; · iexact Howes
  isplitl [H0]; · iexists _; isplitr; swap; (· iexact H0); ipureintro; exact hf0
  isplitl [H1]; · iexists _; isplitr; swap; (· iexact H1); ipureintro; exact hf1
  isplitl [H2]; · iexists _; isplitr; swap; (· iexact H2); ipureintro; exact hf2
  isplitl [H3]; · iexists _; isplitr; swap; (· iexact H3); ipureintro; exact h3
  iexists _; isplitr; swap; (· iexact H4); ipureintro; exact h4

/-- Window `w`'s block at point `t` of the second call, at the valuation the call is entered with. -/
def blk1 (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

/-- The running sum's first row before point `n` of the second call. -/
def run1 (c : Dev nD) : ℕ → Vec F S1x128 .f32
  | 0 => View.ld (k1_pay2 (F := F)) (Rect.unit (s := S8x128) ![0, 0] S1x128.size inb_S8x128_S1x128_0_0)
  | n + 1 => if h : n < cfg1.N then k1_pay8 (blk1 V c 0 ⟨n, h⟩) (blk1 V c 1 ⟨n, h⟩) (run1 c n) else run1 c n

theorem run1_succ (c : Dev nD) (t : Fin cfg1.N) :
    run1 V c (t.val + 1) = k1_pay8 (blk1 V c 0 t) (blk1 V c 1 t) (run1 V c t.val) := dif_pos t.isLt

/-- The sums before point `n` of the second call. -/
def sums1 (c : Dev nD) : ℕ → Vec F S8x128 .f32
  | 0 => k1_pay3 (F := F)
  | n + 1 => if h : n < cfg1.N then setRow0 (sums1 c n) (k1_pay7 (blk1 V c 0 ⟨n, h⟩) (blk1 V c 1 ⟨n, h⟩) (run1 V c n) (blk1 V c 2 ⟨n, h⟩)
      (View.ld (sums1 c n) (Rect.unit (s := S8x128) ![0, 0] S1x128.size inb_S8x128_S1x128_0_0))) else sums1 c n

theorem sums1_succ (c : Dev nD) (t : Fin cfg1.N) :
    sums1 V c (t.val + 1) = setRow0 (sums1 V c t.val) (k1_pay7 (blk1 V c 0 t) (blk1 V c 1 t) (run1 V c t.val) (blk1 V c 2 t)
      (View.ld (sums1 V c t.val) (Rect.unit (s := S8x128) ![0, 0] S1x128.size inb_S8x128_S1x128_0_0))) := dif_pos t.isLt

/-- Between points of the second call: the carried row at the running sum's first row (anything before the first point), and
    the other scoped buffers at something. -/
def inv1 (c : Dev nD) (n : ℕ) : sProp 𝕄 :=
  iprop((∃ g : Buf (Elt F) ((c : Thread nD τ).loc cc1_scratch0), ⌜n ≠ 0 → (Memref.whole cc1_scratch0).view.readAt (Elt F) row0 g = run1 V c n⌝ ∗
      ((c : Thread nD τ).loc cc1_scratch0) ↦{fullShare} g) ∗ Pipeline.scopedRestBut spec1 c [cc1_scratch0])

/-- The second call's proof data. -/
def dat1 (c : Dev nD) : Dat τ (Elt F) Unit ℕ (UR sig nD τ) ℕ cfg1 c where
  A w := V c (Proc.devRef .tc (Pipeline.arrRef spec1 w))
  after w t := match w with
    | ⟨0, _⟩ => blk1 V c 0 t
    | ⟨1, _⟩ => blk1 V c 1 t
    | ⟨2, _⟩ => blk1 V c 2 t
    | ⟨3, _⟩ => k1_pay6 (blk1 V c 0 t) (blk1 V c 1 t) (run1 V c t.val) (blk1 V c 2 t)
    | ⟨4, _⟩ => sums1 V c (t.val + 1)
  Φ n := inv1 V c n.val
  q _ := fullShare
  owed _ := 0

theorem first1_iff : ∀ t : Fin cfg1.N, first1 (grid1.coords t) ↔ t.val = 0 :=
  (by decide +kernel : ∀ t : Fin grid1.N, first1 (grid1.coords t) ↔ t.val = 0)

theorem before1_0 (c : Dev nD) (t : Fin cfg1.N) (d) : (dat1 V c).before 0 t d = blk1 V c 0 t :=
  (dat1 V c).before_in_eq_fetched 0 rfl (fun _ => rfl) (fun _ _ _ => rfl) (fun _ => rfl) t d
theorem before1_1 (c : Dev nD) (t : Fin cfg1.N) (d) : (dat1 V c).before 1 t d = blk1 V c 1 t :=
  (dat1 V c).before_in_eq_fetched 1 rfl (fun _ => rfl) (fun _ _ _ => rfl) (fun _ => rfl) t d
theorem before1_2 (c : Dev nD) (t : Fin cfg1.N) (d) : (dat1 V c).before 2 t d = blk1 V c 2 t :=
  (dat1 V c).before_in_eq_fetched 2 rfl (fun _ => rfl) (fun _ _ _ => rfl) (fun _ => rfl) t d
theorem before1_4 (c : Dev nD) (t : Fin cfg1.N) (ht : t.val ≠ 0) (d) : (dat1 V c).before 4 t d = sums1 V c t.val := by
  have hN : t.val < 16 := t.isLt
  rw [(dat1 V c).before_out_kept 4 rfl t ht ?_ (fun _ => rfl) (fun _ _ => rfl) d]
  · show sums1 V c (t.val - 1 + 1) = _
    rw [Nat.sub_add_cancel (Nat.pos_of_ne_zero ht)]
  · rw [← Bool.not_eq_true, flush1_4]
    show ¬ (t.val - 1) % 16 = 15
    omega

theorem body1 (c : Dev nD) : BodyObligation (dat1 V c) (defs₀ (F := F)) Variants.none () Set.univ := fun t => by
  rw [bigSep_W1, bigSep_W1]
  have hw := fun w => stage_whole1 w (cfg1.slots t w)
  simp only [Calls.owns_of_whole c (hw 0), Calls.owns_of_whole c (hw 1), Calls.owns_of_whole c (hw 2), Calls.owns_of_whole c (hw 3), Calls.owns_of_whole c (hw 4)]
  rw [show (dat1 V c).Φ t.castSucc = inv1 V c t.val from rfl, show (dat1 V c).Φ t.succ = inv1 V c (t.val + 1) from rfl,
    show (dat1 V c).owesAt () t.succ = (dat1 V c).owesAt () t.castSucc from rfl]
  unfold inv1
  iintro ⟨⟨⟨%g, %hg, Hg⟩, HΦ⟩, Howes, ⟨%d0, %f0, %hf0, H0⟩, ⟨%d1, %f1, %hf1, H1⟩, ⟨%d2, %f2, %hf2, H2⟩, ⟨%d3, %f3, -, H3⟩, ⟨%d4, %f4, %hf4, H4⟩⟩
  rw [before1_0] at hf0
  rw [before1_1] at hf1
  rw [before1_2] at hf2
  iapply (bwd_body c (grid1.coords t) (st1_0 t) _ (st1_1 t) _ (st1_2 t) _ (st1_3 t) _ (st1_4 t) _ (Memref.whole cc1_scratch0) _ f0 f1 f2 f3 f4 g
    (run1 V c t.val) (sums1 V c t.val) (fun h => by rw [(first1_iff t).mp h]; rfl) (fun h => hg fun h0 => h ((first1_iff t).mpr h0))
    (fun h => by rw [(first1_iff t).mp h]; rfl) (fun h => hf4.trans (before1_4 V c t (fun h0 => h ((first1_iff t).mpr h0)) d4)) Set.univ _)
  isplitl [H0]; · iexact H0
  isplitl [H1]; · iexact H1
  isplitl [H2]; · iexact H2
  isplitl [H3]; · iexact H3
  isplitl [H4]; · iexact H4
  isplitl [Hg]; · iexact Hg
  iintro ⟨H0, H1, H2, ⟨%g3, %h3, H3⟩, ⟨%g4, %h4, H4⟩, ⟨%g5, %h5, Hg⟩⟩
  rw [hf0, hf1, hf2] at h3 h4
  rw [hf0, hf1] at h5
  isplitl [HΦ Hg]
  · isplitl [Hg]
    · iexists g5; isplitr; swap; (· iexact Hg); ipureintro; exact fun _ => h5.trans (run1_succ V c t).symm
    iexact HΦ
  isplitl [Howes]; · iexact Howes
  isplitl [H0]; · iexists _; isplitr; swap; (· iexact H0); ipureintro; exact hf0
  isplitl [H1]; · iexists _; isplitr; swap; (· iexact H1); ipureintro; exact hf1
  isplitl [H2]; · iexists _; isplitr; swap; (· iexact H2); ipureintro; exact hf2
  isplitl [H3]; · iexists _; isplitr; swap; (· iexact H3); ipureintro; exact h3
  iexists _; isplitr; swap; (· iexact H4); ipureintro; exact h4.trans (sums1_succ V c t).symm

/-! ## The scratch of each call among the other scoped buffers -/

theorem scoped0 (c : Dev nD) : (Pipeline.scopedRest spec0 c : sProp 𝕄)
    = iprop((∃ g : Buf (Elt F) ((c : Thread nD τ).loc cc0_scratch0), ((c : Thread nD τ).loc cc0_scratch0) ↦{fullShare} g) ∗ Pipeline.scopedRestBut spec0 c [cc0_scratch0]) := by
  rw [Pipeline.scopedRest_split_of_list spec0 c [cc0_scratch0] (by decide) (by decide), bigSepL_singleton]
  rfl

theorem hin0 (c : Dev nD) : (Pipeline.scopedRest spec0 c : sProp 𝕄) ⊢ inv0 V c 0 := by
  rw [scoped0]
  unfold inv0
  iintro ⟨⟨%g, Hg⟩, H⟩
  isplitl [Hg]
  · iexists g; isplitr; swap; (· iexact Hg); ipureintro; exact fun h => absurd rfl h
  iexact H
theorem hout0 (c : Dev nD) (n : ℕ) : inv0 V c n ⊢ (Pipeline.scopedRest spec0 c : sProp 𝕄) := by
  rw [scoped0]
  unfold inv0
  iintro ⟨⟨%g, -, Hg⟩, H⟩
  isplitl [Hg]
  · iexists g; iexact Hg
  iexact H
theorem scoped1 (c : Dev nD) : (Pipeline.scopedRest spec1 c : sProp 𝕄)
    = iprop((∃ g : Buf (Elt F) ((c : Thread nD τ).loc cc1_scratch0), ((c : Thread nD τ).loc cc1_scratch0) ↦{fullShare} g) ∗ Pipeline.scopedRestBut spec1 c [cc1_scratch0]) := by
  rw [Pipeline.scopedRest_split_of_list spec1 c [cc1_scratch0] (by decide) (by decide), bigSepL_singleton]
  rfl

theorem hin1 (c : Dev nD) : (Pipeline.scopedRest spec1 c : sProp 𝕄) ⊢ inv1 V c 0 := by
  rw [scoped1]
  unfold inv1
  iintro ⟨⟨%g, Hg⟩, H⟩
  isplitl [Hg]
  · iexists g; isplitr; swap; (· iexact Hg); ipureintro; exact fun h => absurd rfl h
  iexact H
theorem hout1 (c : Dev nD) (n : ℕ) : inv1 V c n ⊢ (Pipeline.scopedRest spec1 c : sProp 𝕄) := by
  rw [scoped1]
  unfold inv1
  iintro ⟨⟨%g, -, Hg⟩, H⟩
  isplitl [Hg]
  · iexists g; iexact Hg
  iexact H

end Cert.FgateIdeal.Body

end
-- ==== Proof.FgateAll.lean ====
/- The forget gate's program run: the two calls' records, the list of its host stretches and calls, and what every unscoped
   buffer holds at the end. -/
module

public import proofs.«01_k».proof.Proof.FgateRun
public import proofs.«01_k».proof.Proof.Gen.FgateIdeal.Regions

@[expose] public section

set_option maxRecDepth 16384

noncomputable section

namespace Cert.FgateIdeal.Body

open Cert.FgateIdeal Cert.FgateIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The buffers after the first call: its two results, the others as they were. -/
def after0 (c : Dev nD) : Valuation τ sig (Elt F) :=
  Function.update (Function.update (V4 m c) main_v5_0 ((dat0 (V4 m) c).arrAt 3 cfg0.N)) main_v5_1 ((dat0 (V4 m) c).arrAt 4 cfg0.N)

/-- The contents the first call leaves. -/
def outs0 : Outs (F := F) := fun _ r c => after0 m c (Proc.devRef .tc r)

/-- The buffers the second call is entered with. -/
abbrev enter1 (c : Dev nD) : Valuation τ sig (Elt F) := V9 m (outs0 m) c

/-- The buffers after the second call. -/
def after1 (c : Dev nD) : Valuation τ sig (Elt F) :=
  Function.update (Function.update (enter1 m c) main_v8_0 ((dat1 (enter1 m) c).arrAt 3 cfg1.N)) main_v8_1 ((dat1 (enter1 m) c).arrAt 4 cfg1.N)

/-- The contents both calls leave. -/
def outs : Outs (F := F) := fun J r c =>
  if J = 10 then after1 m c (Proc.devRef .tc r) else after0 m c (Proc.devRef .tc r)

theorem outs_5 (r : Ref sig .tc) (c : Dev nD) : outs m 5 r c = after0 m c (Proc.devRef .tc r) := if_neg (by decide)
theorem outs0_5 (r : Ref sig .tc) (c : Dev nD) : outs0 m 5 r c = after0 m c (Proc.devRef .tc r) := by unfold outs0; exact Eq.refl _
theorem outs_10 (r : Ref sig .tc) (c : Dev nD) : outs m 10 r c = after1 m c (Proc.devRef .tc r) := if_pos (Eq.refl 10)

/-- Both calls' proof data. -/
def pdats : (p : Fin 2) → (c : Dev nD) → Dat τ (Elt F) Unit ℕ (UR sig nD τ) ℕ (cfgs p) c
  | ⟨0, _⟩, c => dat0 (V4 m) c
  | ⟨1, _⟩, c => dat1 (enter1 m) c

theorem V5_outs (c : Dev nD) : V5 m (outs m) c = V5 m (outs0 m) c := by
  show Function.update (Function.update (V4 m c) main_v5_0 (outs m 5 main_v5_0 c)) main_v5_1 (outs m 5 main_v5_1 c)
    = Function.update (Function.update (V4 m c) main_v5_0 (outs0 m 5 main_v5_0 c)) main_v5_1 (outs0 m 5 main_v5_1 c)
  rw [outs_5, outs_5, outs0_5, outs0_5]

theorem V9_outs (c : Dev nD) : V9 m (outs m) c = enter1 m c := by
  show StableHlo.after hostOps1_3 (StableHlo.after hostOps1_2 (StableHlo.after hostOps1_1 (StableHlo.after hostOps1 (V5 m (outs m) c)))) = _
  rw [V5_outs]

theorem V5_0 (c : Dev nD) : V5 m (outs m) c main_v5_0 = (dat0 (V4 m) c).arrAt 3 cfg0.N := by
  show Function.update (Function.update (V4 m c) main_v5_0 (outs m 5 main_v5_0 c)) main_v5_1 (outs m 5 main_v5_1 c) main_v5_0 = _
  rw [Function.update_of_ne (by decide), Function.update_self, outs_5]
  unfold after0
  show Function.update (Function.update (V4 m c) main_v5_0 ((dat0 (V4 m) c).arrAt 3 cfg0.N)) main_v5_1 ((dat0 (V4 m) c).arrAt 4 cfg0.N) main_v5_0 = _
  rw [Function.update_of_ne (by decide), Function.update_self]
theorem V5_1 (c : Dev nD) : V5 m (outs m) c main_v5_1 = (dat0 (V4 m) c).arrAt 4 cfg0.N := by
  show Function.update (Function.update (V4 m c) main_v5_0 (outs m 5 main_v5_0 c)) main_v5_1 (outs m 5 main_v5_1 c) main_v5_1 = _
  rw [Function.update_self, outs_5]
  unfold after0
  show Function.update (Function.update (V4 m c) main_v5_0 ((dat0 (V4 m) c).arrAt 3 cfg0.N)) main_v5_1 ((dat0 (V4 m) c).arrAt 4 cfg0.N) main_v5_1 = _
  rw [Function.update_self]
theorem V10_0 (c : Dev nD) : V10 m (outs m) c main_v8_0 = (dat1 (enter1 m) c).arrAt 3 cfg1.N := by
  show Function.update (Function.update (V9 m (outs m) c) main_v8_0 (outs m 10 main_v8_0 c)) main_v8_1 (outs m 10 main_v8_1 c) main_v8_0 = _
  rw [Function.update_of_ne (by decide), Function.update_self, outs_10]
  unfold after1
  show Function.update (Function.update (enter1 m c) main_v8_0 ((dat1 (enter1 m) c).arrAt 3 cfg1.N)) main_v8_1 ((dat1 (enter1 m) c).arrAt 4 cfg1.N) main_v8_0 = _
  rw [Function.update_of_ne (by decide), Function.update_self]
theorem V10_1 (c : Dev nD) : V10 m (outs m) c main_v8_1 = (dat1 (enter1 m) c).arrAt 4 cfg1.N := by
  show Function.update (Function.update (V9 m (outs m) c) main_v8_0 (outs m 10 main_v8_0 c)) main_v8_1 (outs m 10 main_v8_1 c) main_v8_1 = _
  rw [Function.update_self, outs_10]
  unfold after1
  show Function.update (Function.update (enter1 m c) main_v8_0 ((dat1 (enter1 m) c).arrAt 3 cfg1.N)) main_v8_1 ((dat1 (enter1 m) c).arrAt 4 cfg1.N) main_v8_1 = _
  rw [Function.update_self]

theorem results0 : ∀ b ∈ ([main_v5_0, main_v5_1] : List (Ref sig .tc)), b ∈ Finset.univ.image (Pipeline.arrRef spec0) := by decide
theorem results1 : ∀ b ∈ ([main_v8_0, main_v8_1] : List (Ref sig .tc)), b ∈ Finset.univ.image (Pipeline.arrRef spec1) := by decide

/-- The first call's record. -/
def region0 : Pipeline.RegionSeg (pcfgs (F := F)) adm (pdats m) () defs₀ Variants.none Calls.lev Calls.lvl 0 :=
  Calls.region (pcfgs (F := F)) adm (pdats m) defs₀ 0 (launch0.to₀.toP) rfl (fun c => (body0 (V4 m) c).loose)
    (fun _ _ => rfl) (fun _ => rfl)
    (fun c w _ => (Pipeline.shareOf_eq_fullShare_of_injective spec0 (by decide) w).symm)
    (fun c => hin0 (V4 m) c) (fun c => hout0 (V4 m) c _) (V4 m) (V5 m (outs m))
    (fun _ _ => rfl)
    (fun c w => by
      fin_cases w
      · exact ((dat0 (V4 m) c).arrAt_in 0 rfl _).trans (V5_of m (outs m) c (Pipeline.arrRef spec0 0) (by decide)).symm
      · exact ((dat0 (V4 m) c).arrAt_in 1 rfl _).trans (V5_of m (outs m) c (Pipeline.arrRef spec0 1) (by decide)).symm
      · exact ((dat0 (V4 m) c).arrAt_in 2 rfl _).trans (V5_of m (outs m) c (Pipeline.arrRef spec0 2) (by decide)).symm
      · exact (V5_0 m c).symm
      · exact (V5_1 m c).symm)
    (fun c b hb => V5_of m (outs m) c b fun h => hb (results0 b h))

/-- The second call's record. -/
def region1 : Pipeline.RegionSeg (pcfgs (F := F)) adm (pdats m) () defs₀ Variants.none Calls.lev Calls.lvl 1 :=
  Calls.region (pcfgs (F := F)) adm (pdats m) defs₀ 1 (launch1.to₀.toP) rfl (fun c => (body1 (enter1 m) c).loose)
    (fun _ _ => rfl) (fun _ => rfl)
    (fun c w _ => (Pipeline.shareOf_eq_fullShare_of_injective spec1 (by decide) w).symm)
    (fun c => hin1 (enter1 m) c) (fun c => hout1 (enter1 m) c _) (enter1 m) (V10 m (outs m))
    (fun _ _ => rfl)
    (fun c w => by
      fin_cases w
      · exact ((dat1 (enter1 m) c).arrAt_in 0 rfl _).trans ((V10_of m (outs m) c (Pipeline.arrRef spec1 0) (by decide)).trans (congrFun (V9_outs m c) _)).symm
      · exact ((dat1 (enter1 m) c).arrAt_in 1 rfl _).trans ((V10_of m (outs m) c (Pipeline.arrRef spec1 1) (by decide)).trans (congrFun (V9_outs m c) _)).symm
      · exact ((dat1 (enter1 m) c).arrAt_in 2 rfl _).trans ((V10_of m (outs m) c (Pipeline.arrRef spec1 2) (by decide)).trans (congrFun (V9_outs m c) _)).symm
      · exact (V10_0 m c).symm
      · exact (V10_1 m c).symm)
    (fun c b hb => (V10_of m (outs m) c b fun h => hb (results1 b h)).trans (congrFun (V9_outs m c) _))

set_option backward.isDefEq.respectTransparency.types false in
/-- The program ends with every unscoped buffer at the last valuation and every counter at zero. -/
theorem run (ρ : Dev nD → PrngReg) :
    θ_run defs (onTc (τ := τ) (main (F := F))) ⟨m, fun _ => 0, ρ⟩ (fun r =>
      (∀ c : Dev nD, ∀ b ∈ Pipeline.ucRefs τ sig, r.2.mem (c, b) = V10 m (outs m) c b) ∧ r.2.sem = fun _ => 0) := by
  refine Calls.run (pcfgs (F := F)) adm (pdats m) defs₀ cellOf_inj m ρ main
    (segs m (outs m) Variants.none Calls.lev Calls.lvl (fun _ => Calls.due) () (pdats m) (region0 m) (region1 m))
    (fun c => by
      rewrite [main_chain c, Pipeline.Seg.run_eq_chain,
        show (segs m (outs m) Variants.none Calls.lev Calls.lvl (fun _ => Calls.due) () (pdats m) (region0 m) (region1 m) c).map Pipeline.Seg.prog = [
          StableHlo.seq hostOps0,
          StableHlo.seq hostOps0_1,
          StableHlo.seq hostOps0_2,
          StableHlo.seq hostOps0_3,
          Prog.lift (.customCall (Pipeline.entry 0) ()),
          StableHlo.seq hostOps1,
          StableHlo.seq hostOps1_1,
          StableHlo.seq hostOps1_2,
          StableHlo.seq hostOps1_3,
          Prog.lift (.customCall (Pipeline.entry 1) ()) ] from rfl]
      rfl)
    (fun c => by simp only [segs, Pipeline.Seg.pipes_host, Pipeline.Seg.pipes_region, Pipeline.Seg.pipes_nil]; decide)
    (V10 m (outs m))
    (fun c => ⟨.rfl, .rfl, .rfl, .rfl, .rfl, .rfl, .rfl, .rfl, .rfl, by
      show iprop(StableHlo.held (c : Thread nD τ) (Pipeline.ucRefs τ sig) (V9 m (outs m) c) ∗ Calls.due c) ⊢ (region1 m).pre c
      rw [V9_outs]
      exact .rfl, .rfl⟩)
    regions_no_unscoped

end Cert.FgateIdeal.Body

end
-- ==== Proof.FgateHost.lean ====
/- The arrays the forget gate's two calls are entered with, entry by entry: the host lines before a call pad the arguments with
   zeros to 128 lanes. -/
module

public import proofs.«01_k».proof.Proof.FgateAll
public import Idealize.ShloMosaic.Lib.Pointwise

@[expose] public section

set_option maxRecDepth 16384

noncomputable section

namespace Cert.FgateIdeal.Body

open Cert.FgateIdeal Cert.FgateIdeal.Gen
open Idealize.ShloMosaic Idealize.ShloMosaic.TcCoe

section
variable {F : FTy → Type} [FloatOps F]
variable (m : (ℓ : Loc nD τ sig) → Buf (Elt F) ℓ) (c : Dev nD)

theorem V4_h : V4 m c main_arg0 = m ((c : Thread nD τ).loc main_arg0) :=
  (V4_of m c main_arg0 (by decide)).trans ((V3_of m c main_arg0 (by decide)).trans
    ((V2_of m c main_arg0 (by decide)).trans (V1_of m c main_arg0 (by decide))))

theorem V4_w : V4 m c main_v2 = pad S128x2048 ![0, 0] ![112, 0] ![0, 0]
    (transpose S16x2048 [1, 0] (truncf .bf16 (m ((c : Thread nD τ).loc main_arg1)) bitsLt_bf16_f32) transposes_S2048x16_S16x2048_1_0)
    (sitofp .bf16 (constantI S_ 32 0#32)) pads_S16x2048_S128x2048_01120_000 h_S_ := by
  refine (V4_of m c main_v2 (by decide)).trans ((V3_of m c main_v2 (by decide)).trans ?_)
  show StableHlo.after hostOps0_1 (StableHlo.after hostOps0 (V0 m c)) (Proc.devRef .tc main_v2) = _
  simp only [hostOps0_1, hostOps0, StableHlo.TRef.binary, StableHlo.TRef.unary, StableHlo.TRef.toBuf, StableHlo.TRef.ofBuf, cast_eq]
  after_results_simp <;> rfl

theorem V4_b : V4 m c main_v4 = pad S1x128 ![0, 0] ![0, 112] ![0, 0]
    (shapeCast S1x16 (m ((c : Thread nD τ).loc main_arg2)) shapeCasts_S16_S1x16)
    (sitofp .f32 (constantI S_ 32 0#32)) pads_S1x16_S1x128_000_01120 h_S_ := by
  show StableHlo.after hostOps0_3 (StableHlo.after hostOps0_2 (V2 m c)) (Proc.devRef .tc main_v4) = _
  have h : V2 m c (Proc.devRef .tc main_arg2) = m ((c : Thread nD τ).loc main_arg2) :=
    (V2_of m c main_arg2 (by decide)).trans (V1_of m c main_arg2 (by decide))
  rw [← h]
  generalize V2 m c = V
  simp only [hostOps0_3, hostOps0_2, StableHlo.TRef.binary, StableHlo.TRef.unary, StableHlo.TRef.toBuf, StableHlo.TRef.ofBuf, cast_eq]
  after_results_simp <;> rfl

theorem V9_z : enter1 m c main_v5_0 = (dat0 (V4 m) c).arrAt 3 cfg0.N := by
  refine ((V9_of m (outs0 m) c main_v5_0 (by decide)).trans ((V8_of m (outs0 m) c main_v5_0 (by decide)).trans
    ((V7_of m (outs0 m) c main_v5_0 (by decide)).trans (V6_of m (outs0 m) c main_v5_0 (by decide))))).trans ?_
  exact (congrFun (V5_outs m c) _).symm.trans (V5_0 m c)

theorem V5_arg3 : V5 m (outs0 m) c (Proc.devRef .tc main_arg3) = m ((c : Thread nD τ).loc main_arg3) :=
  (V5_of m (outs0 m) c main_arg3 (by decide)).trans ((V4_of m c main_arg3 (by decide)).trans ((V3_of m c main_arg3 (by decide)).trans
    ((V2_of m c main_arg3 (by decide)).trans (V1_of m c main_arg3 (by decide)))))
theorem V7_arg4 : V7 m (outs0 m) c (Proc.devRef .tc main_arg4) = m ((c : Thread nD τ).loc main_arg4) :=
  (V7_of m (outs0 m) c main_arg4 (by decide)).trans ((V6_of m (outs0 m) c main_arg4 (by decide)).trans
  ((V5_of m (outs0 m) c main_arg4 (by decide)).trans ((V4_of m c main_arg4 (by decide)).trans ((V3_of m c main_arg4 (by decide)).trans
    ((V2_of m c main_arg4 (by decide)).trans (V1_of m c main_arg4 (by decide)))))))

theorem V9_q : enter1 m c main_v6 = pad S4096x128 ![0, 0] ![0, 112] ![0, 0]
    (m ((c : Thread nD τ).loc main_arg3)) (sitofp .f32 (constantI S_ 32 0#32)) pads_S4096x16_S4096x128_000_01120 h_S_ := by
  refine (V9_of m (outs0 m) c main_v6 (by decide)).trans ((V8_of m (outs0 m) c main_v6 (by decide)).trans ?_)
  show StableHlo.after hostOps1_1 (StableHlo.after hostOps1 (V5 m (outs0 m) c)) (Proc.devRef .tc main_v6) = _
  rw [← V5_arg3 m c]
  generalize V5 m (outs0 m) c = V
  simp only [hostOps1_1, hostOps1, StableHlo.TRef.binary, StableHlo.TRef.unary, StableHlo.TRef.toBuf, StableHlo.TRef.ofBuf, cast_eq]
  after_results_simp <;> rfl

theorem V9_k : enter1 m c main_v7 = pad S4096x128 ![0, 0] ![0, 112] ![0, 0]
    (m ((c : Thread nD τ).loc main_arg4)) (sitofp .f32 (constantI S_ 32 0#32)) pads_S4096x16_S4096x128_000_01120 h_S_ := by
  show StableHlo.after hostOps1_3 (StableHlo.after hostOps1_2 (V7 m (outs0 m) c)) (Proc.devRef .tc main_v7) = _
  rw [← V7_arg4 m c]
  generalize V7 m (outs0 m) c = V
  simp only [hostOps1_3, hostOps1_2, StableHlo.TRef.binary, StableHlo.TRef.unary, StableHlo.TRef.toBuf, StableHlo.TRef.ofBuf, cast_eq]
  after_results_simp <;> rfl

end

end Cert.FgateIdeal.Body

end
-- ==== Proof.FgateKernel.lean ====
/- The forget gate's kernels' results after the run, entry by entry: lanes below 16 hold `FgateSpec.dlogit` and
   `FgateSpec.dbias`, the other lanes zero. -/
module

public import proofs.«01_k».proof.Proof.FgateSpec
public import proofs.«01_k».proof.Proof.FgateHost
public import proofs.«01_k».proof.Proof.Rows
public import Idealize.ShloMosaic.Lib.Pipeline.ValueKit
public import Idealize.ShloMosaic.Lib.WordCmp

@[expose] public section

set_option maxRecDepth 131072

noncomputable section

namespace Cert.FgateIdeal.Body

open Cert.FgateIdeal Cert.FgateIdeal.Gen Cert.FgateSpec
open Idealize.ShloMosaic Idealize.ShloMosaic.TcCoe
open Idealize.ShloMosaic.Pipeline (Dat)

variable (m : (ℓ : Loc nD τ sig) → Buf (Elt Ideal) ℓ) (c : Dev nD)

/-- The arguments as launched. -/
abbrev aH : FgateSpec.Rows := m ((c : Thread nD τ).loc main_arg0)
abbrev aW : Weights := m ((c : Thread nD τ).loc main_arg1)
abbrev aB : Bias := m ((c : Thread nD τ).loc main_arg2)
abbrev aQ : Cot := m ((c : Thread nD τ).loc main_arg3)
abbrev aK : Cot := m ((c : Thread nD τ).loc main_arg4)

/-- The weights and the bias on 128 lanes. -/
def w128 (l : Fin 128) (k : Fin 2048) : EReal := if h : l.val < 16 then aW m c (ix2 k ⟨l.val, h⟩) else 0
def b128 (l : Fin 128) : EReal := if h : l.val < 16 then aB m c (ix1 ⟨l.val, h⟩) else 0
/-- A cotangent on 128 lanes. -/
def lanes (q : Cot) (s : Fin 4096) (l : Fin 128) : EReal := if h : l.val < 16 then q (ix2 s ⟨l.val, h⟩) else 0

theorem w_apply (l : Fin 128) (k : Fin 2048) : (V4 m c main_v2 : S128x2048.Idx → EReal) (ix2 l k) = w128 m c l k := by
  rw [V4_w]
  pointwise []
  simp [w128, FloatOps.sitofp, aW]
theorem b_apply (l : Fin 128) : (V4 m c main_v4 : S1x128.Idx → EReal) (ix2 0 l) = b128 m c l := by
  rw [V4_b]
  pointwise []
  simp [b128, FloatOps.sitofp, aB]

/-- A cotangent padded to 128 lanes. -/
theorem pad_lanes (q : Vec Ideal S4096x16 .f32) (s : Fin 4096) (l : Fin 128) :
    pad S4096x128 ![0, 0] ![0, 112] ![0, 0] q (sitofp (F := Ideal) .f32 (constantI S_ 32 0#32)) pads_S4096x16_S4096x128_000_01120 h_S_ (ix2 s l) = lanes q s l := by
  pointwise []
  simp [lanes, FloatOps.sitofp]
theorem q_apply (s : Fin 4096) (l : Fin 128) : (enter1 m c main_v6 : S4096x128.Idx → EReal) (ix2 s l) = lanes (aQ m c) s l := by
  rw [V9_q]
  exact pad_lanes _ s l
theorem k_apply (s : Fin 4096) (l : Fin 128) : (enter1 m c main_v7 : S4096x128.Idx → EReal) (ix2 s l) = lanes (aK m c) s l := by
  rw [V9_k]
  exact pad_lanes _ s l

/-- The index maps of the first call's windows, and of the second's, which runs backwards. -/
theorem idx0 : ∀ t : Fin cfg0.N,
    win0_0.index t = ![t.val, 0] ∧ win0_1.index t = ![0, 0] ∧ win0_2.index t = ![0, 0] ∧ win0_3.index t = ![t.val, 0] :=
  (by decide +kernel : ∀ t : Fin grid0.N, _)
theorem idx1 : ∀ t : Fin cfg1.N,
    win1_0.index t = ![15 - t.val, 0] ∧ win1_1.index t = ![15 - t.val, 0] ∧ win1_2.index t = ![15 - t.val, 0]
    ∧ win1_3.index t = ![15 - t.val, 0] ∧ win1_4.index t = ![0, 0] :=
  (by decide +kernel : ∀ t : Fin grid1.N, _)

/-- Row `r` of block `t`. -/
abbrev row (t : ℕ) (ht : t < 16) (r : Fin 256) : Fin 4096 := ⟨t * 256 + r.val, by omega⟩

section
variable (V : Dev nD → Valuation τ sig (Elt Ideal))

theorem blk0_0 (t : Fin cfg0.N) (r : Fin 256) (k : Fin 2048) :
    blk0 V c 0 t (ix2 r k : S256x2048.Idx) = V c main_arg0 (ix2 (row t.val t.isLt r) k : S4096x2048.Idx) := by
  blk_ext [blk0, idx0 t]
theorem blk0_1 (t : Fin cfg0.N) (l : Fin 128) (k : Fin 2048) :
    blk0 V c 1 t (ix2 l k : S128x2048.Idx) = V c main_v2 (ix2 l k : S128x2048.Idx) := by
  blk_ext [blk0, idx0 t]
theorem blk0_2 (t : Fin cfg0.N) (l : Fin 128) : blk0 V c 2 t (ix2 0 l : S1x128.Idx) = V c main_v4 (ix2 0 l : S1x128.Idx) := by
  blk_ext [blk0, idx0 t]
theorem emb0_3 (t : Fin cfg0.N) (r : Fin 256) (l : Fin 128) :
    (((cfg0.win 3).blk t).view.emb (ix2 r l : S256x128.Idx) : S4096x128.Idx) = ix2 (row t.val t.isLt r) l := by
  blk_ext [idx0 t]

/-- The block the second call works on at a point. -/
theorem back_lt (t : Fin cfg1.N) : 15 - t.val < 16 := by omega
theorem blk1_0 (t : Fin cfg1.N) (r : Fin 256) (l : Fin 128) :
    blk1 V c 0 t (ix2 r l : S256x128.Idx) = V c main_v6 (ix2 (row (15 - t.val) (back_lt t) r) l : S4096x128.Idx) := by
  blk_ext [blk1, idx1 t]
theorem blk1_1 (t : Fin cfg1.N) (r : Fin 256) (l : Fin 128) :
    blk1 V c 1 t (ix2 r l : S256x128.Idx) = V c main_v7 (ix2 (row (15 - t.val) (back_lt t) r) l : S4096x128.Idx) := by
  blk_ext [blk1, idx1 t]
theorem blk1_2 (t : Fin cfg1.N) (r : Fin 256) (l : Fin 128) :
    blk1 V c 2 t (ix2 r l : S256x128.Idx) = V c main_v5_0 (ix2 (row (15 - t.val) (back_lt t) r) l : S4096x128.Idx) := by
  blk_ext [blk1, idx1 t]
theorem emb1_3 (t : Fin cfg1.N) (r : Fin 256) (l : Fin 128) :
    (((cfg1.win 3).blk t).view.emb (ix2 r l : S256x128.Idx) : S4096x128.Idx) = ix2 (row (15 - t.val) (back_lt t) r) l := by
  blk_ext [idx1 t]
theorem emb1_4 (t : Fin cfg1.N) (i : Fin 8) (l : Fin 128) :
    (((cfg1.win 4).blk t).view.emb (ix2 i l : S8x128.Idx) : S8x128.Idx) = ix2 i l := by
  blk_ext [idx1 t]
end

theorem z_apply (x : Vec Ideal S256x2048 .bf16) (w : Vec Ideal S128x2048 .bf16) (b : Vec Ideal S1x128 .f32) (r : Fin 256) (l : Fin 128) :
    k0_pay3 (F := Ideal) x w b (ix2 r l) = (∑ k : Fin 2048, x (ix2 r k) * w (ix2 l k)) + b (ix2 0 l) := by
  pointwise [k0_pay3]

/-- A one of the upper triangle as a number. -/
theorem tri_eq (r j : Fin 256) :
    FloatOps.sitofp (F := Ideal) FTy.f32 (BitVec.setWidth 32 (IntOp.cmpi CmpIPredicate.sge (BitVec.ofNat 32 j.val) (BitVec.ofNat 32 r.val)))
      = if r.val ≤ j.val then (1 : EReal) else 0 := by
  by_cases h : r.val ≤ j.val
  · rw [(WordCmp.cmpi_sge_ofNat_eq_one_iff (by omega) (by omega)).mpr h, if_pos h]
    simp [FloatOps.sitofp]
  · rw [(WordCmp.cmpi_sge_ofNat_eq_zero_iff (by omega) (by omega)).mpr h, if_neg h]
    simp [FloatOps.sitofp]

theorem run_apply (q k : Vec Ideal S256x128 .f32) (p : Vec Ideal S1x128 .f32) (r : Fin 256) (l : Fin 128) :
    k1_pay4 (F := Ideal) q k p (ix2 r l) = (∑ j : Fin 256, if r.val ≤ j.val then q (ix2 j l) - k (ix2 j l) else 0) + p (ix2 0 l) := by
  pointwise [k1_pay4]
  refine congrArg₂ (· + ·) (Finset.sum_congr rfl fun j _ => ?_) rfl
  rw [tri_eq, ite_mul, one_mul, zero_mul]

theorem dz_apply (q k : Vec Ideal S256x128 .f32) (p : Vec Ideal S1x128 .f32) (z : Vec Ideal S256x128 .f32) (r : Fin 256) (l : Fin 128) :
    k1_pay5 (F := Ideal) q k p z (ix2 r l) = k1_pay4 (F := Ideal) q k p (ix2 r l) * Ideal.div 1 (1 + Ideal.exp (z (ix2 r l))) := by
  unfold k1_pay5
  generalize k1_pay4 (F := Ideal) q k p = g
  pointwise []

theorem sum_apply (q k : Vec Ideal S256x128 .f32) (p : Vec Ideal S1x128 .f32) (z : Vec Ideal S256x128 .f32) (s : Vec Ideal S1x128 .f32) (l : Fin 128) :
    k1_pay7 (F := Ideal) q k p z s (ix2 0 l) = s (ix2 0 l) + ∑ r : Fin 256, k1_pay5 (F := Ideal) q k p z (ix2 r l) := by
  unfold k1_pay7
  generalize k1_pay5 (F := Ideal) q k p z = g
  pointwise []

theorem next_apply (q k : Vec Ideal S256x128 .f32) (p : Vec Ideal S1x128 .f32) (l : Fin 128) :
    k1_pay8 (F := Ideal) q k p (ix2 0 l) = k1_pay4 (F := Ideal) q k p (ix2 0 l) := by
  unfold k1_pay8
  generalize k1_pay4 (F := Ideal) q k p = g
  pointwise []

/-- The logit on 128 lanes. -/
def logits (s : Fin 4096) (l : Fin 128) : EReal := (∑ k : Fin 2048, aH m c (ix2 s k) * w128 m c l k) + b128 m c l

/-- The first call's logits. -/
theorem z_array : (dat0 (V4 m) c).arrAt 3 cfg0.N = fun i : S4096x128.Idx => logits m c (i 0) (i 1) := by
  refine (dat0 (V4 m) c).arrAt_eq_of_covers 3 _ (by decide +kernel) fun t hf y => ?_
  revert y
  intro (y : S256x128.Idx)
  obtain ⟨r, l, rfl⟩ : ∃ (r : Fin 256) (l : Fin 128), y = ix2 r l := ⟨y 0, y 1, eq_ix2 y⟩
  rw [emb0_3]
  show k0_pay3 (F := Ideal) (blk0 (V4 m) c 0 t) (blk0 (V4 m) c 1 t) (blk0 (V4 m) c 2 t) (ix2 r l) = _
  rw [z_apply, blk0_2, b_apply]
  refine congrArg₂ (· + ·) (Finset.sum_congr rfl fun k _ => ?_) rfl
  rw [blk0_0, blk0_1, w_apply, V4_h]
  rfl

/-- The difference of the two cotangents, a lane's column. -/
def diff (l : Fin 128) (s : Fin 4096) : EReal := lanes (aQ m c) s l - lanes (aK m c) s l
/-- The logit's cotangent on 128 lanes. -/
def dlogits (l : Fin 128) (s : Fin 4096) : EReal := Suffix.from' (diff m c l) s.val * Ideal.div 1 (1 + Ideal.exp (logits m c s l))

theorem ext_row {x : Fin 4096 → EReal} (t : ℕ) (ht : t < 16) (r : Fin 256) : Suffix.ext x (t * 256 + r.val) = x (row t ht r) :=
  dif_pos _

theorem ld_row0 (X : Vec Ideal S8x128 .f32) (l : Fin 128) :
    View.ld X (Rect.unit (s := S8x128) ![0, 0] S1x128.size inb_S8x128_S1x128_0_0) (ix2 0 l : S1x128.Idx) = X (ix2 0 l) := by
  refine congrArg X (funext fun a => Fin.ext ?_)
  match a with
  | ⟨0, _⟩ => rfl
  | ⟨1, _⟩ => show 0 + 1 * l.val = l.val; omega

/-- The running sum of a row is the row's block from the row on, and what the blocks after it leave. -/
theorem step (t : Fin cfg1.N) (r : Fin 256) (l : Fin 128)
    (h : run1 (enter1 m) c t.val (ix2 0 l : S1x128.Idx) = Suffix.from' (diff m c l) ((16 - t.val) * 256)) :
    k1_pay4 (F := Ideal) (blk1 (enter1 m) c 0 t) (blk1 (enter1 m) c 1 t) (run1 (enter1 m) c t.val) (ix2 r l)
      = Suffix.from' (diff m c l) ((15 - t.val) * 256 + r.val) := by
  have ht : t.val < 16 := t.isLt
  rw [run_apply, h, Suffix.from_block (B := 256) (diff m c l) (15 - t.val) r.val (by omega) (by omega), show 15 - t.val + 1 = 16 - t.val by omega]
  refine congrArg₂ (· + ·) (Finset.sum_congr rfl fun j _ => ?_) rfl
  rw [blk1_0, blk1_1, q_apply, k_apply, ext_row _ (back_lt t)]
  rfl

theorem run1_eq (l : Fin 128) : ∀ n, n ≤ 16 → run1 (enter1 m) c n (ix2 0 l : S1x128.Idx) = Suffix.from' (diff m c l) ((16 - n) * 256)
  | 0, _ => by
    unfold Suffix.from'
    rw [Finset.Ico_eq_empty (by omega), Finset.sum_empty]
    refine (ld_row0 (k1_pay2 (F := Ideal)) l).trans ?_
    pointwise [k1_pay2]
  | n + 1, hn => by
    have h := step m c ⟨n, hn⟩ 0 l (run1_eq l n (by omega))
    rw [run1_succ (enter1 m) c ⟨n, hn⟩, next_apply, h]
    rw [show (15 - n) * 256 + (0 : Fin 256).val = (16 - (n + 1)) * 256 by show (15 - n) * 256 + 0 = _; omega]

/-- The logit's cotangent at a point. -/
theorem dz_point (t : Fin cfg1.N) (r : Fin 256) (l : Fin 128) :
    k1_pay5 (F := Ideal) (blk1 (enter1 m) c 0 t) (blk1 (enter1 m) c 1 t) (run1 (enter1 m) c t.val) (blk1 (enter1 m) c 2 t) (ix2 r l)
      = dlogits m c l (row (15 - t.val) (back_lt t) r) := by
  rw [dz_apply, step m c t r l (run1_eq m c l t.val (le_of_lt t.isLt)), blk1_2, V9_z, z_array]
  rfl

/-- The second call's first result. -/
theorem dz_array : (dat1 (enter1 m) c).arrAt 3 cfg1.N = fun i : S4096x128.Idx => dlogits m c (i 1) (i 0) := by
  refine (dat1 (enter1 m) c).arrAt_eq_of_covers 3 _ (by decide +kernel) fun t hf y => ?_
  revert y
  intro (y : S256x128.Idx)
  obtain ⟨r, l, rfl⟩ : ∃ (r : Fin 256) (l : Fin 128), y = ix2 r l := ⟨y 0, y 1, eq_ix2 y⟩
  rw [emb1_3]
  exact dz_point m c t r l

theorem setRow0_apply (X : S8x128.Idx → EReal) (w : S1x128.Idx → EReal) (i : Fin 8) (l : Fin 128) :
    setRow0 (F := Ideal) X w (ix2 i l) = if i = 0 then w (ix2 0 l) else X (ix2 i l) := by
  have hk : (ix2 (0 : Fin 8) l : S8x128.Idx)
      = (Rect.unit (s := S8x128) ![0, 0] S1x128.size inb_S8x128_S1x128_0_0).emb (ix2 (0 : Fin 1) l : S1x128.Idx) := by
    funext a
    refine Fin.ext ?_
    rw [Rect.emb_apply]
    match a with
    | ⟨0, _⟩ => rfl
    | ⟨1, _⟩ => show l.val = 0 + 1 * l.val; omega
  by_cases h : i = 0
  · rw [if_pos h, h, hk]
    exact Rect.overlay_emb (Rect.unit (s := S8x128) ![0, 0] S1x128.size inb_S8x128_S1x128_0_0) X w _
  · rw [if_neg h]
    refine Rect.overlay_of_not_mem (Rect.unit (s := S8x128) ![0, 0] S1x128.size inb_S8x128_S1x128_0_0) X w fun hm => h ?_
    rw [Rect.mem_set_unit] at hm
    have h2 : i.val < 0 + 1 := (hm 0).2
    exact Fin.ext (by show i.val = 0; omega)

/-- The sums so far: row 0 the cotangents of the blocks done, the other rows zero. -/
theorem sums1_eq (i : Fin 8) (l : Fin 128) : ∀ n, n ≤ 16 → sums1 (enter1 m) c n (ix2 i l : S8x128.Idx)
      = if i = 0 then ∑ t ∈ Finset.range n, ∑ r : Fin 256, Suffix.ext (dlogits m c l) ((15 - t) * 256 + r.val) else 0
  | 0, _ => by
    rw [Finset.sum_range_zero, ite_self]
    show k1_pay3 (F := Ideal) _ = _
    pointwise [k1_pay3]
  | n + 1, hn => by
    rw [sums1_succ (enter1 m) c ⟨n, hn⟩, setRow0_apply]
    by_cases h : i = 0
    · rw [if_pos h, if_pos h, sum_apply, ld_row0, sums1_eq 0 l n (by omega), if_pos rfl, Finset.sum_range_succ]
      refine congrArg₂ (· + ·) rfl (Finset.sum_congr rfl fun r _ => ?_)
      rw [dz_point, ext_row _ (by omega)]
    · rw [if_neg h, if_neg h, sums1_eq i l n (by omega), if_neg h]

/-- The bias's cotangent in row 0 of eight. -/
def dbiases (i : Fin 8) (l : Fin 128) : EReal := if i = 0 then ∑ s, dlogits m c l s else 0

/-- The second call's second result. -/
theorem sums_array : (dat1 (enter1 m) c).arrAt 4 cfg1.N = fun i : S8x128.Idx => dbiases m c (i 0) (i 1) := by
  refine (dat1 (enter1 m) c).arrAt_eq_of_covers 4 _ (by decide +kernel) fun t hf y => ?_
  revert y
  intro (y : S8x128.Idx)
  obtain ⟨i, l, rfl⟩ : ∃ (i : Fin 8) (l : Fin 128), y = ix2 i l := ⟨y 0, y 1, eq_ix2 y⟩
  rw [emb1_4]
  have ht : t.val < 16 := t.isLt
  have h15 : t.val = 15 := by have := (flush1_4 t).mp hf; omega
  show sums1 (enter1 m) c (t.val + 1) (ix2 i l : S8x128.Idx) = dbiases m c i l
  unfold dbiases
  rw [sums1_eq m c i l _ (by omega), h15]
  by_cases hi : i = 0
  · rw [if_pos hi, if_pos hi, Suffix.sum_blocks (B := 256) (dlogits m c l) 16 (by norm_num)]
    exact Finset.sum_range_reflect (fun t => ∑ r : Fin 256, Suffix.ext (dlogits m c l) (t * 256 + r.val)) 16
  · rw [if_neg hi, if_neg hi]

end Cert.FgateIdeal.Body

end
-- ==== Proof.Scalars.lean ====
/- Scalar facts of the extended reals that the gradients share: the elementary functions at the infinities and at reals, and
   the derivative of the log-sigmoid. -/
module

public import Idealize.ShloMosaic.Lib.Pointwise

@[expose] public section

noncomputable section
namespace Cert.Scalars

open Idealize.ShloMosaic

theorem exp_bot : Ideal.exp ⊥ = 0 := rfl
theorem exp_top : Ideal.exp ⊤ = ⊤ := rfl
theorem exp_coe (r : ℝ) : Ideal.exp (r : EReal) = (Real.exp r : ℝ) := rfl
theorem log_top : Ideal.log ⊤ = ⊤ := rfl
theorem log_coe {r : ℝ} (h : 0 < r) : Ideal.log (r : EReal) = (Real.log r : ℝ) := if_neg (not_le.mpr h)
theorem coe_max (a b : ℝ) : max (a : EReal) (b : EReal) = (max a b : ℝ) := (EReal.coe_strictMono.monotone.map_max).symm
theorem div_coe (a : ℝ) {b : ℝ} (h : b ≠ 0) : Ideal.div (a : EReal) (b : EReal) = (a / b : ℝ) := by
  unfold Ideal.div
  rw [if_neg (by exact_mod_cast h), ← EReal.coe_inv, ← EReal.coe_mul, div_eq_mul_inv]

/-- The word of infinity. -/
theorem inf_bits : Ideal.ofBits FTy.f32 2139095040#32 = ⊤ := by
  simp [Ideal.ofBits, Ideal.ieee]

/-- The softplus of a real, as it is written to avoid overflow. -/
theorem exp_sub_softplus (y : ℝ) : Real.exp (y - (max y 0 + Real.log (1 + Real.exp (-max y (-y))))) = 1 / (1 + Real.exp (-y)) := by
  have h : max y 0 + Real.log (1 + Real.exp (-max y (-y))) = Real.log (1 + Real.exp y) := by
    rcases le_total 0 y with h | h
    · rw [max_eq_left h, max_eq_left (by linarith)]
      have e : 1 + Real.exp y = Real.exp y * (1 + Real.exp (-y)) := by rw [mul_add, mul_one, ← Real.exp_add]; simp [add_comm]
      rw [e, Real.log_mul (Real.exp_ne_zero _) (by positivity), Real.log_exp]
    · rw [max_eq_right h, max_eq_right (by linarith), neg_neg, zero_add]
  rw [h, Real.exp_sub, Real.exp_log (by positivity), Real.exp_neg]
  have := Real.exp_pos y
  field_simp
  ring

/-- The softplus of the logit's negation, as the reference writes it. -/
def softplus (y : EReal) : EReal := max y 0 + Ideal.log1p (Ideal.exp (-max y (-y)))

theorem softplus_top : softplus ⊤ = ⊤ := by
  unfold softplus Ideal.log1p
  rw [max_eq_left le_top, EReal.neg_top, max_eq_left bot_le, EReal.neg_top, exp_bot, add_zero, ← EReal.coe_one, log_coe one_pos]
  exact EReal.top_add_coe _
theorem softplus_bot : softplus ⊥ = 0 := by
  unfold softplus Ideal.log1p
  rw [EReal.neg_bot, max_eq_right bot_le, max_eq_right bot_le, EReal.neg_top, exp_bot, add_zero, zero_add, ← EReal.coe_one, log_coe one_pos, Real.log_one]
  rfl
theorem softplus_coe (y : ℝ) : softplus y = (max y 0 + Real.log (1 + Real.exp (-max y (-y))) : ℝ) := by
  have h1 : (0:ℝ) < 1 + Real.exp (-max y (-y)) := by positivity
  unfold softplus Ideal.log1p
  rw [← EReal.coe_zero, coe_max, ← EReal.coe_neg, coe_max, ← EReal.coe_neg, exp_coe, ← EReal.coe_one, ← EReal.coe_add, log_coe h1, EReal.coe_add]

/-- The derivative of the log-sigmoid: the exponential of the logit's negation less its softplus; infinite logits take the
    limits. -/
theorem factor (x : EReal) :
    Ideal.exp
      ((if -x = Ideal.ofBits FTy.f32 2139095040#32 then 0 else -x) -
        if (if -x ≠ -x then -x else max (-x) 0 + Ideal.log1p (Ideal.exp (-FloatOps.absf (F := Ideal) (φ := .f32) (-x)))) = Ideal.ofBits FTy.f32 2139095040#32 then 0
        else if -x ≠ -x then -x else max (-x) 0 + Ideal.log1p (Ideal.exp (-FloatOps.absf (F := Ideal) (φ := .f32) (-x))))
    = Ideal.div 1 (1 + Ideal.exp x) := by
  rw [inf_bits]
  simp only [ne_eq, not_true_eq_false, if_false]
  show Ideal.exp ((if -x = ⊤ then 0 else -x) - if softplus (-x) = ⊤ then 0 else softplus (-x)) = _
  induction x with
  | bot =>
    rw [EReal.neg_bot, softplus_top, if_pos rfl, sub_zero, exp_bot, add_zero, ← EReal.coe_zero, exp_coe, Real.exp_zero, ← EReal.coe_one,
      div_coe 1 one_ne_zero, div_one]
  | top =>
    rw [EReal.neg_top, softplus_bot, if_neg (by decide), if_neg (by decide), sub_zero, exp_bot, exp_top]
    unfold Ideal.div
    rw [show (1 : EReal) + ⊤ = ⊤ from EReal.coe_add_top 1, if_neg (by decide), EReal.inv_top, mul_zero]
  | coe r =>
    have hd : (1 + Real.exp r : ℝ) ≠ 0 := by positivity
    rw [← EReal.coe_neg, softplus_coe, if_neg (EReal.coe_ne_top _), if_neg (EReal.coe_ne_top _), ← EReal.coe_sub, exp_coe, exp_sub_softplus, neg_neg,
      exp_coe, ← EReal.coe_one, ← EReal.coe_add, div_coe 1 hd]

end Cert.Scalars

end
-- ==== Proof.FgateRef.lean ====
/- The forget gate's reference: its two results, entry by entry, are `FgateSpec.dlogit` and `FgateSpec.dbias` on the first 16
   of 128 lanes. -/
module

public import proofs.«01_k».proof.Proof.FgateSpec
public import proofs.«01_k».proof.Proof.Scalars
public import proofs.«01_k».proof.Proof.Gen.FgateRefIdeal.Read
public import Idealize.ShloMosaic.Lib.KernelVsHost
public import Idealize.ShloMosaic.Lib.Pointwise

@[expose] public section

set_option maxRecDepth 131072

noncomputable section

namespace Cert.FgateRefIdeal.RefValue

open Cert.FgateRefIdeal Cert.FgateRefIdeal.Gen Cert.FgateRefIdeal.Read Cert.FgateSpec Idealize.ShloMosaic Idealize.ShloMosaic.TcCoe

variable (h : FgateSpec.Rows) (w : Weights) (b : Bias) (q k : Cot)

theorem logit_apply (s : Fin 4096) (l : Fin 16) : val_main_v4 (F := Ideal) h w b (ix2 s l) = logit h w b s l := by
  pointwise [val_main_v4, val_main_v3, val_main_v2, val_main_v1, val_main_v0]
  rfl

theorem factor_apply (s : Fin 4096) (l : Fin 16) : val_main_v5_1 (F := Ideal) h w b (ix2 s l) = Ideal.div 1 (1 + Ideal.exp (logit h w b s l)) := by
  have hz := logit_apply h w b s l
  unfold val_main_v5_1
  pointwise [val_main_call0_v0, val_main_call0_call0_cst, val_main_call0_call0_v0, val_main_call0_call0_v1, val_main_call0_call0_v2, val_main_call0_call0_v3, val_main_call0_call0_v4, val_main_call0_call0_v5, val_main_call0_call0_v6, val_main_call0_call0_v7, val_main_call0_call0_v8, val_main_call0_call0_v9, val_main_call0_call0_v10, val_main_call0_call0_v11, val_main_call0_v1_0, val_main_call0_call0_cst_0, val_main_call0_call0_v13, val_main_call0_call0_v14, val_main_call0_call0_cst_1, val_main_call0_call0_v15, val_main_call0_call0_v16, val_main_call0_call0_cst_2, val_main_call0_call0_v17, val_main_call0_call0_v18, val_main_call0_call0_cst_3, val_main_call0_call0_v19, val_main_call0_call0_v20, val_main_call0_call0_v21]
  rw [hz]
  exact Scalars.factor _

theorem back_apply (s : Fin 4096) (l : Fin 16) : val_main_v10 (F := Ideal) q k (ix2 s l) = back q k l s.val := by
  have h9 : ∀ s l, val_main_v9 (F := Ideal) q k (ix2 s l) = q (ix2 s l) - k (ix2 s l) := fun s l => by
    pointwise [val_main_v9, val_main_v8]
    rfl
  unfold val_main_v10
  have h0 : val_main_call2_call0_v0 (F := Ideal) = fun _ => 0 := by
    funext i
    pointwise [val_main_call2_call0_v0, val_main_call2_call0_cst]
  rw [h0]
  generalize val_main_v9 (F := Ideal) q k = g at h9 ⊢
  have e : ∀ (x : FVec Ideal S4096x16 .f32) (z : FVec Ideal S_ .f32), z (Shape.Idx.first h_S_) = 0 →
      Host.reduceWindowAdd ![4096, 1] ![1, 1] ![0, 0] ![4095, 0] x z reduceWindows_S4096x16_S4096x16_w4096s1p0_4095_w1s1p0_0 h_S_
        = Ideal.hostReduceWindowAdd ![4096, 1] ![1, 1] ![0, 0] ![4095, 0] reduceWindows_S4096x16_S4096x16_w4096s1p0_4095_w1s1p0_0 x 0 := fun x z hz => by
    unfold Host.reduceWindowAdd
    rw [hz, Ideal.hostReduceWindowAdd_def]
  rw [e g (fun _ => 0) rfl]
  rw [Suffix.window_rows (R := 4096) (Rm1 := 4095) (C := 16) (by norm_num)]
  simp only [h9]
  rfl

/-- The logit's cotangent. -/
theorem dlogit_apply (s : Fin 4096) (l : Fin 16) : val_main_v11 (F := Ideal) h w b q k (ix2 s l) = dlogit h w b q k s l := by
  rw [val_main_v11_apply, val_main_call3_v1_apply, val_main_call3_v0_apply, factor_apply, back_apply]
  show - (-back q k l s.val * Ideal.div 1 (1 + Ideal.exp (logit h w b s l))) = _
  rw [EReal.neg_mul, neg_neg]
  rfl

/-- The bias's cotangent. -/
theorem dbias_apply (l : Fin 16) : val_main_v14 (F := Ideal) h w b q k (ix1 l) = dbias h w b q k l := by
  have hd := dlogit_apply h w b q k
  unfold val_main_v14 val_main_v13 val_main_v12
  generalize val_main_v11 (F := Ideal) h w b q k = g at hd ⊢
  pointwise [val_main_cst, val_main_cst_0]
  simp only [hd]
  exact Fintype.sum_unique _

/-- The two results on 128 lanes. -/
theorem result0 (s : Fin 4096) (l : Fin 128) : val_main_v16 (F := Ideal) h w b q k (ix2 s l)
    = if hl : l.val < 16 then dlogit h w b q k s ⟨l.val, hl⟩ else 0 := by
  have hd := dlogit_apply h w b q k
  unfold val_main_v16 val_main_v15
  generalize val_main_v11 (F := Ideal) h w b q k = g at hd ⊢
  pointwise [val_main_call4_v0, val_main_c]
  simp only [hd]
  simp [FloatOps.sitofp]
theorem result1 (i : Fin 8) (l : Fin 128) : val_main_v19 (F := Ideal) h w b q k (ix2 i l)
    = if i = 0 then (if hl : l.val < 16 then dbias h w b q k ⟨l.val, hl⟩ else 0) else 0 := by
  have hd := dbias_apply h w b q k
  unfold val_main_v19 val_main_v18 val_main_v17
  generalize val_main_v14 (F := Ideal) h w b q k = g at hd ⊢
  pointwise [val_main_call5_v0, val_main_c_1, val_main_call6_v0, val_main_c_2]
  simp only [hd]
  have h0 : (FloatOps.sitofp (F := Ideal) FTy.f32 0#32 : EReal) = 0 := by simp [FloatOps.sitofp]
  rw [h0]
  by_cases hi : i = 0
  · rw [if_pos hi, dif_pos (by rw [hi]; decide)]
    by_cases hl : l.val < 16
    · rw [dif_pos hl, dif_pos ⟨by rw [hi]; decide, hl⟩]
    · rw [dif_neg hl, dif_neg (fun h => hl h.2)]
  · rw [if_neg hi, dif_neg (fun h => hi (Fin.ext (by show i.val = 0; omega)))]

end Cert.FgateRefIdeal.RefValue

end
-- ==== Proof.FgateClaim.lean ====
/- The claims about the forget gate's gradient: both programs' runs keep the arguments, and the kernels' two results and
   the reference's are the same functions of the five arguments. -/
module

public import proofs.«01_k».proof.Defs
public import proofs.«01_k».proof.Proof.Gen.Fgate
public import proofs.«01_k».proof.Proof.Gen.Fgate.Regions
public import proofs.«01_k».proof.Proof.Gen.FgateIdeal
public import proofs.«01_k».proof.Proof.Gen.FgateRefIdeal
public import proofs.«01_k».proof.Proof.Gen.FgateRefIdeal.Run
public import proofs.«01_k».proof.Proof.FgateKernel
public import proofs.«01_k».proof.Proof.FgateRef

@[expose] public section

noncomputable section

namespace Cert.FgateClaim

open Idealize.ShloMosaic Idealize.SL.Sem Cert.FgateSpec

section
open Cert.FgateIdeal Cert.FgateIdeal.Gen Cert.FgateIdeal.Body Idealize.ShloMosaic.TcCoe
variable {F : FTy → Type} [FloatOps F]

/-- The kernels' run leaves the second call's two results and keeps the arguments. -/
theorem run_results (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_v8_0) = (dat1 (enter1 m) c).arrAt 3 cfg1.N
      ∧ r.2.mem ((c.tc : Thread nD τ).loc main_v8_1) = (dat1 (enter1 m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine (θ_run _ _ _).mono (fun r hr => ⟨fun c => ?_, hr.2⟩) (Body.run m ρ)
  have h := hr.1 c
  exact ⟨(h _ (Finset.mem_filter.mpr ⟨StableHlo.devRef_mem_tcRefs main_v8_0, by decide⟩)).trans (V10_0 m c),
    (h _ (Finset.mem_filter.mpr ⟨StableHlo.devRef_mem_tcRefs main_v8_1, by decide⟩)).trans (V10_1 m c),
    (h _ (Finset.mem_filter.mpr ⟨StableHlo.devRef_mem_tcRefs main_arg0, by decide⟩)).trans (V10_main_arg0 m (outs m) c),
    (h _ (Finset.mem_filter.mpr ⟨StableHlo.devRef_mem_tcRefs main_arg1, by decide⟩)).trans (V10_main_arg1 m (outs m) c),
    (h _ (Finset.mem_filter.mpr ⟨StableHlo.devRef_mem_tcRefs main_arg2, by decide⟩)).trans (V10_main_arg2 m (outs m) c),
    (h _ (Finset.mem_filter.mpr ⟨StableHlo.devRef_mem_tcRefs main_arg3, by decide⟩)).trans (V10_main_arg3 m (outs m) c),
    (h _ (Finset.mem_filter.mpr ⟨StableHlo.devRef_mem_tcRefs main_arg4, by decide⟩)).trans (V10_main_arg4 m (outs m) c)⟩
end

/-- The frames: over the extended reals, over words (the same text), and of the reference. -/
theorem frame_i : Cert.quiescent_FgateIdeal := fun m ρ _ =>
  (θ_run Cert.FgateIdeal.defs _ _).mono (fun r h => ⟨fun c => (h.1 c).2.2, h.2⟩) (run_results (F := Ideal) m ρ)
theorem frame : Cert.quiescent_Fgate := fun m ρ _ =>
  Eq.mp (by sl_kernel_rfl) ((θ_run (Cert.FgateIdeal.defs (F := Bits)) _ _).mono (fun r h => (⟨fun c => (h.1 c).2.2, h.2⟩ :
    (∀ c : Dev Cert.FgateIdeal.nD, _ ∧ _ ∧ _ ∧ _ ∧ _) ∧ _)) (run_results (F := Bits) m ρ))
theorem frame_r : Cert.quiescent_FgateRefIdeal := fun m ρ _ =>
  (θ_run Cert.FgateRefIdeal.defs _ _).mono (fun r h => ⟨fun c => (h c).2.2, sem_eq_zero_of_no_sems (by decide) r.2⟩)
    (Cert.FgateRefIdeal.Value.run (F := Ideal) m ρ)

/-- The first result: the logits' cotangents on the first 16 of 128 lanes. -/
def out0 (h : FgateSpec.Rows) (w : Weights) (b : Bias) (q k : Cot) : (⟨⟨2, ![4096, 128]⟩, .bf16⟩ : BufTy).Contents (Elt Ideal) :=
  fun i => if hl : (i 1).val < 16 then dlogit h w b q k (i 0) ⟨(i 1).val, hl⟩ else 0
/-- The second: the bias's cotangent in row 0 of eight. -/
def out1 (h : FgateSpec.Rows) (w : Weights) (b : Bias) (q k : Cot) : (⟨⟨2, ![8, 128]⟩, .f32⟩ : BufTy).Contents (Elt Ideal) :=
  fun i => if (i 0).val = 0 then (if hl : (i 1).val < 16 then dbias h w b q k ⟨(i 1).val, hl⟩ else 0) else 0

theorem ref0 (h : FgateSpec.Rows) (w : Weights) (b : Bias) (q k : Cot) : Cert.FgateRefIdeal.Read.val_main_v16 (F := Ideal) h w b q k = out0 h w b q k := by
  funext i
  obtain ⟨s, l, rfl⟩ : ∃ s l, i = ix2 s l := ⟨i 0, i 1, eq_ix2 i⟩
  exact Cert.FgateRefIdeal.RefValue.result0 h w b q k s l
theorem ref1 (h : FgateSpec.Rows) (w : Weights) (b : Bias) (q k : Cot) : Cert.FgateRefIdeal.Read.val_main_v19 (F := Ideal) h w b q k = out1 h w b q k := by
  funext i
  obtain ⟨r, l, rfl⟩ : ∃ r l, i = ix2 r l := ⟨i 0, i 1, eq_ix2 i⟩
  refine (Cert.FgateRefIdeal.RefValue.result1 h w b q k r l).trans ?_
  exact if_congr Fin.ext_iff rfl rfl

section
open Cert.FgateIdeal Cert.FgateIdeal.Gen Cert.FgateIdeal.Body Idealize.ShloMosaic.TcCoe
variable (m : (ℓ : Loc nD τ sig) → Buf (Elt Ideal) ℓ) (c : Dev nD)

/-- The kernels' logit cotangent on 128 lanes is the gradient's on the first 16 and zero on the others. -/
theorem dlogits_eq (l : Fin 128) (s : Fin 4096) : dlogits m c l s
    = if hl : l.val < 16 then dlogit (aH m c) (aW m c) (aB m c) (aQ m c) (aK m c) s ⟨l.val, hl⟩ else 0 := by
  unfold dlogits diff logits lanes w128 b128
  by_cases hl : l.val < 16
  · simp only [hl, dite_true]
    rfl
  · simp only [hl, dite_false, sub_zero]
    have h0 : Suffix.from' (fun _ : Fin 4096 => (0 : EReal)) s.val = 0 := by
      unfold Suffix.from' Suffix.ext
      exact Finset.sum_eq_zero fun n _ => by simp
    rw [h0, zero_mul]

theorem kernel0 : (dat1 (enter1 m) c).arrAt 3 cfg1.N = out0 (aH m c) (aW m c) (aB m c) (aQ m c) (aK m c) := by
  rw [dz_array]
  funext i
  obtain ⟨s, l, rfl⟩ : ∃ (s : Fin 4096) (l : Fin 128), i = ix2 s l := ⟨i 0, i 1, eq_ix2 i⟩
  exact dlogits_eq m c l s
theorem kernel1 : (dat1 (enter1 m) c).arrAt 4 cfg1.N = out1 (aH m c) (aW m c) (aB m c) (aQ m c) (aK m c) := by
  rw [sums_array]
  funext i
  obtain ⟨r, l, rfl⟩ : ∃ (r : Fin 8) (l : Fin 128), i = ix2 r l := ⟨i 0, i 1, eq_ix2 i⟩
  show dbiases m c r l = if r.val = 0 then _ else _
  unfold dbiases
  refine if_congr Fin.ext_iff ?_ rfl
  simp only [dlogits_eq]
  show _ = if hl : l.val < 16 then _ else _
  by_cases hl : l.val < 16
  · simp only [hl, dite_true]
    rfl
  · simp only [hl, dite_false, Finset.sum_const_zero]
end

/-- From memories agreeing on the arguments both programs run and end with those two arrays. -/
theorem algebraic : Cert.algebraic_FgateIdeal_FgateRefIdeal := by
  intro m g m' g' _ h
  refine ⟨fun c => out0 (Cert.FgateIdeal.Body.aH m c) (Cert.FgateIdeal.Body.aW m c) (Cert.FgateIdeal.Body.aB m c) (Cert.FgateIdeal.Body.aQ m c) (Cert.FgateIdeal.Body.aK m c),
    fun c => out1 (Cert.FgateIdeal.Body.aH m c) (Cert.FgateIdeal.Body.aW m c) (Cert.FgateIdeal.Body.aB m c) (Cert.FgateIdeal.Body.aQ m c) (Cert.FgateIdeal.Body.aK m c),
    (θ_run _ _ _).mono (fun r hr c => ?_) (run_results (F := Ideal) m g),
    (θ_run _ _ _).mono (fun r hr c => ?_) (Cert.FgateRefIdeal.Value.run m' g')⟩
  · obtain ⟨h0, h1, hk⟩ := hr.1 c
    exact ⟨h0.trans (kernel0 m c), h1.trans (kernel1 m c), hk⟩
  · obtain ⟨h0, h1, hk⟩ := hr c
    obtain ⟨a0, a1, a2, a3, a4⟩ := h c
    refine ⟨h0.trans ?_, h1.trans ?_, hk⟩
    · rw [Cert.FgateRefIdeal.Read.val_main_v16_eq, a0, a1, a2, a3, a4, ref0]
    · rw [Cert.FgateRefIdeal.Read.val_main_v19_eq, a0, a1, a2, a3, a4, ref1]

end Cert.FgateClaim

end
-- ==== Proof.Blocks.lean ====
/- Blocks of consecutive rows of a buffer: what a load of one reads and what the buffer holds after a store to one. -/
module

public import Idealize.ShloMosaic.Lib.Pipeline.ValueKit
public import Idealize.ShloMosaic.Lib.Pointwise

@[expose] public section

set_option maxRecDepth 16384

noncomputable section

namespace Cert.Blocks

open Idealize.ShloMosaic

variable {Val : EltTy → Type} {e : EltTy}

/-- A load of the `b` rows from row `r` reads row `r + s` at its row `s`. -/
theorem ld_rows {R n b : Nat} (off : Fin 2 → Nat) (r : Nat) (hoff : off = ![r, 0])
    (inb : ∀ a, off a + (![b, n] : Fin 2 → Nat) a ≤ (⟨2, ![R, n]⟩ : Shape).size a) (X : (⟨2, ![R, n]⟩ : Shape).Idx → Val e)
    (s : Fin b) (l : Fin n) (h : r + s.val < R) :
    View.ld X (Rect.unit (s := ⟨2, ![R, n]⟩) off ![b, n] inb) (ix2 s l) = X (ix2 ⟨r + s.val, h⟩ l) := by
  subst hoff
  refine congrArg X (funext fun a => Fin.ext ?_)
  match a with
  | ⟨0, _⟩ => show r + 1 * s.val = r + s.val; omega
  | ⟨1, _⟩ => show 0 + 1 * l.val = l.val; omega

/-- After a store to the `b` rows from row `r`, those rows hold what was stored and the others what they held. -/
theorem overlay_rows {R n b : Nat} (off : Fin 2 → Nat) (r : Nat) (hoff : off = ![r, 0])
    (inb : ∀ a, off a + (![b, n] : Fin 2 → Nat) a ≤ (⟨2, ![R, n]⟩ : Shape).size a) (X : (⟨2, ![R, n]⟩ : Shape).Idx → Val e)
    (w : (⟨2, ![b, n]⟩ : Shape).Idx → Val e) (p : Fin R) (l : Fin n) :
    (Rect.unit (s := ⟨2, ![R, n]⟩) off ![b, n] inb).overlay X w (ix2 p l)
      = if h : r ≤ p.val ∧ p.val < r + b then w (ix2 ⟨p.val - r, by omega⟩ l) else X (ix2 p l) := by
  subst hoff
  by_cases h : r ≤ p.val ∧ p.val < r + b
  · rw [dif_pos h]
    have hk : (ix2 p l : (⟨2, ![R, n]⟩ : Shape).Idx)
        = (Rect.unit (s := ⟨2, ![R, n]⟩) ![r, 0] ![b, n] inb).emb (ix2 (⟨p.val - r, by omega⟩ : Fin b) l : (⟨2, ![b, n]⟩ : Shape).Idx) := by
      funext a
      refine Fin.ext ?_
      rw [Rect.emb_apply]
      match a with
      | ⟨0, _⟩ => show p.val = r + 1 * (p.val - r); omega
      | ⟨1, _⟩ => show l.val = 0 + 1 * l.val; omega
    rw [hk]
    exact Rect.overlay_emb (Rect.unit (s := ⟨2, ![R, n]⟩) ![r, 0] ![b, n] inb) X w _
  · rw [dif_neg h]
    refine Rect.overlay_of_not_mem _ _ _ fun hm => h ?_
    have hm' : ix2 p l ∈ (Rect.unit (s := ⟨2, ![R, n]⟩) ![r, 0] ![b, n] inb).set := hm
    rw [Rect.mem_set_unit] at hm'
    exact ⟨(hm' 0).1, (hm' 0).2⟩

/-- A load of the whole line `(j, h)` of a buffer of three axes. -/
theorem ld_line {A B n : Nat} (off : Fin 3 → Nat) (j h : Nat) (hoff : off = ![j, h, 0])
    (inb : ∀ a, off a + (![1, 1, n] : Fin 3 → Nat) a ≤ (⟨3, ![A, B, n]⟩ : Shape).size a) (X : (⟨3, ![A, B, n]⟩ : Shape).Idx → Val e)
    (l : Fin n) (hj : j < A) (hh : h < B) :
    View.ld X (Rect.unit (s := ⟨3, ![A, B, n]⟩) off ![1, 1, n] inb) (ix3 0 0 l) = X (ix3 ⟨j, hj⟩ ⟨h, hh⟩ l) := by
  subst hoff
  refine congrArg X (funext fun a => Fin.ext ?_)
  match a with
  | ⟨0, _⟩ => show j + 1 * 0 = j; omega
  | ⟨1, _⟩ => show h + 1 * 0 = h; omega
  | ⟨2, _⟩ => show 0 + 1 * l.val = l.val; omega

/-- After a store to the `b` rows from row `r` of slab `j` of a buffer of three axes, those hold what was stored and the
    others what they held. -/
theorem overlay_slab {A R n b : Nat} (off : Fin 3 → Nat) (j r : Nat) (hoff : off = ![j, r, 0])
    (inb : ∀ a, off a + (![1, b, n] : Fin 3 → Nat) a ≤ (⟨3, ![A, R, n]⟩ : Shape).size a) (X : (⟨3, ![A, R, n]⟩ : Shape).Idx → Val e)
    (w : (⟨3, ![1, b, n]⟩ : Shape).Idx → Val e) (i : Fin A) (p : Fin R) (l : Fin n) :
    (Rect.unit (s := ⟨3, ![A, R, n]⟩) off ![1, b, n] inb).overlay X w (ix3 i p l)
      = if h : i.val = j ∧ r ≤ p.val ∧ p.val < r + b then w (ix3 0 ⟨p.val - r, by omega⟩ l) else X (ix3 i p l) := by
  subst hoff
  by_cases h : i.val = j ∧ r ≤ p.val ∧ p.val < r + b
  · rw [dif_pos h]
    have hk : (ix3 i p l : (⟨3, ![A, R, n]⟩ : Shape).Idx)
        = (Rect.unit (s := ⟨3, ![A, R, n]⟩) ![j, r, 0] ![1, b, n] inb).emb (ix3 (0 : Fin 1) (⟨p.val - r, by omega⟩ : Fin b) l : (⟨3, ![1, b, n]⟩ : Shape).Idx) := by
      funext a
      refine Fin.ext ?_
      rw [Rect.emb_apply]
      match a with
      | ⟨0, _⟩ => show i.val = j + 1 * 0; omega
      | ⟨1, _⟩ => show p.val = r + 1 * (p.val - r); omega
      | ⟨2, _⟩ => show l.val = 0 + 1 * l.val; omega
    rw [hk]
    exact Rect.overlay_emb (Rect.unit (s := ⟨3, ![A, R, n]⟩) ![j, r, 0] ![1, b, n] inb) X w _
  · rw [dif_neg h]
    refine Rect.overlay_of_not_mem _ _ _ fun hm => h ?_
    have hm' : ix3 i p l ∈ (Rect.unit (s := ⟨3, ![A, R, n]⟩) ![j, r, 0] ![1, b, n] inb).set := hm
    rw [Rect.mem_set_unit] at hm'
    have h0 : j ≤ i.val ∧ i.val < j + 1 := hm' 0
    exact ⟨by omega, (hm' 1).1, (hm' 1).2⟩

end Cert.Blocks

end
-- ==== Proof.AttnFwdBody.lean ====
/- The forward attention kernel at one head: what its body leaves in its windows' buffers. -/
module

public import proofs.«01_k».proof.Proof.Calls
public import proofs.«01_k».proof.Proof.Stores
public import proofs.«01_k».proof.Proof.Blocks
public import proofs.«01_k».proof.Proof.Gen.AttnIdeal.Skeleton
public import proofs.«01_k».proof.Proof.Gen.AttnIdeal.Launch
public import proofs.«01_k».proof.Proof.Gen.AttnIdeal.Points
public import Idealize.ShloMosaic.Lib.Pipeline.Value
public import Idealize.ShloMosaic.Lib.Tactic
public import Idealize.ShloMosaic.Lib.Tactic.Stretches
public import Idealize.ShloMosaic.Lib.VecWindow
public import Idealize.ShloMosaic.Lib.Pipeline.FrameBody
public import Idealize.ShloMosaic.Lib.LoopRemainder

@[expose] public section

set_option maxRecDepth 16384

noncomputable section

namespace Cert.AttnIdeal.Body

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The kernel's branch is taken where the grid coordinate is zero. -/
abbrev first0 (i : grid0.Coords) : Prop := Scalar.cmpi .ne (Scalar.extui (Scalar.cmpi .eq (BitVec.ofNat 32 (i 0).val) 0#32) : BitVec 32) 0#32 = 1#1

/-- What the loop over the earlier key blocks carries: the running row maxima, row sums and weighted rows. -/
abbrev Acc : Type := FVec F S1024x1 .f32 × FVec F S1024x1 .f32 × FVec F S1024x128 .f32

/-- The rows of query block `k`. -/
abbrev rows0 {e : EltTy} (X : Vec F S4096x128 e) (k : Fin k0_t1_loop.trips) : Vec F S1024x128 e :=
  View.ld X (Rect.unit (s := S4096x128) (k0_off1 k) S1024x128.size (k0_off1_inb k))

/-- One earlier key block taken into the carried values. -/
def step0 (i : grid0.Coords) (X2 X3 : Vec F S4096x128 .bf16) (X4 : Vec F S4x16x1024 .f32) (k : Fin k0_t1_loop.trips)
    (q : Vec F S1024x128 .bf16) (j : Fin (k0_t2_loop k).trips) (a : Acc (F := F)) : Acc (F := F) :=
  let kr := View.ld X2 (Rect.unit (s := S4096x128) (k0_off2 k j) S1024x128.size (k0_off2_inb k j))
  let fr := View.ld X4 (Rect.unit (s := S4x16x1024) (k0_off3 i k j) S1x1x1024.size (k0_off3_inb i k j))
  let vr := View.ld X3 (Rect.unit (s := S4096x128) (k0_off2 k j) S1024x128.size (k0_off2_inb k j))
  (k0_pay8 q a.1 kr fr, k0_pay11 q a.1 a.2.1 kr fr, k0_pay12 q a.1 a.2.2 kr fr vr)

/-- The carried values before earlier key block `n`. -/
def acc0 (i : grid0.Coords) (X2 X3 : Vec F S4096x128 .bf16) (X4 : Vec F S4x16x1024 .f32) (k : Fin k0_t1_loop.trips)
    (q : Vec F S1024x128 .bf16) : ℕ → Acc (F := F)
  | 0 => (k0_pay4 (F := F), k0_pay5 (F := F), k0_pay6 (F := F))
  | n + 1 => if h : n < (k0_t2_loop k).trips then step0 i X2 X3 X4 k q ⟨n, h⟩ (acc0 i X2 X3 X4 k q n) else acc0 i X2 X3 X4 k q n

theorem acc0_succ (i : grid0.Coords) (X2 X3 : Vec F S4096x128 .bf16) (X4 : Vec F S4x16x1024 .f32) (k : Fin k0_t1_loop.trips)
    (q : Vec F S1024x128 .bf16) (j : Fin (k0_t2_loop k).trips) :
    acc0 i X2 X3 X4 k q (j.val + 1) = step0 i X2 X3 X4 k q j (acc0 i X2 X3 X4 k q j.val) := dif_pos j.isLt

/-- The row and column numbers inside a block. -/
abbrev iR : IVec S1024x1024 32 := iota .tc S1024x1024 32 [0] iota_S1024x1024_d0_w32
abbrev iC : IVec S1024x1024 32 := iota .tc S1024x1024 32 [1] iota_S1024x1024_d1_w32

/-- The gate's row that query block `k`'s own key block takes. -/
abbrev gate0 (i : grid0.Coords) (X4 : Vec F S4x16x1024 .f32) (k : Fin k0_t1_loop.trips) : Vec F S1x1x1024 .f32 :=
  View.ld X4 (Rect.unit (s := S4x16x1024) (k0_off6 i k) S1x1x1024.size (k0_off6_inb i k))

/-- The carried values after all earlier key blocks of query block `k`. -/
abbrev fin0 (i : grid0.Coords) (X1 X2 X3 : Vec F S4096x128 .bf16) (X4 : Vec F S4x16x1024 .f32) (k : Fin k0_t1_loop.trips) : Acc (F := F) :=
  acc0 i X2 X3 X4 k (rows0 X1 k) (k0_t2_loop k).trips

/-- The attention's rows of query block `k`. -/
def oBlk (i : grid0.Coords) (X1 X2 X3 : Vec F S4096x128 .bf16) (X4 : Vec F S4x16x1024 .f32) (k : Fin k0_t1_loop.trips) : Vec F S1024x128 .bf16 :=
  k0_pay2 (fin0 i X1 X2 X3 X4 k).2.2 (k0_pay21 iR iC (rows0 X1 k) (fin0 i X1 X2 X3 X4 k).1 (rows0 X2 k) (gate0 i X4 k))
    (k0_pay22 iR iC (rows0 X1 k) (fin0 i X1 X2 X3 X4 k).1 (rows0 X2 k) (gate0 i X4 k))
    (k0_pay23 iR iC (rows0 X1 k) (fin0 i X1 X2 X3 X4 k).1 (fin0 i X1 X2 X3 X4 k).2.1 (rows0 X2 k) (gate0 i X4 k)) (rows0 X3 k)

/-- The log-sums' rows of query block `k`: this head's column of what they were replaced. -/
def lBlk (i : grid0.Coords) (X1 X2 X3 : Vec F S4096x128 .bf16) (X4 : Vec F S4x16x1024 .f32) (s : Vec F S4096x128 .f32) (k : Fin k0_t1_loop.trips) : Vec F S1024x128 .f32 :=
  k0_pay3 i (k0_pay20 iR iC (rows0 X1 k) (fin0 i X1 X2 X3 X4 k).1 (rows0 X2 k) (gate0 i X4 k))
    (k0_pay23 iR iC (rows0 X1 k) (fin0 i X1 X2 X3 X4 k).1 (fin0 i X1 X2 X3 X4 k).2.1 (rows0 X2 k) (gate0 i X4 k)) (rows0 s k)

theorem trips0 : k0_t1_loop.trips = 4 := by decide +kernel

theorem off1_eq : ∀ k : Fin k0_t1_loop.trips, k0_off1 k = ![1024 * k.val, 0] := by decide +kernel

/-- A buffer of four blocks of rows, block by block. -/
def stack {e : EltTy} (B : Fin k0_t1_loop.trips → Vec F S1024x128 e) : Vec F S4096x128 e := fun y =>
  B ⟨(y 0).val / 1024, by rw [trips0]; have : (y 0).val < 4096 := (y 0).isLt; omega⟩ (ix2 ⟨(y 0).val % 1024, Nat.mod_lt _ (by norm_num)⟩ (y 1))

theorem stack_at {e : EltTy} (B : Fin k0_t1_loop.trips → Vec F S1024x128 e) (k : Fin k0_t1_loop.trips) (p : Fin 4096) (l : Fin 128)
    (h : 1024 * k.val ≤ p.val ∧ p.val < 1024 * k.val + 1024) :
    stack B (ix2 p l) = B k (ix2 ⟨p.val - 1024 * k.val, by omega⟩ l) := by
  have h1 : p.val / 1024 = k.val := by omega
  have h2 : p.val % 1024 = p.val - 1024 * k.val := by omega
  have hlt : p.val / 1024 < k0_t1_loop.trips := h1 ▸ k.isLt
  exact (congrArg (fun j => B j (ix2 (⟨p.val % 1024, Nat.mod_lt _ (by norm_num)⟩ : Fin 1024) l)) (show (⟨p.val / 1024, hlt⟩ : Fin k0_t1_loop.trips) = k from Fin.ext h1)).trans
    (congrArg (B k) (congrArg (fun r : Fin 1024 => (ix2 r l : S1024x128.Idx)) (Fin.ext h2)))

/-- The first `n` blocks of rows of a buffer are in place, the rest is what it was. -/
def upto {e : EltTy} (s : Vec F S4096x128 e) (B : Fin k0_t1_loop.trips → Vec F S1024x128 e) (n : ℕ) : Vec F S4096x128 e := fun y =>
  if (y 0).val < 1024 * n then stack B y else s y

theorem upto_zero {e : EltTy} (s : Vec F S4096x128 e) (B : Fin k0_t1_loop.trips → Vec F S1024x128 e) : upto s B 0 = s :=
  funext fun y => if_neg (by omega)

theorem upto_all {e : EltTy} (s : Vec F S4096x128 e) (B : Fin k0_t1_loop.trips → Vec F S1024x128 e) : upto s B k0_t1_loop.trips = stack B :=
  funext fun y => if_pos (by have : (y 0).val < 4096 := (y 0).isLt; rw [trips0]; omega)

/-- One more block put in place. -/
theorem upto_succ {e : EltTy} (s : Vec F S4096x128 e) (B : Fin k0_t1_loop.trips → Vec F S1024x128 e) (k : Fin k0_t1_loop.trips) :
    (Rect.unit (s := S4096x128) (k0_off1 k) S1024x128.size (k0_off1_inb k)).overlay (upto s B k.val) (B k) = upto s B (k.val + 1) := by
  funext y
  obtain ⟨p, l, rfl⟩ : ∃ (p : Fin 4096) (l : Fin 128), y = ix2 p l := ⟨y 0, y 1, eq_ix2 y⟩
  refine (Blocks.overlay_rows (k0_off1 k) (1024 * k.val) (off1_eq k) (k0_off1_inb k) _ _ p l).trans ?_
  show _ = if p.val < 1024 * (k.val + 1) then _ else _
  by_cases h : 1024 * k.val ≤ p.val ∧ p.val < 1024 * k.val + 1024
  · rw [dif_pos h, if_pos (by omega), stack_at B k p l h]
  · rw [dif_neg h]
    show (if p.val < 1024 * k.val then _ else _) = _
    by_cases h2 : p.val < 1024 * k.val
    · rw [if_pos h2, if_pos (by omega)]
    · rw [if_neg h2, if_neg (by omega)]

/-- The rows of a block not yet put in place. -/
theorem rows_upto {e : EltTy} (s : Vec F S4096x128 e) (B : Fin k0_t1_loop.trips → Vec F S1024x128 e) (k : Fin k0_t1_loop.trips) :
    rows0 (upto s B k.val) k = rows0 s k := by
  have hk : k.val < 4 := trips0 ▸ k.isLt
  funext y
  obtain ⟨p, l, rfl⟩ : ∃ (p : Fin 1024) (l : Fin 128), y = ix2 p l := ⟨y 0, y 1, eq_ix2 y⟩
  have hp : p.val < 1024 := p.isLt
  refine (Blocks.ld_rows (k0_off1 k) (1024 * k.val) (off1_eq k) (k0_off1_inb k) _ p l (by omega)).trans ?_
  refine Eq.trans ?_ (Blocks.ld_rows (k0_off1 k) (1024 * k.val) (off1_eq k) (k0_off1_inb k) s p l (by omega)).symm
  exact if_neg (by show ¬ (1024 * k.val + p.val < 1024 * k.val); omega)

section
variable (c : Dev nD) (i : grid0.Coords) (M1 : Memref sig .tc .vmem S4096x128 .bf16) (h1 : M1.IsWhole)
    (M2 : Memref sig .tc .vmem S4096x128 .bf16) (h2 : M2.IsWhole) (M3 : Memref sig .tc .vmem S4096x128 .bf16) (h3 : M3.IsWhole)
    (M4 : Memref sig .tc .vmem S4x16x1024 .f32) (h4 : M4.IsWhole) (M5 : Memref sig .tc .vmem S4096x128 .bf16) (h5 : M5.IsWhole)
    (M6 : Memref sig .tc .vmem S4096x128 .f32) (h6 : M6.IsWhole)

set_option warn.classDefReducibility false in
/-- The loop over the earlier key blocks: it only reads, and what it carries is `acc0`. -/
@[sl_loop] def inner0 (E : Set ℕ) (a0 : BitVec 32) (v6 v7 : IVec S1024x1024 32) (b0 b1 : BitVec 32) (k : Fin k0_t1_loop.trips)
    (q : Vec F S1024x128 .bf16) (f2 : Bf (F := F) c M2) (f3 : Bf (F := F) c M3) (f4 : Bf (F := F) c M4) :
    LoopInv (M := 𝕄) Idealize.ShloMosaic.frame (wpE defs₀ Variants.none (c : Thread nD τ) none) E
      (k0_t2_loop k).lb (k0_t2_loop k).ub (k0_t2_loop k).st (k0_t2_ok k) (k0_pay4 (F := F), k0_pay5 (F := F), k0_pay6 (F := F))
      (k0_t2_body (F := F) i M1 h1 M2 h2 M3 h3 M4 h4 M5 h5 M6 h6 a0 v6 v7 b0 b1 k q) where
  inv n a := iprop(pt c M2 f2 ∗ pt c M3 f3 ∗ pt c M4 f4 ∗
    ⌜a = acc0 i (M2.view.read (Elt F) f2) (M3.view.read (Elt F) f3) (M4.view.read (Elt F) f4) k q n⌝)
  step j a := by
    iintro ⟨H2, H3, H4, %ha⟩
    subst ha
    unfold k0_t2_body
    sl_exec
    sl_step
    isplitl [H2]; · iexact H2
    isplitl [H3]; · iexact H3
    isplitl [H4]; · iexact H4
    ipureintro
    exact (acc0_succ _ _ _ _ _ _ j).symm

set_option maxHeartbeats 1000000 in
/-- One query block: its rows of the attention and of the log-sums are put in place. -/
theorem trip0 (E : Set ℕ) (f1 : Bf (F := F) c M1) (f2 : Bf (F := F) c M2) (f3 : Bf (F := F) c M3) (f4 : Bf (F := F) c M4)
    (g5 : Bf (F := F) c M5) (g6 : Bf (F := F) c M6) (a0 : BitVec 32) (k : Fin k0_t1_loop.trips) (u : Unit) (Q : Unit → sProp 𝕄) :
    iprop(pt c M1 f1 ∗ pt c M2 f2 ∗ pt c M3 f3 ∗ pt c M4 f4 ∗ pt c M5 g5 ∗ pt c M6 g6 ∗
      (iprop(pt c M1 f1 ∗ pt c M2 f2 ∗ pt c M3 f3 ∗ pt c M4 f4 ∗
        (∃ g : Bf (F := F) c M5, ⌜M5.view.read (Elt F) g = (Rect.unit (s := S4096x128) (k0_off1 k) S1024x128.size (k0_off1_inb k)).overlay (M5.view.read (Elt F) g5)
          (oBlk i (M1.view.read (Elt F) f1) (M2.view.read (Elt F) f2) (M3.view.read (Elt F) f3) (M4.view.read (Elt F) f4) k)⌝ ∗ pt c M5 g) ∗
        (∃ g : Bf (F := F) c M6, ⌜M6.view.read (Elt F) g = (Rect.unit (s := S4096x128) (k0_off1 k) S1024x128.size (k0_off1_inb k)).overlay (M6.view.read (Elt F) g6)
          (lBlk i (M1.view.read (Elt F) f1) (M2.view.read (Elt F) f2) (M3.view.read (Elt F) f3) (M4.view.read (Elt F) f4) (M6.view.read (Elt F) g6) k)⌝ ∗ pt c M6 g)) -∗ Q ⟨⟩))
      ⊢ wp frame (wpE (defs₀ (F := F)) Variants.none c none) E (k0_t1_body i M1 h1 M2 h2 M3 h3 M4 h4 M5 h5 M6 h6 a0 iR iC k u) Q := by
  unfold k0_t1_body
  iintro ⟨H1, H2, H3, H4, H5, H6, Hk⟩
  sl_exec_parts
  sl_step
  iapply Hk
  isplitl [H1]; · iexact H1
  isplitl [H2]; · iexact H2
  isplitl [H3]; · iexact H3
  isplitl [H4]; · iexact H4
  isplitl [H5]
  · iexists _; isplitr; swap; (· iexact H5); ipureintro
    rw [Stores.read_one]
    rfl
  iexists _; isplitr; swap; (· iexact H6); ipureintro
  rw [Stores.read_one]
  rfl

set_option maxHeartbeats 1000000 in
/-- What the forward kernel leaves at a head, from its blocks and the log-sums `s` it finds (zeros at the first head): every
    query block's rows of the attention, and the log-sums with this head's column in place. -/
theorem fwd_body (f1 : Bf (F := F) c M1) (f2 : Bf (F := F) c M2) (f3 : Bf (F := F) c M3) (f4 : Bf (F := F) c M4)
    (f5 : Bf (F := F) c M5) (f6 : Bf (F := F) c M6) (s : Vec F S4096x128 .f32) (hs : first0 i → k0_pay1 (F := F) = s)
    (hs' : ¬ first0 i → M6.view.read (Elt F) f6 = s) (E : Set ℕ) (Q : PUnit → sProp 𝕄) :
    iprop(pt c M1 f1 ∗ pt c M2 f2 ∗ pt c M3 f3 ∗ pt c M4 f4 ∗ pt c M5 f5 ∗ pt c M6 f6 ∗
      (iprop(pt c M1 f1 ∗ pt c M2 f2 ∗ pt c M3 f3 ∗ pt c M4 f4 ∗
        (∃ g : Bf (F := F) c M5, ⌜M5.view.read (Elt F) g = stack (oBlk i (M1.view.read (Elt F) f1) (M2.view.read (Elt F) f2) (M3.view.read (Elt F) f3) (M4.view.read (Elt F) f4))⌝ ∗ pt c M5 g) ∗
        (∃ g : Bf (F := F) c M6, ⌜M6.view.read (Elt F) g = stack (lBlk i (M1.view.read (Elt F) f1) (M2.view.read (Elt F) f2) (M3.view.read (Elt F) f3) (M4.view.read (Elt F) f4) s)⌝ ∗ pt c M6 g)) -∗ Q ⟨⟩))
      ⊢ wp frame (wpE (defs₀ (F := F)) Variants.none c none) E (cc0_attn_fwd i M1 h1 M2 h2 M3 h3 M4 h4 M5 h5 M6 h6) Q := by
  simp only [cc0_attn_fwd_eq_skeleton]
  unfold cc0_attn_fwd_skel
  iintro ⟨H1, H2, H3, H4, H5, H6, Hk⟩
  sl_exec
  sl_for (fun n _ => iprop(pt c M1 f1 ∗ pt c M2 f2 ∗ pt c M3 f3 ∗ pt c M4 f4 ∗
      (∃ g : Bf (F := F) c M5, ⌜M5.view.read (Elt F) g = upto (M5.view.read (Elt F) f5) (oBlk i (M1.view.read (Elt F) f1) (M2.view.read (Elt F) f2) (M3.view.read (Elt F) f3) (M4.view.read (Elt F) f4)) n⌝ ∗ pt c M5 g) ∗
      (∃ g : Bf (F := F) c M6, ⌜M6.view.read (Elt F) g = upto s (lBlk i (M1.view.read (Elt F) f1) (M2.view.read (Elt F) f2) (M3.view.read (Elt F) f3) (M4.view.read (Elt F) f4) s) n⌝ ∗ pt c M6 g))) $$ [H1 H2 H3 H4 H5 H6]
  case region =>
    intro k u
    iintro ⟨H1, H2, H3, H4, ⟨%g5, %e5, H5⟩, ⟨%g6, %e6, H6⟩⟩
    iapply (trip0 c i M1 h1 M2 h2 M3 h3 M4 h4 M5 h5 M6 h6 _ f1 f2 f3 f4 g5 g6 _ k u _)
    isplitl [H1]; · iexact H1
    isplitl [H2]; · iexact H2
    isplitl [H3]; · iexact H3
    isplitl [H4]; · iexact H4
    isplitl [H5]; · iexact H5
    isplitl [H6]; · iexact H6
    iintro ⟨H1, H2, H3, H4, ⟨%d5, %t5, H5⟩, ⟨%d6, %t6, H6⟩⟩
    isplitl [H1]; · iexact H1
    isplitl [H2]; · iexact H2
    isplitl [H3]; · iexact H3
    isplitl [H4]; · iexact H4
    isplitl [H5]
    · iexists d5; isplitr; swap; (· iexact H5); ipureintro
      rw [t5, e5]; exact upto_succ _ _ k
    iexists d6; isplitr; swap; (· iexact H6); ipureintro
    rw [t6, e6]
    refine Eq.trans ?_ (upto_succ _ _ k)
    unfold lBlk
    rw [rows_upto]
  · isplitl [H1]; · iexact H1
    isplitl [H2]; · iexact H2
    isplitl [H3]; · iexact H3
    isplitl [H4]; · iexact H4
    isplitl [H5]
    · iexists _; isplitr; swap; (· iexact H5); ipureintro
      exact (upto_zero _ _).symm
    iexists _; isplitr; swap; (· iexact H6); ipureintro
    refine Eq.trans ?_ (upto_zero _ _).symm
    exact Stores.read_start _ _ _ _ (first0 i) _ (View.read_writes_full _ _ _ _ _) hs hs'
  iintro %u ⟨H1, H2, H3, H4, ⟨%g5, %e5, H5⟩, ⟨%g6, %e6, H6⟩⟩
  sl_exec
  sl_step
  iapply Hk
  isplitl [H1]; · iexact H1
  isplitl [H2]; · iexact H2
  isplitl [H3]; · iexact H3
  isplitl [H4]; · iexact H4
  isplitl [H5]
  · iexists _; isplitr; swap; (· iexact H5); ipureintro
    exact e5.trans (upto_all _ _)
  iexists _; isplitr; swap; (· iexact H6); ipureintro
  exact e6.trans (upto_all _ _)

end

end Cert.AttnIdeal.Body

end
-- ==== Proof.Steps.lean ====
/- The steps of a counted loop, and what a buffer holds after a loop that fills it block by block. -/
module

public import Idealize.ShloMosaic.Lib.Pointwise

@[expose] public section

namespace Cert.Steps

/-- `n` steps of a counted loop from `a`. -/
def steps {α : Type} {N : ℕ} (f : Fin N → α → α) (a : α) : ℕ → α
  | 0 => a
  | n + 1 => if h : n < N then f ⟨n, h⟩ (steps f a n) else steps f a n

theorem steps_succ {α : Type} {N : ℕ} (f : Fin N → α → α) (a : α) (k : Fin N) : steps f a (k.val + 1) = f k (steps f a k.val) := dif_pos k.isLt

/-- Steps seen through a map that each of them commutes with. -/
theorem steps_map {α β : Type} {N : ℕ} (f : Fin N → α → α) (g : Fin N → β → β) (r : α → β) (h : ∀ k a, r (f k a) = g k (r a)) (a : α) (n : ℕ) :
    r (steps f a n) = steps g (r a) n := by
  induction n with
  | zero => rfl
  | succ n ih =>
    unfold steps
    split
    · rw [h, ih]
    · exact ih

/-- Steps of which the one numbered `t` fills the places of block `t` that `P` holds at, from that block's old contents at
    most: after `m` of them the places of the first `m` blocks are filled from what was there before the loop. -/
theorem steps_at {ι β : Type} {N : ℕ} (f : Fin N → (ι → β) → ι → β) (blk : ι → ℕ) (P : ι → Prop) [DecidablePred P] (W : Fin N → (ι → β) → ι → β)
    (hf : ∀ t X y, f t X y = if blk y = t.val ∧ P y then W t X y else X y)
    (hW : ∀ t X X', (∀ y, blk y = t.val → X y = X' y) → ∀ y, blk y = t.val → P y → W t X y = W t X' y) (a : ι → β) (m : ℕ) (hm : m ≤ N) (y : ι) :
    steps f a m y = if h : blk y < m ∧ P y then W ⟨blk y, lt_of_lt_of_le h.1 hm⟩ a y else a y := by
  induction m generalizing y with
  | zero => rw [dif_neg (by omega)]; rfl
  | succ m ih =>
    have ih' := ih (by omega)
    have hs : steps f a (m + 1) = f ⟨m, hm⟩ (steps f a m) := dif_pos hm
    rw [hs, hf]
    by_cases h : blk y = m ∧ P y
    · obtain ⟨h1, h2⟩ := h
      subst h1
      rw [if_pos ⟨rfl, h2⟩, dif_pos ⟨by omega, h2⟩]
      refine hW _ _ _ (fun y' hy' => ?_) y rfl h2
      rw [ih', dif_neg]
      intro h'
      have : blk y' = blk y := hy'
      omega
    · rw [if_neg h, ih']
      by_cases h' : blk y < m ∧ P y
      · rw [dif_pos h', dif_pos ⟨by omega, h'.2⟩]
      · rw [dif_neg h', dif_neg]
        intro h''
        by_cases hb : blk y = m
        · exact h ⟨hb, h''.2⟩
        · exact h' ⟨by omega, h''.2⟩

end Cert.Steps

end
-- ==== Proof.AttnBwdBody.lean ====
/- The backward attention kernel at one head: what its body leaves in its windows' buffers. -/
module

public import proofs.«01_k».proof.Proof.Calls
public import proofs.«01_k».proof.Proof.Stores
public import proofs.«01_k».proof.Proof.AttnFwdBody
public import proofs.«01_k».proof.Proof.Steps
public import proofs.«01_k».proof.Proof.Gen.AttnIdeal.Skeleton
public import proofs.«01_k».proof.Proof.Gen.AttnIdeal.Launch
public import proofs.«01_k».proof.Proof.Gen.AttnIdeal.Points
public import Idealize.ShloMosaic.Lib.Pipeline.Value
public import Idealize.ShloMosaic.Lib.Tactic
public import Idealize.ShloMosaic.Lib.Tactic.Stretches
public import Idealize.ShloMosaic.Lib.VecWindow
public import Idealize.ShloMosaic.Lib.Pipeline.FrameBody
public import Idealize.ShloMosaic.Lib.LoopRemainder

@[expose] public section

set_option maxRecDepth 16384

noncomputable section

namespace Cert.AttnIdeal.Body

open Cert.AttnIdeal Cert.AttnIdeal.Gen Cert.Steps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The kernel's branch is taken where the grid coordinate is zero. -/
abbrev first1 (i : grid1.Coords) : Prop := Scalar.cmpi .ne (Scalar.extui (Scalar.cmpi .eq (BitVec.ofNat 32 (i 0).val) 0#32) : BitVec 32) 0#32 = 1#1

/-! ## The rows a trip loads -/

variable (F) in
/-- What the loop over key blocks reads at a head: the query, key, value and incoming gradient rows, the gate, and each
    row's log-sum and gradient sum. -/
structure Src where
  (q k v d : Vec F S4096x128 .bf16)
  (f : Vec F S4x16x1024 .f32)
  (l s : Vec F S4096x1 .f32)

abbrev Col1 : Type := Vec F S4096x1 .f32
abbrev Rows : Type := Vec F S4096x128 .f32

section
variable (S : Src F) (i : grid1.Coords) (t : Fin k1_t2_loop.trips)

abbrev rect3 : Rect S4096x128 := Rect.unit (s := S4096x128) (k1_off3 t) S1024x128.size (k1_off3_inb t)
abbrev rect4 : Rect S4x16x1024 := Rect.unit (s := S4x16x1024) (k1_off4 i t) S1x1x1024.size (k1_off4_inb i t)
abbrev rect5 : Rect S4096x128 := Rect.unit (s := S4096x128) (k1_off5 t) S1024x128.size (k1_off5_inb t)
abbrev rect6 : Rect S4096x1 := Rect.unit (s := S4096x1) (k1_off6 t) S1024x1.size (k1_off6_inb t)
abbrev rect7 : Rect S4096x128 := Rect.unit (s := S4096x128) (k1_off7 t) S512x128.size (k1_off7_inb t)
abbrev rect8 : Rect S4096x1 := Rect.unit (s := S4096x1) (k1_off8 t) S512x1.size (k1_off8_inb t)
abbrev rect9 (u : Fin (k1_t3_loop t).trips) : Rect S4096x128 := Rect.unit (s := S4096x128) (k1_off9 t u) S1024x128.size (k1_off9_inb t u)
abbrev rect10 (u : Fin (k1_t3_loop t).trips) : Rect S4096x1 := Rect.unit (s := S4096x1) (k1_off10 t u) S1024x1.size (k1_off10_inb t u)

/-- The key block's rows, values and gate. -/
abbrev kR : Vec F S1024x128 .bf16 := View.ld S.k (rect3 t)
abbrev vR : Vec F S1024x128 .bf16 := View.ld S.v (rect3 t)
abbrev gR : Vec F S1x1x1024 .f32 := View.ld S.f (rect4 i t)
/-- The first diagonal strip's rows. -/
abbrev q1 : Vec F S1024x128 .bf16 := View.ld S.q (rect5 t)
abbrev d1 : Vec F S1024x128 .bf16 := View.ld S.d (rect5 t)
abbrev l1 : Vec F S1024x1 .f32 := View.ld S.l (rect6 t)
abbrev s1 : Vec F S1024x1 .f32 := View.ld S.s (rect6 t)
/-- The second diagonal strip's rows. -/
abbrev q2 : Vec F S512x128 .bf16 := View.ld S.q (rect7 t)
abbrev d2 : Vec F S512x128 .bf16 := View.ld S.d (rect7 t)
abbrev l2 : Vec F S512x1 .f32 := View.ld S.l (rect8 t)
abbrev s2 : Vec F S512x1 .f32 := View.ld S.s (rect8 t)

/-! ## The two diagonal strips -/

abbrev ds1 : FVec F S1024x512 .f32 := k1_pay34 (kR S t) (vR S t) (gR S i t) (q1 S t) (d1 S t) (l1 S t) (s1 S t)
abbrev dsb1 := k1_pay35 (kR S t) (vR S t) (gR S i t) (q1 S t) (d1 S t) (l1 S t) (s1 S t)
abbrev p2 : FVec F S512x512 .f32 := k1_pay43 (kR S t) (k1_pay31 (gR S i t)) (q2 S t) (l2 S t)

/-- The query gradients' rows after the first strip, and after the second. -/
def diagA1 (A : Rows (F := F)) : Rows (F := F) := (rect5 t).overlay A (k1_pay38 (k1_pay32 (kR S t)) (dsb1 S i t) (View.ld A (rect5 t)))
def diagA2 (A : Rows (F := F)) : Rows (F := F) :=
  (rect7 t).overlay A (k1_pay48 (k1_pay41 (kR S t)) (k1_pay42 (vR S t)) (d2 S t) (p2 S i t) k1_pay44 (s2 S t) (View.ld A (rect7 t)))
abbrev diagA (A : Rows (F := F)) : Rows (F := F) := diagA2 S i t (diagA1 S i t A)

/-- The gate gradients' row sums after the first strip, and after the second. -/
def diagC1 (C : Col1 (F := F)) : Col1 (F := F) := (rect6 t).overlay C (k1_pay39 (ds1 S i t) (View.ld C (rect6 t)))
def diagC2 (C : Col1 (F := F)) : Col1 (F := F) :=
  (rect8 t).overlay C (k1_pay49 (k1_pay42 (vR S t)) (d2 S t) (p2 S i t) k1_pay44 (s2 S t) (View.ld C (rect8 t)))
abbrev diagC (C : Col1 (F := F)) : Col1 (F := F) := diagC2 S i t (diagC1 S i t C)

/-- What the loop over the later query blocks carries: the key block's key, value and gate gradients. -/
abbrev Tri : Type := FVec F S1024x128 .f32 × FVec F S1024x128 .f32 × FVec F S1x1024 .f32

/-- The key block's gradients after the two diagonal strips. -/
def diagT : Tri (F := F) :=
  (k1_pay50 (k1_pay37 (q1 S t) (dsb1 S i t)) (k1_pay42 (vR S t)) (q2 S t) (d2 S t) (p2 S i t) k1_pay44 (s2 S t),
    k1_pay51 (k1_pay36 (kR S t) (gR S i t) (q1 S t) (d1 S t) (l1 S t)) (d2 S t) (p2 S i t) k1_pay44,
    k1_pay52 (k1_pay40 (ds1 S i t)) (k1_pay42 (vR S t)) (d2 S t) (p2 S i t) k1_pay44 (s2 S t))
end

/-! ## The later query blocks -/

/-! ## Offsets -/

theorem trips2 : k1_t2_loop.trips = 4 := by decide +kernel
theorem off3_eq : ∀ t : Fin k1_t2_loop.trips, k1_off3 t = ![1024 * t.val, 0] := by decide +kernel
theorem off5_eq : ∀ t : Fin k1_t2_loop.trips, k1_off5 t = ![1024 * t.val, 0] := by decide +kernel
theorem off6_eq : ∀ t : Fin k1_t2_loop.trips, k1_off6 t = ![1024 * t.val, 0] := by decide +kernel
theorem off7_eq : ∀ t : Fin k1_t2_loop.trips, k1_off7 t = ![1024 * t.val + 512, 0] := by decide +kernel
theorem off8_eq : ∀ t : Fin k1_t2_loop.trips, k1_off8 t = ![1024 * t.val + 512, 0] := by decide +kernel

/-- The second strip's rows are among the first's. -/
theorem strip_in {sig' : RefSig} {κ : Kind} {sp : Space} {n : ℕ} {e : EltTy} (v : View sig' κ sp ⟨2, ![4096, n]⟩ e) (f : v.ty.Contents (Elt F)) (r : ℕ)
    (off off' : Fin 2 → ℕ) (ho : off = ![r, 0]) (ho' : off' = ![r + 512, 0]) (inb : ∀ a, off a + (![1024, n] : Fin 2 → Nat) a ≤ (⟨2, ![4096, n]⟩ : Shape).size a)
    (inb' : ∀ a, off' a + (![512, n] : Fin 2 → Nat) a ≤ (⟨2, ![4096, n]⟩ : Shape).size a) (w : (⟨2, ![1024, n]⟩ : Shape).Idx → Elt F e) :
    v.readCov [⟨Rect.unit (s := ⟨2, ![4096, n]⟩) off ![1024, n] inb, w⟩] (Rect.unit (s := ⟨2, ![4096, n]⟩) off' ![512, n] inb').toLoadRect
      = View.ld ((Rect.unit (s := ⟨2, ![4096, n]⟩) off ![1024, n] inb).overlay (v.read (Elt F) f) w) (Rect.unit (s := ⟨2, ![4096, n]⟩) off' ![512, n] inb') := by
  subst ho ho'
  refine (View.readAt_writes_of_cover v f _ _ fun j => ⟨_, List.mem_singleton.mpr rfl, ?_⟩).symm.trans (congrArg (fun X => View.ld X _) (Stores.read_one _ _ _ _))
  show _ ∈ (Rect.unit (s := ⟨2, ![4096, n]⟩) ![r, 0] ![1024, n] inb).set
  rw [Rect.mem_set_unit]
  intro a
  have hj : (j 0).val < 512 := (j 0).isLt
  have hj' : (j 1).val < n := (j 1).isLt
  match a with
  | ⟨0, _⟩ => exact ⟨show r ≤ r + 512 + 1 * (j 0).val by omega, show r + 512 + 1 * (j 0).val < r + 1024 by omega⟩
  | ⟨1, _⟩ => exact ⟨show 0 ≤ 0 + 1 * (j 1).val by omega, show 0 + 1 * (j 1).val < 0 + n by omega⟩

section
variable (q d : Vec F S4096x128 .bf16) (l s : Vec F S4096x1 .f32) (t : Fin k1_t2_loop.trips) (k v : Vec F S1024x128 .bf16) (g : FVec F S1x1024 .f32)
    (u : Fin (k1_t3_loop t).trips)

def laterA (A : Rows (F := F)) : Rows (F := F) :=
  (rect9 t u).overlay A (k1_pay22 k v g (View.ld q (rect9 t u)) (View.ld d (rect9 t u)) (View.ld l (rect10 t u)) (View.ld s (rect10 t u)) (View.ld A (rect9 t u)))
def laterC (C : Col1 (F := F)) : Col1 (F := F) :=
  (rect10 t u).overlay C (k1_pay53 (k1_pay23 k v g (View.ld q (rect9 t u)) (View.ld d (rect9 t u)) (View.ld l (rect10 t u)) (View.ld s (rect10 t u)) (View.ld C (rect10 t u))))
def laterT (a : Tri (F := F)) : Tri (F := F) :=
  (k1_pay54 a.1 (k1_pay21 k v g (View.ld q (rect9 t u)) (View.ld d (rect9 t u)) (View.ld l (rect10 t u)) (View.ld s (rect10 t u))),
    k1_pay55 a.2.1 (k1_pay20 k g (View.ld q (rect9 t u)) (View.ld d (rect9 t u)) (View.ld l (rect10 t u))),
    k1_pay56 a.2.2 (k1_pay18 k v g (View.ld q (rect9 t u)) (View.ld d (rect9 t u)) (View.ld l (rect10 t u)) (View.ld s (rect10 t u))))
end

/-! ## One key block -/

section
variable (S : Src F) (i : grid1.Coords) (t : Fin k1_t2_loop.trips)

/-- The query gradients' rows after the key block. -/
def keyA (A : Rows (F := F)) : Rows (F := F) :=
  steps (laterA S.q S.d S.l S.s t (kR S t) (vR S t) (k1_pay31 (gR S i t))) (diagA S i t A) (k1_t3_loop t).trips
/-- The gate gradients' row sums after the key block. -/
def keyC (C : Col1 (F := F)) : Col1 (F := F) :=
  steps (laterC S.q S.d S.l S.s t (kR S t) (vR S t) (k1_pay31 (gR S i t))) (diagC S i t C) (k1_t3_loop t).trips
/-- The key block's key, value and gate gradients. -/
def keyT : Tri (F := F) :=
  steps (laterT S.q S.d S.l S.s t (kR S t) (vR S t) (k1_pay31 (gR S i t))) (diagT S i t) (k1_t3_loop t).trips

abbrev rect13 : Rect S3x4096x128 := Rect.unit (s := S3x4096x128) (k1_off13 t) S1x1024x128.size (k1_off13_inb t)
abbrev rect14 : Rect S3x4096x128 := Rect.unit (s := S3x4096x128) (k1_off14 t) S1x1024x128.size (k1_off14_inb t)

/-- The gradients' array after the key block's key and value gradients are put in place. -/
def keyD (D : Vec F S3x4096x128 .bf16) : Vec F S3x4096x128 .bf16 :=
  (rect14 t).overlay ((rect13 t).overlay D (k1_pay12 (keyT S i t).1)) (k1_pay13 (keyT S i t).2.1)
/-- The gate gradients' array after the key block's line is put in place. -/
def keyG (G : Vec F S4x16x1024 .f32) : Vec F S4x16x1024 .f32 := (rect4 i t).overlay G (k1_pay14 (keyT S i t).2.2)
end

section
variable (c : Dev nD) (i : grid1.Coords) (M1 : Memref sig .tc .vmem S4096x128 .bf16) (h1 : M1.IsWhole) (M2 : Memref sig .tc .vmem S4096x128 .bf16) (h2 : M2.IsWhole) (M3 : Memref sig .tc .vmem S4096x128 .bf16) (h3 : M3.IsWhole)
    (M4 : Memref sig .tc .vmem S4096x128 .bf16) (h4 : M4.IsWhole) (M5 : Memref sig .tc .vmem S4096x128 .bf16) (h5 : M5.IsWhole) (M6 : Memref sig .tc .vmem S4x16x1024 .f32) (h6 : M6.IsWhole)
    (M7 : Memref sig .tc .vmem S4096x128 .f32) (h7 : M7.IsWhole) (M8 : Memref sig .tc .vmem S3x4096x128 .bf16) (h8 : M8.IsWhole) (M9 : Memref sig .tc .vmem S4096x128 .f32) (h9 : M9.IsWhole)
    (M10 : Memref sig .tc .vmem S4x16x1024 .f32) (h10 : M10.IsWhole) (M11 : Memref sig .tc .vmem S4096x128 .f32) (h11 : M11.IsWhole) (M12 : Memref sig .tc .vmem S4096x1 .f32) (h12 : M12.IsWhole)
    (M13 : Memref sig .tc .vmem S4096x1 .f32) (h13 : M13.IsWhole) (M14 : Memref sig .tc .vmem S4096x1 .f32) (h14 : M14.IsWhole)

/-- A vector of any shape: the loop's region does not read the operands it stands for. -/
abbrev some1 (s : Shape) : FVec F s .f32 := fun _ => k1_pay4 (F := F) (ix2 0 0)

set_option warn.classDefReducibility false in
/-- The loop over the later query blocks: the accumulators and the carried gradients step by `laterA`, `laterC`, `laterT`. -/
@[sl_loop] def later1 (E : Set ℕ) (t : Fin k1_t2_loop.trips) (v20 v22 : Vec F S1024x128 .bf16) (v26 : FVec F S1x1024 .f32) (v138 : BitVec 32) (init : Tri (F := F))
    (f1 : Bf (F := F) c M1) (f5 : Bf (F := F) c M5) (f12 : Bf (F := F) c M12) (f13 : Bf (F := F) c M13) (g11 : Bf (F := F) c M11) (g14 : Bf (F := F) c M14) :
    LoopInv (M := 𝕄) Idealize.ShloMosaic.frame (wpE defs₀ Variants.none (c : Thread nD τ) none) E
      (k1_t3_loop t).lb (k1_t3_loop t).ub (k1_t3_loop t).st (k1_t3_ok t) init
      (k1_t3_body (F := F) i M1 h1 M2 h2 M3 h3 M4 h4 M5 h5 M6 h6 M7 h7 M8 h8 M9 h9 M10 h10 M11 h11 M12 h12 M13 h13 M14 h14 t 0#32 v20 v22 v26 (some1 _) (some1 _) (some1 _) 0#32
        (k1_pay41 v20) (k1_pay42 v22) (k1_pay41 v20) (k1_pay42 v22) (some1 _) k1_pay44 v138) where
  inv n a := iprop(pt c M1 f1 ∗ pt c M5 f5 ∗ pt c M12 f12 ∗ pt c M13 f13 ∗
    (∃ f : Bf (F := F) c M11, pt c M11 f ∗ ⌜f = steps (fun u (f : Bf (F := F) c M11) => M11.view.writes (Elt F) f [⟨rect9 t u,
      k1_pay22 v20 v22 v26 (View.ld (M1.view.read (Elt F) f1) (rect9 t u)) (View.ld (M5.view.read (Elt F) f5) (rect9 t u)) (View.ld (M12.view.read (Elt F) f12) (rect10 t u))
        (View.ld (M13.view.read (Elt F) f13) (rect10 t u)) (View.ld (M11.view.read (Elt F) f) (rect9 t u))⟩]) g11 n⌝) ∗
    (∃ f : Bf (F := F) c M14, pt c M14 f ∗ ⌜f = steps (fun u (f : Bf (F := F) c M14) => M14.view.writes (Elt F) f [⟨rect10 t u,
      k1_pay53 (k1_pay23 v20 v22 v26 (View.ld (M1.view.read (Elt F) f1) (rect9 t u)) (View.ld (M5.view.read (Elt F) f5) (rect9 t u)) (View.ld (M12.view.read (Elt F) f12) (rect10 t u))
        (View.ld (M13.view.read (Elt F) f13) (rect10 t u)) (View.ld (M14.view.read (Elt F) f) (rect10 t u)))⟩]) g14 n⌝) ∗
    ⌜a = steps (laterT (M1.view.read (Elt F) f1) (M5.view.read (Elt F) f5) (M12.view.read (Elt F) f12) (M13.view.read (Elt F) f13) t v20 v22 v26) init n⌝)
  step j a := by
    iintro ⟨H1, H5, H12, H13, ⟨%f11, H11, %e11⟩, ⟨%f14, H14, %e14⟩, %ha⟩
    unfold k1_t3_body
    sl_exec_parts
    sl_step
    isplitl [H1]; · iexact H1
    isplitl [H5]; · iexact H5
    isplitl [H12]; · iexact H12
    isplitl [H13]; · iexact H13
    isplitl [H11]
    · iexists _; isplitl [H11]; · iexact H11
      ipureintro
      rw [steps_succ, ← e11]
      rfl
    isplitl [H14]
    · iexists _; isplitl [H14]; · iexact H14
      ipureintro
      rw [steps_succ, ← e14]
      rfl
    ipureintro
    rw [steps_succ, ← ha]
    rfl

/-- The key block's loop's operands, as the buffers read. -/
abbrev srcOf (f1 : Bf (F := F) c M1) (f2 : Bf (F := F) c M2) (f3 : Bf (F := F) c M3) (f5 : Bf (F := F) c M5) (f6 : Bf (F := F) c M6) (f12 : Bf (F := F) c M12) (f13 : Bf (F := F) c M13) : Src F :=
  ⟨M1.view.read (Elt F) f1, M2.view.read (Elt F) f2, M3.view.read (Elt F) f3, M5.view.read (Elt F) f5, M6.view.read (Elt F) f6, M12.view.read (Elt F) f12, M13.view.read (Elt F) f13⟩

set_option maxHeartbeats 1000000 in
/-- One key block: the accumulators step by `keyA` and `keyC`, and its gradients are put in place. -/
theorem trip2 (E : Set ℕ) (f1 : Bf (F := F) c M1) (f2 : Bf (F := F) c M2) (f3 : Bf (F := F) c M3) (f5 : Bf (F := F) c M5) (f6 : Bf (F := F) c M6) (f8 : Bf (F := F) c M8) (f10 : Bf (F := F) c M10) (f11 : Bf (F := F) c M11) (f12 : Bf (F := F) c M12) (f13 : Bf (F := F) c M13) (f14 : Bf (F := F) c M14) (a0 : BitVec 32) (t : Fin k1_t2_loop.trips) (u : Unit) (Q : Unit → sProp 𝕄) :
    iprop(pt c M1 f1 ∗ pt c M2 f2 ∗ pt c M3 f3 ∗ pt c M5 f5 ∗ pt c M6 f6 ∗ pt c M8 f8 ∗ pt c M10 f10 ∗ pt c M11 f11 ∗ pt c M12 f12 ∗ pt c M13 f13 ∗ pt c M14 f14 ∗
      (iprop(pt c M1 f1 ∗ pt c M2 f2 ∗ pt c M3 f3 ∗ pt c M5 f5 ∗ pt c M6 f6 ∗ pt c M12 f12 ∗ pt c M13 f13 ∗
        (∃ g : Bf (F := F) c M8, ⌜M8.view.read (Elt F) g = keyD (srcOf c M1 M2 M3 M5 M6 M12 M13 f1 f2 f3 f5 f6 f12 f13) i t (M8.view.read (Elt F) f8)⌝ ∗ pt c M8 g) ∗
        (∃ g : Bf (F := F) c M10, ⌜M10.view.read (Elt F) g = keyG (srcOf c M1 M2 M3 M5 M6 M12 M13 f1 f2 f3 f5 f6 f12 f13) i t (M10.view.read (Elt F) f10)⌝ ∗ pt c M10 g) ∗
        (∃ g : Bf (F := F) c M11, ⌜M11.view.read (Elt F) g = keyA (srcOf c M1 M2 M3 M5 M6 M12 M13 f1 f2 f3 f5 f6 f12 f13) i t (M11.view.read (Elt F) f11)⌝ ∗ pt c M11 g) ∗
        (∃ g : Bf (F := F) c M14, ⌜M14.view.read (Elt F) g = keyC (srcOf c M1 M2 M3 M5 M6 M12 M13 f1 f2 f3 f5 f6 f12 f13) i t (M14.view.read (Elt F) f14)⌝ ∗ pt c M14 g)) -∗ Q ⟨⟩))
      ⊢ wp frame (wpE (defs₀ (F := F)) Variants.none c none) E (k1_t2_body i M1 h1 M2 h2 M3 h3 M4 h4 M5 h5 M6 h6 M7 h7 M8 h8 M9 h9 M10 h10 M11 h11 M12 h12 M13 h13 M14 h14 a0 t u) Q := by
  unfold k1_t2_body
  iintro ⟨H1, H2, H3, H5, H6, H8, H10, H11, H12, H13, H14, Hk⟩
  sl_exec_parts
  sl_step
  iapply Hk
  isplitl [H1]; · iexact H1
  isplitl [H2]; · iexact H2
  isplitl [H3]; · iexact H3
  isplitl [H5]; · iexact H5
  isplitl [H6]; · iexact H6
  isplitl [H12]; · iexact H12
  isplitl [H13]; · iexact H13
  isplitl [H8]
  · iexists _; isplitr; swap; (· iexact H8); ipureintro
    rw [Stores.read_cons, Stores.read_one]
    rfl
  isplitl [H10]
  · iexists _; isplitr; swap; (· iexact H10); ipureintro
    rw [Stores.read_one]
    rfl
  isplitl [H11]
  · iexists _; isplitr; swap; (· iexact H11); ipureintro
    refine (steps_map _ (laterA (srcOf c M1 M2 M3 M5 M6 M12 M13 f1 f2 f3 f5 f6 f12 f13).q (srcOf c M1 M2 M3 M5 M6 M12 M13 f1 f2 f3 f5 f6 f12 f13).d (srcOf c M1 M2 M3 M5 M6 M12 M13 f1 f2 f3 f5 f6 f12 f13).l (srcOf c M1 M2 M3 M5 M6 M12 M13 f1 f2 f3 f5 f6 f12 f13).s t (kR (srcOf c M1 M2 M3 M5 M6 M12 M13 f1 f2 f3 f5 f6 f12 f13) t) (vR (srcOf c M1 M2 M3 M5 M6 M12 M13 f1 f2 f3 f5 f6 f12 f13) t) (k1_pay31 (gR (srcOf c M1 M2 M3 M5 M6 M12 M13 f1 f2 f3 f5 f6 f12 f13) i t))) (M11.view.read (Elt F)) (fun k a => Stores.read_one _ _ _ _) _ _).trans ?_
    refine congrArg (fun A => steps _ A (k1_t3_loop t).trips) ((Stores.read_cons _ _ (rect7 t) _ _).trans ?_)
    exact congrArg₂ (fun X Y => (rect7 t).overlay X (k1_pay48 (k1_pay41 (kR (srcOf c M1 M2 M3 M5 M6 M12 M13 f1 f2 f3 f5 f6 f12 f13) t)) (k1_pay42 (vR (srcOf c M1 M2 M3 M5 M6 M12 M13 f1 f2 f3 f5 f6 f12 f13) t)) (d2 (srcOf c M1 M2 M3 M5 M6 M12 M13 f1 f2 f3 f5 f6 f12 f13) t) (p2 (srcOf c M1 M2 M3 M5 M6 M12 M13 f1 f2 f3 f5 f6 f12 f13) i t) k1_pay44 (s2 (srcOf c M1 M2 M3 M5 M6 M12 M13 f1 f2 f3 f5 f6 f12 f13) t) Y)) (Stores.read_one _ _ _ _) (strip_in M11.view f11 (1024 * t.val) _ _ (off5_eq t) (off7_eq t) _ _ _)
  iexists _; isplitr; swap; (· iexact H14); ipureintro
  refine (steps_map _ (laterC (srcOf c M1 M2 M3 M5 M6 M12 M13 f1 f2 f3 f5 f6 f12 f13).q (srcOf c M1 M2 M3 M5 M6 M12 M13 f1 f2 f3 f5 f6 f12 f13).d (srcOf c M1 M2 M3 M5 M6 M12 M13 f1 f2 f3 f5 f6 f12 f13).l (srcOf c M1 M2 M3 M5 M6 M12 M13 f1 f2 f3 f5 f6 f12 f13).s t (kR (srcOf c M1 M2 M3 M5 M6 M12 M13 f1 f2 f3 f5 f6 f12 f13) t) (vR (srcOf c M1 M2 M3 M5 M6 M12 M13 f1 f2 f3 f5 f6 f12 f13) t) (k1_pay31 (gR (srcOf c M1 M2 M3 M5 M6 M12 M13 f1 f2 f3 f5 f6 f12 f13) i t))) (M14.view.read (Elt F)) (fun k a => Stores.read_one _ _ _ _) _ _).trans ?_
  refine congrArg (fun C => steps _ C (k1_t3_loop t).trips) ((Stores.read_cons _ _ (rect8 t) _ _).trans ?_)
  exact congrArg₂ (fun X Y => (rect8 t).overlay X (k1_pay49 (k1_pay42 (vR (srcOf c M1 M2 M3 M5 M6 M12 M13 f1 f2 f3 f5 f6 f12 f13) t)) (d2 (srcOf c M1 M2 M3 M5 M6 M12 M13 f1 f2 f3 f5 f6 f12 f13) t) (p2 (srcOf c M1 M2 M3 M5 M6 M12 M13 f1 f2 f3 f5 f6 f12 f13) i t) k1_pay44 (s2 (srcOf c M1 M2 M3 M5 M6 M12 M13 f1 f2 f3 f5 f6 f12 f13) t) Y)) (Stores.read_one _ _ _ _) (strip_in M14.view f14 (1024 * t.val) _ _ (off6_eq t) (off8_eq t) _ _ _)

/-- The rows of the loop that prepares the columns, and of the loop that finishes. -/
abbrev rect1 (t : Fin k1_t1_loop.trips) : Rect S4096x128 := Rect.unit (s := S4096x128) (k1_off1 t) S1024x128.size (k1_off1_inb t)
abbrev rect2 (t : Fin k1_t1_loop.trips) : Rect S4096x1 := Rect.unit (s := S4096x1) (k1_off2 t) S1024x1.size (k1_off2_inb t)
abbrev rect15 (t : Fin k1_t5_loop.trips) : Rect S4096x128 := Rect.unit (s := S4096x128) (k1_off15 t) S1024x128.size (k1_off15_inb t)
abbrev rect16 (t : Fin k1_t5_loop.trips) : Rect S3x4096x128 := Rect.unit (s := S3x4096x128) (k1_off16 t) S1x1024x128.size (k1_off16_inb t)
abbrev rect17 (t : Fin k1_t5_loop.trips) : Rect S4096x1 := Rect.unit (s := S4096x1) (k1_off17 t) S1024x1.size (k1_off17_inb t)

/-- One block of the log-sums' column and of the gradient sums' column. -/
def prepL (L : Vec F S4096x128 .f32) (t : Fin k1_t1_loop.trips) (X : Col1 (F := F)) : Col1 (F := F) :=
  (rect2 t).overlay X (k1_pay6 i (View.ld L (rect1 t)))
def prepS (d o : Vec F S4096x128 .bf16) (t : Fin k1_t1_loop.trips) (X : Col1 (F := F)) : Col1 (F := F) :=
  (rect2 t).overlay X (k1_pay7 (View.ld d (rect1 t)) (View.ld o (rect1 t)))
/-- One block of the query gradients, and of this head's column of the gate gradients. -/
def finD (A : Rows (F := F)) (t : Fin k1_t5_loop.trips) (D : Vec F S3x4096x128 .bf16) : Vec F S3x4096x128 .bf16 :=
  (rect16 t).overlay D (k1_pay15 (View.ld A (rect15 t)))
def finC (C : Col1 (F := F)) (t : Fin k1_t5_loop.trips) (X : Rows (F := F)) : Rows (F := F) :=
  (rect15 t).overlay X (k1_pay16 i (View.ld C (rect17 t)) (View.ld X (rect15 t)))

theorem trip1 (E : Set ℕ) (f4 : Bf (F := F) c M4) (f5 : Bf (F := F) c M5) (f7 : Bf (F := F) c M7) (f12 : Bf (F := F) c M12) (f13 : Bf (F := F) c M13) (t : Fin k1_t1_loop.trips) (u : Unit) (Q : Unit → sProp 𝕄) :
    iprop(pt c M4 f4 ∗ pt c M5 f5 ∗ pt c M7 f7 ∗ pt c M12 f12 ∗ pt c M13 f13 ∗
      (iprop(pt c M4 f4 ∗ pt c M5 f5 ∗ pt c M7 f7 ∗
        (∃ g : Bf (F := F) c M12, ⌜M12.view.read (Elt F) g = prepL i (M7.view.read (Elt F) f7) t (M12.view.read (Elt F) f12)⌝ ∗ pt c M12 g) ∗
        (∃ g : Bf (F := F) c M13, ⌜M13.view.read (Elt F) g = prepS (M5.view.read (Elt F) f5) (M4.view.read (Elt F) f4) t (M13.view.read (Elt F) f13)⌝ ∗ pt c M13 g)) -∗ Q ⟨⟩))
      ⊢ wp frame (wpE (defs₀ (F := F)) Variants.none c none) E (k1_t1_body i M1 h1 M2 h2 M3 h3 M4 h4 M5 h5 M6 h6 M7 h7 M8 h8 M9 h9 M10 h10 M11 h11 M12 h12 M13 h13 M14 h14 t u) Q := by
  unfold k1_t1_body
  iintro ⟨H4, H5, H7, H12, H13, Hk⟩
  sl_exec
  sl_step
  iapply Hk
  isplitl [H4]; · iexact H4
  isplitl [H5]; · iexact H5
  isplitl [H7]; · iexact H7
  isplitl [H12]
  · iexists _; isplitr; swap; (· iexact H12); ipureintro
    rw [Stores.read_one]
    rfl
  iexists _; isplitr; swap; (· iexact H13); ipureintro
  rw [Stores.read_one]
  rfl

theorem trip5 (E : Set ℕ) (f8 : Bf (F := F) c M8) (f9 : Bf (F := F) c M9) (f11 : Bf (F := F) c M11) (f14 : Bf (F := F) c M14) (t : Fin k1_t5_loop.trips) (u : Unit) (Q : Unit → sProp 𝕄) :
    iprop(pt c M8 f8 ∗ pt c M9 f9 ∗ pt c M11 f11 ∗ pt c M14 f14 ∗
      (iprop(pt c M11 f11 ∗ pt c M14 f14 ∗
        (∃ g : Bf (F := F) c M8, ⌜M8.view.read (Elt F) g = finD (M11.view.read (Elt F) f11) t (M8.view.read (Elt F) f8)⌝ ∗ pt c M8 g) ∗
        (∃ g : Bf (F := F) c M9, ⌜M9.view.read (Elt F) g = finC i (M14.view.read (Elt F) f14) t (M9.view.read (Elt F) f9)⌝ ∗ pt c M9 g)) -∗ Q ⟨⟩))
      ⊢ wp frame (wpE (defs₀ (F := F)) Variants.none c none) E (k1_t5_body i M1 h1 M2 h2 M3 h3 M4 h4 M5 h5 M6 h6 M7 h7 M8 h8 M9 h9 M10 h10 M11 h11 M12 h12 M13 h13 M14 h14 t u) Q := by
  unfold k1_t5_body
  iintro ⟨H8, H9, H11, H14, Hk⟩
  sl_exec
  sl_step
  iapply Hk
  isplitl [H11]; · iexact H11
  isplitl [H14]; · iexact H14
  isplitl [H8]
  · iexists _; isplitr; swap; (· iexact H8); ipureintro
    rw [Stores.read_one]
    rfl
  iexists _; isplitr; swap; (· iexact H9); ipureintro
  rw [Stores.read_one]
  rfl

end

end Cert.AttnIdeal.Body

end
-- ==== Proof.AttnBwdHead.lean ====
/- The backward attention kernel at one head: its columns, its gradients and its whole body. -/
module

public import proofs.«01_k».proof.Proof.Calls
public import proofs.«01_k».proof.Proof.Stores
public import proofs.«01_k».proof.Proof.AttnBwdBody
public import proofs.«01_k».proof.Proof.Steps
public import proofs.«01_k».proof.Proof.Gen.AttnIdeal.Skeleton
public import proofs.«01_k».proof.Proof.Gen.AttnIdeal.Launch
public import proofs.«01_k».proof.Proof.Gen.AttnIdeal.Points
public import Idealize.ShloMosaic.Lib.Pipeline.Value
public import Idealize.ShloMosaic.Lib.Tactic
public import Idealize.ShloMosaic.Lib.Tactic.Stretches
public import Idealize.ShloMosaic.Lib.VecWindow
public import Idealize.ShloMosaic.Lib.Pipeline.FrameBody
public import Idealize.ShloMosaic.Lib.LoopRemainder

@[expose] public section

set_option maxRecDepth 16384

noncomputable section

namespace Cert.AttnIdeal.Body

open Cert.AttnIdeal Cert.AttnIdeal.Gen Cert.Steps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section
variable (i : grid1.Coords)

theorem trips1 : k1_t1_loop.trips = 4 := by decide +kernel
theorem trips5 : k1_t5_loop.trips = 4 := by decide +kernel
theorem off1b_eq : ∀ t : Fin k1_t1_loop.trips, k1_off1 t = ![1024 * t.val, 0] := by decide +kernel
theorem off2_eq : ∀ t : Fin k1_t1_loop.trips, k1_off2 t = ![1024 * t.val, 0] := by decide +kernel
theorem off13_eq : ∀ t : Fin k1_t2_loop.trips, k1_off13 t = ![1, 1024 * t.val, 0] := by decide +kernel
theorem off14_eq : ∀ t : Fin k1_t2_loop.trips, k1_off14 t = ![2, 1024 * t.val, 0] := by decide +kernel
theorem off15_eq : ∀ t : Fin k1_t5_loop.trips, k1_off15 t = ![1024 * t.val, 0] := by decide +kernel
theorem off16_eq : ∀ t : Fin k1_t5_loop.trips, k1_off16 t = ![0, 1024 * t.val, 0] := by decide +kernel
theorem off17_eq : ∀ t : Fin k1_t5_loop.trips, k1_off17 t = ![1024 * t.val, 0] := by decide +kernel

/-- The block of 1024 rows that row `p` lies in, and the row's place there. -/
abbrev bk {N : ℕ} (hN : N = 4) (p : Fin 4096) : Fin N := ⟨p.val / 1024, by have := p.isLt; omega⟩
abbrev rw1 (p : Fin 4096) : Fin 1024 := ⟨p.val % 1024, Nat.mod_lt _ (by norm_num)⟩

/-- The log-sums' column and the gradient sums' column. -/
def colL (L : Vec F S4096x128 .f32) : Col1 (F := F) := fun y => k1_pay6 i (View.ld L (rect1 (bk trips1 (y 0)))) (ix2 (rw1 (y 0)) (y 1))
def colS (d o : Vec F S4096x128 .bf16) : Col1 (F := F) := fun y => k1_pay7 (View.ld d (rect1 (bk trips1 (y 0)))) (View.ld o (rect1 (bk trips1 (y 0)))) (ix2 (rw1 (y 0)) (y 1))

/-- A column filled block by block. -/
theorem col_steps (f : Fin k1_t1_loop.trips → Col1 (F := F) → Col1 (F := F)) (w : Fin k1_t1_loop.trips → Vec F S1024x1 .f32)
    (hf : ∀ t X, f t X = (rect2 t).overlay X (w t)) (X : Col1 (F := F)) :
    steps f X k1_t1_loop.trips = fun y => w (bk trips1 (y 0)) (ix2 (rw1 (y 0)) (y 1)) := by
  funext y
  refine (steps_at f (fun y => (y 0).val / 1024) (fun _ => True) (fun t _ y => w t (ix2 (rw1 (y 0)) (y 1))) (fun t X y => ?_) (fun _ _ _ _ _ _ _ => rfl) X _ le_rfl y).trans ?_
  · obtain ⟨p, l, rfl⟩ : ∃ (p : Fin 4096) (l : Fin 1), y = ix2 p l := ⟨y 0, y 1, eq_ix2 y⟩
    rw [hf]
    refine (Blocks.overlay_rows (k1_off2 t) (1024 * t.val) (off2_eq t) (k1_off2_inb t) X (w t) p l).trans ?_
    show _ = if p.val / 1024 = t.val ∧ True then w t (ix2 (rw1 p) l) else X (ix2 p l)
    by_cases h : 1024 * t.val ≤ p.val ∧ p.val < 1024 * t.val + 1024
    · rw [dif_pos h, if_pos ⟨by omega, trivial⟩]
      exact congrArg (fun r : Fin 1024 => w t (ix2 r l)) (Fin.ext (by show p.val - 1024 * t.val = p.val % 1024; omega))
    · rw [dif_neg h, if_neg (by omega)]
  · have hy : (y 0).val < 4096 := (y 0).isLt
    exact dif_pos ⟨by rw [trips1]; omega, trivial⟩

theorem colL_eq (L : Vec F S4096x128 .f32) (X : Col1 (F := F)) : steps (prepL i L) X k1_t1_loop.trips = colL i L :=
  col_steps _ _ (fun _ _ => rfl) X
theorem colS_eq (d o : Vec F S4096x128 .bf16) (X : Col1 (F := F)) : steps (prepS d o) X k1_t1_loop.trips = colS d o :=
  col_steps _ _ (fun _ _ => rfl) X

/-- The three gradients of a head. -/
def outD (S : Src F) (A : Rows (F := F)) : Vec F S3x4096x128 .bf16 := fun y =>
  if (y 0).val = 0 then k1_pay15 (View.ld A (rect15 (bk trips5 (y 1)))) (ix3 0 (rw1 (y 1)) (y 2))
  else if (y 0).val = 1 then k1_pay12 (keyT S i (bk trips2 (y 1))).1 (ix3 0 (rw1 (y 1)) (y 2))
  else k1_pay13 (keyT S i (bk trips2 (y 1))).2.1 (ix3 0 (rw1 (y 1)) (y 2))

/-- A store of 1024 rows of one slab, at a place. -/
theorem slab_at (off : Fin 3 → ℕ) (j t : ℕ) (ho : off = ![j, 1024 * t, 0]) (inb) (X : Vec F S3x4096x128 .bf16) (w : Vec F S1x1024x128 .bf16) (a : Fin 3) (p : Fin 4096) (l : Fin 128) :
    (Rect.unit (s := S3x4096x128) off S1x1024x128.size inb).overlay X w (ix3 a p l) = if p.val / 1024 = t ∧ a.val = j then w (ix3 0 (rw1 p) l) else X (ix3 a p l) := by
  refine (Blocks.overlay_slab off j (1024 * t) ho inb X w a p l).trans ?_
  by_cases h : a.val = j ∧ 1024 * t ≤ p.val ∧ p.val < 1024 * t + 1024
  · rw [dif_pos h, if_pos ⟨by omega, h.1⟩]
    exact congrArg (fun r : Fin 1024 => w (ix3 0 r l)) (Fin.ext (by show p.val - 1024 * t = p.val % 1024; omega))
  · rw [dif_neg h, if_neg (by omega)]

theorem outD_eq (S : Src F) (A : Rows (F := F)) (D : Vec F S3x4096x128 .bf16) :
    steps (finD A) (steps (keyD S i) D k1_t2_loop.trips) k1_t5_loop.trips = outD i S A := by
  funext y
  have hy : (y 1).val < 4096 := (y 1).isLt
  have hy0 : (y 0).val < 3 := (y 0).isLt
  refine (steps_at (finD A) (fun y => (y 1).val / 1024) (fun y => (y 0).val = 0) (fun t _ y => k1_pay15 (View.ld A (rect15 t)) (ix3 0 (rw1 (y 1)) (y 2)))
    (fun t X y => ?_) (fun _ _ _ _ _ _ _ => rfl) _ _ le_rfl y).trans ?_
  · obtain ⟨a, p, l, rfl⟩ : ∃ (a : Fin 3) (p : Fin 4096) (l : Fin 128), y = ix3 a p l := ⟨y 0, y 1, y 2, eq_ix3 y⟩
    exact slab_at _ 0 t.val (off16_eq t) _ _ _ a p l
  unfold outD
  by_cases h0 : (y 0).val = 0
  · rw [dif_pos ⟨by rw [trips5]; omega, h0⟩, if_pos h0]
  rw [dif_neg (fun h => h0 h.2), if_neg h0]
  refine (steps_at (keyD S i) (fun y => (y 1).val / 1024) (fun y => (y 0).val ≠ 0)
    (fun t _ y => if (y 0).val = 1 then k1_pay12 (keyT S i t).1 (ix3 0 (rw1 (y 1)) (y 2)) else k1_pay13 (keyT S i t).2.1 (ix3 0 (rw1 (y 1)) (y 2)))
    (fun t X y => ?_) (fun _ _ _ _ _ _ _ => rfl) _ _ le_rfl y).trans ?_
  · obtain ⟨a, p, l, rfl⟩ : ∃ (a : Fin 3) (p : Fin 4096) (l : Fin 128), y = ix3 a p l := ⟨y 0, y 1, y 2, eq_ix3 y⟩
    have ha : a.val < 3 := a.isLt
    refine (slab_at _ 2 t.val (off14_eq t) _ _ _ a p l).trans ?_
    refine (congrArg (fun z => if p.val / 1024 = t.val ∧ a.val = 2 then k1_pay13 (keyT S i t).2.1 (ix3 0 (rw1 p) l) else z) (slab_at _ 1 t.val (off13_eq t) _ X _ a p l)).trans ?_
    show _ = if p.val / 1024 = t.val ∧ a.val ≠ 0 then (if a.val = 1 then k1_pay12 (keyT S i t).1 (ix3 0 (rw1 p) l) else k1_pay13 (keyT S i t).2.1 (ix3 0 (rw1 p) l)) else X (ix3 a p l)
    by_cases hp : p.val / 1024 = t.val
    · by_cases h1 : a.val = 1
      · rw [if_neg (by omega), if_pos ⟨hp, h1⟩, if_pos ⟨hp, by omega⟩, if_pos h1]
      · by_cases h2 : a.val = 2
        · rw [if_pos ⟨hp, h2⟩, if_pos ⟨hp, by omega⟩, if_neg h1]
        · rw [if_neg (by omega), if_neg (by omega), if_neg (by omega)]
    · rw [if_neg (by omega), if_neg (by omega), if_neg (by omega)]
  · exact dif_pos ⟨by rw [trips2]; omega, h0⟩

end

end Cert.AttnIdeal.Body

end
-- ==== Proof.AttnBwdAll.lean ====
/- The backward attention kernel's whole body at one head. -/
module

public import proofs.«01_k».proof.Proof.Calls
public import proofs.«01_k».proof.Proof.Stores
public import proofs.«01_k».proof.Proof.AttnBwdHead
public import proofs.«01_k».proof.Proof.Steps
public import proofs.«01_k».proof.Proof.Gen.AttnIdeal.Skeleton
public import proofs.«01_k».proof.Proof.Gen.AttnIdeal.Launch
public import proofs.«01_k».proof.Proof.Gen.AttnIdeal.Points
public import Idealize.ShloMosaic.Lib.Pipeline.Value
public import Idealize.ShloMosaic.Lib.Tactic
public import Idealize.ShloMosaic.Lib.Tactic.Stretches
public import Idealize.ShloMosaic.Lib.VecWindow
public import Idealize.ShloMosaic.Lib.Pipeline.FrameBody
public import Idealize.ShloMosaic.Lib.LoopRemainder

@[expose] public section

set_option maxRecDepth 16384

noncomputable section

namespace Cert.AttnIdeal.Body

open Cert.AttnIdeal Cert.AttnIdeal.Gen Cert.Steps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The operands of a head's key blocks, from its blocks. -/
def headSrc (i : grid1.Coords) (q k v o d : Vec F S4096x128 .bf16) (f : Vec F S4x16x1024 .f32) (L : Vec F S4096x128 .f32) : Src F :=
  ⟨q, k, v, d, f, colL i L, colS d o⟩

/-- The query gradients' accumulated rows and the gate gradients' accumulated row sums of a head. -/
def accA (S : Src F) (i : grid1.Coords) : Rows (F := F) := steps (keyA S i) k1_pay4 k1_t2_loop.trips
def accC (S : Src F) (i : grid1.Coords) : Col1 (F := F) := steps (keyC S i) k1_pay5 k1_t2_loop.trips

section
variable (c : Dev nD) (i : grid1.Coords) (M1 : Memref sig .tc .vmem S4096x128 .bf16) (h1 : M1.IsWhole) (M2 : Memref sig .tc .vmem S4096x128 .bf16) (h2 : M2.IsWhole) (M3 : Memref sig .tc .vmem S4096x128 .bf16) (h3 : M3.IsWhole)
    (M4 : Memref sig .tc .vmem S4096x128 .bf16) (h4 : M4.IsWhole) (M5 : Memref sig .tc .vmem S4096x128 .bf16) (h5 : M5.IsWhole) (M6 : Memref sig .tc .vmem S4x16x1024 .f32) (h6 : M6.IsWhole)
    (M7 : Memref sig .tc .vmem S4096x128 .f32) (h7 : M7.IsWhole) (M8 : Memref sig .tc .vmem S3x4096x128 .bf16) (h8 : M8.IsWhole) (M9 : Memref sig .tc .vmem S4096x128 .f32) (h9 : M9.IsWhole)
    (M10 : Memref sig .tc .vmem S4x16x1024 .f32) (h10 : M10.IsWhole) (M11 : Memref sig .tc .vmem S4096x128 .f32) (h11 : M11.IsWhole) (M12 : Memref sig .tc .vmem S4096x1 .f32) (h12 : M12.IsWhole)
    (M13 : Memref sig .tc .vmem S4096x1 .f32) (h13 : M13.IsWhole) (M14 : Memref sig .tc .vmem S4096x1 .f32) (h14 : M14.IsWhole)

set_option maxHeartbeats 2000000 in
/-- What the backward kernel leaves at a head, from its blocks and the gate gradients `s9`, `s10` it finds (zeros at the first
    head): the three gradients, and the gate gradients with this head's column and lines in place. -/
theorem bwd_body (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (s9 : Rows (F := F)) (s10 : Vec F S4x16x1024 .f32)
    (hs9 : first1 i → k1_pay1 (F := F) = s9) (hs9' : ¬ first1 i → M9.view.read (Elt F) f9 = s9)
    (hs10 : first1 i → k1_pay2 (F := F) = s10) (hs10' : ¬ first1 i → M10.view.read (Elt F) f10 = s10) (E : Set ℕ) (Q : PUnit → sProp 𝕄) :
    iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗
      (iprop(pt c M1 f1 ∗ pt c M2 f2 ∗ pt c M3 f3 ∗ pt c M4 f4 ∗ pt c M5 f5 ∗ pt c M6 f6 ∗ pt c M7 f7 ∗
        (∃ g : Bf (F := F) c M8, ⌜M8.view.read (Elt F) g = outD i (headSrc i (M1.view.read (Elt F) f1) (M2.view.read (Elt F) f2) (M3.view.read (Elt F) f3) (M4.view.read (Elt F) f4) (M5.view.read (Elt F) f5) (M6.view.read (Elt F) f6) (M7.view.read (Elt F) f7)) (accA (headSrc i (M1.view.read (Elt F) f1) (M2.view.read (Elt F) f2) (M3.view.read (Elt F) f3) (M4.view.read (Elt F) f4) (M5.view.read (Elt F) f5) (M6.view.read (Elt F) f6) (M7.view.read (Elt F) f7)) i)⌝ ∗ pt c M8 g) ∗
        (∃ g : Bf (F := F) c M9, ⌜M9.view.read (Elt F) g = steps (finC i (accC (headSrc i (M1.view.read (Elt F) f1) (M2.view.read (Elt F) f2) (M3.view.read (Elt F) f3) (M4.view.read (Elt F) f4) (M5.view.read (Elt F) f5) (M6.view.read (Elt F) f6) (M7.view.read (Elt F) f7)) i)) s9 k1_t5_loop.trips⌝ ∗ pt c M9 g) ∗
        (∃ g : Bf (F := F) c M10, ⌜M10.view.read (Elt F) g = steps (keyG (headSrc i (M1.view.read (Elt F) f1) (M2.view.read (Elt F) f2) (M3.view.read (Elt F) f3) (M4.view.read (Elt F) f4) (M5.view.read (Elt F) f5) (M6.view.read (Elt F) f6) (M7.view.read (Elt F) f7)) i) s10 k1_t2_loop.trips⌝ ∗ pt c M10 g) ∗
        (∃ g : Bf (F := F) c M11, pt c M11 g) ∗ (∃ g : Bf (F := F) c M12, pt c M12 g) ∗ (∃ g : Bf (F := F) c M13, pt c M13 g) ∗ (∃ g : Bf (F := F) c M14, pt c M14 g)) -∗ Q ⟨⟩))
      ⊢ wp frame (wpE (defs₀ (F := F)) Variants.none c none) E (cc1_attn_bwd i M1 h1 M2 h2 M3 h3 M4 h4 M5 h5 M6 h6 M7 h7 M8 h8 M9 h9 M10 h10 M11 h11 M12 h12 M13 h13 M14 h14) Q := by
  simp only [cc1_attn_bwd_eq_skeleton]
  unfold cc1_attn_bwd_skel
  iintro ⟨H1, H2, H3, H4, H5, H6, H7, H8, H9, H10, H11, H12, H13, H14, Hk⟩
  sl_exec
  sl_for (fun n _ => iprop(pt c M4 f4 ∗ pt c M5 f5 ∗ pt c M7 f7 ∗
      (∃ g : Bf (F := F) c M12, ⌜M12.view.read (Elt F) g = steps (prepL i (M7.view.read (Elt F) f7)) (M12.view.read (Elt F) f12) n⌝ ∗ pt c M12 g) ∗
      (∃ g : Bf (F := F) c M13, ⌜M13.view.read (Elt F) g = steps (prepS (M5.view.read (Elt F) f5) (M4.view.read (Elt F) f4)) (M13.view.read (Elt F) f13) n⌝ ∗ pt c M13 g))) $$ [H4 H5 H7 H12 H13]
  case region =>
    intro k u
    iintro ⟨H4, H5, H7, ⟨%g12, %e12, H12⟩, ⟨%g13, %e13, H13⟩⟩
    iapply (trip1 c i M1 h1 M2 h2 M3 h3 M4 h4 M5 h5 M6 h6 M7 h7 M8 h8 M9 h9 M10 h10 M11 h11 M12 h12 M13 h13 M14 h14 _ f4 f5 f7 g12 g13 k u _)
    isplitl [H4]; · iexact H4
    isplitl [H5]; · iexact H5
    isplitl [H7]; · iexact H7
    isplitl [H12]; · iexact H12
    isplitl [H13]; · iexact H13
    iintro ⟨H4, H5, H7, ⟨%d12, %t12, H12⟩, ⟨%d13, %t13, H13⟩⟩
    isplitl [H4]; · iexact H4
    isplitl [H5]; · iexact H5
    isplitl [H7]; · iexact H7
    isplitl [H12]
    · iexists _; isplitr; swap; (· iexact H12); ipureintro
      rw [t12, e12, steps_succ]
    iexists _; isplitr; swap; (· iexact H13); ipureintro
    rw [t13, e13, steps_succ]
  · isplitl [H4]; · iexact H4
    isplitl [H5]; · iexact H5
    isplitl [H7]; · iexact H7
    isplitl [H12]
    · iexists _; isplitr; swap; (· iexact H12); ipureintro
      rfl
    iexists _; isplitr; swap; (· iexact H13); ipureintro
    rfl
  iintro %u ⟨H4, H5, H7, ⟨%g12, %e12, H12⟩, ⟨%g13, %e13, H13⟩⟩
  have hS : srcOf c M1 M2 M3 M5 M6 M12 M13 f1 f2 f3 f5 f6 g12 g13 = (headSrc i (M1.view.read (Elt F) f1) (M2.view.read (Elt F) f2) (M3.view.read (Elt F) f3) (M4.view.read (Elt F) f4) (M5.view.read (Elt F) f5) (M6.view.read (Elt F) f6) (M7.view.read (Elt F) f7)) := by
    show Src.mk _ _ _ _ _ _ _ = Src.mk _ _ _ _ _ _ _
    rw [e12.trans (colL_eq _ _ _), e13.trans (colS_eq _ _ _)]
  sl_exec
  sl_for (fun n _ => iprop(pt c M1 f1 ∗ pt c M2 f2 ∗ pt c M3 f3 ∗ pt c M5 f5 ∗ pt c M6 f6 ∗ pt c M12 g12 ∗ pt c M13 g13 ∗
      (∃ g : Bf (F := F) c M8, ⌜M8.view.read (Elt F) g = steps (keyD (headSrc i (M1.view.read (Elt F) f1) (M2.view.read (Elt F) f2) (M3.view.read (Elt F) f3) (M4.view.read (Elt F) f4) (M5.view.read (Elt F) f5) (M6.view.read (Elt F) f6) (M7.view.read (Elt F) f7)) i) (M8.view.read (Elt F) f8) n⌝ ∗ pt c M8 g) ∗
      (∃ g : Bf (F := F) c M10, ⌜M10.view.read (Elt F) g = steps (keyG (headSrc i (M1.view.read (Elt F) f1) (M2.view.read (Elt F) f2) (M3.view.read (Elt F) f3) (M4.view.read (Elt F) f4) (M5.view.read (Elt F) f5) (M6.view.read (Elt F) f6) (M7.view.read (Elt F) f7)) i) s10 n⌝ ∗ pt c M10 g) ∗
      (∃ g : Bf (F := F) c M11, ⌜M11.view.read (Elt F) g = steps (keyA (headSrc i (M1.view.read (Elt F) f1) (M2.view.read (Elt F) f2) (M3.view.read (Elt F) f3) (M4.view.read (Elt F) f4) (M5.view.read (Elt F) f5) (M6.view.read (Elt F) f6) (M7.view.read (Elt F) f7)) i) k1_pay4 n⌝ ∗ pt c M11 g) ∗
      (∃ g : Bf (F := F) c M14, ⌜M14.view.read (Elt F) g = steps (keyC (headSrc i (M1.view.read (Elt F) f1) (M2.view.read (Elt F) f2) (M3.view.read (Elt F) f3) (M4.view.read (Elt F) f4) (M5.view.read (Elt F) f5) (M6.view.read (Elt F) f6) (M7.view.read (Elt F) f7)) i) k1_pay5 n⌝ ∗ pt c M14 g))) $$ [H1 H2 H3 H5 H6 H12 H13 H8 H10 H11 H14]
  case region =>
    intro k u
    iintro ⟨H1, H2, H3, H5, H6, H12, H13, ⟨%g8, %e8, H8⟩, ⟨%g10, %e10, H10⟩, ⟨%g11, %e11, H11⟩, ⟨%g14, %e14, H14⟩⟩
    iapply (trip2 c i M1 h1 M2 h2 M3 h3 M4 h4 M5 h5 M6 h6 M7 h7 M8 h8 M9 h9 M10 h10 M11 h11 M12 h12 M13 h13 M14 h14 _ f1 f2 f3 f5 f6 g8 g10 g11 g12 g13 g14 _ k u _)
    isplitl [H1]; · iexact H1
    isplitl [H2]; · iexact H2
    isplitl [H3]; · iexact H3
    isplitl [H5]; · iexact H5
    isplitl [H6]; · iexact H6
    isplitl [H8]; · iexact H8
    isplitl [H10]; · iexact H10
    isplitl [H11]; · iexact H11
    isplitl [H12]; · iexact H12
    isplitl [H13]; · iexact H13
    isplitl [H14]; · iexact H14
    rw [hS]
    iintro ⟨H1, H2, H3, H5, H6, H12, H13, ⟨%d8, %t8, H8⟩, ⟨%d10, %t10, H10⟩, ⟨%d11, %t11, H11⟩, ⟨%d14, %t14, H14⟩⟩
    isplitl [H1]; · iexact H1
    isplitl [H2]; · iexact H2
    isplitl [H3]; · iexact H3
    isplitl [H5]; · iexact H5
    isplitl [H6]; · iexact H6
    isplitl [H12]; · iexact H12
    isplitl [H13]; · iexact H13
    isplitl [H8]
    · iexists _; isplitr; swap; (· iexact H8); ipureintro
      rw [t8, e8, steps_succ]
    isplitl [H10]
    · iexists _; isplitr; swap; (· iexact H10); ipureintro
      rw [t10, e10, steps_succ]
    isplitl [H11]
    · iexists _; isplitr; swap; (· iexact H11); ipureintro
      rw [t11, e11, steps_succ]
    iexists _; isplitr; swap; (· iexact H14); ipureintro
    rw [t14, e14, steps_succ]
  · isplitl [H1]; · iexact H1
    isplitl [H2]; · iexact H2
    isplitl [H3]; · iexact H3
    isplitl [H5]; · iexact H5
    isplitl [H6]; · iexact H6
    isplitl [H12]; · iexact H12
    isplitl [H13]; · iexact H13
    isplitl [H8]
    · iexists _; isplitr; swap; (· iexact H8); ipureintro
      rfl
    isplitl [H10]
    · iexists _; isplitr; swap; (· iexact H10); ipureintro
      exact Stores.read_start _ _ _ _ (first1 i) _ (View.read_writes_full _ _ _ _ _) hs10 hs10'
    isplitl [H11]
    · iexists _; isplitr; swap; (· iexact H11); ipureintro
      exact View.read_writes_full _ _ _ _ _
    iexists _; isplitr; swap; (· iexact H14); ipureintro
    exact View.read_writes_full _ _ _ _ _
  iintro %u ⟨H1, H2, H3, H5, H6, H12, H13, ⟨%g8, %e8, H8⟩, ⟨%g10, %e10, H10⟩, ⟨%g11, %e11, H11⟩, ⟨%g14, %e14, H14⟩⟩
  sl_exec
  sl_for (fun n _ => iprop(pt c M11 g11 ∗ pt c M14 g14 ∗
      (∃ g : Bf (F := F) c M8, ⌜M8.view.read (Elt F) g = steps (finD (M11.view.read (Elt F) g11)) (M8.view.read (Elt F) g8) n⌝ ∗ pt c M8 g) ∗
      (∃ g : Bf (F := F) c M9, ⌜M9.view.read (Elt F) g = steps (finC i (M14.view.read (Elt F) g14)) s9 n⌝ ∗ pt c M9 g))) $$ [H11 H14 H8 H9]
  case region =>
    intro k u
    iintro ⟨H11, H14, ⟨%d8, %t8, H8⟩, ⟨%d9, %t9, H9⟩⟩
    iapply (trip5 c i M1 h1 M2 h2 M3 h3 M4 h4 M5 h5 M6 h6 M7 h7 M8 h8 M9 h9 M10 h10 M11 h11 M12 h12 M13 h13 M14 h14 _ d8 d9 g11 g14 k u _)
    isplitl [H8]; · iexact H8
    isplitl [H9]; · iexact H9
    isplitl [H11]; · iexact H11
    isplitl [H14]; · iexact H14
    iintro ⟨H11, H14, ⟨%x8, %u8, H8⟩, ⟨%x9, %u9, H9⟩⟩
    isplitl [H11]; · iexact H11
    isplitl [H14]; · iexact H14
    isplitl [H8]
    · iexists _; isplitr; swap; (· iexact H8); ipureintro
      rw [u8, t8, steps_succ]
    iexists _; isplitr; swap; (· iexact H9); ipureintro
    rw [u9, t9, steps_succ]
  · isplitl [H11]; · iexact H11
    isplitl [H14]; · iexact H14
    isplitl [H8]
    · iexists _; isplitr; swap; (· iexact H8); ipureintro
      rfl
    iexists _; isplitr; swap; (· iexact H9); ipureintro
    exact Stores.read_start _ _ _ _ (first1 i) _ (View.read_writes_full _ _ _ _ _) hs9 hs9'
  iintro %u ⟨H11, H14, ⟨%d8, %t8, H8⟩, ⟨%d9, %t9, H9⟩⟩
  sl_exec
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists _; isplitr; swap; (· iexact H8); ipureintro
    rw [t8, e8, e11]
    exact outD_eq i _ _ _
  isplitl [H9]
  · iexists _; isplitr; swap; (· iexact H9); ipureintro
    rw [t9, e14]
    rfl
  isplitl [H10]
  · iexists _; isplitr; swap; (· iexact H10); ipureintro
    exact e10
  isplitl [H11]; · iexists _; iexact H11
  isplitl [H12]; · iexists _; iexact H12
  isplitl [H13]; · iexists _; iexact H13
  iexists _; iexact H14

end

end Cert.AttnIdeal.Body

end
-- ==== Proof.AttnRun.lean ====
/- The attention's two calls, head by head: what each head finds in its windows and what it leaves there. -/
module

public import proofs.«01_k».proof.Proof.Calls
public import proofs.«01_k».proof.Proof.Stores
public import proofs.«01_k».proof.Proof.AttnBwdAll
public import proofs.«01_k».proof.Proof.Gen.AttnIdeal.Regions
public import proofs.«01_k».proof.Proof.Steps
public import proofs.«01_k».proof.Proof.Gen.AttnIdeal.Skeleton
public import proofs.«01_k».proof.Proof.Gen.AttnIdeal.Launch
public import proofs.«01_k».proof.Proof.Gen.AttnIdeal.Points
public import Idealize.ShloMosaic.Lib.Pipeline.Value
public import Idealize.ShloMosaic.Lib.Tactic
public import Idealize.ShloMosaic.Lib.Tactic.Stretches
public import Idealize.ShloMosaic.Lib.VecWindow
public import Idealize.ShloMosaic.Lib.Pipeline.FrameBody
public import Idealize.ShloMosaic.Lib.LoopRemainder

@[expose] public section

set_option maxRecDepth 16384

noncomputable section

namespace Cert.AttnIdeal.Body

open Cert.AttnIdeal Cert.AttnIdeal.Gen Cert.Steps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : Dev nD → Valuation τ sig (Elt F))

/-- Window `w`'s block at point `t` of the first call, at the valuation the call is entered with. -/
def blk0 (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

/-- The log-sums before head `n` of the first call. -/
def lseAt (c : Dev nD) : ℕ → Vec F S4096x128 .f32
  | 0 => k0_pay1 (F := F)
  | n + 1 => if h : n < cfg0.N then stack (lBlk (grid0.coords ⟨n, h⟩) (blk0 V c 0 ⟨n, h⟩) (blk0 V c 1 ⟨n, h⟩) (blk0 V c 2 ⟨n, h⟩) (blk0 V c 3 ⟨n, h⟩) (lseAt c n)) else lseAt c n

theorem lseAt_succ (c : Dev nD) (t : Fin cfg0.N) :
    lseAt V c (t.val + 1) = stack (lBlk (grid0.coords t) (blk0 V c 0 t) (blk0 V c 1 t) (blk0 V c 2 t) (blk0 V c 3 t) (lseAt V c t.val)) := dif_pos t.isLt

/-- The first call's proof data. -/
def dat0 (c : Dev nD) : Dat τ (Elt F) Unit ℕ (UR sig nD τ) ℕ cfg0 c where
  A w := V c (Proc.devRef .tc (Pipeline.arrRef spec0 w))
  after w t := match w with
    | ⟨0, _⟩ => blk0 V c 0 t
    | ⟨1, _⟩ => blk0 V c 1 t
    | ⟨2, _⟩ => blk0 V c 2 t
    | ⟨3, _⟩ => blk0 V c 3 t
    | ⟨4, _⟩ => stack (oBlk (grid0.coords t) (blk0 V c 0 t) (blk0 V c 1 t) (blk0 V c 2 t) (blk0 V c 3 t))
    | ⟨5, _⟩ => lseAt V c (t.val + 1)
  Φ _ := Pipeline.scopedRest spec0 c
  q w := Pipeline.shareOf spec0 w
  owed _ := 0

theorem first0_iff : ∀ t : Fin cfg0.N, first0 (grid0.coords t) ↔ t.val = 0 :=
  (by decide +kernel : ∀ t : Fin grid0.N, first0 (grid0.coords t) ↔ t.val = 0)

theorem before0_0 (c : Dev nD) (t : Fin cfg0.N) (d) : (dat0 V c).before 0 t d = blk0 V c 0 t :=
  (dat0 V c).before_in_eq_fetched 0 rfl (fun _ => rfl) (fun _ _ _ => rfl) (fun _ => rfl) t d
theorem before0_1 (c : Dev nD) (t : Fin cfg0.N) (d) : (dat0 V c).before 1 t d = blk0 V c 1 t :=
  (dat0 V c).before_in_eq_fetched 1 rfl (fun _ => rfl) (fun _ _ _ => rfl) (fun _ => rfl) t d
theorem before0_2 (c : Dev nD) (t : Fin cfg0.N) (d) : (dat0 V c).before 2 t d = blk0 V c 2 t :=
  (dat0 V c).before_in_eq_fetched 2 rfl (fun _ => rfl) (fun _ _ _ => rfl) (fun _ => rfl) t d
theorem before0_3 (c : Dev nD) (t : Fin cfg0.N) (d) : (dat0 V c).before 3 t d = blk0 V c 3 t :=
  (dat0 V c).before_in_eq_fetched 3 rfl (fun _ => rfl) (fun _ _ _ => rfl) (fun _ => rfl) t d
theorem before0_5 (c : Dev nD) (t : Fin cfg0.N) (ht : t.val ≠ 0) (d) : (dat0 V c).before 5 t d = lseAt V c t.val := by
  have hN : t.val < 16 := t.isLt
  rw [(dat0 V c).before_out_kept 5 rfl t ht ?_ (fun _ => rfl) (fun _ _ => rfl) d]
  · show lseAt V c (t.val - 1 + 1) = _
    rw [Nat.sub_add_cancel (Nat.pos_of_ne_zero ht)]
  · rw [← Bool.not_eq_true, flush0_5]
    show ¬ (t.val - 1) % 16 = 15
    omega

/-- The first call's body keeps to `dat0`. -/
theorem body0 (c : Dev nD) : BodyObligation (dat0 V c) (defs₀ (F := F)) Variants.none () Set.univ := fun t => by
  rw [bigSep_W0, bigSep_W0]
  have hw := fun w => stage_whole0 w (cfg0.slots t w)
  simp only [Calls.owns_of_whole c (hw 0), Calls.owns_of_whole c (hw 1), Calls.owns_of_whole c (hw 2), Calls.owns_of_whole c (hw 3), Calls.owns_of_whole c (hw 4), Calls.owns_of_whole c (hw 5)]
  rw [show (dat0 V c).Φ t.castSucc = Pipeline.scopedRest spec0 c from rfl, show (dat0 V c).Φ t.succ = Pipeline.scopedRest spec0 c from rfl,
    show (dat0 V c).owesAt () t.succ = (dat0 V c).owesAt () t.castSucc from rfl]
  iintro ⟨HΦ, Howes, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩⟩
  rw [before0_0] at hf0
  rw [before0_1] at hf1
  rw [before0_2] at hf2
  rw [before0_3] at hf3
  iapply (fwd_body c (grid0.coords t) (st0_0 t) _ (st0_1 t) _ (st0_2 t) _ (st0_3 t) _ (st0_4 t) _ (st0_5 t) _ f0 f1 f2 f3 f4 f5
    (lseAt V c t.val) (fun h => by rw [(first0_iff t).mp h]; rfl) (fun h => hf5.trans (before0_5 V c t (fun h0 => h ((first0_iff t).mpr h0)) d5)) Set.univ _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, ⟨%g4, %h4, H4⟩, ⟨%g5, %h5, H5⟩⟩
  rw [hf0, hf1, hf2, hf3] at h4 h5
  isplitl [HΦ]; · iexact HΦ
  isplitl [Howes]; · iexact Howes
  isplitl [H0]; · iexists _; isplitr; swap; (· iexact H0); ipureintro; exact hf0
  isplitl [H1]; · iexists _; isplitr; swap; (· iexact H1); ipureintro; exact hf1
  isplitl [H2]; · iexists _; isplitr; swap; (· iexact H2); ipureintro; exact hf2
  isplitl [H3]; · iexists _; isplitr; swap; (· iexact H3); ipureintro; exact hf3
  isplitl [H4]; · iexists _; isplitr; swap; (· iexact H4); ipureintro; exact h4
  iexists _; isplitr; swap; (· iexact H5); ipureintro; exact h5.trans (lseAt_succ V c t).symm

/-- Window `w`'s block at point `t` of the second call, at the valuation the call is entered with. -/
def blk1 (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

/-- The operands of head `t`'s key blocks. -/
def srcAt (c : Dev nD) (t : Fin cfg1.N) : Src F := headSrc (grid1.coords t) (blk1 V c 0 t) (blk1 V c 1 t) (blk1 V c 2 t) (blk1 V c 3 t) (blk1 V c 4 t) (blk1 V c 5 t) (blk1 V c 6 t)

/-- The query side's gate gradients before head `n` of the second call. -/
def dfqAt (c : Dev nD) : ℕ → Vec F S4096x128 .f32
  | 0 => k1_pay1 (F := F)
  | n + 1 => if h : n < cfg1.N then steps (finC (grid1.coords ⟨n, h⟩) (accC (srcAt V c ⟨n, h⟩) (grid1.coords ⟨n, h⟩))) (dfqAt c n) k1_t5_loop.trips else dfqAt c n

theorem dfqAt_succ (c : Dev nD) (t : Fin cfg1.N) :
    dfqAt V c (t.val + 1) = steps (finC (grid1.coords t) (accC (srcAt V c t) (grid1.coords t))) (dfqAt V c t.val) k1_t5_loop.trips := dif_pos t.isLt

/-- The key side's gate gradients before head `n` of the second call. -/
def dfkAt (c : Dev nD) : ℕ → Vec F S4x16x1024 .f32
  | 0 => k1_pay2 (F := F)
  | n + 1 => if h : n < cfg1.N then steps (keyG (srcAt V c ⟨n, h⟩) (grid1.coords ⟨n, h⟩)) (dfkAt c n) k1_t2_loop.trips else dfkAt c n

theorem dfkAt_succ (c : Dev nD) (t : Fin cfg1.N) :
    dfkAt V c (t.val + 1) = steps (keyG (srcAt V c t) (grid1.coords t)) (dfkAt V c t.val) k1_t2_loop.trips := dif_pos t.isLt

/-- Between heads of the second call: its scratch buffers, and the other scoped ones, at something. -/
def inv1 (c : Dev nD) : sProp 𝕄 :=
  iprop(((∃ g : Buf (Elt F) ((c : Thread nD τ).loc cc1_scratch0), ((c : Thread nD τ).loc cc1_scratch0) ↦{fullShare} g) ∗ (∃ g : Buf (Elt F) ((c : Thread nD τ).loc cc1_scratch1), ((c : Thread nD τ).loc cc1_scratch1) ↦{fullShare} g) ∗ (∃ g : Buf (Elt F) ((c : Thread nD τ).loc cc1_scratch2), ((c : Thread nD τ).loc cc1_scratch2) ↦{fullShare} g) ∗ (∃ g : Buf (Elt F) ((c : Thread nD τ).loc cc1_scratch3), ((c : Thread nD τ).loc cc1_scratch3) ↦{fullShare} g)) ∗
    Pipeline.scopedRestBut spec1 c [cc1_scratch0, cc1_scratch1, cc1_scratch2, cc1_scratch3])

/-- The second call's proof data. -/
def dat1 (c : Dev nD) : Dat τ (Elt F) Unit ℕ (UR sig nD τ) ℕ cfg1 c where
  A w := V c (Proc.devRef .tc (Pipeline.arrRef spec1 w))
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => outD (grid1.coords t) (srcAt V c t) (accA (srcAt V c t) (grid1.coords t))
    | ⟨8, _⟩ => dfqAt V c (t.val + 1)
    | ⟨9, _⟩ => dfkAt V c (t.val + 1)
  Φ _ := inv1 c
  q w := Pipeline.shareOf spec1 w
  owed _ := 0

theorem first1_iff : ∀ t : Fin cfg1.N, first1 (grid1.coords t) ↔ t.val = 0 :=
  (by decide +kernel : ∀ t : Fin grid1.N, first1 (grid1.coords t) ↔ t.val = 0)

theorem before1_0 (c : Dev nD) (t : Fin cfg1.N) (d) : (dat1 V c).before 0 t d = blk1 V c 0 t :=
  (dat1 V c).before_in_eq_fetched 0 rfl (fun _ => rfl) (fun _ _ _ => rfl) (fun _ => rfl) t d
theorem before1_1 (c : Dev nD) (t : Fin cfg1.N) (d) : (dat1 V c).before 1 t d = blk1 V c 1 t :=
  (dat1 V c).before_in_eq_fetched 1 rfl (fun _ => rfl) (fun _ _ _ => rfl) (fun _ => rfl) t d
theorem before1_2 (c : Dev nD) (t : Fin cfg1.N) (d) : (dat1 V c).before 2 t d = blk1 V c 2 t :=
  (dat1 V c).before_in_eq_fetched 2 rfl (fun _ => rfl) (fun _ _ _ => rfl) (fun _ => rfl) t d
theorem before1_3 (c : Dev nD) (t : Fin cfg1.N) (d) : (dat1 V c).before 3 t d = blk1 V c 3 t :=
  (dat1 V c).before_in_eq_fetched 3 rfl (fun _ => rfl) (fun _ _ _ => rfl) (fun _ => rfl) t d
theorem before1_4 (c : Dev nD) (t : Fin cfg1.N) (d) : (dat1 V c).before 4 t d = blk1 V c 4 t :=
  (dat1 V c).before_in_eq_fetched 4 rfl (fun _ => rfl) (fun _ _ _ => rfl) (fun _ => rfl) t d
theorem before1_5 (c : Dev nD) (t : Fin cfg1.N) (d) : (dat1 V c).before 5 t d = blk1 V c 5 t :=
  (dat1 V c).before_in_eq_fetched 5 rfl (fun _ => rfl) (fun _ _ _ => rfl) (fun _ => rfl) t d
theorem before1_6 (c : Dev nD) (t : Fin cfg1.N) (d) : (dat1 V c).before 6 t d = blk1 V c 6 t :=
  (dat1 V c).before_in_eq_fetched 6 rfl (fun _ => rfl) (fun _ _ _ => rfl) (fun _ => rfl) t d
theorem before1_8 (c : Dev nD) (t : Fin cfg1.N) (ht : t.val ≠ 0) (d) : (dat1 V c).before 8 t d = dfqAt V c t.val := by
  have hN : t.val < 16 := t.isLt
  rw [(dat1 V c).before_out_kept 8 rfl t ht ?_ (fun _ => rfl) (fun _ _ => rfl) d]
  · show dfqAt V c (t.val - 1 + 1) = _
    rw [Nat.sub_add_cancel (Nat.pos_of_ne_zero ht)]
  · rw [← Bool.not_eq_true, flush1_8]
    show ¬ (t.val - 1) % 16 = 15
    omega
theorem before1_9 (c : Dev nD) (t : Fin cfg1.N) (ht : t.val ≠ 0) (d) : (dat1 V c).before 9 t d = dfkAt V c t.val := by
  have hN : t.val < 16 := t.isLt
  rw [(dat1 V c).before_out_kept 9 rfl t ht ?_ (fun _ => rfl) (fun _ _ => rfl) d]
  · show dfkAt V c (t.val - 1 + 1) = _
    rw [Nat.sub_add_cancel (Nat.pos_of_ne_zero ht)]
  · rw [← Bool.not_eq_true, flush1_9]
    show ¬ (t.val - 1) % 16 = 15
    omega

set_option maxHeartbeats 4000000 in
/-- The second call's body keeps to `dat1`. -/
theorem body1 (c : Dev nD) : BodyObligation (dat1 V c) (defs₀ (F := F)) Variants.none () Set.univ := fun t => by
  rw [bigSep_W1, bigSep_W1]
  have hw := fun w => stage_whole1 w (cfg1.slots t w)
  simp only [Calls.owns_of_whole c (hw 0), Calls.owns_of_whole c (hw 1), Calls.owns_of_whole c (hw 2), Calls.owns_of_whole c (hw 3), Calls.owns_of_whole c (hw 4), Calls.owns_of_whole c (hw 5), Calls.owns_of_whole c (hw 6), Calls.owns_of_whole c (hw 7), Calls.owns_of_whole c (hw 8), Calls.owns_of_whole c (hw 9)]
  rw [show (dat1 V c).Φ t.castSucc = inv1 c from rfl, show (dat1 V c).Φ t.succ = inv1 c from rfl,
    show (dat1 V c).owesAt () t.succ = (dat1 V c).owesAt () t.castSucc from rfl]
  unfold inv1
  iintro ⟨⟨⟨⟨%x0, X0⟩, ⟨%x1, X1⟩, ⟨%x2, X2⟩, ⟨%x3, X3⟩⟩, HΦ⟩, Howes, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, %hf9, H9⟩⟩
  rw [before1_0] at hf0
  rw [before1_1] at hf1
  rw [before1_2] at hf2
  rw [before1_3] at hf3
  rw [before1_4] at hf4
  rw [before1_5] at hf5
  rw [before1_6] at hf6
  iapply (bwd_body c (grid1.coords t) (st1_0 t) _ (st1_1 t) _ (st1_2 t) _ (st1_3 t) _ (st1_4 t) _ (st1_5 t) _ (st1_6 t) _ (st1_7 t) _ (st1_8 t) _ (st1_9 t) _ (Memref.whole cc1_scratch0) _ (Memref.whole cc1_scratch1) _ (Memref.whole cc1_scratch2) _ (Memref.whole cc1_scratch3) _
    f0 f1 f2 f3 f4 f5 f6 f7 f8 f9 x0 x1 x2 x3 (dfqAt V c t.val) (dfkAt V c t.val)
    (fun h => by rw [(first1_iff t).mp h]; rfl) (fun h => hf8.trans (before1_8 V c t (fun h0 => h ((first1_iff t).mpr h0)) d8))
    (fun h => by rw [(first1_iff t).mp h]; rfl) (fun h => hf9.trans (before1_9 V c t (fun h0 => h ((first1_iff t).mpr h0)) d9)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [X0]; · iexact X0
  isplitl [X1]; · iexact X1
  isplitl [X2]; · iexact X2
  isplitl [X3]; · iexact X3
  iintro ⟨H0, H1, H2, H3, H4, H5, H6, ⟨%g7, %h7, H7⟩, ⟨%g8, %h8, H8⟩, ⟨%g9, %h9, H9⟩, ⟨%y0, X0⟩, ⟨%y1, X1⟩, ⟨%y2, X2⟩, ⟨%y3, X3⟩⟩
  rw [hf0, hf1, hf2, hf3, hf4, hf5, hf6] at h7 h8 h9
  isplitl [HΦ X0 X1 X2 X3]
  · isplitl [X0 X1 X2 X3]
    · isplitl [X0]; · iexists y0; iexact X0
      isplitl [X1]; · iexists y1; iexact X1
      isplitl [X2]; · iexists y2; iexact X2
      iexists y3; iexact X3
    iexact HΦ
  isplitl [Howes]; · iexact Howes
  isplitl [H0]; · iexists _; isplitr; swap; (· iexact H0); ipureintro; exact hf0
  isplitl [H1]; · iexists _; isplitr; swap; (· iexact H1); ipureintro; exact hf1
  isplitl [H2]; · iexists _; isplitr; swap; (· iexact H2); ipureintro; exact hf2
  isplitl [H3]; · iexists _; isplitr; swap; (· iexact H3); ipureintro; exact hf3
  isplitl [H4]; · iexists _; isplitr; swap; (· iexact H4); ipureintro; exact hf4
  isplitl [H5]; · iexists _; isplitr; swap; (· iexact H5); ipureintro; exact hf5
  isplitl [H6]; · iexists _; isplitr; swap; (· iexact H6); ipureintro; exact hf6
  isplitl [H7]; · iexists _; isplitr; swap; (· iexact H7); ipureintro; exact h7
  isplitl [H8]; · iexists _; isplitr; swap; (· iexact H8); ipureintro; exact h8.trans (dfqAt_succ V c t).symm
  iexists _; isplitr; swap; (· iexact H9); ipureintro; exact h9.trans (dfkAt_succ V c t).symm

/-! ## The scratch of the second call among the other scoped buffers -/

theorem scoped1 (c : Dev nD) : (Pipeline.scopedRest spec1 c : sProp 𝕄) = inv1 c := by
  rw [Pipeline.scopedRest_split_of_list spec1 c [cc1_scratch0, cc1_scratch1, cc1_scratch2, cc1_scratch3] (by decide) (by decide)]
  rfl

end Cert.AttnIdeal.Body

end
-- ==== Proof.AttnAll.lean ====
/- The attention's program run: the two calls' records, the list of its host stretches and calls, and what every unscoped
   buffer holds at the end. -/
module

public import proofs.«01_k».proof.Proof.Calls
public import proofs.«01_k».proof.Proof.Stores
public import proofs.«01_k».proof.Proof.AttnRun
public import proofs.«01_k».proof.Proof.Gen.AttnIdeal.Regions
public import proofs.«01_k».proof.Proof.Steps
public import proofs.«01_k».proof.Proof.Gen.AttnIdeal.Skeleton
public import proofs.«01_k».proof.Proof.Gen.AttnIdeal.Launch
public import proofs.«01_k».proof.Proof.Gen.AttnIdeal.Points
public import Idealize.ShloMosaic.Lib.Pipeline.Value
public import Idealize.ShloMosaic.Lib.Tactic
public import Idealize.ShloMosaic.Lib.Tactic.Stretches
public import Idealize.ShloMosaic.Lib.VecWindow
public import Idealize.ShloMosaic.Lib.Pipeline.FrameBody
public import Idealize.ShloMosaic.Lib.LoopRemainder

@[expose] public section

set_option maxRecDepth 16384

noncomputable section

namespace Cert.AttnIdeal.Body

open Cert.AttnIdeal Cert.AttnIdeal.Gen Cert.Steps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-- The buffers after the first call: its two results, the others as they were. -/
def after0 (c : Dev nD) : Valuation τ sig (Elt F) :=
  Function.update (Function.update (V3 m c) main_v4_0 ((dat0 (V3 m) c).arrAt 4 cfg0.N)) main_v4_1 ((dat0 (V3 m) c).arrAt 5 cfg0.N)

/-- The contents the first call leaves. -/
def outs0 : Outs (F := F) := fun _ r c => after0 m c (Proc.devRef .tc r)

/-- The buffers the second call is entered with. -/
abbrev enter1 (c : Dev nD) : Valuation τ sig (Elt F) := V4 m (outs0 m) c

/-- The buffers after the second call. -/
def after1 (c : Dev nD) : Valuation τ sig (Elt F) :=
  Function.update (Function.update (Function.update (enter1 m c) main_v5_0 ((dat1 (enter1 m) c).arrAt 7 cfg1.N)) main_v5_1 ((dat1 (enter1 m) c).arrAt 8 cfg1.N)) main_v5_2 ((dat1 (enter1 m) c).arrAt 9 cfg1.N)

/-- The contents both calls leave. -/
def outs : Outs (F := F) := fun J r c =>
  if J = 5 then after1 m c (Proc.devRef .tc r) else after0 m c (Proc.devRef .tc r)

theorem outs_4 (r : Ref sig .tc) (c : Dev nD) : outs m 4 r c = after0 m c (Proc.devRef .tc r) := if_neg (by decide)
theorem outs0_4 (r : Ref sig .tc) (c : Dev nD) : outs0 m 4 r c = after0 m c (Proc.devRef .tc r) := by unfold outs0; exact Eq.refl _
theorem outs_5 (r : Ref sig .tc) (c : Dev nD) : outs m 5 r c = after1 m c (Proc.devRef .tc r) := if_pos (Eq.refl 5)

/-- Both calls' proof data. -/
def pdats : (p : Fin 2) → (c : Dev nD) → Dat τ (Elt F) Unit ℕ (UR sig nD τ) ℕ (cfgs p) c
  | ⟨0, _⟩, c => dat0 (V3 m) c
  | ⟨1, _⟩, c => dat1 (enter1 m) c

theorem V4_outs (c : Dev nD) : V4 m (outs m) c = enter1 m c := by
  show Function.update (Function.update (V3 m c) main_v4_0 (outs m 4 main_v4_0 c)) main_v4_1 (outs m 4 main_v4_1 c)
    = Function.update (Function.update (V3 m c) main_v4_0 (outs0 m 4 main_v4_0 c)) main_v4_1 (outs0 m 4 main_v4_1 c)
  rw [outs_4, outs_4, outs0_4, outs0_4]

theorem V4_0 (c : Dev nD) : V4 m (outs m) c main_v4_0 = (dat0 (V3 m) c).arrAt 4 cfg0.N := by
  show Function.update (Function.update (V3 m c) main_v4_0 (outs m 4 main_v4_0 c)) main_v4_1 (outs m 4 main_v4_1 c) main_v4_0 = _
  rw [Function.update_of_ne (by decide), Function.update_self, outs_4]
  unfold after0
  show Function.update (Function.update (V3 m c) main_v4_0 ((dat0 (V3 m) c).arrAt 4 cfg0.N)) main_v4_1 ((dat0 (V3 m) c).arrAt 5 cfg0.N) main_v4_0 = _
  rw [Function.update_of_ne (by decide), Function.update_self]
theorem V4_1 (c : Dev nD) : V4 m (outs m) c main_v4_1 = (dat0 (V3 m) c).arrAt 5 cfg0.N := by
  show Function.update (Function.update (V3 m c) main_v4_0 (outs m 4 main_v4_0 c)) main_v4_1 (outs m 4 main_v4_1 c) main_v4_1 = _
  rw [Function.update_self, outs_4]
  unfold after0
  show Function.update (Function.update (V3 m c) main_v4_0 ((dat0 (V3 m) c).arrAt 4 cfg0.N)) main_v4_1 ((dat0 (V3 m) c).arrAt 5 cfg0.N) main_v4_1 = _
  rw [Function.update_self]
theorem V5_0 (c : Dev nD) : V5 m (outs m) c main_v5_0 = (dat1 (enter1 m) c).arrAt 7 cfg1.N := by
  show Function.update (Function.update (Function.update (V4 m (outs m) c) main_v5_0 (outs m 5 main_v5_0 c)) main_v5_1 (outs m 5 main_v5_1 c)) main_v5_2 (outs m 5 main_v5_2 c) main_v5_0 = _
  rw [Function.update_of_ne (by decide), Function.update_of_ne (by decide), Function.update_self, outs_5]
  unfold after1
  show Function.update (Function.update (Function.update (enter1 m c) main_v5_0 ((dat1 (enter1 m) c).arrAt 7 cfg1.N)) main_v5_1 ((dat1 (enter1 m) c).arrAt 8 cfg1.N)) main_v5_2 ((dat1 (enter1 m) c).arrAt 9 cfg1.N) main_v5_0 = _
  rw [Function.update_of_ne (by decide), Function.update_of_ne (by decide), Function.update_self]
theorem V5_1 (c : Dev nD) : V5 m (outs m) c main_v5_1 = (dat1 (enter1 m) c).arrAt 8 cfg1.N := by
  show Function.update (Function.update (Function.update (V4 m (outs m) c) main_v5_0 (outs m 5 main_v5_0 c)) main_v5_1 (outs m 5 main_v5_1 c)) main_v5_2 (outs m 5 main_v5_2 c) main_v5_1 = _
  rw [Function.update_of_ne (by decide), Function.update_self, outs_5]
  unfold after1
  show Function.update (Function.update (Function.update (enter1 m c) main_v5_0 ((dat1 (enter1 m) c).arrAt 7 cfg1.N)) main_v5_1 ((dat1 (enter1 m) c).arrAt 8 cfg1.N)) main_v5_2 ((dat1 (enter1 m) c).arrAt 9 cfg1.N) main_v5_1 = _
  rw [Function.update_of_ne (by decide), Function.update_self]
theorem V5_2 (c : Dev nD) : V5 m (outs m) c main_v5_2 = (dat1 (enter1 m) c).arrAt 9 cfg1.N := by
  show Function.update (Function.update (Function.update (V4 m (outs m) c) main_v5_0 (outs m 5 main_v5_0 c)) main_v5_1 (outs m 5 main_v5_1 c)) main_v5_2 (outs m 5 main_v5_2 c) main_v5_2 = _
  rw [Function.update_self, outs_5]
  unfold after1
  show Function.update (Function.update (Function.update (enter1 m c) main_v5_0 ((dat1 (enter1 m) c).arrAt 7 cfg1.N)) main_v5_1 ((dat1 (enter1 m) c).arrAt 8 cfg1.N)) main_v5_2 ((dat1 (enter1 m) c).arrAt 9 cfg1.N) main_v5_2 = _
  rw [Function.update_self]

theorem results0 : ∀ b ∈ ([main_v4_0, main_v4_1] : List (Ref sig .tc)), b ∈ Finset.univ.image (Pipeline.arrRef spec0) := by decide
theorem results1 : ∀ b ∈ ([main_v5_0, main_v5_1, main_v5_2] : List (Ref sig .tc)), b ∈ Finset.univ.image (Pipeline.arrRef spec1) := by decide

theorem entered0 (V : Dev nD → Valuation τ sig (Elt F)) (c : Dev nD) (w : Fin cfg0.W) :
    (dat0 V c).A w = V c (Proc.devRef .tc (Pipeline.arrRef (Pipeline.pin pcfgs (adm (F := F)) 0).spec w)) := rfl
theorem entered1 (V : Dev nD → Valuation τ sig (Elt F)) (c : Dev nD) (w : Fin cfg1.W) :
    (dat1 V c).A w = V c (Proc.devRef .tc (Pipeline.arrRef (Pipeline.pin pcfgs (adm (F := F)) 1).spec w)) := rfl

/-- The first call's record. -/
def region0 : Pipeline.RegionSeg (pcfgs (F := F)) adm (pdats m) () defs₀ Variants.none Calls.lev Calls.lvl 0 :=
  Calls.region (pcfgs (F := F)) adm (pdats m) defs₀ 0 (launch₀0.toP) rfl (fun c => (body0 (V3 m) c).loose)
    (fun _ _ => rfl) (fun _ => rfl) (fun _ _ _ => rfl)
    (fun c => by show Pipeline.scopedRest spec0 c ⊢ Pipeline.scopedRest spec0 c; exact .rfl)
    (fun c => by show Pipeline.scopedRest spec0 c ⊢ Pipeline.scopedRest spec0 c; exact .rfl) (V3 m) (V4 m (outs m))
    (entered0 (V3 m))
    (fun c w => by
      fin_cases w
      · exact ((dat0 (V3 m) c).arrAt_in 0 rfl _).trans (V4_of m (outs m) c (Pipeline.arrRef spec0 0) (by decide)).symm
      · exact ((dat0 (V3 m) c).arrAt_in 1 rfl _).trans (V4_of m (outs m) c (Pipeline.arrRef spec0 1) (by decide)).symm
      · exact ((dat0 (V3 m) c).arrAt_in 2 rfl _).trans (V4_of m (outs m) c (Pipeline.arrRef spec0 2) (by decide)).symm
      · exact ((dat0 (V3 m) c).arrAt_in 3 rfl _).trans (V4_of m (outs m) c (Pipeline.arrRef spec0 3) (by decide)).symm
      · exact (V4_0 m c).symm
      · exact (V4_1 m c).symm)
    (fun c b hb => V4_of m (outs m) c b fun h => hb (results0 b h))

/-- The second call's record. -/
def region1 : Pipeline.RegionSeg (pcfgs (F := F)) adm (pdats m) () defs₀ Variants.none Calls.lev Calls.lvl 1 :=
  Calls.region (pcfgs (F := F)) adm (pdats m) defs₀ 1 (launch₀1.toP) rfl (fun c => (body1 (enter1 m) c).loose)
    (fun _ _ => rfl) (fun _ => rfl) (fun _ _ _ => rfl)
    (fun c => by show Pipeline.scopedRest spec1 c ⊢ inv1 c; rw [scoped1])
    (fun c => by show inv1 c ⊢ Pipeline.scopedRest spec1 c; rw [scoped1]) (enter1 m) (V5 m (outs m))
    (entered1 (enter1 m))
    (fun c w => by
      fin_cases w
      · exact ((dat1 (enter1 m) c).arrAt_in 0 rfl _).trans ((V5_of m (outs m) c (Pipeline.arrRef spec1 0) (by decide)).trans (congrFun (V4_outs m c) _)).symm
      · exact ((dat1 (enter1 m) c).arrAt_in 1 rfl _).trans ((V5_of m (outs m) c (Pipeline.arrRef spec1 1) (by decide)).trans (congrFun (V4_outs m c) _)).symm
      · exact ((dat1 (enter1 m) c).arrAt_in 2 rfl _).trans ((V5_of m (outs m) c (Pipeline.arrRef spec1 2) (by decide)).trans (congrFun (V4_outs m c) _)).symm
      · exact ((dat1 (enter1 m) c).arrAt_in 3 rfl _).trans ((V5_of m (outs m) c (Pipeline.arrRef spec1 3) (by decide)).trans (congrFun (V4_outs m c) _)).symm
      · exact ((dat1 (enter1 m) c).arrAt_in 4 rfl _).trans ((V5_of m (outs m) c (Pipeline.arrRef spec1 4) (by decide)).trans (congrFun (V4_outs m c) _)).symm
      · exact ((dat1 (enter1 m) c).arrAt_in 5 rfl _).trans ((V5_of m (outs m) c (Pipeline.arrRef spec1 5) (by decide)).trans (congrFun (V4_outs m c) _)).symm
      · exact ((dat1 (enter1 m) c).arrAt_in 6 rfl _).trans ((V5_of m (outs m) c (Pipeline.arrRef spec1 6) (by decide)).trans (congrFun (V4_outs m c) _)).symm
      · exact (V5_0 m c).symm
      · exact (V5_1 m c).symm
      · exact (V5_2 m c).symm)
    (fun c b hb => (V5_of m (outs m) c b fun h => hb (results1 b h)).trans (congrFun (V4_outs m c) _))

set_option backward.isDefEq.respectTransparency.types false in
/-- The program ends with every unscoped buffer at the last valuation and every counter at zero. -/
theorem run (ρ : Dev nD → PrngReg) :
    θ_run defs (onTc (τ := τ) (main (F := F))) ⟨m, fun _ => 0, ρ⟩ (fun r =>
      (∀ c : Dev nD, ∀ b ∈ Pipeline.ucRefs τ sig, r.2.mem (c, b) = V5 m (outs m) c b) ∧ r.2.sem = fun _ => 0) := by
  refine Calls.run (pcfgs (F := F)) adm (pdats m) defs₀ cellOf_inj m ρ main
    (segs m Variants.none Calls.lev Calls.lvl (fun _ => Calls.due) () (pdats m) (region0 m) (region1 m))
    (fun c => by
      rewrite [main_chain c, Pipeline.Seg.run_eq_chain,
        show (segs m Variants.none Calls.lev Calls.lvl (fun _ => Calls.due) () (pdats m) (region0 m) (region1 m) c).map Pipeline.Seg.prog = [
          StableHlo.seq hostOps0,
          StableHlo.seq hostOps0_1,
          StableHlo.seq hostOps0_2,
          Prog.lift (.customCall (Pipeline.entry 0) ()),
          Prog.lift (.customCall (Pipeline.entry 1) ()) ] from rfl]
      rfl)
    (fun c => by simp only [segs, Pipeline.Seg.pipes_host, Pipeline.Seg.pipes_region, Pipeline.Seg.pipes_nil]; decide)
    (V5 m (outs m))
    (fun c => ⟨.rfl, .rfl, .rfl, .rfl, by
      show iprop(StableHlo.held (c : Thread nD τ) (Pipeline.ucRefs τ sig) (V4 m (outs m) c) ∗ Calls.due c) ⊢ (region1 m).pre c
      rw [V4_outs]
      exact .rfl, .rfl⟩)
    regions_no_unscoped

/-- The run leaves both calls' results and keeps the arguments. -/
theorem run_results (ρ : Dev nD → PrngReg) :
    θ_run defs (onTc (τ := τ) (main (F := F))) ⟨m, fun _ => 0, ρ⟩ (fun r => (∀ c : Dev nD,
      r.2.mem ((c.tc : Thread nD τ).loc main_v5_0) = (dat1 (enter1 m) c).arrAt 7 cfg1.N
       ∧ r.2.mem ((c.tc : Thread nD τ).loc main_v5_1) = (dat1 (enter1 m) c).arrAt 8 cfg1.N
       ∧ r.2.mem ((c.tc : Thread nD τ).loc main_v5_2) = (dat1 (enter1 m) c).arrAt 9 cfg1.N
       ∧ r.2.mem ((c.tc : Thread nD τ).loc main_v4_0) = (dat0 (V3 m) c).arrAt 4 cfg0.N
       ∧ r.2.mem ((c.tc : Thread nD τ).loc main_v4_1) = (dat0 (V3 m) c).arrAt 5 cfg0.N
      ∧ r.2.mem ((c.tc : Thread nD τ).loc main_arg0) = m ((c.tc : Thread nD τ).loc main_arg0)
       ∧ r.2.mem ((c.tc : Thread nD τ).loc main_arg1) = m ((c.tc : Thread nD τ).loc main_arg1)
       ∧ r.2.mem ((c.tc : Thread nD τ).loc main_arg2) = m ((c.tc : Thread nD τ).loc main_arg2))
      ∧ r.2.sem = fun _ => 0) := by
  refine (θ_run _ _ _).mono (fun r hr => ⟨fun c => ?_, hr.2⟩) (run m ρ)
  have h := hr.1 c
  exact ⟨(h _ (Finset.mem_filter.mpr ⟨StableHlo.devRef_mem_tcRefs main_v5_0, by decide⟩)).trans (V5_0 m c),
    (h _ (Finset.mem_filter.mpr ⟨StableHlo.devRef_mem_tcRefs main_v5_1, by decide⟩)).trans (V5_1 m c),
    (h _ (Finset.mem_filter.mpr ⟨StableHlo.devRef_mem_tcRefs main_v5_2, by decide⟩)).trans (V5_2 m c),
    ((h _ (Finset.mem_filter.mpr ⟨StableHlo.devRef_mem_tcRefs main_v4_0, by decide⟩)).trans (V5_of m (outs m) c main_v4_0 (by decide))).trans (V4_0 m c),
    ((h _ (Finset.mem_filter.mpr ⟨StableHlo.devRef_mem_tcRefs main_v4_1, by decide⟩)).trans (V5_of m (outs m) c main_v4_1 (by decide))).trans (V4_1 m c),
    (h _ (Finset.mem_filter.mpr ⟨StableHlo.devRef_mem_tcRefs main_arg0, by decide⟩)).trans (V5_main_arg0 m (outs m) c),
    (h _ (Finset.mem_filter.mpr ⟨StableHlo.devRef_mem_tcRefs main_arg1, by decide⟩)).trans (V5_main_arg1 m (outs m) c),
    (h _ (Finset.mem_filter.mpr ⟨StableHlo.devRef_mem_tcRefs main_arg2, by decide⟩)).trans (V5_main_arg2 m (outs m) c)⟩

end Cert.AttnIdeal.Body

end
-- ==== Proof.AttnFrames.lean ====
/- The frames of the attention and its gradient: the kernels' over the extended reals and over words (the same text), the
   reference's, and what the named constant stands for. -/
module

public import proofs.«01_k».proof.Defs
public import proofs.«01_k».proof.Proof.Gen.Attn
public import proofs.«01_k».proof.Proof.Gen.Attn.Regions
public import proofs.«01_k».proof.Proof.Gen.AttnIdeal
public import proofs.«01_k».proof.Proof.Gen.AttnRefIdeal
public import proofs.«01_k».proof.Proof.Gen.AttnRefIdeal.Run
public import proofs.«01_k».proof.Proof.AttnAll

@[expose] public section

noncomputable section

namespace Cert.AttnClaim

open Idealize.ShloMosaic Idealize.SL.Sem

/-- Over words a named constant is its printed word. -/
@[reducible] def wordNamed : Named Bits := ⟨fun _ _ {φ} b => Scalar.ofBits φ b⟩

instance : Cert.Pre_attn_finite.Facts := ⟨by decide, by decide, by decide⟩

/-- The frames: over the extended reals, over words (the same text), and of the reference. -/
theorem frame_i : Cert.quiescent_AttnIdeal := fun m ρ _ =>
  (θ_run Cert.AttnIdeal.defs _ _).mono (fun r h => ⟨fun c => (h.1 c).2.2.2.2.2, h.2⟩) (Cert.AttnIdeal.Body.run_results (F := Ideal) m ρ)
theorem frame_i_pre : Cert.quiescent_AttnIdeal_pre_attn_finite := fun m ρ _ => frame_i m ρ trivial
theorem frame : Cert.quiescent_Attn := fun m ρ _ =>
  letI := wordNamed
  Eq.mp (by sl_kernel_rfl) ((θ_run (Cert.AttnIdeal.defs (F := Bits)) _ _).mono (fun r h => (⟨fun c => (h.1 c).2.2.2.2.2, h.2⟩ :
    (∀ c : Dev Cert.AttnIdeal.nD, _ ∧ _ ∧ _) ∧ _)) (Cert.AttnIdeal.Body.run_results (F := Bits) m ρ))
theorem frame_r : Cert.quiescent_AttnRefIdeal := fun m ρ _ =>
  (θ_run Cert.AttnRefIdeal.defs _ _).mono (fun r h => ⟨fun c => (h c).2.2.2.2.2, sem_eq_zero_of_no_sems (by decide) r.2⟩)
    (Cert.AttnRefIdeal.Value.run (F := Ideal) m ρ)
theorem frame_r_pre : Cert.quiescent_AttnRefIdeal_pre_attn_finite := fun m ρ _ => frame_r m ρ trivial

/-- The mask's constant is named, and its name stands for `-∞`. -/
theorem preserves : Cert.preserves_Attn_AttnIdeal :=
  IdealRules.named_const.statement Cert.AttnIdeal.κ "mask" .f32 0xF149F2CA#32 ⊥ rfl

end Cert.AttnClaim

end
-- ==== Proof.Finite.lean ====
/- An array of which every magnitude lies under infinity has finite entries. -/
module

public import proofs.«01_k».proof.Proof.Scalars
public import Idealize.ShloMosaic.Lib.Pointwise

@[expose] public section

noncomputable section

namespace Cert.Finite

open Idealize.ShloMosaic

theorem inf16_bits : Ideal.ofBits FTy.bf16 0x7F80#16 = ⊤ := by
  simp [Ideal.ofBits, Ideal.ieee]

/-- One entry. -/
theorem of_lt {φ : FTy} (x t : Ideal φ) (ht : t = (⊤ : EReal)) (h : FloatOps.cmpf (F := Ideal) .olt (FloatOps.hostAbsf x) t = 1#1) : (x : EReal) ≠ ⊤ ∧ (x : EReal) ≠ ⊥ := by
  subst ht
  have h' : max (x : EReal) (-x) < ⊤ := by
    by_contra hn
    have hc : Ideal.cmp .olt (max (x : EReal) (-x)) (⊤ : EReal) = 1#1 := h
    simp [Ideal.cmp, hn] at hc
  refine ⟨fun hx => ?_, fun hx => ?_⟩
  · rw [hx, max_eq_left le_top] at h'
    exact lt_irrefl _ h'
  · rw [hx, EReal.neg_bot, max_eq_right bot_le] at h'
    exact lt_irrefl _ h'

/-- Every entry of an array. -/
theorem of_array {s : Shape} {φ : FTy} (x : FVec Ideal s φ) (b : BitVec φ.bits) (hb : Ideal.ofBits φ b = ⊤) (hs : (⟨0, ![]⟩ : Shape).BroadcastsInDim s (![] : Fin 0 → Fin s.rank))
    (h : cmpf .olt (Host.absf x) (broadcastInDim s ![] hs (constant (F := Ideal) ⟨0, ![]⟩ φ b)) = fun _ => 1#1) (i : s.Idx) : (x i : EReal) ≠ ⊤ ∧ (x i : EReal) ≠ ⊥ :=
  of_lt (x i) _ hb (congrFun h i)

end Cert.Finite

end
-- ==== Proof.Online.lean ====
/- The softmax of a row taken block by block: what the running maximum, the running sum and the running weighted sums are
   after each block of scores, in terms of the whole row. -/
module

public import proofs.«01_k».proof.Proof.Scalars

@[expose] public section

noncomputable section
namespace Cert.Online

open Idealize.ShloMosaic Cert.Scalars

/-- A sum of reals, inside the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over `Fin n` of reals read off a sequence. -/
theorem sum_fin (n : ℕ) (f : ℕ → ℝ) (g : Fin n → EReal) (h : ∀ x, g x = (f x.val : ℝ)) : ∑ x, g x = ((∑ x ∈ Finset.range n, f x : ℝ) : EReal) := by
  rw [Finset.sum_range, coe_sum]
  exact Finset.sum_congr rfl fun x _ => h x

/-- The words of minus infinity and of the scores' scale. -/
theorem ninf_bits : Ideal.ofBits FTy.f32 4286578688#32 = ⊥ := by
  simp [Ideal.ofBits, Ideal.ieee]
theorem scale_real : ∃ a : ℝ, Ideal.ofBits FTy.f32 1035273459#32 = (a : EReal) := by
  simp only [Ideal.ofBits, Ideal.ieee]
  rw [if_neg (by decide)]
  exact ⟨_, rfl⟩

/-- The largest of finitely many scores, one of them real and none `+∞`, is real. -/
theorem fold_real {n : ℕ} (σ : Fin n → EReal) (x : Fin n) (hx : σ x ≠ ⊥) (h : ∀ y, σ y ≠ ⊤) : ∃ μ : ℝ, Finset.univ.fold max ⊥ σ = (μ : EReal) := by
  have h1 : Finset.univ.fold max ⊥ σ < ⊤ := (Finset.fold_max_lt _).mpr ⟨bot_lt_top, fun y _ => lt_top_iff_ne_top.mpr (h y)⟩
  have h2 : ⊥ < Finset.univ.fold max ⊥ σ := (Finset.lt_fold_max _).mpr (.inr ⟨x, Finset.mem_univ x, bot_lt_iff_ne_bot.mpr hx⟩)
  exact ⟨_, (EReal.coe_toReal h1.ne h2.ne').symm⟩

/-- After the first `n` scores `e` of a row with values `v`: the running maximum, sum and weighted sums. -/
def Seen {D : Type} (e : ℕ → ℝ) (v : ℕ → D → ℝ) (n : ℕ) (m l : EReal) (a : D → EReal) : Prop :=
  (n = 0 ∧ m = ⊥ ∧ l = 0 ∧ ∀ d, a d = 0) ∨
  ∃ μ : ℝ, m = (μ : EReal) ∧ l = ((Real.exp (-μ) * ∑ c ∈ Finset.range n, Real.exp (e c) : ℝ) : EReal)
    ∧ ∀ d, a d = ((Real.exp (-μ) * ∑ c ∈ Finset.range n, Real.exp (e c) * v c d : ℝ) : EReal)

/-- One more block: its first `w` scores belong to the row, the others are masked. -/
theorem Seen.step {D : Type} {e : ℕ → ℝ} {v : ℕ → D → ℝ} {n : ℕ} {m l : EReal} {a : D → EReal} (h : Seen e v n m l a) {N : ℕ} (w : ℕ) (hw : 0 < w) (hN : w ≤ N)
    (σ : Fin N → EReal) (hσ : ∀ x : Fin N, σ x = if x.val < w then ((e (n + x.val) : ℝ) : EReal) else ⊥)
    (V : Fin N → D → EReal) (hV : ∀ x d, V x d = (v (n + x.val) d : ℝ)) (m' : EReal) (hm : m' = max m (Finset.univ.fold max ⊥ σ)) :
    Seen e v (n + w) m' (Ideal.exp (m - m') * l + ∑ x, Ideal.exp (σ x - m')) (fun d => Ideal.exp (m - m') * a d + ∑ x, Ideal.exp (σ x - m') * V x d) := by
  obtain ⟨M, hM⟩ := fold_real σ ⟨0, by omega⟩ (by rw [hσ, if_pos hw]; exact EReal.coe_ne_bot _) (fun y => by
    rw [hσ]; split_ifs; exacts [EReal.coe_ne_top _, bot_ne_top])
  rw [hM] at hm
  obtain ⟨μ', rfl⟩ : ∃ μ' : ℝ, m' = (μ' : EReal) := by
    rcases h with ⟨-, h, -⟩ | ⟨μ, h, -⟩
    · exact ⟨M, by rw [hm, h]; exact max_eq_right bot_le⟩
    · exact ⟨max μ M, by rw [hm, h, coe_max]⟩
  -- the block's own terms
  have hp : ∀ x : Fin N, Ideal.exp (σ x - (μ' : EReal)) = ((if x.val < w then Real.exp (-μ') * Real.exp (e (n + x.val)) else 0 : ℝ) : EReal) := fun x => by
    rw [hσ]
    split_ifs
    · rw [← EReal.coe_sub, exp_coe, sub_eq_neg_add, Real.exp_add]
    · rw [EReal.bot_sub, exp_bot, EReal.coe_zero]
  have cut : ∀ f : ℕ → ℝ, ∑ x ∈ Finset.range N, (if x < w then f x else 0) = ∑ x ∈ Finset.range w, f x := fun f => by
    rw [← Finset.sum_filter]
    refine Finset.sum_congr (Finset.ext fun x => ?_) fun _ _ => rfl
    simp only [Finset.mem_filter, Finset.mem_range]
    omega
  have hs : ∑ x, Ideal.exp (σ x - (μ' : EReal)) = ((Real.exp (-μ') * ∑ x ∈ Finset.range w, Real.exp (e (n + x)) : ℝ) : EReal) := by
    rw [sum_fin N (fun x => if x < w then Real.exp (-μ') * Real.exp (e (n + x)) else 0) _ hp, cut, Finset.mul_sum]
  have hsv : ∀ d, ∑ x, Ideal.exp (σ x - (μ' : EReal)) * V x d = ((Real.exp (-μ') * ∑ x ∈ Finset.range w, Real.exp (e (n + x)) * v (n + x) d : ℝ) : EReal) := fun d => by
    rw [sum_fin N (fun x => if x < w then Real.exp (-μ') * (Real.exp (e (n + x)) * v (n + x) d) else 0) _ (fun x => ?_), cut, Finset.mul_sum]
    rw [hp, hV, ← EReal.coe_mul]
    split_ifs
    · rw [mul_assoc]
    · rw [zero_mul]
  refine .inr ⟨μ', rfl, ?_⟩
  rcases h with ⟨rfl, rfl, rfl, ha⟩ | ⟨μ, rfl, rfl, ha⟩
  · rw [EReal.bot_sub, exp_bot, zero_mul, zero_add, hs]
    refine ⟨by simp only [zero_add], fun d => ?_⟩
    show 0 * a d + ∑ x, Ideal.exp (σ x - (μ' : EReal)) * V x d = _
    rw [zero_mul, zero_add, hsv]
    simp only [zero_add]
  · have he : Real.exp (μ - μ') * Real.exp (-μ) = Real.exp (-μ') := by rw [← Real.exp_add]; congr 1; ring
    rw [← EReal.coe_sub, exp_coe, hs, ← EReal.coe_mul, ← EReal.coe_add]
    refine ⟨?_, fun d => ?_⟩
    · rw [← mul_assoc, he, Finset.sum_range_add, mul_add]
    · show ((Real.exp (μ - μ') : ℝ) : EReal) * a d + ∑ x, Ideal.exp (σ x - (μ' : EReal)) * V x d = _
      rw [ha, hsv, ← EReal.coe_mul, ← EReal.coe_add, ← mul_assoc, he, Finset.sum_range_add, mul_add]

theorem Seen.start {D : Type} (e : ℕ → ℝ) (v : ℕ → D → ℝ) (m l : EReal) (a : D → EReal) (hm : m = ⊥) (hl : l = 0) (ha : ∀ d, a d = 0) : Seen e v 0 m l a :=
  .inl ⟨rfl, hm, hl, ha⟩

/-- The whole row's sum of exponentials is positive. -/
theorem sum_pos (e : ℕ → ℝ) {n : ℕ} (hn : 0 < n) : 0 < ∑ c ∈ Finset.range n, Real.exp (e c) :=
  Finset.sum_pos (fun c _ => Real.exp_pos _) ⟨0, Finset.mem_range.mpr hn⟩

/-- The row's log-sum. -/
theorem Seen.log {D : Type} {e : ℕ → ℝ} {v : ℕ → D → ℝ} {n : ℕ} {m l : EReal} {a : D → EReal} (h : Seen e v n m l a) (hn : 0 < n) :
    m + Ideal.log l = (Real.log (∑ c ∈ Finset.range n, Real.exp (e c)) : ℝ) := by
  rcases h with ⟨h, -⟩ | ⟨μ, rfl, rfl, -⟩
  · omega
  have hp := sum_pos e hn
  rw [log_coe (mul_pos (Real.exp_pos _) hp), Real.log_mul (Real.exp_pos _).ne' hp.ne', Real.log_exp, ← EReal.coe_add]
  congr 1
  ring

/-- The row's weighted means. -/
theorem Seen.mean {D : Type} {e : ℕ → ℝ} {v : ℕ → D → ℝ} {n : ℕ} {m l : EReal} {a : D → EReal} (h : Seen e v n m l a) (hn : 0 < n) (d : D) :
    Ideal.div (a d) l = ((∑ c ∈ Finset.range n, Real.exp (e c) * v c d) / (∑ c ∈ Finset.range n, Real.exp (e c)) : ℝ) := by
  rcases h with ⟨h, -⟩ | ⟨μ, rfl, rfl, ha⟩
  · omega
  have hp := sum_pos e hn
  have he := (Real.exp_pos (-μ)).ne'
  rw [ha, div_coe _ (mul_pos (Real.exp_pos _) hp).ne', mul_div_mul_left _ _ he]

end Cert.Online
end
-- ==== Proof.AttnSpec.lean ====
/- One head of the gated causal attention over the reals: its rows' weights, its output and its five gradients. -/
module

public import proofs.«01_k».proof.Proof.Online

@[expose] public section

noncomputable section

namespace Cert.AttnSpec

/-- A head's queries, keys, values and incoming gradients by row and feature, its gate by row, and the scores' scale. -/
structure Ar where
  (q k v g : ℕ → ℕ → ℝ)
  (f : ℕ → ℝ)
  (a : ℝ)

namespace Ar
variable (A : Ar)

/-- The score of key row `c` for query row `r`, without the query row's own gate. -/
def S (r c : ℕ) : ℝ := (∑ d ∈ Finset.range 128, A.q r d * A.k c d) * A.a - A.f c
/-- The row's sum of exponentials over the key rows up to its own. -/
def Z (r : ℕ) : ℝ := ∑ c ∈ Finset.range (r + 1), Real.exp (A.S r c)
/-- The weights, zero past the row. -/
def p (r c : ℕ) : ℝ := if c ≤ r then Real.exp (A.S r c) / A.Z r else 0
def L (r : ℕ) : ℝ := Real.log (A.Z r)
/-- The output. -/
def o (r d : ℕ) : ℝ := (∑ c ∈ Finset.range (r + 1), Real.exp (A.S r c) * A.v c d) / A.Z r
/-- The weights' gradients. -/
def dp (r c : ℕ) : ℝ := ∑ d ∈ Finset.range 128, A.g r d * A.v c d
def del (r : ℕ) : ℝ := ∑ d ∈ Finset.range 128, A.g r d * A.o r d
/-- The scores' gradients. -/
def ds (r c : ℕ) : ℝ := A.p r c * (A.dp r c - A.del r)
/-- The results: gradients of the queries, keys and values, and of the gate as the query row's and as the key row's. -/
def dq (r d : ℕ) : ℝ := (∑ c ∈ Finset.range 4096, A.ds r c * A.k c d) * A.a
def dk (c d : ℕ) : ℝ := (∑ r ∈ Finset.range 4096, A.ds r c * A.q r d) * A.a
def dv (c d : ℕ) : ℝ := ∑ r ∈ Finset.range 4096, A.p r c * A.g r d
def dfq (r : ℕ) : ℝ := ∑ c ∈ Finset.range 4096, A.ds r c
def dfk (c : ℕ) : ℝ := ∑ r ∈ Finset.range 4096, A.ds r c

theorem Z_pos (r : ℕ) : 0 < A.Z r := Online.sum_pos _ (by omega)

/-- The weights recomputed from the row's log-sum. -/
theorem exp_sub_L (r c : ℕ) (h : c ≤ r) : Real.exp (A.S r c - A.L r) = A.p r c := by
  rw [L, Real.exp_sub, Real.exp_log (A.Z_pos r), p, if_pos h]

theorem p_past (r c : ℕ) (h : r < c) : A.p r c = 0 := if_neg (by omega)
theorem ds_past (r c : ℕ) (h : r < c) : A.ds r c = 0 := by rw [ds, A.p_past r c h, zero_mul]

/-- The output is the weighted sum of the values. -/
theorem o_eq (r : ℕ) (hr : r < 4096) (d : ℕ) : A.o r d = ∑ c ∈ Finset.range 4096, A.p r c * A.v c d := by
  rw [o, Finset.sum_div]
  refine Finset.sum_subset_zero_on_sdiff (fun x hx => Finset.mem_range.mpr (by have := Finset.mem_range.mp hx; omega)) (fun x hx => ?_) (fun x hx => ?_)
  · have hn : ¬ x < r + 1 := fun h => (Finset.mem_sdiff.mp hx).2 (Finset.mem_range.mpr h)
    rw [A.p_past r x (by omega), zero_mul]
  · rw [p, if_pos (by have := Finset.mem_range.mp hx; omega), div_mul_eq_mul_div]

/-- The row sum of gradient times output is the row sum of weight times weight's gradient. -/
theorem sum_p_dp (r : ℕ) (hr : r < 4096) : ∑ c ∈ Finset.range 4096, A.p r c * A.dp r c = A.del r := by
  simp only [del, dp, A.o_eq r hr, Finset.mul_sum]
  rw [Finset.sum_comm]
  exact Finset.sum_congr rfl fun d _ => Finset.sum_congr rfl fun c _ => by ring

end Ar

end Cert.AttnSpec

end
-- ==== Proof.AttnReal.lean ====
/- The attention's arguments as real numbers, and the five results they give. -/
module

public import proofs.«01_k».proof.Proof.AttnSpec
public import Idealize.ShloMosaic.Lib.Pipeline.ValueKit
public import Idealize.ShloMosaic.Lib.Pointwise

@[expose] public section

noncomputable section

namespace Cert.AttnSpec

open Idealize.ShloMosaic

/-- The packed queries, keys and values; the gates; the incoming gradient. -/
abbrev Packed : Type := (⟨2, ![4096, 6144]⟩ : Shape).Idx → EReal
abbrev Gates : Type := (⟨2, ![4096, 16]⟩ : Shape).Idx → EReal
abbrev Grads : Type := (⟨2, ![4096, 2048]⟩ : Shape).Idx → EReal

/-- The scores' scale. -/
def scale : ℝ := (Ideal.ofBits FTy.f32 1035273459#32).toReal

theorem scale_eq : Ideal.ofBits FTy.f32 1035273459#32 = (scale : EReal) := by
  obtain ⟨a, h⟩ := Online.scale_real
  rw [scale, h, EReal.toReal_coe]

/-- An array's entry as a real number. -/
def entry {n m : ℕ} (X : (⟨2, ![n, m]⟩ : Shape).Idx → EReal) (r j : ℕ) : ℝ := if h : r < n ∧ j < m then (X (ix2 ⟨r, h.1⟩ ⟨j, h.2⟩)).toReal else 0

/-- An array of finite entries. -/
def Fin2 {n m : ℕ} (X : (⟨2, ![n, m]⟩ : Shape).Idx → EReal) : Prop := ∀ (r : Fin n) (j : Fin m), X (ix2 r j) ≠ ⊤ ∧ X (ix2 r j) ≠ ⊥

theorem entry_eq {n m : ℕ} (X : (⟨2, ![n, m]⟩ : Shape).Idx → EReal) (h : Fin2 X) (r : Fin n) (j : Fin m) : X (ix2 r j) = (entry X r.val j.val : EReal) := by
  rw [entry, dif_pos ⟨r.isLt, j.isLt⟩]
  exact (EReal.coe_toReal (h r j).1 (h r j).2).symm

/-- Head `h`. -/
def head (X : Packed) (f : Gates) (g : Grads) (h : ℕ) : Ar where
  q r d := entry X r (128 * h + d)
  k r d := entry X r (2048 + 128 * h + d)
  v r d := entry X r (4096 + 128 * h + d)
  g r d := entry g r (128 * h + d)
  f r := entry f r h
  a := scale

/-- The three packed gradients: of the queries, keys and values. -/
def dqkv (X : Packed) (f : Gates) (g : Grads) (a : Fin 3) (r : Fin 4096) (j : Fin 2048) : EReal :=
  let A := head X f g (j.val / 128)
  ((if a.val = 0 then A.dq r.val (j.val % 128) else if a.val = 1 then A.dk r.val (j.val % 128) else A.dv r.val (j.val % 128) : ℝ) : EReal)
/-- The query rows' gate gradients, one lane per head. -/
def dfq (X : Packed) (f : Gates) (g : Grads) (r : Fin 4096) (l : Fin 128) : EReal :=
  if l.val < 16 then (((head X f g l.val).dfq r.val : ℝ) : EReal) else 0
/-- The key rows' gate gradients, by block, head and place. -/
def dfk (X : Packed) (f : Gates) (g : Grads) (t : Fin 4) (h : Fin 16) (p : Fin 1024) : EReal :=
  (((head X f g h.val).dfk (1024 * t.val + p.val) : ℝ) : EReal)
/-- The output: each head's mean of the values. -/
def mean (X : Packed) (f : Gates) (g : Grads) (r : Fin 4096) (j : Fin 2048) : EReal :=
  (((head X f g (j.val / 128)).o r.val (j.val % 128) : ℝ) : EReal)
/-- The rows' log-sums, one lane per head. -/
def lse (X : Packed) (f : Gates) (g : Grads) (r : Fin 4096) (l : Fin 128) : EReal :=
  if l.val < 16 then (((head X f g l.val).L r.val : ℝ) : EReal) else 0

end Cert.AttnSpec

end
-- ==== Proof.AttnHost.lean ====
/- The arrays the attention's two calls are entered with: the gates by block, head and place, the arguments as launched, and
   the first call's results. -/
module

public import proofs.«01_k».proof.Proof.AttnAll
public import Idealize.ShloMosaic.Lib.Pointwise

@[expose] public section

set_option maxRecDepth 16384

noncomputable section

namespace Cert.AttnIdeal.Body

open Cert.AttnIdeal Cert.AttnIdeal.Gen
open Idealize.ShloMosaic Idealize.ShloMosaic.TcCoe

section
variable {F : FTy → Type} [FloatOps F] [Named F]
variable (m : (ℓ : Loc nD τ sig) → Buf (Elt F) ℓ) (c : Dev nD)

theorem V3_arg0 : V3 m c main_arg0 = m ((c : Thread nD τ).loc main_arg0) :=
  (V3_of m c main_arg0 (by decide)).trans ((V2_of m c main_arg0 (by decide)).trans (V1_of m c main_arg0 (by decide)))
theorem V3_arg2 : V3 m c main_arg2 = m ((c : Thread nD τ).loc main_arg2) :=
  (V3_of m c main_arg2 (by decide)).trans ((V2_of m c main_arg2 (by decide)).trans (V1_of m c main_arg2 (by decide)))

theorem V3_gate : V3 m c main_v3 = transpose S4x16x1024 [1, 0, 2]
    (shapeCast S16x4x1024 (pad S16x4096 ![0, 0] ![0, 0] ![0, 0] (transpose S16x4096 [1, 0] (m ((c : Thread nD τ).loc main_arg1)) transposes_S4096x16_S16x4096_1_0)
      (sitofp .f32 (constantI S_ 32 0#32)) pads_S16x4096_S16x4096_000_000 h_S_) shapeCasts_S16x4096_S16x4x1024) transposes_S16x4x1024_S4x16x1024_1_0_2 := by
  show StableHlo.after hostOps0_2 (StableHlo.after hostOps0_1 (StableHlo.after hostOps0 (V0 m c))) (Proc.devRef .tc main_v3) = _
  simp only [hostOps0_2, hostOps0_1, hostOps0, StableHlo.TRef.binary, StableHlo.TRef.unary, StableHlo.TRef.toBuf, StableHlo.TRef.ofBuf, cast_eq]
  after_results_simp <;> rfl

theorem enter_arg0 : enter1 m c main_arg0 = m ((c : Thread nD τ).loc main_arg0) := (V4_of m (outs0 m) c main_arg0 (by decide)).trans (V3_arg0 m c)
theorem enter_arg2 : enter1 m c main_arg2 = m ((c : Thread nD τ).loc main_arg2) := (V4_of m (outs0 m) c main_arg2 (by decide)).trans (V3_arg2 m c)
theorem enter_gate : enter1 m c main_v3 = V3 m c main_v3 := V4_of m (outs0 m) c main_v3 (by decide)
theorem enter_o : enter1 m c main_v4_0 = (dat0 (V3 m) c).arrAt 4 cfg0.N := (congrFun (V4_outs m c) _).symm.trans (V4_0 m c)
theorem enter_l : enter1 m c main_v4_1 = (dat0 (V3 m) c).arrAt 5 cfg0.N := (congrFun (V4_outs m c) _).symm.trans (V4_1 m c)
end

/-- The gates' array, entry by entry. -/
theorem gate_apply (m : (ℓ : Loc nD τ sig) → Buf (Elt Ideal) ℓ) (c : Dev nD) (t : Fin 4) (h : Fin 16) (p : Fin 1024) :
    (V3 m c main_v3 : S4x16x1024.Idx → EReal) (ix3 t h p) = (m ((c : Thread nD τ).loc main_arg1) : S4096x16.Idx → EReal) (ix2 ⟨1024 * t.val + p.val, by omega⟩ h) := by
  rw [V3_gate]
  generalize m ((c : Thread nD τ).loc main_arg1) = X
  pointwise []
  rw [dif_pos (by omega)]
  simp only [Nat.mul_comm t.val 1024]

end Cert.AttnIdeal.Body

end
-- ==== Proof.AttnFwdPay.lean ====
/- The forward attention kernel's vector operations at an index. -/
module

public import proofs.«01_k».proof.Proof.AttnFwdBody
public import proofs.«01_k».proof.Proof.AttnSpec
public import Idealize.ShloMosaic.Lib.Pipeline.ValueKit
public import Idealize.ShloMosaic.Lib.Pointwise
public import Idealize.ShloMosaic.Lib.WordCmp

@[expose] public section

set_option maxRecDepth 16384

noncomputable section

namespace Cert.AttnIdeal.Body

open Cert.AttnIdeal Cert.AttnIdeal.Gen
open Idealize.ShloMosaic Idealize.ShloMosaic.TcCoe

/-- The scores' scale as the program writes it. -/
abbrev sc : EReal := Ideal.ofBits FTy.f32 1035273459#32

theorem mask_bot : (Named.named κ "mask" (4048155338#32 : BitVec (FTy.bits .f32)) : Ideal .f32) = (⊥ : EReal) := IdealRules.named_const.ideal_named_scalar _ _ _ _ rfl

section
variable (q k v : Vec Ideal S1024x128 .bf16) (f : Vec Ideal S1x1x1024 .f32) (M l : FVec Ideal S1024x1 .f32) (a : FVec Ideal S1024x128 .f32) (p x : Fin 1024) (d : Fin 128)

theorem pay4_at : k0_pay4 (F := Ideal) (ix2 p 0) = (⊥ : EReal) := by
  unfold k0_pay4
  pointwise []
  exact mask_bot
theorem pay5_at : k0_pay5 (F := Ideal) (ix2 p 0) = (0 : EReal) := by
  unfold k0_pay5
  pointwise []
theorem pay6_at : k0_pay6 (F := Ideal) (ix2 p d) = (0 : EReal) := by
  unfold k0_pay6
  pointwise []

/-- A block of scores. -/
theorem pay7_at : k0_pay7 (F := Ideal) q k f (ix2 p x) = ((∑ d : Fin 128, q (ix2 p d) * k (ix2 x d)) * sc - f (ix3 0 0 x) : EReal) := by
  unfold k0_pay7
  pointwise []

/-- The running maximum with one more block. -/
theorem max_at (G : FVec Ideal S1024x1024 .f32) :
    maximumf M (shapeCast S1024x1 (multiReduction (F := Ideal) .maximumf [1] S1024 G 0xFF800000#32 reduces_S1024x1024_S1024 (.inl rfl) rfl) shapeCasts_S1024_S1024x1) (ix2 p 0)
      = (max (M (ix2 p 0)) (Finset.univ.fold max ⊥ fun x => G (ix2 p x)) : EReal) := by
  pointwise []
  rw [Online.ninf_bits]

theorem pay8_at : k0_pay8 (F := Ideal) q M k f (ix2 p 0) = (max (M (ix2 p 0)) (Finset.univ.fold max ⊥ fun x => k0_pay7 (F := Ideal) q k f (ix2 p x)) : EReal) :=
  max_at M p (k0_pay7 q k f)
theorem pay9_at : k0_pay9 (F := Ideal) q M k f (ix2 p x) = (Ideal.exp (k0_pay7 (F := Ideal) q k f (ix2 p x) - k0_pay8 (F := Ideal) q M k f (ix2 p 0)) : EReal) := by
  unfold k0_pay9
  generalize k0_pay7 q k f = G
  generalize k0_pay8 q M k f = H
  pointwise []
theorem pay10_at : k0_pay10 (F := Ideal) q M k f (ix2 p 0) = (Ideal.exp (M (ix2 p 0) - k0_pay8 (F := Ideal) q M k f (ix2 p 0)) : EReal) := by
  unfold k0_pay10
  generalize k0_pay8 q M k f = H
  pointwise []
theorem pay11_at : k0_pay11 (F := Ideal) q M l k f (ix2 p 0) = (k0_pay10 (F := Ideal) q M k f (ix2 p 0) * l (ix2 p 0) + ∑ x : Fin 1024, k0_pay9 (F := Ideal) q M k f (ix2 p x) : EReal) := by
  unfold k0_pay11
  generalize k0_pay9 q M k f = G
  generalize k0_pay10 q M k f = H
  pointwise []
theorem pay12_at : k0_pay12 (F := Ideal) q M a k f v (ix2 p d) = (k0_pay10 (F := Ideal) q M k f (ix2 p 0) * a (ix2 p d) + ∑ x : Fin 1024, k0_pay9 (F := Ideal) q M k f (ix2 p x) * v (ix2 x d) : EReal) := by
  unfold k0_pay12
  generalize k0_pay9 q M k f = G
  generalize k0_pay10 q M k f = H
  pointwise []

/-- The diagonal block's scores, masked past the row. -/
theorem pay19_at : k0_pay19 (F := Ideal) iR iC q k f (ix2 p x)
    = (if x.val < p.val + 1 then (∑ d : Fin 128, q (ix2 p d) * k (ix2 x d)) * sc - f (ix3 0 0 x) else ⊥ : EReal) := by
  unfold k0_pay19
  pointwise []
  rw [mask_bot]
  have hx : x.val < 1024 := x.isLt
  have hp : p.val < 1024 := p.isLt
  by_cases h : x.val < p.val + 1
  · rw [if_pos h]
    exact WordCmp.select_of_eq_one ((WordCmp.cmpi_sle_ofNat_eq_one_iff (by omega) (by omega)).mpr (by omega)) _ _
  · rw [if_neg h]
    exact WordCmp.select_of_eq_zero ((WordCmp.cmpi_sle_ofNat_eq_zero_iff (by omega) (by omega)).mpr (by omega)) _ _
theorem pay20_at : k0_pay20 (F := Ideal) iR iC q M k f (ix2 p 0) = (max (M (ix2 p 0)) (Finset.univ.fold max ⊥ fun x => k0_pay19 (F := Ideal) iR iC q k f (ix2 p x)) : EReal) :=
  max_at M p (k0_pay19 iR iC q k f)
theorem pay21_at : k0_pay21 (F := Ideal) iR iC q M k f (ix2 p x) = (Ideal.exp (k0_pay19 (F := Ideal) iR iC q k f (ix2 p x) - k0_pay20 (F := Ideal) iR iC q M k f (ix2 p 0)) : EReal) := by
  unfold k0_pay21
  generalize k0_pay19 iR iC q k f = G
  generalize k0_pay20 iR iC q M k f = H
  pointwise []
theorem pay22_at : k0_pay22 (F := Ideal) iR iC q M k f (ix2 p 0) = (Ideal.exp (M (ix2 p 0) - k0_pay20 (F := Ideal) iR iC q M k f (ix2 p 0)) : EReal) := by
  unfold k0_pay22
  generalize k0_pay20 iR iC q M k f = H
  pointwise []
theorem pay23_at : k0_pay23 (F := Ideal) iR iC q M l k f (ix2 p 0) = (k0_pay22 (F := Ideal) iR iC q M k f (ix2 p 0) * l (ix2 p 0) + ∑ x : Fin 1024, k0_pay21 (F := Ideal) iR iC q M k f (ix2 p x) : EReal) := by
  unfold k0_pay23
  generalize k0_pay21 iR iC q M k f = G
  generalize k0_pay22 iR iC q M k f = H
  pointwise []
theorem pay2_at (G : FVec Ideal S1024x1024 .f32) (H Lt : FVec Ideal S1024x1 .f32) :
    k0_pay2 (F := Ideal) a G H Lt v (ix2 p d) = (Ideal.div (H (ix2 p 0) * a (ix2 p d) + ∑ x : Fin 1024, G (ix2 p x) * v (ix2 x d)) (Lt (ix2 p 0)) : EReal) := by
  unfold k0_pay2
  pointwise []

/-- The head's lane of the log-sums is written, the others kept. -/
theorem pay3_at (i : grid0.Coords) (s : Vec Ideal S1024x128 .f32) :
    k0_pay3 (F := Ideal) i M l s (ix2 p d) = (if d.val = (i 0).val then M (ix2 p 0) + Ideal.log (l (ix2 p 0)) else s (ix2 p d) : EReal) := by
  unfold k0_pay3
  pointwise []
  have hi : (i 0).val < 16 := (i 0).isLt
  have hd : d.val < 128 := d.isLt
  by_cases h : d.val = (i 0).val
  · rw [if_pos h]
    exact WordCmp.select_of_eq_one ((WordCmp.cmpi_eq_ofNat_eq_one_iff (by omega) (by omega)).mpr h) _ _
  · rw [if_neg h]
    exact WordCmp.select_of_eq_zero ((WordCmp.cmpi_eq_ofNat_eq_zero_iff (by omega) (by omega)).mpr h) _ _
end

end Cert.AttnIdeal.Body

end
-- ==== Proof.AttnFwdValue.lean ====
/- The forward attention kernel's output and log-sums at a head with real operands. -/
module

public import proofs.«01_k».proof.Proof.AttnFwdPay

@[expose] public section

set_option maxRecDepth 16384

noncomputable section

namespace Cert.AttnIdeal.Body

open Cert.AttnIdeal Cert.AttnIdeal.Gen Cert.AttnSpec
open Idealize.ShloMosaic Idealize.ShloMosaic.TcCoe

theorem trips0b : ∀ k : Fin k0_t1_loop.trips, (k0_t2_loop k).trips = k.val := by decide +kernel
theorem off2a_eq : ∀ (k : Fin k0_t1_loop.trips) (j : Fin (k0_t2_loop k).trips), k0_off2 k j = ![1024 * j.val, 0] := by decide +kernel
theorem off3a_eq : ∀ (i : grid0.Coords) (k : Fin k0_t1_loop.trips) (j : Fin (k0_t2_loop k).trips), k0_off3 i k j = ![j.val, (i 0).val, 0] := by decide +kernel
theorem off6a_eq : ∀ (i : grid0.Coords) (k : Fin k0_t1_loop.trips), k0_off6 i k = ![k.val, (i 0).val, 0] := by decide +kernel

/-- An array of rows holds the reals `g`. -/
abbrev IsRows {n m : ℕ} (X : (⟨2, ![n, m]⟩ : Shape).Idx → EReal) (g : ℕ → ℕ → ℝ) : Prop := ∀ (r : Fin n) (d : Fin m), X (ix2 r d) = (g r.val d.val : ℝ)
/-- The gates' array holds the reals `f` at head `h`. -/
abbrev IsGate (X : (⟨3, ![4, 16, 1024]⟩ : Shape).Idx → EReal) (h : Fin 16) (f : ℕ → ℝ) : Prop :=
  ∀ (t : Fin 4) (p : Fin 1024), X (ix3 t h p) = (f (1024 * t.val + p.val) : ℝ)

/-- A block of rows of an array of reals. -/
theorem ld_real {n b : ℕ} (off : Fin 2 → ℕ) (r : ℕ) (hoff : off = ![r, 0]) (inb) (X : (⟨2, ![4096, n]⟩ : Shape).Idx → EReal) (g : ℕ → ℕ → ℝ) (h : IsRows X g)
    (hr : r + b ≤ 4096) (s : Fin b) (l : Fin n) :
    (View.ld (Val := fun _ : EltTy => EReal) (e' := .f32) X (Rect.unit (s := ⟨2, ![4096, n]⟩) off ![b, n] inb) (ix2 s l) : EReal) = ((g (r + s.val) l.val : ℝ) : EReal) :=
  (Blocks.ld_rows (Val := fun _ : EltTy => EReal) (e := .f32) off r hoff inb X s l (by have := s.isLt; omega)).trans (h _ l)

/-- A line of the gates. -/
theorem ld_gate (off : Fin 3 → ℕ) (j : ℕ) (h : Fin 16) (hoff : off = ![j, h.val, 0]) (inb) (X : (⟨3, ![4, 16, 1024]⟩ : Shape).Idx → EReal) (f : ℕ → ℝ) (hX : IsGate X h f) (hj : j < 4) (l : Fin 1024) :
    (View.ld (Val := fun _ : EltTy => EReal) (e' := .f32) X (Rect.unit (s := ⟨3, ![4, 16, 1024]⟩) off ![1, 1, 1024] inb) (ix3 0 0 l) : EReal) = ((f (1024 * j + l.val) : ℝ) : EReal) :=
  (Blocks.ld_line (Val := fun _ : EltTy => EReal) (e := .f32) off j h.val hoff inb X l hj h.isLt).trans (hX ⟨j, hj⟩ l)

/-- A score of reals. -/
theorem score_real (A : Ar) (hsc : sc = (A.a : ℝ)) (r c : ℕ) (q k : Fin 128 → EReal) (f : EReal) (hq : ∀ d, q d = (A.q r d.val : ℝ)) (hk : ∀ d, k d = (A.k c d.val : ℝ)) (hf : f = (A.f c : ℝ)) :
    (∑ d, q d * k d) * sc - f = (A.S r c : ℝ) := by
  rw [Online.sum_fin 128 (fun d => A.q r d * A.k c d) _ (fun d => by rw [hq, hk, ← EReal.coe_mul]), hsc, hf, ← EReal.coe_mul, ← EReal.coe_sub]
  rfl

section
variable (A : Ar) (hsc : sc = (A.a : ℝ)) (i : grid0.Coords) (X1 X2 X3 : Vec Ideal S4096x128 .bf16) (X4 : Vec Ideal S4x16x1024 .f32)
  (h1 : IsRows X1 A.q) (h2 : IsRows X2 A.k) (h3 : IsRows X3 A.v) (h4 : IsGate X4 ⟨(i 0).val, (i 0).isLt⟩ A.f) (k : Fin k0_t1_loop.trips)
include hsc h1 h2 h3 h4

/-- The values carried before key block `n`: the row's scores of the blocks before it are seen. -/
theorem acc_seen (p : Fin 1024) (n : ℕ) (hn : n ≤ k.val) :
    Online.Seen (A.S (1024 * k.val + p.val)) (fun c (d : Fin 128) => A.v c d.val) (1024 * n) ((acc0 i X2 X3 X4 k (rows0 X1 k) n).1 (ix2 p 0))
      ((acc0 i X2 X3 X4 k (rows0 X1 k) n).2.1 (ix2 p 0)) (fun d => (acc0 i X2 X3 X4 k (rows0 X1 k) n).2.2 (ix2 p d)) := by
  have hk : k.val < 4 := trips0 ▸ k.isLt
  induction n with
  | zero => exact Online.Seen.start _ _ _ _ _ (pay4_at p) (pay5_at p) (fun d => pay6_at p d)
  | succ n ih =>
    have ih := ih (by omega)
    have hj : n < (k0_t2_loop k).trips := by rw [trips0b]; omega
    rw [show n + 1 = (⟨n, hj⟩ : Fin (k0_t2_loop k).trips).val + 1 from rfl, acc0_succ]
    show Online.Seen _ _ (1024 * (n + 1)) _ _ _
    unfold step0
    show Online.Seen _ _ (1024 * (n + 1)) (k0_pay8 (F := Ideal) _ _ _ _ (ix2 p 0)) (k0_pay11 (F := Ideal) _ _ _ _ _ (ix2 p 0)) (fun d => k0_pay12 (F := Ideal) _ _ _ _ _ _ (ix2 p d))
    simp only [pay11_at, pay12_at, pay10_at, pay9_at]
    rw [show 1024 * (n + 1) = 1024 * n + 1024 by ring]
    refine Online.Seen.step ih 1024 (by omega) le_rfl _ (fun x => ?_) _ (fun x d => ?_) _ (pay8_at _ _ _ _ p)
    · rw [if_pos x.isLt, pay7_at]
      exact score_real A hsc _ _ _ _ _ (fun d => ld_real _ _ (off1_eq k) (k0_off1_inb k) X1 A.q h1 (by omega) p d)
        (fun d => ld_real _ _ (off2a_eq k ⟨n, hj⟩) (k0_off2_inb k ⟨n, hj⟩) X2 A.k h2 (by show 1024 * n + 1024 ≤ 4096; omega) x d)
        (ld_gate _ n _ (off3a_eq i k ⟨n, hj⟩) (k0_off3_inb i k ⟨n, hj⟩) X4 A.f h4 (by omega) x)
    · exact ld_real _ _ (off2a_eq k ⟨n, hj⟩) (k0_off2_inb k ⟨n, hj⟩) X3 A.v h3 (by show 1024 * n + 1024 ≤ 4096; omega) x d

/-- After the diagonal block the whole row is seen. -/
theorem fin_seen (p : Fin 1024) :
    Online.Seen (A.S (1024 * k.val + p.val)) (fun c (d : Fin 128) => A.v c d.val) (1024 * k.val + p.val + 1)
      (k0_pay20 iR iC (rows0 X1 k) (fin0 i X1 X2 X3 X4 k).1 (rows0 X2 k) (gate0 i X4 k) (ix2 p 0))
      (k0_pay23 iR iC (rows0 X1 k) (fin0 i X1 X2 X3 X4 k).1 (fin0 i X1 X2 X3 X4 k).2.1 (rows0 X2 k) (gate0 i X4 k) (ix2 p 0))
      (fun d => k0_pay22 iR iC (rows0 X1 k) (fin0 i X1 X2 X3 X4 k).1 (rows0 X2 k) (gate0 i X4 k) (ix2 p 0) * (fin0 i X1 X2 X3 X4 k).2.2 (ix2 p d)
        + ∑ x : Fin 1024, k0_pay21 iR iC (rows0 X1 k) (fin0 i X1 X2 X3 X4 k).1 (rows0 X2 k) (gate0 i X4 k) (ix2 p x) * rows0 X3 k (ix2 x d)) := by
  have hk : k.val < 4 := trips0 ▸ k.isLt
  have hp : p.val < 1024 := p.isLt
  have h := acc_seen A hsc i X1 X2 X3 X4 h1 h2 h3 h4 k p (k0_t2_loop k).trips (le_of_eq (trips0b k))
  revert h
  unfold fin0
  generalize acc0 i X2 X3 X4 k (rows0 X1 k) (k0_t2_loop k).trips = a
  intro h
  rw [trips0b] at h
  simp only [pay23_at, pay22_at, pay21_at]
  rw [add_assoc (1024 * k.val)]
  refine Online.Seen.step h (p.val + 1) (by omega) (by omega) _ (fun x => ?_) _ (fun x d => ?_) _ (pay20_at _ _ _ _ p)
  · rw [pay19_at]
    refine if_congr Iff.rfl ?_ rfl
    exact score_real A hsc _ _ _ _ _ (fun d => ld_real _ _ (off1_eq k) (k0_off1_inb k) X1 A.q h1 (by omega) p d)
        (fun d => ld_real _ _ (off1_eq k) (k0_off1_inb k) X2 A.k h2 (by omega) x d)
        (ld_gate _ _ _ (off6a_eq i k) (k0_off6_inb i k) X4 A.f h4 hk x)
  · exact ld_real _ _ (off1_eq k) (k0_off1_inb k) X3 A.v h3 (by omega) x d

/-- The output's rows. -/
theorem oBlk_at (p : Fin 1024) (d : Fin 128) : oBlk i X1 X2 X3 X4 k (ix2 p d) = ((A.o (1024 * k.val + p.val) d.val : ℝ) : EReal) := by
  unfold oBlk
  rw [pay2_at]
  exact (fin_seen A hsc i X1 X2 X3 X4 h1 h2 h3 h4 k p).mean (by omega) d

/-- The log-sums' rows: the head's lane. -/
theorem lBlk_at (s : Vec Ideal S4096x128 .f32) (p : Fin 1024) (d : Fin 128) :
    lBlk i X1 X2 X3 X4 s k (ix2 p d) = (if d.val = (i 0).val then ((A.L (1024 * k.val + p.val) : ℝ) : EReal) else rows0 s k (ix2 p d)) := by
  unfold lBlk
  rw [pay3_at]
  exact if_congr Iff.rfl ((fin_seen A hsc i X1 X2 X3 X4 h1 h2 h3 h4 k p).log (by omega)) rfl

omit k in
theorem o_rows : IsRows (stack (oBlk i X1 X2 X3 X4)) A.o := fun r d => by
  have hr : r.val < 4096 := r.isLt
  refine (stack_at _ ⟨r.val / 1024, by rw [trips0]; omega⟩ r d (by show 1024 * (r.val / 1024) ≤ r.val ∧ r.val < 1024 * (r.val / 1024) + 1024; omega)).trans ?_
  refine (oBlk_at A hsc i X1 X2 X3 X4 h1 h2 h3 h4 _ _ d).trans ?_
  rw [show 1024 * (r.val / 1024) + (r.val - 1024 * (r.val / 1024)) = r.val by omega]

omit k in
theorem l_rows (s : Vec Ideal S4096x128 .f32) (r : Fin 4096) (d : Fin 128) :
    stack (lBlk i X1 X2 X3 X4 s) (ix2 r d) = (if d.val = (i 0).val then ((A.L r.val : ℝ) : EReal) else s (ix2 r d)) := by
  have hr : r.val < 4096 := r.isLt
  refine (stack_at _ ⟨r.val / 1024, by rw [trips0]; omega⟩ r d (by show 1024 * (r.val / 1024) ≤ r.val ∧ r.val < 1024 * (r.val / 1024) + 1024; omega)).trans ?_
  refine (lBlk_at A hsc i X1 X2 X3 X4 h1 h2 h3 h4 _ s _ d).trans ?_
  have e : 1024 * (r.val / 1024) + (r.val - 1024 * (r.val / 1024)) = r.val := by omega
  refine if_congr Iff.rfl (by show ((A.L (1024 * (r.val / 1024) + (r.val - 1024 * (r.val / 1024))) : ℝ) : EReal) = _; rw [e]) ?_
  refine (Blocks.ld_rows _ (1024 * (r.val / 1024)) (off1_eq _) (k0_off1_inb _) s _ d (by show 1024 * (r.val / 1024) + (r.val - 1024 * (r.val / 1024)) < 4096; omega)).trans ?_
  exact congrArg (fun x : Fin 4096 => s (ix2 x d)) (Fin.ext e)
end

end Cert.AttnIdeal.Body

end
-- ==== Proof.AttnBwdPay.lean ====
/- The backward attention kernel's vector operations at an index. -/
module

public import proofs.«01_k».proof.Proof.AttnBwdAll
public import Idealize.ShloMosaic.Lib.Pipeline.ValueKit
public import Idealize.ShloMosaic.Lib.Pointwise
public import Idealize.ShloMosaic.Lib.WordCmp

@[expose] public section

set_option maxRecDepth 16384

noncomputable section

namespace Cert.AttnIdeal.Body

open Cert.AttnIdeal Cert.AttnIdeal.Gen
open Idealize.ShloMosaic Idealize.ShloMosaic.TcCoe

/-- The scores' scale as the program writes it. -/
abbrev scb : EReal := Ideal.ofBits FTy.f32 1035273459#32

section
variable (q k v g : Vec Ideal S1024x128 .bf16) (A : Vec Ideal S1024x128 .f32) (f : Vec Ideal S1x1x1024 .f32) (F1 : FVec Ideal S1x1024 .f32) (l s C : Vec Ideal S1024x1 .f32)
  (p x : Fin 1024) (d : Fin 128)

theorem b4_at (r : Fin 4096) : k1_pay4 (F := Ideal) (ix2 r d) = (0 : EReal) := by
  unfold k1_pay4
  pointwise []
theorem b5_at (r : Fin 4096) : k1_pay5 (F := Ideal) (ix2 r 0) = (0 : EReal) := by
  unfold k1_pay5
  pointwise []

/-- The lane mask of a head. -/
theorem b3_at (i : grid1.Coords) (a b : EReal) : Scalar.select (k1_pay3 i (ix2 0 d)) a b = if d.val = (i 0).val then a else b := by
  unfold k1_pay3
  pointwise []
  have hi : (i 0).val < 16 := (i 0).isLt
  have hd : d.val < 128 := d.isLt
  by_cases h : d.val = (i 0).val
  · rw [if_pos h]
    exact WordCmp.select_of_eq_one ((WordCmp.cmpi_eq_ofNat_eq_one_iff (by omega) (by omega)).mpr h) _ _
  · rw [if_neg h]
    exact WordCmp.select_of_eq_zero ((WordCmp.cmpi_eq_ofNat_eq_zero_iff (by omega) (by omega)).mpr h) _ _
theorem b6_at (i : grid1.Coords) : k1_pay6 (F := Ideal) i A (ix2 p 0) = (∑ d : Fin 128, if d.val = (i 0).val then A (ix2 p d) else 0 : EReal) := by
  unfold k1_pay6
  pointwise []
  exact Finset.sum_congr rfl fun d _ => b3_at d i _ _
theorem b7_at : k1_pay7 (F := Ideal) g q (ix2 p 0) = (∑ d : Fin 128, g (ix2 p d) * q (ix2 p d) : EReal) := by
  unfold k1_pay7
  pointwise []
theorem b12_at : k1_pay12 (F := Ideal) A (ix3 0 p d) = (A (ix2 p d) * scb : EReal) := by
  unfold k1_pay12
  pointwise []
theorem b13_at : k1_pay13 (F := Ideal) A (ix3 0 p d) = (A (ix2 p d) : EReal) := by
  unfold k1_pay13
  pointwise []
theorem b14_at : k1_pay14 (F := Ideal) F1 (ix3 0 0 x) = (F1 (ix2 0 x) : EReal) := by
  unfold k1_pay14
  pointwise []
theorem b15_at : k1_pay15 (F := Ideal) A (ix3 0 p d) = (A (ix2 p d) * scb : EReal) := by
  unfold k1_pay15
  pointwise []
theorem b16_at (i : grid1.Coords) : k1_pay16 (F := Ideal) i C A (ix2 p d) = (if d.val = (i 0).val then C (ix2 p 0) else A (ix2 p d) : EReal) := by
  unfold k1_pay16
  pointwise []
  exact b3_at d i _ _

/-! ## A later query block -/

theorem b17_at : k1_pay17 (F := Ideal) k F1 q l (ix2 p x) = (Ideal.exp ((∑ d : Fin 128, q (ix2 p d) * k (ix2 x d)) * scb - F1 (ix2 0 x) - l (ix2 p 0)) : EReal) := by
  unfold k1_pay17
  pointwise []
theorem b18_at : k1_pay18 (F := Ideal) k v F1 q g l s (ix2 p x)
    = (k1_pay17 (F := Ideal) k F1 q l (ix2 p x) * (∑ d : Fin 128, g (ix2 p d) * v (ix2 x d) - s (ix2 p 0)) : EReal) := by
  unfold k1_pay18
  generalize k1_pay17 k F1 q l = G
  pointwise []
theorem b19_at : k1_pay19 (F := Ideal) k v F1 q g l s (ix2 p x) = (k1_pay18 (F := Ideal) k v F1 q g l s (ix2 p x) : EReal) := by
  unfold k1_pay19
  generalize k1_pay18 k v F1 q g l s = G
  pointwise []
theorem b20_at : k1_pay20 (F := Ideal) k F1 q g l (ix2 x d) = (∑ p : Fin 1024, k1_pay17 (F := Ideal) k F1 q l (ix2 p x) * g (ix2 p d) : EReal) := by
  unfold k1_pay20
  generalize k1_pay17 k F1 q l = G
  pointwise []
theorem b21_at : k1_pay21 (F := Ideal) k v F1 q g l s (ix2 x d) = (∑ p : Fin 1024, k1_pay19 (F := Ideal) k v F1 q g l s (ix2 p x) * q (ix2 p d) : EReal) := by
  unfold k1_pay21
  generalize k1_pay19 k v F1 q g l s = G
  pointwise []
theorem b22_at : k1_pay22 (F := Ideal) k v F1 q g l s A (ix2 p d) = (A (ix2 p d) + ∑ x : Fin 1024, k1_pay19 (F := Ideal) k v F1 q g l s (ix2 p x) * k (ix2 x d) : EReal) := by
  unfold k1_pay22
  generalize k1_pay19 k v F1 q g l s = G
  pointwise []
theorem b23_at : k1_pay53 (F := Ideal) (k1_pay23 (F := Ideal) k v F1 q g l s C) (ix2 p 0) = (C (ix2 p 0) + ∑ x : Fin 1024, k1_pay18 (F := Ideal) k v F1 q g l s (ix2 p x) : EReal) := by
  unfold k1_pay53 k1_pay23
  generalize k1_pay18 k v F1 q g l s = G
  pointwise []
theorem b54_at (a : FVec Ideal S1024x128 .f32) : k1_pay54 (F := Ideal) a A (ix2 p d) = (a (ix2 p d) + A (ix2 p d) : EReal) := by
  unfold k1_pay54
  pointwise []
theorem b55_at (a : FVec Ideal S1024x128 .f32) : k1_pay55 (F := Ideal) a A (ix2 p d) = (a (ix2 p d) + A (ix2 p d) : EReal) := by
  unfold k1_pay55
  pointwise []
theorem b56_at (G : FVec Ideal S1024x1024 .f32) : k1_pay56 (F := Ideal) F1 G (ix2 0 x) = (F1 (ix2 0 x) + ∑ p : Fin 1024, G (ix2 p x) : EReal) := by
  unfold k1_pay56
  pointwise []

/-! ## The first diagonal strip -/

variable (z : Fin 512)

/-- A number below 512 as one below 1024, and 512 further on. -/
abbrev lo (z : Fin 512) : Fin 1024 := ⟨z.val, by omega⟩
abbrev hi (z : Fin 512) : Fin 1024 := ⟨512 + z.val, by omega⟩

theorem b31_at : k1_pay31 (F := Ideal) f (ix2 0 x) = (f (ix3 0 0 x) : EReal) := by
  unfold k1_pay31
  pointwise []
theorem b32_at : k1_pay32 (F := Ideal) k (ix2 z d) = (k (ix2 (lo z) d) : EReal) := by
  unfold k1_pay32
  pointwise []
theorem b33_at : k1_pay33 (F := Ideal) k f q l (ix2 p z)
    = (if z.val ≤ p.val then Ideal.exp ((∑ d : Fin 128, q (ix2 p d) * k (ix2 (lo z) d)) * scb - f (ix3 0 0 (lo z)) - l (ix2 p 0)) else 0 : EReal) := by
  unfold k1_pay33 k1_pay31 k1_pay32
  pointwise []
  have hz : z.val < 512 := z.isLt
  have hp : p.val < 1024 := p.isLt
  by_cases h : z.val ≤ p.val
  · rw [if_pos h]
    exact WordCmp.select_of_eq_one ((WordCmp.cmpi_sle_ofNat_eq_one_iff (by omega) (by omega)).mpr h) _ _
  · rw [if_neg h]
    exact WordCmp.select_of_eq_zero ((WordCmp.cmpi_sle_ofNat_eq_zero_iff (by omega) (by omega)).mpr (by omega)) _ _
theorem b34_at : k1_pay34 (F := Ideal) k v f q g l s (ix2 p z)
    = (k1_pay33 (F := Ideal) k f q l (ix2 p z) * (∑ d : Fin 128, g (ix2 p d) * v (ix2 (lo z) d) - s (ix2 p 0)) : EReal) := by
  unfold k1_pay34
  generalize k1_pay33 k f q l = G
  pointwise []
theorem b35_at : k1_pay35 (F := Ideal) k v f q g l s (ix2 p z) = (k1_pay34 (F := Ideal) k v f q g l s (ix2 p z) : EReal) := by
  unfold k1_pay35
  generalize k1_pay34 k v f q g l s = G
  pointwise []
theorem b36_at : k1_pay36 (F := Ideal) k f q g l (ix2 z d) = (∑ p : Fin 1024, k1_pay33 (F := Ideal) k f q l (ix2 p z) * g (ix2 p d) : EReal) := by
  unfold k1_pay36
  generalize k1_pay33 k f q l = G
  pointwise []
theorem b37_at (G : FVec Ideal S1024x512 .bf16) : k1_pay37 (F := Ideal) q G (ix2 z d) = (∑ p : Fin 1024, G (ix2 p z) * q (ix2 p d) : EReal) := by
  unfold k1_pay37
  pointwise []
theorem b38_at (K : FVec Ideal S512x128 .bf16) (G : FVec Ideal S1024x512 .bf16) : k1_pay38 (F := Ideal) K G A (ix2 p d) = (A (ix2 p d) + ∑ z : Fin 512, G (ix2 p z) * K (ix2 z d) : EReal) := by
  unfold k1_pay38
  pointwise []
theorem b39_at (G : FVec Ideal S1024x512 .f32) : k1_pay39 (F := Ideal) G C (ix2 p 0) = (C (ix2 p 0) + ∑ z : Fin 512, G (ix2 p z) : EReal) := by
  unfold k1_pay39
  pointwise []
theorem b40_at (G : FVec Ideal S1024x512 .f32) : k1_pay40 (F := Ideal) G (ix2 0 z) = (∑ p : Fin 1024, G (ix2 p z) : EReal) := by
  unfold k1_pay40
  pointwise []

/-! ## The second diagonal strip -/

variable (K V Q G : Vec Ideal S512x128 .bf16) (P : FVec Ideal S512x512 .f32) (l2 s2 C2 : Vec Ideal S512x1 .f32) (A2 : Vec Ideal S512x128 .f32) (y : Fin 512)

theorem b41_at : k1_pay41 (F := Ideal) k (ix2 z d) = (k (ix2 (hi z) d) : EReal) := by
  unfold k1_pay41
  pointwise []
theorem b42_at : k1_pay42 (F := Ideal) k (ix2 z d) = (k (ix2 (hi z) d) : EReal) := by
  unfold k1_pay42
  pointwise []
theorem b43_at : k1_pay43 (F := Ideal) k F1 Q l2 (ix2 y z) = (Ideal.exp ((∑ d : Fin 128, Q (ix2 y d) * k (ix2 (hi z) d)) * scb - F1 (ix2 0 (hi z)) - l2 (ix2 y 0)) : EReal) := by
  unfold k1_pay43 k1_pay41
  pointwise []
theorem b45_at : k1_pay45 (F := Ideal) P k1_pay44 (ix2 y z) = (if z.val ≤ y.val then P (ix2 y z) else 0 : EReal) := by
  unfold k1_pay45 k1_pay44
  pointwise []
  have hz : z.val < 512 := z.isLt
  have hp : y.val < 512 := y.isLt
  by_cases h : z.val ≤ y.val
  · rw [if_pos h]
    exact WordCmp.select_of_eq_one ((WordCmp.cmpi_sle_ofNat_eq_one_iff (by omega) (by omega)).mpr h) _ _
  · rw [if_neg h]
    exact WordCmp.select_of_eq_zero ((WordCmp.cmpi_sle_ofNat_eq_zero_iff (by omega) (by omega)).mpr (by omega)) _ _
theorem b46_at (m : IVec S512x512 1) : k1_pay46 (F := Ideal) V G P m s2 (ix2 y z)
    = (k1_pay45 (F := Ideal) P m (ix2 y z) * (∑ d : Fin 128, G (ix2 y d) * V (ix2 z d) - s2 (ix2 y 0)) : EReal) := by
  unfold k1_pay46
  generalize k1_pay45 P m = H
  pointwise []
theorem b47_at (m : IVec S512x512 1) : k1_pay47 (F := Ideal) V G P m s2 (ix2 y z) = (k1_pay46 (F := Ideal) V G P m s2 (ix2 y z) : EReal) := by
  unfold k1_pay47
  generalize k1_pay46 V G P m s2 = H
  pointwise []
theorem b48_at (m : IVec S512x512 1) : k1_pay48 (F := Ideal) K V G P m s2 A2 (ix2 y d) = (A2 (ix2 y d) + ∑ z : Fin 512, k1_pay47 (F := Ideal) V G P m s2 (ix2 y z) * K (ix2 z d) : EReal) := by
  unfold k1_pay48
  generalize k1_pay47 V G P m s2 = H
  pointwise []
theorem b49_at (m : IVec S512x512 1) : k1_pay49 (F := Ideal) V G P m s2 C2 (ix2 y 0) = (C2 (ix2 y 0) + ∑ z : Fin 512, k1_pay46 (F := Ideal) V G P m s2 (ix2 y z) : EReal) := by
  unfold k1_pay49
  generalize k1_pay46 V G P m s2 = H
  pointwise []

/-- The two strips' rows one after the other. -/
theorem b50_at (D : FVec Ideal S512x128 .f32) (m : IVec S512x512 1) : k1_pay50 (F := Ideal) D V Q G P m s2 (ix2 x d)
    = (if h : x.val < 512 then D (ix2 ⟨x.val, h⟩ d) else ∑ y : Fin 512, k1_pay47 (F := Ideal) V G P m s2 (ix2 y ⟨x.val - 512, by omega⟩) * Q (ix2 y d) : EReal) := by
  unfold k1_pay50
  generalize k1_pay47 V G P m s2 = H
  pointwise []
theorem b51_at (D : FVec Ideal S512x128 .f32) (m : IVec S512x512 1) : k1_pay51 (F := Ideal) D G P m (ix2 x d)
    = (if h : x.val < 512 then D (ix2 ⟨x.val, h⟩ d) else ∑ y : Fin 512, k1_pay45 (F := Ideal) P m (ix2 y ⟨x.val - 512, by omega⟩) * G (ix2 y d) : EReal) := by
  unfold k1_pay51
  generalize k1_pay45 P m = H
  pointwise []
theorem b52_at (D : FVec Ideal S1x512 .f32) (m : IVec S512x512 1) : k1_pay52 (F := Ideal) D V G P m s2 (ix2 0 x)
    = (if h : x.val < 512 then D (ix2 0 ⟨x.val, h⟩) else ∑ y : Fin 512, k1_pay46 (F := Ideal) V G P m s2 (ix2 y ⟨x.val - 512, by omega⟩) : EReal) := by
  unfold k1_pay52
  generalize k1_pay46 V G P m s2 = H
  pointwise []
end

end Cert.AttnIdeal.Body

end
-- ==== Proof.AttnBwdValue.lean ====
/- One key block of the backward attention kernel at a head with real operands: what it adds to the query gradients and
   the gate gradients' row sums, and its key, value and gate gradients. -/
module

public import proofs.«01_k».proof.Proof.AttnBwdPay
public import proofs.«01_k».proof.Proof.AttnFwdValue

@[expose] public section

set_option maxRecDepth 16384

noncomputable section

namespace Cert.AttnIdeal.Body

open Cert.AttnIdeal Cert.AttnIdeal.Gen Cert.AttnSpec Cert.Steps
open Idealize.ShloMosaic Idealize.ShloMosaic.TcCoe

/-! ## Sums over blocks -/

/-- A block's sum as its two halves. -/
theorem halves (w : ℕ → ℝ) : ∑ x ∈ Finset.range 1024, w x = ∑ x ∈ Finset.range 512, w x + ∑ x ∈ Finset.range 512, w (512 + x) :=
  Finset.sum_range_add w 512 512

/-- A sum over the first blocks with one more block. -/
theorem block_succ (w : ℕ → ℝ) (n : ℕ) : ∑ x ∈ Finset.range (1024 * (n + 1)), w x = ∑ x ∈ Finset.range (1024 * n), w x + ∑ x ∈ Finset.range 1024, w (1024 * n + x) := by
  rw [show 1024 * (n + 1) = 1024 * n + 1024 by ring, Finset.sum_range_add]

/-- A row's value after the diagonal strips of key block `t`, each adding its half where the row lies in it. -/
theorem diag_rows (w : ℕ → ℝ) (t r : ℕ) (hw : ∀ c, r < c → w c = 0) (a : ℝ) (v0 v1 v2 : EReal) (h0 : v0 = (a : ℝ))
    (h1 : v1 = if 1024 * t ≤ r ∧ r < 1024 * t + 1024 then v0 + ((∑ x ∈ Finset.range 512, w (1024 * t + x) : ℝ) : EReal) else v0)
    (h2 : v2 = if 1024 * t + 512 ≤ r ∧ r < 1024 * t + 512 + 512 then v1 + ((∑ x ∈ Finset.range 512, w (1024 * t + (512 + x)) : ℝ) : EReal) else v1) :
    v2 = ((a + if r < 1024 * (t + 1) then ∑ x ∈ Finset.range 1024, w (1024 * t + x) else 0 : ℝ) : EReal) := by
  rw [halves]
  have z1 : r < 1024 * t → ∑ x ∈ Finset.range 512, w (1024 * t + x) = 0 := fun h => Finset.sum_eq_zero fun x _ => hw _ (by omega)
  have z2 : r < 1024 * t + 512 → ∑ x ∈ Finset.range 512, w (1024 * t + (512 + x)) = 0 := fun h => Finset.sum_eq_zero fun x _ => hw _ (by omega)
  rw [h2, h1, h0]
  by_cases e1 : r < 1024 * t
  · rw [if_neg (by omega), if_neg (by omega), if_pos (by omega), z1 e1, z2 (by omega), add_zero, add_zero]
  by_cases e2 : r < 1024 * t + 512
  · rw [if_neg (by omega), if_pos (by omega), if_pos (by omega), z2 e2, add_zero, EReal.coe_add]
  by_cases e3 : r < 1024 * t + 1024
  · rw [if_pos (by omega), if_pos (by omega), if_pos (by omega), ← EReal.coe_add, ← EReal.coe_add, add_assoc]
  · rw [if_neg (by omega), if_neg (by omega), if_neg (by omega), add_zero]

/-- A row's value after the later query blocks, the one the row lies in adding its sum. -/
theorem later_rows {α : Type} {N : ℕ} (t r : ℕ) (ht : t < 4) (hr : r < 4096) (hN : N = 3 - t) (s a : ℝ) (f : Fin N → α → α) (X : α) (v : α → EReal)
    (h0 : v X = ((a + if r < 1024 * (t + 1) then s else 0 : ℝ) : EReal))
    (hf : ∀ u X, v (f u X) = if 1024 * (t + 1 + u.val) ≤ r ∧ r < 1024 * (t + 1 + u.val) + 1024 then v X + (s : EReal) else v X) :
    v (steps f X N) = ((a + s : ℝ) : EReal) := by
  have key : ∀ n, n ≤ N → v (steps f X n) = ((a + if r < 1024 * (t + 1 + n) then s else 0 : ℝ) : EReal) := by
    intro n
    induction n with
    | zero => exact fun _ => h0
    | succ n ih =>
      intro hn
      rw [show n + 1 = (⟨n, hn⟩ : Fin N).val + 1 from rfl, steps_succ, hf, ih (by omega)]
      show (if 1024 * (t + 1 + n) ≤ r ∧ r < 1024 * (t + 1 + n) + 1024 then _ else _) = ((a + if r < 1024 * (t + 1 + (n + 1)) then s else 0 : ℝ) : EReal)
      by_cases e : r < 1024 * (t + 1 + n)
      · rw [if_neg (by omega), if_pos e, if_pos (by omega)]
      by_cases e' : r < 1024 * (t + 1 + n) + 1024
      · rw [if_pos ⟨by omega, e'⟩, if_neg e, if_pos (by omega), add_zero, EReal.coe_add]
      · rw [if_neg (fun h => e' h.2), if_neg e, if_neg (by omega)]
  rw [key N le_rfl, if_pos (by omega)]

/-- A column's value after the diagonal strips. -/
theorem diag_cols (w : ℕ → ℝ) (t x : ℕ) (hx : x < 1024) (hw : ∀ r, r < 1024 * t + x → w r = 0) (v : EReal)
    (h1 : x < 512 → v = ((∑ p ∈ Finset.range 1024, w (1024 * t + p) : ℝ) : EReal))
    (h2 : ¬ x < 512 → v = ((∑ p ∈ Finset.range 512, w (1024 * t + (512 + p)) : ℝ) : EReal)) :
    v = ((∑ r ∈ Finset.range (1024 * (t + 1)), w r : ℝ) : EReal) := by
  have z : ∑ r ∈ Finset.range (1024 * t), w r = 0 := Finset.sum_eq_zero fun r hr => hw _ (by have := Finset.mem_range.mp hr; omega)
  rw [block_succ, z, zero_add]
  by_cases h : x < 512
  · exact h1 h
  · have z2 : ∑ p ∈ Finset.range 512, w (1024 * t + p) = 0 := Finset.sum_eq_zero fun p hp => hw _ (by have := Finset.mem_range.mp hp; omega)
    rw [h2 h, halves (fun p => w (1024 * t + p)), z2, zero_add]

/-- A column's value after the later query blocks. -/
theorem later_cols {α : Type} {N : ℕ} (w : ℕ → ℝ) (t : ℕ) (ht : t < 4) (hN : N = 3 - t) (f : Fin N → α → α) (X : α) (v : α → EReal)
    (h0 : v X = ((∑ r ∈ Finset.range (1024 * (t + 1)), w r : ℝ) : EReal))
    (hf : ∀ u X, v (f u X) = v X + ((∑ p ∈ Finset.range 1024, w (1024 * (t + 1 + u.val) + p) : ℝ) : EReal)) :
    v (steps f X N) = ((∑ r ∈ Finset.range 4096, w r : ℝ) : EReal) := by
  have key : ∀ n, n ≤ N → v (steps f X n) = ((∑ r ∈ Finset.range (1024 * (t + 1 + n)), w r : ℝ) : EReal) := by
    intro n
    induction n with
    | zero => exact fun _ => h0
    | succ n ih =>
      intro hn
      rw [show n + 1 = (⟨n, hn⟩ : Fin N).val + 1 from rfl, steps_succ, hf, ih (by omega), ← EReal.coe_add]
      show ((_ + ∑ p ∈ Finset.range 1024, w (1024 * (t + 1 + n) + p) : ℝ) : EReal) = ((∑ r ∈ Finset.range (1024 * (t + 1 + n + 1)), w r : ℝ) : EReal)
      rw [block_succ w (t + 1 + n)]
  rw [key N le_rfl, show 1024 * (t + 1 + N) = 4096 by omega]

/-! ## A head's operands -/

/-- The operands of a head's key blocks are the reals `A`, with each row's log-sum and gradient sum. -/
structure IsHead (S : Src Ideal) (A : Ar) (h : Fin 16) : Prop where
  q : IsRows S.q A.q
  k : IsRows S.k A.k
  v : IsRows S.v A.v
  g : IsRows S.d A.g
  f : IsGate S.f h A.f
  l : IsRows S.l (fun r _ => A.L r)
  s : IsRows S.s (fun r _ => A.del r)

theorem trips3 : ∀ t : Fin k1_t2_loop.trips, (k1_t3_loop t).trips = 3 - t.val := by decide +kernel
theorem off4_eq : ∀ (i : grid1.Coords) (t : Fin k1_t2_loop.trips), k1_off4 i t = ![t.val, (i 0).val, 0] := by decide +kernel
theorem off9_eq : ∀ (t : Fin k1_t2_loop.trips) (u : Fin (k1_t3_loop t).trips), k1_off9 t u = ![1024 * (t.val + 1 + u.val), 0] := by decide +kernel
theorem off10_eq : ∀ (t : Fin k1_t2_loop.trips) (u : Fin (k1_t3_loop t).trips), k1_off10 t u = ![1024 * (t.val + 1 + u.val), 0] := by decide +kernel

/-- A weight from real operands. -/
theorem weight_real (A : Ar) (hsc : scb = (A.a : ℝ)) (r c : ℕ) (h : c ≤ r) (q k : Fin 128 → EReal) (f l : EReal) (hq : ∀ d, q d = (A.q r d.val : ℝ)) (hk : ∀ d, k d = (A.k c d.val : ℝ))
    (hf : f = (A.f c : ℝ)) (hl : l = (A.L r : ℝ)) : Ideal.exp ((∑ d, q d * k d) * scb - f - l) = ((A.p r c : ℝ) : EReal) := by
  rw [score_real A hsc r c q k f hq hk hf, hl, ← EReal.coe_sub, Scalars.exp_coe, A.exp_sub_L r c h]

/-- A score's gradient from real operands. -/
theorem grad_real (A : Ar) (r c : ℕ) (P : EReal) (hP : P = (A.p r c : ℝ)) (g v : Fin 128 → EReal) (s : EReal) (hg : ∀ d, g d = (A.g r d.val : ℝ)) (hv : ∀ d, v d = (A.v c d.val : ℝ))
    (hs : s = (A.del r : ℝ)) : P * ((∑ d, g d * v d) - s) = ((A.ds r c : ℝ) : EReal) := by
  rw [Online.sum_fin 128 (fun d => A.g r d * A.v c d) _ (fun d => by rw [hg, hv, ← EReal.coe_mul]), hP, hs, ← EReal.coe_sub, ← EReal.coe_mul]
  rfl

section
variable (A : Ar) (hsc : scb = (A.a : ℝ)) (i : grid1.Coords) (S : Src Ideal) (H : IsHead S A ⟨(i 0).val, (i 0).isLt⟩) (t : Fin k1_t2_loop.trips)
include hsc H

theorem ht4 : t.val < 4 := trips2 ▸ t.isLt

/-! ## The strips' and blocks' weights and gradients -/

theorem gate_at (x : Fin 1024) : gR S i t (ix3 0 0 x) = ((A.f (1024 * t.val + x.val) : ℝ) : EReal) :=
  ld_gate _ t.val _ (off4_eq i t) (k1_off4_inb i t) S.f A.f H.f (trips2 ▸ t.isLt) x

theorem p1_at (p : Fin 1024) (z : Fin 512) : k1_pay33 (kR S t) (gR S i t) (q1 S t) (l1 S t) (ix2 p z) = ((A.p (1024 * t.val + p.val) (1024 * t.val + z.val) : ℝ) : EReal) := by
  have ht : t.val < 4 := trips2 ▸ t.isLt
  rw [b33_at]
  by_cases h : z.val ≤ p.val
  · rw [if_pos h]
    exact weight_real A hsc _ _ (by omega) _ _ _ _ (fun d => ld_real _ _ (off5_eq t) (k1_off5_inb t) S.q A.q H.q (by omega) p d)
      (fun d => ld_real _ _ (off3_eq t) (k1_off3_inb t) S.k A.k H.k (by omega) (lo z) d) (gate_at A hsc i S H t (lo z))
      (ld_real _ _ (off6_eq t) (k1_off6_inb t) S.l _ H.l (by omega) p 0)
  · rw [if_neg h, A.p_past _ _ (by omega)]
    rfl
theorem ds1_at (p : Fin 1024) (z : Fin 512) : ds1 S i t (ix2 p z) = ((A.ds (1024 * t.val + p.val) (1024 * t.val + z.val) : ℝ) : EReal) := by
  have ht : t.val < 4 := trips2 ▸ t.isLt
  unfold ds1
  rw [b34_at]
  exact grad_real A _ _ _ (p1_at A hsc i S H t p z) _ _ _ (fun d => ld_real _ _ (off5_eq t) (k1_off5_inb t) S.d A.g H.g (by omega) p d)
    (fun d => ld_real _ _ (off3_eq t) (k1_off3_inb t) S.v A.v H.v (by omega) (lo z) d) (ld_real _ _ (off6_eq t) (k1_off6_inb t) S.s _ H.s (by omega) p 0)
theorem dsb1_at (p : Fin 1024) (z : Fin 512) : dsb1 S i t (ix2 p z) = ((A.ds (1024 * t.val + p.val) (1024 * t.val + z.val) : ℝ) : EReal) :=
  (b35_at _ _ _ _ _ _ _ p z).trans (ds1_at A hsc i S H t p z)

theorem p2_at (y z : Fin 512) : k1_pay45 (p2 S i t) k1_pay44 (ix2 y z) = ((A.p (1024 * t.val + (512 + y.val)) (1024 * t.val + (512 + z.val)) : ℝ) : EReal) := by
  have ht : t.val < 4 := trips2 ▸ t.isLt
  rw [b45_at]
  by_cases h : z.val ≤ y.val
  · rw [if_pos h]
    unfold p2
    rw [b43_at, b31_at, ← add_assoc]
    exact weight_real A hsc _ _ (by omega) _ _ _ _ (fun d => ld_real _ _ (off7_eq t) (k1_off7_inb t) S.q A.q H.q (by omega) y d)
      (fun d => ld_real _ _ (off3_eq t) (k1_off3_inb t) S.k A.k H.k (by omega) (hi z) d) (gate_at A hsc i S H t (hi z))
      (ld_real _ _ (off8_eq t) (k1_off8_inb t) S.l _ H.l (by omega) y 0)
  · rw [if_neg h, A.p_past _ _ (by omega)]
    rfl
theorem ds2_at (y z : Fin 512) : k1_pay46 (k1_pay42 (vR S t)) (d2 S t) (p2 S i t) k1_pay44 (s2 S t) (ix2 y z)
    = ((A.ds (1024 * t.val + (512 + y.val)) (1024 * t.val + (512 + z.val)) : ℝ) : EReal) := by
  have ht : t.val < 4 := trips2 ▸ t.isLt
  rw [b46_at, p2_at A hsc i S H t y z]
  refine grad_real A _ _ _ rfl _ _ _ (fun d => ?_) (fun d => ?_) ?_
  · exact (ld_real _ _ (off7_eq t) (k1_off7_inb t) S.d A.g H.g (by omega) y d).trans (by rw [add_assoc])
  · exact (b42_at _ d z).trans (ld_real _ _ (off3_eq t) (k1_off3_inb t) S.v A.v H.v (by omega) (hi z) d)
  · exact (ld_real _ _ (off8_eq t) (k1_off8_inb t) S.s _ H.s (by omega) y 0).trans (by rw [add_assoc])
theorem dsb2_at (y z : Fin 512) : k1_pay47 (k1_pay42 (vR S t)) (d2 S t) (p2 S i t) k1_pay44 (s2 S t) (ix2 y z)
    = ((A.ds (1024 * t.val + (512 + y.val)) (1024 * t.val + (512 + z.val)) : ℝ) : EReal) :=
  (b47_at _ _ _ _ _ _ _).trans (ds2_at A hsc i S H t y z)

section
variable (u : Fin (k1_t3_loop t).trips)

theorem p3_at (p x : Fin 1024) : k1_pay17 (kR S t) (k1_pay31 (gR S i t)) (View.ld S.q (rect9 t u)) (View.ld S.l (rect10 t u)) (ix2 p x)
    = ((A.p (1024 * (t.val + 1 + u.val) + p.val) (1024 * t.val + x.val) : ℝ) : EReal) := by
  have ht : t.val < 4 := trips2 ▸ t.isLt
  have hu : u.val < 3 - t.val := trips3 t ▸ u.isLt
  rw [b17_at, b31_at]
  exact weight_real A hsc _ _ (by omega) _ _ _ _ (fun d => ld_real _ _ (off9_eq t u) (k1_off9_inb t u) S.q A.q H.q (by omega) p d)
      (fun d => ld_real _ _ (off3_eq t) (k1_off3_inb t) S.k A.k H.k (by omega) x d) (gate_at A hsc i S H t x)
      (ld_real _ _ (off10_eq t u) (k1_off10_inb t u) S.l _ H.l (by omega) p 0)
theorem ds3_at (p x : Fin 1024) : k1_pay18 (kR S t) (vR S t) (k1_pay31 (gR S i t)) (View.ld S.q (rect9 t u)) (View.ld S.d (rect9 t u)) (View.ld S.l (rect10 t u)) (View.ld S.s (rect10 t u)) (ix2 p x)
    = ((A.ds (1024 * (t.val + 1 + u.val) + p.val) (1024 * t.val + x.val) : ℝ) : EReal) := by
  have ht : t.val < 4 := trips2 ▸ t.isLt
  have hu : u.val < 3 - t.val := trips3 t ▸ u.isLt
  rw [b18_at]
  exact grad_real A _ _ _ (p3_at A hsc i S H t u p x) _ _ _ (fun d => ld_real _ _ (off9_eq t u) (k1_off9_inb t u) S.d A.g H.g (by omega) p d)
    (fun d => ld_real _ _ (off3_eq t) (k1_off3_inb t) S.v A.v H.v (by omega) x d) (ld_real _ _ (off10_eq t u) (k1_off10_inb t u) S.s _ H.s (by omega) p 0)
theorem dsb3_at (p x : Fin 1024) : k1_pay19 (kR S t) (vR S t) (k1_pay31 (gR S i t)) (View.ld S.q (rect9 t u)) (View.ld S.d (rect9 t u)) (View.ld S.l (rect10 t u)) (View.ld S.s (rect10 t u)) (ix2 p x)
    = ((A.ds (1024 * (t.val + 1 + u.val) + p.val) (1024 * t.val + x.val) : ℝ) : EReal) :=
  (b19_at _ _ _ _ _ _ _ _ _).trans (ds3_at A hsc i S H t u p x)
end

/-! ## The query gradients' rows and the gate gradients' row sums -/

/-- Key block `t` adds its columns' terms to a row of the query gradients. -/
theorem keyA_at (X : Rows (F := Ideal)) (r : Fin 4096) (d : Fin 128) (a : ℝ) (hX : X (ix2 r d) = (a : EReal)) :
    keyA S i t X (ix2 r d) = ((a + ∑ x ∈ Finset.range 1024, A.ds r.val (1024 * t.val + x) * A.k (1024 * t.val + x) d.val : ℝ) : EReal) := by
  have ht : t.val < 4 := trips2 ▸ t.isLt
  have hr : r.val < 4096 := r.isLt
  refine later_rows t.val r.val ht hr (trips3 t) _ a _ _ (fun X : Rows (F := Ideal) => X (ix2 r d)) ?_ (fun u X => ?_)
  · refine diag_rows (fun c => A.ds r.val c * A.k c d.val) t.val r.val (fun c hc => by rw [A.ds_past _ _ hc, zero_mul]) a (X (ix2 r d)) (diagA1 S i t X (ix2 r d)) _ hX ?_ ?_
    · refine (Blocks.overlay_rows (Val := Elt Ideal) (e := .f32) _ _ (off5_eq t) (k1_off5_inb t) X _ r d).trans ?_
      by_cases h : 1024 * t.val ≤ r.val ∧ r.val < 1024 * t.val + 1024
      · rw [dif_pos h, if_pos h, b38_at]
        refine congrArg₂ (· + ·) ?_ ?_
        · refine (Blocks.ld_rows (Val := Elt Ideal) (e := .f32) _ _ (off5_eq t) (k1_off5_inb t) X _ d (by show 1024 * t.val + (r.val - 1024 * t.val) < 4096; omega)).trans ?_
          exact congrArg (fun x : Fin 4096 => X (ix2 x d)) (Fin.ext (by show 1024 * t.val + (r.val - 1024 * t.val) = r.val; omega))
        · refine Online.sum_fin 512 (fun x => A.ds r.val (1024 * t.val + x) * A.k (1024 * t.val + x) d.val) _ (fun z => ?_)
          rw [dsb1_at A hsc i S H t, b32_at, EReal.coe_mul]
          refine congrArg₂ (· * ·) ?_ (ld_real _ _ (off3_eq t) (k1_off3_inb t) S.k A.k H.k (by omega) (lo z) d)
          rw [show 1024 * t.val + (r.val - 1024 * t.val) = r.val by omega]
      · rw [dif_neg h, if_neg h]
    · refine (Blocks.overlay_rows (Val := Elt Ideal) (e := .f32) _ _ (off7_eq t) (k1_off7_inb t) _ _ r d).trans ?_
      by_cases h : 1024 * t.val + 512 ≤ r.val ∧ r.val < 1024 * t.val + 512 + 512
      · rw [dif_pos h, if_pos h, b48_at]
        refine congrArg₂ (· + ·) ?_ ?_
        · refine (Blocks.ld_rows (Val := Elt Ideal) (e := .f32) _ _ (off7_eq t) (k1_off7_inb t) _ _ d (by show 1024 * t.val + 512 + (r.val - (1024 * t.val + 512)) < 4096; omega)).trans ?_
          exact congrArg (fun x : Fin 4096 => diagA1 S i t X (ix2 x d)) (Fin.ext (by show 1024 * t.val + 512 + (r.val - (1024 * t.val + 512)) = r.val; omega))
        · refine Online.sum_fin 512 (fun x => A.ds r.val (1024 * t.val + (512 + x)) * A.k (1024 * t.val + (512 + x)) d.val) _ (fun z => ?_)
          rw [dsb2_at A hsc i S H t, b41_at, EReal.coe_mul]
          refine congrArg₂ (· * ·) ?_ (ld_real _ _ (off3_eq t) (k1_off3_inb t) S.k A.k H.k (by omega) (hi z) d)
          rw [show 1024 * t.val + (512 + (r.val - (1024 * t.val + 512))) = r.val by omega]
      · rw [dif_neg h, if_neg h]
  · refine (Blocks.overlay_rows (Val := Elt Ideal) (e := .f32) _ _ (off9_eq t u) (k1_off9_inb t u) X _ r d).trans ?_
    by_cases h : 1024 * (t.val + 1 + u.val) ≤ r.val ∧ r.val < 1024 * (t.val + 1 + u.val) + 1024
    · rw [dif_pos h, if_pos h, b22_at]
      refine congrArg₂ (· + ·) ?_ ?_
      · refine (Blocks.ld_rows (Val := Elt Ideal) (e := .f32) _ _ (off9_eq t u) (k1_off9_inb t u) X _ d (by show 1024 * (t.val + 1 + u.val) + (r.val - 1024 * (t.val + 1 + u.val)) < 4096; omega)).trans ?_
        exact congrArg (fun x : Fin 4096 => X (ix2 x d)) (Fin.ext (by show 1024 * (t.val + 1 + u.val) + (r.val - 1024 * (t.val + 1 + u.val)) = r.val; omega))
      · refine Online.sum_fin 1024 (fun x => A.ds r.val (1024 * t.val + x) * A.k (1024 * t.val + x) d.val) _ (fun z => ?_)
        rw [dsb3_at A hsc i S H t, EReal.coe_mul]
        refine congrArg₂ (· * ·) ?_ (ld_real _ _ (off3_eq t) (k1_off3_inb t) S.k A.k H.k (by omega) z d)
        rw [show 1024 * (t.val + 1 + u.val) + (r.val - 1024 * (t.val + 1 + u.val)) = r.val by omega]
    · rw [dif_neg h, if_neg h]

/-- Key block `t` adds its columns' gradients to a row sum. -/
theorem keyC_at (X : Col1 (F := Ideal)) (r : Fin 4096) (a : ℝ) (hX : X (ix2 r 0) = (a : EReal)) :
    keyC S i t X (ix2 r 0) = ((a + ∑ x ∈ Finset.range 1024, A.ds r.val (1024 * t.val + x) : ℝ) : EReal) := by
  have ht : t.val < 4 := trips2 ▸ t.isLt
  have hr : r.val < 4096 := r.isLt
  refine later_rows t.val r.val ht hr (trips3 t) _ a _ _ (fun X : Col1 (F := Ideal) => X (ix2 r 0)) ?_ (fun u X => ?_)
  · refine diag_rows (fun c => A.ds r.val c) t.val r.val (fun c hc => A.ds_past _ _ hc) a (X (ix2 r 0)) (diagC1 S i t X (ix2 r 0)) _ hX ?_ ?_
    · refine (Blocks.overlay_rows (Val := Elt Ideal) (e := .f32) _ _ (off6_eq t) (k1_off6_inb t) X _ r 0).trans ?_
      by_cases h : 1024 * t.val ≤ r.val ∧ r.val < 1024 * t.val + 1024
      · rw [dif_pos h, if_pos h, b39_at]
        refine congrArg₂ (· + ·) ?_ ?_
        · refine (Blocks.ld_rows (Val := Elt Ideal) (e := .f32) _ _ (off6_eq t) (k1_off6_inb t) X _ 0 (by show 1024 * t.val + (r.val - 1024 * t.val) < 4096; omega)).trans ?_
          exact congrArg (fun x : Fin 4096 => X (ix2 x 0)) (Fin.ext (by show 1024 * t.val + (r.val - 1024 * t.val) = r.val; omega))
        · refine Online.sum_fin 512 (fun x => A.ds r.val (1024 * t.val + x)) _ (fun z => ?_)
          rw [ds1_at A hsc i S H t]
          show ((A.ds (1024 * t.val + (r.val - 1024 * t.val)) _ : ℝ) : EReal) = _
          rw [show 1024 * t.val + (r.val - 1024 * t.val) = r.val by omega]
      · rw [dif_neg h, if_neg h]
    · refine (Blocks.overlay_rows (Val := Elt Ideal) (e := .f32) _ _ (off8_eq t) (k1_off8_inb t) _ _ r 0).trans ?_
      by_cases h : 1024 * t.val + 512 ≤ r.val ∧ r.val < 1024 * t.val + 512 + 512
      · rw [dif_pos h, if_pos h, b49_at]
        refine congrArg₂ (· + ·) ?_ ?_
        · refine (Blocks.ld_rows (Val := Elt Ideal) (e := .f32) _ _ (off8_eq t) (k1_off8_inb t) _ _ 0 (by show 1024 * t.val + 512 + (r.val - (1024 * t.val + 512)) < 4096; omega)).trans ?_
          exact congrArg (fun x : Fin 4096 => diagC1 S i t X (ix2 x 0)) (Fin.ext (by show 1024 * t.val + 512 + (r.val - (1024 * t.val + 512)) = r.val; omega))
        · refine Online.sum_fin 512 (fun x => A.ds r.val (1024 * t.val + (512 + x))) _ (fun z => ?_)
          rw [ds2_at A hsc i S H t]
          show ((A.ds (1024 * t.val + (512 + (r.val - (1024 * t.val + 512)))) _ : ℝ) : EReal) = _
          rw [show 1024 * t.val + (512 + (r.val - (1024 * t.val + 512))) = r.val by omega]
      · rw [dif_neg h, if_neg h]
  · refine (Blocks.overlay_rows (Val := Elt Ideal) (e := .f32) _ _ (off10_eq t u) (k1_off10_inb t u) X _ r 0).trans ?_
    by_cases h : 1024 * (t.val + 1 + u.val) ≤ r.val ∧ r.val < 1024 * (t.val + 1 + u.val) + 1024
    · rw [dif_pos h, if_pos h, b23_at]
      refine congrArg₂ (· + ·) ?_ ?_
      · refine (Blocks.ld_rows (Val := Elt Ideal) (e := .f32) _ _ (off10_eq t u) (k1_off10_inb t u) X _ 0 (by show 1024 * (t.val + 1 + u.val) + (r.val - 1024 * (t.val + 1 + u.val)) < 4096; omega)).trans ?_
        exact congrArg (fun x : Fin 4096 => X (ix2 x 0)) (Fin.ext (by show 1024 * (t.val + 1 + u.val) + (r.val - 1024 * (t.val + 1 + u.val)) = r.val; omega))
      · refine Online.sum_fin 1024 (fun x => A.ds r.val (1024 * t.val + x)) _ (fun z => ?_)
        rw [ds3_at A hsc i S H t]
        show ((A.ds (1024 * (t.val + 1 + u.val) + (r.val - 1024 * (t.val + 1 + u.val))) _ : ℝ) : EReal) = _
        rw [show 1024 * (t.val + 1 + u.val) + (r.val - 1024 * (t.val + 1 + u.val)) = r.val by omega]
    · rw [dif_neg h, if_neg h]

/-! ## The key block's own gradients -/

/-- The key gradients, before their scale. -/
theorem keyT_k (x : Fin 1024) (d : Fin 128) :
    (keyT S i t).1 (ix2 x d) = ((∑ r ∈ Finset.range 4096, A.ds r (1024 * t.val + x.val) * A.q r d.val : ℝ) : EReal) := by
  have ht : t.val < 4 := trips2 ▸ t.isLt
  have hx : x.val < 1024 := x.isLt
  refine later_cols (fun r => A.ds r (1024 * t.val + x.val) * A.q r d.val) t.val ht (trips3 t) _ _ (fun a : Tri (F := Ideal) => a.1 (ix2 x d)) ?_ (fun u a => ?_)
  · refine diag_cols _ t.val x.val hx (fun r hr => by show A.ds _ _ * _ = 0; rw [A.ds_past _ _ hr, zero_mul]) _ (fun h => ?_) (fun h => ?_)
    · refine (b50_at _ _ _ _ _ _ _ _ _).trans ?_
      rw [dif_pos h, b37_at]
      refine Online.sum_fin 1024 (fun p => A.ds (1024 * t.val + p) (1024 * t.val + x.val) * A.q (1024 * t.val + p) d.val) _ (fun p => ?_)
      rw [dsb1_at A hsc i S H t, EReal.coe_mul]
      exact congrArg₂ (· * ·) rfl (ld_real _ _ (off5_eq t) (k1_off5_inb t) S.q A.q H.q (by omega) p d)
    · refine (b50_at _ _ _ _ _ _ _ _ _).trans ?_
      rw [dif_neg h]
      refine Online.sum_fin 512 (fun p => A.ds (1024 * t.val + (512 + p)) (1024 * t.val + x.val) * A.q (1024 * t.val + (512 + p)) d.val) _ (fun p => ?_)
      rw [dsb2_at A hsc i S H t, EReal.coe_mul]
      refine congrArg₂ (· * ·) ?_ ((ld_real _ _ (off7_eq t) (k1_off7_inb t) S.q A.q H.q (by omega) p d).trans (by rw [add_assoc]))
      show ((A.ds _ (1024 * t.val + (512 + (x.val - 512))) : ℝ) : EReal) = _
      rw [show 512 + (x.val - 512) = x.val by omega]
  · refine (b54_at _ _ _ _).trans ?_
    rw [b21_at]
    refine congrArg₂ (· + ·) rfl ?_
    have hu : u.val < 3 - t.val := trips3 t ▸ u.isLt
    refine Online.sum_fin 1024 (fun p => A.ds (1024 * (t.val + 1 + u.val) + p) (1024 * t.val + x.val) * A.q (1024 * (t.val + 1 + u.val) + p) d.val) _ (fun p => ?_)
    rw [dsb3_at A hsc i S H t, EReal.coe_mul]
    exact congrArg₂ (· * ·) rfl (ld_real _ _ (off9_eq t u) (k1_off9_inb t u) S.q A.q H.q (by omega) p d)

set_option maxHeartbeats 2000000 in
/-- The value gradients. -/
theorem keyT_v (x : Fin 1024) (d : Fin 128) :
    (keyT S i t).2.1 (ix2 x d) = ((∑ r ∈ Finset.range 4096, A.p r (1024 * t.val + x.val) * A.g r d.val : ℝ) : EReal) := by
  have ht : t.val < 4 := trips2 ▸ t.isLt
  have hx : x.val < 1024 := x.isLt
  refine later_cols (fun r => A.p r (1024 * t.val + x.val) * A.g r d.val) t.val ht (trips3 t) _ _ (fun a : Tri (F := Ideal) => a.2.1 (ix2 x d)) ?_ (fun u a => ?_)
  · refine diag_cols _ t.val x.val hx (fun r hr => by show A.p _ _ * _ = 0; rw [A.p_past _ _ hr, zero_mul]) _ (fun h => ?_) (fun h => ?_)
    · refine (b51_at _ _ _ _ _ _).trans ?_
      rw [dif_pos h, b36_at]
      refine Online.sum_fin 1024 (fun p => A.p (1024 * t.val + p) (1024 * t.val + x.val) * A.g (1024 * t.val + p) d.val) _ (fun p => ?_)
      rw [p1_at A hsc i S H t, EReal.coe_mul]
      exact congrArg₂ (· * ·) rfl (ld_real _ _ (off5_eq t) (k1_off5_inb t) S.d A.g H.g (by omega) p d)
    · refine (b51_at _ _ _ _ _ _).trans ?_
      rw [dif_neg h]
      refine Online.sum_fin 512 (fun p => A.p (1024 * t.val + (512 + p)) (1024 * t.val + x.val) * A.g (1024 * t.val + (512 + p)) d.val) _ (fun p => ?_)
      rw [p2_at A hsc i S H t, EReal.coe_mul]
      refine congrArg₂ (· * ·) ?_ ((ld_real _ _ (off7_eq t) (k1_off7_inb t) S.d A.g H.g (by omega) p d).trans (by rw [add_assoc]))
      show ((A.p _ (1024 * t.val + (512 + (x.val - 512))) : ℝ) : EReal) = _
      rw [show 512 + (x.val - 512) = x.val by omega]
  · refine (b55_at _ _ _ _).trans ?_
    rw [b20_at]
    refine congrArg₂ (· + ·) rfl ?_
    have hu : u.val < 3 - t.val := trips3 t ▸ u.isLt
    refine Online.sum_fin 1024 (fun p => A.p (1024 * (t.val + 1 + u.val) + p) (1024 * t.val + x.val) * A.g (1024 * (t.val + 1 + u.val) + p) d.val) _ (fun p => ?_)
    rw [p3_at A hsc i S H t, EReal.coe_mul]
    exact congrArg₂ (· * ·) rfl (ld_real _ _ (off9_eq t u) (k1_off9_inb t u) S.d A.g H.g (by omega) p d)

set_option maxHeartbeats 2000000 in
/-- The gate gradients of the key rows. -/
theorem keyT_f (x : Fin 1024) : (keyT S i t).2.2 (ix2 0 x) = ((∑ r ∈ Finset.range 4096, A.ds r (1024 * t.val + x.val) : ℝ) : EReal) := by
  have ht : t.val < 4 := trips2 ▸ t.isLt
  have hx : x.val < 1024 := x.isLt
  refine later_cols (fun r => A.ds r (1024 * t.val + x.val)) t.val ht (trips3 t) _ _ (fun a : Tri (F := Ideal) => a.2.2 (ix2 0 x)) ?_ (fun u a => ?_)
  · refine diag_cols _ t.val x.val hx (fun r hr => A.ds_past _ _ hr) _ (fun h => ?_) (fun h => ?_)
    · refine (b52_at _ _ _ _ _ _ _).trans ?_
      rw [dif_pos h, b40_at]
      exact Online.sum_fin 1024 (fun p => A.ds (1024 * t.val + p) (1024 * t.val + x.val)) _ (fun p => ds1_at A hsc i S H t p _)
    · refine (b52_at _ _ _ _ _ _ _).trans ?_
      rw [dif_neg h]
      refine Online.sum_fin 512 (fun p => A.ds (1024 * t.val + (512 + p)) (1024 * t.val + x.val)) _ (fun p => ?_)
      rw [ds2_at A hsc i S H t]
      show ((A.ds _ (1024 * t.val + (512 + (x.val - 512))) : ℝ) : EReal) = _
      rw [show 512 + (x.val - 512) = x.val by omega]
  · refine (b56_at _ _ _).trans ?_
    refine congrArg₂ (· + ·) rfl ?_
    exact Online.sum_fin 1024 (fun p => A.ds (1024 * (t.val + 1 + u.val) + p) (1024 * t.val + x.val)) _ (fun p => ds3_at A hsc i S H t u p x)
end

end Cert.AttnIdeal.Body

end
-- ==== Proof.AttnHeadValue.lean ====
/- A head of the backward attention kernel with real operands: its gradients and what it leaves of the gate's. -/
module

public import proofs.«01_k».proof.Proof.AttnBwdValue

@[expose] public section

set_option maxRecDepth 16384

noncomputable section

namespace Cert.AttnIdeal.Body

open Cert.AttnIdeal Cert.AttnIdeal.Gen Cert.AttnSpec Cert.Steps
open Idealize.ShloMosaic Idealize.ShloMosaic.TcCoe

/-- A value that each of the four key blocks adds its sum to. -/
theorem acc_blocks {α : Type} {N : ℕ} (hN : N = 4) (w : ℕ → ℝ) (f : Fin N → α → α) (X : α) (v : α → EReal) (h0 : v X = 0)
    (hf : ∀ t X (a : ℝ), v X = (a : EReal) → v (f t X) = ((a + ∑ x ∈ Finset.range 1024, w (1024 * t.val + x) : ℝ) : EReal)) :
    v (steps f X N) = ((∑ c ∈ Finset.range 4096, w c : ℝ) : EReal) := by
  have key : ∀ n, n ≤ N → v (steps f X n) = ((∑ c ∈ Finset.range (1024 * n), w c : ℝ) : EReal) := by
    intro n
    induction n with
    | zero => exact fun _ => h0
    | succ n ih =>
      intro hn
      rw [show n + 1 = (⟨n, hn⟩ : Fin N).val + 1 from rfl, steps_succ, hf _ _ _ (ih (by omega))]
      show ((_ : ℝ) : EReal) = ((∑ c ∈ Finset.range (1024 * (n + 1)), w c : ℝ) : EReal)
      rw [block_succ]
  rw [key N le_rfl, hN]

/-- The columns of log-sums and gradient sums. -/
theorem colL_rows (i : grid1.Coords) (L : Vec Ideal S4096x128 .f32) (g : ℕ → ℝ) (h : ∀ r : Fin 4096, L (ix2 r ⟨(i 0).val, (show (i 0).val < 16 from (i 0).isLt).trans (by norm_num)⟩) = (g r.val : ℝ)) :
    IsRows (colL i L) (fun r _ => g r) := fun r d => by
  obtain rfl : d = 0 := Subsingleton.elim _ _
  have hr : r.val < 4096 := r.isLt
  have hi : (i 0).val < 16 := (i 0).isLt
  refine (b6_at _ _ i).trans ?_
  refine (Finset.sum_eq_single (⟨(i 0).val, hi.trans (by norm_num)⟩ : Fin 128) (fun d _ hd => if_neg fun e => hd (Fin.ext e)) (fun h => absurd (Finset.mem_univ _) h)).trans ?_
  rw [if_pos rfl]
  refine (Blocks.ld_rows (Val := Elt Ideal) (e := .f32) _ (1024 * (r.val / 1024)) (off1b_eq (bk trips1 r)) (k1_off1_inb _) L _ _ (by show 1024 * (r.val / 1024) + r.val % 1024 < 4096; omega)).trans ?_
  refine Eq.trans ?_ (h r)
  exact congrArg (fun x : Fin 4096 => L (ix2 x _)) (Fin.ext (by show 1024 * (r.val / 1024) + r.val % 1024 = r.val; omega))

theorem colS_rows (A : Ar) (d o : Vec Ideal S4096x128 .bf16) (hd : IsRows d A.g) (ho : IsRows o A.o) : IsRows (colS d o) (fun r _ => A.del r) := fun r c => by
  obtain rfl : c = 0 := Subsingleton.elim _ _
  have hr : r.val < 4096 := r.isLt
  refine (b7_at _ _ _).trans ?_
  refine Online.sum_fin 128 (fun d => A.g r.val d * A.o r.val d) _ (fun x => ?_)
  have e : 1024 * (r.val / 1024) + (rw1 r).val = r.val := by show 1024 * (r.val / 1024) + r.val % 1024 = r.val; omega
  rw [EReal.coe_mul]
  refine congrArg₂ (· * ·) ((ld_real _ _ (off1b_eq (bk trips1 r)) (k1_off1_inb _) d A.g hd ?_ (rw1 r) x).trans ?_) ((ld_real _ _ (off1b_eq (bk trips1 r)) (k1_off1_inb _) o A.o ho ?_ (rw1 r) x).trans ?_)
  · show 1024 * (r.val / 1024) + 1024 ≤ 4096; omega
  · show ((A.g (1024 * (r.val / 1024) + (rw1 r).val) _ : ℝ) : EReal) = _; rw [e]
  · show 1024 * (r.val / 1024) + 1024 ≤ 4096; omega
  · show ((A.o (1024 * (r.val / 1024) + (rw1 r).val) _ : ℝ) : EReal) = _; rw [e]

section
variable (A : Ar) (hsc : scb = (A.a : ℝ)) (i : grid1.Coords) (S : Src Ideal) (H : IsHead S A ⟨(i 0).val, (i 0).isLt⟩)
include hsc H

theorem accA_at (r : Fin 4096) (d : Fin 128) : accA S i (ix2 r d) = ((∑ c ∈ Finset.range 4096, A.ds r.val c * A.k c d.val : ℝ) : EReal) :=
  acc_blocks trips2 (fun c => A.ds r.val c * A.k c d.val) _ _ (fun X : Rows (F := Ideal) => X (ix2 r d)) (b4_at d r) fun t X a h => keyA_at A hsc i S H t X r d a h
theorem accC_at (r : Fin 4096) : accC S i (ix2 r 0) = ((A.dfq r.val : ℝ) : EReal) :=
  acc_blocks trips2 (fun c => A.ds r.val c) _ _ (fun X : Col1 (F := Ideal) => X (ix2 r 0)) (b5_at r) fun t X a h => keyC_at A hsc i S H t X r a h

/-- The query gradients. -/
theorem out_q (r : Fin 4096) (d : Fin 128) : outD i S (accA S i) (ix3 0 r d) = ((A.dq r.val d.val : ℝ) : EReal) := by
  have hr : r.val < 4096 := r.isLt
  refine (if_pos rfl).trans ?_
  refine (b15_at _ _ _).trans ?_
  rw [Ar.dq, EReal.coe_mul, ← hsc, ← accA_at A hsc i S H r d]
  refine congrArg₂ (· * ·) ?_ rfl
  refine (Blocks.ld_rows (Val := Elt Ideal) (e := .f32) _ (1024 * (r.val / 1024)) (off15_eq (bk trips5 r)) (k1_off15_inb _) _ _ _ (by show 1024 * (r.val / 1024) + r.val % 1024 < 4096; omega)).trans ?_
  exact congrArg (fun x : Fin 4096 => accA S i (ix2 x d)) (Fin.ext (by show 1024 * (r.val / 1024) + r.val % 1024 = r.val; omega))
/-- The key gradients. -/
theorem out_k (r : Fin 4096) (d : Fin 128) : outD i S (accA S i) (ix3 1 r d) = ((A.dk r.val d.val : ℝ) : EReal) := by
  refine (if_neg (by show ¬ (1 : ℕ) = 0; omega)).trans ((if_pos rfl).trans ?_)
  refine (b12_at _ _ _).trans ?_
  rw [Ar.dk, EReal.coe_mul, ← hsc]
  refine congrArg₂ (· * ·) ((keyT_k A hsc i S H _ _ d).trans ?_) rfl
  show ((∑ q ∈ Finset.range 4096, A.ds q (1024 * (r.val / 1024) + r.val % 1024) * A.q q d.val : ℝ) : EReal) = _
  rw [show 1024 * (r.val / 1024) + r.val % 1024 = r.val by omega]
/-- The value gradients. -/
theorem out_v (r : Fin 4096) (d : Fin 128) : outD i S (accA S i) (ix3 2 r d) = ((A.dv r.val d.val : ℝ) : EReal) := by
  refine (if_neg (by show ¬ (2 : ℕ) = 0; omega)).trans ((if_neg (by show ¬ (2 : ℕ) = 1; omega)).trans ?_)
  refine (b13_at _ _ _).trans ((keyT_v A hsc i S H _ _ d).trans ?_)
  show ((∑ q ∈ Finset.range 4096, A.p q (1024 * (r.val / 1024) + r.val % 1024) * A.g q d.val : ℝ) : EReal) = _
  rw [show 1024 * (r.val / 1024) + r.val % 1024 = r.val by omega]
  rfl

/-- The head writes its lane of the query rows' gate gradients. -/
theorem dfq_step (X : Rows (F := Ideal)) (r : Fin 4096) (d : Fin 128) :
    steps (finC i (accC S i)) X k1_t5_loop.trips (ix2 r d) = (if d.val = (i 0).val then ((A.dfq r.val : ℝ) : EReal) else X (ix2 r d)) := by
  have hr : r.val < 4096 := r.isLt
  refine (steps_at (finC i (accC S i)) (fun y => (y 0).val / 1024) (fun y => (y 1).val = (i 0).val) (fun t _ y => accC S i (ix2 (y 0) 0)) (fun t X y => ?_) (fun _ _ _ _ _ _ _ => rfl) X _ le_rfl (ix2 r d)).trans ?_
  · obtain ⟨p, l, rfl⟩ : ∃ (p : Fin 4096) (l : Fin 128), y = ix2 p l := ⟨y 0, y 1, eq_ix2 y⟩
    have hp : p.val < 4096 := p.isLt
    have ht : t.val < 4 := trips5 ▸ t.isLt
    refine (Blocks.overlay_rows (Val := Elt Ideal) (e := .f32) _ _ (off15_eq t) (k1_off15_inb t) X _ p l).trans ?_
    show _ = if p.val / 1024 = t.val ∧ l.val = (i 0).val then accC S i (ix2 p 0) else X (ix2 p l)
    by_cases h : 1024 * t.val ≤ p.val ∧ p.val < 1024 * t.val + 1024
    · have e : 1024 * t.val + (p.val - 1024 * t.val) = p.val := by omega
      rw [dif_pos h, b16_at]
      by_cases hl : l.val = (i 0).val
      · rw [if_pos hl, if_pos ⟨by omega, hl⟩]
        refine (Blocks.ld_rows (Val := Elt Ideal) (e := .f32) _ _ (off17_eq t) (k1_off17_inb t) _ _ _ (by show 1024 * t.val + (p.val - 1024 * t.val) < 4096; omega)).trans ?_
        exact congrArg (fun x : Fin 4096 => accC S i (ix2 x 0)) (Fin.ext e)
      · rw [if_neg hl, if_neg fun h => hl h.2]
        refine (Blocks.ld_rows (Val := Elt Ideal) (e := .f32) _ _ (off15_eq t) (k1_off15_inb t) _ _ _ (by show 1024 * t.val + (p.val - 1024 * t.val) < 4096; omega)).trans ?_
        exact congrArg (fun x : Fin 4096 => X (ix2 x l)) (Fin.ext e)
    · rw [dif_neg h, if_neg (by omega)]
  · show (if h : r.val / 1024 < k1_t5_loop.trips ∧ d.val = (i 0).val then accC S i (ix2 r 0) else X (ix2 r d)) = _
    rw [accC_at A hsc i S H]
    by_cases h : d.val = (i 0).val
    · rw [dif_pos ⟨by rw [trips5]; omega, h⟩, if_pos h]
    · rw [dif_neg fun e => h e.2, if_neg h]

/-- The head writes its lines of the key rows' gate gradients. -/
theorem dfk_step (X : Vec Ideal S4x16x1024 .f32) (t' : Fin 4) (h' : Fin 16) (x : Fin 1024) :
    steps (keyG S i) X k1_t2_loop.trips (ix3 t' h' x) = (if h'.val = (i 0).val then ((A.dfk (1024 * t'.val + x.val) : ℝ) : EReal) else X (ix3 t' h' x)) := by
  refine (steps_at (keyG S i) (fun y => (y 0).val) (fun y => (y 1).val = (i 0).val) (fun t _ y => k1_pay14 (keyT S i t).2.2 (ix3 0 0 (y 2))) (fun t X y => ?_) (fun _ _ _ _ _ _ _ => rfl) X _ le_rfl (ix3 t' h' x)).trans ?_
  · obtain ⟨a, p, l, rfl⟩ : ∃ (a : Fin 4) (p : Fin 16) (l : Fin 1024), y = ix3 a p l := ⟨y 0, y 1, y 2, eq_ix3 y⟩
    refine (Blocks.overlay_slab (Val := Elt Ideal) (e := .f32) _ t.val (i 0).val (off4_eq i t) (k1_off4_inb i t) X _ a p l).trans ?_
    show _ = if a.val = t.val ∧ p.val = (i 0).val then k1_pay14 (keyT S i t).2.2 (ix3 0 0 l) else X (ix3 a p l)
    by_cases h : a.val = t.val ∧ p.val = (i 0).val
    · rw [dif_pos ⟨h.1, by omega, by omega⟩, if_pos h]
      exact congrArg (fun z : Fin 1 => k1_pay14 (keyT S i t).2.2 (ix3 0 z l)) (Subsingleton.elim _ _)
    · rw [dif_neg (by omega), if_neg h]
  · have ht : t'.val < k1_t2_loop.trips := by rw [trips2]; exact t'.isLt
    show (if h : t'.val < k1_t2_loop.trips ∧ h'.val = (i 0).val then k1_pay14 (keyT S i ⟨t'.val, ht⟩).2.2 (ix3 0 0 x) else X (ix3 t' h' x)) = _
    by_cases h : h'.val = (i 0).val
    · rw [dif_pos ⟨ht, h⟩, if_pos h, b14_at, keyT_f A hsc i S H]
      rfl
    · rw [dif_neg fun e => h e.2, if_neg h]
end

end Cert.AttnIdeal.Body

end
-- ==== Proof.AttnKernel.lean ====
/- The attention kernels' results after the run, entry by entry: with finite arguments they are `AttnSpec.dqkv`,
   `AttnSpec.dfq`, `AttnSpec.dfk`, `AttnSpec.mean` and `AttnSpec.lse`. -/
module

public import proofs.«01_k».proof.Proof.AttnReal
public import proofs.«01_k».proof.Proof.AttnHost
public import proofs.«01_k».proof.Proof.AttnFwdValue
public import proofs.«01_k».proof.Proof.AttnHeadValue

@[expose] public section

set_option maxRecDepth 131072

noncomputable section

namespace Cert.AttnIdeal.Body

open Cert.AttnIdeal Cert.AttnIdeal.Gen Cert.AttnSpec Cert.Steps
open Idealize.ShloMosaic Idealize.ShloMosaic.TcCoe
open Idealize.ShloMosaic.Pipeline (Dat)

/-- The index maps of the two calls' windows. -/
theorem idx0 : ∀ t : Fin cfg0.N,
    win0_0.index t = ![0, t.val] ∧ win0_1.index t = ![0, 16 + t.val] ∧ win0_2.index t = ![0, 32 + t.val] ∧ win0_3.index t = ![0, 0, 0]
    ∧ win0_4.index t = ![0, t.val] ∧ win0_5.index t = ![0, 0] :=
  (by decide +kernel : ∀ t : Fin grid0.N, _)
theorem idx1 : ∀ t : Fin cfg1.N,
    win1_0.index t = ![0, t.val] ∧ win1_1.index t = ![0, 16 + t.val] ∧ win1_2.index t = ![0, 32 + t.val] ∧ win1_3.index t = ![0, t.val]
    ∧ win1_4.index t = ![0, t.val] ∧ win1_5.index t = ![0, 0, 0] ∧ win1_6.index t = ![0, 0] ∧ win1_7.index t = ![0, 0, t.val]
    ∧ win1_8.index t = ![0, 0] ∧ win1_9.index t = ![0, 0, 0] :=
  (by decide +kernel : ∀ t : Fin grid1.N, _)
theorem coord0 : ∀ t : Fin cfg0.N, (grid0.coords t 0).val = t.val := (by decide +kernel : ∀ t : Fin grid0.N, (grid0.coords t 0).val = t.val)
theorem coord1 : ∀ t : Fin cfg1.N, (grid1.coords t 0).val = t.val := (by decide +kernel : ∀ t : Fin grid1.N, (grid1.coords t 0).val = t.val)

section
variable (V : Dev nD → Valuation τ sig (Elt Ideal)) (c : Dev nD)

theorem lane_lt {t : ℕ} (ht : t < 16) {d : ℕ} (hd : d < 128) (b : ℕ) {n : ℕ} (hb : 128 * b + 2048 ≤ n) : 128 * (b + t) + d < n := by omega

variable (t : Fin cfg0.N) (r : Fin 4096) (d : Fin 128)
theorem blk0_0 : blk0 V c 0 t (ix2 r d : S4096x128.Idx) = V c main_arg0 (ix2 r ⟨128 * (0 + t.val) + d.val, lane_lt t.isLt d.isLt 0 (by norm_num)⟩ : S4096x6144.Idx) := by
  blk_ext [blk0, idx0 t]
theorem blk0_1 : blk0 V c 1 t (ix2 r d : S4096x128.Idx) = V c main_arg0 (ix2 r ⟨128 * (16 + t.val) + d.val, lane_lt t.isLt d.isLt 16 (by norm_num)⟩ : S4096x6144.Idx) := by
  blk_ext [blk0, idx0 t]
theorem blk0_2 : blk0 V c 2 t (ix2 r d : S4096x128.Idx) = V c main_arg0 (ix2 r ⟨128 * (32 + t.val) + d.val, lane_lt t.isLt d.isLt 32 (by norm_num)⟩ : S4096x6144.Idx) := by
  blk_ext [blk0, idx0 t]
theorem blk0_3 (u : Fin 4) (h : Fin 16) (p : Fin 1024) : blk0 V c 3 t (ix3 u h p : S4x16x1024.Idx) = V c main_v3 (ix3 u h p : S4x16x1024.Idx) := by
  blk_ext [blk0, idx0 t]
theorem emb0_4 : (((cfg0.win 4).blk t).view.emb (ix2 r d : S4096x128.Idx) : S4096x2048.Idx) = ix2 r ⟨128 * (0 + t.val) + d.val, lane_lt t.isLt d.isLt 0 (by norm_num)⟩ := by
  blk_ext [idx0 t]
theorem emb0_5 : (((cfg0.win 5).blk t).view.emb (ix2 r d : S4096x128.Idx) : S4096x128.Idx) = ix2 r d := by
  blk_ext [idx0 t]

variable (t : Fin cfg1.N)
theorem blk1_0 : blk1 V c 0 t (ix2 r d : S4096x128.Idx) = V c main_arg0 (ix2 r ⟨128 * (0 + t.val) + d.val, lane_lt t.isLt d.isLt 0 (by norm_num)⟩ : S4096x6144.Idx) := by
  blk_ext [blk1, idx1 t]
theorem blk1_1 : blk1 V c 1 t (ix2 r d : S4096x128.Idx) = V c main_arg0 (ix2 r ⟨128 * (16 + t.val) + d.val, lane_lt t.isLt d.isLt 16 (by norm_num)⟩ : S4096x6144.Idx) := by
  blk_ext [blk1, idx1 t]
theorem blk1_2 : blk1 V c 2 t (ix2 r d : S4096x128.Idx) = V c main_arg0 (ix2 r ⟨128 * (32 + t.val) + d.val, lane_lt t.isLt d.isLt 32 (by norm_num)⟩ : S4096x6144.Idx) := by
  blk_ext [blk1, idx1 t]
theorem blk1_3 : blk1 V c 3 t (ix2 r d : S4096x128.Idx) = V c main_v4_0 (ix2 r ⟨128 * (0 + t.val) + d.val, lane_lt t.isLt d.isLt 0 (by norm_num)⟩ : S4096x2048.Idx) := by
  blk_ext [blk1, idx1 t]
theorem blk1_4 : blk1 V c 4 t (ix2 r d : S4096x128.Idx) = V c main_arg2 (ix2 r ⟨128 * (0 + t.val) + d.val, lane_lt t.isLt d.isLt 0 (by norm_num)⟩ : S4096x2048.Idx) := by
  blk_ext [blk1, idx1 t]
theorem blk1_5 (u : Fin 4) (h : Fin 16) (p : Fin 1024) : blk1 V c 5 t (ix3 u h p : S4x16x1024.Idx) = V c main_v3 (ix3 u h p : S4x16x1024.Idx) := by
  blk_ext [blk1, idx1 t]
theorem blk1_6 : blk1 V c 6 t (ix2 r d : S4096x128.Idx) = V c main_v4_1 (ix2 r d : S4096x128.Idx) := by
  blk_ext [blk1, idx1 t]
theorem emb1_7 (a : Fin 3) : (((cfg1.win 7).blk t).view.emb (ix3 a r d : S3x4096x128.Idx) : S3x4096x2048.Idx) = ix3 a r ⟨128 * (0 + t.val) + d.val, lane_lt t.isLt d.isLt 0 (by norm_num)⟩ := by
  blk_ext [idx1 t]
theorem emb1_8 : (((cfg1.win 8).blk t).view.emb (ix2 r d : S4096x128.Idx) : S4096x128.Idx) = ix2 r d := by
  blk_ext [idx1 t]
theorem emb1_9 (u : Fin 4) (h : Fin 16) (p : Fin 1024) : (((cfg1.win 9).blk t).view.emb (ix3 u h p : S4x16x1024.Idx) : S4x16x1024.Idx) = ix3 u h p := by
  blk_ext [idx1 t]
end

variable (m : (ℓ : Loc nD τ sig) → Buf (Elt Ideal) ℓ) (c : Dev nD)

/-- The arguments as launched. -/
abbrev aX : Packed := m ((c : Thread nD τ).loc main_arg0)
abbrev aF : Gates := m ((c : Thread nD τ).loc main_arg1)
abbrev aG : Grads := m ((c : Thread nD τ).loc main_arg2)

/-- Head `h` of the arguments. -/
abbrev hd (h : ℕ) : Ar := head (aX m c) (aF m c) (aG m c) h

variable (hX : Fin2 (aX m c)) (hF : Fin2 (aF m c)) (hG : Fin2 (aG m c))

section
include hX
theorem q_rows (t : Fin cfg0.N) : IsRows (blk0 (V3 m) c 0 t) (hd m c t.val).q := fun r d => by
  rw [blk0_0, V3_arg0]
  refine (entry_eq (aX m c) hX r _).trans ?_
  simp only [head, Nat.zero_add]
theorem k_rows (t : Fin cfg0.N) : IsRows (blk0 (V3 m) c 1 t) (hd m c t.val).k := fun r d => by
  rw [blk0_1, V3_arg0]
  refine (entry_eq (aX m c) hX r _).trans ?_
  simp only [head, Nat.mul_add, Nat.reduceMul]
theorem v_rows (t : Fin cfg0.N) : IsRows (blk0 (V3 m) c 2 t) (hd m c t.val).v := fun r d => by
  rw [blk0_2, V3_arg0]
  refine (entry_eq (aX m c) hX r _).trans ?_
  simp only [head, Nat.mul_add, Nat.reduceMul]
theorem q_rows1 (t : Fin cfg1.N) : IsRows (blk1 (enter1 m) c 0 t) (hd m c t.val).q := fun r d => by
  rw [blk1_0, enter_arg0]
  refine (entry_eq (aX m c) hX r _).trans ?_
  simp only [head, Nat.zero_add]
theorem k_rows1 (t : Fin cfg1.N) : IsRows (blk1 (enter1 m) c 1 t) (hd m c t.val).k := fun r d => by
  rw [blk1_1, enter_arg0]
  refine (entry_eq (aX m c) hX r _).trans ?_
  simp only [head, Nat.mul_add, Nat.reduceMul]
theorem v_rows1 (t : Fin cfg1.N) : IsRows (blk1 (enter1 m) c 2 t) (hd m c t.val).v := fun r d => by
  rw [blk1_2, enter_arg0]
  refine (entry_eq (aX m c) hX r _).trans ?_
  simp only [head, Nat.mul_add, Nat.reduceMul]
end

include hF in
theorem f_gate (h : Fin 16) (n : ℕ) (hn : h.val = n) (t : Fin cfg0.N) : IsGate (blk0 (V3 m) c 3 t) h (hd m c n).f := fun u p => by
  subst hn
  rw [blk0_3, gate_apply]
  exact entry_eq (aF m c) hF _ h
include hF in
theorem f_gate1 (h : Fin 16) (n : ℕ) (hn : h.val = n) (t : Fin cfg1.N) : IsGate (blk1 (enter1 m) c 5 t) h (hd m c n).f := fun u p => by
  subst hn
  rw [blk1_5, enter_gate, gate_apply]
  exact entry_eq (aF m c) hF _ h
include hG in
theorem g_rows1 (t : Fin cfg1.N) : IsRows (blk1 (enter1 m) c 4 t) (hd m c t.val).g := fun r d => by
  rw [blk1_4, enter_arg2]
  refine (entry_eq (aG m c) hG r _).trans ?_
  simp only [head, Nat.zero_add]

include hX hF in
/-- The first call's first result: each head's mean of the values. -/
theorem o_array : (dat0 (V3 m) c).arrAt 4 cfg0.N = fun i : S4096x2048.Idx => mean (aX m c) (aF m c) (aG m c) (i 0) (i 1) := by
  refine (dat0 (V3 m) c).arrAt_eq_of_covers 4 _ (by decide +kernel) fun t hf y => ?_
  revert y
  intro (y : S4096x128.Idx)
  obtain ⟨r, d, rfl⟩ : ∃ (r : Fin 4096) (d : Fin 128), y = ix2 r d := ⟨y 0, y 1, eq_ix2 y⟩
  rw [emb0_4]
  have h := o_rows (hd m c t.val) scale_eq (grid0.coords t) _ _ _ _ (q_rows m c hX t) (k_rows m c hX t) (v_rows m c hX t)
    (f_gate m c hF _ _ (coord0 t) t) r d
  refine h.trans ?_
  show _ = (((hd m c ((128 * (0 + t.val) + d.val) / 128)).o r.val ((128 * (0 + t.val) + d.val) % 128) : ℝ) : EReal)
  have hd' : d.val < 128 := d.isLt
  rw [show (128 * (0 + t.val) + d.val) / 128 = t.val by omega, show (128 * (0 + t.val) + d.val) % 128 = d.val by omega]

include hX hF in
/-- The log-sums after `n` heads: a lane per head. -/
theorem lse_eq (r : Fin 4096) (l : Fin 128) : ∀ n, n ≤ 16 →
    (lseAt (V3 m) c n : S4096x128.Idx → EReal) (ix2 r l) = if l.val < n then (((hd m c l.val).L r.val : ℝ) : EReal) else 0 := by
  intro n
  induction n with
  | zero =>
    intro _
    show k0_pay1 (F := Ideal) _ = _
    pointwise [k0_pay1]
    exact (if_neg (by omega)).symm
  | succ n ih =>
    intro hn
    have ht : n < cfg0.N := hn
    rw [lseAt_succ (V3 m) c ⟨n, ht⟩]
    refine (l_rows (hd m c n) scale_eq (grid0.coords ⟨n, ht⟩) _ _ _ _ (q_rows m c hX ⟨n, ht⟩) (k_rows m c hX ⟨n, ht⟩) (v_rows m c hX ⟨n, ht⟩)
      (f_gate m c hF _ _ (coord0 ⟨n, ht⟩) ⟨n, ht⟩) _ r l).trans ?_
    rw [coord0 ⟨n, ht⟩]
    by_cases h : l.val = n
    · rw [if_pos h, if_pos (by omega), h]
    · rw [if_neg h]
      refine (ih (by omega)).trans (if_congr (by omega) rfl rfl)

include hX hF in
/-- The first call's second result, which the second call is entered with. -/
theorem l_array : (dat0 (V3 m) c).arrAt 5 cfg0.N = fun i : S4096x128.Idx => lse (aX m c) (aF m c) (aG m c) (i 0) (i 1) := by
  refine (dat0 (V3 m) c).arrAt_eq_of_covers 5 _ (by decide +kernel) fun t hf y => ?_
  revert y
  intro (y : S4096x128.Idx)
  obtain ⟨r, l, rfl⟩ : ∃ (r : Fin 4096) (l : Fin 128), y = ix2 r l := ⟨y 0, y 1, eq_ix2 y⟩
  rw [emb0_5]
  have ht : t.val < 16 := t.isLt
  have h15 : t.val = 15 := by have := (flush0_5 t).mp hf; omega
  show (lseAt (V3 m) c (t.val + 1) : S4096x128.Idx → EReal) (ix2 r l) = lse (aX m c) (aF m c) (aG m c) r l
  rw [h15]
  exact lse_eq m c hX hF r l 16 le_rfl

include hX hF hG in
/-- What the second call's head `t` works on. -/
theorem is_head (t : Fin cfg1.N) : IsHead (srcAt (enter1 m) c t) (hd m c t.val) ⟨(grid1.coords t 0).val, (grid1.coords t 0).isLt⟩ where
  q := q_rows1 m c hX t
  k := k_rows1 m c hX t
  v := v_rows1 m c hX t
  g := g_rows1 m c hG t
  f := f_gate1 m c hF _ _ (coord1 t) t
  l := colL_rows (grid1.coords t) _ (hd m c t.val).L fun r => by
    have ht : t.val < 16 := t.isLt
    rw [blk1_6, enter_l, l_array m c hX hF]
    show (if (grid1.coords t 0).val < 16 then (((hd m c (grid1.coords t 0).val).L r.val : ℝ) : EReal) else 0) = _
    rw [coord1 t, if_pos ht]
  s := colS_rows (hd m c t.val) _ _ (g_rows1 m c hG t) fun r d => by
    rw [blk1_3, enter_o, o_array m c hX hF]
    show (((hd m c ((128 * (0 + t.val) + d.val) / 128)).o r.val ((128 * (0 + t.val) + d.val) % 128) : ℝ) : EReal) = _
    have hd' : d.val < 128 := d.isLt
    rw [show (128 * (0 + t.val) + d.val) / 128 = t.val by omega, show (128 * (0 + t.val) + d.val) % 128 = d.val by omega]

include hX hF hG in
/-- The second call's first result. -/
theorem dqkv_array : (dat1 (enter1 m) c).arrAt 7 cfg1.N = fun i : S3x4096x2048.Idx => dqkv (aX m c) (aF m c) (aG m c) (i 0) (i 1) (i 2) := by
  refine (dat1 (enter1 m) c).arrAt_eq_of_covers 7 _ (by decide +kernel) fun t hf y => ?_
  revert y
  intro (y : S3x4096x128.Idx)
  obtain ⟨a, r, d, rfl⟩ : ∃ (a : Fin 3) (r : Fin 4096) (d : Fin 128), y = ix3 a r d := ⟨y 0, y 1, y 2, eq_ix3 y⟩
  rw [emb1_7]
  have H := is_head m c hX hF hG t
  have hd' : d.val < 128 := d.isLt
  show outD (grid1.coords t) (srcAt (enter1 m) c t) (accA (srcAt (enter1 m) c t) (grid1.coords t)) (ix3 a r d)
    = dqkv (aX m c) (aF m c) (aG m c) a r ⟨128 * (0 + t.val) + d.val, _⟩
  unfold dqkv
  show _ = ((if a.val = 0 then (hd m c ((128 * (0 + t.val) + d.val) / 128)).dq r.val ((128 * (0 + t.val) + d.val) % 128)
    else if a.val = 1 then (hd m c ((128 * (0 + t.val) + d.val) / 128)).dk r.val ((128 * (0 + t.val) + d.val) % 128)
    else (hd m c ((128 * (0 + t.val) + d.val) / 128)).dv r.val ((128 * (0 + t.val) + d.val) % 128) : ℝ) : EReal)
  rw [show (128 * (0 + t.val) + d.val) / 128 = t.val by omega, show (128 * (0 + t.val) + d.val) % 128 = d.val by omega]
  match a with
  | ⟨0, _⟩ => exact out_q (hd m c t.val) scale_eq (grid1.coords t) _ H r d
  | ⟨1, _⟩ => exact out_k (hd m c t.val) scale_eq (grid1.coords t) _ H r d
  | ⟨2, _⟩ => exact out_v (hd m c t.val) scale_eq (grid1.coords t) _ H r d

include hX hF hG in
theorem dfq_eq (r : Fin 4096) (l : Fin 128) : ∀ n, n ≤ 16 →
    (dfqAt (enter1 m) c n : S4096x128.Idx → EReal) (ix2 r l) = if l.val < n then (((hd m c l.val).dfq r.val : ℝ) : EReal) else 0 := by
  intro n
  induction n with
  | zero =>
    intro _
    show k1_pay1 (F := Ideal) _ = _
    pointwise [k1_pay1]
    exact (if_neg (by omega)).symm
  | succ n ih =>
    intro hn
    have ht : n < cfg1.N := hn
    rw [dfqAt_succ (enter1 m) c ⟨n, ht⟩]
    refine (dfq_step (hd m c n) scale_eq (grid1.coords ⟨n, ht⟩) _ (is_head m c hX hF hG ⟨n, ht⟩) _ r l).trans ?_
    rw [coord1 ⟨n, ht⟩]
    by_cases h : l.val = n
    · rw [if_pos h, if_pos (by omega), h]
    · rw [if_neg h]
      refine (ih (by omega)).trans (if_congr (by omega) rfl rfl)

include hX hF hG in
/-- The second call's second result. -/
theorem dfq_array : (dat1 (enter1 m) c).arrAt 8 cfg1.N = fun i : S4096x128.Idx => dfq (aX m c) (aF m c) (aG m c) (i 0) (i 1) := by
  refine (dat1 (enter1 m) c).arrAt_eq_of_covers 8 _ (by decide +kernel) fun t hf y => ?_
  revert y
  intro (y : S4096x128.Idx)
  obtain ⟨r, l, rfl⟩ : ∃ (r : Fin 4096) (l : Fin 128), y = ix2 r l := ⟨y 0, y 1, eq_ix2 y⟩
  rw [emb1_8]
  have ht : t.val < 16 := t.isLt
  have h15 : t.val = 15 := by have := (flush1_8 t).mp hf; omega
  show (dfqAt (enter1 m) c (t.val + 1) : S4096x128.Idx → EReal) (ix2 r l) = dfq (aX m c) (aF m c) (aG m c) r l
  rw [h15]
  exact dfq_eq m c hX hF hG r l 16 le_rfl

include hX hF hG in
theorem dfk_eq (u : Fin 4) (h : Fin 16) (p : Fin 1024) : ∀ n, n ≤ 16 →
    (dfkAt (enter1 m) c n : S4x16x1024.Idx → EReal) (ix3 u h p) = if h.val < n then (((hd m c h.val).dfk (1024 * u.val + p.val) : ℝ) : EReal) else 0 := by
  intro n
  induction n with
  | zero =>
    intro _
    show k1_pay2 (F := Ideal) _ = _
    pointwise [k1_pay2]
    exact (if_neg (by omega)).symm
  | succ n ih =>
    intro hn
    have ht : n < cfg1.N := hn
    rw [dfkAt_succ (enter1 m) c ⟨n, ht⟩]
    refine (dfk_step (hd m c n) scale_eq (grid1.coords ⟨n, ht⟩) _ (is_head m c hX hF hG ⟨n, ht⟩) _ u h p).trans ?_
    rw [coord1 ⟨n, ht⟩]
    by_cases h : h.val = n
    · rw [if_pos h, if_pos (by omega), h]
    · rw [if_neg h]
      refine (ih (by omega)).trans (if_congr (by omega) rfl rfl)

include hX hF hG in
/-- The second call's third result. -/
theorem dfk_array : (dat1 (enter1 m) c).arrAt 9 cfg1.N = fun i : S4x16x1024.Idx => dfk (aX m c) (aF m c) (aG m c) (i 0) (i 1) (i 2) := by
  refine (dat1 (enter1 m) c).arrAt_eq_of_covers 9 _ (by decide +kernel) fun t hf y => ?_
  revert y
  intro (y : S4x16x1024.Idx)
  obtain ⟨u, h, p, rfl⟩ : ∃ (u : Fin 4) (h : Fin 16) (p : Fin 1024), y = ix3 u h p := ⟨y 0, y 1, y 2, eq_ix3 y⟩
  rw [emb1_9]
  have ht : t.val < 16 := t.isLt
  have h15 : t.val = 15 := by have := (flush1_9 t).mp hf; omega
  show (dfkAt (enter1 m) c (t.val + 1) : S4x16x1024.Idx → EReal) (ix3 u h p) = dfk (aX m c) (aF m c) (aG m c) u h p
  rw [h15]
  exact (dfk_eq m c hX hF hG u h p 16 le_rfl).trans (if_pos h.isLt)

end Cert.AttnIdeal.Body

end
-- ==== Proof.AttnRef.lean ====
/- The attention's reference: with finite arguments its three gradients, entry by entry, are `AttnSpec.dqkv`, `AttnSpec.dfq`
   and `AttnSpec.dfk`. -/
module

public import proofs.«01_k».proof.Proof.AttnReal
public import proofs.«01_k».proof.Proof.Gen.AttnRefIdeal.Read
public import Idealize.ShloMosaic.Lib.KernelVsHost
public import Idealize.ShloMosaic.Lib.WordCmp

@[expose] public section

set_option maxRecDepth 131072

noncomputable section

namespace Cert.AttnRefIdeal.RefValue

open Cert.AttnRefIdeal Cert.AttnRefIdeal.Gen Cert.AttnRefIdeal.Read Cert.AttnSpec Cert.Scalars Idealize.ShloMosaic Idealize.ShloMosaic.TcCoe

variable (X : Packed) (f : Gates) (g : Grads)

section
variable (hX : Fin2 X) (h : Fin 16) (r : Fin 4096) (d : Fin 128)
include hX
theorem q_at : val_main_v5 (F := Ideal) X (ix3 h r d) = (((head X f g h.val).q r.val d.val : ℝ) : EReal) := by
  pointwise [val_main_v5, val_main_v4, val_main_v1, val_main_v0]
  refine (entry_eq X hX r _).trans ?_
  simp only [head, Nat.mul_comm h.val 128]
theorem k_at : val_main_v7 (F := Ideal) X (ix3 h r d) = (((head X f g h.val).k r.val d.val : ℝ) : EReal) := by
  pointwise [val_main_v7, val_main_v6, val_main_v2, val_main_v0]
  refine (entry_eq X hX r _).trans ?_
  simp only [head, Nat.mul_comm h.val 128, Nat.add_assoc]
theorem v_at : val_main_v55 (F := Ideal) X (ix3 h r d) = (((head X f g h.val).v r.val d.val : ℝ) : EReal) := by
  pointwise [val_main_v55, val_main_v54, val_main_v3, val_main_v0]
  refine (entry_eq X hX r _).trans ?_
  simp only [head, Nat.mul_comm h.val 128, Nat.add_assoc]
end

theorem g_at (hG : Fin2 g) (h : Fin 16) (r : Fin 4096) (d : Fin 128) : val_main_v61 (F := Ideal) g (ix3 h r d) = (((head X f g h.val).g r.val d.val : ℝ) : EReal) := by
  pointwise [val_main_v61, val_main_v60, val_main_v59]
  refine (entry_eq g hG r _).trans ?_
  simp only [head, Nat.mul_comm h.val 128]

theorem masked_at (h : Fin 16) (r c : Fin 4096) : val_main_v25_0 (F := Ideal) X f (ix3 h r c) =
    if c.val ≤ r.val then (∑ d : Fin 128, val_main_v5 (F := Ideal) X (ix3 h r d) * val_main_v7 (F := Ideal) X (ix3 h c d)) * Ideal.ofBits FTy.f32 1035273459#32 + f (ix2 r h) - f (ix2 c h) else ⊥ := by
  unfold val_main_v25_0 val_main_v18 val_main_v14 val_main_v10 val_main_v8
  generalize val_main_v5 (F := Ideal) X = q
  generalize val_main_v7 (F := Ideal) X = k
  pointwise [val_main_v9, val_main_v11, val_main_v12, val_main_v13, val_main_v15, val_main_v16, val_main_v17, val_main_v19, val_main_v20, val_main_v21, val_main_v22, val_main_v23, val_main_v24, val_main_v25_1, val_main_v25_2, val_main_call0_v2, val_main_call0_v0, val_main_cst, val_main_cst_0, val_main_call0_cst]
  by_cases hc : c.val ≤ r.val
  · rw [if_pos hc]
    exact WordCmp.select_of_eq_one ((WordCmp.cmpi_sle_ofNat_eq_one_iff (by omega) (by omega)).mpr hc) _ _
  · rw [if_neg hc]
    exact (WordCmp.select_of_eq_zero ((WordCmp.cmpi_sle_ofNat_eq_zero_iff (by omega) (by omega)).mpr hc) _ _).trans Online.ninf_bits

theorem max_at (h : Fin 16) (r : Fin 4096) : val_main_v26 (F := Ideal) X f (ix2 h r) = Finset.univ.fold max ⊥ fun c : Fin 4096 => val_main_v25_0 (F := Ideal) X f (ix3 h r c) := by
  unfold val_main_v26
  generalize val_main_v25_0 (F := Ideal) X f = s
  pointwise [val_main_cst_1]
  rw [Online.ninf_bits]

theorem exp_at (h : Fin 16) (r c : Fin 4096) : val_main_v46 (F := Ideal) X f (ix3 h r c) = Ideal.exp (val_main_v25_0 (F := Ideal) X f (ix3 h r c) - max ⊥ (val_main_v26 (F := Ideal) X f (ix2 h r))) := by
  rw [val_main_v46_apply, val_main_v45_apply, val_main_v44_apply, val_main_v43_apply, val_main_v33_apply, val_main_v32_apply,
    show idx_main_v43 (idx_main_v44 (ix3 h r c)) = ix2 h r from funext fun a => match a with | ⟨0, _⟩ => rfl | ⟨1, _⟩ => rfl]
  show Ideal.exp (_ - max (Ideal.ofBits FTy.f32 4286578688#32) _) = _
  rw [Online.ninf_bits]

/-- The sums of exponentials, and what the gradient's formula makes of them. -/
theorem sum_at (h : Fin 16) (r : Fin 4096) : val_main_v47 (F := Ideal) X f (ix2 h r) = ∑ c : Fin 4096, val_main_v46 (F := Ideal) X f (ix3 h r c) := by
  unfold val_main_v47
  generalize val_main_v46 (F := Ideal) X f = e
  pointwise [val_main_cst_9]
  done
theorem p_at (h : Fin 16) (r c : Fin 4096) : val_main_v50 (F := Ideal) X f (ix3 h r c) = Ideal.div (val_main_v46 (F := Ideal) X f (ix3 h r c)) (val_main_v47 (F := Ideal) X f (ix2 h r)) := by
  rw [val_main_v50_apply, val_main_v49_apply, val_main_v48_apply,
    show idx_main_v48 (idx_main_v49 (ix3 h r c)) = ix2 h r from funext fun a => match a with | ⟨0, _⟩ => rfl | ⟨1, _⟩ => rfl]
  rfl
theorem dp_at (h : Fin 16) (r c : Fin 4096) : val_main_v64 (F := Ideal) X g (ix3 h r c) = ∑ d : Fin 128, val_main_v61 (F := Ideal) g (ix3 h r d) * val_main_v55 (F := Ideal) X (ix3 h c d) := by
  unfold val_main_v64
  generalize val_main_v61 (F := Ideal) g = q
  generalize val_main_v55 (F := Ideal) X = k
  pointwise []
  done
theorem mean_term (h : Fin 16) (r c : Fin 4096) : val_main_v69 (F := Ideal) X f g (ix3 h r c) =
    val_main_v64 (F := Ideal) X g (ix3 h r c) * Ideal.div 1 (val_main_v47 (F := Ideal) X f (ix2 h r) * val_main_v47 (F := Ideal) X f (ix2 h r)) * val_main_v46 (F := Ideal) X f (ix3 h r c) := by
  rw [val_main_v69_apply, val_main_v68_apply, val_main_v67_apply, val_main_v53_apply, val_main_v52_apply, val_main_v51_apply, val_main_v48_apply,
    show idx_main_v48 (idx_main_v67 (ix3 h r c)) = ix2 h r from funext fun a => match a with | ⟨0, _⟩ => rfl | ⟨1, _⟩ => rfl]
  have h1 : ∀ i, val_main_cst_10 (F := Ideal) i = 1 := fun i => by pointwise [val_main_cst_10]
  rw [h1]
  rfl
theorem mean_at (h : Fin 16) (r : Fin 4096) : val_main_v75 (F := Ideal) X f g (ix2 h r) = -∑ c : Fin 4096, val_main_v69 (F := Ideal) X f g (ix3 h r c) := by
  unfold val_main_v75 val_main_v72 val_main_v71 val_main_v70
  generalize val_main_v69 (F := Ideal) X f g = e
  pointwise [val_main_cst_11, val_main_cst_12]
  exact Fintype.sum_unique _
theorem ds_at (h : Fin 16) (r c : Fin 4096) : val_main_v79 (F := Ideal) X f g (ix3 h r c) =
    if c.val ≤ r.val then (Ideal.div (val_main_v64 (F := Ideal) X g (ix3 h r c)) (val_main_v47 (F := Ideal) X f (ix2 h r)) + val_main_v75 (F := Ideal) X f g (ix2 h r)) * val_main_v46 (F := Ideal) X f (ix3 h r c) else 0 := by
  rw [val_main_v79_apply, val_main_v78_apply, val_main_v77_apply, val_main_v76_apply, val_main_v74_apply, val_main_v73_apply, val_main_v48_apply,
    show idx_main_v48 (idx_main_v73 (ix3 h r c)) = ix2 h r from funext fun a => match a with | ⟨0, _⟩ => rfl | ⟨1, _⟩ => rfl,
    show idx_main_v76 (ix3 h r c) = ix2 h r from funext fun a => match a with | ⟨0, _⟩ => rfl | ⟨1, _⟩ => rfl]
  have hm : val_main_v25_1 (F := Ideal) (ix3 h r c) = IntOp.cmpi CmpIPredicate.sle (BitVec.ofNat 32 c.val) (BitVec.ofNat 32 r.val) := by
    pointwise [val_main_v19, val_main_v20, val_main_v21, val_main_v22, val_main_v23, val_main_v24, val_main_v25_1]
  have hz : val_main_call1_v0 (F := Ideal) (ix3 h r c) = 0 := by
    pointwise [val_main_call1_v0, val_main_call1_cst]
  rw [hm, hz]
  by_cases hc : c.val ≤ r.val
  · rw [if_pos hc]
    exact WordCmp.select_of_eq_one ((WordCmp.cmpi_sle_ofNat_eq_one_iff (by omega) (by omega)).mpr hc) _ _
  · rw [if_neg hc]
    exact WordCmp.select_of_eq_zero ((WordCmp.cmpi_sle_ofNat_eq_zero_iff (by omega) (by omega)).mpr hc) _ _

section
variable (hX : Fin2 X) (hF : Fin2 f) (hG : Fin2 g) (h : Fin 16)

/-- Head `h`. -/
abbrev hA : Ar := head X f g h.val

include hX hF in
theorem masked_real (r c : Fin 4096) : val_main_v25_0 (F := Ideal) X f (ix3 h r c) = if c.val ≤ r.val then (((hA X f g h).S r.val c.val + (hA X f g h).f r.val : ℝ) : EReal) else ⊥ := by
  rw [masked_at]
  refine if_congr Iff.rfl ?_ rfl
  rw [Online.sum_fin 128 (fun d => (hA X f g h).q r.val d * (hA X f g h).k c.val d) _ (fun d => by rw [q_at X f g hX, k_at X f g hX, EReal.coe_mul]), scale_eq, entry_eq f hF, entry_eq f hF,
    ← EReal.coe_mul, ← EReal.coe_add, ← EReal.coe_sub]
  refine congrArg _ ?_
  show _ = (∑ d ∈ Finset.range 128, (hA X f g h).q r.val d * (hA X f g h).k c.val d) * scale - entry f c.val h.val + entry f r.val h.val
  ring

include hX hF in
/-- The row's maximum is a real number, and the exponentials are those of the scores, all times the same number. -/
theorem weights_max (r : Fin 4096) : ∃ M : ℝ, val_main_v26 (F := Ideal) X f (ix2 h r) = (M : EReal) ∧ ∀ c : Fin 4096, val_main_v46 (F := Ideal) X f (ix3 h r c) = ((if c.val ≤ r.val then Real.exp ((hA X f g h).S r.val c.val) * Real.exp ((hA X f g h).f r.val - M) else 0 : ℝ) : EReal) := by
  obtain ⟨M, hM⟩ := Online.fold_real (fun c : Fin 4096 => val_main_v25_0 (F := Ideal) X f (ix3 h r c)) r
    (by rw [masked_real X f g hX hF, if_pos le_rfl]; exact EReal.coe_ne_bot _)
    (fun c => by rw [masked_real X f g hX hF]; split_ifs; exacts [EReal.coe_ne_top _, bot_ne_top])
  refine ⟨M, (max_at X f h r).trans hM, fun c => ?_⟩
  rw [exp_at, max_at, hM, masked_real X f g hX hF, max_eq_right bot_le]
  by_cases hc : c.val ≤ r.val
  · rw [if_pos hc, if_pos hc, ← EReal.coe_sub, exp_coe, ← Real.exp_add]
    refine congrArg _ (congrArg _ ?_)
    ring
  · rw [if_neg hc, if_neg hc, EReal.bot_sub, exp_bot]
    rfl

include hX hF in
/-- The exponentials: those of the scores, all times the same positive number. -/
theorem weights_real (r : Fin 4096) : ∃ K : ℝ, 0 < K ∧ ∀ c : Fin 4096, val_main_v46 (F := Ideal) X f (ix3 h r c) = ((if c.val ≤ r.val then Real.exp ((hA X f g h).S r.val c.val) * K else 0 : ℝ) : EReal) :=
  let ⟨_, _, hw⟩ := weights_max X f g hX hF h r
  ⟨_, Real.exp_pos _, hw⟩

/-- A row's masked exponentials, summed. -/
theorem row_sum (A : Ar) (K : ℝ) (r : ℕ) (hr : r < 4096) : ∑ c ∈ Finset.range 4096, (if c ≤ r then Real.exp (A.S r c) * K else 0) = A.Z r * K := by
  rw [Ar.Z, Finset.sum_mul, ← Finset.sum_filter]
  refine Finset.sum_congr (Finset.ext fun c => ?_) fun _ _ => rfl
  rw [Finset.mem_filter, Finset.mem_range, Finset.mem_range]
  omega

include hX hF hG in
/-- The attention weights and the scores' gradients. -/
theorem pair_real (r : Fin 4096) : (∀ c : Fin 4096, val_main_v50 (F := Ideal) X f (ix3 h r c) = (((hA X f g h).p r.val c.val : ℝ) : EReal))
    ∧ ∀ c : Fin 4096, val_main_v79 (F := Ideal) X f g (ix3 h r c) = (((hA X f g h).ds r.val c.val : ℝ) : EReal) := by
  obtain ⟨K, hK, hw⟩ := weights_real X f g hX hF h r
  have hZ := (hA X f g h).Z_pos r.val
  have hZK : 0 < (hA X f g h).Z r.val * K := mul_pos hZ hK
  have hs : val_main_v47 (F := Ideal) X f (ix2 h r) = (((hA X f g h).Z r.val * K : ℝ) : EReal) := by
    rw [sum_at, Online.sum_fin 4096 (fun c => if c ≤ r.val then Real.exp ((hA X f g h).S r.val c) * K else 0) _ hw, row_sum (hA X f g h) K r.val r.isLt]
  have hp : ∀ c : ℕ, (if c ≤ r.val then Real.exp ((hA X f g h).S r.val c) * K else 0) / ((hA X f g h).Z r.val * K) = (hA X f g h).p r.val c := fun c => by
    rw [Ar.p]
    split_ifs
    · rw [mul_div_mul_right _ _ hK.ne']
    · rw [zero_div]
  have hd : ∀ c : Fin 4096, val_main_v64 (F := Ideal) X g (ix3 h r c) = (((hA X f g h).dp r.val c.val : ℝ) : EReal) := fun c => by
    rw [dp_at, Online.sum_fin 128 (fun d => (hA X f g h).g r.val d * (hA X f g h).v c.val d) _ (fun d => by rw [g_at X f g hG, v_at X f g hX, EReal.coe_mul])]
    rfl
  refine ⟨fun c => by rw [p_at, hw, hs, div_coe _ hZK.ne', hp], ?_⟩
  have hm : val_main_v75 (F := Ideal) X f g (ix2 h r) = ((-((hA X f g h).del r.val / ((hA X f g h).Z r.val * K)) : ℝ) : EReal) := by
    rw [mean_at, Online.sum_fin 4096 (fun c => (hA X f g h).p r.val c * (hA X f g h).dp r.val c / ((hA X f g h).Z r.val * K)) _ (fun c => ?_), ← Finset.sum_div, (hA X f g h).sum_p_dp r.val r.isLt, EReal.coe_neg]
    rw [mean_term, hd, hs, hw, ← EReal.coe_mul, ← EReal.coe_one, div_coe _ (mul_pos hZK hZK).ne', ← EReal.coe_mul, ← EReal.coe_mul]
    refine congrArg _ ?_
    rw [← hp]
    field_simp
  intro c
  rw [ds_at]
  by_cases hc : c.val ≤ r.val
  · rw [if_pos hc, hd, hs, hm, hw, div_coe _ hZK.ne', ← EReal.coe_add, ← EReal.coe_mul]
    refine congrArg _ ?_
    rw [Ar.ds, ← hp]
    field_simp
    ring
  · rw [if_neg hc, (hA X f g h).ds_past r.val c.val (by omega), EReal.coe_zero]

include hX hF hG in
theorem p_real (r c : Fin 4096) : val_main_v50 (F := Ideal) X f (ix3 h r c) = (((hA X f g h).p r.val c.val : ℝ) : EReal) := (pair_real X f g hX hF hG h r).1 c
include hX hF hG in
theorem ds_real (r c : Fin 4096) : val_main_v79 (F := Ideal) X f g (ix3 h r c) = (((hA X f g h).ds r.val c.val : ℝ) : EReal) := (pair_real X f g hX hF hG h r).2 c

/-- The gradients of the packed queries, keys and values, head by head. -/
theorem dq_at (r : Fin 4096) (d : Fin 128) : val_main_v92 (F := Ideal) X f g (ix3 h r d) = ∑ c : Fin 4096, val_main_v79 (F := Ideal) X f g (ix3 h r c) * Ideal.ofBits FTy.f32 1035273459#32 * val_main_v7 (F := Ideal) X (ix3 h c d) := by
  unfold val_main_v92 val_main_v90
  generalize val_main_v79 (F := Ideal) X f g = q
  generalize val_main_v7 (F := Ideal) X = k
  pointwise [val_main_v89, val_main_cst_17]
  done
theorem dk_at (c : Fin 4096) (d : Fin 128) : val_main_v91 (F := Ideal) X f g (ix3 h c d) = ∑ r : Fin 4096, val_main_v79 (F := Ideal) X f g (ix3 h r c) * Ideal.ofBits FTy.f32 1035273459#32 * val_main_v5 (F := Ideal) X (ix3 h r d) := by
  unfold val_main_v91 val_main_v90
  generalize val_main_v79 (F := Ideal) X f g = q
  generalize val_main_v5 (F := Ideal) X = k
  pointwise [val_main_v89, val_main_cst_17]
  done
theorem dv_at (c : Fin 4096) (d : Fin 128) : val_main_v63 (F := Ideal) X f g (ix3 h c d) = ∑ r : Fin 4096, val_main_v61 (F := Ideal) g (ix3 h r d) * val_main_v50 (F := Ideal) X f (ix3 h r c) := by
  unfold val_main_v63 val_main_v62
  generalize val_main_v50 (F := Ideal) X f = q
  generalize val_main_v61 (F := Ideal) g = k
  pointwise []
  done

include hX hF hG in
theorem dq_real (r : Fin 4096) (d : Fin 128) : val_main_v92 (F := Ideal) X f g (ix3 h r d) = (((hA X f g h).dq r.val d.val : ℝ) : EReal) := by
  rw [dq_at, Online.sum_fin 4096 (fun c => (hA X f g h).ds r.val c * scale * (hA X f g h).k c d.val) _ (fun c => by rw [ds_real X f g hX hF hG, k_at X f g hX, scale_eq, EReal.coe_mul, EReal.coe_mul])]
  refine congrArg _ ?_
  rw [Ar.dq, Finset.sum_mul]
  refine Finset.sum_congr rfl fun c _ => ?_
  show _ = _ * scale
  ring
include hX hF hG in
theorem dk_real (c : Fin 4096) (d : Fin 128) : val_main_v91 (F := Ideal) X f g (ix3 h c d) = (((hA X f g h).dk c.val d.val : ℝ) : EReal) := by
  rw [dk_at, Online.sum_fin 4096 (fun r => (hA X f g h).ds r c.val * scale * (hA X f g h).q r d.val) _ (fun r => by rw [ds_real X f g hX hF hG, q_at X f g hX, scale_eq, EReal.coe_mul, EReal.coe_mul])]
  refine congrArg _ ?_
  rw [Ar.dk, Finset.sum_mul]
  refine Finset.sum_congr rfl fun r _ => ?_
  show _ = _ * scale
  ring
include hX hF hG in
theorem dv_real (c : Fin 4096) (d : Fin 128) : val_main_v63 (F := Ideal) X f g (ix3 h c d) = (((hA X f g h).dv c.val d.val : ℝ) : EReal) := by
  rw [dv_at, Online.sum_fin 4096 (fun r => (hA X f g h).g r d.val * (hA X f g h).p r c.val) _ (fun r => by rw [p_real X f g hX hF hG, g_at X f g hG, EReal.coe_mul])]
  exact congrArg _ (Finset.sum_congr rfl fun r _ => mul_comm _ _)

/-- The packed gradients on 6144 columns, and on three slabs. -/
theorem slab_at (a : Fin 3) (r : Fin 4096) (j : Fin 2048) : val_main_v104 (F := Ideal) X f g (ix3 a r j) =
    if a.val = 0 then val_main_v92 (F := Ideal) X f g (ix3 ⟨j.val / 128, by omega⟩ r ⟨j.val % 128, by omega⟩)
    else if a.val = 1 then val_main_v91 (F := Ideal) X f g (ix3 ⟨j.val / 128, by omega⟩ r ⟨j.val % 128, by omega⟩)
    else val_main_v63 (F := Ideal) X f g (ix3 ⟨j.val / 128, by omega⟩ r ⟨j.val % 128, by omega⟩) := by
  unfold val_main_v104 val_main_v99 val_main_v98 val_main_v97 val_main_v96 val_main_v95 val_main_v94 val_main_v93 val_main_v66 val_main_v65
  generalize val_main_v92 (F := Ideal) X f g = q
  generalize val_main_v91 (F := Ideal) X f g = k
  generalize val_main_v63 (F := Ideal) X f g = v
  pointwise []
  by_cases h0 : a.val = 0
  · rw [dif_pos (by omega), if_pos h0]
    simp only [show a.val * 2048 + j.val = j.val by omega]
  · by_cases h1 : a.val = 1
    · rw [dif_neg (by omega), dif_pos (by omega), if_neg h0, if_pos h1]
      simp only [show a.val * 2048 + j.val - 2048 = j.val by omega]
    · rw [dif_neg (by omega), dif_neg (by omega), if_neg h0, if_neg h1]
      simp only [show a.val * 2048 + j.val - 2048 - 2048 = j.val by omega]

/-- The gates' gradients. -/
theorem dfq_at (r : Fin 4096) (l : Fin 128) : val_main_v106 (F := Ideal) X f g (ix2 r l) = if hl : l.val < 16 then ∑ c : Fin 4096, val_main_v79 (F := Ideal) X f g (ix3 ⟨l.val, hl⟩ r c) else 0 := by
  unfold val_main_v106 val_main_v88 val_main_v87 val_main_v86 val_main_v85
  generalize val_main_v79 (F := Ideal) X f g = q
  pointwise [val_main_v105, val_main_cst_15, val_main_cst_16, val_main_cst_18]
  exact dite_congr rfl (fun _ => Fintype.sum_unique _) fun _ => rfl
theorem dfk_at (t : Fin 4) (p : Fin 1024) : val_main_v103 (F := Ideal) X f g (ix3 t h p) = -∑ r : Fin 4096, -val_main_v79 (F := Ideal) X f g (ix3 h r ⟨1024 * t.val + p.val, by omega⟩) := by
  unfold val_main_v103 val_main_v102 val_main_v101 val_main_v100 val_main_v84 val_main_v83 val_main_v82 val_main_v81 val_main_v80
  generalize val_main_v79 (F := Ideal) X f g = q
  pointwise [val_main_cst_13, val_main_cst_14]
  refine congrArg _ ((Fintype.sum_unique _).trans ?_)
  simp only [Nat.mul_comm t.val 1024]

include hX hF hG in
/-- The first result. -/
theorem result0 : val_main_v104 (F := Ideal) X f g = fun i : S3x4096x2048.Idx => dqkv X f g (i 0) (i 1) (i 2) := by
  funext i
  obtain ⟨a, r, j, rfl⟩ : ∃ (a : Fin 3) (r : Fin 4096) (j : Fin 2048), i = ix3 a r j := ⟨i 0, i 1, i 2, eq_ix3 i⟩
  rw [slab_at, dq_real X f g hX hF hG, dk_real X f g hX hF hG, dv_real X f g hX hF hG]
  show _ = dqkv X f g a r j
  unfold dqkv hA
  split_ifs <;> rfl
include hX hF hG in
/-- The second result. -/
theorem result1 : val_main_v106 (F := Ideal) X f g = fun i : S4096x128.Idx => dfq X f g (i 0) (i 1) := by
  funext i
  obtain ⟨r, l, rfl⟩ : ∃ (r : Fin 4096) (l : Fin 128), i = ix2 r l := ⟨i 0, i 1, eq_ix2 i⟩
  rw [dfq_at]
  show _ = dfq X f g r l
  unfold dfq
  by_cases hl : l.val < 16
  · rw [dif_pos hl, if_pos hl, Online.sum_fin 4096 (fun c => (hA X f g ⟨l.val, hl⟩).ds r.val c) _ (fun c => ds_real X f g hX hF hG _ r c)]
    rfl
  · rw [dif_neg hl, if_neg hl]
include hX hF hG in
/-- The third result. -/
theorem result2 : val_main_v103 (F := Ideal) X f g = fun i : S4x16x1024.Idx => dfk X f g (i 0) (i 1) (i 2) := by
  funext i
  obtain ⟨t, h, p, rfl⟩ : ∃ (t : Fin 4) (h : Fin 16) (p : Fin 1024), i = ix3 t h p := ⟨i 0, i 1, i 2, eq_ix3 i⟩
  rw [dfk_at, Online.sum_fin 4096 (fun r => -(hA X f g h).ds r (1024 * t.val + p.val)) _ (fun r => by rw [ds_real X f g hX hF hG, EReal.coe_neg]), ← EReal.coe_neg,
    Finset.sum_neg_distrib, neg_neg]
  rfl

end

end Cert.AttnRefIdeal.RefValue

end
-- ==== Proof.AttnFwdRef.lean ====
/- The attention's reference: with finite arguments its output and its rows' log-sums, entry by entry, are `AttnSpec.mean`
   and `AttnSpec.lse`. -/
module

public import proofs.«01_k».proof.Proof.AttnRef

@[expose] public section

set_option maxRecDepth 131072

noncomputable section

namespace Cert.AttnRefIdeal.RefValue

open Cert.AttnRefIdeal Cert.AttnRefIdeal.Gen Cert.AttnRefIdeal.Read Cert.AttnSpec Cert.Scalars Idealize.ShloMosaic Idealize.ShloMosaic.TcCoe

variable (X : Packed) (f : Gates) (g : Grads) (hX : Fin2 X) (hF : Fin2 f) (hG : Fin2 g) (h : Fin 16)

theorem o_at (r : Fin 4096) (j : Fin 2048) : val_main_v107 (F := Ideal) X f (ix2 r j) =
    ∑ c : Fin 4096, val_main_v50 (F := Ideal) X f (ix3 ⟨j.val / 128, by omega⟩ r c) * val_main_v55 (F := Ideal) X (ix3 ⟨j.val / 128, by omega⟩ c ⟨j.val % 128, by omega⟩) := by
  unfold val_main_v107 val_main_v58 val_main_v57 val_main_v56
  generalize val_main_v50 (F := Ideal) X f = q
  generalize val_main_v55 (F := Ideal) X = k
  pointwise []
  done

include hX hF hG in
/-- The fourth result. -/
theorem result3 : val_main_v107 (F := Ideal) X f = fun i : S4096x2048.Idx => mean X f g (i 0) (i 1) := by
  funext i
  obtain ⟨r, j, rfl⟩ : ∃ (r : Fin 4096) (j : Fin 2048), i = ix2 r j := ⟨i 0, i 1, eq_ix2 i⟩
  rw [o_at, Online.sum_fin 4096 (fun c => (head X f g (j.val / 128)).p r.val c * (head X f g (j.val / 128)).v c (j.val % 128)) _
    (fun c => by rw [p_real X f g hX hF hG, v_at X f g hX, EReal.coe_mul]), ← Ar.o_eq _ r.val r.isLt]
  rfl

/-- The scores that the log-sums are of are those that the weights are of. -/
theorem scores_same : val_main_v133 (F := Ideal) X f = val_main_v25_0 (F := Ideal) X f := by
  have h1 : val_main_v113 (F := Ideal) X = val_main_v5 (F := Ideal) X := rfl
  have h2 : val_main_v115 (F := Ideal) X = val_main_v7 (F := Ideal) X := rfl
  unfold val_main_v133 val_main_v126 val_main_v122 val_main_v118 val_main_v116 val_main_v25_0 val_main_v18 val_main_v14 val_main_v10 val_main_v8
  rw [h1, h2]
  rfl
theorem max_same : val_main_v134 (F := Ideal) X f = val_main_v26 (F := Ideal) X f := by
  unfold val_main_v134 val_main_v26
  rw [scores_same]
  rfl
theorem lexp_at (r c : Fin 4096) : val_main_v138 (F := Ideal) X f (ix3 h r c) = val_main_v46 (F := Ideal) X f (ix3 h r c) := by
  rw [val_main_v138_apply, val_main_v137_apply, val_main_v136_apply, val_main_v135_apply, exp_at, max_eq_right bot_le, scores_same, max_same,
    show idx_main_v135 (idx_main_v136 (ix3 h r c)) = ix2 h r from funext fun a => match a with | ⟨0, _⟩ => rfl | ⟨1, _⟩ => rfl]
  rfl
theorem lsum_at (r : Fin 4096) : val_main_v139 (F := Ideal) X f (ix2 h r) = ∑ c : Fin 4096, val_main_v138 (F := Ideal) X f (ix3 h r c) := by
  unfold val_main_v139
  generalize val_main_v138 (F := Ideal) X f = e
  pointwise [val_main_cst_22]
  done
theorem lane_at (r : Fin 4096) (l : Fin 128) : val_main_v145 (F := Ideal) X f (ix2 r l) =
    if hl : l.val < 16 then val_main_v143 (F := Ideal) X f (ix2 r ⟨l.val, hl⟩) else 0 := by
  unfold val_main_v145
  generalize val_main_v143 (F := Ideal) X f = e
  pointwise [val_main_v144, val_main_cst_23]
  done
theorem minus_gate (r : Fin 4096) : val_main_v143 (F := Ideal) X f (ix2 r h) = val_main_v141 (F := Ideal) X f (ix2 h r) - f (ix2 r h) := by
  rw [val_main_v143_apply, val_main_v142_apply, show idx_main_v142 (ix2 r h) = ix2 h r from funext fun a => match a with | ⟨0, _⟩ => rfl | ⟨1, _⟩ => rfl]
  rfl
theorem lse_at (r : Fin 4096) : val_main_v141 (F := Ideal) X f (ix2 h r) =
    val_main_v134 (F := Ideal) X f (ix2 h r) + Ideal.log (∑ c : Fin 4096, val_main_v138 (F := Ideal) X f (ix3 h r c)) := by
  rw [val_main_v141_apply, val_main_v140_apply, lsum_at]
  rfl

include hX hF in
/-- The fifth result. -/
theorem result4 : val_main_v145 (F := Ideal) X f = fun i : S4096x128.Idx => lse X f g (i 0) (i 1) := by
  funext i
  obtain ⟨r, l, rfl⟩ : ∃ (r : Fin 4096) (l : Fin 128), i = ix2 r l := ⟨i 0, i 1, eq_ix2 i⟩
  rw [lane_at]
  show _ = lse X f g r l
  unfold lse
  by_cases hl : l.val < 16
  · rw [dif_pos hl, if_pos hl]
    obtain ⟨M, hM, hw⟩ := weights_max X f g hX hF ⟨l.val, hl⟩ r
    have hZ := (head X f g l.val).Z_pos r.val
    rw [minus_gate, lse_at, max_same, hM, Online.sum_fin 4096 (fun c => if c ≤ r.val then Real.exp ((head X f g l.val).S r.val c) * Real.exp ((head X f g l.val).f r.val - M) else 0) _
      (fun c => (lexp_at X f ⟨l.val, hl⟩ r c).trans (hw c)), row_sum (head X f g l.val) _ r.val r.isLt, log_coe (mul_pos hZ (Real.exp_pos _)), entry_eq f hF, ← EReal.coe_add, ← EReal.coe_sub,
      Real.log_mul hZ.ne' (Real.exp_pos _).ne', Real.log_exp]
    refine congrArg _ ?_
    show M + (Real.log ((head X f g l.val).Z r.val) + (entry f r.val l.val - M)) - entry f r.val l.val = Real.log ((head X f g l.val).Z r.val)
    ring
  · rw [dif_neg hl, if_neg hl]

end Cert.AttnRefIdeal.RefValue

end
-- ==== Proof.AttnClaim.lean ====
/- The claim about the attention and its gradient: with finite arguments the kernels' five results and the reference's are the
   same functions of the three arguments. -/
module

public import proofs.«01_k».proof.Proof.AttnFrames
public import proofs.«01_k».proof.Proof.Finite
public import proofs.«01_k».proof.Proof.AttnKernel
public import proofs.«01_k».proof.Proof.AttnFwdRef

@[expose] public section

noncomputable section

namespace Cert.AttnClaim

open Idealize.ShloMosaic Idealize.SL.Sem Cert.AttnSpec

/-- The precondition makes every argument's entries finite. -/
theorem finite (X : Packed) (f : Gates) (g : Grads)
    (h : (Cert.Pre_attn_finite.fn (F := Ideal) X f g).1 = (fun _ => 1#1) ∧ (Cert.Pre_attn_finite.fn (F := Ideal) X f g).2.1 = (fun _ => 1#1)
      ∧ (Cert.Pre_attn_finite.fn (F := Ideal) X f g).2.2 = fun _ => 1#1) : Fin2 X ∧ Fin2 f ∧ Fin2 g :=
  ⟨fun r j => Finite.of_array (φ := .bf16) X 0x7F80#16 Finite.inf16_bits _ h.1 (ix2 r j),
    fun r j => Finite.of_array (φ := .f32) f 0x7F800000#32 Scalars.inf_bits _ h.2.1 (ix2 r j),
    fun r j => Finite.of_array (φ := .bf16) g 0x7F80#16 Finite.inf16_bits _ h.2.2 (ix2 r j)⟩

/-- From memories agreeing on finite arguments both programs run and end with the same five arrays. -/
theorem algebraic : Cert.algebraic_AttnIdeal_AttnRefIdeal_pre_attn_finite := by
  intro m ρ m' ρ' hpre h
  have hfin := fun c => finite _ _ _ (hpre c)
  refine ⟨_, _, _, _, _, (θ_run _ _ _).mono (fun r hr c => hr.1 c) (Cert.AttnIdeal.Body.run_results (F := Ideal) m ρ),
    (θ_run _ _ _).mono (fun r hr c => ?_) (Cert.AttnRefIdeal.Value.run m' ρ')⟩
  obtain ⟨h0, h1, h2, h3, h4, hk⟩ := hr c
  obtain ⟨a0, a1, a2⟩ := h c
  obtain ⟨hX, hF, hG⟩ := hfin c
  refine ⟨h0.trans ?_, h1.trans ?_, h2.trans ?_, h3.trans ?_, h4.trans ?_, hk⟩
  · rw [Cert.AttnRefIdeal.Read.val_main_v104_eq]
    refine (congr (congrArg₂ (Cert.AttnRefIdeal.Read.val_main_v104 (F := Ideal)) a0 a1) a2).trans ?_
    exact (Cert.AttnRefIdeal.RefValue.result0 _ _ _ hX hF hG).trans (Cert.AttnIdeal.Body.dqkv_array m c hX hF hG).symm
  · rw [Cert.AttnRefIdeal.Read.val_main_v106_eq]
    refine (congr (congrArg₂ (Cert.AttnRefIdeal.Read.val_main_v106 (F := Ideal)) a0 a1) a2).trans ?_
    exact (Cert.AttnRefIdeal.RefValue.result1 _ _ _ hX hF hG).trans (Cert.AttnIdeal.Body.dfq_array m c hX hF hG).symm
  · rw [Cert.AttnRefIdeal.Read.val_main_v103_eq]
    refine (congr (congrArg₂ (Cert.AttnRefIdeal.Read.val_main_v103 (F := Ideal)) a0 a1) a2).trans ?_
    exact (Cert.AttnRefIdeal.RefValue.result2 _ _ _ hX hF hG).trans (Cert.AttnIdeal.Body.dfk_array m c hX hF hG).symm
  · rw [Cert.AttnRefIdeal.Read.val_main_v107_eq]
    refine (congrArg₂ (Cert.AttnRefIdeal.Read.val_main_v107 (F := Ideal)) a0 a1).trans ?_
    exact (Cert.AttnRefIdeal.RefValue.result3 _ _ _ hX hF hG).trans (Cert.AttnIdeal.Body.o_array m c hX hF).symm
  · rw [Cert.AttnRefIdeal.Read.val_main_v145_eq]
    refine (congrArg₂ (Cert.AttnRefIdeal.Read.val_main_v145 (F := Ideal)) a0 a1).trans ?_
    exact (Cert.AttnRefIdeal.RefValue.result4 _ _ _ hX hF).trans (Cert.AttnIdeal.Body.l_array m c hX hF).symm

end Cert.AttnClaim

end
-- ==== Proof.Relu2Kernel.lean ====
/- The squared ReLU's gradient, the kernel's side: the result array of the down projection's backward product with the
   derivative of the squared ReLU in its epilogue. -/
module

public import proofs.«01_k».proof.Proof.Gen.Relu2Ideal.Value
public import Idealize.ShloMosaic.Lib.Pipeline.ValueKit
public import Idealize.ShloMosaic.Lib.Pointwise

@[expose] public section

set_option maxRecDepth 131072

noncomputable section

namespace Cert.Relu2Ideal.RefValue

open Cert.Relu2Ideal Cert.Relu2Ideal.Gen
open Idealize.ShloMosaic Idealize.ShloMosaic.TcCoe

variable (m : (ℓ : Loc nD τ sig) → Buf (Elt Ideal) ℓ) (c : Dev nD)

abbrev Hidden : Type := (⟨⟨2, ![4096, 8192]⟩, .bf16⟩ : BufTy).Contents (Elt Ideal)
abbrev Weight : Type := (⟨⟨2, ![8192, 2048]⟩, .f32⟩ : BufTy).Contents (Elt Ideal)
abbrev Cotangent : Type := (⟨⟨2, ![4096, 2048]⟩, .bf16⟩ : BufTy).Contents (Elt Ideal)

/-- The hidden layer before its ReLU, the down projection's weight and the cotangent as launched. -/
abbrev U : Hidden := m ((c : Thread nD τ).loc main_arg0)
abbrev W : Weight := m ((c : Thread nD τ).loc main_arg1)
abbrev Z : Cotangent := m ((c : Thread nD τ).loc main_arg2)

/-- The gradient at a token and a hidden feature. -/
def grad (u : Hidden) (w : Weight) (z : Cotangent) (i : Fin 4096) (j : Fin 8192) : EReal :=
  (∑ k : Fin 2048, z (ix2 i k) * w (ix2 j k)) * (Ideal.ofBits FTy.f32 0x40000000#32 * max (u (ix2 i j)) 0)

theorem idx : ∀ t : Fin cfg0.N,
    win0_0.index t = ![t.val / 8, 0] ∧ win0_1.index t = ![t.val % 8, 0] ∧ win0_2.index t = ![t.val / 8, t.val % 8]
    ∧ win0_3.index t = ![t.val / 8, t.val % 8] :=
  (by decide +kernel : ∀ t : Fin grid0.N, _)

/-- The token and the feature of a point's block. -/
abbrev tok (t : Fin cfg0.N) (p : Fin 1024) : Fin 4096 :=
  ⟨t.val / 8 * 1024 + p.val, by have := t.isLt; have h : cfg0.N = 32 := N_0; omega⟩
abbrev feat (t : Fin cfg0.N) (q : Fin 1024) : Fin 8192 := ⟨t.val % 8 * 1024 + q.val, by omega⟩

/-- The host casts the weight, which over the reals changes nothing. -/
theorem V_w : V m c main_v0 = (truncf .bf16 (W m c) bitsLt_bf16_f32 : FVec Ideal S8192x2048 .bf16) := by
  show StableHlo.after hostOps0 (fun b => m (c, b)) (Proc.devRef .tc main_v0) = _
  simp only [hostOps0, StableHlo.TRef.unary, StableHlo.TRef.toBuf, StableHlo.TRef.ofBuf, cast_eq]
  after_results_simp <;> rfl

theorem blk_z (t : Fin cfg0.N) (p : Fin 1024) (k : Fin 2048) : iblk m c 0 t (ix2 p k) = Z m c (ix2 (tok t p) k) := by
  have h : V m c main_arg2 = m ((c : Thread nD τ).loc main_arg2) := V_main_arg2 m c
  rw [Z, ← h]
  blk_ext [iblk, idx t]
theorem blk_w (t : Fin cfg0.N) (q : Fin 1024) (k : Fin 2048) : iblk m c 1 t (ix2 q k) = W m c (ix2 (feat t q) k) := by
  have h : iblk m c 1 t (ix2 q k) = V m c main_v0 (ix2 (feat t q) k : S8192x2048.Idx) := by blk_ext [iblk, idx t]
  rw [h, V_w]
  rfl
theorem blk_u (t : Fin cfg0.N) (p q : Fin 1024) : iblk m c 2 t (ix2 p q) = U m c (ix2 (tok t p) (feat t q)) := by
  have h : V m c main_arg0 = m ((c : Thread nD τ).loc main_arg0) := V_main_arg0 m c
  rw [U, ← h]
  blk_ext [iblk, idx t]
theorem emb (t : Fin cfg0.N) (p q : Fin 1024) :
    (((cfg0.win 3).blk t).view.emb (ix2 p q : S1024x1024.Idx) : S4096x8192.Idx) = ix2 (tok t p) (feat t q) := by
  blk_ext [idx t]

theorem pay_apply (z w : Vec Ideal S1024x2048 .bf16) (u : Vec Ideal S1024x1024 .bf16) (p q : Fin 1024) :
    k0_pay1 (F := Ideal) z w u (ix2 p q)
      = (∑ k : Fin 2048, z (ix2 p k) * w (ix2 q k)) * (Ideal.ofBits FTy.f32 0x40000000#32 * max (u (ix2 p q)) 0) := by
  unfold k0_pay1
  pointwise []

/-- What the body leaves in the result's block. -/
theorem left (t : Fin cfg0.N) (p q : Fin 1024) :
    out0_3 (iblk m c 0 t) (iblk m c 1 t) (iblk m c 2 t) (ix2 p q) = grad (U m c) (W m c) (Z m c) (tok t p) (feat t q) := by
  frame_out
  rw [pay_apply]
  simp only [blk_z, blk_w, blk_u]
  rfl

/-- The result array of the kernel. -/
theorem final : (dats m 0 c).arrAt 3 cfg0.N = fun i : S4096x8192.Idx => grad (U m c) (W m c) (Z m c) (i 0) (i 1) := by
  refine (dats m 0 c).arrAt_eq_of_covers 3 _ (by decide +kernel) fun t hf y => ?_
  revert y
  intro (y : S1024x1024.Idx)
  obtain ⟨p, q, rfl⟩ : ∃ (p : Fin 1024) (q : Fin 1024), y = ix2 p q := ⟨y 0, y 1, eq_ix2 y⟩
  rw [emb, after0_3]
  have h := left m c t p q
  generalize out0_3 (iblk m c 0 t) (iblk m c 1 t) (iblk m c 2 t) = a at h ⊢
  show a (ix2 p q) = grad (U m c) (W m c) (Z m c) (tok t p) (feat t q)
  exact h

end Cert.Relu2Ideal.RefValue

end
-- ==== Proof.Relu2Ref.lean ====
/- The squared ReLU's gradient, the reference's side: reverse-mode differentiation of the squared ReLU and the down
   projection gives the same array. -/
module

public import proofs.«01_k».proof.Proof.Relu2Kernel
public import proofs.«01_k».proof.Proof.Gen.Relu2RefIdeal.Read

@[expose] public section

set_option maxRecDepth 16384

noncomputable section

namespace Cert.Relu2RefIdeal.RefValue

open Cert.Relu2RefIdeal Cert.Relu2RefIdeal.Read Cert.Relu2Ideal.RefValue
open Idealize.ShloMosaic

variable (u : Hidden) (w : Weight) (z : Cotangent)

theorem product (i : Fin 4096) (j : Fin 8192) :
    val_main_v10 (F := Ideal) w z (ix2 i j) = ∑ k : Fin 2048, z (ix2 i k) * w (ix2 j k) := by
  unfold val_main_v10
  pointwise [val_main_v9]

theorem slope (i : Fin 4096) (j : Fin 8192) :
    val_main_v7 (F := Ideal) u (ix2 i j) = Ideal.ofBits FTy.f32 0x40000000#32 * max (u (ix2 i j)) 0 := by
  pointwise [val_main_v7, val_main_v6, val_main_cst_1, val_main_v1, val_main_v0, val_main_call0_v0, val_main_call0_cst]

/-- Where the hidden value isn't positive the reference writes zero, and the kernel multiplies by zero. -/
theorem result (i : Fin 4096) (j : Fin 8192) : val_main_v14 (F := Ideal) u w z (ix2 i j) = grad u w z i j := by
  have h1 := product w z i j
  have h2 := slope u i j
  unfold val_main_v14 val_main_v13 val_main_v11
  generalize val_main_v10 (F := Ideal) w z = a at *
  generalize val_main_v7 (F := Ideal) u = b at *
  pointwise [val_main_v3, val_main_v0, val_main_v2, val_main_cst, val_main_v12, val_main_cst_2]
  rw [h1, h2]
  unfold grad
  split_ifs with h
  · rfl
  · rw [max_eq_right (not_lt.mp h), mul_zero, mul_zero]

end Cert.Relu2RefIdeal.RefValue

end
-- ==== Proof.Relu2Claim.lean ====
/- The claim about the squared ReLU's gradient: kernel and reference end with the same array. -/
module

public import proofs.«01_k».proof.Defs
public import proofs.«01_k».proof.Proof.Gen.Relu2.Frame
public import proofs.«01_k».proof.Proof.Gen.Relu2
public import proofs.«01_k».proof.Proof.Gen.Relu2Ideal
public import proofs.«01_k».proof.Proof.Gen.Relu2RefIdeal
public import proofs.«01_k».proof.Proof.Gen.Relu2RefIdeal.Run
public import proofs.«01_k».proof.Proof.Relu2Ref

@[expose] public section

noncomputable section

namespace Cert.Relu2Claim

open Idealize.ShloMosaic Idealize.SL.Sem Cert.Relu2Ideal.RefValue

/-- The result as an array. -/
def out (u : Hidden) (w : Weight) (z : Cotangent) : Hidden := fun i => grad u w z (i 0) (i 1)

theorem ref (u : Hidden) (w : Weight) (z : Cotangent) : Cert.Relu2RefIdeal.Read.val_main_v14 (F := Ideal) u w z = out u w z := by
  funext i
  obtain ⟨s, d, rfl⟩ : ∃ s d, i = ix2 s d := ⟨i 0, i 1, eq_ix2 i⟩
  exact Cert.Relu2RefIdeal.RefValue.result u w z s d

theorem frame_r : Cert.quiescent_Relu2RefIdeal := fun m ρ _ =>
  (θ_run Cert.Relu2RefIdeal.defs _ _).mono (fun r h => ⟨fun c => (h c).2, sem_eq_zero_of_no_sems (by decide) r.2⟩)
    (Cert.Relu2RefIdeal.Value.run (F := Ideal) m ρ)

theorem algebraic : Cert.algebraic_Relu2Ideal_Relu2RefIdeal := by
  intro m g m' g' _ h
  refine ⟨fun c => out (U m c) (W m c) (Z m c), (θ_run _ _ _).mono (fun r hr c => ?_) (Cert.Relu2Ideal.Value.run_blocks m g),
    (θ_run _ _ _).mono (fun r hr c => ?_) (Cert.Relu2RefIdeal.Value.run m' g')⟩
  · obtain ⟨h0, hk⟩ := hr c
    exact ⟨h0.trans (final m c), hk⟩
  · obtain ⟨h0, hk⟩ := hr c
    obtain ⟨a0, a1, a2⟩ := h c
    refine ⟨h0.trans ?_, hk⟩
    rw [Cert.Relu2RefIdeal.Read.val_main_v14_eq, a0, a1, a2, ref]

end Cert.Relu2Claim

end
-- ==== Proof.Norms.lean ====
/- The root-mean-square norm's gradient over the extended reals: the hand-written form and the one of reverse-mode
   differentiation agree for every row, also for rows with infinite entries, since the norm's factor is always a
   nonnegative real. -/
module

public import proofs.«01_k».proof.Proof.Scalars
public import Idealize.ShloMosaic.Lib.Pipeline.ValueKit

@[expose] public section

noncomputable section
namespace Cert.Norms

open Idealize.ShloMosaic

/-- The width of a row, the norm's small constant and the other constants of the programs. -/
def width : EReal := Ideal.ofBits FTy.f32 0x45000000#32
def small : EReal := Ideal.ofBits FTy.f32 0x358637BD#32
def half : EReal := Ideal.ofBits FTy.f32 0x3F000000#32
def minusHalf : EReal := Ideal.ofBits FTy.f32 0xBF000000#32

theorem width_eq : width = (2048 : ℝ) := by
  simp [width, Ideal.ofBits, Ideal.ieee]
  norm_cast
  norm_num
theorem half_eq : half = (1 / 2 : ℝ) := by
  simp [half, Ideal.ofBits, Ideal.ieee]
  norm_cast
  norm_num
theorem minusHalf_eq : minusHalf = (-(1 / 2) : ℝ) := by
  simp [minusHalf, Ideal.ofBits, Ideal.ieee]
  norm_cast
  norm_num
theorem one_eq : Ideal.ofBits FTy.f32 0x3F800000#32 = 1 := by
  simp [Ideal.ofBits, Ideal.ieee]
  norm_cast
  norm_num
theorem two_eq : Ideal.ofBits FTy.f32 0x40000000#32 = (2 : ℝ) := by
  simp [Ideal.ofBits, Ideal.ieee]
  norm_cast
  norm_num
theorem inv_width_eq : Ideal.ofBits FTy.f32 0x3A000000#32 = (1 / 2048 : ℝ) := by
  simp [Ideal.ofBits, Ideal.ieee]
  norm_cast
  norm_num
theorem small_eq : ∃ e : ℝ, 0 < e ∧ small = e := by
  simp only [small, Ideal.ofBits, Ideal.ieee]
  rw [if_neg (by decide), if_neg (by decide)]
  refine ⟨_, ?_, rfl⟩
  rw [if_neg (by decide)]
  positivity

theorem div_width (a : EReal) : Ideal.div a width = a * ((1 / 2048 : ℝ) : EReal) := by
  rw [width_eq]
  unfold Ideal.div
  rw [if_neg (by norm_num), ← EReal.coe_inv]
  norm_num

/-- The mean square of a row with the small constant, and the norm's factor. -/
def meansq (x : Fin 2048 → EReal) : EReal := Ideal.div (∑ j, x j * x j) width + small
def inv (x : Fin 2048 → EReal) : EReal := Ideal.rsqrt (meansq x)

theorem sq_nonneg (a : EReal) : 0 ≤ a * a := by
  rcases le_total 0 a with h | h
  · exact mul_nonneg h h
  · rw [← neg_mul_neg]
    exact mul_nonneg (EReal.neg_nonneg.mpr h) (EReal.neg_nonneg.mpr h)

/-- It is infinite or a positive real. -/
theorem meansq_cases (x : Fin 2048 → EReal) : meansq x = ⊤ ∨ ∃ M : ℝ, 0 < M ∧ meansq x = M := by
  obtain ⟨e, he, h⟩ := small_eq
  unfold meansq
  rw [div_width, h]
  have hs : 0 ≤ (∑ j, x j * x j) * ((1 / 2048 : ℝ) : EReal) :=
    mul_nonneg (Finset.sum_nonneg fun j _ => sq_nonneg _) (by exact_mod_cast (by norm_num : (0:ℝ) ≤ 1 / 2048))
  generalize (∑ j, x j * x j) * ((1 / 2048 : ℝ) : EReal) = s at hs
  induction s with
  | bot => exact absurd hs (by simp)
  | top => exact .inl (EReal.top_add_coe e)
  | coe a =>
    have ha : 0 ≤ a := by exact_mod_cast hs
    exact .inr ⟨a + e, by positivity, (EReal.coe_add a e).symm⟩

/-- A nonnegative real factor goes into a sum. -/
theorem sum_mul_real {ι : Type*} (s : Finset ι) (f : ι → EReal) {ρ : ℝ} (h : 0 ≤ ρ) : (∑ k ∈ s, f k) * (ρ : EReal) = ∑ k ∈ s, f k * ρ := by
  classical
  induction s using Finset.induction_on with
  | empty => simp
  | insert a s ha ih =>
    rw [Finset.sum_insert ha, Finset.sum_insert ha, ← ih,
      EReal.right_distrib_of_nonneg_of_ne_top (by exact_mod_cast h) (EReal.coe_ne_top ρ)]

theorem add_self (a : EReal) : a + a = a * ((2 : ℝ) : EReal) := by
  induction a with
  | bot => rw [EReal.bot_mul_coe_of_pos (by norm_num)]; rfl
  | top => rw [EReal.top_mul_coe_of_pos (by norm_num)]; rfl
  | coe r => rw [← EReal.coe_add, ← EReal.coe_mul]; exact congrArg _ (by ring)

/-- The gradient that the norm passes back to its row, as the kernel writes it. -/
def back (x d : Fin 2048 → EReal) (j : Fin 2048) : EReal :=
  inv x * (d j - x j * inv x * Ideal.div (∑ k, d k * (x k * inv x)) width)

/-- The factor of `x` in the reverse-mode form. -/
def pull (x d : Fin 2048 → EReal) : EReal :=
  Ideal.div ((∑ k, x k * d k) * (minusHalf * Ideal.div (inv x) (meansq x))) width

theorem rsqrt_pos {M : ℝ} (h : 0 < M) : Ideal.rsqrt (M : EReal) = ((Real.sqrt M)⁻¹ : ℝ) := by
  show (if M < 0 then (⊥ : EReal) else if M = 0 then ⊤ else ((Real.sqrt M)⁻¹ : ℝ)) = _
  rw [if_neg (not_lt.mpr h.le), if_neg h.ne']

/-- Reverse-mode differentiation gives the same gradient. -/
theorem back_eq (x d : Fin 2048 → EReal) (j : Fin 2048) :
    d j * inv x + (x j * pull x d + pull x d * x j) = back x d j := by
  rw [mul_comm (pull x d), add_self]
  unfold back pull inv
  rw [div_width, div_width, minusHalf_eq]
  rcases meansq_cases x with h | ⟨M, hM, h⟩
  · rw [h, show Ideal.rsqrt ⊤ = 0 from rfl]
    unfold Ideal.div
    simp
  · rw [h, rsqrt_pos hM]
    have hr : 0 ≤ (Real.sqrt M)⁻¹ := by positivity
    have hd : Ideal.div (((Real.sqrt M)⁻¹ : ℝ) : EReal) (M : EReal) = ((Real.sqrt M)⁻¹ * ((Real.sqrt M)⁻¹ * (Real.sqrt M)⁻¹) : ℝ) := by
      rw [Scalars.div_coe _ hM.ne']
      refine congrArg _ ?_
      rw [← mul_inv, Real.mul_self_sqrt hM.le, div_eq_mul_inv]
    rw [hd]
    generalize (Real.sqrt M)⁻¹ = ρ at hr
    have hs : ∑ k, d k * (x k * (ρ : EReal)) = (∑ k, x k * d k) * (ρ : EReal) := by
      rw [sum_mul_real _ _ hr]
      exact Finset.sum_congr rfl fun k _ => by rw [← mul_assoc, mul_comm (d k)]
    rw [hs, sub_eq_add_neg, EReal.left_distrib_of_nonneg_of_ne_top (by exact_mod_cast hr) (EReal.coe_ne_top ρ), mul_comm (d j)]
    refine congrArg₂ (· + ·) rfl ?_
    generalize ∑ k, x k * d k = S
    calc x j * (S * (((-(1 / 2) : ℝ) : EReal) * ((ρ * (ρ * ρ) : ℝ) : EReal)) * ((1 / 2048 : ℝ) : EReal)) * ((2 : ℝ) : EReal)
        = x j * S * (((-(1 / 2) : ℝ) : EReal) * ((ρ * (ρ * ρ) : ℝ) : EReal) * ((1 / 2048 : ℝ) : EReal) * ((2 : ℝ) : EReal)) := by
          simp only [mul_assoc]
      _ = x j * S * ((-(ρ * ρ * (ρ * (1 / 2048))) : ℝ) : EReal) := by
          rw [← EReal.coe_mul, ← EReal.coe_mul, ← EReal.coe_mul]
          exact congrArg _ (congrArg _ (by ring))
      _ = -(x j * S * (((ρ : ℝ) : EReal) * (ρ : EReal) * ((ρ : EReal) * ((1 / 2048 : ℝ) : EReal)))) := by
          rw [EReal.coe_neg, mul_neg, EReal.coe_mul, EReal.coe_mul, EReal.coe_mul]
      _ = (ρ : EReal) * -(x j * (ρ : EReal) * (S * (ρ : EReal) * ((1 / 2048 : ℝ) : EReal))) := by
          rw [mul_neg]
          refine congrArg _ ?_
          simp only [mul_assoc, mul_left_comm, mul_comm]

/-- A sum over all rows, block by block. -/
theorem sum_blocks (g : Fin 4096 → EReal) :
    ∑ i, g i = ∑ t ∈ Finset.range 16, ∑ p : Fin 256, if h : t < 16 then g ⟨t * 256 + p.val, by omega⟩ else 0 := by
  rw [← Fin.sum_univ_eq_sum_range (fun t => ∑ p : Fin 256, if h : t < 16 then g ⟨t * 256 + p.val, by omega⟩ else 0) 16]
  have hN : (4096 : ℕ) = 16 * 256 := rfl
  refine Fin.sum_divmod_congr (fun i ha hs => ?_) hN
  rw [dif_pos (show i.val / 256 < 16 from ha)]
  exact congrArg g (Fin.ext (by show i.val = i.val / 256 * 256 + i.val % 256; omega))

end Cert.Norms
end
-- ==== Proof.NormSpec.lean ====
/- The gradients of the root-mean-square norm with its modulation, over whole arrays: what the kernels leave and what
   reverse-mode differentiation gives are both stated with the functions of this module. -/
module

public import proofs.«01_k».proof.Proof.Norms

@[expose] public section

set_option maxRecDepth 16384

noncomputable section

namespace Cert.NormSpec

open Idealize.ShloMosaic Cert.Norms

abbrev Row : Type := Fin 2048 → EReal
abbrev Mat : Type := Fin 4096 → Row

/-- An array of the tokens' rows as a function of token and feature; a vector as a function of the feature. -/
abbrev mat (a : (⟨2, ![4096, 2048]⟩ : Shape).Idx → EReal) : Mat := fun i j => a (ix2 i j)
abbrev vec (a : (⟨1, ![2048]⟩ : Shape).Idx → EReal) : Row := fun j => a (ix1 j)

/-- The norm itself: a row over its root mean square, times the gain, modulated by scale and shift. -/
def fwd (x g s b : Row) : Row := fun j => x j * inv x * g j * (1 + s j) + b j

/-- The gradient of a row: what comes by the other way, and what the norm passes back; `z` is the cotangent of the
    modulated row, `s` the scale, `g` the gain. -/
def dx (p x z s g : Row) (j : Fin 2048) : EReal := p j + back x (fun k => z k * (1 + s k) * g k) j

/-- What row `i` adds to the column sums: to the shift's cotangent, the scale's, the gain's and the gate's. -/
def term (x z p b : Mat) (s g : Row) (k : Fin 8) (j : Fin 2048) (i : Fin 4096) : EReal :=
  if k.val = 3 then p i j * b i j else if k.val = 2 then z i j * (1 + s j) * (x i j * inv (x i))
  else if k.val = 1 then z i j * (x i j * inv (x i) * g j) else if k.val = 0 then z i j else 0

/-- The column sums. -/
def sums (x z p b : Mat) (s g : Row) (k : Fin 8) (j : Fin 2048) : EReal := ∑ i, term x z p b s g k j i

/-- Four rows stacked on four rows of zeros are the column sums, where each row is its sum. -/
theorem stack (x z p b : Mat) (s g : Row) (k : Fin 8) (j : Fin 2048) (q0 q1 q2 q3 : (⟨2, ![1, 2048]⟩ : Shape).Idx → EReal)
    (h0 : q0 (ix2 0 j) = ∑ i, z i j) (h1 : q1 (ix2 0 j) = ∑ i, z i j * (x i j * inv (x i) * g j))
    (h2 : q2 (ix2 0 j) = ∑ i, z i j * (1 + s j) * (x i j * inv (x i))) (h3 : q3 (ix2 0 j) = ∑ i, p i j * b i j) :
    (if h : k.val < 1 then q0 (ix2 ⟨k.val, h⟩ j)
      else if h : k.val - 1 < 1 then q1 (ix2 ⟨k.val - 1, h⟩ j)
      else if h : k.val - 1 - 1 < 1 then q2 (ix2 ⟨k.val - 1 - 1, h⟩ j)
      else if h : k.val - 1 - 1 - 1 < 1 then q3 (ix2 ⟨k.val - 1 - 1 - 1, h⟩ j) else 0) = sums x z p b s g k j := by
  have hq : ∀ (q : (⟨2, ![1, 2048]⟩ : Shape).Idx → EReal) (n : ℕ) (h : n < 1), q (ix2 ⟨n, h⟩ j) = q (ix2 0 j) := fun q n h =>
    congrArg (fun a : Fin 1 => q (ix2 a j)) (Subsingleton.elim _ _)
  simp only [hq, h0, h1, h2, h3]
  unfold sums term
  split_ifs <;> first | omega | exact Finset.sum_const_zero.symm | rfl

/-- What a norm reads: the input and the branch before it, times that branch's gate. -/
def input (x y : Mat) (g : Row) : Mat := fun i j => x i j + g j * y i j

/-- Row `p` of block `t`. -/
abbrev tok (t : ℕ) (h : t < 16) (p : Fin 256) : Fin 4096 := ⟨t * 256 + p.val, by omega⟩

/-- A sum taken up block by block, the first block on top of zero, is the sum over all rows. -/
theorem acc (f : ∀ n, n < 16 → EReal) (g : Fin 4096 → EReal) (h0 : f 0 (by decide) = ∑ p, g (tok 0 (by decide) p))
    (hs : ∀ n (h : n + 1 < 16), f (n + 1) h = f n (by omega) + ∑ p, g (tok (n + 1) h p))
    (n : ℕ) (h : n < 16) (hn : n = 15) : f n h = ∑ i, g i := by
  have H : ∀ n (h : n < 16), f n h
      = ∑ t ∈ Finset.range (n + 1), ∑ p : Fin 256, if h : t < 16 then g ⟨t * 256 + p.val, by omega⟩ else 0 := by
    intro n
    induction n with
    | zero =>
      intro h
      rw [h0, Finset.sum_range_one]
      refine Finset.sum_congr rfl fun p _ => ?_
      rw [dif_pos (by decide : (0 : ℕ) < 16)]
    | succ n ih =>
      intro h
      rw [hs n h, ih (by omega), Finset.sum_range_succ _ (n + 1)]
      refine congrArg₂ (· + ·) rfl (Finset.sum_congr rfl fun p _ => ?_)
      rw [dif_pos h]
  rw [H, hn, sum_blocks]

end Cert.NormSpec

end
-- ==== Proof.Norm0Kernel.lean ====
/- The gradient of the first norm, the kernel's side: its two result arrays. -/
module

public import proofs.«01_k».proof.Proof.Gen.Norm0Ideal.Value
public import proofs.«01_k».proof.Proof.NormSpec
public import proofs.«01_k».proof.Proof.Rows

@[expose] public section

set_option maxRecDepth 131072

noncomputable section

namespace Cert.Norm0Ideal.RefValue

open Cert.Norm0Ideal Cert.Norm0Ideal.Gen
open Idealize.ShloMosaic Idealize.ShloMosaic.TcCoe
open Cert.NormSpec (Row Mat tok mat vec)
open Cert.Norms (inv meansq back)

variable (m : (ℓ : Loc nD τ sig) → Buf (Elt Ideal) ℓ) (c : Dev nD)

/-- The arguments as launched: the input, the gain, the scale, the branch the next gate multiplies, the cotangent of the
    norm's result and the cotangent that comes by the other way. -/
abbrev X : Mat := mat (m ((c : Thread nD τ).loc main_arg0))
abbrev G : Row := vec (m ((c : Thread nD τ).loc main_arg1))
abbrev S : Row := vec (m ((c : Thread nD τ).loc main_arg3))
abbrev B : Mat := mat (m ((c : Thread nD τ).loc main_arg4))
abbrev Z : Mat := mat (m ((c : Thread nD τ).loc main_arg6))
abbrev P : Mat := mat (m ((c : Thread nD τ).loc main_arg7))

theorem idx : ∀ t : Fin cfg0.N,
    win0_0.index t = ![t.val, 0] ∧ win0_1.index t = ![t.val, 0] ∧ win0_2.index t = ![t.val, 0] ∧ win0_3.index t = ![t.val, 0]
    ∧ win0_4.index t = ![0, 0] ∧ win0_5.index t = ![0, 0] ∧ win0_6.index t = ![t.val, 0] ∧ win0_7.index t = ![0, 0] :=
  (by decide +kernel : ∀ t : Fin grid0.N, _)

theorem lt16 (t : Fin cfg0.N) : t.val < 16 := lt_of_lt_of_eq t.isLt N_0

/-- The host lays the gain and the scale out as rows. -/
theorem V_g : V m c main_v0 = (shapeCast S1x2048 (m ((c : Thread nD τ).loc main_arg1)) shapeCasts_S2048_S1x2048 : FVec Ideal S1x2048 .f32) := by
  show StableHlo.after hostOps0 (fun b => m (c, b)) (Proc.devRef .tc main_v0) = _
  simp only [hostOps0, StableHlo.TRef.unary, StableHlo.TRef.toBuf, StableHlo.TRef.ofBuf, cast_eq]
  after_results_simp <;> rfl
theorem V_s : V m c main_v1 = (shapeCast S1x2048 (m ((c : Thread nD τ).loc main_arg3)) shapeCasts_S2048_S1x2048 : FVec Ideal S1x2048 .f32) := by
  show StableHlo.after hostOps0 (fun b => m (c, b)) (Proc.devRef .tc main_v1) = _
  simp only [hostOps0, StableHlo.TRef.unary, StableHlo.TRef.toBuf, StableHlo.TRef.ofBuf, cast_eq]
  after_results_simp <;> rfl

theorem blk_x (t : Fin cfg0.N) (p : Fin 256) (j : Fin 2048) : iblk m c 0 t (ix2 p j) = X m c (tok t.val (lt16 t) p) j := by
  have h : V m c main_arg0 = m ((c : Thread nD τ).loc main_arg0) := V_main_arg0 m c
  rw [X, ← h]
  blk_ext [iblk, idx t]
theorem blk_z (t : Fin cfg0.N) (p : Fin 256) (j : Fin 2048) : iblk m c 1 t (ix2 p j) = Z m c (tok t.val (lt16 t) p) j := by
  have h : V m c main_arg6 = m ((c : Thread nD τ).loc main_arg6) := V_main_arg6 m c
  rw [Z, ← h]
  blk_ext [iblk, idx t]
theorem blk_p (t : Fin cfg0.N) (p : Fin 256) (j : Fin 2048) : iblk m c 2 t (ix2 p j) = P m c (tok t.val (lt16 t) p) j := by
  have h : V m c main_arg7 = m ((c : Thread nD τ).loc main_arg7) := V_main_arg7 m c
  rw [P, ← h]
  blk_ext [iblk, idx t]
theorem blk_b (t : Fin cfg0.N) (p : Fin 256) (j : Fin 2048) : iblk m c 3 t (ix2 p j) = B m c (tok t.val (lt16 t) p) j := by
  have h : V m c main_arg4 = m ((c : Thread nD τ).loc main_arg4) := V_main_arg4 m c
  rw [B, ← h]
  blk_ext [iblk, idx t]
theorem blk_g (t : Fin cfg0.N) (j : Fin 2048) : iblk m c 4 t (ix2 0 j) = G m c j := by
  have h : iblk m c 4 t (ix2 0 j) = V m c main_v0 (ix2 0 j : S1x2048.Idx) := by blk_ext [iblk, idx t]
  rw [h, V_g]
  pointwise []
theorem blk_s (t : Fin cfg0.N) (j : Fin 2048) : iblk m c 5 t (ix2 0 j) = S m c j := by
  have h : iblk m c 5 t (ix2 0 j) = V m c main_v1 (ix2 0 j : S1x2048.Idx) := by blk_ext [iblk, idx t]
  rw [h, V_s]
  pointwise []
theorem emb6 (t : Fin cfg0.N) (p : Fin 256) (j : Fin 2048) :
    (((cfg0.win 6).blk t).view.emb (ix2 p j : S256x2048.Idx) : S4096x2048.Idx) = ix2 (tok t.val (lt16 t) p) j := by
  blk_ext [idx t]
theorem emb7 (t : Fin cfg0.N) (k : Fin 8) (j : Fin 2048) :
    (((cfg0.win 7).blk t).view.emb (ix2 k j : S8x2048.Idx) : S8x2048.Idx) = ix2 k j := by
  blk_ext [idx t]

section Pay

variable (x p : Vec Ideal S256x2048 .f32) (z b : Vec Ideal S256x2048 .bf16) (g s : Vec Ideal S1x2048 .f32) (r : Fin 256) (j : Fin 2048)

theorem inv_apply : k0_pay3 (F := Ideal) x (ix2 r 0) = inv fun k => x (ix2 r k) := by
  unfold k0_pay3
  pointwise []
  rfl
theorem normed_apply : k0_pay4 (F := Ideal) x (ix2 r j) = x (ix2 r j) * inv fun k => x (ix2 r k) := by
  have h := inv_apply x
  unfold k0_pay4
  generalize k0_pay3 (F := Ideal) x = q at *
  pointwise []
  rw [h]
theorem gained_apply : k0_pay5 (F := Ideal) x g (ix2 r j) = x (ix2 r j) * inv (fun k => x (ix2 r k)) * g (ix2 0 j) := by
  have h := normed_apply x
  unfold k0_pay5
  generalize k0_pay4 (F := Ideal) x = q at *
  pointwise []
  rw [h]
theorem dgained_apply : k0_pay6 (F := Ideal) z s (ix2 r j) = z (ix2 r j) * (1 + s (ix2 0 j)) := by
  unfold k0_pay6
  pointwise [k0_pay2]
theorem dnormed_apply : k0_pay7 (F := Ideal) z s g (ix2 r j) = z (ix2 r j) * (1 + s (ix2 0 j)) * g (ix2 0 j) := by
  have h := dgained_apply z s
  unfold k0_pay7
  generalize k0_pay6 (F := Ideal) z s = q at *
  pointwise []
  rw [h]
theorem drawn_apply : k0_pay8 (F := Ideal) x z s g (ix2 r j) = x (ix2 r j) * inv (fun k => x (ix2 r k))
    * Ideal.div (∑ k : Fin 2048, z (ix2 r k) * (1 + s (ix2 0 k)) * g (ix2 0 k) * (x (ix2 r k) * inv fun k => x (ix2 r k))) Norms.width := by
  have h := normed_apply x
  have h' := dnormed_apply z g s
  unfold k0_pay8
  generalize k0_pay4 (F := Ideal) x = q at *
  generalize k0_pay7 (F := Ideal) z s g = q' at *
  pointwise []
  simp only [h, h']
  rfl
theorem dx_apply : k0_pay9 (F := Ideal) p (k0_pay3 x) (k0_pay7 z s g) (k0_pay8 x z s g) (ix2 r j)
    = NormSpec.dx (fun k => p (ix2 r k)) (fun k => x (ix2 r k)) (fun k => z (ix2 r k)) (fun k => s (ix2 0 k)) (fun k => g (ix2 0 k)) j := by
  have h := inv_apply x
  have h' := dnormed_apply z g s
  have h'' := drawn_apply x z g s
  unfold k0_pay9
  generalize k0_pay3 (F := Ideal) x = q at *
  generalize k0_pay7 (F := Ideal) z s g = q' at *
  generalize k0_pay8 (F := Ideal) x z s g = q'' at *
  pointwise []
  simp only [h, h', h'']
  rfl

variable (a : Vec Ideal S1x2048 .f32)

theorem row0_apply : k0_pay10 (F := Ideal) (k0_pay2 z) a (ix2 0 j) = a (ix2 0 j) + ∑ r : Fin 256, z (ix2 r j) := by
  unfold k0_pay10
  pointwise [k0_pay2]
theorem row1_apply : k0_pay11 (F := Ideal) (k0_pay2 z) (k0_pay5 x g) a (ix2 0 j)
    = a (ix2 0 j) + ∑ r : Fin 256, z (ix2 r j) * (x (ix2 r j) * inv (fun k => x (ix2 r k)) * g (ix2 0 j)) := by
  have h := gained_apply x g
  unfold k0_pay11
  generalize k0_pay5 (F := Ideal) x g = q at *
  pointwise [k0_pay2]
  simp only [h]
theorem row2_apply : k0_pay12 (F := Ideal) (k0_pay4 x) (k0_pay6 z s) a (ix2 0 j)
    = a (ix2 0 j) + ∑ r : Fin 256, z (ix2 r j) * (1 + s (ix2 0 j)) * (x (ix2 r j) * inv (fun k => x (ix2 r k))) := by
  have h := normed_apply x
  have h' := dgained_apply z s
  unfold k0_pay12
  generalize k0_pay4 (F := Ideal) x = q at *
  generalize k0_pay6 (F := Ideal) z s = q' at *
  pointwise []
  simp only [h, h']
theorem row3_apply : k0_pay13 (F := Ideal) p a b (ix2 0 j) = a (ix2 0 j) + ∑ r : Fin 256, p (ix2 r j) * b (ix2 r j) := by
  unfold k0_pay13
  pointwise []

end Pay

theorem zeros_apply (i : S8x2048.Idx) : k0_pay1 (F := Ideal) i = 0 := by
  unfold k0_pay1
  pointwise []

/-- What the body leaves of the input's gradient. -/
theorem left6 (t : Fin cfg0.N) (p : Fin 256) (j : Fin 2048) : (outsAt0 m c t.val t.isLt).1 (ix2 p j)
    = NormSpec.dx (P m c (tok t.val (lt16 t) p)) (X m c (tok t.val (lt16 t) p)) (Z m c (tok t.val (lt16 t) p)) (S m c) (G m c) j := by
  by_cases h : t.val % 16 = 0
  · rw [outsAt0_A m c t h]
    dsimp only
    frame_out
    rw [dx_apply]
    simp only [blk_x, blk_z, blk_p, blk_g, blk_s]
  · rw [outsAt0_B m c t h]
    dsimp only
    frame_out
    rw [dx_apply]
    simp only [blk_x, blk_z, blk_p, blk_g, blk_s]

/-- The column sums at the first point: the block's own, on top of the zeros the body starts with. -/
theorem first (t : Fin cfg0.N) (h : t.val % 16 = 0) (k : Fin 8) (j : Fin 2048) : (outsAt0 m c t.val t.isLt).2 (ix2 k j)
    = ∑ p : Fin 256, NormSpec.term (X m c) (Z m c) (P m c) (B m c) (S m c) (G m c) k j (tok t.val (lt16 t) p) := by
  rw [outsAt0_A m c t h]
  dsimp only
  frame_out
  rw [Rows.canon_row, Rows.canon_row, Rows.canon_row, Rows.canon_row, Rows.canon_whole, row0_apply, row1_apply, row2_apply, row3_apply]
  rw [Rows.cov_row _ 0 _ _ 0 rfl, Rows.cov_row _ 1 _ _ 1 rfl, Rows.cov_row _ 2 _ _ 2 rfl, Rows.cov_row _ 3 _ _ 3 rfl]
  simp (decide := true) only [Rows.canon_row, Rows.canon_whole, zeros_apply, if_false, zero_add, blk_x, blk_z, blk_p, blk_b, blk_g, blk_s]
  unfold NormSpec.term
  split_ifs <;> first | rfl | exact Finset.sum_const_zero.symm

/-- At a later point: what was there and the block's own. -/
theorem next (t : Fin cfg0.N) (h : ¬ t.val % 16 = 0) (k : Fin 8) (j : Fin 2048) : (outsAt0 m c t.val t.isLt).2 (ix2 k j)
    = (outsAt0 m c (t.val - 1) (Nat.lt_of_le_of_lt (Nat.sub_le _ _) t.isLt)).2 (ix2 k j)
      + ∑ p : Fin 256, NormSpec.term (X m c) (Z m c) (P m c) (B m c) (S m c) (G m c) k j (tok t.val (lt16 t) p) := by
  rw [outsAt0_B m c t h]
  dsimp only
  frame_out
  rw [Rows.read_row, Rows.read_row, Rows.read_row, Rows.read_row, row0_apply, row1_apply, row2_apply, row3_apply]
  rw [Rows.ld_row 0 _ _ 0 rfl, Rows.ld_row 1 _ _ 1 rfl, Rows.ld_row 2 _ _ 2 rfl, Rows.ld_row 3 _ _ 3 rfl]
  rw [View.writes_nil, Memref.IsWhole.read_unread]
  simp only [blk_x, blk_z, blk_p, blk_b, blk_g, blk_s]
  unfold NormSpec.term
  split_ifs with h3 h2 h1 h0
  · rw [show k = 3 from Fin.ext h3]
  · rw [show k = 2 from Fin.ext h2]
  · rw [show k = 1 from Fin.ext h1]
  · rw [show k = 0 from Fin.ext h0]
  · rw [Finset.sum_const_zero, add_zero]

/-- The input's gradient. -/
theorem final6 : (dats m 0 c).arrAt 6 cfg0.N = fun i : S4096x2048.Idx =>
    NormSpec.dx (P m c (i 0)) (X m c (i 0)) (Z m c (i 0)) (S m c) (G m c) (i 1) := by
  refine (dats m 0 c).arrAt_eq_of_covers 6 _ (by decide +kernel) fun t hf y => ?_
  revert y
  intro (y : S256x2048.Idx)
  obtain ⟨p, j, rfl⟩ : ∃ (p : Fin 256) (j : Fin 2048), y = ix2 p j := ⟨y 0, y 1, eq_ix2 y⟩
  rw [emb6, after0_6]
  exact left6 m c t p j

/-- The column sums after the last point. -/
theorem last (t : Fin cfg0.N) (ht : t.val = 15) (k : Fin 8) (j : Fin 2048) : (outsAt0 m c t.val t.isLt).2 (ix2 k j)
    = NormSpec.sums (X m c) (Z m c) (P m c) (B m c) (S m c) (G m c) k j :=
  NormSpec.acc (fun n h => (outsAt0 m c n (lt_of_lt_of_eq h N_0.symm)).2 (ix2 k j)) _
    (first m c ⟨0, lt_of_lt_of_eq (by decide) N_0.symm⟩ rfl k j)
    (fun n h => next m c ⟨n + 1, lt_of_lt_of_eq h N_0.symm⟩ (by show ¬ (n + 1) % 16 = 0; omega) k j) t.val (lt16 t) ht

/-- The column sums. -/
theorem final7 : (dats m 0 c).arrAt 7 cfg0.N = fun i : S8x2048.Idx =>
    NormSpec.sums (X m c) (Z m c) (P m c) (B m c) (S m c) (G m c) (i 0) (i 1) := by
  refine (dats m 0 c).arrAt_eq_of_covers 7 _ (by decide +kernel) fun t hf y => ?_
  revert y
  intro (y : S8x2048.Idx)
  obtain ⟨k, j, rfl⟩ : ∃ (k : Fin 8) (j : Fin 2048), y = ix2 k j := ⟨y 0, y 1, eq_ix2 y⟩
  have ht : t.val = 15 := by have := (flush0_7 t).mp hf; have := lt16 t; omega
  rw [emb7, after0_7]
  have h := last m c t ht k j
  generalize (outsAt0 m c t.val t.isLt).2 = a at h ⊢
  show a (ix2 k j) = NormSpec.sums (X m c) (Z m c) (P m c) (B m c) (S m c) (G m c) k j
  exact h

end Cert.Norm0Ideal.RefValue

end
-- ==== Proof.NormKernel.lean ====
/- The gradient of a norm with the branch before it, the kernel's side: its three result arrays. The bodies of the two
   norms' gradients compute the same, so what the first norm's module says of it is used here. -/
module

public import proofs.«01_k».proof.Proof.Gen.NormIdeal.Value
public import proofs.«01_k».proof.Proof.Norm0Kernel

@[expose] public section

set_option maxRecDepth 131072

noncomputable section

namespace Cert.NormIdeal.RefValue

open Cert.NormIdeal Cert.NormIdeal.Gen
open Idealize.ShloMosaic Idealize.ShloMosaic.TcCoe
open Cert.NormSpec (Row Mat tok mat vec)
open Cert.Norms (inv meansq back)

variable (m : (ℓ : Loc nD τ sig) → Buf (Elt Ideal) ℓ) (c : Dev nD)

/-- The arguments as launched: the norm's input from the residual, the branch and its gate, the gain, the scale, the
    branch the next gate multiplies, the cotangent of the norm's result and the cotangent that comes by the other way. -/
abbrev X : Mat := NormSpec.input (mat (m ((c : Thread nD τ).loc main_arg0))) (mat (m ((c : Thread nD τ).loc main_arg1)))
  (vec (m ((c : Thread nD τ).loc main_arg2)))
abbrev Q : Row := vec (m ((c : Thread nD τ).loc main_arg2))
abbrev G : Row := vec (m ((c : Thread nD τ).loc main_arg3))
abbrev S : Row := vec (m ((c : Thread nD τ).loc main_arg5))
abbrev B : Mat := mat (m ((c : Thread nD τ).loc main_arg6))
abbrev Z : Mat := mat (m ((c : Thread nD τ).loc main_arg8))
abbrev P : Mat := mat (m ((c : Thread nD τ).loc main_arg9))

theorem idx : ∀ t : Fin cfg0.N,
    win0_0.index t = ![t.val, 0] ∧ win0_1.index t = ![t.val, 0] ∧ win0_2.index t = ![t.val, 0] ∧ win0_3.index t = ![t.val, 0]
    ∧ win0_4.index t = ![0, 0] ∧ win0_5.index t = ![0, 0] ∧ win0_6.index t = ![0, 0]
    ∧ win0_7.index t = ![t.val, 0] ∧ win0_8.index t = ![t.val, 0] ∧ win0_9.index t = ![0, 0] :=
  (by decide +kernel : ∀ t : Fin grid0.N, _)

theorem lt16 (t : Fin cfg0.N) : t.val < 16 := lt_of_lt_of_eq t.isLt N_0

/-- The host computes the norm's input and lays the gain, the scale and the gate out as rows. -/
theorem V_x : V m c main_v4 = (addf (m ((c : Thread nD τ).loc main_arg0))
    (mulf (broadcastInDim S4096x2048 ![0, 1] bcast_S1x2048_S4096x2048_0_1
        (broadcastInDim S1x2048 ![1] bcast_S2048_S1x2048_1 (m ((c : Thread nD τ).loc main_arg2))))
      (extf .f32 (m ((c : Thread nD τ).loc main_arg1)) bitsLt_bf16_f32)) : FVec Ideal S4096x2048 .f32) := by
  show StableHlo.after hostOps0 (fun b => m (c, b)) (Proc.devRef .tc main_v4) = _
  simp only [hostOps0, StableHlo.TRef.unary, StableHlo.TRef.binary, StableHlo.TRef.toBuf, StableHlo.TRef.ofBuf, cast_eq]
  after_results_simp <;> rfl
theorem V_g : V m c main_v5 = (shapeCast S1x2048 (m ((c : Thread nD τ).loc main_arg3)) shapeCasts_S2048_S1x2048 : FVec Ideal S1x2048 .f32) := by
  show StableHlo.after hostOps0 (fun b => m (c, b)) (Proc.devRef .tc main_v5) = _
  simp only [hostOps0, StableHlo.TRef.unary, StableHlo.TRef.binary, StableHlo.TRef.toBuf, StableHlo.TRef.ofBuf, cast_eq]
  after_results_simp <;> rfl
theorem V_s : V m c main_v6 = (shapeCast S1x2048 (m ((c : Thread nD τ).loc main_arg5)) shapeCasts_S2048_S1x2048 : FVec Ideal S1x2048 .f32) := by
  show StableHlo.after hostOps0 (fun b => m (c, b)) (Proc.devRef .tc main_v6) = _
  simp only [hostOps0, StableHlo.TRef.unary, StableHlo.TRef.binary, StableHlo.TRef.toBuf, StableHlo.TRef.ofBuf, cast_eq]
  after_results_simp <;> rfl
theorem V_q : V m c main_v7 = (shapeCast S1x2048 (m ((c : Thread nD τ).loc main_arg2)) shapeCasts_S2048_S1x2048 : FVec Ideal S1x2048 .f32) := by
  show StableHlo.after hostOps0 (fun b => m (c, b)) (Proc.devRef .tc main_v7) = _
  simp only [hostOps0, StableHlo.TRef.unary, StableHlo.TRef.binary, StableHlo.TRef.toBuf, StableHlo.TRef.ofBuf, cast_eq]
  after_results_simp <;> rfl

theorem blk_x (t : Fin cfg0.N) (p : Fin 256) (j : Fin 2048) : iblk m c 0 t (ix2 p j) = X m c (tok t.val (lt16 t) p) j := by
  have h : iblk m c 0 t (ix2 p j) = V m c main_v4 (ix2 (tok t.val (lt16 t) p) j : S4096x2048.Idx) := by blk_ext [iblk, idx t]
  rw [h, V_x]
  pointwise []
  rfl
theorem blk_z (t : Fin cfg0.N) (p : Fin 256) (j : Fin 2048) : iblk m c 1 t (ix2 p j) = Z m c (tok t.val (lt16 t) p) j := by
  have h : V m c main_arg8 = m ((c : Thread nD τ).loc main_arg8) := V_main_arg8 m c
  rw [Z, ← h]
  blk_ext [iblk, idx t]
theorem blk_p (t : Fin cfg0.N) (p : Fin 256) (j : Fin 2048) : iblk m c 2 t (ix2 p j) = P m c (tok t.val (lt16 t) p) j := by
  have h : V m c main_arg9 = m ((c : Thread nD τ).loc main_arg9) := V_main_arg9 m c
  rw [P, ← h]
  blk_ext [iblk, idx t]
theorem blk_b (t : Fin cfg0.N) (p : Fin 256) (j : Fin 2048) : iblk m c 3 t (ix2 p j) = B m c (tok t.val (lt16 t) p) j := by
  have h : V m c main_arg6 = m ((c : Thread nD τ).loc main_arg6) := V_main_arg6 m c
  rw [B, ← h]
  blk_ext [iblk, idx t]
theorem blk_g (t : Fin cfg0.N) (j : Fin 2048) : iblk m c 4 t (ix2 0 j) = G m c j := by
  have h : iblk m c 4 t (ix2 0 j) = V m c main_v5 (ix2 0 j : S1x2048.Idx) := by blk_ext [iblk, idx t]
  rw [h, V_g]
  pointwise []
theorem blk_s (t : Fin cfg0.N) (j : Fin 2048) : iblk m c 5 t (ix2 0 j) = S m c j := by
  have h : iblk m c 5 t (ix2 0 j) = V m c main_v6 (ix2 0 j : S1x2048.Idx) := by blk_ext [iblk, idx t]
  rw [h, V_s]
  pointwise []
theorem blk_q (t : Fin cfg0.N) (j : Fin 2048) : iblk m c 6 t (ix2 0 j) = Q m c j := by
  have h : iblk m c 6 t (ix2 0 j) = V m c main_v7 (ix2 0 j : S1x2048.Idx) := by blk_ext [iblk, idx t]
  rw [h, V_q]
  pointwise []
theorem emb7 (t : Fin cfg0.N) (p : Fin 256) (j : Fin 2048) :
    (((cfg0.win 7).blk t).view.emb (ix2 p j : S256x2048.Idx) : S4096x2048.Idx) = ix2 (tok t.val (lt16 t) p) j := by
  blk_ext [idx t]
theorem emb8 (t : Fin cfg0.N) (p : Fin 256) (j : Fin 2048) :
    (((cfg0.win 8).blk t).view.emb (ix2 p j : S256x2048.Idx) : S4096x2048.Idx) = ix2 (tok t.val (lt16 t) p) j := by
  blk_ext [idx t]
theorem emb9 (t : Fin cfg0.N) (k : Fin 8) (j : Fin 2048) :
    (((cfg0.win 9).blk t).view.emb (ix2 k j : S8x2048.Idx) : S8x2048.Idx) = ix2 k j := by
  blk_ext [idx t]

section Pay

variable (x p : Vec Ideal S256x2048 .f32) (z b : Vec Ideal S256x2048 .bf16) (g s q : Vec Ideal S1x2048 .f32) (r : Fin 256) (j : Fin 2048)

theorem cast_x : k0_pay3 (F := Ideal) x = x := by
  funext i
  unfold k0_pay3
  pointwise []

/-- The payloads are those of the first norm's body, at the input as the host hands it over. -/
theorem inv_eq : k0_pay5 (F := Ideal) x = Norm0Ideal.Gen.k0_pay3 x := by
  have h : k0_pay5 (F := Ideal) x = Norm0Ideal.Gen.k0_pay3 (k0_pay3 x) := rfl
  rw [h, cast_x]
theorem normed_eq : k0_pay6 (F := Ideal) x = Norm0Ideal.Gen.k0_pay4 x := by
  unfold k0_pay6 Norm0Ideal.Gen.k0_pay4
  rw [inv_eq, cast_x]
theorem gained_eq : k0_pay7 (F := Ideal) x g = Norm0Ideal.Gen.k0_pay5 x g := by
  unfold k0_pay7 Norm0Ideal.Gen.k0_pay5
  rw [normed_eq]
theorem dgained_eq : k0_pay8 (F := Ideal) z s = Norm0Ideal.Gen.k0_pay6 z s := rfl
theorem dnormed_eq : k0_pay9 (F := Ideal) z s g = Norm0Ideal.Gen.k0_pay7 z s g := by
  unfold k0_pay9 Norm0Ideal.Gen.k0_pay7
  rw [dgained_eq]
theorem drawn_eq : mulf (k0_pay6 (F := Ideal) x) (k0_pay10 x z s g) = Norm0Ideal.Gen.k0_pay8 x z s g := by
  unfold k0_pay10 Norm0Ideal.Gen.k0_pay8
  rw [normed_eq, dnormed_eq]

theorem dx_apply : k0_pay11 (F := Ideal) p (k0_pay5 x) (k0_pay6 x) (k0_pay9 z s g) (k0_pay10 x z s g) (ix2 r j)
    = NormSpec.dx (fun k => p (ix2 r k)) (fun k => x (ix2 r k)) (fun k => z (ix2 r k)) (fun k => s (ix2 0 k)) (fun k => g (ix2 0 k)) j := by
  refine Eq.trans ?_ (Norm0Ideal.RefValue.dx_apply x p z g s r j)
  unfold k0_pay11 Norm0Ideal.Gen.k0_pay9
  rw [inv_eq, dnormed_eq, drawn_eq]
theorem dy_apply : k0_pay12 (F := Ideal) p (k0_pay5 x) (k0_pay6 x) (k0_pay9 z s g) (k0_pay10 x z s g) q (ix2 r j)
    = q (ix2 0 j) * NormSpec.dx (fun k => p (ix2 r k)) (fun k => x (ix2 r k)) (fun k => z (ix2 r k)) (fun k => s (ix2 0 k)) (fun k => g (ix2 0 k)) j := by
  have h := dx_apply x p z g s r j
  unfold k0_pay12
  generalize k0_pay11 (F := Ideal) p (k0_pay5 x) (k0_pay6 x) (k0_pay9 z s g) (k0_pay10 x z s g) = a at *
  pointwise []
  rw [h]

variable (a : Vec Ideal S1x2048 .f32)

theorem row0_apply : k0_pay13 (F := Ideal) (k0_pay4 z) a (ix2 0 j) = a (ix2 0 j) + ∑ r : Fin 256, z (ix2 r j) :=
  Norm0Ideal.RefValue.row0_apply z j a
theorem row1_apply : k0_pay14 (F := Ideal) (k0_pay4 z) (k0_pay7 x g) a (ix2 0 j)
    = a (ix2 0 j) + ∑ r : Fin 256, z (ix2 r j) * (x (ix2 r j) * inv (fun k => x (ix2 r k)) * g (ix2 0 j)) := by
  rw [gained_eq]
  exact Norm0Ideal.RefValue.row1_apply x z g j a
theorem row2_apply : k0_pay15 (F := Ideal) (k0_pay6 x) (k0_pay8 z s) a (ix2 0 j)
    = a (ix2 0 j) + ∑ r : Fin 256, z (ix2 r j) * (1 + s (ix2 0 j)) * (x (ix2 r j) * inv (fun k => x (ix2 r k))) := by
  rw [normed_eq, dgained_eq]
  exact Norm0Ideal.RefValue.row2_apply x z s j a
theorem row3_apply : k0_pay1 (F := Ideal) p a b (ix2 0 j) = a (ix2 0 j) + ∑ r : Fin 256, p (ix2 r j) * b (ix2 r j) :=
  Norm0Ideal.RefValue.row3_apply p b j a

end Pay

theorem zeros_apply (i : S8x2048.Idx) : k0_pay2 (F := Ideal) i = 0 := by
  unfold k0_pay2
  pointwise []

/-- What the body leaves of the input's gradient. -/
theorem left7 (t : Fin cfg0.N) (p : Fin 256) (j : Fin 2048) : (outsAt0 m c t.val t.isLt).1 (ix2 p j)
    = NormSpec.dx (P m c (tok t.val (lt16 t) p)) (X m c (tok t.val (lt16 t) p)) (Z m c (tok t.val (lt16 t) p)) (S m c) (G m c) j := by
  by_cases h : t.val % 16 = 0
  · rw [outsAt0_A m c t h]
    dsimp only
    frame_out
    rw [dx_apply]
    simp only [blk_x, blk_z, blk_p, blk_g, blk_s]
  · rw [outsAt0_B m c t h]
    dsimp only
    frame_out
    rw [dx_apply]
    simp only [blk_x, blk_z, blk_p, blk_g, blk_s]

/-- What the body leaves of the branch's gradient. -/
theorem left8 (t : Fin cfg0.N) (p : Fin 256) (j : Fin 2048) : (outsAt0 m c t.val t.isLt).2.1 (ix2 p j)
    = Q m c j * NormSpec.dx (P m c (tok t.val (lt16 t) p)) (X m c (tok t.val (lt16 t) p)) (Z m c (tok t.val (lt16 t) p)) (S m c) (G m c) j := by
  by_cases h : t.val % 16 = 0
  · rw [outsAt0_A m c t h]
    dsimp only
    frame_out
    rw [dy_apply]
    simp only [blk_x, blk_z, blk_p, blk_g, blk_s, blk_q]
  · rw [outsAt0_B m c t h]
    dsimp only
    frame_out
    rw [dy_apply]
    simp only [blk_x, blk_z, blk_p, blk_g, blk_s, blk_q]

/-- The column sums at the first point: the block's own, on top of the zeros the body starts with. -/
theorem first (t : Fin cfg0.N) (h : t.val % 16 = 0) (k : Fin 8) (j : Fin 2048) : (outsAt0 m c t.val t.isLt).2.2 (ix2 k j)
    = ∑ p : Fin 256, NormSpec.term (X m c) (Z m c) (P m c) (B m c) (S m c) (G m c) k j (tok t.val (lt16 t) p) := by
  rw [outsAt0_A m c t h]
  dsimp only
  frame_out
  rw [Rows.canon_row, Rows.canon_row, Rows.canon_row, Rows.canon_row, Rows.canon_whole, row0_apply, row1_apply, row2_apply, row3_apply]
  rw [Rows.cov_row _ 0 _ _ 0 rfl, Rows.cov_row _ 1 _ _ 1 rfl, Rows.cov_row _ 2 _ _ 2 rfl, Rows.cov_row _ 3 _ _ 3 rfl]
  simp (decide := true) only [Rows.canon_row, Rows.canon_whole, zeros_apply, if_false, zero_add, blk_x, blk_z, blk_p, blk_b, blk_g, blk_s]
  unfold NormSpec.term
  split_ifs <;> first | rfl | exact Finset.sum_const_zero.symm

/-- At a later point: what was there and the block's own. -/
theorem next (t : Fin cfg0.N) (h : ¬ t.val % 16 = 0) (k : Fin 8) (j : Fin 2048) : (outsAt0 m c t.val t.isLt).2.2 (ix2 k j)
    = (outsAt0 m c (t.val - 1) (Nat.lt_of_le_of_lt (Nat.sub_le _ _) t.isLt)).2.2 (ix2 k j)
      + ∑ p : Fin 256, NormSpec.term (X m c) (Z m c) (P m c) (B m c) (S m c) (G m c) k j (tok t.val (lt16 t) p) := by
  rw [outsAt0_B m c t h]
  dsimp only
  frame_out
  rw [Rows.read_row, Rows.read_row, Rows.read_row, Rows.read_row, row0_apply, row1_apply, row2_apply, row3_apply]
  rw [Rows.ld_row 0 _ _ 0 rfl, Rows.ld_row 1 _ _ 1 rfl, Rows.ld_row 2 _ _ 2 rfl, Rows.ld_row 3 _ _ 3 rfl]
  rw [View.writes_nil, Memref.IsWhole.read_unread]
  simp only [blk_x, blk_z, blk_p, blk_b, blk_g, blk_s]
  unfold NormSpec.term
  split_ifs with h3 h2 h1 h0
  · rw [show k = 3 from Fin.ext h3]
  · rw [show k = 2 from Fin.ext h2]
  · rw [show k = 1 from Fin.ext h1]
  · rw [show k = 0 from Fin.ext h0]
  · rw [Finset.sum_const_zero, add_zero]

/-- The input's gradient. -/
theorem final7 : (dats m 0 c).arrAt 7 cfg0.N = fun i : S4096x2048.Idx =>
    NormSpec.dx (P m c (i 0)) (X m c (i 0)) (Z m c (i 0)) (S m c) (G m c) (i 1) := by
  refine (dats m 0 c).arrAt_eq_of_covers 7 _ (by decide +kernel) fun t hf y => ?_
  revert y
  intro (y : S256x2048.Idx)
  obtain ⟨p, j, rfl⟩ : ∃ (p : Fin 256) (j : Fin 2048), y = ix2 p j := ⟨y 0, y 1, eq_ix2 y⟩
  rw [emb7, after0_7]
  exact left7 m c t p j

/-- The branch's gradient. -/
theorem final8 : (dats m 0 c).arrAt 8 cfg0.N = fun i : S4096x2048.Idx =>
    Q m c (i 1) * NormSpec.dx (P m c (i 0)) (X m c (i 0)) (Z m c (i 0)) (S m c) (G m c) (i 1) := by
  refine (dats m 0 c).arrAt_eq_of_covers 8 _ (by decide +kernel) fun t hf y => ?_
  revert y
  intro (y : S256x2048.Idx)
  obtain ⟨p, j, rfl⟩ : ∃ (p : Fin 256) (j : Fin 2048), y = ix2 p j := ⟨y 0, y 1, eq_ix2 y⟩
  rw [emb8, after0_8]
  exact left8 m c t p j

/-- The column sums after the last point. -/
theorem last (t : Fin cfg0.N) (ht : t.val = 15) (k : Fin 8) (j : Fin 2048) : (outsAt0 m c t.val t.isLt).2.2 (ix2 k j)
    = NormSpec.sums (X m c) (Z m c) (P m c) (B m c) (S m c) (G m c) k j :=
  NormSpec.acc (fun n h => (outsAt0 m c n (lt_of_lt_of_eq h N_0.symm)).2.2 (ix2 k j)) _
    (first m c ⟨0, lt_of_lt_of_eq (by decide) N_0.symm⟩ rfl k j)
    (fun n h => next m c ⟨n + 1, lt_of_lt_of_eq h N_0.symm⟩ (by show ¬ (n + 1) % 16 = 0; omega) k j) t.val (lt16 t) ht

/-- The column sums. -/
theorem final9 : (dats m 0 c).arrAt 9 cfg0.N = fun i : S8x2048.Idx =>
    NormSpec.sums (X m c) (Z m c) (P m c) (B m c) (S m c) (G m c) (i 0) (i 1) := by
  refine (dats m 0 c).arrAt_eq_of_covers 9 _ (by decide +kernel) fun t hf y => ?_
  revert y
  intro (y : S8x2048.Idx)
  obtain ⟨k, j, rfl⟩ : ∃ (k : Fin 8) (j : Fin 2048), y = ix2 k j := ⟨y 0, y 1, eq_ix2 y⟩
  have ht : t.val = 15 := by have := (flush0_9 t).mp hf; have := lt16 t; omega
  rw [emb9, after0_9]
  have h := last m c t ht k j
  generalize (outsAt0 m c t.val t.isLt).2.2 = a at h ⊢
  show a (ix2 k j) = NormSpec.sums (X m c) (Z m c) (P m c) (B m c) (S m c) (G m c) k j
  exact h

end Cert.NormIdeal.RefValue

end
-- ==== Proof.Norm0Ref.lean ====
/- The gradient of the first norm, the reference's side: what reverse-mode differentiation gives is what the kernel
   leaves. -/
module

public import proofs.«01_k».proof.Proof.Gen.Norm0RefIdeal.Read
public import proofs.«01_k».proof.Proof.NormSpec

@[expose] public section

set_option maxRecDepth 131072

noncomputable section

namespace Cert.Norm0RefIdeal.RefValue

open Cert.Norm0RefIdeal Cert.Norm0RefIdeal.Read
open Idealize.ShloMosaic
open Cert.NormSpec (Row Mat mat vec)
open Cert.Norms (inv meansq)

variable (x0 : (⟨S4096x2048, .f32⟩ : BufTy).Contents (Elt Ideal)) (x1 x3 : (⟨S2048, .f32⟩ : BufTy).Contents (Elt Ideal))
  (x4 x6 : (⟨S4096x2048, .bf16⟩ : BufTy).Contents (Elt Ideal)) (x7 : (⟨S4096x2048, .f32⟩ : BufTy).Contents (Elt Ideal))
  (i : Fin 4096) (j : Fin 2048)

theorem meansq_at : val_main_v7 (F := Ideal) x0 (ix2 i 0) = meansq (mat x0 i) := by
  unfold val_main_v7 val_main_v5 val_main_v3 val_main_v2 val_main_v1
  pointwise [val_main_v4, val_main_v6, val_main_cst, val_main_cst_0, val_main_cst_1]
  rfl
theorem inv_at : val_main_v8 (F := Ideal) x0 (ix2 i 0) = inv (mat x0 i) := by
  have h := meansq_at x0
  unfold val_main_v8
  generalize val_main_v7 (F := Ideal) x0 = q at *
  pointwise []
  rw [h]
  rfl
theorem half_at : val_main_v11 (F := Ideal) x0 (ix2 i 0) = Norms.minusHalf * Ideal.div (inv (mat x0 i)) (meansq (mat x0 i)) := by
  have h := meansq_at x0
  have h' := inv_at x0
  unfold val_main_v11 val_main_v9
  generalize val_main_v7 (F := Ideal) x0 = q at *
  generalize val_main_v8 (F := Ideal) x0 = q' at *
  pointwise [val_main_v10, val_main_cst_2]
  rw [h, h']
  rfl
theorem normed_at : val_main_v13 (F := Ideal) x0 (ix2 i j) = mat x0 i j * inv (mat x0 i) := by
  have h := inv_at x0
  unfold val_main_v13 val_main_v12
  generalize val_main_v8 (F := Ideal) x0 = q at *
  pointwise []
  rw [h]
theorem gained_at : val_main_v16 (F := Ideal) x0 x1 (ix2 i j) = mat x0 i j * inv (mat x0 i) * vec x1 j := by
  have h := normed_at x0
  unfold val_main_v16 val_main_v15
  generalize val_main_v13 (F := Ideal) x0 = q at *
  pointwise [val_main_v14]
  rw [h]
theorem dgained_at : val_main_v42 (F := Ideal) x3 x6 (ix2 i j) = mat x6 i j * (1 + vec x3 j) := by
  unfold val_main_v42
  pointwise [val_main_v29, val_main_v41, val_main_v19, val_main_v18, val_main_v17, val_main_cst_3]
theorem dnormed_at : val_main_v48 (F := Ideal) x1 x3 x6 (ix2 i j) = mat x6 i j * (1 + vec x3 j) * vec x1 j := by
  have h := dgained_at x3 x6
  unfold val_main_v48
  generalize val_main_v42 (F := Ideal) x3 x6 = q at *
  pointwise [val_main_v47, val_main_v14]
  rw [h]
theorem pull_at : val_main_v59 (F := Ideal) x0 x1 x3 x6 (ix1 i)
    = Norms.pull (mat x0 i) fun k => mat x6 i k * (1 + vec x3 k) * vec x1 k := by
  have h := half_at x0
  have h' := dnormed_at x1 x3 x6
  unfold val_main_v59 val_main_v58 val_main_v56 val_main_v52 val_main_v51 val_main_v50
  generalize val_main_v11 (F := Ideal) x0 = q at *
  generalize val_main_v48 (F := Ideal) x1 x3 x6 = q' at *
  pointwise [val_main_v57, val_main_cst_12, val_main_cst_13, val_main_cst_14]
  refine (Fintype.sum_unique _).trans ?_
  rw [show (default : Fin 1) = 0 from rfl, h]
  simp only [h']
  rfl

theorem dx_at : val_main_v64 (F := Ideal) x0 x1 x3 x6 x7 (ix2 i j)
    = NormSpec.dx (mat x7 i) (mat x0 i) (mat x6 i) (vec x3) (vec x1) j := by
  have h := pull_at x0 x1 x3 x6
  have h' := dnormed_at x1 x3 x6
  have h'' := inv_at x0
  unfold val_main_v64 val_main_v63 val_main_v62 val_main_v61 val_main_v60 val_main_v55 val_main_v54 val_main_v53
  generalize val_main_v59 (F := Ideal) x0 x1 x3 x6 = q at *
  generalize val_main_v48 (F := Ideal) x1 x3 x6 = q' at *
  generalize val_main_v8 (F := Ideal) x0 = q'' at *
  pointwise []
  rw [h, h', h'']
  unfold NormSpec.dx
  rw [← Norms.back_eq, add_assoc, add_assoc]

theorem dshift_at : val_main_v37 (F := Ideal) x6 (ix1 j) = ∑ i, mat x6 i j := by
  unfold val_main_v37 val_main_v36 val_main_v35
  pointwise [val_main_v29, val_main_cst_6, val_main_cst_7]
  exact Fintype.sum_unique _
theorem dscale_at : val_main_v43 (F := Ideal) x0 x1 x6 (ix1 j) = ∑ i, mat x6 i j * (mat x0 i j * inv (mat x0 i) * vec x1 j) := by
  have h := gained_at x0 x1
  unfold val_main_v43 val_main_v40 val_main_v39 val_main_v38
  generalize val_main_v16 (F := Ideal) x0 x1 = q at *
  pointwise [val_main_v29, val_main_cst_8, val_main_cst_9]
  refine (Fintype.sum_unique _).trans (Finset.sum_congr rfl fun i _ => ?_)
  rw [h, mul_comm]
theorem dgain_at : val_main_v49 (F := Ideal) x0 x3 x6 (ix1 j) = ∑ i, mat x6 i j * (1 + vec x3 j) * (mat x0 i j * inv (mat x0 i)) := by
  have h := normed_at x0
  have h' := dgained_at x3 x6
  unfold val_main_v49 val_main_v46 val_main_v45 val_main_v44
  generalize val_main_v13 (F := Ideal) x0 = q at *
  generalize val_main_v42 (F := Ideal) x3 x6 = q' at *
  pointwise [val_main_cst_10, val_main_cst_11]
  refine (Fintype.sum_unique _).trans (Finset.sum_congr rfl fun i _ => ?_)
  rw [h, h', mul_comm]
theorem dgate_at : val_main_v34 (F := Ideal) x4 x7 (ix1 j) = ∑ i, mat x7 i j * mat x4 i j := by
  unfold val_main_v34 val_main_v33 val_main_v32 val_main_v31
  pointwise [val_main_v30, val_main_v0, val_main_cst_4, val_main_cst_5]
  exact Fintype.sum_unique _

theorem sums_at (k : Fin 8) : val_main_v70 (F := Ideal) x0 x1 x3 x4 x6 x7 (ix2 k j)
    = NormSpec.sums (mat x0) (mat x6) (mat x7) (mat x4) (vec x3) (vec x1) k j := by
  have h0 : val_main_v65 (F := Ideal) x6 (ix2 0 j) = val_main_v37 (F := Ideal) x6 (ix1 j) := by pointwise [val_main_v65]
  have h1 : val_main_v66 (F := Ideal) x0 x1 x6 (ix2 0 j) = val_main_v43 (F := Ideal) x0 x1 x6 (ix1 j) := by pointwise [val_main_v66]
  have h2 : val_main_v67 (F := Ideal) x0 x3 x6 (ix2 0 j) = val_main_v49 (F := Ideal) x0 x3 x6 (ix1 j) := by pointwise [val_main_v67]
  have h3 : val_main_v68 (F := Ideal) x4 x7 (ix2 0 j) = val_main_v34 (F := Ideal) x4 x7 (ix1 j) := by pointwise [val_main_v68]
  rw [dshift_at] at h0
  rw [dscale_at] at h1
  rw [dgain_at] at h2
  rw [dgate_at] at h3
  unfold val_main_v70
  generalize val_main_v65 (F := Ideal) x6 = q0 at *
  generalize val_main_v66 (F := Ideal) x0 x1 x6 = q1 at *
  generalize val_main_v67 (F := Ideal) x0 x3 x6 = q2 at *
  generalize val_main_v68 (F := Ideal) x4 x7 = q3 at *
  pointwise [val_main_v69, val_main_cst_15]
  exact NormSpec.stack _ _ _ _ _ _ k j q0 q1 q2 q3 h0 h1 h2 h3

end Cert.Norm0RefIdeal.RefValue

end
-- ==== Proof.NormRef.lean ====
/- The gradient of a norm with the branch before it, the reference's side. Its operations are those of the first norm's
   reference on the input with the branch added, so what that module says is used here. -/
module

public import proofs.«01_k».proof.Proof.Gen.NormRefIdeal.Read
public import proofs.«01_k».proof.Proof.Norm0Ref

@[expose] public section

set_option maxRecDepth 131072

noncomputable section

namespace Cert.NormRefIdeal.RefValue

open Cert.NormRefIdeal Cert.NormRefIdeal.Read
open Idealize.ShloMosaic
open Cert.NormSpec (Row Mat mat vec)
open Cert.Norms (inv meansq)

variable (x0 : (⟨S4096x2048, .f32⟩ : BufTy).Contents (Elt Ideal)) (x1 : (⟨S4096x2048, .bf16⟩ : BufTy).Contents (Elt Ideal))
  (x2 x3 x5 : (⟨S2048, .f32⟩ : BufTy).Contents (Elt Ideal)) (x6 x8 : (⟨S4096x2048, .bf16⟩ : BufTy).Contents (Elt Ideal))
  (x9 : (⟨S4096x2048, .f32⟩ : BufTy).Contents (Elt Ideal)) (i : Fin 4096) (j : Fin 2048)

theorem input_at : val_main_v5 (F := Ideal) x0 x1 x2 (ix2 i j) = NormSpec.input (mat x0) (mat x1) (vec x2) i j := by
  unfold val_main_v5 val_main_v4
  pointwise [val_main_v0, val_main_v2, val_main_v3]
  rfl
theorem input_eq : mat (val_main_v5 (F := Ideal) x0 x1 x2) = NormSpec.input (mat x0) (mat x1) (vec x2) :=
  funext fun i => funext fun j => input_at x0 x1 x2 i j

theorem cast_eq' : val_main_v35 (F := Ideal) x9 = x9 := by
  funext i
  pointwise [val_main_v35]

/-- The stages that the two references share. -/
theorem inv_eq : val_main_v13 (F := Ideal) x0 x1 x2 = Cert.Norm0RefIdeal.Read.val_main_v8 (val_main_v5 x0 x1 x2) := rfl
theorem normed_eq : val_main_v18 (F := Ideal) x0 x1 x2 = Cert.Norm0RefIdeal.Read.val_main_v13 (val_main_v5 x0 x1 x2) := rfl
theorem dgained_eq : val_main_v48 (F := Ideal) x5 x8 = Cert.Norm0RefIdeal.Read.val_main_v42 x5 x8 := rfl
theorem dnormed_eq : val_main_v54 (F := Ideal) x3 x5 x8 = Cert.Norm0RefIdeal.Read.val_main_v48 x3 x5 x8 := rfl
theorem pull_eq : val_main_v66 (F := Ideal) x0 x1 x2 x3 x5 x8
    = Cert.Norm0RefIdeal.Read.val_main_v60 (val_main_v5 x0 x1 x2) x3 x5 x8 := rfl
theorem straight_eq : val_main_v60 (F := Ideal) x0 x1 x2 x3 x5 x8
    = Cert.Norm0RefIdeal.Read.val_main_v54 (val_main_v5 x0 x1 x2) x3 x5 x8 := rfl
theorem dx_eq : val_main_v70 (F := Ideal) x0 x1 x2 x3 x5 x8 x9
    = Cert.Norm0RefIdeal.Read.val_main_v64 (val_main_v5 x0 x1 x2) x3 x5 x8 x9 := by
  unfold val_main_v70 val_main_v69 val_main_v68 val_main_v67 val_main_v61
  rw [cast_eq', pull_eq, straight_eq]
  rfl

theorem dx_at : val_main_v70 (F := Ideal) x0 x1 x2 x3 x5 x8 x9 (ix2 i j)
    = NormSpec.dx (mat x9 i) (NormSpec.input (mat x0) (mat x1) (vec x2) i) (mat x8 i) (vec x5) (vec x3) j := by
  rw [dx_eq, ← input_eq]
  exact Cert.Norm0RefIdeal.RefValue.dx_at _ x3 x5 x8 x9 i j
theorem dy_at : val_main_v79 (F := Ideal) x0 x1 x2 x3 x5 x8 x9 (ix2 i j)
    = vec x2 j * NormSpec.dx (mat x9 i) (NormSpec.input (mat x0) (mat x1) (vec x2) i) (mat x8 i) (vec x5) (vec x3) j := by
  have h := dx_at x0 x1 x2 x3 x5 x8 x9 i j
  unfold val_main_v79 val_main_v72
  generalize val_main_v70 (F := Ideal) x0 x1 x2 x3 x5 x8 x9 = q at *
  pointwise [val_main_v71, val_main_v2]
  rw [h]

theorem sums_eq : val_main_v78 (F := Ideal) x0 x1 x2 x3 x5 x6 x8 x9
    = Cert.Norm0RefIdeal.Read.val_main_v70 (val_main_v5 x0 x1 x2) x3 x5 x6 x8 x9 := by
  have h0 : val_main_v73 (F := Ideal) x8 = Cert.Norm0RefIdeal.Read.val_main_v65 x8 := rfl
  have h1 : val_main_v74 (F := Ideal) x0 x1 x2 x3 x8 = Cert.Norm0RefIdeal.Read.val_main_v66 (val_main_v5 x0 x1 x2) x3 x8 := rfl
  have h2 : val_main_v75 (F := Ideal) x0 x1 x2 x5 x8 = Cert.Norm0RefIdeal.Read.val_main_v67 (val_main_v5 x0 x1 x2) x5 x8 := rfl
  have h3 : val_main_v76 (F := Ideal) x6 x9 = Cert.Norm0RefIdeal.Read.val_main_v68 x6 x9 := rfl
  unfold val_main_v78 Cert.Norm0RefIdeal.Read.val_main_v70
  rw [h0, h1, h2, h3]
  rfl

theorem sums_at (k : Fin 8) : val_main_v78 (F := Ideal) x0 x1 x2 x3 x5 x6 x8 x9 (ix2 k j)
    = NormSpec.sums (NormSpec.input (mat x0) (mat x1) (vec x2)) (mat x8) (mat x9) (mat x6) (vec x5) (vec x3) k j := by
  rw [sums_eq, ← input_eq]
  exact Cert.Norm0RefIdeal.RefValue.sums_at _ x3 x5 x6 x8 x9 j k

end Cert.NormRefIdeal.RefValue

end
-- ==== Proof.Norm0Claim.lean ====
/- The claim about the first norm's gradient: kernel and reference end with the same two arrays. -/
module

public import proofs.«01_k».proof.Defs
public import proofs.«01_k».proof.Proof.Gen.Norm0.Frame
public import proofs.«01_k».proof.Proof.Gen.Norm0
public import proofs.«01_k».proof.Proof.Gen.Norm0Ideal
public import proofs.«01_k».proof.Proof.Gen.Norm0RefIdeal
public import proofs.«01_k».proof.Proof.Gen.Norm0RefIdeal.Run
public import proofs.«01_k».proof.Proof.Norm0Kernel
public import proofs.«01_k».proof.Proof.Norm0Ref

@[expose] public section

noncomputable section

namespace Cert.Norm0Claim

open Idealize.ShloMosaic Idealize.SL.Sem
open Cert.NormSpec (mat vec)

abbrev Arr : Type := (⟨⟨2, ![4096, 2048]⟩, .f32⟩ : BufTy).Contents (Elt Ideal)
abbrev Arr16 : Type := (⟨⟨2, ![4096, 2048]⟩, .bf16⟩ : BufTy).Contents (Elt Ideal)
abbrev Vect : Type := (⟨⟨1, ![2048]⟩, .f32⟩ : BufTy).Contents (Elt Ideal)
abbrev Sums : Type := (⟨⟨2, ![8, 2048]⟩, .f32⟩ : BufTy).Contents (Elt Ideal)

/-- The two results as arrays. -/
def out0 (x : Arr) (g s : Vect) (z : Arr16) (p : Arr) : Arr :=
  fun i => NormSpec.dx (mat p (i 0)) (mat x (i 0)) (mat z (i 0)) (vec s) (vec g) (i 1)
def out1 (x : Arr) (g s : Vect) (b z : Arr16) (p : Arr) : Sums :=
  fun i => NormSpec.sums (mat x) (mat z) (mat p) (mat b) (vec s) (vec g) (i 0) (i 1)

theorem ref0 (x : Arr) (g s : Vect) (z : Arr16) (p : Arr) :
    Cert.Norm0RefIdeal.Read.val_main_v64 (F := Ideal) x g s z p = out0 x g s z p := by
  funext i
  obtain ⟨r, d, rfl⟩ : ∃ r d, i = ix2 r d := ⟨i 0, i 1, eq_ix2 i⟩
  exact Cert.Norm0RefIdeal.RefValue.dx_at x g s z p r d
theorem ref1 (x : Arr) (g s : Vect) (b z : Arr16) (p : Arr) :
    Cert.Norm0RefIdeal.Read.val_main_v70 (F := Ideal) x g s b z p = out1 x g s b z p := by
  funext i
  obtain ⟨r, d, rfl⟩ : ∃ r d, i = ix2 r d := ⟨i 0, i 1, eq_ix2 i⟩
  exact Cert.Norm0RefIdeal.RefValue.sums_at x g s b z p d r

theorem frame_r : Cert.quiescent_Norm0RefIdeal := fun m ρ _ =>
  (θ_run Cert.Norm0RefIdeal.defs _ _).mono (fun r h => ⟨fun c => (h c).2.2, sem_eq_zero_of_no_sems (by decide) r.2⟩)
    (Cert.Norm0RefIdeal.Value.run (F := Ideal) m ρ)

theorem algebraic : Cert.algebraic_Norm0Ideal_Norm0RefIdeal := by
  intro m g m' g' _ h
  refine ⟨fun c => out0 (m ((c.tc : Thread _ _).loc Cert.Norm0Ideal.main_arg0)) (m ((c.tc : Thread _ _).loc Cert.Norm0Ideal.main_arg1))
      (m ((c.tc : Thread _ _).loc Cert.Norm0Ideal.main_arg3)) (m ((c.tc : Thread _ _).loc Cert.Norm0Ideal.main_arg6))
      (m ((c.tc : Thread _ _).loc Cert.Norm0Ideal.main_arg7)),
    fun c => out1 (m ((c.tc : Thread _ _).loc Cert.Norm0Ideal.main_arg0)) (m ((c.tc : Thread _ _).loc Cert.Norm0Ideal.main_arg1))
      (m ((c.tc : Thread _ _).loc Cert.Norm0Ideal.main_arg3)) (m ((c.tc : Thread _ _).loc Cert.Norm0Ideal.main_arg4))
      (m ((c.tc : Thread _ _).loc Cert.Norm0Ideal.main_arg6)) (m ((c.tc : Thread _ _).loc Cert.Norm0Ideal.main_arg7)),
    (θ_run _ _ _).mono (fun r hr c => ?_) (Cert.Norm0Ideal.Value.run_blocks m g),
    (θ_run _ _ _).mono (fun r hr c => ?_) (Cert.Norm0RefIdeal.Value.run m' g')⟩
  · obtain ⟨h0, h1, hk⟩ := hr c
    exact ⟨h0.trans (Cert.Norm0Ideal.RefValue.final6 m c), h1.trans (Cert.Norm0Ideal.RefValue.final7 m c), hk⟩
  · obtain ⟨h0, h1, hk⟩ := hr c
    obtain ⟨a0, a1, a2, a3, a4, a5, a6, a7⟩ := h c
    refine ⟨h0.trans ?_, h1.trans ?_, hk⟩
    · rw [Cert.Norm0RefIdeal.Read.val_main_v64_eq, a0, a1, a3, a6, a7, ref0]
    · rw [Cert.Norm0RefIdeal.Read.val_main_v70_eq, a0, a1, a3, a4, a6, a7, ref1]

end Cert.Norm0Claim

end
-- ==== Proof.NormClaim.lean ====
/- The claim about the gradient of a norm with the branch before it: kernel and reference end with the same
   three arrays. -/
module

public import proofs.«01_k».proof.Defs
public import proofs.«01_k».proof.Proof.Gen.Norm.Frame
public import proofs.«01_k».proof.Proof.Gen.Norm
public import proofs.«01_k».proof.Proof.Gen.NormIdeal
public import proofs.«01_k».proof.Proof.Gen.NormRefIdeal
public import proofs.«01_k».proof.Proof.Gen.NormRefIdeal.Run
public import proofs.«01_k».proof.Proof.NormKernel
public import proofs.«01_k».proof.Proof.NormRef
public import proofs.«01_k».proof.Proof.Norm0Claim

@[expose] public section

noncomputable section

namespace Cert.NormClaim

open Idealize.ShloMosaic Idealize.SL.Sem
open Cert.NormSpec (mat vec input)
open Cert.Norm0Claim (Arr Arr16 Vect Sums)

/-- The three results as arrays; `q` is the branch's gate. -/
def out0 (x : Arr) (y : Arr16) (q g s : Vect) (z : Arr16) (p : Arr) : Arr :=
  fun i => NormSpec.dx (mat p (i 0)) (input (mat x) (mat y) (vec q) (i 0)) (mat z (i 0)) (vec s) (vec g) (i 1)
def out1 (x : Arr) (y : Arr16) (q g s : Vect) (z : Arr16) (p : Arr) : Arr16 :=
  fun i => vec q (i 1) * NormSpec.dx (mat p (i 0)) (input (mat x) (mat y) (vec q) (i 0)) (mat z (i 0)) (vec s) (vec g) (i 1)
def out2 (x : Arr) (y : Arr16) (q g s : Vect) (b z : Arr16) (p : Arr) : Sums :=
  fun i => NormSpec.sums (input (mat x) (mat y) (vec q)) (mat z) (mat p) (mat b) (vec s) (vec g) (i 0) (i 1)

theorem ref0 (x : Arr) (y : Arr16) (q g s : Vect) (z : Arr16) (p : Arr) :
    Cert.NormRefIdeal.Read.val_main_v70 (F := Ideal) x y q g s z p = out0 x y q g s z p := by
  funext i
  obtain ⟨r, d, rfl⟩ : ∃ r d, i = ix2 r d := ⟨i 0, i 1, eq_ix2 i⟩
  exact Cert.NormRefIdeal.RefValue.dx_at x y q g s z p r d
theorem ref1 (x : Arr) (y : Arr16) (q g s : Vect) (z : Arr16) (p : Arr) :
    Cert.NormRefIdeal.Read.val_main_v79 (F := Ideal) x y q g s z p = out1 x y q g s z p := by
  funext i
  obtain ⟨r, d, rfl⟩ : ∃ r d, i = ix2 r d := ⟨i 0, i 1, eq_ix2 i⟩
  exact Cert.NormRefIdeal.RefValue.dy_at x y q g s z p r d
theorem ref2 (x : Arr) (y : Arr16) (q g s : Vect) (b z : Arr16) (p : Arr) :
    Cert.NormRefIdeal.Read.val_main_v78 (F := Ideal) x y q g s b z p = out2 x y q g s b z p := by
  funext i
  obtain ⟨r, d, rfl⟩ : ∃ r d, i = ix2 r d := ⟨i 0, i 1, eq_ix2 i⟩
  exact Cert.NormRefIdeal.RefValue.sums_at x y q g s b z p d r

theorem frame_r : Cert.quiescent_NormRefIdeal := fun m ρ _ =>
  (θ_run Cert.NormRefIdeal.defs _ _).mono (fun r h => ⟨fun c => (h c).2.2.2, sem_eq_zero_of_no_sems (by decide) r.2⟩)
    (Cert.NormRefIdeal.Value.run (F := Ideal) m ρ)

theorem algebraic : Cert.algebraic_NormIdeal_NormRefIdeal := by
  intro m g m' g' _ h
  refine ⟨fun c => out0 (m ((c.tc : Thread _ _).loc Cert.NormIdeal.main_arg0)) (m ((c.tc : Thread _ _).loc Cert.NormIdeal.main_arg1)) (m ((c.tc : Thread _ _).loc Cert.NormIdeal.main_arg2))
      (m ((c.tc : Thread _ _).loc Cert.NormIdeal.main_arg3)) (m ((c.tc : Thread _ _).loc Cert.NormIdeal.main_arg5)) (m ((c.tc : Thread _ _).loc Cert.NormIdeal.main_arg8))
      (m ((c.tc : Thread _ _).loc Cert.NormIdeal.main_arg9)),
    fun c => out1 (m ((c.tc : Thread _ _).loc Cert.NormIdeal.main_arg0)) (m ((c.tc : Thread _ _).loc Cert.NormIdeal.main_arg1)) (m ((c.tc : Thread _ _).loc Cert.NormIdeal.main_arg2))
      (m ((c.tc : Thread _ _).loc Cert.NormIdeal.main_arg3)) (m ((c.tc : Thread _ _).loc Cert.NormIdeal.main_arg5)) (m ((c.tc : Thread _ _).loc Cert.NormIdeal.main_arg8))
      (m ((c.tc : Thread _ _).loc Cert.NormIdeal.main_arg9)),
    fun c => out2 (m ((c.tc : Thread _ _).loc Cert.NormIdeal.main_arg0)) (m ((c.tc : Thread _ _).loc Cert.NormIdeal.main_arg1)) (m ((c.tc : Thread _ _).loc Cert.NormIdeal.main_arg2))
      (m ((c.tc : Thread _ _).loc Cert.NormIdeal.main_arg3)) (m ((c.tc : Thread _ _).loc Cert.NormIdeal.main_arg5)) (m ((c.tc : Thread _ _).loc Cert.NormIdeal.main_arg6))
      (m ((c.tc : Thread _ _).loc Cert.NormIdeal.main_arg8)) (m ((c.tc : Thread _ _).loc Cert.NormIdeal.main_arg9)),
    (θ_run _ _ _).mono (fun r hr c => ?_) (Cert.NormIdeal.Value.run_blocks m g),
    (θ_run _ _ _).mono (fun r hr c => ?_) (Cert.NormRefIdeal.Value.run m' g')⟩
  · obtain ⟨h0, h1, h2, hk⟩ := hr c
    exact ⟨h0.trans (Cert.NormIdeal.RefValue.final7 m c), h1.trans (Cert.NormIdeal.RefValue.final8 m c),
      h2.trans (Cert.NormIdeal.RefValue.final9 m c), hk⟩
  · obtain ⟨h0, h1, h2, hk⟩ := hr c
    obtain ⟨a0, a1, a2, a3, a4, a5, a6, a7, a8, a9⟩ := h c
    refine ⟨h0.trans ?_, h1.trans ?_, h2.trans ?_, hk⟩
    · rw [Cert.NormRefIdeal.Read.val_main_v70_eq, a0, a1, a2, a3, a5, a8, a9, ref0]
    · rw [Cert.NormRefIdeal.Read.val_main_v79_eq, a0, a1, a2, a3, a5, a8, a9, ref1]
    · rw [Cert.NormRefIdeal.Read.val_main_v78_eq, a0, a1, a2, a3, a5, a6, a8, a9, ref2]

end Cert.NormClaim

end
-- ==== Proof.LossSpec.lean ====
/- The loss behind the last norm and its gradient, over whole arrays. -/
module

public import proofs.«01_k».proof.Proof.NormSpec

@[expose] public section

set_option maxRecDepth 16384

noncomputable section

namespace Cert.LossSpec

open Idealize.ShloMosaic Cert.Norms
open Cert.NormSpec (Row Mat)

/-- The error of a row: the normed and gained row less the target. -/
def err (x y g : Row) (j : Fin 2048) : EReal := x j * inv x * g j - y j

/-- The loss's cotangent at the norm's result. -/
def cot (x y g : Row) (j : Fin 2048) : EReal := err x y g j * Ideal.ofBits FTy.f32 0x3A000000#32

/-- The gradient that the norm passes back to its row. -/
def dx (x y g : Row) (j : Fin 2048) : EReal := back x (fun k => cot x y g k * g k) j

/-- A row's share of the loss. -/
def share (x y g : Row) : EReal := half * Ideal.div (∑ k, err x y g k * err x y g k) width

/-- What row `i` adds to the column sums: to the gain's cotangent, and to the loss. -/
def term (x y : Mat) (g : Row) (k : Fin 8) (j : Fin 2048) (i : Fin 4096) : EReal :=
  if k.val = 1 then share (x i) (y i) g else if k.val = 0 then cot (x i) (y i) g j * (x i j * inv (x i)) else 0

/-- The column sums. -/
def sums (x y : Mat) (g : Row) (k : Fin 8) (j : Fin 2048) : EReal := ∑ i, term x y g k j i

/-- The half of the loss goes into the sum over rows. -/
theorem half_sum {n : ℕ} (f : Fin n → EReal) : half * ∑ i, f i = ∑ i, half * f i := by
  rw [half_eq, mul_comm, sum_mul_real _ _ (by norm_num)]
  exact Finset.sum_congr rfl fun i _ => mul_comm _ _

/-- The two forms of the cotangent's factor. -/
theorem factor (a : EReal) : Ideal.div half width * (Ideal.ofBits FTy.f32 0x40000000#32 * a) = a * Ideal.ofBits FTy.f32 0x3A000000#32 := by
  rw [div_width, half_eq, inv_width_eq, two_eq, ← mul_assoc, ← EReal.coe_mul, ← EReal.coe_mul, mul_comm]
  exact congrArg (a * ·) (congrArg _ (by norm_num))

/-- Two rows stacked on six rows of zeros are the column sums, where each row is its sum. -/
theorem stack (x y : Mat) (g : Row) (k : Fin 8) (j : Fin 2048) (q0 q1 : (⟨2, ![1, 2048]⟩ : Shape).Idx → EReal)
    (h0 : q0 (ix2 0 j) = ∑ i, cot (x i) (y i) g j * (x i j * inv (x i))) (h1 : q1 (ix2 0 j) = ∑ i, share (x i) (y i) g) :
    (if h : k.val < 1 then q0 (ix2 ⟨k.val, h⟩ j) else if h : k.val - 1 < 1 then q1 (ix2 ⟨k.val - 1, h⟩ j) else 0)
      = sums x y g k j := by
  have hq : ∀ (q : (⟨2, ![1, 2048]⟩ : Shape).Idx → EReal) (n : ℕ) (h : n < 1), q (ix2 ⟨n, h⟩ j) = q (ix2 0 j) := fun q n h =>
    congrArg (fun a : Fin 1 => q (ix2 a j)) (Subsingleton.elim _ _)
  simp only [hq, h0, h1]
  unfold sums term
  split_ifs <;> first | omega | exact Finset.sum_const_zero.symm | rfl

end Cert.LossSpec

end
-- ==== Proof.LossKernel.lean ====
/- The loss's gradient through the last norm, the kernel's side: its three result arrays. The norm in it is the first
   norm's, whose module is used here. -/
module

public import proofs.«01_k».proof.Proof.Gen.LossIdeal.Value
public import proofs.«01_k».proof.Proof.Norm0Kernel
public import proofs.«01_k».proof.Proof.LossSpec

@[expose] public section

set_option maxRecDepth 131072

noncomputable section

namespace Cert.LossIdeal.RefValue

open Cert.LossIdeal Cert.LossIdeal.Gen
open Idealize.ShloMosaic Idealize.ShloMosaic.TcCoe
open Cert.NormSpec (Row Mat tok mat vec)
open Cert.Norms (inv meansq back)

variable (m : (ℓ : Loc nD τ sig) → Buf (Elt Ideal) ℓ) (c : Dev nD)

/-- The arguments as launched: the last norm's input from the residual, the branch and its gate, the target and the gain. -/
abbrev X : Mat := NormSpec.input (mat (m ((c : Thread nD τ).loc main_arg0))) (mat (m ((c : Thread nD τ).loc main_arg1)))
  (vec (m ((c : Thread nD τ).loc main_arg2)))
abbrev Q : Row := vec (m ((c : Thread nD τ).loc main_arg2))
abbrev Y : Mat := mat (m ((c : Thread nD τ).loc main_arg3))
abbrev G : Row := vec (m ((c : Thread nD τ).loc main_arg4))

theorem idx : ∀ t : Fin cfg0.N,
    win0_0.index t = ![t.val, 0] ∧ win0_1.index t = ![t.val, 0] ∧ win0_2.index t = ![0, 0] ∧ win0_3.index t = ![0, 0]
    ∧ win0_4.index t = ![t.val, 0] ∧ win0_5.index t = ![t.val, 0] ∧ win0_6.index t = ![0, 0] :=
  (by decide +kernel : ∀ t : Fin grid0.N, _)

theorem lt16 (t : Fin cfg0.N) : t.val < 16 := lt_of_lt_of_eq t.isLt N_0

/-- The host computes the norm's input and lays the gain and the gate out as rows. -/
theorem V_x : V m c main_v4 = (addf (m ((c : Thread nD τ).loc main_arg0))
    (mulf (broadcastInDim S4096x2048 ![0, 1] bcast_S1x2048_S4096x2048_0_1
        (broadcastInDim S1x2048 ![1] bcast_S2048_S1x2048_1 (m ((c : Thread nD τ).loc main_arg2))))
      (extf .f32 (m ((c : Thread nD τ).loc main_arg1)) bitsLt_bf16_f32)) : FVec Ideal S4096x2048 .f32) := by
  show StableHlo.after hostOps0 (fun b => m (c, b)) (Proc.devRef .tc main_v4) = _
  simp only [hostOps0, StableHlo.TRef.unary, StableHlo.TRef.binary, StableHlo.TRef.toBuf, StableHlo.TRef.ofBuf, cast_eq]
  after_results_simp <;> rfl
theorem V_g : V m c main_v5 = (shapeCast S1x2048 (m ((c : Thread nD τ).loc main_arg4)) shapeCasts_S2048_S1x2048 : FVec Ideal S1x2048 .f32) := by
  show StableHlo.after hostOps0 (fun b => m (c, b)) (Proc.devRef .tc main_v5) = _
  simp only [hostOps0, StableHlo.TRef.unary, StableHlo.TRef.binary, StableHlo.TRef.toBuf, StableHlo.TRef.ofBuf, cast_eq]
  after_results_simp <;> rfl
theorem V_q : V m c main_v6 = (shapeCast S1x2048 (m ((c : Thread nD τ).loc main_arg2)) shapeCasts_S2048_S1x2048 : FVec Ideal S1x2048 .f32) := by
  show StableHlo.after hostOps0 (fun b => m (c, b)) (Proc.devRef .tc main_v6) = _
  simp only [hostOps0, StableHlo.TRef.unary, StableHlo.TRef.binary, StableHlo.TRef.toBuf, StableHlo.TRef.ofBuf, cast_eq]
  after_results_simp <;> rfl

theorem blk_x (t : Fin cfg0.N) (p : Fin 256) (j : Fin 2048) : iblk m c 0 t (ix2 p j) = X m c (tok t.val (lt16 t) p) j := by
  have h : iblk m c 0 t (ix2 p j) = V m c main_v4 (ix2 (tok t.val (lt16 t) p) j : S4096x2048.Idx) := by blk_ext [iblk, idx t]
  rw [h, V_x]
  pointwise []
  rfl
theorem blk_y (t : Fin cfg0.N) (p : Fin 256) (j : Fin 2048) : iblk m c 1 t (ix2 p j) = Y m c (tok t.val (lt16 t) p) j := by
  have h : V m c main_arg3 = m ((c : Thread nD τ).loc main_arg3) := V_main_arg3 m c
  rw [Y, ← h]
  blk_ext [iblk, idx t]
theorem blk_g (t : Fin cfg0.N) (j : Fin 2048) : iblk m c 2 t (ix2 0 j) = G m c j := by
  have h : iblk m c 2 t (ix2 0 j) = V m c main_v5 (ix2 0 j : S1x2048.Idx) := by blk_ext [iblk, idx t]
  rw [h, V_g]
  pointwise []
theorem blk_q (t : Fin cfg0.N) (j : Fin 2048) : iblk m c 3 t (ix2 0 j) = Q m c j := by
  have h : iblk m c 3 t (ix2 0 j) = V m c main_v6 (ix2 0 j : S1x2048.Idx) := by blk_ext [iblk, idx t]
  rw [h, V_q]
  pointwise []
theorem emb4 (t : Fin cfg0.N) (p : Fin 256) (j : Fin 2048) :
    (((cfg0.win 4).blk t).view.emb (ix2 p j : S256x2048.Idx) : S4096x2048.Idx) = ix2 (tok t.val (lt16 t) p) j := by
  blk_ext [idx t]
theorem emb5 (t : Fin cfg0.N) (p : Fin 256) (j : Fin 2048) :
    (((cfg0.win 5).blk t).view.emb (ix2 p j : S256x2048.Idx) : S4096x2048.Idx) = ix2 (tok t.val (lt16 t) p) j := by
  blk_ext [idx t]
theorem emb6 (t : Fin cfg0.N) (k : Fin 8) (j : Fin 2048) :
    (((cfg0.win 6).blk t).view.emb (ix2 k j : S8x2048.Idx) : S8x2048.Idx) = ix2 k j := by
  blk_ext [idx t]

section Pay

variable (x y : Vec Ideal S256x2048 .f32) (g q a : Vec Ideal S1x2048 .f32) (r : Fin 256) (j : Fin 2048)

/-- Row `r` of a block, and a row vector as a function. -/
abbrev row (x : Vec Ideal S256x2048 .f32) (r : Fin 256) : Row := fun k => x (ix2 r k)
abbrev flat (g : Vec Ideal S1x2048 .f32) : Row := fun k => g (ix2 0 k)

theorem cast_x : k0_pay6 (F := Ideal) x = x := by
  funext i
  unfold k0_pay6
  pointwise []
theorem inv_eq : k0_pay7 (F := Ideal) x = Norm0Ideal.Gen.k0_pay3 x := by
  have h : k0_pay7 (F := Ideal) x = Norm0Ideal.Gen.k0_pay3 (k0_pay6 x) := rfl
  rw [h, cast_x]
theorem normed_eq : k0_pay8 (F := Ideal) x = Norm0Ideal.Gen.k0_pay4 x := by
  unfold k0_pay8 Norm0Ideal.Gen.k0_pay4
  rw [inv_eq, cast_x]
theorem inv_apply : k0_pay7 (F := Ideal) x (ix2 r 0) = inv (row x r) := by
  rw [inv_eq]
  exact Norm0Ideal.RefValue.inv_apply x r
theorem normed_apply : k0_pay8 (F := Ideal) x (ix2 r j) = row x r j * inv (row x r) := by
  rw [normed_eq]
  exact Norm0Ideal.RefValue.normed_apply x r j
theorem err_apply : k0_pay9 (F := Ideal) x g y (ix2 r j) = LossSpec.err (row x r) (row y r) (flat g) j := by
  have h := normed_apply x
  unfold k0_pay9
  generalize k0_pay8 (F := Ideal) x = b at *
  pointwise []
  rw [h]
  rfl
theorem cot_apply : k0_pay11 (F := Ideal) x g y (ix2 r j) = LossSpec.cot (row x r) (row y r) (flat g) j := by
  have h := err_apply x y g
  unfold k0_pay11
  generalize k0_pay9 (F := Ideal) x g y = b at *
  pointwise []
  rw [h]
  rfl
theorem dnormed_apply : k0_pay12 (F := Ideal) x g y g (ix2 r j) = LossSpec.cot (row x r) (row y r) (flat g) j * flat g j := by
  have h := cot_apply x y g
  unfold k0_pay12
  generalize k0_pay11 (F := Ideal) x g y = b at *
  pointwise []
  rw [h]
theorem dots_apply : k0_pay13 (F := Ideal) x g y g (ix2 r 0)
    = ∑ k, LossSpec.cot (row x r) (row y r) (flat g) k * flat g k * (row x r k * inv (row x r)) := by
  have h := normed_apply x
  have h' := dnormed_apply x y g
  unfold k0_pay13
  generalize k0_pay8 (F := Ideal) x = b at *
  generalize k0_pay12 (F := Ideal) x g y g = b' at *
  pointwise []
  simp only [h, h']
theorem dx_apply : k0_pay1 (F := Ideal) (k0_pay7 x) (k0_pay8 x) (k0_pay12 x g y g) (k0_pay13 x g y g) (ix2 r j)
    = LossSpec.dx (row x r) (row y r) (flat g) j := by
  have h := inv_apply x
  have h' := normed_apply x
  have h'' := dnormed_apply x y g
  have h3 := dots_apply x y g
  unfold k0_pay1
  generalize k0_pay7 (F := Ideal) x = b at *
  generalize k0_pay8 (F := Ideal) x = b' at *
  generalize k0_pay12 (F := Ideal) x g y g = b'' at *
  generalize k0_pay13 (F := Ideal) x g y g = b3 at *
  pointwise []
  simp only [h, h', h'', h3]
  rfl
theorem dy_apply : k0_pay2 (F := Ideal) (k0_pay7 x) (k0_pay8 x) (k0_pay12 x g y g) (k0_pay13 x g y g) q (ix2 r j)
    = flat q j * LossSpec.dx (row x r) (row y r) (flat g) j := by
  have h := dx_apply x y g r j
  unfold k0_pay2
  generalize k0_pay1 (F := Ideal) (k0_pay7 x) (k0_pay8 x) (k0_pay12 x g y g) (k0_pay13 x g y g) = b at *
  pointwise []
  rw [h]

theorem row0_apply : k0_pay3 (F := Ideal) (k0_pay8 x) (k0_pay11 x g y) a (ix2 0 j)
    = a (ix2 0 j) + ∑ r, LossSpec.cot (row x r) (row y r) (flat g) j * (row x r j * inv (row x r)) := by
  have h := normed_apply x
  have h' := cot_apply x y g
  unfold k0_pay3
  generalize k0_pay8 (F := Ideal) x = b at *
  generalize k0_pay11 (F := Ideal) x g y = b' at *
  pointwise []
  simp only [h, h']
theorem loss_apply : k0_pay10 (F := Ideal) x g y (ix2 0 0) = ∑ r, LossSpec.share (row x r) (row y r) (flat g) := by
  have h := err_apply x y g
  unfold k0_pay10
  generalize k0_pay9 (F := Ideal) x g y = b at *
  pointwise []
  simp only [h]
  exact LossSpec.half_sum _
theorem row1_apply : k0_pay4 (F := Ideal) (k0_pay10 x g y) a (ix2 0 j)
    = a (ix2 0 j) + ∑ r, LossSpec.share (row x r) (row y r) (flat g) := by
  have h := loss_apply x y g
  unfold k0_pay4
  generalize k0_pay10 (F := Ideal) x g y = b at *
  pointwise []
  rw [h]

end Pay

theorem row_x (t : Fin cfg0.N) (p : Fin 256) : row (iblk m c 0 t) p = X m c (tok t.val (lt16 t) p) := funext (blk_x m c t p)
theorem row_y (t : Fin cfg0.N) (p : Fin 256) : row (iblk m c 1 t) p = Y m c (tok t.val (lt16 t) p) := funext (blk_y m c t p)
theorem flat_g (t : Fin cfg0.N) : flat (iblk m c 2 t) = G m c := funext (blk_g m c t)

theorem zeros_apply (i : S8x2048.Idx) : k0_pay5 (F := Ideal) i = 0 := by
  unfold k0_pay5
  pointwise []

/-- What the body leaves of the input's gradient. -/
theorem left4 (t : Fin cfg0.N) (p : Fin 256) (j : Fin 2048) : (outsAt0 m c t.val t.isLt).1 (ix2 p j)
    = LossSpec.dx (X m c (tok t.val (lt16 t) p)) (Y m c (tok t.val (lt16 t) p)) (G m c) j := by
  by_cases h : t.val % 16 = 0
  · rw [outsAt0_A m c t h]
    dsimp only
    frame_out
    rw [dx_apply, row_x, row_y, flat_g]
  · rw [outsAt0_B m c t h]
    dsimp only
    frame_out
    rw [dx_apply, row_x, row_y, flat_g]

/-- What the body leaves of the branch's gradient. -/
theorem left5 (t : Fin cfg0.N) (p : Fin 256) (j : Fin 2048) : (outsAt0 m c t.val t.isLt).2.1 (ix2 p j)
    = Q m c j * LossSpec.dx (X m c (tok t.val (lt16 t) p)) (Y m c (tok t.val (lt16 t) p)) (G m c) j := by
  by_cases h : t.val % 16 = 0
  · rw [outsAt0_A m c t h]
    dsimp only
    frame_out
    rw [dy_apply]
    rw [row_x, row_y, flat_g, flat, blk_q]
  · rw [outsAt0_B m c t h]
    dsimp only
    frame_out
    rw [dy_apply]
    rw [row_x, row_y, flat_g, flat, blk_q]

/-- The column sums at the first point: the block's own, on top of the zeros the body starts with. -/
theorem first (t : Fin cfg0.N) (h : t.val % 16 = 0) (k : Fin 8) (j : Fin 2048) : (outsAt0 m c t.val t.isLt).2.2 (ix2 k j)
    = ∑ p : Fin 256, LossSpec.term (X m c) (Y m c) (G m c) k j (tok t.val (lt16 t) p) := by
  rw [outsAt0_A m c t h]
  dsimp only
  frame_out
  rw [Rows.canon_row, Rows.canon_row, Rows.canon_whole, row0_apply, row1_apply]
  rw [Rows.cov_row _ 0 _ _ 0 rfl, Rows.cov_row _ 1 _ _ 1 rfl]
  simp (decide := true) only [Rows.canon_row, Rows.canon_whole, zeros_apply, if_false, zero_add, row_x, row_y, flat_g, blk_x]
  unfold LossSpec.term
  split_ifs <;> first | exact Finset.sum_const_zero.symm | rfl

/-- At a later point: what was there and the block's own. -/
theorem next (t : Fin cfg0.N) (h : ¬ t.val % 16 = 0) (k : Fin 8) (j : Fin 2048) : (outsAt0 m c t.val t.isLt).2.2 (ix2 k j)
    = (outsAt0 m c (t.val - 1) (Nat.lt_of_le_of_lt (Nat.sub_le _ _) t.isLt)).2.2 (ix2 k j)
      + ∑ p : Fin 256, LossSpec.term (X m c) (Y m c) (G m c) k j (tok t.val (lt16 t) p) := by
  rw [outsAt0_B m c t h]
  dsimp only
  frame_out
  rw [Rows.read_row, Rows.read_row, row0_apply, row1_apply]
  rw [Rows.ld_row 0 _ _ 0 rfl, Rows.ld_row 1 _ _ 1 rfl]
  rw [View.writes_nil, Memref.IsWhole.read_unread]
  simp only [row_x, row_y, flat_g, blk_x]
  unfold LossSpec.term
  split_ifs with h1 h0
  · rw [show k = 1 from Fin.ext h1]
  · rw [show k = 0 from Fin.ext h0]
  · rw [Finset.sum_const_zero, add_zero]

/-- The input's gradient. -/
theorem final4 : (dats m 0 c).arrAt 4 cfg0.N = fun i : S4096x2048.Idx =>
    LossSpec.dx (X m c (i 0)) (Y m c (i 0)) (G m c) (i 1) := by
  refine (dats m 0 c).arrAt_eq_of_covers 4 _ (by decide +kernel) fun t hf y => ?_
  revert y
  intro (y : S256x2048.Idx)
  obtain ⟨p, j, rfl⟩ : ∃ (p : Fin 256) (j : Fin 2048), y = ix2 p j := ⟨y 0, y 1, eq_ix2 y⟩
  rw [emb4, after0_4]
  exact left4 m c t p j

/-- The branch's gradient. -/
theorem final5 : (dats m 0 c).arrAt 5 cfg0.N = fun i : S4096x2048.Idx =>
    Q m c (i 1) * LossSpec.dx (X m c (i 0)) (Y m c (i 0)) (G m c) (i 1) := by
  refine (dats m 0 c).arrAt_eq_of_covers 5 _ (by decide +kernel) fun t hf y => ?_
  revert y
  intro (y : S256x2048.Idx)
  obtain ⟨p, j, rfl⟩ : ∃ (p : Fin 256) (j : Fin 2048), y = ix2 p j := ⟨y 0, y 1, eq_ix2 y⟩
  rw [emb5, after0_5]
  exact left5 m c t p j

/-- The column sums after the last point. -/
theorem last (t : Fin cfg0.N) (ht : t.val = 15) (k : Fin 8) (j : Fin 2048) : (outsAt0 m c t.val t.isLt).2.2 (ix2 k j)
    = LossSpec.sums (X m c) (Y m c) (G m c) k j :=
  NormSpec.acc (fun n h => (outsAt0 m c n (lt_of_lt_of_eq h N_0.symm)).2.2 (ix2 k j)) _
    (first m c ⟨0, lt_of_lt_of_eq (by decide) N_0.symm⟩ rfl k j)
    (fun n h => next m c ⟨n + 1, lt_of_lt_of_eq h N_0.symm⟩ (by show ¬ (n + 1) % 16 = 0; omega) k j) t.val (lt16 t) ht

/-- The column sums. -/
theorem final6 : (dats m 0 c).arrAt 6 cfg0.N = fun i : S8x2048.Idx =>
    LossSpec.sums (X m c) (Y m c) (G m c) (i 0) (i 1) := by
  refine (dats m 0 c).arrAt_eq_of_covers 6 _ (by decide +kernel) fun t hf y => ?_
  revert y
  intro (y : S8x2048.Idx)
  obtain ⟨k, j, rfl⟩ : ∃ (k : Fin 8) (j : Fin 2048), y = ix2 k j := ⟨y 0, y 1, eq_ix2 y⟩
  have ht : t.val = 15 := by have := (flush0_6 t).mp hf; have := lt16 t; omega
  rw [emb6, after0_6]
  have h := last m c t ht k j
  generalize (outsAt0 m c t.val t.isLt).2.2 = a at h ⊢
  show a (ix2 k j) = LossSpec.sums (X m c) (Y m c) (G m c) k j
  exact h

end Cert.LossIdeal.RefValue

end
-- ==== Proof.LossRef.lean ====
/- The loss's gradient through the last norm, the reference's side. Its norm is the first norm's reference on the input
   with the branch added, so what that module says is used here. -/
module

public import proofs.«01_k».proof.Proof.Gen.LossRefIdeal.Read
public import proofs.«01_k».proof.Proof.Norm0Ref
public import proofs.«01_k».proof.Proof.LossSpec

@[expose] public section

set_option maxRecDepth 131072

noncomputable section

namespace Cert.LossRefIdeal.RefValue

open Cert.LossRefIdeal Cert.LossRefIdeal.Read
open Idealize.ShloMosaic
open Cert.NormSpec (Row Mat mat vec input)
open Cert.Norms (inv meansq)

variable (x0 : (⟨S4096x2048, .f32⟩ : BufTy).Contents (Elt Ideal)) (x1 : (⟨S4096x2048, .bf16⟩ : BufTy).Contents (Elt Ideal))
  (x2 : (⟨S2048, .f32⟩ : BufTy).Contents (Elt Ideal)) (x3 : (⟨S4096x2048, .f32⟩ : BufTy).Contents (Elt Ideal))
  (x4 : (⟨S2048, .f32⟩ : BufTy).Contents (Elt Ideal)) (i : Fin 4096) (j : Fin 2048)

theorem input_at : val_main_v4 (F := Ideal) x0 x1 x2 (ix2 i j) = input (mat x0) (mat x1) (vec x2) i j := by
  unfold val_main_v4 val_main_v3
  pointwise [val_main_v0, val_main_v1, val_main_v2]
  rfl
theorem input_eq : mat (val_main_v4 (F := Ideal) x0 x1 x2) = input (mat x0) (mat x1) (vec x2) :=
  funext fun i => funext fun j => input_at x0 x1 x2 i j

/-- The stages that the two references share. -/
theorem inv_at : val_main_v12 (F := Ideal) x0 x1 x2 (ix2 i 0) = inv (input (mat x0) (mat x1) (vec x2) i) := by
  have h : val_main_v12 (F := Ideal) x0 x1 x2 = Cert.Norm0RefIdeal.Read.val_main_v8 (val_main_v4 x0 x1 x2) := rfl
  rw [h, Cert.Norm0RefIdeal.RefValue.inv_at, input_eq]
theorem half_at : val_main_v15 (F := Ideal) x0 x1 x2 (ix2 i 0) = Norms.minusHalf
    * Ideal.div (inv (input (mat x0) (mat x1) (vec x2) i)) (meansq (input (mat x0) (mat x1) (vec x2) i)) := by
  have h : val_main_v15 (F := Ideal) x0 x1 x2 = Cert.Norm0RefIdeal.Read.val_main_v11 (val_main_v4 x0 x1 x2) := rfl
  rw [h, Cert.Norm0RefIdeal.RefValue.half_at, input_eq]
theorem normed_at : val_main_v17 (F := Ideal) x0 x1 x2 (ix2 i j)
    = input (mat x0) (mat x1) (vec x2) i j * inv (input (mat x0) (mat x1) (vec x2) i) := by
  have h : val_main_v17 (F := Ideal) x0 x1 x2 = Cert.Norm0RefIdeal.Read.val_main_v13 (val_main_v4 x0 x1 x2) := rfl
  rw [h, Cert.Norm0RefIdeal.RefValue.normed_at, input_eq]

theorem err_at : val_main_v21 (F := Ideal) x0 x1 x2 x3 x4 (ix2 i j)
    = LossSpec.err (input (mat x0) (mat x1) (vec x2) i) (mat x3 i) (vec x4) j := by
  have h := normed_at x0 x1 x2
  unfold val_main_v21 val_main_v20
  generalize val_main_v17 (F := Ideal) x0 x1 x2 = q at *
  pointwise [val_main_v18, val_main_v19]
  rw [h]
  rfl
theorem cot_at : val_main_v35 (F := Ideal) x0 x1 x2 x3 x4 (ix2 i j)
    = LossSpec.cot (input (mat x0) (mat x1) (vec x2) i) (mat x3 i) (vec x4) j := by
  have h := err_at x0 x1 x2 x3 x4
  unfold val_main_v35 val_main_v24
  generalize val_main_v21 (F := Ideal) x0 x1 x2 x3 x4 = q at *
  pointwise [val_main_v23, val_main_v34, val_main_v33, val_main_v32, val_main_v31, val_main_v30, val_main_cst_3, val_main_cst_8,
    val_main_cst_9, val_main_cst_10]
  rw [h]
  exact LossSpec.factor _
theorem dnormed_at : val_main_v40 (F := Ideal) x0 x1 x2 x3 x4 (ix2 i j)
    = LossSpec.cot (input (mat x0) (mat x1) (vec x2) i) (mat x3 i) (vec x4) j * vec x4 j := by
  have h := cot_at x0 x1 x2 x3 x4
  unfold val_main_v40
  generalize val_main_v35 (F := Ideal) x0 x1 x2 x3 x4 = q at *
  pointwise [val_main_v39, val_main_v18]
  rw [h]
theorem pull_at : val_main_v50 (F := Ideal) x0 x1 x2 x3 x4 (ix1 i)
    = Norms.pull (input (mat x0) (mat x1) (vec x2) i)
        fun k => LossSpec.cot (input (mat x0) (mat x1) (vec x2) i) (mat x3 i) (vec x4) k * vec x4 k := by
  have h := half_at x0 x1 x2
  have h' := dnormed_at x0 x1 x2 x3 x4
  have h'' := input_at x0 x1 x2
  unfold val_main_v50 val_main_v49 val_main_v47 val_main_v44 val_main_v43 val_main_v42
  generalize val_main_v15 (F := Ideal) x0 x1 x2 = q at *
  generalize val_main_v40 (F := Ideal) x0 x1 x2 x3 x4 = q' at *
  generalize val_main_v4 (F := Ideal) x0 x1 x2 = q'' at *
  pointwise [val_main_v48, val_main_cst_13, val_main_cst_14, val_main_cst_15]
  refine (Fintype.sum_unique _).trans ?_
  rw [show (default : Fin 1) = 0 from rfl, h]
  simp only [h', h'']
  rfl

theorem dx_at : val_main_v55 (F := Ideal) x0 x1 x2 x3 x4 (ix2 i j)
    = LossSpec.dx (input (mat x0) (mat x1) (vec x2) i) (mat x3 i) (vec x4) j := by
  have h := pull_at x0 x1 x2 x3 x4
  have h' := dnormed_at x0 x1 x2 x3 x4
  have h'' := inv_at x0 x1 x2
  have h3 := input_at x0 x1 x2
  unfold val_main_v55 val_main_v54 val_main_v53 val_main_v52 val_main_v51 val_main_v46 val_main_v45
  generalize val_main_v50 (F := Ideal) x0 x1 x2 x3 x4 = q at *
  generalize val_main_v40 (F := Ideal) x0 x1 x2 x3 x4 = q' at *
  generalize val_main_v12 (F := Ideal) x0 x1 x2 = q'' at *
  generalize val_main_v4 (F := Ideal) x0 x1 x2 = q3 at *
  pointwise []
  rw [h, h', h'', h3]
  unfold LossSpec.dx
  rw [← Norms.back_eq, add_assoc]
theorem dy_at : val_main_v62 (F := Ideal) x0 x1 x2 x3 x4 (ix2 i j)
    = vec x2 j * LossSpec.dx (input (mat x0) (mat x1) (vec x2) i) (mat x3 i) (vec x4) j := by
  have h := dx_at x0 x1 x2 x3 x4 i j
  unfold val_main_v62 val_main_v57
  generalize val_main_v55 (F := Ideal) x0 x1 x2 x3 x4 = q at *
  pointwise [val_main_v56, val_main_v1]
  rw [h]

theorem dgain_at : val_main_v41 (F := Ideal) x0 x1 x2 x3 x4 (ix1 j)
    = ∑ i, LossSpec.cot (input (mat x0) (mat x1) (vec x2) i) (mat x3 i) (vec x4) j
        * (input (mat x0) (mat x1) (vec x2) i j * inv (input (mat x0) (mat x1) (vec x2) i)) := by
  have h := normed_at x0 x1 x2
  have h' := cot_at x0 x1 x2 x3 x4
  unfold val_main_v41 val_main_v38 val_main_v37 val_main_v36
  generalize val_main_v17 (F := Ideal) x0 x1 x2 = q at *
  generalize val_main_v35 (F := Ideal) x0 x1 x2 x3 x4 = q' at *
  pointwise [val_main_cst_11, val_main_cst_12]
  refine (Fintype.sum_unique _).trans (Finset.sum_congr rfl fun i _ => ?_)
  rw [h, h', mul_comm]
theorem loss_at (y : S_.Idx) : val_main_v29 (F := Ideal) x0 x1 x2 x3 x4 y
    = ∑ i, LossSpec.share (input (mat x0) (mat x1) (vec x2) i) (mat x3 i) (vec x4) := by
  have h := err_at x0 x1 x2 x3 x4
  unfold val_main_v29 val_main_v28 val_main_v27 val_main_v25 val_main_v22
  generalize val_main_v21 (F := Ideal) x0 x1 x2 x3 x4 = q at *
  pointwise [val_main_v26, val_main_cst_4, val_main_cst_5, val_main_cst_6, val_main_cst_7]
  simp only [h]
  exact LossSpec.half_sum _

theorem sums_at (k : Fin 8) : val_main_v61 (F := Ideal) x0 x1 x2 x3 x4 (ix2 k j)
    = LossSpec.sums (input (mat x0) (mat x1) (vec x2)) (mat x3) (vec x4) k j := by
  have h0 : val_main_v58 (F := Ideal) x0 x1 x2 x3 x4 (ix2 0 j) = val_main_v41 (F := Ideal) x0 x1 x2 x3 x4 (ix1 j) := by
    pointwise [val_main_v58]
  have h1 : val_main_v59 (F := Ideal) x0 x1 x2 x3 x4 (ix2 0 j)
      = ∑ i, LossSpec.share (input (mat x0) (mat x1) (vec x2) i) (mat x3 i) (vec x4) := loss_at x0 x1 x2 x3 x4 _
  rw [dgain_at] at h0
  unfold val_main_v61
  generalize val_main_v58 (F := Ideal) x0 x1 x2 x3 x4 = q0 at *
  generalize val_main_v59 (F := Ideal) x0 x1 x2 x3 x4 = q1 at *
  pointwise [val_main_v60, val_main_cst_16]
  exact LossSpec.stack _ _ _ k j q0 q1 h0 h1

end Cert.LossRefIdeal.RefValue

end
-- ==== Proof.LossClaim.lean ====
/- The claim about the loss's gradient through the last norm: kernel and reference end with the same three
   arrays. -/
module

public import proofs.«01_k».proof.Defs
public import proofs.«01_k».proof.Proof.Gen.Loss.Frame
public import proofs.«01_k».proof.Proof.Gen.Loss
public import proofs.«01_k».proof.Proof.Gen.LossIdeal
public import proofs.«01_k».proof.Proof.Gen.LossRefIdeal
public import proofs.«01_k».proof.Proof.Gen.LossRefIdeal.Run
public import proofs.«01_k».proof.Proof.LossKernel
public import proofs.«01_k».proof.Proof.LossRef
public import proofs.«01_k».proof.Proof.Norm0Claim

@[expose] public section

noncomputable section

namespace Cert.LossClaim

open Idealize.ShloMosaic Idealize.SL.Sem
open Cert.NormSpec (mat vec input)
open Cert.Norm0Claim (Arr Arr16 Vect Sums)

/-- The three results as arrays; `q` is the branch's gate, `z` the target. -/
def out0 (x : Arr) (y : Arr16) (q : Vect) (z : Arr) (g : Vect) : Arr :=
  fun i => LossSpec.dx (input (mat x) (mat y) (vec q) (i 0)) (mat z (i 0)) (vec g) (i 1)
def out1 (x : Arr) (y : Arr16) (q : Vect) (z : Arr) (g : Vect) : Arr16 :=
  fun i => vec q (i 1) * LossSpec.dx (input (mat x) (mat y) (vec q) (i 0)) (mat z (i 0)) (vec g) (i 1)
def out2 (x : Arr) (y : Arr16) (q : Vect) (z : Arr) (g : Vect) : Sums :=
  fun i => LossSpec.sums (input (mat x) (mat y) (vec q)) (mat z) (vec g) (i 0) (i 1)

theorem ref0 (x : Arr) (y : Arr16) (q : Vect) (z : Arr) (g : Vect) : Cert.LossRefIdeal.Read.val_main_v55 (F := Ideal) x y q z g = out0 x y q z g := by
  funext i
  obtain ⟨r, d, rfl⟩ : ∃ r d, i = ix2 r d := ⟨i 0, i 1, eq_ix2 i⟩
  exact Cert.LossRefIdeal.RefValue.dx_at x y q z g r d
theorem ref1 (x : Arr) (y : Arr16) (q : Vect) (z : Arr) (g : Vect) : Cert.LossRefIdeal.Read.val_main_v62 (F := Ideal) x y q z g = out1 x y q z g := by
  funext i
  obtain ⟨r, d, rfl⟩ : ∃ r d, i = ix2 r d := ⟨i 0, i 1, eq_ix2 i⟩
  exact Cert.LossRefIdeal.RefValue.dy_at x y q z g r d
theorem ref2 (x : Arr) (y : Arr16) (q : Vect) (z : Arr) (g : Vect) : Cert.LossRefIdeal.Read.val_main_v61 (F := Ideal) x y q z g = out2 x y q z g := by
  funext i
  obtain ⟨r, d, rfl⟩ : ∃ r d, i = ix2 r d := ⟨i 0, i 1, eq_ix2 i⟩
  exact Cert.LossRefIdeal.RefValue.sums_at x y q z g d r

theorem frame_r : Cert.quiescent_LossRefIdeal := fun m ρ _ =>
  (θ_run Cert.LossRefIdeal.defs _ _).mono (fun r h => ⟨fun c => (h c).2.2.2, sem_eq_zero_of_no_sems (by decide) r.2⟩)
    (Cert.LossRefIdeal.Value.run (F := Ideal) m ρ)

theorem algebraic : Cert.algebraic_LossIdeal_LossRefIdeal := by
  intro m g m' g' _ h
  refine ⟨fun c => out0 (m ((c.tc : Thread _ _).loc Cert.LossIdeal.main_arg0)) (m ((c.tc : Thread _ _).loc Cert.LossIdeal.main_arg1)) (m ((c.tc : Thread _ _).loc Cert.LossIdeal.main_arg2))
      (m ((c.tc : Thread _ _).loc Cert.LossIdeal.main_arg3)) (m ((c.tc : Thread _ _).loc Cert.LossIdeal.main_arg4)),
    fun c => out1 (m ((c.tc : Thread _ _).loc Cert.LossIdeal.main_arg0)) (m ((c.tc : Thread _ _).loc Cert.LossIdeal.main_arg1)) (m ((c.tc : Thread _ _).loc Cert.LossIdeal.main_arg2))
      (m ((c.tc : Thread _ _).loc Cert.LossIdeal.main_arg3)) (m ((c.tc : Thread _ _).loc Cert.LossIdeal.main_arg4)),
    fun c => out2 (m ((c.tc : Thread _ _).loc Cert.LossIdeal.main_arg0)) (m ((c.tc : Thread _ _).loc Cert.LossIdeal.main_arg1)) (m ((c.tc : Thread _ _).loc Cert.LossIdeal.main_arg2))
      (m ((c.tc : Thread _ _).loc Cert.LossIdeal.main_arg3)) (m ((c.tc : Thread _ _).loc Cert.LossIdeal.main_arg4)),
    (θ_run _ _ _).mono (fun r hr c => ?_) (Cert.LossIdeal.Value.run_blocks m g),
    (θ_run _ _ _).mono (fun r hr c => ?_) (Cert.LossRefIdeal.Value.run m' g')⟩
  · obtain ⟨h0, h1, h2, hk⟩ := hr c
    exact ⟨h0.trans (Cert.LossIdeal.RefValue.final4 m c), h1.trans (Cert.LossIdeal.RefValue.final5 m c),
      h2.trans (Cert.LossIdeal.RefValue.final6 m c), hk⟩
  · obtain ⟨h0, h1, h2, hk⟩ := hr c
    obtain ⟨a0, a1, a2, a3, a4⟩ := h c
    refine ⟨h0.trans ?_, h1.trans ?_, h2.trans ?_, hk⟩
    · rw [Cert.LossRefIdeal.Read.val_main_v55_eq, a0, a1, a2, a3, a4, ref0]
    · rw [Cert.LossRefIdeal.Read.val_main_v62_eq, a0, a1, a2, a3, a4, ref1]
    · rw [Cert.LossRefIdeal.Read.val_main_v61_eq, a0, a1, a2, a3, a4, ref2]

end Cert.LossClaim

end
-- ==== Proof.ConvFwdKernel.lean ====
/- The gated short convolution, the kernel's side: its result array is `ConvSpec.out` of the two argument arrays. Grid
   point `t` works on columns `128 t … 128 t + 127`. -/
module

public import proofs.«01_k».proof.Proof.ConvSpec
public import proofs.«01_k».proof.Proof.Gen.ConvFwdIdeal.Value
public import Idealize.ShloMosaic.Lib.Pipeline.ValueKit
public import Idealize.ShloMosaic.Lib.Pointwise
public import Idealize.ShloMosaic.Lib.WordCmp

@[expose] public section

set_option maxRecDepth 131072

noncomputable section

namespace Cert.ConvFwdIdeal.RefValue

open Cert.ConvFwdIdeal Cert.ConvFwdIdeal.Gen Cert.ConvSpec Idealize.ShloMosaic Idealize.ShloMosaic.TcCoe

variable (m : (ℓ : Loc nD τ sig) → Buf (Elt Ideal) ℓ) (c : Dev nD)

/-- The projection and the taps as launched. -/
abbrev X : Proj := m ((c : Thread nD τ).loc main_arg0)
abbrev W : Taps := m ((c : Thread nD τ).loc main_arg1)

/-- Column `l` of grid point `t`'s block. -/
abbrev colOf (t : Fin cfg0.N) (l : Fin 128) : Fin 2048 :=
  ⟨t.val * 128 + l.val, by have := t.isLt; have h : cfg0.N = 16 := N_0; omega⟩

theorem idx : ∀ t : Fin cfg0.N,
    win0_0.index t = ![0, t.val] ∧ win0_1.index t = ![0, 16 + t.val] ∧ win0_2.index t = ![0, 32 + t.val]
    ∧ win0_3.index t = ![0, t.val] ∧ win0_4.index t = ![0, t.val] :=
  (by decide +kernel : ∀ t : Fin grid0.N, _)

theorem blk_b (t : Fin cfg0.N) (s : Fin 4096) (l : Fin 128) : iblk m c 0 t (ix2 s l) = part (X m c) 0 s (colOf t l) := by
  unfold part
  blk_ext [iblk, V, idx t]
theorem blk_c (t : Fin cfg0.N) (s : Fin 4096) (l : Fin 128) : iblk m c 1 t (ix2 s l) = part (X m c) 1 s (colOf t l) := by
  unfold part
  blk_ext [iblk, V, idx t]
theorem blk_u (t : Fin cfg0.N) (s : Fin 4096) (l : Fin 128) : iblk m c 2 t (ix2 s l) = part (X m c) 2 s (colOf t l) := by
  unfold part
  blk_ext [iblk, V, idx t]
theorem blk_w (t : Fin cfg0.N) (k : Fin 3) (l : Fin 128) : iblk m c 3 t (ix2 k l) = W m c (ix2 k (colOf t l)) := by
  blk_ext [iblk, V, idx t]
theorem emb (t : Fin cfg0.N) (s : Fin 4096) (l : Fin 128) :
    (((cfg0.win 4).blk t).view.emb (ix2 s l : S4096x128.Idx) : S4096x2048.Idx) = ix2 s (colOf t l) := by
  blk_ext [idx t]

/-- A tap times the row `k` earlier, which the rotated block shows, and zero before the first row. -/
theorem select_past (x : Proj) (w : EReal) (k : ℕ) (hk : k < 4096) (s : Fin 4096) (d : Fin 2048) :
    Scalar.select (IntOp.cmpi CmpIPredicate.sge (BitVec.ofNat 32 s.val) (BitVec.ofNat 32 k))
      (w * gated x ⟨(s.val + 4096 - k) % 4096, Nat.mod_lt _ (by decide)⟩ d) 0 = w * past x k s d := by
  unfold past
  by_cases h : k ≤ s.val
  · rw [if_pos h, WordCmp.select_of_eq_one ((WordCmp.cmpi_sge_ofNat_eq_one_iff (by have := s.isLt; omega) (by omega)).mpr h)]
    congr 2
    exact Fin.ext (by show (s.val + 4096 - k) % 4096 = s.val - k; have := s.isLt; omega)
  · rw [if_neg h, mul_zero]
    unfold Scalar.select
    exact if_neg fun e => h ((WordCmp.cmpi_sge_ofNat_eq_one_iff (by have := s.isLt; omega) (by omega)).mp e)

/-- What the body leaves in the result's block. -/
theorem left (t : Fin cfg0.N) (s : Fin 4096) (l : Fin 128) :
    out0_4 (iblk m c 0 t) (iblk m c 1 t) (iblk m c 2 t) (iblk m c 3 t) (ix2 s l) = out (X m c) (W m c) s (colOf t l) := by
  frame_out
  pointwise [k0_pay1]
  simp only [blk_b, blk_c, blk_u, blk_w]
  have h1 := select_past (X m c) (W m c (ix2 1 (colOf t l))) 1 (by decide) s (colOf t l)
  have h2 := select_past (X m c) (W m c (ix2 0 (colOf t l))) 2 (by decide) s (colOf t l)
  unfold gated at h1 h2
  unfold out conv
  rw [← h1, ← h2]
  rfl

/-- The result array of the kernel. -/
theorem final : (dats m 0 c).arrAt 4 cfg0.N = fun i : S4096x2048.Idx => out (X m c) (W m c) (i 0) (i 1) := by
  refine (dats m 0 c).arrAt_eq_of_covers 4 _ (by decide +kernel) fun t hf y => ?_
  revert y
  intro (y : S4096x128.Idx)
  obtain ⟨s, l, rfl⟩ : ∃ (s : Fin 4096) (l : Fin 128), y = ix2 s l := ⟨y 0, y 1, eq_ix2 y⟩
  rw [emb, after0_4]
  have h := left m c t s l
  generalize out0_4 (iblk m c 0 t) (iblk m c 1 t) (iblk m c 2 t) (iblk m c 3 t) = a at h ⊢
  show a (ix2 s l) = out (X m c) (W m c) s (colOf t l)
  exact h

end Cert.ConvFwdIdeal.RefValue

end
-- ==== Proof.ConvFwdClaim.lean ====
/- The claim about the gated short convolution: kernel and reference end with the same array. -/
module

public import proofs.«01_k».proof.Defs
public import proofs.«01_k».proof.Proof.Gen.ConvFwd.Frame
public import proofs.«01_k».proof.Proof.Gen.ConvFwd
public import proofs.«01_k».proof.Proof.Gen.ConvFwdIdeal
public import proofs.«01_k».proof.Proof.Gen.ConvFwdRefIdeal
public import proofs.«01_k».proof.Proof.Gen.ConvFwdRefIdeal.Run
public import proofs.«01_k».proof.Proof.Gen.ConvFwdRefIdeal.Read
public import proofs.«01_k».proof.Proof.ConvFwdKernel
public import proofs.«01_k».proof.Proof.ConvRef

@[expose] public section

set_option maxRecDepth 16384

noncomputable section

namespace Cert.ConvFwdClaim

open Idealize.ShloMosaic Idealize.SL.Sem Cert.ConvSpec Cert.ConvFwdIdeal.RefValue
open Cert.ConvFwdRefIdeal.Read

/-- The result as an array. -/
def out0 (x : Proj) (w : Taps) : Rows := fun i => out x w (i 0) (i 1)

/-- The reference's convolution is the one that the gradient's reference goes back through. -/
theorem gate_same (x : Proj) : val_main_v1 (F := Ideal) x = Cert.ConvRefIdeal.Read.val_main_v1 (F := Ideal) x := rfl
theorem padded_same (x : Proj) : val_main_v6 (F := Ideal) x = Cert.ConvRefIdeal.Read.val_main_v6 (F := Ideal) x := rfl
theorem conv_same (x : Proj) (w : Taps) : val_main_v28 (F := Ideal) x w = Cert.ConvRefIdeal.Read.val_main_v29 (F := Ideal) x w := by
  unfold val_main_v28 val_main_v21 val_main_v14 val_main_v27 val_main_v20 val_main_v12 val_main_v24 val_main_v17 val_main_v9
    Cert.ConvRefIdeal.Read.val_main_v29 Cert.ConvRefIdeal.Read.val_main_v22 Cert.ConvRefIdeal.Read.val_main_v15 Cert.ConvRefIdeal.Read.val_main_v28
    Cert.ConvRefIdeal.Read.val_main_v21 Cert.ConvRefIdeal.Read.val_main_v13 Cert.ConvRefIdeal.Read.val_main_v25 Cert.ConvRefIdeal.Read.val_main_v18
    Cert.ConvRefIdeal.Read.val_main_v10
  rw [padded_same]
  rfl
theorem ref (x : Proj) (w : Taps) : val_main_v30 (F := Ideal) x w = out0 x w := by
  funext i
  obtain ⟨s, d, rfl⟩ : ∃ s d, i = ix2 s d := ⟨i 0, i 1, eq_ix2 i⟩
  show val_main_v29 (F := Ideal) x w (ix2 s d) = out x w s d
  rw [val_main_v29_apply, conv_same, gate_same, Cert.ConvRefIdeal.RefValue.conv_apply, Cert.ConvRefIdeal.RefValue.part0]
  rfl

theorem frame_r : Cert.quiescent_ConvFwdRefIdeal := fun m ρ _ =>
  (θ_run Cert.ConvFwdRefIdeal.defs _ _).mono (fun r h => ⟨fun c => (h c).2, sem_eq_zero_of_no_sems (by decide) r.2⟩)
    (Cert.ConvFwdRefIdeal.Value.run (F := Ideal) m ρ)

theorem algebraic : Cert.algebraic_ConvFwdIdeal_ConvFwdRefIdeal := by
  intro m g m' g' _ h
  refine ⟨fun c => out0 (X m c) (W m c), (θ_run _ _ _).mono (fun r hr c => ?_) (Cert.ConvFwdIdeal.Value.run_blocks m g),
    (θ_run _ _ _).mono (fun r hr c => ?_) (Cert.ConvFwdRefIdeal.Value.run m' g')⟩
  · obtain ⟨h0, hk⟩ := hr c
    exact ⟨h0.trans (final m c), hk⟩
  · obtain ⟨h0, hk⟩ := hr c
    obtain ⟨a0, a1⟩ := h c
    refine ⟨h0.trans ?_, hk⟩
    rw [val_main_v30_eq, a0, a1, ref]

end Cert.ConvFwdClaim

end
-- ==== Proof.NormFwdKernel.lean ====
/- The norm, the kernel's side: its result array. -/
module

public import proofs.«01_k».proof.Proof.Gen.NormFwdIdeal.Value
public import proofs.«01_k».proof.Proof.NormSpec
public import Idealize.ShloMosaic.Lib.Pipeline.ValueKit
public import Idealize.ShloMosaic.Lib.Pointwise

@[expose] public section

set_option maxRecDepth 131072

noncomputable section

namespace Cert.NormFwdIdeal.RefValue

open Cert.NormFwdIdeal Cert.NormFwdIdeal.Gen
open Idealize.ShloMosaic Idealize.ShloMosaic.TcCoe
open Cert.NormSpec (Row Mat mat vec fwd)
open Cert.Norms (inv)

variable (m : (ℓ : Loc nD τ sig) → Buf (Elt Ideal) ℓ) (c : Dev nD)

/-- The arguments as launched: the input, the gain, the shift and the scale. -/
abbrev X : Mat := mat (m ((c : Thread nD τ).loc main_arg0))
abbrev G : Row := vec (m ((c : Thread nD τ).loc main_arg1))
abbrev B : Row := vec (m ((c : Thread nD τ).loc main_arg2))
abbrev S : Row := vec (m ((c : Thread nD τ).loc main_arg3))

/-- The normed and modulated rows. -/
def result (x : Mat) (g b s : Row) : Mat := fun i => fwd (x i) g s b

theorem idx : ∀ t : Fin cfg0.N,
    win0_0.index t = ![t.val, 0] ∧ win0_1.index t = ![0, 0] ∧ win0_2.index t = ![0, 0] ∧ win0_3.index t = ![0, 0]
    ∧ win0_4.index t = ![t.val, 0] :=
  (by decide +kernel : ∀ t : Fin grid0.N, _)

/-- Row `p` of block `t`. -/
abbrev tok (t : Fin cfg0.N) (p : Fin 512) : Fin 4096 := ⟨t.val * 512 + p.val, by have := t.isLt; have h : cfg0.N = 8 := N_0; omega⟩

/-- The host lays the gain, the scale and the shift out as rows. -/
theorem V_g : V m c main_v0 = (shapeCast S1x2048 (m ((c : Thread nD τ).loc main_arg1)) shapeCasts_S2048_S1x2048 : FVec Ideal S1x2048 .f32) := by
  show StableHlo.after hostOps0 (fun b => m (c, b)) (Proc.devRef .tc main_v0) = _
  simp only [hostOps0, StableHlo.TRef.unary, StableHlo.TRef.toBuf, StableHlo.TRef.ofBuf, cast_eq]
  after_results_simp <;> rfl
theorem V_s : V m c main_v1 = (shapeCast S1x2048 (m ((c : Thread nD τ).loc main_arg3)) shapeCasts_S2048_S1x2048 : FVec Ideal S1x2048 .f32) := by
  show StableHlo.after hostOps0 (fun b => m (c, b)) (Proc.devRef .tc main_v1) = _
  simp only [hostOps0, StableHlo.TRef.unary, StableHlo.TRef.toBuf, StableHlo.TRef.ofBuf, cast_eq]
  after_results_simp <;> rfl
theorem V_b : V m c main_v2 = (shapeCast S1x2048 (m ((c : Thread nD τ).loc main_arg2)) shapeCasts_S2048_S1x2048 : FVec Ideal S1x2048 .f32) := by
  show StableHlo.after hostOps0 (fun b => m (c, b)) (Proc.devRef .tc main_v2) = _
  simp only [hostOps0, StableHlo.TRef.unary, StableHlo.TRef.toBuf, StableHlo.TRef.ofBuf, cast_eq]
  after_results_simp <;> rfl

theorem blk_x (t : Fin cfg0.N) (p : Fin 512) (j : Fin 2048) : iblk m c 0 t (ix2 p j) = X m c (tok t p) j := by
  have h : V m c main_arg0 = m ((c : Thread nD τ).loc main_arg0) := V_main_arg0 m c
  rw [X, ← h]
  blk_ext [iblk, idx t]
theorem blk_g (t : Fin cfg0.N) (j : Fin 2048) : iblk m c 1 t (ix2 0 j) = G m c j := by
  have h : iblk m c 1 t (ix2 0 j) = V m c main_v0 (ix2 0 j : S1x2048.Idx) := by blk_ext [iblk, idx t]
  rw [h, V_g]
  pointwise []
theorem blk_s (t : Fin cfg0.N) (j : Fin 2048) : iblk m c 2 t (ix2 0 j) = S m c j := by
  have h : iblk m c 2 t (ix2 0 j) = V m c main_v1 (ix2 0 j : S1x2048.Idx) := by blk_ext [iblk, idx t]
  rw [h, V_s]
  pointwise []
theorem blk_b (t : Fin cfg0.N) (j : Fin 2048) : iblk m c 3 t (ix2 0 j) = B m c j := by
  have h : iblk m c 3 t (ix2 0 j) = V m c main_v2 (ix2 0 j : S1x2048.Idx) := by blk_ext [iblk, idx t]
  rw [h, V_b]
  pointwise []
theorem emb4 (t : Fin cfg0.N) (p : Fin 512) (j : Fin 2048) :
    (((cfg0.win 4).blk t).view.emb (ix2 p j : S512x2048.Idx) : S4096x2048.Idx) = ix2 (tok t p) j := by
  blk_ext [idx t]

theorem pay1 (x : Vec Ideal S512x2048 .f32) (g s b : Vec Ideal S1x2048 .f32) (p : Fin 512) (j : Fin 2048) :
    k0_pay1 (F := Ideal) x g s b (ix2 p j)
      = fwd (fun k => x (ix2 p k)) (fun k => g (ix2 0 k)) (fun k => s (ix2 0 k)) (fun k => b (ix2 0 k)) j := by
  unfold k0_pay1
  pointwise []
  rfl

/-- What the body leaves in the result's block. -/
theorem left4 (t : Fin cfg0.N) (p : Fin 512) (j : Fin 2048) :
    out0_4 (iblk m c 0 t) (iblk m c 1 t) (iblk m c 2 t) (iblk m c 3 t) (ix2 p j) = result (X m c) (G m c) (B m c) (S m c) (tok t p) j := by
  frame_out
  rw [pay1]
  simp only [blk_x, blk_g, blk_s, blk_b]
  rfl

/-- The result array of the kernel. -/
theorem final4 : (dats m 0 c).arrAt 4 cfg0.N = fun i : S4096x2048.Idx => result (X m c) (G m c) (B m c) (S m c) (i 0) (i 1) := by
  refine (dats m 0 c).arrAt_eq_of_covers 4 _ (by decide +kernel) fun t hf y => ?_
  revert y
  intro (y : S512x2048.Idx)
  obtain ⟨p, j, rfl⟩ : ∃ (p : Fin 512) (j : Fin 2048), y = ix2 p j := ⟨y 0, y 1, eq_ix2 y⟩
  rw [emb4, after0_4]
  have h := left4 m c t p j
  generalize out0_4 (iblk m c 0 t) (iblk m c 1 t) (iblk m c 2 t) (iblk m c 3 t) = a at h ⊢
  show a (ix2 p j) = result (X m c) (G m c) (B m c) (S m c) (tok t p) j
  exact h

end Cert.NormFwdIdeal.RefValue

end
-- ==== Proof.NormFwdClaim.lean ====
/- The claim about the norm: kernel and reference end with the same array. -/
module

public import proofs.«01_k».proof.Defs
public import proofs.«01_k».proof.Proof.Gen.NormFwd.Frame
public import proofs.«01_k».proof.Proof.Gen.NormFwd
public import proofs.«01_k».proof.Proof.Gen.NormFwdIdeal
public import proofs.«01_k».proof.Proof.Gen.NormFwdRefIdeal
public import proofs.«01_k».proof.Proof.Gen.NormFwdRefIdeal.Run
public import proofs.«01_k».proof.Proof.Gen.NormFwdRefIdeal.Read
public import proofs.«01_k».proof.Proof.NormFwdKernel

@[expose] public section

set_option maxRecDepth 131072

noncomputable section

namespace Cert.NormFwdClaim

open Idealize.ShloMosaic Idealize.SL.Sem Cert.NormFwdIdeal.RefValue
open Cert.NormFwdRefIdeal.Read
open Cert.NormSpec (mat vec fwd)
open Cert.Norms (inv)

abbrev Stream : Type := (⟨⟨2, ![4096, 2048]⟩, .f32⟩ : BufTy).Contents (Elt Ideal)
abbrev Vector : Type := (⟨⟨1, ![2048]⟩, .f32⟩ : BufTy).Contents (Elt Ideal)
abbrev Normed : Type := (⟨⟨2, ![4096, 2048]⟩, .bf16⟩ : BufTy).Contents (Elt Ideal)

variable (x : Stream) (g b s : Vector)

/-- The result as an array. -/
def out0 : Normed := fun i => result (mat x) (vec g) (vec b) (vec s) (i 0) (i 1)

theorem inv_at (i : Fin 4096) : val_main_v7 (F := Ideal) x (ix2 i 0) = inv (mat x i) := by
  unfold val_main_v7 val_main_v6 val_main_v4 val_main_v2 val_main_v1 val_main_v0
  pointwise [val_main_v3, val_main_v5, val_main_cst, val_main_cst_0, val_main_cst_1]
  rfl
theorem ref0 : val_main_v21 (F := Ideal) x g b s = out0 x g b s := by
  funext i
  obtain ⟨i, j, rfl⟩ : ∃ (p : Fin 4096) (q : Fin 2048), i = ix2 p q := ⟨i 0, i 1, eq_ix2 i⟩
  have h := inv_at x i
  unfold val_main_v21 val_main_v20 val_main_v17 val_main_v12 val_main_v9 val_main_v8
  generalize val_main_v7 (F := Ideal) x = q at *
  pointwise [val_main_v11, val_main_v10, val_main_v16, val_main_v15, val_main_v14, val_main_v13, val_main_v19, val_main_v18, val_main_cst_2]
  rw [h]
  rfl

theorem frame_r : Cert.quiescent_NormFwdRefIdeal := fun m ρ _ =>
  (θ_run Cert.NormFwdRefIdeal.defs _ _).mono (fun r h => ⟨fun c => (h c).2, sem_eq_zero_of_no_sems (by decide) r.2⟩)
    (Cert.NormFwdRefIdeal.Value.run (F := Ideal) m ρ)

theorem algebraic : Cert.algebraic_NormFwdIdeal_NormFwdRefIdeal := by
  intro m g m' g' _ h
  refine ⟨fun c => out0 (m ((c.tc : Thread Cert.NormFwdIdeal.nD Cert.NormFwdIdeal.τ).loc Cert.NormFwdIdeal.main_arg0)) (m ((c.tc : Thread Cert.NormFwdIdeal.nD Cert.NormFwdIdeal.τ).loc Cert.NormFwdIdeal.main_arg1)) (m ((c.tc : Thread Cert.NormFwdIdeal.nD Cert.NormFwdIdeal.τ).loc Cert.NormFwdIdeal.main_arg2)) (m ((c.tc : Thread Cert.NormFwdIdeal.nD Cert.NormFwdIdeal.τ).loc Cert.NormFwdIdeal.main_arg3)), (θ_run _ _ _).mono (fun r hr c => ?_) (Cert.NormFwdIdeal.Value.run_blocks m g),
    (θ_run _ _ _).mono (fun r hr c => ?_) (Cert.NormFwdRefIdeal.Value.run m' g')⟩
  · obtain ⟨h0, hk⟩ := hr c
    exact ⟨h0.trans (final4 m c), hk⟩
  · obtain ⟨h0, hk⟩ := hr c
    obtain ⟨a0, a1, a2, a3⟩ := h c
    refine ⟨h0.trans ?_, hk⟩
    · rw [val_main_v21_eq, a0, a1, a2, a3, ref0]

end Cert.NormFwdClaim

end
-- ==== Proof.OutKernel.lean ====
/- The mixer's output projection with the residual gate and the norm behind it, the kernel's side: its three result arrays. -/
module

public import proofs.«01_k».proof.Proof.Gen.OutIdeal.Value
public import proofs.«01_k».proof.Proof.NormSpec
public import Idealize.ShloMosaic.Lib.Pipeline.ValueKit
public import Idealize.ShloMosaic.Lib.Pointwise

@[expose] public section

set_option maxRecDepth 131072

noncomputable section

namespace Cert.OutIdeal.RefValue

open Cert.OutIdeal Cert.OutIdeal.Gen
open Idealize.ShloMosaic Idealize.ShloMosaic.TcCoe
open Cert.NormSpec (Row Mat mat vec fwd)
open Cert.Norms (inv)

variable (m : (ℓ : Loc nD τ sig) → Buf (Elt Ideal) ℓ) (c : Dev nD)

/-- The arguments as launched: the mixer's rows, the projection's weight, the residual rows, the residual gate, the gain, the
    shift and the scale. -/
abbrev Z : Mat := mat (m ((c : Thread nD τ).loc main_arg0))
abbrev W : Fin 2048 → Row := fun k j => m ((c : Thread nD τ).loc main_arg1) (ix2 k j : S2048x2048.Idx)
abbrev X : Mat := mat (m ((c : Thread nD τ).loc main_arg2))
abbrev R : Row := vec (m ((c : Thread nD τ).loc main_arg3))
abbrev G : Row := vec (m ((c : Thread nD τ).loc main_arg4))
abbrev B : Row := vec (m ((c : Thread nD τ).loc main_arg5))
abbrev S : Row := vec (m ((c : Thread nD τ).loc main_arg6))

/-- The projected rows, the residual rows with them added through the gate, and the norm of these. -/
def mixed (z : Mat) (w : Fin 2048 → Row) : Mat := fun i j => ∑ k, z i k * w k j
def resid (z : Mat) (w : Fin 2048 → Row) (x : Mat) (r : Row) : Mat := fun i j => x i j + r j * mixed z w i j
def result (z : Mat) (w : Fin 2048 → Row) (x : Mat) (r g b s : Row) : Mat := fun i => fwd (resid z w x r i) g s b

theorem idx : ∀ t : Fin cfg0.N,
    win0_0.index t = ![t.val, 0] ∧ win0_1.index t = ![0, 0] ∧ win0_2.index t = ![t.val, 0] ∧ win0_3.index t = ![0, 0]
    ∧ win0_4.index t = ![0, 0] ∧ win0_5.index t = ![0, 0] ∧ win0_6.index t = ![0, 0] ∧ win0_7.index t = ![t.val, 0]
    ∧ win0_8.index t = ![t.val, 0] ∧ win0_9.index t = ![t.val, 0] :=
  (by decide +kernel : ∀ t : Fin grid0.N, _)

/-- Row `p` of block `t`. -/
abbrev tok (t : Fin cfg0.N) (p : Fin 512) : Fin 4096 := ⟨t.val * 512 + p.val, by have := t.isLt; have h : cfg0.N = 8 := N_0; omega⟩

/-- The host casts the weight, which over the reals changes nothing, and lays the four vectors out as rows. -/
theorem V_w : V m c main_v0 = (truncf .bf16 (m ((c : Thread nD τ).loc main_arg1)) bitsLt_bf16_f32 : FVec Ideal S2048x2048 .bf16) := by
  show StableHlo.after hostOps0 (fun b => m (c, b)) (Proc.devRef .tc main_v0) = _
  simp only [hostOps0, StableHlo.TRef.unary, StableHlo.TRef.toBuf, StableHlo.TRef.ofBuf, cast_eq]
  after_results_simp <;> rfl
theorem V_r : V m c main_v1 = (shapeCast S1x2048 (m ((c : Thread nD τ).loc main_arg3)) shapeCasts_S2048_S1x2048 : FVec Ideal S1x2048 .f32) := by
  show StableHlo.after hostOps0 (fun b => m (c, b)) (Proc.devRef .tc main_v1) = _
  simp only [hostOps0, StableHlo.TRef.unary, StableHlo.TRef.toBuf, StableHlo.TRef.ofBuf, cast_eq]
  after_results_simp <;> rfl
theorem V_g : V m c main_v2 = (shapeCast S1x2048 (m ((c : Thread nD τ).loc main_arg4)) shapeCasts_S2048_S1x2048 : FVec Ideal S1x2048 .f32) := by
  show StableHlo.after hostOps0 (fun b => m (c, b)) (Proc.devRef .tc main_v2) = _
  simp only [hostOps0, StableHlo.TRef.unary, StableHlo.TRef.toBuf, StableHlo.TRef.ofBuf, cast_eq]
  after_results_simp <;> rfl
theorem V_s : V m c main_v3 = (shapeCast S1x2048 (m ((c : Thread nD τ).loc main_arg6)) shapeCasts_S2048_S1x2048 : FVec Ideal S1x2048 .f32) := by
  show StableHlo.after hostOps0 (fun b => m (c, b)) (Proc.devRef .tc main_v3) = _
  simp only [hostOps0, StableHlo.TRef.unary, StableHlo.TRef.toBuf, StableHlo.TRef.ofBuf, cast_eq]
  after_results_simp <;> rfl
theorem V_b : V m c main_v4 = (shapeCast S1x2048 (m ((c : Thread nD τ).loc main_arg5)) shapeCasts_S2048_S1x2048 : FVec Ideal S1x2048 .f32) := by
  show StableHlo.after hostOps0 (fun b => m (c, b)) (Proc.devRef .tc main_v4) = _
  simp only [hostOps0, StableHlo.TRef.unary, StableHlo.TRef.toBuf, StableHlo.TRef.ofBuf, cast_eq]
  after_results_simp <;> rfl

theorem blk_z (t : Fin cfg0.N) (p : Fin 512) (j : Fin 2048) : iblk m c 0 t (ix2 p j) = Z m c (tok t p) j := by
  have h : V m c main_arg0 = m ((c : Thread nD τ).loc main_arg0) := V_main_arg0 m c
  rw [Z, ← h]
  blk_ext [iblk, idx t]
theorem blk_w (t : Fin cfg0.N) (k j : Fin 2048) : iblk m c 1 t (ix2 k j) = W m c k j := by
  have h : iblk m c 1 t (ix2 k j) = V m c main_v0 (ix2 k j : S2048x2048.Idx) := by blk_ext [iblk, idx t]
  rw [h, V_w]
  pointwise []
theorem blk_x (t : Fin cfg0.N) (p : Fin 512) (j : Fin 2048) : iblk m c 2 t (ix2 p j) = X m c (tok t p) j := by
  have h : V m c main_arg2 = m ((c : Thread nD τ).loc main_arg2) := V_main_arg2 m c
  rw [X, ← h]
  blk_ext [iblk, idx t]
theorem blk_r (t : Fin cfg0.N) (j : Fin 2048) : iblk m c 3 t (ix2 0 j) = R m c j := by
  have h : iblk m c 3 t (ix2 0 j) = V m c main_v1 (ix2 0 j : S1x2048.Idx) := by blk_ext [iblk, idx t]
  rw [h, V_r]
  pointwise []
theorem blk_g (t : Fin cfg0.N) (j : Fin 2048) : iblk m c 4 t (ix2 0 j) = G m c j := by
  have h : iblk m c 4 t (ix2 0 j) = V m c main_v2 (ix2 0 j : S1x2048.Idx) := by blk_ext [iblk, idx t]
  rw [h, V_g]
  pointwise []
theorem blk_s (t : Fin cfg0.N) (j : Fin 2048) : iblk m c 5 t (ix2 0 j) = S m c j := by
  have h : iblk m c 5 t (ix2 0 j) = V m c main_v3 (ix2 0 j : S1x2048.Idx) := by blk_ext [iblk, idx t]
  rw [h, V_s]
  pointwise []
theorem blk_b (t : Fin cfg0.N) (j : Fin 2048) : iblk m c 6 t (ix2 0 j) = B m c j := by
  have h : iblk m c 6 t (ix2 0 j) = V m c main_v4 (ix2 0 j : S1x2048.Idx) := by blk_ext [iblk, idx t]
  rw [h, V_b]
  pointwise []
theorem emb7 (t : Fin cfg0.N) (p : Fin 512) (j : Fin 2048) :
    (((cfg0.win 7).blk t).view.emb (ix2 p j : S512x2048.Idx) : S4096x2048.Idx) = ix2 (tok t p) j := by
  blk_ext [idx t]
theorem emb8 (t : Fin cfg0.N) (p : Fin 512) (j : Fin 2048) :
    (((cfg0.win 8).blk t).view.emb (ix2 p j : S512x2048.Idx) : S4096x2048.Idx) = ix2 (tok t p) j := by
  blk_ext [idx t]
theorem emb9 (t : Fin cfg0.N) (p : Fin 512) (j : Fin 2048) :
    (((cfg0.win 9).blk t).view.emb (ix2 p j : S512x2048.Idx) : S4096x2048.Idx) = ix2 (tok t p) j := by
  blk_ext [idx t]

section Pay

variable (z : Vec Ideal S512x2048 .bf16) (w : Vec Ideal S2048x2048 .bf16) (x : Vec Ideal S512x2048 .f32)
  (r g s b : Vec Ideal S1x2048 .f32) (p : Fin 512) (j : Fin 2048)

theorem pay2 : k0_pay2 (F := Ideal) z w (ix2 p j) = ∑ k : Fin 2048, z (ix2 p k) * w (ix2 k j) := by
  unfold k0_pay2
  pointwise []
theorem pay3 : k0_pay3 (F := Ideal) z w x r (ix2 p j) = x (ix2 p j) + r (ix2 0 j) * k0_pay2 (F := Ideal) z w (ix2 p j) := by
  unfold k0_pay3
  generalize k0_pay2 (F := Ideal) z w = a
  pointwise []
theorem pay5 : k0_pay5 (F := Ideal) z w x r g s (ix2 p j)
    = k0_pay3 (F := Ideal) z w x r (ix2 p j) * inv (fun k => k0_pay3 (F := Ideal) z w x r (ix2 p k)) * g (ix2 0 j) * (1 + s (ix2 0 j)) := by
  unfold k0_pay5
  generalize k0_pay3 (F := Ideal) z w x r = a
  pointwise []
  rfl
theorem pay1 (v : Vec Ideal S512x2048 .f32) : k0_pay1 (F := Ideal) v b (ix2 p j) = v (ix2 p j) + b (ix2 0 j) := by
  unfold k0_pay1
  pointwise []

end Pay

theorem product (t : Fin cfg0.N) (p : Fin 512) (j : Fin 2048) :
    k0_pay2 (F := Ideal) (iblk m c 0 t) (iblk m c 1 t) (ix2 p j) = mixed (Z m c) (W m c) (tok t p) j := by
  rw [pay2]
  simp only [blk_z, blk_w]
  rfl
theorem added (t : Fin cfg0.N) (p : Fin 512) (j : Fin 2048) :
    k0_pay3 (F := Ideal) (iblk m c 0 t) (iblk m c 1 t) (iblk m c 2 t) (iblk m c 3 t) (ix2 p j) = resid (Z m c) (W m c) (X m c) (R m c) (tok t p) j := by
  rw [pay3, product, blk_x, blk_r]
  rfl

/-- What the body leaves in the results' blocks. -/
theorem left7 (t : Fin cfg0.N) (p : Fin 512) (j : Fin 2048) :
    out0_7 (iblk m c 0 t) (iblk m c 1 t) (iblk m c 2 t) (iblk m c 3 t) (iblk m c 4 t) (iblk m c 5 t) (iblk m c 6 t) (ix2 p j) = resid (Z m c) (W m c) (X m c) (R m c) (tok t p) j := by
  frame_out
  exact added m c t p j
theorem left8 (t : Fin cfg0.N) (p : Fin 512) (j : Fin 2048) :
    out0_8 (iblk m c 0 t) (iblk m c 1 t) (iblk m c 2 t) (iblk m c 3 t) (iblk m c 4 t) (iblk m c 5 t) (iblk m c 6 t) (ix2 p j) = mixed (Z m c) (W m c) (tok t p) j := by
  frame_out
  exact product m c t p j
theorem left9 (t : Fin cfg0.N) (p : Fin 512) (j : Fin 2048) :
    out0_9 (iblk m c 0 t) (iblk m c 1 t) (iblk m c 2 t) (iblk m c 3 t) (iblk m c 4 t) (iblk m c 5 t) (iblk m c 6 t) (ix2 p j) = result (Z m c) (W m c) (X m c) (R m c) (G m c) (B m c) (S m c) (tok t p) j := by
  frame_out
  rw [pay1, pay5]
  simp only [added, blk_g, blk_s, blk_b]
  rfl

/-- The three result arrays of the kernel. -/
theorem final7 : (dats m 0 c).arrAt 7 cfg0.N = fun i : S4096x2048.Idx => resid (Z m c) (W m c) (X m c) (R m c) (i 0) (i 1) := by
  refine (dats m 0 c).arrAt_eq_of_covers 7 _ (by decide +kernel) fun t hf y => ?_
  revert y
  intro (y : S512x2048.Idx)
  obtain ⟨p, j, rfl⟩ : ∃ (p : Fin 512) (j : Fin 2048), y = ix2 p j := ⟨y 0, y 1, eq_ix2 y⟩
  rw [emb7, after0_7]
  have h := left7 m c t p j
  generalize out0_7 (iblk m c 0 t) (iblk m c 1 t) (iblk m c 2 t) (iblk m c 3 t) (iblk m c 4 t) (iblk m c 5 t) (iblk m c 6 t) = a at h ⊢
  show a (ix2 p j) = resid (Z m c) (W m c) (X m c) (R m c) (tok t p) j
  exact h
theorem final8 : (dats m 0 c).arrAt 8 cfg0.N = fun i : S4096x2048.Idx => mixed (Z m c) (W m c) (i 0) (i 1) := by
  refine (dats m 0 c).arrAt_eq_of_covers 8 _ (by decide +kernel) fun t hf y => ?_
  revert y
  intro (y : S512x2048.Idx)
  obtain ⟨p, j, rfl⟩ : ∃ (p : Fin 512) (j : Fin 2048), y = ix2 p j := ⟨y 0, y 1, eq_ix2 y⟩
  rw [emb8, after0_8]
  have h := left8 m c t p j
  generalize out0_8 (iblk m c 0 t) (iblk m c 1 t) (iblk m c 2 t) (iblk m c 3 t) (iblk m c 4 t) (iblk m c 5 t) (iblk m c 6 t) = a at h ⊢
  show a (ix2 p j) = mixed (Z m c) (W m c) (tok t p) j
  exact h
theorem final9 : (dats m 0 c).arrAt 9 cfg0.N = fun i : S4096x2048.Idx => result (Z m c) (W m c) (X m c) (R m c) (G m c) (B m c) (S m c) (i 0) (i 1) := by
  refine (dats m 0 c).arrAt_eq_of_covers 9 _ (by decide +kernel) fun t hf y => ?_
  revert y
  intro (y : S512x2048.Idx)
  obtain ⟨p, j, rfl⟩ : ∃ (p : Fin 512) (j : Fin 2048), y = ix2 p j := ⟨y 0, y 1, eq_ix2 y⟩
  rw [emb9, after0_9]
  have h := left9 m c t p j
  generalize out0_9 (iblk m c 0 t) (iblk m c 1 t) (iblk m c 2 t) (iblk m c 3 t) (iblk m c 4 t) (iblk m c 5 t) (iblk m c 6 t) = a at h ⊢
  show a (ix2 p j) = result (Z m c) (W m c) (X m c) (R m c) (G m c) (B m c) (S m c) (tok t p) j
  exact h

end Cert.OutIdeal.RefValue

end
-- ==== Proof.OutClaim.lean ====
/- The claim about the mixer's output projection with the residual gate and the norm behind it: kernel and reference end with the
   same three arrays. -/
module

public import proofs.«01_k».proof.Defs
public import proofs.«01_k».proof.Proof.Gen.Out.Frame
public import proofs.«01_k».proof.Proof.Gen.Out
public import proofs.«01_k».proof.Proof.Gen.OutIdeal
public import proofs.«01_k».proof.Proof.Gen.OutRefIdeal
public import proofs.«01_k».proof.Proof.Gen.OutRefIdeal.Run
public import proofs.«01_k».proof.Proof.Gen.OutRefIdeal.Read
public import proofs.«01_k».proof.Proof.OutKernel

@[expose] public section

set_option maxRecDepth 131072

noncomputable section

namespace Cert.OutClaim

open Idealize.ShloMosaic Idealize.SL.Sem Cert.OutIdeal.RefValue
open Cert.OutRefIdeal.Read
open Cert.NormSpec (mat vec fwd Row)
open Cert.Norms (inv)

abbrev Stream : Type := (⟨⟨2, ![4096, 2048]⟩, .f32⟩ : BufTy).Contents (Elt Ideal)
abbrev Branch : Type := (⟨⟨2, ![4096, 2048]⟩, .bf16⟩ : BufTy).Contents (Elt Ideal)
abbrev Weight : Type := (⟨⟨2, ![2048, 2048]⟩, .f32⟩ : BufTy).Contents (Elt Ideal)
abbrev Vector : Type := (⟨⟨1, ![2048]⟩, .f32⟩ : BufTy).Contents (Elt Ideal)

variable (z : Branch) (w : Weight) (x : Stream) (r g b s : Vector)

/-- A weight as a function of the two features. -/
abbrev sq (w : Weight) : Fin 2048 → Row := fun k j => w (ix2 k j)

/-- The results as arrays. -/
def out0 : Stream := fun i => resid (mat z) (sq w) (mat x) (vec r) (i 0) (i 1)
def out1 : Branch := fun i => mixed (mat z) (sq w) (i 0) (i 1)
def out2 : Branch := fun i => result (mat z) (sq w) (mat x) (vec r) (vec g) (vec b) (vec s) (i 0) (i 1)

theorem product (i : Fin 4096) (j : Fin 2048) : val_main_v1 (F := Ideal) z w (ix2 i j) = mixed (mat z) (sq w) i j := by
  unfold val_main_v1
  pointwise [val_main_v0]
  rfl
theorem added (i : Fin 4096) (j : Fin 2048) : val_main_v5 (F := Ideal) z w x r (ix2 i j) = resid (mat z) (sq w) (mat x) (vec r) i j := by
  have h := product z w i j
  unfold val_main_v5 val_main_v4
  generalize val_main_v1 (F := Ideal) z w = a at *
  pointwise [val_main_v3, val_main_v2]
  rw [h]
  rfl
theorem inv_at (i : Fin 4096) : val_main_v13 (F := Ideal) z w x r (ix2 i 0) = inv (resid (mat z) (sq w) (mat x) (vec r) i) := by
  have h := added z w x r i
  unfold val_main_v13 val_main_v12 val_main_v10 val_main_v8 val_main_v7 val_main_v6
  generalize val_main_v5 (F := Ideal) z w x r = a at *
  pointwise [val_main_v9, val_main_v11, val_main_cst, val_main_cst_0, val_main_cst_1]
  simp only [h]
  rfl
theorem ref0 : val_main_v5 (F := Ideal) z w x r = out0 z w x r := by
  funext i
  obtain ⟨i, j, rfl⟩ : ∃ (p : Fin 4096) (q : Fin 2048), i = ix2 p q := ⟨i 0, i 1, eq_ix2 i⟩
  exact added z w x r i j
theorem ref1 : val_main_v27 (F := Ideal) z w = out1 z w := by
  funext i
  obtain ⟨i, j, rfl⟩ : ∃ (p : Fin 4096) (q : Fin 2048), i = ix2 p q := ⟨i 0, i 1, eq_ix2 i⟩
  exact product z w i j
theorem ref2 : val_main_v28 (F := Ideal) z w x r g b s = out2 z w x r g b s := by
  funext i
  obtain ⟨i, j, rfl⟩ : ∃ (p : Fin 4096) (q : Fin 2048), i = ix2 p q := ⟨i 0, i 1, eq_ix2 i⟩
  have h := inv_at z w x r i
  have h' := added z w x r i j
  unfold val_main_v28 val_main_v26 val_main_v23 val_main_v18 val_main_v15 val_main_v14
  generalize val_main_v13 (F := Ideal) z w x r = q at *
  generalize val_main_v5 (F := Ideal) z w x r = q' at *
  pointwise [val_main_v17, val_main_v16, val_main_v22, val_main_v21, val_main_v20, val_main_v19, val_main_v25, val_main_v24, val_main_cst_2]
  rw [h, h']
  rfl

theorem frame_r : Cert.quiescent_OutRefIdeal := fun m ρ _ =>
  (θ_run Cert.OutRefIdeal.defs _ _).mono (fun r h => ⟨fun c => (h c).2.2.2, sem_eq_zero_of_no_sems (by decide) r.2⟩)
    (Cert.OutRefIdeal.Value.run (F := Ideal) m ρ)

theorem algebraic : Cert.algebraic_OutIdeal_OutRefIdeal := by
  intro m g m' g' _ h
  refine ⟨fun c => out0 (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2)) (m ((c.tc : Thread Cert.OutIdeal.nD Cert.OutIdeal.τ).loc Cert.OutIdeal.main_arg3)), fun c => out1 (m ((c.tc : Thread Cert.OutIdeal.nD Cert.OutIdeal.τ).loc Cert.OutIdeal.main_arg0)) (m ((c.tc : Thread Cert.OutIdeal.nD Cert.OutIdeal.τ).loc Cert.OutIdeal.main_arg1)), fun c => out2 (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2)) (m ((c.tc : Thread Cert.OutIdeal.nD Cert.OutIdeal.τ).loc Cert.OutIdeal.main_arg3)) (m ((c.tc : Thread Cert.OutIdeal.nD Cert.OutIdeal.τ).loc Cert.OutIdeal.main_arg4)) (m ((c.tc : Thread Cert.OutIdeal.nD Cert.OutIdeal.τ).loc Cert.OutIdeal.main_arg5)) (m ((c.tc : Thread Cert.OutIdeal.nD Cert.OutIdeal.τ).loc Cert.OutIdeal.main_arg6)), (θ_run _ _ _).mono (fun r hr c => ?_) (Cert.OutIdeal.Value.run_blocks m g),
    (θ_run _ _ _).mono (fun r hr c => ?_) (Cert.OutRefIdeal.Value.run m' g')⟩
  · obtain ⟨h0, h1, h2, hk⟩ := hr c
    exact ⟨h0.trans (final7 m c), h1.trans (final8 m c), h2.trans (final9 m c), hk⟩
  · obtain ⟨h0, h1, h2, hk⟩ := hr c
    obtain ⟨a0, a1, a2, a3, a4, a5, a6⟩ := h c
    refine ⟨h0.trans ?_, h1.trans ?_, h2.trans ?_, hk⟩
    · rw [val_main_v5_eq, a0, a1, a2, a3, ref0]
    · rw [val_main_v27_eq, a0, a1, ref1]
    · rw [val_main_v28_eq, a0, a1, a2, a3, a4, a5, a6, ref2]

end Cert.OutClaim

end
-- ==== Proof.UpKernel.lean ====
/- The up projection with the squared ReLU behind it, the kernel's side: its two result arrays. -/
module

public import proofs.«01_k».proof.Proof.Gen.UpIdeal.Value
public import Idealize.ShloMosaic.Lib.Pipeline.ValueKit
public import Idealize.ShloMosaic.Lib.Pointwise

@[expose] public section

set_option maxRecDepth 131072

noncomputable section

namespace Cert.UpIdeal.RefValue

open Cert.UpIdeal Cert.UpIdeal.Gen
open Idealize.ShloMosaic Idealize.ShloMosaic.TcCoe

variable (m : (ℓ : Loc nD τ sig) → Buf (Elt Ideal) ℓ) (c : Dev nD)

abbrev Input : Type := (⟨⟨2, ![4096, 2048]⟩, .bf16⟩ : BufTy).Contents (Elt Ideal)
abbrev Weight : Type := (⟨⟨2, ![2048, 8192]⟩, .f32⟩ : BufTy).Contents (Elt Ideal)
abbrev Hidden : Type := (⟨⟨2, ![4096, 8192]⟩, .bf16⟩ : BufTy).Contents (Elt Ideal)

/-- The layer's input and the up projection's weight as launched. -/
abbrev H : Input := m ((c : Thread nD τ).loc main_arg0)
abbrev W : Weight := m ((c : Thread nD τ).loc main_arg1)

/-- The hidden value of a token and a feature, and its squared ReLU. -/
def hidden (h : Input) (w : Weight) (i : Fin 4096) (j : Fin 8192) : EReal := ∑ k : Fin 2048, h (ix2 i k) * w (ix2 k j)
def active (h : Input) (w : Weight) (i : Fin 4096) (j : Fin 8192) : EReal := max (hidden h w i j) 0 * max (hidden h w i j) 0

theorem idx : ∀ t : Fin cfg0.N,
    win0_0.index t = ![t.val / 8, 0] ∧ win0_1.index t = ![t.val % 8, 0, 0] ∧ win0_2.index t = ![t.val / 8, t.val % 8]
    ∧ win0_3.index t = ![t.val / 8, t.val % 8] :=
  (by decide +kernel : ∀ t : Fin grid0.N, _)

/-- The token and the feature of a point's block. -/
abbrev tok (t : Fin cfg0.N) (p : Fin 1024) : Fin 4096 :=
  ⟨t.val / 8 * 1024 + p.val, by have := t.isLt; have h : cfg0.N = 32 := N_0; omega⟩
abbrev feat (t : Fin cfg0.N) (q : Fin 1024) : Fin 8192 := ⟨t.val % 8 * 1024 + q.val, by omega⟩

/-- The host casts the weight, which over the reals changes nothing, and cuts it into eight blocks of columns. -/
theorem V_w : V m c main_v2 = (transpose S8x2048x1024 [1, 0, 2]
    (shapeCast S2048x8x1024 (truncf .bf16 (W m c) bitsLt_bf16_f32 : FVec Ideal S2048x8192 .bf16) shapeCasts_S2048x8192_S2048x8x1024)
      transposes_S2048x8x1024_S8x2048x1024_1_0_2 : FVec Ideal S8x2048x1024 .bf16) := by
  show StableHlo.after hostOps0 (fun b => m (c, b)) (Proc.devRef .tc main_v2) = _
  simp only [hostOps0, StableHlo.TRef.unary, StableHlo.TRef.toBuf, StableHlo.TRef.ofBuf, cast_eq]
  after_results_simp <;> rfl

theorem blk_h (t : Fin cfg0.N) (p : Fin 1024) (k : Fin 2048) : iblk m c 0 t (ix2 p k) = H m c (ix2 (tok t p) k) := by
  have h : V m c main_arg0 = m ((c : Thread nD τ).loc main_arg0) := V_main_arg0 m c
  rw [H, ← h]
  blk_ext [iblk, idx t]
theorem part (w : Weight) (b : Fin 8) (k : Fin 2048) (q : Fin 1024) : (transpose S8x2048x1024 [1, 0, 2]
    (shapeCast S2048x8x1024 (truncf .bf16 w bitsLt_bf16_f32 : FVec Ideal S2048x8192 .bf16) shapeCasts_S2048x8192_S2048x8x1024)
      transposes_S2048x8x1024_S8x2048x1024_1_0_2 : FVec Ideal S8x2048x1024 .bf16) (ix3 b k q) = w (ix2 k ⟨b.val * 1024 + q.val, by omega⟩) := by
  pointwise []
theorem blk_w (t : Fin cfg0.N) (u : Fin 1) (k : Fin 2048) (q : Fin 1024) : iblk m c 1 t (ix3 u k q) = W m c (ix2 k (feat t q)) := by
  have h : iblk m c 1 t (ix3 u k q) = V m c main_v2 (ix3 ⟨t.val % 8, Nat.mod_lt _ (by decide)⟩ k q : S8x2048x1024.Idx) := by blk_ext [iblk, idx t]
  rw [h, V_w, part]
theorem emb2 (t : Fin cfg0.N) (p q : Fin 1024) :
    (((cfg0.win 2).blk t).view.emb (ix2 p q : S1024x1024.Idx) : S4096x8192.Idx) = ix2 (tok t p) (feat t q) := by
  blk_ext [idx t]
theorem emb3 (t : Fin cfg0.N) (p q : Fin 1024) :
    (((cfg0.win 3).blk t).view.emb (ix2 p q : S1024x1024.Idx) : S4096x8192.Idx) = ix2 (tok t p) (feat t q) := by
  blk_ext [idx t]

theorem pay1 (h : Vec Ideal S1024x2048 .bf16) (w : Vec Ideal S1x2048x1024 .bf16) (p q : Fin 1024) :
    k0_pay1 (F := Ideal) h w (ix2 p q) = ∑ k : Fin 2048, h (ix2 p k) * w (ix3 0 k q) := by
  unfold k0_pay1
  pointwise []
theorem pay3 (h : Vec Ideal S1024x2048 .bf16) (w : Vec Ideal S1x2048x1024 .bf16) (p q : Fin 1024) :
    k0_pay3 (F := Ideal) h w (ix2 p q) = max (k0_pay1 (F := Ideal) h w (ix2 p q)) 0 * max (k0_pay1 (F := Ideal) h w (ix2 p q)) 0 := by
  unfold k0_pay3
  generalize k0_pay1 (F := Ideal) h w = a
  pointwise []

theorem product (t : Fin cfg0.N) (p q : Fin 1024) :
    k0_pay1 (F := Ideal) (iblk m c 0 t) (iblk m c 1 t) (ix2 p q) = hidden (H m c) (W m c) (tok t p) (feat t q) := by
  rw [pay1]
  simp only [blk_h, blk_w]
  rfl

/-- What the body leaves in the results' blocks. -/
theorem left2 (t : Fin cfg0.N) (p q : Fin 1024) :
    out0_2 (iblk m c 0 t) (iblk m c 1 t) (ix2 p q) = hidden (H m c) (W m c) (tok t p) (feat t q) := by
  frame_out
  exact product m c t p q
theorem left3 (t : Fin cfg0.N) (p q : Fin 1024) :
    out0_3 (iblk m c 0 t) (iblk m c 1 t) (ix2 p q) = active (H m c) (W m c) (tok t p) (feat t q) := by
  frame_out
  rw [pay3, product]
  rfl

/-- The two result arrays of the kernel. -/
theorem final2 : (dats m 0 c).arrAt 2 cfg0.N = fun i : S4096x8192.Idx => hidden (H m c) (W m c) (i 0) (i 1) := by
  refine (dats m 0 c).arrAt_eq_of_covers 2 _ (by decide +kernel) fun t hf y => ?_
  revert y
  intro (y : S1024x1024.Idx)
  obtain ⟨p, q, rfl⟩ : ∃ (p : Fin 1024) (q : Fin 1024), y = ix2 p q := ⟨y 0, y 1, eq_ix2 y⟩
  rw [emb2, after0_2]
  have h := left2 m c t p q
  generalize out0_2 (iblk m c 0 t) (iblk m c 1 t) = a at h ⊢
  show a (ix2 p q) = hidden (H m c) (W m c) (tok t p) (feat t q)
  exact h
theorem final3 : (dats m 0 c).arrAt 3 cfg0.N = fun i : S4096x8192.Idx => active (H m c) (W m c) (i 0) (i 1) := by
  refine (dats m 0 c).arrAt_eq_of_covers 3 _ (by decide +kernel) fun t hf y => ?_
  revert y
  intro (y : S1024x1024.Idx)
  obtain ⟨p, q, rfl⟩ : ∃ (p : Fin 1024) (q : Fin 1024), y = ix2 p q := ⟨y 0, y 1, eq_ix2 y⟩
  rw [emb3, after0_3]
  have h := left3 m c t p q
  generalize out0_3 (iblk m c 0 t) (iblk m c 1 t) = a at h ⊢
  show a (ix2 p q) = active (H m c) (W m c) (tok t p) (feat t q)
  exact h

end Cert.UpIdeal.RefValue

end
-- ==== Proof.UpClaim.lean ====
/- The claim about the up projection with the squared ReLU behind it: kernel and reference end with the same two arrays. -/
module

public import proofs.«01_k».proof.Defs
public import proofs.«01_k».proof.Proof.Gen.Up.Frame
public import proofs.«01_k».proof.Proof.Gen.Up
public import proofs.«01_k».proof.Proof.Gen.UpIdeal
public import proofs.«01_k».proof.Proof.Gen.UpRefIdeal
public import proofs.«01_k».proof.Proof.Gen.UpRefIdeal.Run
public import proofs.«01_k».proof.Proof.Gen.UpRefIdeal.Read
public import proofs.«01_k».proof.Proof.UpKernel

@[expose] public section

set_option maxRecDepth 16384

noncomputable section

namespace Cert.UpClaim

open Idealize.ShloMosaic Idealize.SL.Sem Cert.UpIdeal.RefValue
open Cert.UpRefIdeal.Read

/-- The results as arrays. -/
def out0 (h : Input) (w : Weight) : Hidden := fun i => hidden h w (i 0) (i 1)
def out1 (h : Input) (w : Weight) : Hidden := fun i => active h w (i 0) (i 1)

theorem product (h : Input) (w : Weight) (i : Fin 4096) (j : Fin 8192) : val_main_v1 (F := Ideal) h w (ix2 i j) = hidden h w i j := by
  unfold val_main_v1
  pointwise [val_main_v0]
  rfl
theorem ref0 (h : Input) (w : Weight) : val_main_v2 (F := Ideal) h w = out0 h w := by
  funext i
  obtain ⟨s, d, rfl⟩ : ∃ s d, i = ix2 s d := ⟨i 0, i 1, eq_ix2 i⟩
  exact product h w s d
theorem ref1 (h : Input) (w : Weight) : val_main_v5 (F := Ideal) h w = out1 h w := by
  funext i
  obtain ⟨s, d, rfl⟩ : ∃ s d, i = ix2 s d := ⟨i 0, i 1, eq_ix2 i⟩
  have h1 := product h w s d
  unfold val_main_v5 val_main_v4 val_main_v3
  generalize val_main_v1 (F := Ideal) h w = a at *
  pointwise [val_main_call0_v0, val_main_call0_cst]
  rw [h1]
  rfl

theorem frame_r : Cert.quiescent_UpRefIdeal := fun m ρ _ =>
  (θ_run Cert.UpRefIdeal.defs _ _).mono (fun r h => ⟨fun c => (h c).2.2, sem_eq_zero_of_no_sems (by decide) r.2⟩)
    (Cert.UpRefIdeal.Value.run (F := Ideal) m ρ)

theorem algebraic : Cert.algebraic_UpIdeal_UpRefIdeal := by
  intro m g m' g' _ h
  refine ⟨fun c => out0 (H m c) (W m c), fun c => out1 (H m c) (W m c), (θ_run _ _ _).mono (fun r hr c => ?_) (Cert.UpIdeal.Value.run_blocks m g),
    (θ_run _ _ _).mono (fun r hr c => ?_) (Cert.UpRefIdeal.Value.run m' g')⟩
  · obtain ⟨h0, h1, hk⟩ := hr c
    exact ⟨h0.trans (final2 m c), h1.trans (final3 m c), hk⟩
  · obtain ⟨h0, h1, hk⟩ := hr c
    obtain ⟨a0, a1⟩ := h c
    refine ⟨h0.trans ?_, h1.trans ?_, hk⟩
    · rw [val_main_v2_eq, a0, a1, ref0]
    · rw [val_main_v5_eq, a0, a1, ref1]

end Cert.UpClaim

end
-- ==== Proof.DownKernel.lean ====
/- The down projection with the residual gate behind it, the kernel's side: the products of four blocks of the hidden features
   are summed in a scratch buffer, and the fourth point of a block writes the two results. -/
module

public import proofs.«01_k».proof.Proof.Gen.DownIdeal.Value
public import proofs.«01_k».proof.Proof.Suffix
public import proofs.«01_k».proof.Proof.Rows

@[expose] public section

set_option maxRecDepth 131072

noncomputable section

namespace Cert.DownIdeal.RefValue

open Cert.DownIdeal Cert.DownIdeal.Gen
open Idealize.ShloMosaic Idealize.ShloMosaic.TcCoe
open Cert.Suffix (ext)

variable (m : (ℓ : Loc nD τ sig) → Buf (Elt Ideal) ℓ) (c : Dev nD)

abbrev Hidden : Type := (⟨⟨2, ![4096, 8192]⟩, .bf16⟩ : BufTy).Contents (Elt Ideal)
abbrev Weight : Type := (⟨⟨2, ![8192, 2048]⟩, .f32⟩ : BufTy).Contents (Elt Ideal)
abbrev Stream : Type := (⟨⟨2, ![4096, 2048]⟩, .f32⟩ : BufTy).Contents (Elt Ideal)
abbrev Branch : Type := (⟨⟨2, ![4096, 2048]⟩, .bf16⟩ : BufTy).Contents (Elt Ideal)
abbrev Gate : Type := (⟨⟨1, ![2048]⟩, .f32⟩ : BufTy).Contents (Elt Ideal)

/-- The arguments as launched: the active values, the down projection's weight, the residual stream and its gate. -/
abbrev H : Hidden := m ((c : Thread nD τ).loc main_arg0)
abbrev W : Weight := m ((c : Thread nD τ).loc main_arg1)
abbrev X : Stream := m ((c : Thread nD τ).loc main_arg2)
abbrev R : Gate := m ((c : Thread nD τ).loc main_arg3)

/-- One product of the branch's sum, the branch, and the stream with it added through the gate. -/
def term (h : Hidden) (w : Weight) (i : Fin 4096) (j : Fin 2048) (k : Fin 8192) : EReal := h (ix2 i k) * w (ix2 k j)
def branch (h : Hidden) (w : Weight) (i : Fin 4096) (j : Fin 2048) : EReal := ∑ k, term h w i j k
def resid (h : Hidden) (w : Weight) (x : Stream) (r : Gate) (i : Fin 4096) (j : Fin 2048) : EReal := x (ix2 i j) + r (ix1 j) * branch h w i j

/-- The part of the sum over a block of the hidden features. -/
def part (h : Hidden) (w : Weight) (i : Fin 4096) (j : Fin 2048) (s : ℕ) : EReal := ∑ k : Fin 2048, ext (term h w i j) (s * 2048 + k.val)

theorem idx : ∀ t : Fin cfg0.N,
    win0_0.index t = ![t.val / 8, t.val % 4] ∧ win0_1.index t = ![t.val % 4, t.val / 4 % 2] ∧ win0_2.index t = ![t.val / 8, t.val / 4 % 2]
    ∧ win0_3.index t = ![0, t.val / 4 % 2] ∧ win0_4.index t = ![t.val / 8, t.val / 4 % 2] ∧ win0_5.index t = ![t.val / 8, t.val / 4 % 2] :=
  (by decide +kernel : ∀ t : Fin grid0.N, _)

/-- The token, the feature and the hidden feature of a point's blocks. -/
abbrev tok (t : Fin cfg0.N) (p : Fin 1024) : Fin 4096 :=
  ⟨t.val / 8 * 1024 + p.val, by have := t.isLt; have h : cfg0.N = 32 := N_0; omega⟩
abbrev feat (t : Fin cfg0.N) (q : Fin 1024) : Fin 2048 := ⟨t.val / 4 % 2 * 1024 + q.val, by omega⟩
abbrev hid (t : Fin cfg0.N) (k : Fin 2048) : Fin 8192 := ⟨t.val % 4 * 2048 + k.val, by omega⟩

/-- The host casts the weight, which over the reals changes nothing, and lays the gate out as a row. -/
theorem V_w : V m c main_v0 = (truncf .bf16 (W m c) bitsLt_bf16_f32 : FVec Ideal S8192x2048 .bf16) := by
  show StableHlo.after hostOps0 (fun b => m (c, b)) (Proc.devRef .tc main_v0) = _
  simp only [hostOps0, StableHlo.TRef.unary, StableHlo.TRef.toBuf, StableHlo.TRef.ofBuf, cast_eq]
  after_results_simp <;> rfl
theorem V_r : V m c main_v1 = (shapeCast S1x2048 (R m c) shapeCasts_S2048_S1x2048 : FVec Ideal S1x2048 .f32) := by
  show StableHlo.after hostOps0 (fun b => m (c, b)) (Proc.devRef .tc main_v1) = _
  simp only [hostOps0, StableHlo.TRef.unary, StableHlo.TRef.toBuf, StableHlo.TRef.ofBuf, cast_eq]
  after_results_simp <;> rfl

theorem blk_h (t : Fin cfg0.N) (p : Fin 1024) (k : Fin 2048) : iblk m c 0 t (ix2 p k) = H m c (ix2 (tok t p) (hid t k)) := by
  have h : V m c main_arg0 = m ((c : Thread nD τ).loc main_arg0) := V_main_arg0 m c
  rw [H, ← h]
  blk_ext [iblk, idx t]
theorem blk_w (t : Fin cfg0.N) (k : Fin 2048) (q : Fin 1024) : iblk m c 1 t (ix2 k q) = W m c (ix2 (hid t k) (feat t q)) := by
  have h : iblk m c 1 t (ix2 k q) = V m c main_v0 (ix2 (hid t k) (feat t q) : S8192x2048.Idx) := by blk_ext [iblk, idx t]
  rw [h, V_w]
  pointwise []
theorem blk_x (t : Fin cfg0.N) (p q : Fin 1024) : iblk m c 2 t (ix2 p q) = X m c (ix2 (tok t p) (feat t q)) := by
  have h : V m c main_arg2 = m ((c : Thread nD τ).loc main_arg2) := V_main_arg2 m c
  rw [X, ← h]
  blk_ext [iblk, idx t]
theorem blk_r (t : Fin cfg0.N) (q : Fin 1024) : iblk m c 3 t (ix2 0 q) = R m c (ix1 (feat t q)) := by
  have h : iblk m c 3 t (ix2 0 q) = V m c main_v1 (ix2 0 (feat t q) : S1x2048.Idx) := by blk_ext [iblk, idx t]
  rw [h, V_r]
  pointwise []
theorem emb4 (t : Fin cfg0.N) (p q : Fin 1024) :
    (((cfg0.win 4).blk t).view.emb (ix2 p q : S1024x1024.Idx) : S4096x2048.Idx) = ix2 (tok t p) (feat t q) := by
  blk_ext [idx t]
theorem emb5 (t : Fin cfg0.N) (p q : Fin 1024) :
    (((cfg0.win 5).blk t).view.emb (ix2 p q : S1024x1024.Idx) : S4096x2048.Idx) = ix2 (tok t p) (feat t q) := by
  blk_ext [idx t]

section Pay

variable (h : Vec Ideal S1024x2048 .bf16) (w : Vec Ideal S2048x1024 .bf16) (a x : Vec Ideal S1024x1024 .f32) (r : Vec Ideal S1x1024 .f32) (p q : Fin 1024)

theorem pay1 : k0_pay1 (F := Ideal) h w (ix2 p q) = ∑ k : Fin 2048, h (ix2 p k) * w (ix2 k q) := by
  unfold k0_pay1
  pointwise []
theorem pay2 : k0_pay2 (F := Ideal) h w (ix2 p q) = k0_pay1 (F := Ideal) h w (ix2 p q) := by
  unfold k0_pay2
  generalize k0_pay1 (F := Ideal) h w = b
  pointwise []
theorem pay3 : k0_pay3 (F := Ideal) h w a (ix2 p q) = a (ix2 p q) + k0_pay1 (F := Ideal) h w (ix2 p q) := by
  unfold k0_pay3
  generalize k0_pay1 (F := Ideal) h w = b
  pointwise []
theorem pay4 : k0_pay4 (F := Ideal) a x r (ix2 p q) = x (ix2 p q) + r (ix2 0 q) * a (ix2 p q) := by
  unfold k0_pay4
  pointwise []

end Pay

/-- A point's product is the part of the sum its block of hidden features gives. -/
theorem product (t : Fin cfg0.N) (p q : Fin 1024) :
    k0_pay1 (F := Ideal) (iblk m c 0 t) (iblk m c 1 t) (ix2 p q) = part (H m c) (W m c) (tok t p) (feat t q) (t.val % 4) := by
  rw [pay1]
  unfold part
  refine Finset.sum_congr rfl fun k _ => ?_
  rw [blk_h, blk_w]
  unfold ext
  rw [dif_pos (hid t k).isLt]
  rfl

/-- What the scratch buffer holds after the first point of a block, and after the others. -/
theorem first (t : Fin cfg0.N) (h : t.val % 4 = 0) (p q : Fin 1024) : (outsAt0 m c t.val t.isLt).2.2 (ix2 p q)
    = part (H m c) (W m c) (tok t p) (feat t q) (t.val % 4) := by
  rw [outsAt0_A m c t h (by omega) (by omega)]
  dsimp only
  frame_out
  rw [pay2, product]
theorem next (t : Fin cfg0.N) (h : ¬ t.val % 4 = 0) (p q : Fin 1024) : (outsAt0 m c t.val t.isLt).2.2 (ix2 p q)
    = (outsAt0 m c (t.val - 1) (Nat.lt_of_le_of_lt (Nat.sub_le _ _) t.isLt)).2.2 (ix2 p q)
      + part (H m c) (W m c) (tok t p) (feat t q) (t.val % 4) := by
  by_cases h3 : t.val % 4 = 3
  · rw [outsAt0_C m c t h (by omega) h3]
    dsimp only
    frame_out
    rw [pay3, product]
    exact congrArg₂ (· + ·) (congrFun (Memref.IsWhole.read_unread (Memref.isWhole_whole cc0_scratch0) _) _) rfl
  · rw [outsAt0_B m c t h (by omega) h3]
    dsimp only
    frame_out
    rw [pay3, product]
    exact congrArg₂ (· + ·) (congrFun (Memref.IsWhole.read_unread (Memref.isWhole_whole cc0_scratch0) _) _) rfl

/-- So it holds the sum of the parts so far. -/
theorem scratch (p q : Fin 1024) : ∀ n (h : n < cfg0.N), (outsAt0 m c n h).2.2 (ix2 p q)
    = ∑ s ∈ Finset.range (n % 4 + 1), part (H m c) (W m c) (tok ⟨n, h⟩ p) (feat ⟨n, h⟩ q) s := by
  intro n
  induction n with
  | zero =>
    intro h
    rw [first m c ⟨0, h⟩ rfl p q]
    exact (Finset.sum_range_one _).symm
  | succ n ih =>
    intro h
    by_cases h0 : (n + 1) % 4 = 0
    · rw [first m c ⟨n + 1, h⟩ h0 p q]
      show part _ _ _ _ ((n + 1) % 4) = _
      rw [h0]
      exact (Finset.sum_range_one _).symm
    · have e := next m c ⟨n + 1, h⟩ h0 p q
      have e1 : tok ⟨n, Nat.lt_of_succ_lt h⟩ p = tok ⟨n + 1, h⟩ p :=
        Fin.ext (by show n / 8 * 1024 + p.val = (n + 1) / 8 * 1024 + p.val; omega)
      have e2 : feat ⟨n, Nat.lt_of_succ_lt h⟩ q = feat ⟨n + 1, h⟩ q :=
        Fin.ext (by show n / 4 % 2 * 1024 + q.val = (n + 1) / 4 % 2 * 1024 + q.val; omega)
      refine e.trans ?_
      refine (congrArg₂ (· + ·) (ih (Nat.lt_of_succ_lt h)) rfl).trans ?_
      rw [e1, e2, show n % 4 + 1 = (n + 1) % 4 by omega, Finset.sum_range_succ]

/-- After a block's fourth point it holds the branch. -/
theorem full (t : Fin cfg0.N) (h : t.val % 4 = 3) (p q : Fin 1024) :
    (outsAt0 m c t.val t.isLt).2.2 (ix2 p q) = branch (H m c) (W m c) (tok t p) (feat t q) := by
  rw [scratch m c p q t.val t.isLt, h]
  exact (Cert.Suffix.sum_blocks (B := 2048) (term (H m c) (W m c) (tok t p) (feat t q)) 4 rfl).symm

/-- What the fourth point leaves in the results' blocks. -/
theorem left4 (t : Fin cfg0.N) (h : t.val % 4 = 3) (p q : Fin 1024) :
    (outsAt0 m c t.val t.isLt).1 (ix2 p q) = resid (H m c) (W m c) (X m c) (R m c) (tok t p) (feat t q) := by
  have hf := full m c t h p q
  rw [outsAt0_C m c t (by omega) (by omega) h] at hf ⊢
  dsimp only at hf ⊢
  revert hf
  frame_out
  intro hf
  rw [pay4, hf, blk_x, blk_r]
  rfl
theorem left5 (t : Fin cfg0.N) (h : t.val % 4 = 3) (p q : Fin 1024) :
    (outsAt0 m c t.val t.isLt).2.1 (ix2 p q) = branch (H m c) (W m c) (tok t p) (feat t q) := by
  have hf := full m c t h p q
  rw [outsAt0_C m c t (by omega) (by omega) h] at hf ⊢
  dsimp only at hf ⊢
  revert hf
  frame_out
  intro hf
  exact hf

/-- The two result arrays of the kernel. -/
theorem final4 : (dats m 0 c).arrAt 4 cfg0.N = fun i : S4096x2048.Idx => resid (H m c) (W m c) (X m c) (R m c) (i 0) (i 1) := by
  refine (dats m 0 c).arrAt_eq_of_covers 4 _ (by decide +kernel) fun t hf y => ?_
  revert y
  intro (y : S1024x1024.Idx)
  obtain ⟨p, q, rfl⟩ : ∃ (p : Fin 1024) (q : Fin 1024), y = ix2 p q := ⟨y 0, y 1, eq_ix2 y⟩
  rw [emb4, after0_4]
  have h := left4 m c t ((flush0_4 t).mp hf) p q
  generalize (outsAt0 m c t.val t.isLt).1 = a at h ⊢
  show a (ix2 p q) = resid (H m c) (W m c) (X m c) (R m c) (tok t p) (feat t q)
  exact h
theorem final5 : (dats m 0 c).arrAt 5 cfg0.N = fun i : S4096x2048.Idx => branch (H m c) (W m c) (i 0) (i 1) := by
  refine (dats m 0 c).arrAt_eq_of_covers 5 _ (by decide +kernel) fun t hf y => ?_
  revert y
  intro (y : S1024x1024.Idx)
  obtain ⟨p, q, rfl⟩ : ∃ (p : Fin 1024) (q : Fin 1024), y = ix2 p q := ⟨y 0, y 1, eq_ix2 y⟩
  rw [emb5, after0_5]
  have h := left5 m c t ((flush0_5 t).mp hf) p q
  generalize (outsAt0 m c t.val t.isLt).2.1 = a at h ⊢
  show a (ix2 p q) = branch (H m c) (W m c) (tok t p) (feat t q)
  exact h

end Cert.DownIdeal.RefValue

end
-- ==== Proof.DownClaim.lean ====
/- The claim about the down projection with the residual gate behind it: kernel and reference end with the same two arrays. -/
module

public import proofs.«01_k».proof.Defs
public import proofs.«01_k».proof.Proof.Gen.Down.Frame
public import proofs.«01_k».proof.Proof.Gen.Down
public import proofs.«01_k».proof.Proof.Gen.DownIdeal
public import proofs.«01_k».proof.Proof.Gen.DownRefIdeal
public import proofs.«01_k».proof.Proof.Gen.DownRefIdeal.Run
public import proofs.«01_k».proof.Proof.Gen.DownRefIdeal.Read
public import proofs.«01_k».proof.Proof.DownKernel

@[expose] public section

set_option maxRecDepth 131072

noncomputable section

namespace Cert.DownClaim

open Idealize.ShloMosaic Idealize.SL.Sem Cert.DownIdeal.RefValue
open Cert.DownRefIdeal.Read

variable (h : Hidden) (w : Weight) (x : Stream) (r : Gate)

/-- The results as arrays. -/
def out0 : Stream := fun i => resid h w x r (i 0) (i 1)
def out1 : Branch := fun i => branch h w (i 0) (i 1)

theorem product (i : Fin 4096) (j : Fin 2048) : val_main_v1 (F := Ideal) h w (ix2 i j) = branch h w i j := by
  unfold val_main_v1
  pointwise [val_main_v0]
  rfl
theorem ref0 : val_main_v5 (F := Ideal) h w x r = out0 h w x r := by
  funext i
  obtain ⟨i, j, rfl⟩ : ∃ (p : Fin 4096) (q : Fin 2048), i = ix2 p q := ⟨i 0, i 1, eq_ix2 i⟩
  have e := product h w i j
  unfold val_main_v5 val_main_v4
  generalize val_main_v1 (F := Ideal) h w = a at *
  pointwise [val_main_v3, val_main_v2]
  rw [e]
  rfl
theorem ref1 : val_main_v6 (F := Ideal) h w = out1 h w := by
  funext i
  obtain ⟨i, j, rfl⟩ : ∃ (p : Fin 4096) (q : Fin 2048), i = ix2 p q := ⟨i 0, i 1, eq_ix2 i⟩
  exact product h w i j

theorem frame_r : Cert.quiescent_DownRefIdeal := fun m ρ _ =>
  (θ_run Cert.DownRefIdeal.defs _ _).mono (fun r h => ⟨fun c => (h c).2.2, sem_eq_zero_of_no_sems (by decide) r.2⟩)
    (Cert.DownRefIdeal.Value.run (F := Ideal) m ρ)

theorem algebraic : Cert.algebraic_DownIdeal_DownRefIdeal := by
  intro m g m' g' _ h
  refine ⟨fun c => out0 (H m c) (W m c) (X m c) (R m c), fun c => out1 (H m c) (W m c), (θ_run _ _ _).mono (fun r hr c => ?_) (Cert.DownIdeal.Value.run_blocks m g),
    (θ_run _ _ _).mono (fun r hr c => ?_) (Cert.DownRefIdeal.Value.run m' g')⟩
  · obtain ⟨h0, h1, hk⟩ := hr c
    exact ⟨h0.trans (final4 m c), h1.trans (final5 m c), hk⟩
  · obtain ⟨h0, h1, hk⟩ := hr c
    obtain ⟨a0, a1, a2, a3⟩ := h c
    refine ⟨h0.trans ?_, h1.trans ?_, hk⟩
    · rw [val_main_v5_eq, a0, a1, a2, a3, ref0]
    · rw [val_main_v6_eq, a0, a1, ref1]

end Cert.DownClaim

end
-- ==== Proof.AdaKernel.lean ====
/- The modulation's products behind the gate of the conditioning vectors, the kernel's side: its two result arrays. -/
module

public import proofs.«01_k».proof.Proof.Gen.AdaIdeal.Value
public import Idealize.ShloMosaic.Lib.Pipeline.ValueKit
public import Idealize.ShloMosaic.Lib.Pointwise

@[expose] public section

set_option maxRecDepth 131072

noncomputable section

namespace Cert.AdaIdeal.RefValue

open Cert.AdaIdeal Cert.AdaIdeal.Gen
open Idealize.ShloMosaic Idealize.ShloMosaic.TcCoe

variable (m : (ℓ : Loc nD τ sig) → Buf (Elt Ideal) ℓ) (c : Dev nD)

abbrev Cond : Type := (⟨⟨2, ![8, 2048]⟩, .f32⟩ : BufTy).Contents (Elt Ideal)
abbrev Weight : Type := (⟨⟨3, ![2, 2048, 3072]⟩, .f32⟩ : BufTy).Contents (Elt Ideal)
abbrev Mod : Type := (⟨⟨3, ![2, 8, 3072]⟩, .f32⟩ : BufTy).Contents (Elt Ideal)

/-- The conditioning vectors and the layers' weights as launched. -/
abbrev C : Cond := m ((c : Thread nD τ).loc main_arg0)
abbrev W : Weight := m ((c : Thread nD τ).loc main_arg1)

/-- A value times its logistic, and a layer's product with the gated vectors. -/
def silu (a : EReal) : EReal := a * Ideal.div 1 (1 + Ideal.exp (-a))
def gated (x : Cond) (i : Fin 8) (j : Fin 2048) : EReal := silu (x (ix2 i j))
def modulation (x : Cond) (w : Weight) (l : Fin 2) (i : Fin 8) (j : Fin 3072) : EReal := ∑ k : Fin 2048, gated x i k * w (ix3 l k j)

theorem idx : ∀ t : Fin cfg0.N,
    win0_0.index t = ![0, 0] ∧ win0_1.index t = ![t.val / 6, 0, t.val % 6] ∧ win0_2.index t = ![t.val / 6, 0, t.val % 6]
    ∧ win0_3.index t = ![0, 0] :=
  (by decide +kernel : ∀ t : Fin grid0.N, _)

/-- The layer and the column of a point's block. -/
abbrev layer (t : Fin cfg0.N) : Fin 2 := ⟨t.val / 6, by have := t.isLt; have h : cfg0.N = 12 := N_0; omega⟩
abbrev col (t : Fin cfg0.N) (q : Fin 512) : Fin 3072 := ⟨t.val % 6 * 512 + q.val, by omega⟩

theorem blk_c (t : Fin cfg0.N) (p : Fin 8) (k : Fin 2048) : iblk m c 0 t (ix2 p k) = C m c (ix2 p k) := by
  have h : V m c main_arg0 = m ((c : Thread nD τ).loc main_arg0) := V_main_arg0 m c
  rw [C, ← h]
  blk_ext [iblk, idx t]
theorem blk_w (t : Fin cfg0.N) (u : Fin 1) (k : Fin 2048) (q : Fin 512) : iblk m c 1 t (ix3 u k q) = W m c (ix3 (layer t) k (col t q)) := by
  have h : V m c main_arg1 = m ((c : Thread nD τ).loc main_arg1) := V_main_arg1 m c
  rw [W, ← h]
  blk_ext [iblk, idx t]
theorem emb2 (t : Fin cfg0.N) (u : Fin 1) (p : Fin 8) (q : Fin 512) :
    (((cfg0.win 2).blk t).view.emb (ix3 u p q : S1x8x512.Idx) : S2x8x3072.Idx) = ix3 (layer t) p (col t q) := by
  blk_ext [idx t]
theorem emb3 (t : Fin cfg0.N) (p : Fin 8) (k : Fin 2048) :
    (((cfg0.win 3).blk t).view.emb (ix2 p k : S8x2048.Idx) : S8x2048.Idx) = ix2 p k := by
  blk_ext [idx t]

theorem pay1 (x : Vec Ideal S8x2048 .f32) (p : Fin 8) (k : Fin 2048) : k0_pay1 (F := Ideal) x (ix2 p k) = silu (x (ix2 p k)) := by
  unfold k0_pay1
  pointwise []
  rw [zero_sub]
  rfl
theorem pay2 (x : Vec Ideal S8x2048 .f32) (w : Vec Ideal S1x2048x512 .f32) (u : Fin 1) (p : Fin 8) (q : Fin 512) :
    k0_pay2 (F := Ideal) x w (ix3 u p q) = ∑ k : Fin 2048, k0_pay1 (F := Ideal) x (ix2 p k) * w (ix3 0 k q) := by
  unfold k0_pay2
  generalize k0_pay1 (F := Ideal) x = a
  pointwise []

/-- What the body leaves in the results' blocks. -/
theorem left2 (t : Fin cfg0.N) (u : Fin 1) (p : Fin 8) (q : Fin 512) :
    out0_2 (iblk m c 0 t) (iblk m c 1 t) (ix3 u p q) = modulation (C m c) (W m c) (layer t) p (col t q) := by
  frame_out
  rw [pay2]
  simp only [pay1, blk_c, blk_w]
  rfl
theorem left3 (t : Fin cfg0.N) (p : Fin 8) (k : Fin 2048) :
    out0_3 (iblk m c 0 t) (iblk m c 1 t) (ix2 p k) = gated (C m c) p k := by
  frame_out
  rw [pay1, blk_c]
  rfl

/-- The two result arrays of the kernel. -/
theorem final2 : (dats m 0 c).arrAt 2 cfg0.N = fun i : S2x8x3072.Idx => modulation (C m c) (W m c) (i 0) (i 1) (i 2) := by
  refine (dats m 0 c).arrAt_eq_of_covers 2 _ (by decide +kernel) fun t hf y => ?_
  revert y
  intro (y : S1x8x512.Idx)
  obtain ⟨u, p, q, rfl⟩ : ∃ (u : Fin 1) (p : Fin 8) (q : Fin 512), y = ix3 u p q := ⟨y 0, y 1, y 2, eq_ix3 y⟩
  rw [emb2, after0_2]
  have h := left2 m c t u p q
  generalize out0_2 (iblk m c 0 t) (iblk m c 1 t) = a at h ⊢
  show a (ix3 u p q) = modulation (C m c) (W m c) (layer t) p (col t q)
  exact h
theorem final3 : (dats m 0 c).arrAt 3 cfg0.N = fun i : S8x2048.Idx => gated (C m c) (i 0) (i 1) := by
  refine (dats m 0 c).arrAt_eq_of_covers 3 _ (by decide +kernel) fun t hf y => ?_
  revert y
  intro (y : S8x2048.Idx)
  obtain ⟨p, k, rfl⟩ : ∃ (p : Fin 8) (k : Fin 2048), y = ix2 p k := ⟨y 0, y 1, eq_ix2 y⟩
  rw [emb3, after0_3]
  have h := left3 m c t p k
  generalize out0_3 (iblk m c 0 t) (iblk m c 1 t) = a at h ⊢
  show a (ix2 p k) = gated (C m c) p k
  exact h

end Cert.AdaIdeal.RefValue

end
-- ==== Proof.AdaClaim.lean ====
/- The claim about the modulation's products: kernel and reference end with the same two arrays. -/
module

public import proofs.«01_k».proof.Defs
public import proofs.«01_k».proof.Proof.Gen.Ada.Frame
public import proofs.«01_k».proof.Proof.Gen.Ada
public import proofs.«01_k».proof.Proof.Gen.AdaIdeal
public import proofs.«01_k».proof.Proof.Gen.AdaRefIdeal
public import proofs.«01_k».proof.Proof.Gen.AdaRefIdeal.Run
public import proofs.«01_k».proof.Proof.Gen.AdaRefIdeal.Read
public import proofs.«01_k».proof.Proof.AdaKernel

@[expose] public section

set_option maxRecDepth 131072

noncomputable section

namespace Cert.AdaClaim

open Idealize.ShloMosaic Idealize.SL.Sem Cert.AdaIdeal.RefValue
open Cert.AdaRefIdeal.Read

variable (x : Cond) (w : Weight)

/-- The results as arrays. -/
def out0 : Mod := fun i => modulation x w (i 0) (i 1) (i 2)
def out1 : Cond := fun i => gated x (i 0) (i 1)

theorem gated_at (i : Fin 8) (j : Fin 2048) : val_main_v0 (F := Ideal) x (ix2 i j) = gated x i j := by
  unfold val_main_v0
  pointwise [val_main_call0_v5, val_main_call0_v4, val_main_call0_v3, val_main_call0_v2, val_main_call0_v1, val_main_call0_v0, val_main_call0_cst,
    val_main_call0_cst_0]
  rfl
theorem layer0 (i : Fin 8) (j : Fin 3072) : val_main_v3 (F := Ideal) x w (ix2 i j) = modulation x w 0 i j := by
  have h := gated_at x i
  unfold val_main_v3
  generalize val_main_v0 (F := Ideal) x = a at *
  pointwise [val_main_v2, val_main_v1]
  simp only [h]
  rfl
theorem layer1 (i : Fin 8) (j : Fin 3072) : val_main_v6 (F := Ideal) x w (ix2 i j) = modulation x w 1 i j := by
  have h := gated_at x i
  unfold val_main_v6
  generalize val_main_v0 (F := Ideal) x = a at *
  pointwise [val_main_v5, val_main_v4]
  simp only [h]
  rfl
theorem stacked (l : Fin 2) (i : Fin 8) (j : Fin 3072) : val_main_v9 (F := Ideal) x w (ix3 l i j)
    = if l.val < 1 then val_main_v3 (F := Ideal) x w (ix2 i j) else val_main_v6 (F := Ideal) x w (ix2 i j) := by
  unfold val_main_v9 val_main_v8 val_main_v7
  generalize val_main_v3 (F := Ideal) x w = a
  generalize val_main_v6 (F := Ideal) x w = b
  pointwise []
  split_ifs <;> first | rfl | omega
theorem ref0 : val_main_v9 (F := Ideal) x w = out0 x w := by
  funext i
  obtain ⟨l, i, j, rfl⟩ : ∃ (l : Fin 2) (p : Fin 8) (q : Fin 3072), i = ix3 l p q := ⟨i 0, i 1, i 2, eq_ix3 i⟩
  rw [stacked, layer0, layer1]
  show _ = modulation x w l i j
  match l with
  | ⟨0, _⟩ => rfl
  | ⟨1, _⟩ => rfl
theorem ref1 : val_main_v0 (F := Ideal) x = out1 x := by
  funext i
  obtain ⟨i, j, rfl⟩ : ∃ (p : Fin 8) (q : Fin 2048), i = ix2 p q := ⟨i 0, i 1, eq_ix2 i⟩
  exact gated_at x i j

theorem frame_r : Cert.quiescent_AdaRefIdeal := fun m ρ _ =>
  (θ_run Cert.AdaRefIdeal.defs _ _).mono (fun r h => ⟨fun c => (h c).2.2, sem_eq_zero_of_no_sems (by decide) r.2⟩)
    (Cert.AdaRefIdeal.Value.run (F := Ideal) m ρ)

theorem algebraic : Cert.algebraic_AdaIdeal_AdaRefIdeal := by
  intro m g m' g' _ h
  refine ⟨fun c => out0 (C m c) (W m c), fun c => out1 (C m c), (θ_run _ _ _).mono (fun r hr c => ?_) (Cert.AdaIdeal.Value.run_blocks m g),
    (θ_run _ _ _).mono (fun r hr c => ?_) (Cert.AdaRefIdeal.Value.run m' g')⟩
  · obtain ⟨h0, h1, hk⟩ := hr c
    exact ⟨h0.trans (final2 m c), h1.trans (final3 m c), hk⟩
  · obtain ⟨h0, h1, hk⟩ := hr c
    obtain ⟨a0, a1⟩ := h c
    refine ⟨h0.trans ?_, h1.trans ?_, hk⟩
    · rw [val_main_v9_eq, a0, a1, ref0]
    · rw [val_main_v0_eq, a0, ref1]

end Cert.AdaClaim

end
-- ==== Proof.GateFwdKernel.lean ====
/- The forget gate, the kernel's side: the logits block by block, and their log-sigmoids' running sum, which goes from block to
   block in the first row of a scratch buffer. -/
module

public import proofs.«01_k».proof.Proof.Gen.GateFwdIdeal.Value
public import proofs.«01_k».proof.Proof.Suffix
public import proofs.«01_k».proof.Proof.Stores
public import proofs.«01_k».proof.Proof.Rows
public import Idealize.ShloMosaic.Lib.WordCmp
public import Idealize.ShloMosaic.Lib.Pipeline.ReadBack

@[expose] public section

set_option maxRecDepth 131072

noncomputable section

namespace Cert.GateFwdIdeal.RefValue

open Cert.GateFwdIdeal Cert.GateFwdIdeal.Gen
open Idealize.ShloMosaic Idealize.ShloMosaic.TcCoe
open Cert.Suffix (ext upto)

variable (m : (ℓ : Loc nD τ sig) → Buf (Elt Ideal) ℓ) (c : Dev nD)

abbrev Input : Type := (⟨⟨2, ![4096, 2048]⟩, .bf16⟩ : BufTy).Contents (Elt Ideal)
abbrev Weight : Type := (⟨⟨2, ![2048, 16]⟩, .f32⟩ : BufTy).Contents (Elt Ideal)
abbrev Bias : Type := (⟨⟨1, ![16]⟩, .f32⟩ : BufTy).Contents (Elt Ideal)
abbrev Out : Type := (⟨⟨2, ![4096, 128]⟩, .f32⟩ : BufTy).Contents (Elt Ideal)

/-- The layer's input, the gate's weight and its bias as launched. -/
abbrev H : Input := m ((c : Thread nD τ).loc main_arg0)
abbrev W : Weight := m ((c : Thread nD τ).loc main_arg1)
abbrev B : Bias := m ((c : Thread nD τ).loc main_arg2)

/-- The logit of a token on the first 16 of 128 lanes, zero on the others. -/
def logit (h : Input) (w : Weight) (b : Bias) (s : Fin 4096) (l : Fin 128) : EReal :=
  if hl : l.val < 16 then (∑ k : Fin 2048, h (ix2 s k) * w (ix2 k ⟨l.val, hl⟩)) + b (ix1 ⟨l.val, hl⟩) else 0
/-- The log-sigmoid. -/
def logSig (x : EReal) : EReal := min x 0 - Ideal.log (1 + Ideal.exp (0 - max x (-x)))
/-- A lane's log-sigmoids, and their sum up to a token. -/
def column (h : Input) (w : Weight) (b : Bias) (l : Fin 128) (s : Fin 4096) : EReal := logSig (logit h w b s l)
def total (h : Input) (w : Weight) (b : Bias) (s : Fin 4096) (l : Fin 128) : EReal := upto (column h w b l) (s.val + 1)

theorem idx : ∀ t : Fin cfg0.N,
    win0_0.index t = ![t.val, 0] ∧ win0_1.index t = ![0, 0] ∧ win0_2.index t = ![0, 0] ∧ win0_3.index t = ![t.val, 0]
    ∧ win0_4.index t = ![t.val, 0] :=
  (by decide +kernel : ∀ t : Fin grid0.N, _)

/-- The token of a point's block. -/
abbrev tok (t : Fin cfg0.N) (r : Fin 256) : Fin 4096 := ⟨t.val * 256 + r.val, by have := t.isLt; have h : cfg0.N = 16 := N_0; omega⟩

/-- The weight and the bias on 128 lanes. -/
theorem V_w (l : Fin 128) (k : Fin 2048) : (V m c main_v2 : S128x2048.Idx → EReal) (ix2 l k) = if hl : l.val < 16 then W m c (ix2 k ⟨l.val, hl⟩) else 0 := by
  have e : V m c main_v2 = (pad S128x2048 ![0, 0] ![112, 0] ![0, 0]
      (transpose S16x2048 [1, 0] (truncf .bf16 (m ((c : Thread nD τ).loc main_arg1)) bitsLt_bf16_f32) transposes_S2048x16_S16x2048_1_0)
      (sitofp .bf16 (constantI S_ 32 0#32)) pads_S16x2048_S128x2048_01120_000 h_S_ : FVec Ideal S128x2048 .bf16) := by
    simp only [V, hostOps0, hostOps0_1, hostOps0_2, hostOps0_3, List.flatten_cons, List.flatten_nil, List.append_nil, List.cons_append, List.nil_append,
      StableHlo.TRef.binary, StableHlo.TRef.unary, StableHlo.TRef.toBuf, StableHlo.TRef.ofBuf, cast_eq]
    after_results_simp <;> rfl
  rw [e]
  pointwise []
  simp [FloatOps.sitofp]
theorem V_b (l : Fin 128) : (V m c main_v4 : S1x128.Idx → EReal) (ix2 0 l) = if hl : l.val < 16 then B m c (ix1 ⟨l.val, hl⟩) else 0 := by
  have e : V m c main_v4 = (pad S1x128 ![0, 0] ![0, 112] ![0, 0]
      (shapeCast S1x16 (m ((c : Thread nD τ).loc main_arg2)) shapeCasts_S16_S1x16)
      (sitofp .f32 (constantI S_ 32 0#32)) pads_S1x16_S1x128_000_01120 h_S_ : FVec Ideal S1x128 .f32) := by
    simp only [V, hostOps0, hostOps0_1, hostOps0_2, hostOps0_3, List.flatten_cons, List.flatten_nil, List.append_nil, List.cons_append, List.nil_append,
      StableHlo.TRef.binary, StableHlo.TRef.unary, StableHlo.TRef.toBuf, StableHlo.TRef.ofBuf, cast_eq]
    after_results_simp <;> rfl
  rw [e]
  pointwise []
  simp [FloatOps.sitofp]

theorem blk_h (t : Fin cfg0.N) (r : Fin 256) (k : Fin 2048) : iblk m c 0 t (ix2 r k) = H m c (ix2 (tok t r) k) := by
  have h : V m c main_arg0 = m ((c : Thread nD τ).loc main_arg0) := V_main_arg0 m c
  rw [H, ← h]
  blk_ext [iblk, idx t]
theorem blk_w (t : Fin cfg0.N) (l : Fin 128) (k : Fin 2048) : iblk m c 1 t (ix2 l k) = V m c main_v2 (ix2 l k : S128x2048.Idx) := by
  blk_ext [iblk, idx t]
theorem blk_b (t : Fin cfg0.N) (l : Fin 128) : iblk m c 2 t (ix2 0 l) = V m c main_v4 (ix2 0 l : S1x128.Idx) := by
  blk_ext [iblk, idx t]
theorem emb3 (t : Fin cfg0.N) (r : Fin 256) (l : Fin 128) :
    (((cfg0.win 3).blk t).view.emb (ix2 r l : S256x128.Idx) : S4096x128.Idx) = ix2 (tok t r) l := by
  blk_ext [idx t]
theorem emb4 (t : Fin cfg0.N) (r : Fin 256) (l : Fin 128) :
    (((cfg0.win 4).blk t).view.emb (ix2 r l : S256x128.Idx) : S4096x128.Idx) = ix2 (tok t r) l := by
  blk_ext [idx t]

/-- A one of the lower triangle as a number. -/
theorem tri_eq (r j : Fin 256) :
    FloatOps.sitofp (F := Ideal) FTy.f32 (BitVec.setWidth 32 (IntOp.cmpi CmpIPredicate.sle (BitVec.ofNat 32 j.val) (BitVec.ofNat 32 r.val)))
      = if j.val ≤ r.val then (1 : EReal) else 0 := by
  rw [WordCmp.cmpi_sle_ofNat (by omega) (by omega)]
  by_cases h : j.val ≤ r.val <;> simp [h, FloatOps.sitofp]

section Pay

variable (h : Vec Ideal S256x2048 .bf16) (w : Vec Ideal S128x2048 .bf16) (b p : Vec Ideal S1x128 .f32) (r : Fin 256) (l : Fin 128)

theorem pay3 : k0_pay3 (F := Ideal) h w b (ix2 r l) = (∑ k : Fin 2048, h (ix2 r k) * w (ix2 l k)) + b (ix2 0 l) := by
  unfold k0_pay3
  pointwise []
theorem pay4 : k0_pay4 (F := Ideal) h w b p (ix2 r l)
    = (∑ j : Fin 256, if j.val ≤ r.val then logSig (k0_pay3 (F := Ideal) h w b (ix2 j l)) else 0) + p (ix2 0 l) := by
  unfold k0_pay4
  generalize k0_pay3 (F := Ideal) h w b = z
  pointwise []
  refine congrArg₂ (· + ·) (Finset.sum_congr rfl fun j _ => ?_) rfl
  rw [tri_eq, ite_mul, one_mul, zero_mul]
  rfl
theorem pay5 : k0_pay1 (F := Ideal) (k0_pay5 (F := Ideal) h w b p) (ix2 0 l) = k0_pay4 (F := Ideal) h w b p (ix2 255 l) := by
  unfold k0_pay1 k0_pay5
  generalize k0_pay4 (F := Ideal) h w b p = z
  pointwise []

end Pay

/-- The rectangle of the scratch buffer's first row. -/
abbrev row0 : Rect S8x128 := Rect.unit (s := S8x128) ![0, 0] S1x128.size inb_S8x128_S1x128_0_0

theorem row0_emb (l : Fin 128) : row0.emb (ix2 (0 : Fin 1) l : S1x128.Idx) = (ix2 (0 : Fin 8) l : S8x128.Idx) := by
  funext a
  refine Fin.ext ?_
  rw [Rect.emb_apply]
  match a with
  | ⟨0, _⟩ => rfl
  | ⟨1, _⟩ => show 0 + 1 * l.val = l.val; omega
theorem ld_row0 (X : Vec Ideal S8x128 .f32) (l : Fin 128) : View.ld X row0 (ix2 0 l : S1x128.Idx) = X (ix2 0 l) := by
  refine congrArg X (funext fun a => Fin.ext ?_)
  match a with
  | ⟨0, _⟩ => rfl
  | ⟨1, _⟩ => show 0 + 1 * l.val = l.val; omega

/-- What the body leaves in the logits' block. -/
theorem z_pay (t : Fin cfg0.N) (r : Fin 256) (l : Fin 128) :
    k0_pay3 (F := Ideal) (iblk m c 0 t) (iblk m c 1 t) (iblk m c 2 t) (ix2 r l) = logit (H m c) (W m c) (B m c) (tok t r) l := by
  rw [pay3, blk_b, V_b]
  unfold logit
  by_cases hl : l.val < 16
  · rw [dif_pos hl, dif_pos hl]
    refine congrArg₂ (· + ·) (Finset.sum_congr rfl fun k _ => ?_) rfl
    rw [blk_h, blk_w, V_w, dif_pos hl]
  · rw [dif_neg hl, dif_neg hl, add_zero]
    refine Finset.sum_eq_zero fun k _ => ?_
    rw [blk_w, V_w, dif_neg hl, mul_zero]
theorem left3 (t : Fin cfg0.N) (r : Fin 256) (l : Fin 128) :
    (outsAt0 m c t.val t.isLt).1 (ix2 r l) = logit (H m c) (W m c) (B m c) (tok t r) l := by
  by_cases h : t.val % 16 = 0
  · rw [outsAt0_A m c t h]
    dsimp only
    frame_out
    exact z_pay m c t r l
  · rw [outsAt0_B m c t h]
    dsimp only
    frame_out
    exact z_pay m c t r l

/-- The running sum of a block's row, from the row carried into the block. -/
theorem step (t : Fin cfg0.N) (p : Vec Ideal S1x128 .f32) (r : Fin 256) (l : Fin 128)
    (h : p (ix2 0 l) = upto (column (H m c) (W m c) (B m c) l) (t.val * 256)) :
    k0_pay4 (F := Ideal) (iblk m c 0 t) (iblk m c 1 t) (iblk m c 2 t) p (ix2 r l) = total (H m c) (W m c) (B m c) (tok t r) l := by
  rw [pay4, h]
  unfold total
  rw [Cert.Suffix.upto_block (B := 256) _ t.val r.val r.isLt]
  refine congrArg₂ (· + ·) (Finset.sum_congr rfl fun j _ => ?_) rfl
  rw [z_pay]
  unfold ext
  rw [dif_pos (tok t j).isLt]
  rfl

/-- What a point leaves in the sums' block and in the carried row, from what the point before carried. -/
theorem sums_first (t : Fin cfg0.N) (h : t.val = 0) (l : Fin 128) :
    (∀ r, (outsAt0 m c t.val t.isLt).2.1 (ix2 r l) = total (H m c) (W m c) (B m c) (tok t r) l)
    ∧ (outsAt0 m c t.val t.isLt).2.2 (ix2 0 l) = total (H m c) (W m c) (B m c) (tok t 255) l := by
  have hz : (View.ld (k0_pay2 (F := Ideal)) row0 : Vec Ideal S1x128 .f32) (ix2 0 l : S1x128.Idx) = upto (column (H m c) (W m c) (B m c) l) (t.val * 256) := by
    rw [ld_row0, h]
    unfold upto
    rw [Nat.zero_mul, Finset.sum_range_zero]
    pointwise [k0_pay2]
  rw [outsAt0_A m c t (by omega)]
  dsimp only
  constructor
  · intro r
    frame_out
    rw [View.readCov_fill _ _ _ _ _ (by decide)]
    exact step m c t _ r l hz
  · frame_out
    rw [View.readCov_fill _ _ _ _ _ (by decide), ← row0_emb]
    refine (View.canon_cons_emb row0 _ _ _).trans ?_
    rw [pay5]
    exact step m c t _ 255 l hz
theorem sums_next (t : Fin cfg0.N) (h : ¬ t.val % 16 = 0) (l : Fin 128)
    (ih : (outsAt0 m c (t.val - 1) (Nat.lt_of_le_of_lt (Nat.sub_le _ _) t.isLt)).2.2 (ix2 0 l) = upto (column (H m c) (W m c) (B m c) l) (t.val * 256)) :
    (∀ r, (outsAt0 m c t.val t.isLt).2.1 (ix2 r l) = total (H m c) (W m c) (B m c) (tok t r) l)
    ∧ (outsAt0 m c t.val t.isLt).2.2 (ix2 0 l) = total (H m c) (W m c) (B m c) (tok t 255) l := by
  rw [outsAt0_B m c t h]
  generalize (outsAt0 m c (t.val - 1) (Nat.lt_of_le_of_lt (Nat.sub_le _ _) t.isLt)).2.2 = x at ih ⊢
  have e := Memref.IsWhole.read_unread (Memref.isWhole_whole cc0_scratch0) x
  dsimp only
  constructor
  · intro r
    frame_out
    refine step m c t _ r l ?_
    rw [ld_row0]
    exact (congrFun e _).trans ih
  · frame_out
    rw [Stores.read_one, ← row0_emb]
    refine (Rect.overlay_emb row0 _ _ _).trans ?_
    rw [pay5]
    refine step m c t _ 255 l ?_
    rw [ld_row0]
    exact (congrFun e _).trans ih

/-- So at every point. -/
theorem sums (l : Fin 128) : ∀ n (h : n < cfg0.N),
    (∀ r, (outsAt0 m c n h).2.1 (ix2 r l) = total (H m c) (W m c) (B m c) (tok ⟨n, h⟩ r) l)
    ∧ (outsAt0 m c n h).2.2 (ix2 0 l) = total (H m c) (W m c) (B m c) (tok ⟨n, h⟩ 255) l := by
  intro n
  induction n with
  | zero => exact fun h => sums_first m c ⟨0, h⟩ rfl l
  | succ n ih =>
    intro h
    have hN : cfg0.N = 16 := N_0
    refine sums_next m c ⟨n + 1, h⟩ (by show ¬ (n + 1) % 16 = 0; omega) l ?_
    refine (ih (Nat.lt_of_succ_lt h)).2.trans ?_
    unfold total
    refine congrArg (upto _) ?_
    show n * 256 + 255 + 1 = (n + 1) * 256
    omega

/-- The two result arrays of the kernel. -/
theorem final3 : (dats m 0 c).arrAt 3 cfg0.N = fun i : S4096x128.Idx => logit (H m c) (W m c) (B m c) (i 0) (i 1) := by
  refine (dats m 0 c).arrAt_eq_of_covers 3 _ (by decide +kernel) fun t hf y => ?_
  revert y
  intro (y : S256x128.Idx)
  obtain ⟨r, l, rfl⟩ : ∃ r l, y = ix2 r l := ⟨y 0, y 1, eq_ix2 y⟩
  rw [emb3, after0_3]
  have h := left3 m c t r l
  generalize (outsAt0 m c t.val t.isLt).1 = a at h ⊢
  show a (ix2 r l) = logit (H m c) (W m c) (B m c) (tok t r) l
  exact h
theorem final4 : (dats m 0 c).arrAt 4 cfg0.N = fun i : S4096x128.Idx => total (H m c) (W m c) (B m c) (i 0) (i 1) := by
  refine (dats m 0 c).arrAt_eq_of_covers 4 _ (by decide +kernel) fun t hf y => ?_
  revert y
  intro (y : S256x128.Idx)
  obtain ⟨r, l, rfl⟩ : ∃ r l, y = ix2 r l := ⟨y 0, y 1, eq_ix2 y⟩
  rw [emb4, after0_4]
  have h := (sums m c l t.val t.isLt).1 r
  generalize (outsAt0 m c t.val t.isLt).2.1 = a at h ⊢
  show a (ix2 r l) = total (H m c) (W m c) (B m c) (tok t r) l
  exact h

end Cert.GateFwdIdeal.RefValue

end
-- ==== Proof.GateFwdClaim.lean ====
/- The claim about the forget gate's forward call: kernel and reference end with the same logits and the same running sum. -/
module

public import proofs.«01_k».proof.Defs
public import proofs.«01_k».proof.Proof.Gen.GateFwd.Frame
public import proofs.«01_k».proof.Proof.Gen.GateFwd
public import proofs.«01_k».proof.Proof.Gen.GateFwdIdeal
public import proofs.«01_k».proof.Proof.Gen.GateFwdRefIdeal
public import proofs.«01_k».proof.Proof.Gen.GateFwdRefIdeal.Run
public import proofs.«01_k».proof.Proof.Gen.GateFwdRefIdeal.Read
public import proofs.«01_k».proof.Proof.Scalars
public import proofs.«01_k».proof.Proof.GateFwdKernel

@[expose] public section

set_option maxRecDepth 131072

noncomputable section

namespace Cert.GateFwdClaim

open Idealize.ShloMosaic Idealize.SL.Sem Cert.GateFwdIdeal.RefValue
open Cert.GateFwdRefIdeal Cert.GateFwdRefIdeal.Gen Cert.GateFwdRefIdeal.Read
open Cert.Scalars (softplus)

variable (h : Input) (w : Weight) (b : Bias)

/-- The two results as arrays. -/
def out0 : Out := fun i => logit h w b (i 0) (i 1)
def out1 : Out := fun i => total h w b (i 0) (i 1)

/-- The log-sigmoid as the negative of the softplus of the negation; an infinite logit takes the limit. -/
theorem logSig_eq (x : EReal) : -softplus (-x) = logSig x := by
  unfold logSig
  induction x using EReal.rec with
  | bot =>
    rw [EReal.neg_bot, Scalars.softplus_top, EReal.neg_top, max_eq_right bot_le, min_eq_left bot_le, zero_sub, EReal.neg_top, Scalars.exp_bot, add_zero,
      ← EReal.coe_one, Scalars.log_coe one_pos]
    exact (EReal.bot_sub _).symm
  | top =>
    rw [EReal.neg_top, Scalars.softplus_bot, max_eq_left bot_le, min_eq_right le_top, zero_sub, zero_sub, EReal.neg_top, Scalars.exp_bot, add_zero,
      ← EReal.coe_one, Scalars.log_coe one_pos, Real.log_one, EReal.coe_zero]
  | coe y =>
    have h1 : (0 : ℝ) < 1 + Real.exp (-max y (-y)) := by positivity
    have h2 : min (y : EReal) 0 = (min y 0 : ℝ) := by rw [← EReal.coe_zero]; exact (EReal.coe_strictMono.monotone.map_min).symm
    rw [← EReal.coe_neg, Scalars.softplus_coe, ← EReal.coe_neg, h2, Scalars.coe_max, zero_sub, ← EReal.coe_neg, Scalars.exp_coe, ← EReal.coe_one, ← EReal.coe_add,
      Scalars.log_coe h1, ← EReal.coe_sub]
    refine congrArg _ ?_
    rw [neg_neg, max_comm (-y) y, neg_add, ← min_neg_neg, neg_neg, neg_zero, sub_eq_add_neg]

theorem logit_apply (s : Fin 4096) (l : Fin 128) : val_main_v5 (F := Ideal) h w b (ix2 s l) = logit h w b s l := by
  have e : ∀ (s : Fin 4096) (l : Fin 16), val_main_v4 (F := Ideal) h w b (ix2 s l) = (∑ k : Fin 2048, h (ix2 s k) * w (ix2 k l)) + b (ix1 l) := fun s l => by
    pointwise [val_main_v4, val_main_v3, val_main_v2, val_main_v1, val_main_v0]
  unfold val_main_v5
  generalize val_main_v4 (F := Ideal) h w b = g at e ⊢
  pointwise [val_main_call0_v0, val_main_c]
  simp only [e]
  unfold logit
  simp [FloatOps.sitofp]

theorem sig_apply (s : Fin 4096) (l : Fin 128) : val_main_v6 (F := Ideal) h w b (ix2 s l) = column h w b l s := by
  have e := logit_apply h w b s l
  unfold column
  rw [← e, ← logSig_eq]
  unfold val_main_v6 val_main_call1_v1 val_main_call1_call0_v11 val_main_call1_call0_v10 val_main_call1_call0_v9 val_main_call1_call0_v8 val_main_call1_call0_v7 val_main_call1_call0_v6 val_main_call1_call0_v4 val_main_call1_call0_v3 val_main_call1_call0_v1 val_main_call1_v0
  generalize val_main_v5 (F := Ideal) h w b = g
  pointwise [val_main_call1_call0_v0, val_main_call1_call0_v2, val_main_call1_call0_v5, val_main_call1_call0_cst]
  rw [if_neg (by simp)]
  rfl

theorem total_apply (s : Fin 4096) (l : Fin 128) : val_main_v7 (F := Ideal) h w b (ix2 s l) = total h w b s l := by
  have e6 := sig_apply h w b
  unfold val_main_v7
  have h0 : val_main_call2_call0_v0 (F := Ideal) = fun _ => 0 := by
    funext i
    pointwise [val_main_call2_call0_v0, val_main_call2_call0_cst]
  rw [h0]
  generalize val_main_v6 (F := Ideal) h w b = g at e6 ⊢
  have e : ∀ (x : FVec Ideal S4096x128 .f32) (z : FVec Ideal S_ .f32), z (Shape.Idx.first h_S_) = 0 →
      Host.reduceWindowAdd ![4096, 1] ![1, 1] ![4095, 0] ![0, 0] x z reduceWindows_S4096x128_S4096x128_w4096s1p4095_0_w1s1p0_0 h_S_
        = Ideal.hostReduceWindowAdd ![4096, 1] ![1, 1] ![4095, 0] ![0, 0] reduceWindows_S4096x128_S4096x128_w4096s1p4095_0_w1s1p0_0 x 0 := fun x z hz => by
    unfold Host.reduceWindowAdd
    rw [hz, Ideal.hostReduceWindowAdd_def]
  rw [e g (fun _ => 0) rfl]
  rw [Suffix.window_rows_up (R := 4096) (Rm1 := 4095) (C := 128) (by norm_num)]
  simp only [e6]
  rfl

theorem ref0 : val_main_v5 (F := Ideal) h w b = out0 h w b := by
  funext i
  obtain ⟨s, l, rfl⟩ : ∃ (s : Fin 4096) (l : Fin 128), i = ix2 s l := ⟨i 0, i 1, eq_ix2 i⟩
  exact logit_apply h w b s l
theorem ref1 : val_main_v7 (F := Ideal) h w b = out1 h w b := by
  funext i
  obtain ⟨s, l, rfl⟩ : ∃ (s : Fin 4096) (l : Fin 128), i = ix2 s l := ⟨i 0, i 1, eq_ix2 i⟩
  exact total_apply h w b s l

theorem frame_r : Cert.quiescent_GateFwdRefIdeal := fun m ρ _ =>
  (θ_run Cert.GateFwdRefIdeal.defs _ _).mono (fun r h => ⟨fun c => (h c).2.2, sem_eq_zero_of_no_sems (by decide) r.2⟩)
    (Cert.GateFwdRefIdeal.Value.run (F := Ideal) m ρ)

theorem algebraic : Cert.algebraic_GateFwdIdeal_GateFwdRefIdeal := by
  intro m g m' g' _ h
  refine ⟨fun c => out0 (H m c) (W m c) (B m c), fun c => out1 (H m c) (W m c) (B m c),
    (θ_run _ _ _).mono (fun r hr c => ?_) (Cert.GateFwdIdeal.Value.run_blocks m g),
    (θ_run _ _ _).mono (fun r hr c => ?_) (Cert.GateFwdRefIdeal.Value.run m' g')⟩
  · obtain ⟨h0, h1, hk⟩ := hr c
    exact ⟨h0.trans (final3 m c), h1.trans (final4 m c), hk⟩
  · obtain ⟨h0, h1, hk⟩ := hr c
    obtain ⟨a0, a1, a2⟩ := h c
    refine ⟨h0.trans ?_, h1.trans ?_, hk⟩
    · rw [val_main_v5_eq, a0, a1, a2, ref0]
    · rw [val_main_v7_eq, a0, a1, a2, ref1]

end Cert.GateFwdClaim

end
-- ==== Proof.ConvInKernel.lean ====
/- The convolution's input product, the kernel's side: its result array. -/
module

public import proofs.«01_k».proof.Proof.Gen.ConvInIdeal.Value
public import Idealize.ShloMosaic.Lib.Pipeline.ValueKit
public import Idealize.ShloMosaic.Lib.Pointwise

@[expose] public section

set_option maxRecDepth 131072

noncomputable section

namespace Cert.ConvInIdeal.RefValue

open Cert.ConvInIdeal Cert.ConvInIdeal.Gen
open Idealize.ShloMosaic Idealize.ShloMosaic.TcCoe

variable (m : (ℓ : Loc nD τ sig) → Buf (Elt Ideal) ℓ) (c : Dev nD)

abbrev Input : Type := (⟨⟨2, ![4096, 2048]⟩, .bf16⟩ : BufTy).Contents (Elt Ideal)
abbrev Weight : Type := (⟨⟨2, ![2048, 6144]⟩, .f32⟩ : BufTy).Contents (Elt Ideal)
abbrev Out : Type := (⟨⟨2, ![4096, 6144]⟩, .bf16⟩ : BufTy).Contents (Elt Ideal)

/-- The layer's input and the weight as launched. -/
abbrev H : Input := m ((c : Thread nD τ).loc main_arg0)
abbrev W : Weight := m ((c : Thread nD τ).loc main_arg1)

/-- The product's entry of a token and a feature. -/
def entry (h : Input) (w : Weight) (i : Fin 4096) (j : Fin 6144) : EReal := ∑ k : Fin 2048, h (ix2 i k) * w (ix2 k j)

theorem idx : ∀ t : Fin cfg0.N,
    win0_0.index t = ![t.val / 8, 0] ∧ win0_1.index t = ![t.val % 8, 0, 0] ∧ win0_2.index t = ![t.val / 8, t.val % 8] :=
  (by decide +kernel : ∀ t : Fin grid0.N, _)

/-- The token and the feature of a point's block. -/
abbrev tok (t : Fin cfg0.N) (p : Fin 1024) : Fin 4096 :=
  ⟨t.val / 8 * 1024 + p.val, by have := t.isLt; have h : cfg0.N = 32 := N_0; omega⟩
abbrev feat (t : Fin cfg0.N) (q : Fin 768) : Fin 6144 := ⟨t.val % 8 * 768 + q.val, by omega⟩

/-- The host casts the weight, which over the reals changes nothing, and cuts it into eight blocks of columns. -/
theorem V_w : V m c main_v2 = (transpose S8x2048x768 [1, 0, 2]
    (shapeCast S2048x8x768 (truncf .bf16 (W m c) bitsLt_bf16_f32 : FVec Ideal S2048x6144 .bf16) shapeCasts_S2048x6144_S2048x8x768)
      transposes_S2048x8x768_S8x2048x768_1_0_2 : FVec Ideal S8x2048x768 .bf16) := by
  show StableHlo.after hostOps0 (fun b => m (c, b)) (Proc.devRef .tc main_v2) = _
  simp only [hostOps0, StableHlo.TRef.unary, StableHlo.TRef.toBuf, StableHlo.TRef.ofBuf, cast_eq]
  after_results_simp <;> rfl

theorem blk_h (t : Fin cfg0.N) (p : Fin 1024) (k : Fin 2048) : iblk m c 0 t (ix2 p k) = H m c (ix2 (tok t p) k) := by
  have h : V m c main_arg0 = m ((c : Thread nD τ).loc main_arg0) := V_main_arg0 m c
  rw [H, ← h]
  blk_ext [iblk, idx t]
theorem part (w : Weight) (b : Fin 8) (k : Fin 2048) (q : Fin 768) : (transpose S8x2048x768 [1, 0, 2]
    (shapeCast S2048x8x768 (truncf .bf16 w bitsLt_bf16_f32 : FVec Ideal S2048x6144 .bf16) shapeCasts_S2048x6144_S2048x8x768)
      transposes_S2048x8x768_S8x2048x768_1_0_2 : FVec Ideal S8x2048x768 .bf16) (ix3 b k q) = w (ix2 k ⟨b.val * 768 + q.val, by omega⟩) := by
  pointwise []
theorem blk_w (t : Fin cfg0.N) (u : Fin 1) (k : Fin 2048) (q : Fin 768) : iblk m c 1 t (ix3 u k q) = W m c (ix2 k (feat t q)) := by
  have h : iblk m c 1 t (ix3 u k q) = V m c main_v2 (ix3 ⟨t.val % 8, Nat.mod_lt _ (by decide)⟩ k q : S8x2048x768.Idx) := by blk_ext [iblk, idx t]
  rw [h, V_w, part]
theorem emb (t : Fin cfg0.N) (p : Fin 1024) (q : Fin 768) :
    (((cfg0.win 2).blk t).view.emb (ix2 p q : S1024x768.Idx) : S4096x6144.Idx) = ix2 (tok t p) (feat t q) := by
  blk_ext [idx t]

theorem pay (h : Vec Ideal S1024x2048 .bf16) (w : Vec Ideal S1x2048x768 .bf16) (p : Fin 1024) (q : Fin 768) :
    k0_pay1 (F := Ideal) h w (ix2 p q) = ∑ k : Fin 2048, h (ix2 p k) * w (ix3 0 k q) := by
  unfold k0_pay1
  pointwise []

/-- What the body leaves in the result's block. -/
theorem left (t : Fin cfg0.N) (p : Fin 1024) (q : Fin 768) :
    out0_2 (iblk m c 0 t) (iblk m c 1 t) (ix2 p q) = entry (H m c) (W m c) (tok t p) (feat t q) := by
  frame_out
  rw [pay]
  simp only [blk_h, blk_w]
  rfl

/-- The result array of the kernel. -/
theorem final : (dats m 0 c).arrAt 2 cfg0.N = fun i : S4096x6144.Idx => entry (H m c) (W m c) (i 0) (i 1) := by
  refine (dats m 0 c).arrAt_eq_of_covers 2 _ (by decide +kernel) fun t hf y => ?_
  revert y
  intro (y : S1024x768.Idx)
  obtain ⟨p, q, rfl⟩ : ∃ p q, y = ix2 p q := ⟨y 0, y 1, eq_ix2 y⟩
  rw [emb, after0_2]
  have h := left m c t p q
  generalize out0_2 (iblk m c 0 t) (iblk m c 1 t) = a at h ⊢
  show a (ix2 p q) = entry (H m c) (W m c) (tok t p) (feat t q)
  exact h

end Cert.ConvInIdeal.RefValue

end
-- ==== Proof.ConvInClaim.lean ====
/- The claim about the convolution's input product: kernel and reference end with the same array. -/
module

public import proofs.«01_k».proof.Defs
public import proofs.«01_k».proof.Proof.Gen.ConvIn.Frame
public import proofs.«01_k».proof.Proof.Gen.ConvIn
public import proofs.«01_k».proof.Proof.Gen.ConvInIdeal
public import proofs.«01_k».proof.Proof.Gen.ConvInRefIdeal
public import proofs.«01_k».proof.Proof.Gen.ConvInRefIdeal.Run
public import proofs.«01_k».proof.Proof.Gen.ConvInRefIdeal.Read
public import proofs.«01_k».proof.Proof.ConvInKernel

@[expose] public section

set_option maxRecDepth 131072

noncomputable section

namespace Cert.ConvInClaim

open Idealize.ShloMosaic Idealize.SL.Sem Cert.ConvInIdeal.RefValue
open Cert.ConvInRefIdeal.Read

/-- The result as an array. -/
def out (x : Input) (y : Weight) : Out := fun i => entry x y (i 0) (i 1)

theorem ref (x : Input) (y : Weight) : val_main_v2 (F := Ideal) x y = out x y := by
  funext i
  obtain ⟨p, q, rfl⟩ : ∃ p q, i = ix2 p q := ⟨i 0, i 1, eq_ix2 i⟩
  unfold val_main_v2 val_main_v1
  pointwise [val_main_v0]
  rfl

theorem frame_r : Cert.quiescent_ConvInRefIdeal := fun m ρ _ =>
  (θ_run Cert.ConvInRefIdeal.defs _ _).mono (fun r h => ⟨fun c => (h c).2, sem_eq_zero_of_no_sems (by decide) r.2⟩)
    (Cert.ConvInRefIdeal.Value.run (F := Ideal) m ρ)

theorem algebraic : Cert.algebraic_ConvInIdeal_ConvInRefIdeal := by
  intro m g m' g' _ h
  refine ⟨fun c => out (H m c) (W m c), (θ_run _ _ _).mono (fun r hr c => ?_) (Cert.ConvInIdeal.Value.run_blocks m g),
    (θ_run _ _ _).mono (fun r hr c => ?_) (Cert.ConvInRefIdeal.Value.run m' g')⟩
  · obtain ⟨h0, hk⟩ := hr c
    exact ⟨h0.trans (final m c), hk⟩
  · obtain ⟨h0, hk⟩ := hr c
    obtain ⟨a0, a1⟩ := h c
    refine ⟨h0.trans ?_, hk⟩
    rw [val_main_v2_eq, a0, a1, ref]

end Cert.ConvInClaim

end
-- ==== Proof.UpDxKernel.lean ====
/- The up projection's gradient for its rows, the kernel's side: the products of two blocks of the hidden features are summed in
   a scratch buffer, and the second point of a block writes the result. -/
module

public import proofs.«01_k».proof.Proof.Gen.UpDxIdeal.Value
public import proofs.«01_k».proof.Proof.Suffix
public import proofs.«01_k».proof.Proof.Rows

@[expose] public section

set_option maxRecDepth 131072

noncomputable section

namespace Cert.UpDxIdeal.RefValue

open Cert.UpDxIdeal Cert.UpDxIdeal.Gen
open Idealize.ShloMosaic Idealize.ShloMosaic.TcCoe

variable (m : (ℓ : Loc nD τ sig) → Buf (Elt Ideal) ℓ) (c : Dev nD)

open Cert.Suffix (ext)

abbrev Cot : Type := (⟨⟨2, ![4096, 8192]⟩, .bf16⟩ : BufTy).Contents (Elt Ideal)
abbrev Weight : Type := (⟨⟨2, ![2048, 8192]⟩, .f32⟩ : BufTy).Contents (Elt Ideal)
abbrev Out : Type := (⟨⟨2, ![4096, 2048]⟩, .bf16⟩ : BufTy).Contents (Elt Ideal)

/-- The hidden features' cotangent and the up projection's weight as launched. -/
abbrev U : Cot := m ((c : Thread nD τ).loc main_arg0)
abbrev W : Weight := m ((c : Thread nD τ).loc main_arg1)

/-- One product of an entry's sum, the entry, and the part of it over a block of the hidden features. -/
def term (u : Cot) (w : Weight) (i : Fin 4096) (j : Fin 2048) (k : Fin 8192) : EReal := u (ix2 i k) * w (ix2 j k)
def entry (u : Cot) (w : Weight) (i : Fin 4096) (j : Fin 2048) : EReal := ∑ k, term u w i j k
def part (u : Cot) (w : Weight) (i : Fin 4096) (j : Fin 2048) (s : ℕ) : EReal := ∑ k : Fin 4096, ext (term u w i j) (s * 4096 + k.val)

theorem idx : ∀ t : Fin cfg0.N,
    win0_0.index t = ![t.val / 4, t.val % 2] ∧ win0_1.index t = ![t.val / 2 % 2, t.val % 2] ∧ win0_2.index t = ![t.val / 4, t.val / 2 % 2] :=
  (by decide +kernel : ∀ t : Fin grid0.N, _)

/-- The token, the feature and the hidden feature of a point's blocks. -/
abbrev tok (t : Fin cfg0.N) (p : Fin 1024) : Fin 4096 :=
  ⟨t.val / 4 * 1024 + p.val, by have := t.isLt; have h : cfg0.N = 16 := N_0; omega⟩
abbrev feat (t : Fin cfg0.N) (q : Fin 1024) : Fin 2048 := ⟨t.val / 2 % 2 * 1024 + q.val, by omega⟩
abbrev hid (t : Fin cfg0.N) (k : Fin 4096) : Fin 8192 := ⟨t.val % 2 * 4096 + k.val, by omega⟩

/-- The host casts the weight, which over the reals changes nothing. -/
theorem V_w : V m c main_v0 = (truncf .bf16 (W m c) bitsLt_bf16_f32 : FVec Ideal S2048x8192 .bf16) := by
  show StableHlo.after hostOps0 (fun b => m (c, b)) (Proc.devRef .tc main_v0) = _
  simp only [hostOps0, StableHlo.TRef.unary, StableHlo.TRef.toBuf, StableHlo.TRef.ofBuf, cast_eq]
  after_results_simp <;> rfl

theorem blk_u (t : Fin cfg0.N) (p : Fin 1024) (k : Fin 4096) : iblk m c 0 t (ix2 p k) = U m c (ix2 (tok t p) (hid t k)) := by
  have h : V m c main_arg0 = m ((c : Thread nD τ).loc main_arg0) := V_main_arg0 m c
  rw [U, ← h]
  blk_ext [iblk, idx t]
theorem blk_w (t : Fin cfg0.N) (q : Fin 1024) (k : Fin 4096) : iblk m c 1 t (ix2 q k) = W m c (ix2 (feat t q) (hid t k)) := by
  have h : iblk m c 1 t (ix2 q k) = V m c main_v0 (ix2 (feat t q) (hid t k) : S2048x8192.Idx) := by blk_ext [iblk, idx t]
  rw [h, V_w]
  pointwise []
theorem emb (t : Fin cfg0.N) (p q : Fin 1024) :
    (((cfg0.win 2).blk t).view.emb (ix2 p q : S1024x1024.Idx) : S4096x2048.Idx) = ix2 (tok t p) (feat t q) := by
  blk_ext [idx t]

section Pay

variable (u w : Vec Ideal S1024x4096 .bf16) (a : Vec Ideal S1024x1024 .f32) (p q : Fin 1024)

theorem pay1 : k0_pay1 (F := Ideal) u w (ix2 p q) = ∑ k : Fin 4096, u (ix2 p k) * w (ix2 q k) := by
  unfold k0_pay1
  pointwise []
theorem pay2 : k0_pay2 (F := Ideal) u w (ix2 p q) = k0_pay1 (F := Ideal) u w (ix2 p q) := by
  unfold k0_pay2
  generalize k0_pay1 (F := Ideal) u w = b
  pointwise []
theorem pay3 : k0_pay3 (F := Ideal) u w a (ix2 p q) = a (ix2 p q) + k0_pay1 (F := Ideal) u w (ix2 p q) := by
  unfold k0_pay3
  generalize k0_pay1 (F := Ideal) u w = b
  pointwise []
theorem pay4 : k0_pay4 (F := Ideal) a (ix2 p q) = a (ix2 p q) := by
  unfold k0_pay4
  pointwise []

end Pay

/-- A point's product is the part of the sum its block of hidden features gives. -/
theorem product (t : Fin cfg0.N) (p q : Fin 1024) :
    k0_pay1 (F := Ideal) (iblk m c 0 t) (iblk m c 1 t) (ix2 p q) = part (U m c) (W m c) (tok t p) (feat t q) (t.val % 2) := by
  rw [pay1]
  unfold part
  refine Finset.sum_congr rfl fun k _ => ?_
  rw [blk_u, blk_w]
  unfold ext
  rw [dif_pos (hid t k).isLt]
  rfl

/-- What the scratch buffer holds after the first point of a block, and after the second. -/
theorem first (t : Fin cfg0.N) (h : t.val % 2 = 0) (p q : Fin 1024) : (outsAt0 m c t.val t.isLt).2 (ix2 p q)
    = part (U m c) (W m c) (tok t p) (feat t q) 0 := by
  rw [outsAt0_A m c t h (by omega) (by omega)]
  dsimp only
  frame_out
  rw [pay2, product, h]
theorem full (t : Fin cfg0.N) (h : t.val % 2 = 1) (p q : Fin 1024) :
    (outsAt0 m c t.val t.isLt).2 (ix2 p q) = entry (U m c) (W m c) (tok t p) (feat t q) := by
  have hN : cfg0.N = 16 := N_0
  have ht := t.isLt
  have f := first m c ⟨t.val - 1, by omega⟩ (by show (t.val - 1) % 2 = 0; omega) p q
  rw [show tok ⟨t.val - 1, by omega⟩ p = tok t p from Fin.ext (by show (t.val - 1) / 4 * 1024 + p.val = t.val / 4 * 1024 + p.val; omega),
    show feat ⟨t.val - 1, by omega⟩ q = feat t q from Fin.ext (by show (t.val - 1) / 2 % 2 * 1024 + q.val = t.val / 2 % 2 * 1024 + q.val; omega)] at f
  rw [outsAt0_B m c t (by omega) (by omega) h]
  dsimp only
  frame_out
  rw [pay3, product, h]
  refine (congrArg₂ (fun a b : EReal => a + b) ((congrFun (Memref.IsWhole.read_unread (Memref.isWhole_whole cc0_scratch0) _) _).trans f) rfl).trans ?_
  refine Eq.trans ?_ (Cert.Suffix.sum_blocks (B := 4096) (term (U m c) (W m c) (tok t p) (feat t q)) 2 rfl).symm
  rw [Finset.sum_range_succ, Finset.sum_range_one]
  rfl

/-- What the second point leaves in the result's block. -/
theorem left (t : Fin cfg0.N) (h : t.val % 2 = 1) (p q : Fin 1024) :
    (outsAt0 m c t.val t.isLt).1 (ix2 p q) = entry (U m c) (W m c) (tok t p) (feat t q) := by
  have hf := full m c t h p q
  rw [outsAt0_B m c t (by omega) (by omega) h] at hf ⊢
  dsimp only at hf ⊢
  revert hf
  frame_out
  intro hf
  rw [pay4, hf]

/-- The result array of the kernel. -/
theorem final : (dats m 0 c).arrAt 2 cfg0.N = fun i : S4096x2048.Idx => entry (U m c) (W m c) (i 0) (i 1) := by
  refine (dats m 0 c).arrAt_eq_of_covers 2 _ (by decide +kernel) fun t hf y => ?_
  revert y
  intro (y : S1024x1024.Idx)
  obtain ⟨p, q, rfl⟩ : ∃ p q, y = ix2 p q := ⟨y 0, y 1, eq_ix2 y⟩
  rw [emb, after0_2]
  have h := left m c t ((flush0_2 t).mp hf) p q
  generalize (outsAt0 m c t.val t.isLt).1 = a at h ⊢
  show a (ix2 p q) = entry (U m c) (W m c) (tok t p) (feat t q)
  exact h

end Cert.UpDxIdeal.RefValue

end
-- ==== Proof.UpDxClaim.lean ====
/- The claim about the up projection's gradient for its rows: kernel and reference end with the same array. -/
module

public import proofs.«01_k».proof.Defs
public import proofs.«01_k».proof.Proof.Gen.UpDx.Frame
public import proofs.«01_k».proof.Proof.Gen.UpDx
public import proofs.«01_k».proof.Proof.Gen.UpDxIdeal
public import proofs.«01_k».proof.Proof.Gen.UpDxRefIdeal
public import proofs.«01_k».proof.Proof.Gen.UpDxRefIdeal.Run
public import proofs.«01_k».proof.Proof.Gen.UpDxRefIdeal.Read
public import proofs.«01_k».proof.Proof.UpDxKernel

@[expose] public section

set_option maxRecDepth 131072

noncomputable section

namespace Cert.UpDxClaim

open Idealize.ShloMosaic Idealize.SL.Sem Cert.UpDxIdeal.RefValue
open Cert.UpDxRefIdeal.Read

/-- The result as an array. -/
def out (x : Cot) (y : Weight) : Out := fun i => entry x y (i 0) (i 1)

theorem ref (x : Cot) (y : Weight) : val_main_v5 (F := Ideal) x y = out x y := by
  funext i
  obtain ⟨p, q, rfl⟩ : ∃ p q, i = ix2 p q := ⟨i 0, i 1, eq_ix2 i⟩
  unfold val_main_v5 val_main_v4
  pointwise [val_main_v3]
  rfl

theorem frame_r : Cert.quiescent_UpDxRefIdeal := fun m ρ _ =>
  (θ_run Cert.UpDxRefIdeal.defs _ _).mono (fun r h => ⟨fun c => (h c).2, sem_eq_zero_of_no_sems (by decide) r.2⟩)
    (Cert.UpDxRefIdeal.Value.run (F := Ideal) m ρ)

theorem algebraic : Cert.algebraic_UpDxIdeal_UpDxRefIdeal := by
  intro m g m' g' _ h
  refine ⟨fun c => out (U m c) (W m c), (θ_run _ _ _).mono (fun r hr c => ?_) (Cert.UpDxIdeal.Value.run_blocks m g),
    (θ_run _ _ _).mono (fun r hr c => ?_) (Cert.UpDxRefIdeal.Value.run m' g')⟩
  · obtain ⟨h0, hk⟩ := hr c
    exact ⟨h0.trans (final m c), hk⟩
  · obtain ⟨h0, hk⟩ := hr c
    obtain ⟨a0, a1⟩ := h c
    refine ⟨h0.trans ?_, hk⟩
    rw [val_main_v5_eq, a0, a1, ref]

end Cert.UpDxClaim

end
-- ==== Proof.DownDwKernel.lean ====
/- The down projection's gradient for its weight, the kernel's side: its result array. -/
module

public import proofs.«01_k».proof.Proof.Gen.DownDwIdeal.Value
public import Idealize.ShloMosaic.Lib.Pipeline.ValueKit
public import Idealize.ShloMosaic.Lib.Pointwise

@[expose] public section

set_option maxRecDepth 131072

noncomputable section

namespace Cert.DownDwIdeal.RefValue

open Cert.DownDwIdeal Cert.DownDwIdeal.Gen
open Idealize.ShloMosaic Idealize.ShloMosaic.TcCoe

variable (m : (ℓ : Loc nD τ sig) → Buf (Elt Ideal) ℓ) (c : Dev nD)

abbrev Hidden : Type := (⟨⟨2, ![4096, 8192]⟩, .bf16⟩ : BufTy).Contents (Elt Ideal)
abbrev Cot : Type := (⟨⟨2, ![4096, 2048]⟩, .bf16⟩ : BufTy).Contents (Elt Ideal)
abbrev Out : Type := (⟨⟨2, ![8192, 2048]⟩, .bf16⟩ : BufTy).Contents (Elt Ideal)

/-- The active values and the branch's cotangent as launched. -/
abbrev A : Hidden := m ((c : Thread nD τ).loc main_arg0)
abbrev Y : Cot := m ((c : Thread nD τ).loc main_arg1)

/-- The gradient's entry: the sum over the tokens. -/
def entry (a : Hidden) (y : Cot) (i : Fin 8192) (j : Fin 2048) : EReal := ∑ s : Fin 4096, a (ix2 s i) * y (ix2 s j)

theorem idx : ∀ t : Fin cfg0.N,
    win0_0.index t = ![0, t.val / 2] ∧ win0_1.index t = ![0, t.val % 2] ∧ win0_2.index t = ![t.val / 2, t.val % 2] :=
  (by decide +kernel : ∀ t : Fin grid0.N, _)

/-- The weight's row and column of a point's block. -/
abbrev tok (t : Fin cfg0.N) (p : Fin 1024) : Fin 8192 :=
  ⟨t.val / 2 * 1024 + p.val, by have := t.isLt; have h : cfg0.N = 16 := N_0; omega⟩
abbrev feat (t : Fin cfg0.N) (q : Fin 1024) : Fin 2048 := ⟨t.val % 2 * 1024 + q.val, by omega⟩

theorem blk_a (t : Fin cfg0.N) (s : Fin 4096) (p : Fin 1024) : iblk m c 0 t (ix2 s p) = A m c (ix2 s (tok t p)) := by
  have h : V m c main_arg0 = m ((c : Thread nD τ).loc main_arg0) := V_main_arg0 m c
  rw [A, ← h]
  blk_ext [iblk, idx t]
theorem blk_y (t : Fin cfg0.N) (s : Fin 4096) (q : Fin 1024) : iblk m c 1 t (ix2 s q) = Y m c (ix2 s (feat t q)) := by
  have h : V m c main_arg1 = m ((c : Thread nD τ).loc main_arg1) := V_main_arg1 m c
  rw [Y, ← h]
  blk_ext [iblk, idx t]
theorem emb (t : Fin cfg0.N) (p q : Fin 1024) :
    (((cfg0.win 2).blk t).view.emb (ix2 p q : S1024x1024.Idx) : S8192x2048.Idx) = ix2 (tok t p) (feat t q) := by
  blk_ext [idx t]

theorem pay (a y : Vec Ideal S4096x1024 .bf16) (p q : Fin 1024) :
    k0_pay1 (F := Ideal) a y (ix2 p q) = ∑ s : Fin 4096, a (ix2 s p) * y (ix2 s q) := by
  unfold k0_pay1
  pointwise []

/-- What the body leaves in the result's block. -/
theorem left (t : Fin cfg0.N) (p q : Fin 1024) :
    out0_2 (iblk m c 0 t) (iblk m c 1 t) (ix2 p q) = entry (A m c) (Y m c) (tok t p) (feat t q) := by
  frame_out
  rw [pay]
  simp only [blk_a, blk_y]
  rfl

/-- The result array of the kernel. -/
theorem final : (dats m 0 c).arrAt 2 cfg0.N = fun i : S8192x2048.Idx => entry (A m c) (Y m c) (i 0) (i 1) := by
  refine (dats m 0 c).arrAt_eq_of_covers 2 _ (by decide +kernel) fun t hf y => ?_
  revert y
  intro (y : S1024x1024.Idx)
  obtain ⟨p, q, rfl⟩ : ∃ p q, y = ix2 p q := ⟨y 0, y 1, eq_ix2 y⟩
  rw [emb, after0_2]
  have h := left m c t p q
  generalize out0_2 (iblk m c 0 t) (iblk m c 1 t) = a at h ⊢
  show a (ix2 p q) = entry (A m c) (Y m c) (tok t p) (feat t q)
  exact h

end Cert.DownDwIdeal.RefValue

end
-- ==== Proof.DownDwClaim.lean ====
/- The claim about the down projection's gradient for its weight: kernel and reference end with the same array. -/
module

public import proofs.«01_k».proof.Defs
public import proofs.«01_k».proof.Proof.Gen.DownDw.Frame
public import proofs.«01_k».proof.Proof.Gen.DownDw
public import proofs.«01_k».proof.Proof.Gen.DownDwIdeal
public import proofs.«01_k».proof.Proof.Gen.DownDwRefIdeal
public import proofs.«01_k».proof.Proof.Gen.DownDwRefIdeal.Run
public import proofs.«01_k».proof.Proof.Gen.DownDwRefIdeal.Read
public import proofs.«01_k».proof.Proof.DownDwKernel

@[expose] public section

set_option maxRecDepth 131072

noncomputable section

namespace Cert.DownDwClaim

open Idealize.ShloMosaic Idealize.SL.Sem Cert.DownDwIdeal.RefValue
open Cert.DownDwRefIdeal.Read

/-- The result as an array. -/
def out (x : Hidden) (y : Cot) : Out := fun i => entry x y (i 0) (i 1)

theorem ref (x : Hidden) (y : Cot) : val_main_v6 (F := Ideal) x y = out x y := by
  funext i
  obtain ⟨p, q, rfl⟩ : ∃ p q, i = ix2 p q := ⟨i 0, i 1, eq_ix2 i⟩
  unfold val_main_v6 val_main_v5 val_main_v4
  pointwise [val_main_v3, val_main_v1]
  exact Finset.sum_congr rfl fun s _ => mul_comm _ _

theorem frame_r : Cert.quiescent_DownDwRefIdeal := fun m ρ _ =>
  (θ_run Cert.DownDwRefIdeal.defs _ _).mono (fun r h => ⟨fun c => (h c).2, sem_eq_zero_of_no_sems (by decide) r.2⟩)
    (Cert.DownDwRefIdeal.Value.run (F := Ideal) m ρ)

theorem algebraic : Cert.algebraic_DownDwIdeal_DownDwRefIdeal := by
  intro m g m' g' _ h
  refine ⟨fun c => out (A m c) (Y m c), (θ_run _ _ _).mono (fun r hr c => ?_) (Cert.DownDwIdeal.Value.run_blocks m g),
    (θ_run _ _ _).mono (fun r hr c => ?_) (Cert.DownDwRefIdeal.Value.run m' g')⟩
  · obtain ⟨h0, hk⟩ := hr c
    exact ⟨h0.trans (final m c), hk⟩
  · obtain ⟨h0, hk⟩ := hr c
    obtain ⟨a0, a1⟩ := h c
    refine ⟨h0.trans ?_, hk⟩
    rw [val_main_v6_eq, a0, a1, ref]

end Cert.DownDwClaim

end
-- ==== Proof.FoxDxKernel.lean ====
/- The attention's input product, its gradient for the rows, the kernel's side: the products of the three parts of the cotangent
   with their rows of the transposed weight are summed in a scratch buffer, and the third point of a block adds the forget
   gate's gradient. -/
module

public import proofs.«01_k».proof.Proof.Gen.FoxDxIdeal.Value
public import proofs.«01_k».proof.Proof.Suffix
public import proofs.«01_k».proof.Proof.Rows

@[expose] public section

set_option maxRecDepth 131072

noncomputable section

namespace Cert.FoxDxIdeal.RefValue

open Cert.FoxDxIdeal Cert.FoxDxIdeal.Gen
open Idealize.ShloMosaic Idealize.ShloMosaic.TcCoe
open Cert.Suffix (ext)

variable (m : (ℓ : Loc nD τ sig) → Buf (Elt Ideal) ℓ) (c : Dev nD)

abbrev Cot : Type := (⟨⟨3, ![3, 4096, 2048]⟩, .bf16⟩ : BufTy).Contents (Elt Ideal)
abbrev Weight : Type := (⟨⟨2, ![2048, 6160]⟩, .f32⟩ : BufTy).Contents (Elt Ideal)
abbrev Rows : Type := (⟨⟨2, ![4096, 2048]⟩, .f32⟩ : BufTy).Contents (Elt Ideal)
abbrev Out : Type := (⟨⟨2, ![4096, 2048]⟩, .bf16⟩ : BufTy).Contents (Elt Ideal)

/-- The arguments as launched: the cotangents of q, k and v, the weight, the forget gate's gradient. -/
abbrev H : Cot := m ((c : Thread nD τ).loc main_arg0)
abbrev W : Weight := m ((c : Thread nD τ).loc main_arg1)
abbrev X : Rows := m ((c : Thread nD τ).loc main_arg2)

/-- One product of an entry's sum, the sum, and the entry with the gate's gradient. -/
def term (h : Cot) (w : Weight) (i : Fin 4096) (j : Fin 2048) (k : Fin 6144) : EReal :=
  h (ix3 (⟨k.val / 2048, by omega⟩ : Fin 3) i (⟨k.val % 2048, by omega⟩ : Fin 2048)) * w (ix2 j (⟨k.val, by omega⟩ : Fin 6160))
def branch (h : Cot) (w : Weight) (i : Fin 4096) (j : Fin 2048) : EReal := ∑ k, term h w i j k
def entry (h : Cot) (w : Weight) (x : Rows) (i : Fin 4096) (j : Fin 2048) : EReal := branch h w i j + x (ix2 i j)

/-- One part's share of the sum. -/
def part (h : Cot) (w : Weight) (i : Fin 4096) (j : Fin 2048) (s : ℕ) : EReal := ∑ k : Fin 2048, ext (term h w i j) (s * 2048 + k.val)

theorem idx : ∀ t : Fin cfg0.N,
    win0_0.index t = ![t.val % 3, t.val / 6, 0] ∧ win0_1.index t = ![t.val % 3, t.val / 3 % 2] ∧ win0_2.index t = ![t.val / 6, t.val / 3 % 2]
    ∧ win0_3.index t = ![t.val / 6, t.val / 3 % 2] :=
  (by decide +kernel : ∀ t : Fin grid0.N, _)

/-- The token and the feature of a point's blocks, its part of the cotangent, and the row of the transposed weight. -/
abbrev tok (t : Fin cfg0.N) (p : Fin 1024) : Fin 4096 :=
  ⟨t.val / 6 * 1024 + p.val, by have := t.isLt; have h : cfg0.N = 24 := N_0; omega⟩
abbrev feat (t : Fin cfg0.N) (q : Fin 1024) : Fin 2048 := ⟨t.val / 3 % 2 * 1024 + q.val, by omega⟩
abbrev third (t : Fin cfg0.N) : Fin 3 := ⟨t.val % 3, by omega⟩
abbrev hid (t : Fin cfg0.N) (k : Fin 2048) : Fin 6160 := ⟨t.val % 3 * 2048 + k.val, by omega⟩

/-- The host casts the weight, which over the reals changes nothing, and transposes it. -/
theorem V_w : V m c main_v1 = (transpose S6160x2048 [1, 0] (truncf .bf16 (W m c) bitsLt_bf16_f32 : FVec Ideal S2048x6160 .bf16)
    transposes_S2048x6160_S6160x2048_1_0 : FVec Ideal S6160x2048 .bf16) := by
  show StableHlo.after hostOps0 (fun b => m (c, b)) (Proc.devRef .tc main_v1) = _
  simp only [hostOps0, StableHlo.TRef.unary, StableHlo.TRef.toBuf, StableHlo.TRef.ofBuf, cast_eq]
  after_results_simp <;> rfl

theorem blk_h (t : Fin cfg0.N) (p : Fin 1024) (k : Fin 2048) : iblk m c 0 t (ix3 0 p k) = H m c (ix3 (third t) (tok t p) k) := by
  have h : V m c main_arg0 = m ((c : Thread nD τ).loc main_arg0) := V_main_arg0 m c
  rw [H, ← h]
  blk_ext [iblk, idx t]
theorem blk_w (t : Fin cfg0.N) (k : Fin 2048) (q : Fin 1024) : X0_1 m c t (ix2 k q : S2048x1024.Idx) = W m c (ix2 (feat t q) (hid t k)) := by
  have h : X0_1 m c t (ix2 k q : S2048x1024.Idx) = V m c main_v1 (ix2 (hid t k) (feat t q) : S6160x2048.Idx) := by
    unfold X0_1 Pipeline.Window.fill
    rw [dif_pos (moved0_1 t _)]
    blk_ext [iblk, idx t]
  rw [h, V_w]
  pointwise []
theorem blk_x (t : Fin cfg0.N) (p q : Fin 1024) : iblk m c 2 t (ix2 p q) = X m c (ix2 (tok t p) (feat t q)) := by
  have h : V m c main_arg2 = m ((c : Thread nD τ).loc main_arg2) := V_main_arg2 m c
  rw [X, ← h]
  blk_ext [iblk, idx t]
theorem emb (t : Fin cfg0.N) (p q : Fin 1024) :
    (((cfg0.win 3).blk t).view.emb (ix2 p q : S1024x1024.Idx) : S4096x2048.Idx) = ix2 (tok t p) (feat t q) := by
  blk_ext [idx t]

section Pay

variable (h : Vec Ideal S1x1024x2048 .bf16) (w : Vec Ideal S2048x1024 .bf16) (a x : Vec Ideal S1024x1024 .f32) (p q : Fin 1024)

theorem pay1 : k0_pay1 (F := Ideal) h w (ix2 p q) = ∑ k : Fin 2048, h (ix3 0 p k) * w (ix2 k q) := by
  unfold k0_pay1
  pointwise []
theorem pay2 : k0_pay2 (F := Ideal) h w (ix2 p q) = k0_pay1 (F := Ideal) h w (ix2 p q) := by
  unfold k0_pay2
  generalize k0_pay1 (F := Ideal) h w = b
  pointwise []
theorem pay3 : k0_pay3 (F := Ideal) h w a (ix2 p q) = a (ix2 p q) + k0_pay1 (F := Ideal) h w (ix2 p q) := by
  unfold k0_pay3
  generalize k0_pay1 (F := Ideal) h w = b
  pointwise []
theorem pay4 : k0_pay4 (F := Ideal) a x (ix2 p q) = a (ix2 p q) + x (ix2 p q) := by
  unfold k0_pay4
  pointwise []

end Pay

/-- A point's product is the part of the sum its block of hidden features gives. -/
theorem product (t : Fin cfg0.N) (p q : Fin 1024) :
    k0_pay1 (F := Ideal) (iblk m c 0 t) (X0_1 m c t) (ix2 p q) = part (H m c) (W m c) (tok t p) (feat t q) (t.val % 3) := by
  rw [pay1]
  unfold part
  refine Finset.sum_congr rfl fun k _ => ?_
  rw [blk_h, blk_w]
  have hk : t.val % 3 * 2048 + k.val < 6144 := by omega
  unfold ext
  rw [dif_pos hk]
  unfold term
  refine congrArg₂ (fun a b : EReal => a * b) (congrArg _ ?_) rfl
  have e1 : (t.val % 3 * 2048 + k.val) / 2048 = t.val % 3 := by omega
  have e2 : (t.val % 3 * 2048 + k.val) % 2048 = k.val := by omega
  simp only [e1, e2]

/-- What the scratch buffer holds after the first point of a block, and after the others. -/
theorem first (t : Fin cfg0.N) (h : t.val % 3 = 0) (p q : Fin 1024) : (outsAt0 m c t.val t.isLt).2 (ix2 p q)
    = part (H m c) (W m c) (tok t p) (feat t q) (t.val % 3) := by
  rw [outsAt0_A m c t h (by omega) (by omega)]
  dsimp only
  frame_out
  rw [pay2, product]
theorem next (t : Fin cfg0.N) (h : ¬ t.val % 3 = 0) (p q : Fin 1024) : (outsAt0 m c t.val t.isLt).2 (ix2 p q)
    = (outsAt0 m c (t.val - 1) (Nat.lt_of_le_of_lt (Nat.sub_le _ _) t.isLt)).2 (ix2 p q)
      + part (H m c) (W m c) (tok t p) (feat t q) (t.val % 3) := by
  by_cases h3 : t.val % 3 = 2
  · rw [outsAt0_C m c t h (by omega) h3]
    dsimp only
    frame_out
    rw [pay3, product]
    exact congrArg₂ (fun a b : EReal => a + b) (congrFun (Memref.IsWhole.read_unread (Memref.isWhole_whole cc0_scratch0) _) _) rfl
  · rw [outsAt0_B m c t h (by omega) h3]
    dsimp only
    frame_out
    rw [pay3, product]
    exact congrArg₂ (fun a b : EReal => a + b) (congrFun (Memref.IsWhole.read_unread (Memref.isWhole_whole cc0_scratch0) _) _) rfl

/-- So it holds the sum of the parts so far. -/
theorem scratch (p q : Fin 1024) : ∀ n (h : n < cfg0.N), (outsAt0 m c n h).2 (ix2 p q)
    = ∑ s ∈ Finset.range (n % 3 + 1), part (H m c) (W m c) (tok ⟨n, h⟩ p) (feat ⟨n, h⟩ q) s := by
  intro n
  induction n with
  | zero =>
    intro h
    rw [first m c ⟨0, h⟩ rfl p q]
    exact (Finset.sum_range_one _).symm
  | succ n ih =>
    intro h
    by_cases h0 : (n + 1) % 3 = 0
    · rw [first m c ⟨n + 1, h⟩ h0 p q]
      show part _ _ _ _ ((n + 1) % 3) = _
      rw [h0]
      exact (Finset.sum_range_one _).symm
    · have e := next m c ⟨n + 1, h⟩ h0 p q
      have e1 : tok ⟨n, Nat.lt_of_succ_lt h⟩ p = tok ⟨n + 1, h⟩ p :=
        Fin.ext (by show n / 6 * 1024 + p.val = (n + 1) / 6 * 1024 + p.val; omega)
      have e2 : feat ⟨n, Nat.lt_of_succ_lt h⟩ q = feat ⟨n + 1, h⟩ q :=
        Fin.ext (by show n / 3 % 2 * 1024 + q.val = (n + 1) / 3 % 2 * 1024 + q.val; omega)
      refine e.trans ?_
      refine (congrArg₂ (fun a b : EReal => a + b) (ih (Nat.lt_of_succ_lt h)) rfl).trans ?_
      rw [e1, e2, show n % 3 + 1 = (n + 1) % 3 by omega, Finset.sum_range_succ]

/-- After a block's third point it holds the sum. -/
theorem full (t : Fin cfg0.N) (h : t.val % 3 = 2) (p q : Fin 1024) :
    (outsAt0 m c t.val t.isLt).2 (ix2 p q) = branch (H m c) (W m c) (tok t p) (feat t q) := by
  rw [scratch m c p q t.val t.isLt, h]
  exact (Cert.Suffix.sum_blocks (B := 2048) (term (H m c) (W m c) (tok t p) (feat t q)) 3 rfl).symm

/-- What the third point leaves in the result's block. -/
theorem left (t : Fin cfg0.N) (h : t.val % 3 = 2) (p q : Fin 1024) :
    (outsAt0 m c t.val t.isLt).1 (ix2 p q) = entry (H m c) (W m c) (X m c) (tok t p) (feat t q) := by
  have hf := full m c t h p q
  rw [outsAt0_C m c t (by omega) (by omega) h] at hf ⊢
  dsimp only at hf ⊢
  revert hf
  frame_out
  intro hf
  rw [pay4, hf, blk_x]
  rfl

/-- The result array of the kernel. -/
theorem final : (dats m 0 c).arrAt 3 cfg0.N = fun i : S4096x2048.Idx => entry (H m c) (W m c) (X m c) (i 0) (i 1) := by
  refine (dats m 0 c).arrAt_eq_of_covers 3 _ (by decide +kernel) fun t hf y => ?_
  revert y
  intro (y : S1024x1024.Idx)
  obtain ⟨p, q, rfl⟩ : ∃ (p : Fin 1024) (q : Fin 1024), y = ix2 p q := ⟨y 0, y 1, eq_ix2 y⟩
  rw [emb, after0_3]
  have h := left m c t ((flush0_3 t).mp hf) p q
  generalize (outsAt0 m c t.val t.isLt).1 = a at h ⊢
  show a (ix2 p q) = entry (H m c) (W m c) (X m c) (tok t p) (feat t q)
  exact h

end Cert.FoxDxIdeal.RefValue

end
-- ==== Proof.FoxDxClaim.lean ====
/- The claim about the gradient of the attention's input product for its rows: kernel and reference end with the same array. -/
module

public import proofs.«01_k».proof.Defs
public import proofs.«01_k».proof.Proof.Gen.FoxDx.Frame
public import proofs.«01_k».proof.Proof.Gen.FoxDx
public import proofs.«01_k».proof.Proof.Gen.FoxDxIdeal
public import proofs.«01_k».proof.Proof.Gen.FoxDxRefIdeal
public import proofs.«01_k».proof.Proof.Gen.FoxDxRefIdeal.Run
public import proofs.«01_k».proof.Proof.Gen.FoxDxRefIdeal.Read
public import proofs.«01_k».proof.Proof.FoxDxKernel

@[expose] public section

set_option maxRecDepth 131072

noncomputable section

namespace Cert.FoxDxClaim

open Idealize.ShloMosaic Idealize.SL.Sem Cert.FoxDxIdeal.RefValue
open Cert.FoxDxRefIdeal.Read

variable (h : Cot) (w : Weight) (x : Rows)

/-- The result as an array. -/
def out : Out := fun i => entry h w x (i 0) (i 1)

/-- The three parts side by side, and sixteen columns of zeros behind them. -/
theorem piece0 (i : Fin 4096) (k : Fin 2048) : val_main_v2 (F := Ideal) h (ix2 i k) = h (ix3 0 i k) := by
  pointwise [val_main_v2, val_main_v1, val_main_v0]
theorem piece1 (i : Fin 4096) (k : Fin 2048) : val_main_v4 (F := Ideal) h (ix2 i k) = h (ix3 1 i k) := by
  pointwise [val_main_v4, val_main_v3, val_main_v0]
theorem piece2 (i : Fin 4096) (k : Fin 2048) : val_main_v6 (F := Ideal) h (ix2 i k) = h (ix3 2 i k) := by
  pointwise [val_main_v6, val_main_v5, val_main_v0]
theorem cat_apply (i : Fin 4096) (k : Fin 6160) : val_main_v14 (F := Ideal) h (ix2 i k)
    = if hk : k.val < 6144 then h (ix3 (⟨k.val / 2048, by omega⟩ : Fin 3) i (⟨k.val % 2048, by omega⟩ : Fin 2048)) else 0 := by
  have p0 := piece0 h i
  have p1 := piece1 h i
  have p2 := piece2 h i
  unfold val_main_v14
  generalize val_main_v2 (F := Ideal) h = a0 at p0 ⊢
  generalize val_main_v4 (F := Ideal) h = a1 at p1 ⊢
  generalize val_main_v6 (F := Ideal) h = a2 at p2 ⊢
  pointwise [val_main_v13, val_main_cst_0]
  simp only [p0, p1, p2]
  have key : ∀ (d d' : Fin 3) (r r' : Fin 2048), d.val = d'.val → r.val = r'.val → h (ix3 d i r) = h (ix3 d' i r') := by
    intro d d' r r' e e'
    rw [Fin.ext e, Fin.ext e']
  by_cases c0 : k.val < 2048
  · rw [dif_pos c0, dif_pos (by omega)]
    exact key _ _ _ _ (by show 0 = k.val / 2048; omega) (by show k.val = k.val % 2048; omega)
  rw [dif_neg c0]
  by_cases c1 : k.val - 2048 < 2048
  · rw [dif_pos c1, dif_pos (by omega)]
    exact key _ _ _ _ (by show 1 = k.val / 2048; omega) (by show k.val - 2048 = k.val % 2048; omega)
  rw [dif_neg c1]
  by_cases c2 : k.val - 2048 - 2048 < 2048
  · rw [dif_pos c2, dif_pos (by omega)]
    exact key _ _ _ _ (by show 2 = k.val / 2048; omega) (by show k.val - 2048 - 2048 = k.val % 2048; omega)
  · rw [dif_neg c2, dif_neg (by omega)]

theorem product (i : Fin 4096) (j : Fin 2048) : val_main_v15 (F := Ideal) h w (ix2 i j) = branch h w i j := by
  have e1 : ∀ k : Fin 6144, val_main_v14 (F := Ideal) h (ix2 i (⟨k.val, by omega⟩ : Fin 6160))
      = h (ix3 (⟨k.val / 2048, by omega⟩ : Fin 3) i (⟨k.val % 2048, by omega⟩ : Fin 2048)) := fun k => (cat_apply h i _).trans (dif_pos k.isLt)
  have e2 : ∀ k : Fin 16, val_main_v14 (F := Ideal) h (ix2 i (⟨6144 + k.val, by omega⟩ : Fin 6160)) = 0 := fun k =>
    (cat_apply h i _).trans (dif_neg (by show ¬ 6144 + k.val < 6144; omega))
  unfold val_main_v15
  generalize val_main_v14 (F := Ideal) h = g at e1 e2 ⊢
  pointwise []
  refine (Fin.sum_univ_add (a := 6144) (b := 16) fun k : Fin 6160 => g (ix2 i k) * w (ix2 j k)).trans ?_
  refine (congrArg₂ (fun a b : EReal => a + b) (Finset.sum_congr rfl fun k _ => congrArg₂ (fun a b : EReal => a * b) (e1 k) rfl)
    (Finset.sum_eq_zero fun k _ => ?_)).trans (add_zero _)
  exact (congrArg₂ (fun a b : EReal => a * b) (e2 k) rfl).trans (zero_mul _)
theorem ref : val_main_v17 (F := Ideal) h w x = out h w x := by
  funext i
  obtain ⟨p, q, rfl⟩ : ∃ (p : Fin 4096) (q : Fin 2048), i = ix2 p q := ⟨i 0, i 1, eq_ix2 i⟩
  have e := product h w p q
  unfold val_main_v17 val_main_v16
  generalize val_main_v15 (F := Ideal) h w = g at e ⊢
  pointwise []
  rw [e]
  rfl

theorem frame_r : Cert.quiescent_FoxDxRefIdeal := fun m ρ _ =>
  (θ_run Cert.FoxDxRefIdeal.defs _ _).mono (fun r h => ⟨fun c => (h c).2, sem_eq_zero_of_no_sems (by decide) r.2⟩)
    (Cert.FoxDxRefIdeal.Value.run (F := Ideal) m ρ)

theorem algebraic : Cert.algebraic_FoxDxIdeal_FoxDxRefIdeal := by
  intro m g m' g' _ h
  refine ⟨fun c => out (H m c) (W m c) (X m c), (θ_run _ _ _).mono (fun r hr c => ?_) (Cert.FoxDxIdeal.Value.run_blocks m g),
    (θ_run _ _ _).mono (fun r hr c => ?_) (Cert.FoxDxRefIdeal.Value.run m' g')⟩
  · obtain ⟨h0, hk⟩ := hr c
    exact ⟨h0.trans (final m c), hk⟩
  · obtain ⟨h0, hk⟩ := hr c
    obtain ⟨a0, a1, a2⟩ := h c
    refine ⟨h0.trans ?_, hk⟩
    rw [val_main_v17_eq, a0, a1, a2, ref]

end Cert.FoxDxClaim

end
-- ==== Proof.LossSumClaim.lean ====
/- The claim about the loss summed over the devices: kernel and reference end with the same array. -/
module

public import proofs.«01_k».proof.Defs
public import proofs.«01_k».proof.Proof.Gen.LossSum.Frame
public import proofs.«01_k».proof.Proof.Gen.LossSum
public import proofs.«01_k».proof.Proof.Gen.LossSumIdeal
public import proofs.«01_k».proof.Proof.Gen.LossSumIdeal.Value
public import proofs.«01_k».proof.Proof.Gen.LossSumRefIdeal
public import proofs.«01_k».proof.Proof.Gen.LossSumRefIdeal.Run
public import proofs.«01_k».proof.Proof.Gen.LossSumRefIdeal.Read
public import proofs.«01_k».proof.Proof.Rows

@[expose] public section

set_option maxRecDepth 131072

noncomputable section

namespace Cert.LossSumClaim

open Idealize.ShloMosaic Idealize.ShloMosaic.TcCoe Idealize.SL.Sem
open Cert.LossSumIdeal Cert.LossSumIdeal.Gen

abbrev Gathered : Type := (⟨⟨3, ![8, 24, 2048]⟩, .f32⟩ : BufTy).Contents (Elt Ideal)
abbrev Out : Type := (⟨⟨2, ![8, 2048]⟩, .f32⟩ : BufTy).Contents (Elt Ideal)

variable (g : Gathered)

/-- An entry of the result: the sum of the devices' entries of row 5, the same in all eight rows. -/
def entry (l : Fin 2048) : EReal := ∑ d : Fin 8, g (ix3 d (5 : Fin 24) l)
def out : Out := fun i => entry g (i 1)

/-- The kernel reads row 5 of one device after another. -/
theorem row (d : ℕ) (hd : d < 8) (inb) (l : Fin 2048) :
    View.ld g (Rect.unit (s := S8x24x2048) ![d, 5, 0] S1x1x2048.size inb) (ix3 0 0 l : S1x1x2048.Idx) = g (ix3 (⟨d, hd⟩ : Fin 8) (5 : Fin 24) l) := by
  refine congrArg g (funext fun a => Fin.ext ?_)
  match a with
  | ⟨0, _⟩ => rfl
  | ⟨1, _⟩ => rfl
  | ⟨2, _⟩ => show 0 + 1 * l.val = l.val; omega

section Pay

variable (a0 a1 a2 a3 a4 a5 a6 a7 : Vec Ideal S1x1x2048 .f32)

theorem pay (i : Fin 8) (l : Fin 2048) : k0_pay1 (F := Ideal) a0 a1 a2 a3 a4 a5 a6 a7 (ix2 i l)
    = a0 (ix3 0 0 l) + a1 (ix3 0 0 l) + a2 (ix3 0 0 l) + a3 (ix3 0 0 l) + a4 (ix3 0 0 l) + a5 (ix3 0 0 l) + a6 (ix3 0 0 l) + a7 (ix3 0 0 l) := by
  unfold k0_pay1
  pointwise []

end Pay

theorem kernel : Value.G1 (F := Ideal) g = out g := by
  funext i
  obtain ⟨p, l, rfl⟩ : ∃ (p : Fin 8) (l : Fin 2048), i = ix2 p l := ⟨i 0, i 1, eq_ix2 i⟩
  unfold Value.G1
  rw [pay]
  refine Eq.trans ?_ (Fin.sum_univ_eight fun d : Fin 8 => g (ix3 d (5 : Fin 24) l)).symm
  iterate 7 refine congrArg₂ (fun a b : EReal => a + b) ?_ (row g _ (by decide) _ l)
  exact row g 0 (by decide) _ l

theorem ref : Cert.LossSumRefIdeal.Read.val_main_v3 (F := Ideal) g = out g := by
  funext i
  obtain ⟨p, l, rfl⟩ : ∃ (p : Fin 8) (l : Fin 2048), i = ix2 p l := ⟨i 0, i 1, eq_ix2 i⟩
  show _ = entry g l
  unfold entry
  pointwise [Cert.LossSumRefIdeal.Read.val_main_v3, Cert.LossSumRefIdeal.Read.val_main_v2, Cert.LossSumRefIdeal.Read.val_main_v1, Cert.LossSumRefIdeal.Read.val_main_v0, Cert.LossSumRefIdeal.Read.val_main_cst]

theorem frame_r : Cert.quiescent_LossSumRefIdeal := fun m ρ _ =>
  (θ_run Cert.LossSumRefIdeal.defs _ _).mono (fun r h => ⟨fun c => (h c).2, sem_eq_zero_of_no_sems (by decide) r.2⟩)
    (Cert.LossSumRefIdeal.Value.run (F := Ideal) m ρ)

theorem algebraic : Cert.algebraic_LossSumIdeal_LossSumRefIdeal := by
  intro m r m' r' _ h
  refine ⟨fun c => out (m ((c : Thread nD τ).loc main_arg0)), (θ_run _ _ _).mono (fun s hs c => ?_) (Cert.LossSumIdeal.Value.run m r),
    (θ_run _ _ _).mono (fun s hs c => ?_) (Cert.LossSumRefIdeal.Value.run m' r')⟩
  · obtain ⟨h0, hk⟩ := hs c
    exact ⟨h0.trans (kernel _), hk⟩
  · obtain ⟨h0, hk⟩ := hs c
    refine ⟨h0.trans ?_, hk⟩
    rw [Cert.LossSumRefIdeal.Read.val_main_v3_eq, h c, ref]

end Cert.LossSumClaim

end
-- ==== Proof.PutRowsClaim.lean ====
/- The claim about the forget gate's rows put into the attention's weight gradient: kernel and reference end with the same array. -/
module

public import proofs.«01_k».proof.Defs
public import proofs.«01_k».proof.Proof.Gen.PutRows.Frame
public import proofs.«01_k».proof.Proof.Gen.PutRows
public import proofs.«01_k».proof.Proof.Gen.PutRowsIdeal
public import proofs.«01_k».proof.Proof.Gen.PutRowsIdeal.Value
public import proofs.«01_k».proof.Proof.Gen.PutRowsRefIdeal
public import proofs.«01_k».proof.Proof.Gen.PutRowsRefIdeal.Run
public import proofs.«01_k».proof.Proof.Gen.PutRowsRefIdeal.Read
public import proofs.«01_k».proof.Proof.Suffix
public import proofs.«01_k».proof.Proof.Rows

@[expose] public section

set_option maxRecDepth 131072

noncomputable section

namespace Cert.PutRowsClaim

open Idealize.ShloMosaic Idealize.ShloMosaic.TcCoe Idealize.SL.Sem
open Cert.PutRowsIdeal Cert.PutRowsIdeal.Gen

variable (m : (ℓ : Loc nD τ sig) → Buf (Elt Ideal) ℓ) (c : Dev nD)

abbrev Grad : Type := (⟨⟨2, ![6160, 2048]⟩, .bf16⟩ : BufTy).Contents (Elt Ideal)
abbrev Src : Type := (⟨⟨2, ![128, 2048]⟩, .bf16⟩ : BufTy).Contents (Elt Ideal)

/-- The arguments as launched: the weight's gradient, and the array whose first sixteen rows are the gate's. -/
abbrev B : Grad := m ((c : Thread nD τ).loc main_arg0)
abbrev S : Src := m ((c : Thread nD τ).loc main_arg1)

/-- The result: the last sixteen rows come from the second array, the others stay. -/
def entry (b : Grad) (s : Src) (i : Fin 6160) (l : Fin 2048) : EReal :=
  if h : i.val < 6144 then b (ix2 i l) else s (ix2 (⟨i.val - 6144, by omega⟩ : Fin 128) l)
def out (b : Grad) (s : Src) : Grad := fun i => entry b s (i 0) (i 1)

theorem idx : ∀ t : Fin cfg0.N, win0_0.index t = ![0, 0] ∧ win0_1.index t = ![384, 0] :=
  (by decide +kernel : ∀ t : Fin grid0.N, _)

/-- The result's array is the first argument as the call begins. -/
theorem V_b : V m c main_v0 = B m c := by
  show StableHlo.after hostOps0 (fun b => m (c, b)) (Proc.devRef .tc main_v0) = _
  after_results_simp <;> rfl

theorem blk_s (t : Fin cfg0.N) (p : Fin 128) (l : Fin 2048) : iblk m c 0 t (ix2 p l) = S m c (ix2 p l) := by
  have h : V m c main_arg1 = m ((c : Thread nD τ).loc main_arg1) := V_main_arg1 m c
  rw [S, ← h]
  blk_ext [iblk, idx t]
theorem emb (t : Fin cfg0.N) (p : Fin 16) (l : Fin 2048) :
    (((cfg0.win 1).blk t).view.emb (ix2 p l : S16x2048.Idx) : S6160x2048.Idx) = ix2 (⟨6144 + p.val, by omega⟩ : Fin 6160) l := by
  blk_ext [idx t]

/-- The one block of the result is its last sixteen rows. -/
theorem mem_blk (t : Fin cfg0.N) (i : S6160x2048.Idx) (h : i ∈ ((cfg0.win 1).blk t).view.set) : 6144 ≤ (i 0 : ℕ) := by
  have h' : i ∈ ((View.whole main_v0).slice (win0_1.rect t)).set := h
  rw [View.set_slice_whole, Rect.mem_set_unit] at h'
  have h0 : win0_1.index t 0 * win0_1.size 0 ≤ (i 0 : ℕ) := (h' 0).1
  have e : win0_1.index t 0 = 384 := congrFun (idx t).2 0
  have e' : win0_1.size 0 = 16 := rfl
  rw [e, e'] at h0
  omega

/-- The first sixteen rows, as the kernel reads them. -/
theorem head (x : Vec Ideal S128x2048 .bf16) (p : Fin 16) (l : Fin 2048) :
    View.ld x (Rect.unit (s := S128x2048) ![0, 0] S16x2048.size inb_S128x2048_S16x2048_0_0) (ix2 p l : S16x2048.Idx)
      = x (ix2 (⟨p.val, by omega⟩ : Fin 128) l) := by
  refine congrArg x (funext fun a => Fin.ext ?_)
  match a with
  | ⟨0, _⟩ => show 0 + 1 * p.val = p.val; omega
  | ⟨1, _⟩ => show 0 + 1 * l.val = l.val; omega

theorem left (t : Fin cfg0.N) (p : Fin 16) (l : Fin 2048) : outsAt0 m c t (ix2 p l) = S m c (ix2 (⟨p.val, by omega⟩ : Fin 128) l) := by
  unfold outsAt0
  frame_out
  rw [← blk_s m c t]
  exact head _ p l

theorem final : (dats m 0 c).arrAt 1 cfg0.N = out (B m c) (S m c) := by
  funext i
  obtain ⟨r, l, rfl⟩ : ∃ (r : Fin 6160) (l : Fin 2048), i = ix2 r l := ⟨i 0, i 1, eq_ix2 i⟩
  show _ = entry (B m c) (S m c) r l
  unfold entry
  have t : Fin cfg0.N := ⟨0, by decide⟩
  by_cases hr : r.val < 6144
  · rw [dif_pos hr, Value.entry1]
    · exact congrFun (V_b m c) _
    · intro t _ hm
      exact hr.not_ge (mem_blk t _ hm)
  · rw [dif_neg hr]
    have hb := congrFun (Value.blocks1 m c t (flush0_1 t)) (ix2 (⟨r.val - 6144, by omega⟩ : Fin 16) l : S16x2048.Idx)
    have e : (((cfg0.win 1).blk t).view.emb (ix2 (⟨r.val - 6144, by omega⟩ : Fin 16) l : S16x2048.Idx) : S6160x2048.Idx) = ix2 r l :=
      (emb t _ l).trans (congrArg (fun r : Fin 6160 => (ix2 r l : S6160x2048.Idx)) (Fin.ext (by show 6144 + (r.val - 6144) = r.val; omega)))
    rw [Value.flushed1] at hb
    generalize (dats m 0 c).arrAt 1 cfg0.N = a at hb ⊢
    have hb' : a (((cfg0.win 1).blk t).view.emb (ix2 (⟨r.val - 6144, by omega⟩ : Fin 16) l : S16x2048.Idx) : S6160x2048.Idx)
        = outsAt0 m c t (ix2 (⟨r.val - 6144, by omega⟩ : Fin 16) l) := hb
    rw [e, left] at hb'
    exact hb'

theorem ref (b : Grad) (s : Src) : Cert.PutRowsRefIdeal.Read.val_main_v2 (F := Ideal) b s = out b s := by
  funext i
  obtain ⟨r, l, rfl⟩ : ∃ (r : Fin 6160) (l : Fin 2048), i = ix2 r l := ⟨i 0, i 1, eq_ix2 i⟩
  show _ = entry b s r l
  unfold entry
  pointwise [Cert.PutRowsRefIdeal.Read.val_main_v2, Cert.PutRowsRefIdeal.Read.val_main_v1, Cert.PutRowsRefIdeal.Read.val_main_v0]

theorem frame_r : Cert.quiescent_PutRowsRefIdeal := fun m ρ _ =>
  (θ_run Cert.PutRowsRefIdeal.defs _ _).mono (fun r h => ⟨fun c => (h c).2, sem_eq_zero_of_no_sems (by decide) r.2⟩)
    (Cert.PutRowsRefIdeal.Value.run (F := Ideal) m ρ)

theorem algebraic : Cert.algebraic_PutRowsIdeal_PutRowsRefIdeal := by
  intro m r m' r' _ h
  refine ⟨fun c => out (B m c) (S m c), (θ_run _ _ _).mono (fun s hs c => ?_) (Cert.PutRowsIdeal.Value.run_blocks m r),
    (θ_run _ _ _).mono (fun s hs c => ?_) (Cert.PutRowsRefIdeal.Value.run m' r')⟩
  · obtain ⟨h0, hk⟩ := hs c
    exact ⟨h0.trans (final m c), hk⟩
  · obtain ⟨h0, hk⟩ := hs c
    obtain ⟨a0, a1⟩ := h c
    refine ⟨h0.trans ?_, hk⟩
    rw [Cert.PutRowsRefIdeal.Read.val_main_v2_eq, a0, a1, ref]

end Cert.PutRowsClaim

end
-- ==== Proof.SmallKernel.lean ====
/- The optimiser's step on the small parameters, the kernel's side: every gradient row is a sum of eight rows, stored alone; the
   step reads them back whole. -/
module

public import proofs.«01_k».proof.Defs
public import proofs.«01_k».proof.Proof.Gen.Small.Frame
public import proofs.«01_k».proof.Proof.Gen.Small
public import proofs.«01_k».proof.Proof.Gen.SmallIdeal
public import proofs.«01_k».proof.Proof.Gen.SmallIdeal.Value
public import proofs.«01_k».proof.Proof.Gen.SmallRefIdeal
public import proofs.«01_k».proof.Proof.Gen.SmallRefIdeal.Run
public import proofs.«01_k».proof.Proof.Gen.SmallRefIdeal.Read
public import proofs.«01_k».proof.Proof.Rows

@[expose] public section

set_option maxRecDepth 131072

noncomputable section

namespace Cert.SmallIdeal.RefValue

open Cert.SmallIdeal Cert.SmallIdeal.Gen
open Idealize.ShloMosaic Idealize.ShloMosaic.TcCoe

variable (m : (ℓ : Loc nD τ sig) → Buf (Elt Ideal) ℓ) (c : Dev nD)

abbrev Params : Type := (⟨⟨2, ![24, 2048]⟩, .f32⟩ : BufTy).Contents (Elt Ideal)
abbrev Gathered : Type := (⟨⟨3, ![8, 24, 2048]⟩, .f32⟩ : BufTy).Contents (Elt Ideal)

/-- The arguments as launched: the parameters, their two moments, the devices' sums. -/
abbrev W : Params := m ((c : Thread nD τ).loc main_arg0)
abbrev M : Params := m ((c : Thread nD τ).loc main_arg1)
abbrev U : Params := m ((c : Thread nD τ).loc main_arg2)
abbrev S : Gathered := m ((c : Thread nD τ).loc main_arg3)

/-- Which row of the sums is a parameter row's gradient, and the gradient: the devices' rows added. -/
def src (p : Fin 24) : Fin 24 :=
  ⟨if p.val < 5 then p.val else if p.val < 6 then 6 else if p.val < 18 then p.val + 2 else 7, by split_ifs <;> omega⟩
def grad (s : Gathered) (p : Fin 24) (l : Fin 2048) : EReal := ∑ d : Fin 8, s (ix3 d (src p) l)

/-- The optimiser's constants, and its step on one entry. -/
abbrev lit (b : BitVec 32) : EReal := FloatOps.ofBits (F := Ideal) .f32 b
def first (g m : EReal) : EReal := lit 0x3F666666#32 * m + lit 0x3DCCCCCD#32 * g
def second (g v : EReal) : EReal := lit 0x3F7FBE77#32 * v + lit 0x3A83126F#32 * (g * g)
def delta (g w m v : EReal) : EReal :=
  lit 0xBA83126F#32 * (Ideal.div (Ideal.div (first g m) (lit 0x3F26BD02#32))
    (Ideal.sqrt (Ideal.div (second g v) (lit 0x3C231ACC#32)) + lit 0x322BCC77#32) + lit 0x3C23D70A#32 * w)

def outG (s : Gathered) : Params := fun i => grad s (i 0) (i 1)
def outM (s : Gathered) (m : Params) : Params := fun i => first (grad s (i 0) (i 1)) (m (ix2 (i 0) (i 1)))
def outU (s : Gathered) (v : Params) : Params := fun i => second (grad s (i 0) (i 1)) (v (ix2 (i 0) (i 1)))
def outD (s : Gathered) (w m v : Params) : Params := fun i =>
  delta (grad s (i 0) (i 1)) (w (ix2 (i 0) (i 1))) (m (ix2 (i 0) (i 1))) (v (ix2 (i 0) (i 1)))

section Pay

variable (X : Gathered) (a0 a1 a2 a3 a4 a5 a6 a7 : Vec Ideal S1x1x2048 .f32) (g w b d : Vec Ideal S24x2048 .f32) (p : Fin 24) (l : Fin 2048)

theorem ld_row (r s : ℕ) (hr : r < 8) (hs : s < 24) (inb) :
    View.ld X (Rect.unit (s := S8x24x2048) ![r, s, 0] S1x1x2048.size inb) (ix3 0 0 l : S1x1x2048.Idx) = X (ix3 (⟨r, hr⟩ : Fin 8) (⟨s, hs⟩ : Fin 24) l) := by
  refine congrArg X (funext fun a => Fin.ext ?_)
  match a with
  | ⟨0, _⟩ => rfl
  | ⟨1, _⟩ => rfl
  | ⟨2, _⟩ => show 0 + 1 * l.val = l.val; omega

/-- The sum of eight rows, the form of all 24 payloads. -/
theorem pay2 : k0_pay2 (F := Ideal) a0 a1 a2 a3 a4 a5 a6 a7 (ix2 0 l) = a0 (ix3 0 0 l) + a1 (ix3 0 0 l) + a2 (ix3 0 0 l) + a3 (ix3 0 0 l) + a4 (ix3 0 0 l) + a5 (ix3 0 0 l) + a6 (ix3 0 0 l) + a7 (ix3 0 0 l) := by
  unfold k0_pay2
  pointwise []

theorem inb8 (k s : ℕ) (hk : k < 8) (hs : s < 24) (a : Fin 3) : (![k, s, 0] : Fin 3 → ℕ) a + S1x1x2048.size a ≤ S8x24x2048.size a := by
  match a with
  | ⟨0, _⟩ => show k + 1 ≤ 8; omega
  | ⟨1, _⟩ => show s + 1 ≤ 24; omega
  | ⟨2, _⟩ => exact le_refl 2048
theorem inb24 (r : ℕ) (hr : r < 24) (a : Fin 2) : (![r, 0] : Fin 2 → ℕ) a + S1x2048.size a ≤ S24x2048.size a := by
  match a with
  | ⟨0, _⟩ => show r + 1 ≤ 24; omega
  | ⟨1, _⟩ => exact le_refl 2048

/-- A stored row is its row of the gradient. -/
theorem piece (r s : ℕ) (hr : r < 24) (hs : s < 24) (e : (src ⟨r, hr⟩).val = s) (x : S1x2048.Idx) : k0_pay2 (F := Ideal)
      (View.ld X (Rect.unit (s := S8x24x2048) ![0, s, 0] S1x1x2048.size (inb8 0 s (by decide) hs)))
      (View.ld X (Rect.unit (s := S8x24x2048) ![1, s, 0] S1x1x2048.size (inb8 1 s (by decide) hs)))
      (View.ld X (Rect.unit (s := S8x24x2048) ![2, s, 0] S1x1x2048.size (inb8 2 s (by decide) hs)))
      (View.ld X (Rect.unit (s := S8x24x2048) ![3, s, 0] S1x1x2048.size (inb8 3 s (by decide) hs)))
      (View.ld X (Rect.unit (s := S8x24x2048) ![4, s, 0] S1x1x2048.size (inb8 4 s (by decide) hs)))
      (View.ld X (Rect.unit (s := S8x24x2048) ![5, s, 0] S1x1x2048.size (inb8 5 s (by decide) hs)))
      (View.ld X (Rect.unit (s := S8x24x2048) ![6, s, 0] S1x1x2048.size (inb8 6 s (by decide) hs)))
      (View.ld X (Rect.unit (s := S8x24x2048) ![7, s, 0] S1x1x2048.size (inb8 7 s (by decide) hs))) x
    = outG X ((Rect.unit (s := S24x2048) ![r, 0] S1x2048.size (inb24 r hr)).emb x) := by
  obtain ⟨z, l, rfl⟩ : ∃ (z : Fin 1) (l : Fin 2048), x = ix2 z l := ⟨x 0, x 1, eq_ix2 x⟩
  obtain rfl : z = 0 := Fin.ext (by omega)
  have e' : (Rect.unit (s := S24x2048) ![r, 0] S1x2048.size (inb24 r hr)).emb (ix2 0 l : S1x2048.Idx) = (ix2 (⟨r, hr⟩ : Fin 24) l : S24x2048.Idx) := by
    funext a
    match a with
    | ⟨0, _⟩ => exact Fin.ext (by show r + 1 * 0 = r; omega)
    | ⟨1, _⟩ => exact Fin.ext (by show 0 + 1 * l.val = l.val; omega)
  rw [e', pay2]
  show _ = grad X ⟨r, hr⟩ l
  unfold grad
  rw [Fin.ext (b := ⟨s, hs⟩) e]
  refine Eq.trans ?_ (Fin.sum_univ_eight fun d : Fin 8 => X (ix3 d (⟨s, hs⟩ : Fin 24) l)).symm
  iterate 7 refine congrArg₂ (fun a b : EReal => a + b) ?_ (ld_row X l _ s (by decide) hs _)
  exact ld_row X l 0 s (by decide) hs _

theorem pay44 : k0_pay44 (F := Ideal) g b (ix2 p l) = first (g (ix2 p l)) (b (ix2 p l)) := by
  unfold k0_pay44 k0_pay43 first
  pointwise []
theorem pay45 : k0_pay45 (F := Ideal) g b (ix2 p l) = second (g (ix2 p l)) (b (ix2 p l)) := by
  unfold k0_pay45 k0_pay43 second
  pointwise []
theorem pay46 : k0_pay46 (F := Ideal) g b (ix2 p l) = Ideal.div (first (g (ix2 p l)) (b (ix2 p l))) (lit 0x3F26BD02#32) := by
  rw [← pay44]
  unfold k0_pay46
  generalize k0_pay44 (F := Ideal) g b = a
  pointwise []
theorem pay47 : k0_pay47 (F := Ideal) g b (ix2 p l) = Ideal.sqrt (Ideal.div (second (g (ix2 p l)) (b (ix2 p l))) (lit 0x3C231ACC#32)) := by
  rw [← pay45]
  unfold k0_pay47
  generalize k0_pay45 (F := Ideal) g b = a
  pointwise []
theorem pay1 (e : EReal) : k0_pay1 (F := Ideal) w b d e (ix2 p l)
    = lit 0xBA83126F#32 * (Ideal.div (b (ix2 p l)) (d (ix2 p l) + e) + lit 0x3C23D70A#32 * w (ix2 p l)) := by
  unfold k0_pay1
  pointwise []

end Pay

theorem idx : ∀ t : Fin cfg0.N, win0_0.index t = ![0, 0] ∧ win0_1.index t = ![0, 0] ∧ win0_2.index t = ![0, 0] ∧ win0_3.index t = ![0, 0, 0]
    ∧ win0_4.index t = ![0, 0] ∧ win0_5.index t = ![0, 0] ∧ win0_6.index t = ![0, 0] ∧ win0_7.index t = ![0, 0] :=
  (by decide +kernel : ∀ t : Fin grid0.N, _)

/-- Every window is its whole array. -/
theorem blk_w (t : Fin cfg0.N) (p : Fin 24) (l : Fin 2048) : iblk m c 0 t (ix2 p l) = W m c (ix2 p l) := by
  rw [W, ← (V_main_arg0 m c : V m c main_arg0 = _)]
  blk_ext [iblk, idx t]
theorem blk_m (t : Fin cfg0.N) (p : Fin 24) (l : Fin 2048) : iblk m c 1 t (ix2 p l) = M m c (ix2 p l) := by
  rw [M, ← (V_main_arg1 m c : V m c main_arg1 = _)]
  blk_ext [iblk, idx t]
theorem blk_u (t : Fin cfg0.N) (p : Fin 24) (l : Fin 2048) : iblk m c 2 t (ix2 p l) = U m c (ix2 p l) := by
  rw [U, ← (V_main_arg2 m c : V m c main_arg2 = _)]
  blk_ext [iblk, idx t]
theorem blk_s (t : Fin cfg0.N) (d : Fin 8) (p : Fin 24) (l : Fin 2048) : iblk m c 3 t (ix3 d p l) = S m c (ix3 d p l) := by
  rw [S, ← (V_main_arg3 m c : V m c main_arg3 = _)]
  blk_ext [iblk, idx t]

theorem all_s (t : Fin cfg0.N) : (iblk m c 3 t : Gathered) = S m c := by
  funext i
  rw [eq_ix3 i]
  exact blk_s m c t _ _ _

/-- What the call leaves: the gradient's rows, and the step from the gradient read back. -/
theorem left4 (t : Fin cfg0.N) (p : Fin 24) (l : Fin 2048) : (outsAt0 m c t).1 (ix2 p l) = grad (S m c) p l := by
  refine Eq.trans (b := outG (iblk m c 3 t) (ix2 p l)) ?_ (congrArg (fun s : Gathered => grad s p l) (all_s m c t))
  have cov := cover0_A_4 c (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) (ms0_7 t) (hs0_7 t) (iblk m c 0 t) (iblk m c 1 t) (iblk m c 2 t) (iblk m c 3 t) (ix2 p l)
  unfold outsAt0
  dsimp only
  frame_out
  refine View.canon_apply_of_pieces (outG (iblk m c 3 t)) _ ?_ _ cov
  generalize hX : View.read (Elt Ideal) (View.whole cc0_stg3_0) ((hs0_3 t).unread (iblk m c 3 t)) = X
  obtain rfl : X = iblk m c 3 t := hX.symm.trans (Memref.IsWhole.read_unread (Memref.isWhole_whole cc0_stg3_0) _)
  clear hX cov
  generalize iblk m c 3 t = X
  intro pc hp
  rcases List.mem_cons.mp hp with rfl | hp
  · exact piece X 23 7 (by decide) (by decide) rfl
  rcases List.mem_cons.mp hp with rfl | hp
  · exact piece X 22 7 (by decide) (by decide) rfl
  rcases List.mem_cons.mp hp with rfl | hp
  · exact piece X 21 7 (by decide) (by decide) rfl
  rcases List.mem_cons.mp hp with rfl | hp
  · exact piece X 20 7 (by decide) (by decide) rfl
  rcases List.mem_cons.mp hp with rfl | hp
  · exact piece X 19 7 (by decide) (by decide) rfl
  rcases List.mem_cons.mp hp with rfl | hp
  · exact piece X 18 7 (by decide) (by decide) rfl
  rcases List.mem_cons.mp hp with rfl | hp
  · exact piece X 17 19 (by decide) (by decide) rfl
  rcases List.mem_cons.mp hp with rfl | hp
  · exact piece X 16 18 (by decide) (by decide) rfl
  rcases List.mem_cons.mp hp with rfl | hp
  · exact piece X 15 17 (by decide) (by decide) rfl
  rcases List.mem_cons.mp hp with rfl | hp
  · exact piece X 14 16 (by decide) (by decide) rfl
  rcases List.mem_cons.mp hp with rfl | hp
  · exact piece X 13 15 (by decide) (by decide) rfl
  rcases List.mem_cons.mp hp with rfl | hp
  · exact piece X 12 14 (by decide) (by decide) rfl
  rcases List.mem_cons.mp hp with rfl | hp
  · exact piece X 11 13 (by decide) (by decide) rfl
  rcases List.mem_cons.mp hp with rfl | hp
  · exact piece X 10 12 (by decide) (by decide) rfl
  rcases List.mem_cons.mp hp with rfl | hp
  · exact piece X 9 11 (by decide) (by decide) rfl
  rcases List.mem_cons.mp hp with rfl | hp
  · exact piece X 8 10 (by decide) (by decide) rfl
  rcases List.mem_cons.mp hp with rfl | hp
  · exact piece X 7 9 (by decide) (by decide) rfl
  rcases List.mem_cons.mp hp with rfl | hp
  · exact piece X 6 8 (by decide) (by decide) rfl
  rcases List.mem_cons.mp hp with rfl | hp
  · exact piece X 5 6 (by decide) (by decide) rfl
  rcases List.mem_cons.mp hp with rfl | hp
  · exact piece X 4 4 (by decide) (by decide) rfl
  rcases List.mem_cons.mp hp with rfl | hp
  · exact piece X 3 3 (by decide) (by decide) rfl
  rcases List.mem_cons.mp hp with rfl | hp
  · exact piece X 2 2 (by decide) (by decide) rfl
  rcases List.mem_cons.mp hp with rfl | hp
  · exact piece X 1 1 (by decide) (by decide) rfl
  rcases List.mem_cons.mp hp with rfl | hp
  · exact piece X 0 0 (by decide) (by decide) rfl
  nomatch hp

theorem readback {sig' : RefSig} {κ : Kind} {sp : Space} (v : View sig' κ sp S24x2048 .f32) (L : List (View.Piece (Elt Ideal) S24x2048 .f32)) (inb) :
    v.readCov L (Rect.unit (s := S24x2048) ![0, 0] S24x2048.size inb).toLoadRect = View.canon L := by
  rw [View.readCov_eq_canon']
  funext y
  refine congrArg (View.canon L) (funext fun a => Fin.ext ?_)
  match a with
  | ⟨0, _⟩ => show 0 + 1 * (y 0).val = (y 0).val; omega
  | ⟨1, _⟩ => show 0 + 1 * (y 1).val = (y 1).val; omega

theorem left6 (t : Fin cfg0.N) (p : Fin 24) (l : Fin 2048) : (outsAt0 m c t).2.2.1 (ix2 p l) = first (grad (S m c) p l) (M m c (ix2 p l)) := by
  have e := left4 m c t p l
  rw [← blk_m m c t p l]
  unfold outsAt0 at e ⊢
  dsimp only at e ⊢
  frame_out at e
  frame_out
  rw [readback, pay44, e]
  exact congrArg _ (congrFun (Memref.IsWhole.read_unread (Memref.isWhole_whole cc0_stg1_0) _) _)
theorem left7 (t : Fin cfg0.N) (p : Fin 24) (l : Fin 2048) : (outsAt0 m c t).2.2.2 (ix2 p l) = second (grad (S m c) p l) (U m c (ix2 p l)) := by
  have e := left4 m c t p l
  rw [← blk_u m c t p l]
  unfold outsAt0 at e ⊢
  dsimp only at e ⊢
  frame_out at e
  frame_out
  rw [readback, pay45, e]
  exact congrArg _ (congrFun (Memref.IsWhole.read_unread (Memref.isWhole_whole cc0_stg2_0) _) _)
theorem left5 (t : Fin cfg0.N) (p : Fin 24) (l : Fin 2048) : (outsAt0 m c t).2.1 (ix2 p l)
    = delta (grad (S m c) p l) (W m c (ix2 p l)) (M m c (ix2 p l)) (U m c (ix2 p l)) := by
  have e := left4 m c t p l
  rw [← blk_w m c t p l, ← blk_m m c t p l, ← blk_u m c t p l]
  unfold outsAt0 at e ⊢
  dsimp only at e ⊢
  frame_out at e
  frame_out
  rw [pay1, readback, pay46, pay47, e]
  unfold delta
  refine congrArg _ (congrArg₂ (fun a b : EReal => a + b) (congrArg₂ (fun a b : EReal => Ideal.div (Ideal.div (first _ a) _) (Ideal.sqrt (Ideal.div (second _ b) _) + _)) ?_ ?_) (congrArg _ ?_))
  · exact congrFun (Memref.IsWhole.read_unread (Memref.isWhole_whole cc0_stg1_0) _) _
  · exact congrFun (Memref.IsWhole.read_unread (Memref.isWhole_whole cc0_stg2_0) _) _
  · exact congrFun (Memref.IsWhole.read_unread (Memref.isWhole_whole cc0_stg0_0) _) _

theorem final4 : (dats m 0 c).arrAt 4 cfg0.N = outG (S m c) := by
  refine (dats m 0 c).arrAt_eq_of_covers 4 _ (by decide +kernel) fun t hf y => ?_
  obtain ⟨p, l, rfl⟩ : ∃ (p : Fin 24) (l : Fin 2048), y = ix2 p l := ⟨y 0, y 1, eq_ix2 y⟩
  have e : (((cfg0.win 4).blk t).view.emb (ix2 p l : S24x2048.Idx) : S24x2048.Idx) = ix2 p l := by
    blk_ext [idx t]
  rw [e, after0_4]
  have h := left4 m c t p l
  generalize (outsAt0 m c t).1 = a at h ⊢
  exact h

theorem final5 : (dats m 0 c).arrAt 5 cfg0.N = outD (S m c) (W m c) (M m c) (U m c) := by
  refine (dats m 0 c).arrAt_eq_of_covers 5 _ (by decide +kernel) fun t hf y => ?_
  obtain ⟨p, l, rfl⟩ : ∃ (p : Fin 24) (l : Fin 2048), y = ix2 p l := ⟨y 0, y 1, eq_ix2 y⟩
  have e : (((cfg0.win 5).blk t).view.emb (ix2 p l : S24x2048.Idx) : S24x2048.Idx) = ix2 p l := by
    blk_ext [idx t]
  rw [e, after0_5]
  have h := left5 m c t p l
  generalize (outsAt0 m c t).2.1 = a at h ⊢
  exact h

theorem final6 : (dats m 0 c).arrAt 6 cfg0.N = outM (S m c) (M m c) := by
  refine (dats m 0 c).arrAt_eq_of_covers 6 _ (by decide +kernel) fun t hf y => ?_
  obtain ⟨p, l, rfl⟩ : ∃ (p : Fin 24) (l : Fin 2048), y = ix2 p l := ⟨y 0, y 1, eq_ix2 y⟩
  have e : (((cfg0.win 6).blk t).view.emb (ix2 p l : S24x2048.Idx) : S24x2048.Idx) = ix2 p l := by
    blk_ext [idx t]
  rw [e, after0_6]
  have h := left6 m c t p l
  generalize (outsAt0 m c t).2.2.1 = a at h ⊢
  exact h

theorem final7 : (dats m 0 c).arrAt 7 cfg0.N = outU (S m c) (U m c) := by
  refine (dats m 0 c).arrAt_eq_of_covers 7 _ (by decide +kernel) fun t hf y => ?_
  obtain ⟨p, l, rfl⟩ : ∃ (p : Fin 24) (l : Fin 2048), y = ix2 p l := ⟨y 0, y 1, eq_ix2 y⟩
  have e : (((cfg0.win 7).blk t).view.emb (ix2 p l : S24x2048.Idx) : S24x2048.Idx) = ix2 p l := by
    blk_ext [idx t]
  rw [e, after0_7]
  have h := left7 m c t p l
  generalize (outsAt0 m c t).2.2.2 = a at h ⊢
  exact h

end Cert.SmallIdeal.RefValue

end
-- ==== Proof.SmallClaim.lean ====
/- The claim about the optimiser's step on the small parameters: kernel and reference end with the same four arrays. -/
module

public import proofs.«01_k».proof.Proof.SmallKernel

@[expose] public section

set_option maxRecDepth 131072

noncomputable section

namespace Cert.SmallClaim

open Idealize.ShloMosaic Idealize.ShloMosaic.TcCoe Idealize.SL.Sem
open Cert.SmallIdeal Cert.SmallIdeal.Gen Cert.SmallIdeal.RefValue
open Cert.SmallRefIdeal.Read

variable (s : Gathered) (w b v : Params) (p : Fin 24) (l : Fin 2048)

/-- The devices' rows added. -/
theorem total : val_main_v0 (F := Ideal) s (ix2 p l) = ∑ d : Fin 8, s (ix3 d p l) := by
  pointwise [val_main_v0, val_main_cst]

theorem piece1 (k : Fin 5) : val_main_v1 (F := Ideal) s (ix2 k l) = ∑ d : Fin 8, s (ix3 d (⟨k.val, by omega⟩ : Fin 24) l) := by
  have h := fun p => total s p l
  unfold val_main_v1
  generalize val_main_v0 (F := Ideal) s = a at h ⊢
  pointwise []
  exact h _
theorem piece2 (k : Fin 1) : val_main_v2 (F := Ideal) s (ix2 k l) = ∑ d : Fin 8, s (ix3 d (⟨6 + k.val, by omega⟩ : Fin 24) l) := by
  have h := fun p => total s p l
  unfold val_main_v2
  generalize val_main_v0 (F := Ideal) s = a at h ⊢
  pointwise []
  exact h _
theorem piece3 (k : Fin 12) : val_main_v3 (F := Ideal) s (ix2 k l) = ∑ d : Fin 8, s (ix3 d (⟨8 + k.val, by omega⟩ : Fin 24) l) := by
  have h := fun p => total s p l
  unfold val_main_v3
  generalize val_main_v0 (F := Ideal) s = a at h ⊢
  pointwise []
  exact h _
theorem piece4 (k : Fin 1) : val_main_v4 (F := Ideal) s (ix2 k l) = ∑ d : Fin 8, s (ix3 d (⟨7 + k.val, by omega⟩ : Fin 24) l) := by
  have h := fun p => total s p l
  unfold val_main_v4
  generalize val_main_v0 (F := Ideal) s = a at h ⊢
  pointwise []
  exact h _

/-- The gradient: the pieces in the parameters' order. -/
theorem gradient : val_main_v5 (F := Ideal) s (ix2 p l) = grad s p l := by
  have p1 := piece1 s l
  have p2 := piece2 s l
  have p3 := piece3 s l
  have p4 := piece4 s l
  unfold val_main_v5
  generalize val_main_v1 (F := Ideal) s = a1 at p1 ⊢
  generalize val_main_v2 (F := Ideal) s = a2 at p2 ⊢
  generalize val_main_v3 (F := Ideal) s = a3 at p3 ⊢
  generalize val_main_v4 (F := Ideal) s = a4 at p4 ⊢
  pointwise []
  simp only [p1, p2, p3, p4]
  have key : ∀ q q' : Fin 24, q.val = q'.val → (∑ d : Fin 8, s (ix3 d q l)) = ∑ d : Fin 8, s (ix3 d q' l) := by
    intro q q' e
    rw [Fin.ext e]
  unfold grad
  split_ifs <;> exact key _ _ (by unfold src; dsimp only; split_ifs <;> omega)

theorem refG : val_main_v5 (F := Ideal) s = outG s := by
  funext i
  obtain ⟨p, l, rfl⟩ : ∃ (p : Fin 24) (l : Fin 2048), i = ix2 p l := ⟨i 0, i 1, eq_ix2 i⟩
  exact gradient s p l

theorem m_at : val_main_v10 (F := Ideal) b s (ix2 p l) = first (grad s p l) (b (ix2 p l)) := by
  have e := gradient s p l
  unfold first val_main_v10 val_main_v9
  generalize val_main_v5 (F := Ideal) s = g at e ⊢
  pointwise [val_main_v7, val_main_v6, val_main_v8, val_main_cst_0, val_main_cst_1]
  rw [e]
theorem v_at : val_main_v16 (F := Ideal) v s (ix2 p l) = second (grad s p l) (v (ix2 p l)) := by
  have e := gradient s p l
  unfold second val_main_v16 val_main_v15 val_main_v13
  generalize val_main_v5 (F := Ideal) s = g at e ⊢
  pointwise [val_main_v12, val_main_v11, val_main_v14, val_main_cst_2, val_main_cst_3]
  rw [e]
theorem d_at : val_main_v29 (F := Ideal) w b v s (ix2 p l) = delta (grad s p l) (w (ix2 p l)) (b (ix2 p l)) (v (ix2 p l)) := by
  have e1 := m_at s b p l
  have e2 := v_at s v p l
  unfold delta val_main_v29 val_main_v27 val_main_v24 val_main_v23 val_main_v21 val_main_v20 val_main_v18
  generalize val_main_v10 (F := Ideal) b s = x at e1 ⊢
  generalize val_main_v16 (F := Ideal) v s = y at e2 ⊢
  pointwise [val_main_v28, val_main_v26, val_main_v25, val_main_v22, val_main_v19, val_main_v17, val_main_cst_4, val_main_cst_5, val_main_cst_6, val_main_cst_7, val_main_cst_8]
  rw [e1, e2]

theorem refM : val_main_v10 (F := Ideal) b s = outM s b := by
  funext i
  obtain ⟨p, l, rfl⟩ : ∃ (p : Fin 24) (l : Fin 2048), i = ix2 p l := ⟨i 0, i 1, eq_ix2 i⟩
  exact m_at s b p l
theorem refU : val_main_v16 (F := Ideal) v s = outU s v := by
  funext i
  obtain ⟨p, l, rfl⟩ : ∃ (p : Fin 24) (l : Fin 2048), i = ix2 p l := ⟨i 0, i 1, eq_ix2 i⟩
  exact v_at s v p l
theorem refD : val_main_v29 (F := Ideal) w b v s = outD s w b v := by
  funext i
  obtain ⟨p, l, rfl⟩ : ∃ (p : Fin 24) (l : Fin 2048), i = ix2 p l := ⟨i 0, i 1, eq_ix2 i⟩
  exact d_at s w b v p l

theorem frame_r : Cert.quiescent_SmallRefIdeal := fun m ρ _ =>
  (θ_run Cert.SmallRefIdeal.defs _ _).mono (fun r h => ⟨fun c => (h c).2.2.2.2, sem_eq_zero_of_no_sems (by decide) r.2⟩)
    (Cert.SmallRefIdeal.Value.run (F := Ideal) m ρ)

theorem algebraic : Cert.algebraic_SmallIdeal_SmallRefIdeal := by
  intro m r m' r' _ h
  refine ⟨fun c => outG (S m c), fun c => outD (S m c) (W m c) (M m c) (U m c), fun c => outM (S m c) (M m c), fun c => outU (S m c) (U m c),
    (θ_run _ _ _).mono (fun s hs c => ?_) (Cert.SmallIdeal.Value.run_blocks m r),
    (θ_run _ _ _).mono (fun s hs c => ?_) (Cert.SmallRefIdeal.Value.run m' r')⟩
  · obtain ⟨h0, h1, h2, h3, hk⟩ := hs c
    exact ⟨h0.trans (final4 m c), h1.trans (final5 m c), h2.trans (final6 m c), h3.trans (final7 m c), hk⟩
  · obtain ⟨h0, h1, h2, h3, hk⟩ := hs c
    obtain ⟨a0, a1, a2, a3⟩ := h c
    refine ⟨h0.trans ?_, h1.trans ?_, h2.trans ?_, h3.trans ?_, hk⟩
    · rw [val_main_v5_eq, a3, refG]
    · rw [val_main_v29_eq m' c, a0, a1, a2, a3, refD]
    · rw [val_main_v10_eq, a1, a3, refM]
    · rw [val_main_v16_eq m' c, a2, a3, refU]

end Cert.SmallClaim

end
-- ==== Proof.lean ====
module

public import proofs.«01_k».proof.Defs
public import proofs.«01_k».proof.Proof.Gen.ConvIdeal.Value
public import proofs.«01_k».proof.Proof.Gen.ConvRefIdeal.Run
public import proofs.«01_k».proof.Proof.Gen.ConvRefIdeal.Read
public import proofs.«01_k».proof.Proof.Gen.FgateRefIdeal.Run
public import proofs.«01_k».proof.Proof.Gen.FgateRefIdeal.Read
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvRefIdeal
public import proofs.«01_k».proof.Proof.Gen.Fgate
public import proofs.«01_k».proof.Proof.Gen.Fgate.Skeleton
public import proofs.«01_k».proof.Proof.Gen.Fgate.Launch
public import proofs.«01_k».proof.Proof.Gen.Fgate.Points
public import proofs.«01_k».proof.Proof.Gen.Fgate.Regions
public import proofs.«01_k».proof.Proof.Gen.FgateIdeal
public import proofs.«01_k».proof.Proof.Gen.FgateIdeal.Skeleton
public import proofs.«01_k».proof.Proof.Gen.FgateIdeal.Launch
public import proofs.«01_k».proof.Proof.Gen.FgateIdeal.Points
public import proofs.«01_k».proof.Proof.Gen.FgateIdeal.Regions
public import proofs.«01_k».proof.Proof.Gen.FgateRefIdeal
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Regions
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Regions
public import proofs.«01_k».proof.Proof.Gen.AttnRefIdeal
public import proofs.«01_k».proof.Proof.Gen.AttnRefIdeal.Run
public import proofs.«01_k».proof.Proof.Gen.AttnRefIdeal.Read
public import proofs.«01_k».proof.Proof.Gen.Relu2
public import proofs.«01_k».proof.Proof.Gen.Relu2.Skeleton
public import proofs.«01_k».proof.Proof.Gen.Relu2.Launch
public import proofs.«01_k».proof.Proof.Gen.Relu2.Points
public import proofs.«01_k».proof.Proof.Gen.Relu2.Frame
public import proofs.«01_k».proof.Proof.Gen.Relu2Ideal
public import proofs.«01_k».proof.Proof.Gen.Relu2Ideal.Skeleton
public import proofs.«01_k».proof.Proof.Gen.Relu2Ideal.Launch
public import proofs.«01_k».proof.Proof.Gen.Relu2Ideal.Points
public import proofs.«01_k».proof.Proof.Gen.Relu2Ideal.Frame
public import proofs.«01_k».proof.Proof.Gen.Relu2Ideal.Value
public import proofs.«01_k».proof.Proof.Gen.Relu2RefIdeal
public import proofs.«01_k».proof.Proof.Gen.Relu2RefIdeal.Run
public import proofs.«01_k».proof.Proof.Gen.Relu2RefIdeal.Read
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Run
public import proofs.«01_k».proof.Proof.Gen.NormRefIdeal.Read
public import proofs.«01_k».proof.Proof.Gen.Norm0
public import proofs.«01_k».proof.Proof.Gen.Norm0.Skeleton
public import proofs.«01_k».proof.Proof.Gen.Norm0.Launch
public import proofs.«01_k».proof.Proof.Gen.Norm0.Points
public import proofs.«01_k».proof.Proof.Gen.Norm0.Frame
public import proofs.«01_k».proof.Proof.Gen.Norm0Ideal
public import proofs.«01_k».proof.Proof.Gen.Norm0Ideal.Skeleton
public import proofs.«01_k».proof.Proof.Gen.Norm0Ideal.Launch
public import proofs.«01_k».proof.Proof.Gen.Norm0Ideal.Points
public import proofs.«01_k».proof.Proof.Gen.Norm0Ideal.Frame
public import proofs.«01_k».proof.Proof.Gen.Norm0Ideal.Value
public import proofs.«01_k».proof.Proof.Gen.Norm0RefIdeal
public import proofs.«01_k».proof.Proof.Gen.Norm0RefIdeal.Run
public import proofs.«01_k».proof.Proof.Gen.Norm0RefIdeal.Read
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossIdeal.Value
public import proofs.«01_k».proof.Proof.Gen.LossRefIdeal
public import proofs.«01_k».proof.Proof.Gen.LossRefIdeal.Run
public import proofs.«01_k».proof.Proof.Gen.LossRefIdeal.Read
public import proofs.«01_k».proof.Proof.Gen.ConvFwd
public import proofs.«01_k».proof.Proof.Gen.ConvFwd.Skeleton
public import proofs.«01_k».proof.Proof.Gen.ConvFwd.Launch
public import proofs.«01_k».proof.Proof.Gen.ConvFwd.Points
public import proofs.«01_k».proof.Proof.Gen.ConvFwd.Frame
public import proofs.«01_k».proof.Proof.Gen.ConvFwdIdeal
public import proofs.«01_k».proof.Proof.Gen.ConvFwdIdeal.Skeleton
public import proofs.«01_k».proof.Proof.Gen.ConvFwdIdeal.Launch
public import proofs.«01_k».proof.Proof.Gen.ConvFwdIdeal.Points
public import proofs.«01_k».proof.Proof.Gen.ConvFwdIdeal.Frame
public import proofs.«01_k».proof.Proof.Gen.ConvFwdIdeal.Value
public import proofs.«01_k».proof.Proof.Gen.ConvFwdRefIdeal
public import proofs.«01_k».proof.Proof.Gen.ConvFwdRefIdeal.Run
public import proofs.«01_k».proof.Proof.Gen.ConvFwdRefIdeal.Read
public import proofs.«01_k».proof.Proof.Gen.NormFwd
public import proofs.«01_k».proof.Proof.Gen.NormFwd.Skeleton
public import proofs.«01_k».proof.Proof.Gen.NormFwd.Launch
public import proofs.«01_k».proof.Proof.Gen.NormFwd.Points
public import proofs.«01_k».proof.Proof.Gen.NormFwd.Frame
public import proofs.«01_k».proof.Proof.Gen.NormFwdIdeal
public import proofs.«01_k».proof.Proof.Gen.NormFwdIdeal.Skeleton
public import proofs.«01_k».proof.Proof.Gen.NormFwdIdeal.Launch
public import proofs.«01_k».proof.Proof.Gen.NormFwdIdeal.Points
public import proofs.«01_k».proof.Proof.Gen.NormFwdIdeal.Frame
public import proofs.«01_k».proof.Proof.Gen.NormFwdIdeal.Value
public import proofs.«01_k».proof.Proof.Gen.NormFwdRefIdeal
public import proofs.«01_k».proof.Proof.Gen.NormFwdRefIdeal.Run
public import proofs.«01_k».proof.Proof.Gen.NormFwdRefIdeal.Read
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Value
public import proofs.«01_k».proof.Proof.Gen.OutRefIdeal
public import proofs.«01_k».proof.Proof.Gen.OutRefIdeal.Run
public import proofs.«01_k».proof.Proof.Gen.OutRefIdeal.Read
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpIdeal.Value
public import proofs.«01_k».proof.Proof.Gen.UpRefIdeal
public import proofs.«01_k».proof.Proof.Gen.UpRefIdeal.Run
public import proofs.«01_k».proof.Proof.Gen.UpRefIdeal.Read
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.DownRefIdeal.Read
public import proofs.«01_k».proof.Proof.Gen.Ada
public import proofs.«01_k».proof.Proof.Gen.Ada.Skeleton
public import proofs.«01_k».proof.Proof.Gen.Ada.Launch
public import proofs.«01_k».proof.Proof.Gen.Ada.Points
public import proofs.«01_k».proof.Proof.Gen.Ada.Frame
public import proofs.«01_k».proof.Proof.Gen.AdaIdeal
public import proofs.«01_k».proof.Proof.Gen.AdaIdeal.Skeleton
public import proofs.«01_k».proof.Proof.Gen.AdaIdeal.Launch
public import proofs.«01_k».proof.Proof.Gen.AdaIdeal.Points
public import proofs.«01_k».proof.Proof.Gen.AdaIdeal.Frame
public import proofs.«01_k».proof.Proof.Gen.AdaIdeal.Value
public import proofs.«01_k».proof.Proof.Gen.AdaRefIdeal
public import proofs.«01_k».proof.Proof.Gen.AdaRefIdeal.Run
public import proofs.«01_k».proof.Proof.Gen.AdaRefIdeal.Read
public import proofs.«01_k».proof.Proof.Gen.GateFwd
public import proofs.«01_k».proof.Proof.Gen.GateFwd.Skeleton
public import proofs.«01_k».proof.Proof.Gen.GateFwd.Launch
public import proofs.«01_k».proof.Proof.Gen.GateFwd.Points
public import proofs.«01_k».proof.Proof.Gen.GateFwd.Frame
public import proofs.«01_k».proof.Proof.Gen.GateFwdIdeal
public import proofs.«01_k».proof.Proof.Gen.GateFwdIdeal.Skeleton
public import proofs.«01_k».proof.Proof.Gen.GateFwdIdeal.Launch
public import proofs.«01_k».proof.Proof.Gen.GateFwdIdeal.Points
public import proofs.«01_k».proof.Proof.Gen.GateFwdIdeal.Frame
public import proofs.«01_k».proof.Proof.Gen.GateFwdIdeal.Value
public import proofs.«01_k».proof.Proof.Gen.GateFwdRefIdeal
public import proofs.«01_k».proof.Proof.Gen.GateFwdRefIdeal.Run
public import proofs.«01_k».proof.Proof.Gen.GateFwdRefIdeal.Read
public import proofs.«01_k».proof.Proof.Gen.ConvIn
public import proofs.«01_k».proof.Proof.Gen.ConvIn.Skeleton
public import proofs.«01_k».proof.Proof.Gen.ConvIn.Launch
public import proofs.«01_k».proof.Proof.Gen.ConvIn.Points
public import proofs.«01_k».proof.Proof.Gen.ConvIn.Frame
public import proofs.«01_k».proof.Proof.Gen.ConvInIdeal
public import proofs.«01_k».proof.Proof.Gen.ConvInIdeal.Skeleton
public import proofs.«01_k».proof.Proof.Gen.ConvInIdeal.Launch
public import proofs.«01_k».proof.Proof.Gen.ConvInIdeal.Points
public import proofs.«01_k».proof.Proof.Gen.ConvInIdeal.Frame
public import proofs.«01_k».proof.Proof.Gen.ConvInIdeal.Value
public import proofs.«01_k».proof.Proof.Gen.ConvInRefIdeal
public import proofs.«01_k».proof.Proof.Gen.ConvInRefIdeal.Run
public import proofs.«01_k».proof.Proof.Gen.ConvInRefIdeal.Read
public import proofs.«01_k».proof.Proof.Gen.UpDx
public import proofs.«01_k».proof.Proof.Gen.UpDx.Skeleton
public import proofs.«01_k».proof.Proof.Gen.UpDx.Launch
public import proofs.«01_k».proof.Proof.Gen.UpDx.Points
public import proofs.«01_k».proof.Proof.Gen.UpDx.Frame
public import proofs.«01_k».proof.Proof.Gen.UpDxIdeal
public import proofs.«01_k».proof.Proof.Gen.UpDxIdeal.Skeleton
public import proofs.«01_k».proof.Proof.Gen.UpDxIdeal.Launch
public import proofs.«01_k».proof.Proof.Gen.UpDxIdeal.Points
public import proofs.«01_k».proof.Proof.Gen.UpDxIdeal.Frame
public import proofs.«01_k».proof.Proof.Gen.UpDxIdeal.Value
public import proofs.«01_k».proof.Proof.Gen.UpDxRefIdeal
public import proofs.«01_k».proof.Proof.Gen.UpDxRefIdeal.Run
public import proofs.«01_k».proof.Proof.Gen.UpDxRefIdeal.Read
public import proofs.«01_k».proof.Proof.Gen.DownDw
public import proofs.«01_k».proof.Proof.Gen.DownDw.Skeleton
public import proofs.«01_k».proof.Proof.Gen.DownDw.Launch
public import proofs.«01_k».proof.Proof.Gen.DownDw.Points
public import proofs.«01_k».proof.Proof.Gen.DownDw.Frame
public import proofs.«01_k».proof.Proof.Gen.DownDwIdeal
public import proofs.«01_k».proof.Proof.Gen.DownDwIdeal.Skeleton
public import proofs.«01_k».proof.Proof.Gen.DownDwIdeal.Launch
public import proofs.«01_k».proof.Proof.Gen.DownDwIdeal.Points
public import proofs.«01_k».proof.Proof.Gen.DownDwIdeal.Frame
public import proofs.«01_k».proof.Proof.Gen.DownDwIdeal.Value
public import proofs.«01_k».proof.Proof.Gen.DownDwRefIdeal
public import proofs.«01_k».proof.Proof.Gen.DownDwRefIdeal.Run
public import proofs.«01_k».proof.Proof.Gen.DownDwRefIdeal.Read
public import proofs.«01_k».proof.Proof.Gen.FoxDx
public import proofs.«01_k».proof.Proof.Gen.FoxDx.Skeleton
public import proofs.«01_k».proof.Proof.Gen.FoxDx.Launch
public import proofs.«01_k».proof.Proof.Gen.FoxDx.Points
public import proofs.«01_k».proof.Proof.Gen.FoxDx.Frame
public import proofs.«01_k».proof.Proof.Gen.FoxDxIdeal
public import proofs.«01_k».proof.Proof.Gen.FoxDxIdeal.Skeleton
public import proofs.«01_k».proof.Proof.Gen.FoxDxIdeal.Launch
public import proofs.«01_k».proof.Proof.Gen.FoxDxIdeal.Points
public import proofs.«01_k».proof.Proof.Gen.FoxDxIdeal.Frame
public import proofs.«01_k».proof.Proof.Gen.FoxDxIdeal.Value
public import proofs.«01_k».proof.Proof.Gen.FoxDxRefIdeal
public import proofs.«01_k».proof.Proof.Gen.FoxDxRefIdeal.Run
public import proofs.«01_k».proof.Proof.Gen.FoxDxRefIdeal.Read
public import proofs.«01_k».proof.Proof.Gen.LossSum
public import proofs.«01_k».proof.Proof.Gen.LossSum.Skeleton
public import proofs.«01_k».proof.Proof.Gen.LossSum.Launch
public import proofs.«01_k».proof.Proof.Gen.LossSum.Points
public import proofs.«01_k».proof.Proof.Gen.LossSum.Frame
public import proofs.«01_k».proof.Proof.Gen.LossSumIdeal
public import proofs.«01_k».proof.Proof.Gen.LossSumIdeal.Skeleton
public import proofs.«01_k».proof.Proof.Gen.LossSumIdeal.Launch
public import proofs.«01_k».proof.Proof.Gen.LossSumIdeal.Points
public import proofs.«01_k».proof.Proof.Gen.LossSumIdeal.Frame
public import proofs.«01_k».proof.Proof.Gen.LossSumIdeal.Value
public import proofs.«01_k».proof.Proof.Gen.LossSumRefIdeal
public import proofs.«01_k».proof.Proof.Gen.LossSumRefIdeal.Run
public import proofs.«01_k».proof.Proof.Gen.LossSumRefIdeal.Read
public import proofs.«01_k».proof.Proof.Gen.PutRows
public import proofs.«01_k».proof.Proof.Gen.PutRows.Skeleton
public import proofs.«01_k».proof.Proof.Gen.PutRows.Launch
public import proofs.«01_k».proof.Proof.Gen.PutRows.Points
public import proofs.«01_k».proof.Proof.Gen.PutRows.Frame
public import proofs.«01_k».proof.Proof.Gen.PutRowsIdeal
public import proofs.«01_k».proof.Proof.Gen.PutRowsIdeal.Skeleton
public import proofs.«01_k».proof.Proof.Gen.PutRowsIdeal.Launch
public import proofs.«01_k».proof.Proof.Gen.PutRowsIdeal.Points
public import proofs.«01_k».proof.Proof.Gen.PutRowsIdeal.Frame
public import proofs.«01_k».proof.Proof.Gen.PutRowsIdeal.Value
public import proofs.«01_k».proof.Proof.Gen.PutRowsRefIdeal
public import proofs.«01_k».proof.Proof.Gen.PutRowsRefIdeal.Run
public import proofs.«01_k».proof.Proof.Gen.PutRowsRefIdeal.Read
public import proofs.«01_k».proof.Proof.Gen.Small
public import proofs.«01_k».proof.Proof.Gen.Small.Skeleton
public import proofs.«01_k».proof.Proof.Gen.Small.Launch
public import proofs.«01_k».proof.Proof.Gen.Small.Points
public import proofs.«01_k».proof.Proof.Gen.Small.Frame
public import proofs.«01_k».proof.Proof.Gen.SmallIdeal
public import proofs.«01_k».proof.Proof.Gen.SmallIdeal.Skeleton
public import proofs.«01_k».proof.Proof.Gen.SmallIdeal.Launch
public import proofs.«01_k».proof.Proof.Gen.SmallIdeal.Points
public import proofs.«01_k».proof.Proof.Gen.SmallIdeal.Frame
public import proofs.«01_k».proof.Proof.Gen.SmallIdeal.Value
public import proofs.«01_k».proof.Proof.Gen.SmallRefIdeal
public import proofs.«01_k».proof.Proof.Gen.SmallRefIdeal.Run
public import proofs.«01_k».proof.Proof.Gen.SmallRefIdeal.Read
public import proofs.«01_k».proof.Proof.ConvClaim
public import proofs.«01_k».proof.Proof.FgateClaim
public import proofs.«01_k».proof.Proof.AttnClaim
public import proofs.«01_k».proof.Proof.Relu2Claim
public import proofs.«01_k».proof.Proof.NormClaim
public import proofs.«01_k».proof.Proof.Norm0Claim
public import proofs.«01_k».proof.Proof.LossClaim
public import proofs.«01_k».proof.Proof.ConvFwdClaim
public import proofs.«01_k».proof.Proof.NormFwdClaim
public import proofs.«01_k».proof.Proof.OutClaim
public import proofs.«01_k».proof.Proof.UpClaim
public import proofs.«01_k».proof.Proof.DownClaim
public import proofs.«01_k».proof.Proof.AdaClaim
public import proofs.«01_k».proof.Proof.GateFwdClaim
public import proofs.«01_k».proof.Proof.ConvInClaim
public import proofs.«01_k».proof.Proof.UpDxClaim
public import proofs.«01_k».proof.Proof.DownDwClaim
public import proofs.«01_k».proof.Proof.FoxDxClaim
public import proofs.«01_k».proof.Proof.LossSumClaim
public import proofs.«01_k».proof.Proof.PutRowsClaim
public import proofs.«01_k».proof.Proof.SmallClaim
public import Idealize.ShloMosaic.Adequacy
public import Idealize.ShloMosaic.Init

@[expose] public section

noncomputable section

namespace Cert.Proof

open Idealize.ShloMosaic Idealize.SL.Sem Cert.Conv

theorem claim : Cert.Claim := ⟨Cert.Conv.Gen.facts, Cert.ConvIdeal.Gen.facts, Cert.ConvRefIdeal.Gen.facts,
  Cert.Fgate.Gen.facts, Cert.FgateIdeal.Gen.facts, Cert.FgateRefIdeal.Gen.facts,
  Cert.Attn.Gen.facts, Cert.AttnIdeal.Gen.facts, Cert.AttnRefIdeal.Gen.facts,
  Cert.Relu2.Gen.facts, Cert.Relu2Ideal.Gen.facts, Cert.Relu2RefIdeal.Gen.facts,
  Cert.Norm.Gen.facts, Cert.NormIdeal.Gen.facts, Cert.NormRefIdeal.Gen.facts,
  Cert.Norm0.Gen.facts, Cert.Norm0Ideal.Gen.facts, Cert.Norm0RefIdeal.Gen.facts,
  Cert.Loss.Gen.facts, Cert.LossIdeal.Gen.facts, Cert.LossRefIdeal.Gen.facts,
  Cert.ConvFwd.Gen.facts, Cert.ConvFwdIdeal.Gen.facts, Cert.ConvFwdRefIdeal.Gen.facts,
  Cert.NormFwd.Gen.facts, Cert.NormFwdIdeal.Gen.facts, Cert.NormFwdRefIdeal.Gen.facts,
  Cert.Out.Gen.facts, Cert.OutIdeal.Gen.facts, Cert.OutRefIdeal.Gen.facts,
  Cert.Up.Gen.facts, Cert.UpIdeal.Gen.facts, Cert.UpRefIdeal.Gen.facts,
  Cert.Down.Gen.facts, Cert.DownIdeal.Gen.facts, Cert.DownRefIdeal.Gen.facts,
  Cert.Ada.Gen.facts, Cert.AdaIdeal.Gen.facts, Cert.AdaRefIdeal.Gen.facts,
  Cert.GateFwd.Gen.facts, Cert.GateFwdIdeal.Gen.facts, Cert.GateFwdRefIdeal.Gen.facts,
  Cert.ConvIn.Gen.facts, Cert.ConvInIdeal.Gen.facts, Cert.ConvInRefIdeal.Gen.facts,
  Cert.UpDx.Gen.facts, Cert.UpDxIdeal.Gen.facts, Cert.UpDxRefIdeal.Gen.facts,
  Cert.DownDw.Gen.facts, Cert.DownDwIdeal.Gen.facts, Cert.DownDwRefIdeal.Gen.facts,
  Cert.FoxDx.Gen.facts, Cert.FoxDxIdeal.Gen.facts, Cert.FoxDxRefIdeal.Gen.facts,
  Cert.LossSum.Gen.facts, Cert.LossSumIdeal.Gen.facts, Cert.LossSumRefIdeal.Gen.facts,
  Cert.PutRows.Gen.facts, Cert.PutRowsIdeal.Gen.facts, Cert.PutRowsRefIdeal.Gen.facts,
  Cert.Small.Gen.facts, Cert.SmallIdeal.Gen.facts, Cert.SmallRefIdeal.Gen.facts, inferInstance,
  fun m ρ _ => Cert.Conv.Gen.frame m ρ, fun m ρ _ => Cert.ConvIdeal.Gen.frame m ρ, Cert.ConvClaim.frame_r,
  Cert.FgateClaim.frame, Cert.FgateClaim.frame_i, Cert.FgateClaim.frame_r,
  Cert.AttnClaim.frame, Cert.AttnClaim.frame_i, Cert.AttnClaim.frame_i_pre, Cert.AttnClaim.frame_r, Cert.AttnClaim.frame_r_pre,
  fun m ρ _ => Cert.Relu2.Gen.frame m ρ, fun m ρ _ => Cert.Relu2Ideal.Gen.frame m ρ, Cert.Relu2Claim.frame_r,
  fun m ρ _ => Cert.Norm.Gen.frame m ρ, fun m ρ _ => Cert.NormIdeal.Gen.frame m ρ, Cert.NormClaim.frame_r,
  fun m ρ _ => Cert.Norm0.Gen.frame m ρ, fun m ρ _ => Cert.Norm0Ideal.Gen.frame m ρ, Cert.Norm0Claim.frame_r,
  fun m ρ _ => Cert.Loss.Gen.frame m ρ, fun m ρ _ => Cert.LossIdeal.Gen.frame m ρ, Cert.LossClaim.frame_r,
  fun m ρ _ => Cert.ConvFwd.Gen.frame m ρ, fun m ρ _ => Cert.ConvFwdIdeal.Gen.frame m ρ, Cert.ConvFwdClaim.frame_r,
  fun m ρ _ => Cert.NormFwd.Gen.frame m ρ, fun m ρ _ => Cert.NormFwdIdeal.Gen.frame m ρ, Cert.NormFwdClaim.frame_r,
  fun m ρ _ => Cert.Out.Gen.frame m ρ, fun m ρ _ => Cert.OutIdeal.Gen.frame m ρ, Cert.OutClaim.frame_r,
  fun m ρ _ => Cert.Up.Gen.frame m ρ, fun m ρ _ => Cert.UpIdeal.Gen.frame m ρ, Cert.UpClaim.frame_r,
  fun m ρ _ => Cert.Down.Gen.frame m ρ, fun m ρ _ => Cert.DownIdeal.Gen.frame m ρ, Cert.DownClaim.frame_r,
  fun m ρ _ => Cert.Ada.Gen.frame m ρ, fun m ρ _ => Cert.AdaIdeal.Gen.frame m ρ, Cert.AdaClaim.frame_r,
  fun m ρ _ => Cert.GateFwd.Gen.frame m ρ, fun m ρ _ => Cert.GateFwdIdeal.Gen.frame m ρ, Cert.GateFwdClaim.frame_r,
  fun m ρ _ => Cert.ConvIn.Gen.frame m ρ, fun m ρ _ => Cert.ConvInIdeal.Gen.frame m ρ, Cert.ConvInClaim.frame_r,
  fun m ρ _ => Cert.UpDx.Gen.frame m ρ, fun m ρ _ => Cert.UpDxIdeal.Gen.frame m ρ, Cert.UpDxClaim.frame_r,
  fun m ρ _ => Cert.DownDw.Gen.frame m ρ, fun m ρ _ => Cert.DownDwIdeal.Gen.frame m ρ, Cert.DownDwClaim.frame_r,
  fun m ρ _ => Cert.FoxDx.Gen.frame m ρ, fun m ρ _ => Cert.FoxDxIdeal.Gen.frame m ρ, Cert.FoxDxClaim.frame_r,
  fun m ρ _ => Cert.LossSum.Gen.frame m ρ, fun m ρ _ => Cert.LossSumIdeal.Gen.frame m ρ, Cert.LossSumClaim.frame_r,
  fun m ρ _ => Cert.PutRows.Gen.frame m ρ, fun m ρ _ => Cert.PutRowsIdeal.Gen.frame m ρ, Cert.PutRowsClaim.frame_r,
  fun m ρ _ => Cert.Small.Gen.frame m ρ, fun m ρ _ => Cert.SmallIdeal.Gen.frame m ρ, Cert.SmallClaim.frame_r,
  trivial, Cert.ConvClaim.algebraic, trivial, Cert.FgateClaim.algebraic, Cert.AttnClaim.preserves, Cert.AttnClaim.algebraic,
  trivial, Cert.Relu2Claim.algebraic, trivial, Cert.NormClaim.algebraic, trivial, Cert.Norm0Claim.algebraic,
  trivial, Cert.LossClaim.algebraic,
  trivial, Cert.ConvFwdClaim.algebraic, trivial, Cert.NormFwdClaim.algebraic, trivial, Cert.OutClaim.algebraic, trivial, Cert.UpClaim.algebraic, trivial, Cert.DownClaim.algebraic, trivial, Cert.AdaClaim.algebraic,
  trivial, Cert.GateFwdClaim.algebraic,
  trivial, Cert.ConvInClaim.algebraic,
  trivial, Cert.UpDxClaim.algebraic,
  trivial, Cert.DownDwClaim.algebraic,
  trivial, Cert.FoxDxClaim.algebraic,
  trivial, Cert.LossSumClaim.algebraic,
  trivial, Cert.PutRowsClaim.algebraic,
  trivial, Cert.SmallClaim.algebraic⟩

end Cert.Proof

end
